-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_gate_input [hPre_finite_gate_input : Cert.Pre_finite_gate_input.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_gate_input.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_gate_input [hPre_finite_gate_input : Cert.Pre_finite_gate_input.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_gate_input.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite_gate_input [hKernel2Ideal : Cert.Kernel2Ideal.Facts] [hPre_finite_gate_input : Cert.Pre_finite_gate_input.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_gate_input m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite_gate_input [hReference2Ideal : Cert.Reference2Ideal.Facts] [hPre_finite_gate_input : Cert.Pre_finite_gate_input.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_gate_input m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7)
      ∧ r.2.mem ((c.tc : Thread Cert.Kernel8.nD Cert.Kernel8.τ).loc Cert.Kernel8.main_arg8) = m ((c.tc : Thread Cert.Kernel8.nD Cert.Kernel8.τ).loc Cert.Kernel8.main_arg8)
      ∧ r.2.mem ((c.tc : Thread Cert.Kernel8.nD Cert.Kernel8.τ).loc Cert.Kernel8.main_arg9) = m ((c.tc : Thread Cert.Kernel8.nD Cert.Kernel8.τ).loc Cert.Kernel8.main_arg9)
      ∧ r.2.mem ((c.tc : Thread Cert.Kernel8.nD Cert.Kernel8.τ).loc Cert.Kernel8.main_arg10) = m ((c.tc : Thread Cert.Kernel8.nD Cert.Kernel8.τ).loc Cert.Kernel8.main_arg10))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
      ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9)
      ∧ r.2.mem ((c.tc : Thread Cert.Kernel8Ideal.nD Cert.Kernel8Ideal.τ).loc Cert.Kernel8Ideal.main_arg10) = m ((c.tc : Thread Cert.Kernel8Ideal.nD Cert.Kernel8Ideal.τ).loc Cert.Kernel8Ideal.main_arg10))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8)
      ∧ r.2.mem ((c.tc : Thread Cert.Reference8Ideal.nD Cert.Reference8Ideal.τ).loc Cert.Reference8Ideal.main_arg9) = m ((c.tc : Thread Cert.Reference8Ideal.nD Cert.Reference8Ideal.τ).loc Cert.Reference8Ideal.main_arg9)
      ∧ r.2.mem ((c.tc : Thread Cert.Reference8Ideal.nD Cert.Reference8Ideal.τ).loc Cert.Reference8Ideal.main_arg10) = m ((c.tc : Thread Cert.Reference8Ideal.nD Cert.Reference8Ideal.τ).loc Cert.Reference8Ideal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_v5) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal_pre_finite_gate_input [hKernel2Ideal : Cert.Kernel2Ideal.Facts] [hReference2Ideal : Cert.Reference2Ideal.Facts] [hPre_finite_gate_input : Cert.Pre_finite_gate_input.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_gate_input m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v2_0)) (v1 : (c : Dev Cert.Kernel2Ideal.nD) → Buf (Elt Ideal) ((c.tc : Thread Cert.Kernel2Ideal.nD Cert.Kernel2Ideal.τ).loc Cert.Kernel2Ideal.main_v2_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2_0) = v0 c
          ∧ r.2.mem ((c.tc : Thread Cert.Kernel2Ideal.nD Cert.Kernel2Ideal.τ).loc Cert.Kernel2Ideal.main_v2_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v7) = v0 c
          ∧ r.2.mem ((c.tc : Thread Cert.Reference2Ideal.nD Cert.Reference2Ideal.τ).loc Cert.Reference2Ideal.main_v15) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v5_0)) (v1 : (c : Dev Cert.Kernel3Ideal.nD) → Buf (Elt Ideal) ((c.tc : Thread Cert.Kernel3Ideal.nD Cert.Kernel3Ideal.τ).loc Cert.Kernel3Ideal.main_v5_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5_0) = v0 c
          ∧ r.2.mem ((c.tc : Thread Cert.Kernel3Ideal.nD Cert.Kernel3Ideal.τ).loc Cert.Kernel3Ideal.main_v5_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v16) = v0 c
          ∧ r.2.mem ((c.tc : Thread Cert.Reference3Ideal.nD Cert.Reference3Ideal.τ).loc Cert.Reference3Ideal.main_v26) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)) →
    ∃ (v0 : (c : Dev Cert.Kernel4Ideal.nD) → Buf (Elt Ideal) ((c.tc : Thread Cert.Kernel4Ideal.nD Cert.Kernel4Ideal.τ).loc Cert.Kernel4Ideal.main_v2_0)) (v1 : (c : Dev Cert.Kernel4Ideal.nD) → Buf (Elt Ideal) ((c.tc : Thread Cert.Kernel4Ideal.nD Cert.Kernel4Ideal.τ).loc Cert.Kernel4Ideal.main_v2_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2_0) = v0 c
          ∧ r.2.mem ((c.tc : Thread Cert.Kernel4Ideal.nD Cert.Kernel4Ideal.τ).loc Cert.Kernel4Ideal.main_v2_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v22) = v0 c
          ∧ r.2.mem ((c.tc : Thread Cert.Reference4Ideal.nD Cert.Reference4Ideal.τ).loc Cert.Reference4Ideal.main_v45) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v12) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v12) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)
      ∧ m' ((c.tc : Thread Cert.Reference7Ideal.nD Cert.Reference7Ideal.τ).loc Cert.Reference7Ideal.main_arg9) = m ((c.tc : Thread Cert.Kernel7Ideal.nD Cert.Kernel7Ideal.τ).loc Cert.Kernel7Ideal.main_arg9)) →
    ∃ (v0 : (c : Dev Cert.Kernel7Ideal.nD) → Buf (Elt Ideal) ((c.tc : Thread Cert.Kernel7Ideal.nD Cert.Kernel7Ideal.τ).loc Cert.Kernel7Ideal.main_v15_0)) (v1 : (c : Dev Cert.Kernel7Ideal.nD) → Buf (Elt Ideal) ((c.tc : Thread Cert.Kernel7Ideal.nD Cert.Kernel7Ideal.τ).loc Cert.Kernel7Ideal.main_v15_1)) (v2 : (c : Dev Cert.Kernel7Ideal.nD) → Buf (Elt Ideal) ((c.tc : Thread Cert.Kernel7Ideal.nD Cert.Kernel7Ideal.τ).loc Cert.Kernel7Ideal.main_v15_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v15_0) = v0 c
          ∧ r.2.mem ((c.tc : Thread Cert.Kernel7Ideal.nD Cert.Kernel7Ideal.τ).loc Cert.Kernel7Ideal.main_v15_1) = v1 c
          ∧ r.2.mem ((c.tc : Thread Cert.Kernel7Ideal.nD Cert.Kernel7Ideal.τ).loc Cert.Kernel7Ideal.main_v15_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
          ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v105) = v0 c
          ∧ r.2.mem ((c.tc : Thread Cert.Reference7Ideal.nD Cert.Reference7Ideal.τ).loc Cert.Reference7Ideal.main_v106) = v1 c
          ∧ r.2.mem ((c.tc : Thread Cert.Reference7Ideal.nD Cert.Reference7Ideal.τ).loc Cert.Reference7Ideal.main_v109) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8)
          ∧ r.2.mem ((c.tc : Thread Cert.Reference7Ideal.nD Cert.Reference7Ideal.τ).loc Cert.Reference7Ideal.main_arg9) = m' ((c.tc : Thread Cert.Reference7Ideal.nD Cert.Reference7Ideal.τ).loc Cert.Reference7Ideal.main_arg9))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)
      ∧ m' ((c.tc : Thread Cert.Reference8Ideal.nD Cert.Reference8Ideal.τ).loc Cert.Reference8Ideal.main_arg8) = m ((c.tc : Thread Cert.Kernel8Ideal.nD Cert.Kernel8Ideal.τ).loc Cert.Kernel8Ideal.main_arg8)
      ∧ m' ((c.tc : Thread Cert.Reference8Ideal.nD Cert.Reference8Ideal.τ).loc Cert.Reference8Ideal.main_arg9) = m ((c.tc : Thread Cert.Kernel8Ideal.nD Cert.Kernel8Ideal.τ).loc Cert.Kernel8Ideal.main_arg9)
      ∧ m' ((c.tc : Thread Cert.Reference8Ideal.nD Cert.Reference8Ideal.τ).loc Cert.Reference8Ideal.main_arg10) = m ((c.tc : Thread Cert.Kernel8Ideal.nD Cert.Kernel8Ideal.τ).loc Cert.Kernel8Ideal.main_arg10)) →
    ∃ (v0 : (c : Dev Cert.Kernel8Ideal.nD) → Buf (Elt Ideal) ((c.tc : Thread Cert.Kernel8Ideal.nD Cert.Kernel8Ideal.τ).loc Cert.Kernel8Ideal.main_v14_0)) (v1 : (c : Dev Cert.Kernel8Ideal.nD) → Buf (Elt Ideal) ((c.tc : Thread Cert.Kernel8Ideal.nD Cert.Kernel8Ideal.τ).loc Cert.Kernel8Ideal.main_v14_1)) (v2 : (c : Dev Cert.Kernel8Ideal.nD) → Buf (Elt Ideal) ((c.tc : Thread Cert.Kernel8Ideal.nD Cert.Kernel8Ideal.τ).loc Cert.Kernel8Ideal.main_v14_2)) (v3 : (c : Dev Cert.Kernel8Ideal.nD) → Buf (Elt Ideal) ((c.tc : Thread Cert.Kernel8Ideal.nD Cert.Kernel8Ideal.τ).loc Cert.Kernel8Ideal.main_v14_3)) (v4 : (c : Dev Cert.Kernel8Ideal.nD) → Buf (Elt Ideal) ((c.tc : Thread Cert.Kernel8Ideal.nD Cert.Kernel8Ideal.τ).loc Cert.Kernel8Ideal.main_v14_4)) (v5 : (c : Dev Cert.Kernel8Ideal.nD) → Buf (Elt Ideal) ((c.tc : Thread Cert.Kernel8Ideal.nD Cert.Kernel8Ideal.τ).loc Cert.Kernel8Ideal.main_v14_5)) (v6 : (c : Dev Cert.Kernel8Ideal.nD) → Buf (Elt Ideal) ((c.tc : Thread Cert.Kernel8Ideal.nD Cert.Kernel8Ideal.τ).loc Cert.Kernel8Ideal.main_v14_6)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v14_0) = v0 c
          ∧ r.2.mem ((c.tc : Thread Cert.Kernel8Ideal.nD Cert.Kernel8Ideal.τ).loc Cert.Kernel8Ideal.main_v14_1) = v1 c
          ∧ r.2.mem ((c.tc : Thread Cert.Kernel8Ideal.nD Cert.Kernel8Ideal.τ).loc Cert.Kernel8Ideal.main_v14_2) = v2 c
          ∧ r.2.mem ((c.tc : Thread Cert.Kernel8Ideal.nD Cert.Kernel8Ideal.τ).loc Cert.Kernel8Ideal.main_v14_3) = v3 c
          ∧ r.2.mem ((c.tc : Thread Cert.Kernel8Ideal.nD Cert.Kernel8Ideal.τ).loc Cert.Kernel8Ideal.main_v14_4) = v4 c
          ∧ r.2.mem ((c.tc : Thread Cert.Kernel8Ideal.nD Cert.Kernel8Ideal.τ).loc Cert.Kernel8Ideal.main_v14_5) = v5 c
          ∧ r.2.mem ((c.tc : Thread Cert.Kernel8Ideal.nD Cert.Kernel8Ideal.τ).loc Cert.Kernel8Ideal.main_v14_6) = v6 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
          ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
          ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9)
          ∧ r.2.mem ((c.tc : Thread Cert.Kernel8Ideal.nD Cert.Kernel8Ideal.τ).loc Cert.Kernel8Ideal.main_arg10) = m ((c.tc : Thread Cert.Kernel8Ideal.nD Cert.Kernel8Ideal.τ).loc Cert.Kernel8Ideal.main_arg10))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v120) = v0 c
          ∧ r.2.mem ((c.tc : Thread Cert.Reference8Ideal.nD Cert.Reference8Ideal.τ).loc Cert.Reference8Ideal.main_v121) = v1 c
          ∧ r.2.mem ((c.tc : Thread Cert.Reference8Ideal.nD Cert.Reference8Ideal.τ).loc Cert.Reference8Ideal.main_v106) = v2 c
          ∧ r.2.mem ((c.tc : Thread Cert.Reference8Ideal.nD Cert.Reference8Ideal.τ).loc Cert.Reference8Ideal.main_v122) = v3 c
          ∧ r.2.mem ((c.tc : Thread Cert.Reference8Ideal.nD Cert.Reference8Ideal.τ).loc Cert.Reference8Ideal.main_v123) = v4 c
          ∧ r.2.mem ((c.tc : Thread Cert.Reference8Ideal.nD Cert.Reference8Ideal.τ).loc Cert.Reference8Ideal.main_v116) = v5 c
          ∧ r.2.mem ((c.tc : Thread Cert.Reference8Ideal.nD Cert.Reference8Ideal.τ).loc Cert.Reference8Ideal.main_v118) = v6 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7)
          ∧ r.2.mem ((c.tc : Thread Cert.Reference8Ideal.nD Cert.Reference8Ideal.τ).loc Cert.Reference8Ideal.main_arg8) = m' ((c.tc : Thread Cert.Reference8Ideal.nD Cert.Reference8Ideal.τ).loc Cert.Reference8Ideal.main_arg8)
          ∧ r.2.mem ((c.tc : Thread Cert.Reference8Ideal.nD Cert.Reference8Ideal.τ).loc Cert.Reference8Ideal.main_arg9) = m' ((c.tc : Thread Cert.Reference8Ideal.nD Cert.Reference8Ideal.τ).loc Cert.Reference8Ideal.main_arg9)
          ∧ r.2.mem ((c.tc : Thread Cert.Reference8Ideal.nD Cert.Reference8Ideal.τ).loc Cert.Reference8Ideal.main_arg10) = m' ((c.tc : Thread Cert.Reference8Ideal.nD Cert.Reference8Ideal.τ).loc Cert.Reference8Ideal.main_arg10))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite_gate_input : Cert.Pre_finite_gate_input.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_finite_gate_input (hKernel2Ideal := hKernel2Ideal) (hPre_finite_gate_input := hPre_finite_gate_input)
    ∧ quiescent_Reference2Ideal (hReference2Ideal := hReference2Ideal)
    ∧ quiescent_Reference2Ideal_pre_finite_gate_input (hReference2Ideal := hReference2Ideal) (hPre_finite_gate_input := hPre_finite_gate_input)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_finite_gate_input (hKernel2Ideal := hKernel2Ideal) (hReference2Ideal := hReference2Ideal) (hPre_finite_gate_input := hPre_finite_gate_input)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Pre_finite_gate_input.lean ====
abbrev S8192x2048 : Shape := ⟨2, ![8192, 2048]⟩
abbrev S128x2048 : Shape := ⟨2, ![128, 2048]⟩
abbrev S1x2048x5632 : Shape := ⟨3, ![1, 2048, 5632]⟩
abbrev S_ : Shape := ⟨0, ![]⟩

class Facts : Prop where
  bitsLt_bf16_f32 : FTy.bits .bf16 < FTy.bits .f32
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S128x2048 : S_.BroadcastsInDim S128x2048 (![] : Fin 0 → Fin S128x2048.rank)
  reducesTo_S128x2048_S_d0_1 : S128x2048.ReducesTo [0, 1] S_
  bcast_S_S1x2048x5632 : S_.BroadcastsInDim S1x2048x5632 (![] : Fin 0 → Fin S1x2048x5632.rank)
  reducesTo_S1x2048x5632_S_d0_1_2 : S1x2048x5632.ReducesTo [0, 1, 2] S_

variable [Facts]

def fn {F : FTy → Type} [FloatOps F] (main_arg0 : FVec F S8192x2048 .bf16) (main_arg1 : FVec F S128x2048 .bf16) (main_arg2 : FVec F S1x2048x5632 .f32) (main_arg3 : FVec F S1x2048x5632 .f32) : IVec S_ 1 :=
  let main_v0 : FVec F S8192x2048 .f32 := (extf .f32 · bitsLt_bf16_f32) main_arg0
  let main_v1 : FVec F S8192x2048 .f32 := subf main_v0 main_v0
  let main_cst : FVec F S_ .f32 := constant S_ .f32 0x00000000#32
  let main_v2 : FVec F S8192x2048 .f32 := broadcastInDim S8192x2048 ![] bcast_S_S8192x2048 main_cst
  let main_v3 : IVec S8192x2048 1 := cmpf .oeq main_v1 main_v2
  let main_c : IVec S_ 1 := constantI S_ 1 1#1
  let main_v4 : IVec S_ 1 := (fun x v => Host.reduce IntOp.andi x v reducesTo_S8192x2048_S_d0_1 h_S_) main_v3 main_c
  let main_v5 : FVec F S128x2048 .f32 := (extf .f32 · bitsLt_bf16_f32) main_arg1
  let main_v6 : FVec F S128x2048 .f32 := subf main_v5 main_v5
  let main_cst_0 : FVec F S_ .f32 := constant S_ .f32 0x00000000#32
  let main_v7 : FVec F S128x2048 .f32 := broadcastInDim S128x2048 ![] bcast_S_S128x2048 main_cst_0
  let main_v8 : IVec S128x2048 1 := cmpf .oeq main_v6 main_v7
  let main_c_1 : IVec S_ 1 := constantI S_ 1 1#1
  let main_v9 : IVec S_ 1 := (fun x v => Host.reduce IntOp.andi x v reducesTo_S128x2048_S_d0_1 h_S_) main_v8 main_c_1
  let main_v10 : IVec S_ 1 := andi main_v4 main_v9
  let main_v11 : FVec F S1x2048x5632 .f32 := subf main_arg2 main_arg2
  let main_cst_2 : FVec F S_ .f32 := constant S_ .f32 0x00000000#32
  let main_v12 : FVec F S1x2048x5632 .f32 := broadcastInDim S1x2048x5632 ![] bcast_S_S1x2048x5632 main_cst_2
  let main_v13 : IVec S1x2048x5632 1 := cmpf .oeq main_v11 main_v12
  let main_c_3 : IVec S_ 1 := constantI S_ 1 1#1
  let main_v14 : IVec S_ 1 := (fun x v => Host.reduce IntOp.andi x v reducesTo_S1x2048x5632_S_d0_1_2 h_S_) main_v13 main_c_3
  let main_v15 : IVec S_ 1 := andi main_v10 main_v14
  main_v15
-- ==== Kernel.lean ====
abbrev S8192x2048 : Shape := ⟨2, ![8192, 2048]⟩
abbrev S128x2048 : Shape := ⟨2, ![128, 2048]⟩
abbrev S1x2048x14336 : Shape := ⟨3, ![1, 2048, 14336]⟩
abbrev S2048x14336 : Shape := ⟨2, ![2048, 14336]⟩
abbrev S8192x10240 : Shape := ⟨2, ![8192, 10240]⟩
abbrev S128x10240 : Shape := ⟨2, ![128, 10240]⟩
abbrev S1024x2048 : Shape := ⟨2, ![1024, 2048]⟩
abbrev S2048x1024 : Shape := ⟨2, ![2048, 1024]⟩
abbrev S1024x1024 : Shape := ⟨2, ![1024, 1024]⟩
abbrev S128x1024 : Shape := ⟨2, ![128, 1024]⟩

abbrev nBuf : Space → Nat
  | .hbm => 6
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S128x2048, .bf16⟩
  | .hbm, ⟨2, _⟩ => ⟨S1x2048x14336, .f32⟩
  | .hbm, ⟨3, _⟩ => ⟨S2048x14336, .f32⟩
  | .hbm, ⟨4, _⟩ => ⟨S8192x10240, .f32⟩
  | .hbm, ⟨5, _⟩ => ⟨S128x10240, .f32⟩
  | .local _ .vmem, ⟨0, _⟩ => ⟨S1024x2048, .bf16⟩
  | .local _ .vmem, ⟨1, _⟩ => ⟨S1024x2048, .bf16⟩
  | .local _ .vmem, ⟨2, _⟩ => ⟨S128x2048, .bf16⟩
  | .local _ .vmem, ⟨3, _⟩ => ⟨S2048x1024, .f32⟩
  | .local _ .vmem, ⟨4, _⟩ => ⟨S2048x1024, .f32⟩
  | .local _ .vmem, ⟨5, _⟩ => ⟨S1024x1024, .f32⟩
  | .local _ .vmem, ⟨6, _⟩ => ⟨S1024x1024, .f32⟩
  | .local _ .vmem, ⟨7, _⟩ => ⟨S128x1024, .f32⟩
  | .local _ .vmem, ⟨8, _⟩ => ⟨S128x1024, .f32⟩
  | .local _ .vmem, ⟨9, _⟩ => ⟨S2048x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![10, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S128x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ReferenceIdeal.lean ====
abbrev S8192x2048 : Shape := ⟨2, ![8192, 2048]⟩
abbrev S128x2048 : Shape := ⟨2, ![128, 2048]⟩
abbrev S1x2048x14336 : Shape := ⟨3, ![1, 2048, 14336]⟩
abbrev S2048x14336 : Shape := ⟨2, ![2048, 14336]⟩
abbrev S2048x10240 : Shape := ⟨2, ![2048, 10240]⟩
abbrev S8192x10240 : Shape := ⟨2, ![8192, 10240]⟩
abbrev S128x10240 : Shape := ⟨2, ![128, 10240]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S128x2048, .bf16⟩
  | .hbm, ⟨2, _⟩ => ⟨S1x2048x14336, .f32⟩
  | .hbm, ⟨3, _⟩ => ⟨S2048x14336, .f32⟩
  | .hbm, ⟨4, _⟩ => ⟨S2048x10240, .f32⟩
  | .hbm, ⟨5, _⟩ => ⟨S8192x2048, .f32⟩
  | .hbm, ⟨6, _⟩ => ⟨S8192x10240, .f32⟩
  | .hbm, ⟨7, _⟩ => ⟨S128x2048, .f32⟩
  | .hbm, ⟨8, _⟩ => ⟨S128x10240, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel2.lean ====
abbrev S8192x2048 : Shape := ⟨2, ![8192, 2048]⟩
abbrev S128x2048 : Shape := ⟨2, ![128, 2048]⟩
abbrev S1x2048x5632 : Shape := ⟨3, ![1, 2048, 5632]⟩
abbrev S2048x5632 : Shape := ⟨2, ![2048, 5632]⟩
abbrev S8192x5632 : Shape := ⟨2, ![8192, 5632]⟩
abbrev S128x5632 : Shape := ⟨2, ![128, 5632]⟩
abbrev S1024x2048 : Shape := ⟨2, ![1024, 2048]⟩
abbrev S2048x512 : Shape := ⟨2, ![2048, 512]⟩
abbrev S1024x512 : Shape := ⟨2, ![1024, 512]⟩
abbrev S128x512 : Shape := ⟨2, ![128, 512]⟩

abbrev nBuf : Space → Nat
  | .hbm => 8
  | .vmem => 13
  | .smem => 0
  | _ => 0

abbrev bufTy : (tb : Table) → Fin (tcTables nBuf tb) → BufTy
  | .hbm, ⟨0, _⟩ => ⟨S8192x2048, .bf16⟩
  | .hbm, ⟨1, _⟩ => ⟨S128x2048, .bf16⟩
  | .hbm, ⟨2, _⟩ => ⟨S1x2048x5632, .f32⟩
  | .hbm, ⟨3, _⟩ => ⟨S1x2048x5632, .f32⟩
  | .hbm, ⟨4, _⟩ => ⟨S2048x5632, .f32⟩
  | .hbm, ⟨5, _⟩ => ⟨S2048x5632, .f32⟩
  | .hbm, ⟨6, _⟩ => ⟨S8192x5632, .bf16⟩
  | .hbm, ⟨7, _⟩ => ⟨S128x5632, .bf16⟩
  | .local _ .vmem, ⟨0, _⟩ => ⟨S1024x2048, .bf16⟩
  | .local _ .vmem, ⟨1, _⟩ => ⟨S1024x2048, .bf16⟩
  | .local _ .vmem, ⟨2, _⟩ => ⟨S128x2048, .bf16⟩
  | .local _ .vmem, ⟨3, _⟩ => ⟨S2048x512, .f32⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | .local _ .vmem, ⟨7, _⟩ => ⟨S1024x512, .bf16⟩
  | .local _ .vmem, ⟨8, _⟩ => ⟨S1024x512, .bf16⟩
  | .local _ .vmem, ⟨9, _⟩ => ⟨S128x512, .bf16⟩
  | .local _ .vmem, ⟨10, _⟩ => ⟨S128x512, .bf16⟩
  | .local _ .vmem, ⟨11, _⟩ => ⟨S2048x512, .bf16⟩
  | .local _ .vmem, ⟨12, _⟩ => ⟨S2048x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![11, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S128x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference2Ideal.lean ====
abbrev S8192x2048 : Shape := ⟨2, ![8192, 2048]⟩
abbrev S128x2048 : Shape := ⟨2, ![128, 2048]⟩
abbrev S1x2048x5632 : Shape := ⟨3, ![1, 2048, 5632]⟩
abbrev S2048x5632 : Shape := ⟨2, ![2048, 5632]⟩
abbrev S8192x5632 : Shape := ⟨2, ![8192, 5632]⟩
abbrev S_ : Shape := ⟨0, ![]⟩
abbrev S128x5632 : Shape := ⟨2, ![128, 5632]⟩

abbrev nBuf : Space → Nat
  | .hbm => 36
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S128x2048, .bf16⟩
  | .hbm, ⟨2, _⟩ => ⟨S1x2048x5632, .f32⟩
  | .hbm, ⟨3, _⟩ => ⟨S1x2048x5632, .f32⟩
  | .hbm, ⟨4, _⟩ => ⟨S8192x2048, .f32⟩
  | .hbm, ⟨5, _⟩ => ⟨S2048x5632, .f32⟩
  | .hbm, ⟨6, _⟩ => ⟨S8192x5632, .f32⟩
  | .hbm, ⟨7, _⟩ => ⟨S8192x5632, .f32⟩
  | .hbm, ⟨8, _⟩ => ⟨S8192x5632, .f32⟩
  | .hbm, ⟨9, _⟩ => ⟨S_, .f32⟩
  | .hbm, ⟨10, _⟩ => ⟨S8192x5632, .f32⟩
  | .hbm, ⟨11, _⟩ => ⟨S8192x5632, .f32⟩
  | .hbm, ⟨12, _⟩ => ⟨S_, .f32⟩
  | .hbm, ⟨13, _⟩ => ⟨S8192x5632, .f32⟩
  | .hbm, ⟨14, _⟩ => ⟨S8192x5632, .f32⟩
  | .hbm, ⟨15, _⟩ => ⟨S8192x5632, .f32⟩
  | .hbm, ⟨16, _⟩ => ⟨S2048x5632, .f32⟩
  | .hbm, ⟨17, _⟩ => ⟨S8192x5632, .f32⟩
  | .hbm, ⟨18, _⟩ => ⟨S8192x5632, .f32⟩
  | .hbm, ⟨19, _⟩ => ⟨S8192x5632, .bf16⟩
  | .hbm, ⟨20, _⟩ => ⟨S128x2048, .f32⟩
  | .hbm, ⟨21, _⟩ => ⟨S2048x5632, .f32⟩
  | .hbm, ⟨22, _⟩ => ⟨S128x5632, .f32⟩
  | .hbm, ⟨23, _⟩ => ⟨S128x5632, .f32⟩
  | .hbm, ⟨24, _⟩ => ⟨S128x5632, .f32⟩
  | .hbm, ⟨25, _⟩ => ⟨S_, .f32⟩
  | .hbm, ⟨26, _⟩ => ⟨S128x5632, .f32⟩
  | .hbm, ⟨27, _⟩ => ⟨S128x5632, .f32⟩
  | .hbm, ⟨28, _⟩ => ⟨S_, .f32⟩
  | .hbm, ⟨29, _⟩ => ⟨S128x5632, .f32⟩
  | .hbm, ⟨30, _⟩ => ⟨S128x5632, .f32⟩
  | .hbm, ⟨31, _⟩ => ⟨S128x5632, .f32⟩
  | .hbm, ⟨32, _⟩ => ⟨S2048x5632, .f32⟩
  | .hbm, ⟨33, _⟩ => ⟨S128x5632, .f32⟩
  | .hbm, ⟨34, _⟩ => ⟨S128x5632, .f32⟩
  | .hbm, ⟨35, _⟩ => ⟨S128x5632, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_call1_v0 : Ref sig .tc := ⟨.hbm, 23, rfl⟩
abbrev main_call1_v1 : Ref sig .tc := ⟨.hbm, 24, rfl⟩
abbrev main_call1_cst : Ref sig .tc := ⟨.hbm, 25, rfl⟩
abbrev main_call1_v2 : Ref sig .tc := ⟨.hbm, 26, rfl⟩
abbrev main_call1_v3 : Ref sig .tc := ⟨.hbm, 27, rfl⟩
abbrev main_call1_cst_0 : Ref sig .tc := ⟨.hbm, 28, rfl⟩
abbrev main_call1_v4 : Ref sig .tc := ⟨.hbm, 29, rfl⟩
abbrev main_call1_v5 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩

abbrev nD : Nat := 1
abbrev τ : Topo := Topo.v7x

variable {F : FTy → Type} [FloatOps F]
-- ==== Kernel3.lean ====
abbrev S8192x5632 : Shape := ⟨2, ![8192, 5632]⟩
abbrev S128x5632 : Shape := ⟨2, ![128, 5632]⟩
abbrev S8192x2048 : Shape := ⟨2, ![8192, 2048]⟩
abbrev S128x2048 : Shape := ⟨2, ![128, 2048]⟩
abbrev S16x12288 : Shape := ⟨2, ![16, 12288]⟩
abbrev S1x5632x2048 : Shape := ⟨3, ![1, 5632, 2048]⟩
abbrev S16x1x12288 : Shape := ⟨3, ![16, 1, 12288]⟩
abbrev S8x12288 : Shape := ⟨2, ![8, 12288]⟩
abbrev S8x16x12288 : Shape := ⟨3, ![8, 16, 12288]⟩
abbrev S128x12288 : Shape := ⟨2, ![128, 12288]⟩
abbrev S5632x2048 : Shape := ⟨2, ![5632, 2048]⟩
abbrev S512x5632 : Shape := ⟨2, ![512, 5632]⟩
abbrev S5632x512 : Shape := ⟨2, ![5632, 512]⟩
abbrev S512x512 : Shape := ⟨2, ![512, 512]⟩
abbrev S128x512 : Shape := ⟨2, ![128, 512]⟩
abbrev S1x1x512 : Shape := ⟨3, ![1, 1, 512]⟩
abbrev S1x512 : Shape := ⟨2, ![1, 512]⟩

abbrev nBuf : Space → Nat
  | .hbm => 13
  | .vmem => 18
  | .smem => 0
  | _ => 0

abbrev bufTy : (tb : Table) → Fin (tcTables nBuf tb) → BufTy
  | .hbm, ⟨0, _⟩ => ⟨S8192x5632, .bf16⟩
  | .hbm, ⟨1, _⟩ => ⟨S128x5632, .bf16⟩
  | .hbm, ⟨2, _⟩ => ⟨S8192x2048, .f32⟩
  | .hbm, ⟨3, _⟩ => ⟨S128x2048, .f32⟩
  | .hbm, ⟨4, _⟩ => ⟨S16x12288, .f32⟩
  | .hbm, ⟨5, _⟩ => ⟨S1x5632x2048, .f32⟩
  | .hbm, ⟨6, _⟩ => ⟨S16x1x12288, .f32⟩
  | .hbm, ⟨7, _⟩ => ⟨S8x12288, .f32⟩
  | .hbm, ⟨8, _⟩ => ⟨S8x16x12288, .f32⟩
  | .hbm, ⟨9, _⟩ => ⟨S128x12288, .f32⟩
  | .hbm, ⟨10, _⟩ => ⟨S5632x2048, .f32⟩
  | .hbm, ⟨11, _⟩ => ⟨S8192x2048, .f32⟩
  | .hbm, ⟨12, _⟩ => ⟨S128x2048, .f32⟩
  | .local _ .vmem, ⟨0, _⟩ => ⟨S512x5632, .bf16⟩
  | .local _ .vmem, ⟨1, _⟩ => ⟨S512x5632, .bf16⟩
  | .local _ .vmem, ⟨2, _⟩ => ⟨S128x5632, .bf16⟩
  | .local _ .vmem, ⟨3, _⟩ => ⟨S5632x512, .f32⟩
  | .local _ .vmem, ⟨4, _⟩ => ⟨S5632x512, .f32⟩
  | .local _ .vmem, ⟨5, _⟩ => ⟨S512x512, .f32⟩
  | .local _ .vmem, ⟨6, _⟩ => ⟨S512x512, .f32⟩
  | .local _ .vmem, ⟨7, _⟩ => ⟨S128x512, .f32⟩
  | .local _ .vmem, ⟨8, _⟩ => ⟨S128x512, .f32⟩
  | .local _ .vmem, ⟨9, _⟩ => ⟨S128x512, .f32⟩
  | .local _ .vmem, ⟨10, _⟩ => ⟨S128x512, .f32⟩
  | .local _ .vmem, ⟨11, _⟩ => ⟨S1x1x512, .f32⟩
  | .local _ .vmem, ⟨12, _⟩ => ⟨S1x1x512, .f32⟩
  | .local _ .vmem, ⟨13, _⟩ => ⟨S512x512, .f32⟩
  | .local _ .vmem, ⟨14, _⟩ => ⟨S512x512, .f32⟩
  | .local _ .vmem, ⟨15, _⟩ => ⟨S128x512, .f32⟩
  | .local _ .vmem, ⟨16, _⟩ => ⟨S128x512, .f32⟩
  | .local _ .vmem, ⟨17, _⟩ => ⟨S5632x512, .bf16⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![4, 16], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg0
  let c0_i32 : BitVec 32 := 0#32
  let c0_i32_0 : BitVec 32 := 0#32
  ![c0_i32.toNat, v0.toNat]

def cc0_transform_6 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c20_i32 : BitVec 32 := 20#32
  let v18 : BitVec 32 := Scalar.addi c20_i32 arg0
  let c0_i32_4 : BitVec 32 := 0#32
  let c0_i32_5 : BitVec 32 := 0#32
  ![v17.toNat, c0_i32_4.toNat, v18.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S128x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S5632x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference3Ideal.lean ====
abbrev S8192x5632 : Shape := ⟨2, ![8192, 5632]⟩
abbrev S128x5632 : Shape := ⟨2, ![128, 5632]⟩
abbrev S8192x2048 : Shape := ⟨2, ![8192, 2048]⟩
abbrev S128x2048 : Shape := ⟨2, ![128, 2048]⟩
abbrev S16x12288 : Shape := ⟨2, ![16, 12288]⟩
abbrev S1x5632x2048 : Shape := ⟨3, ![1, 5632, 2048]⟩
abbrev S16x1x12288 : Shape := ⟨3, ![16, 1, 12288]⟩
abbrev S16x1x2048 : Shape := ⟨3, ![16, 1, 2048]⟩
abbrev S2x1x2048 : Shape := ⟨3, ![2, 1, 2048]⟩
abbrev S5632x2048 : Shape := ⟨2, ![5632, 2048]⟩
abbrev S2x4096x2048 : Shape := ⟨3, ![2, 4096, 2048]⟩
abbrev S8x1x2048 : Shape := ⟨3, ![8, 1, 2048]⟩
abbrev S8x16x2048 : Shape := ⟨3, ![8, 16, 2048]⟩

abbrev nBuf : Space → Nat
  | .hbm => 33
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S128x5632, .bf16⟩
  | .hbm, ⟨2, _⟩ => ⟨S8192x2048, .f32⟩
  | .hbm, ⟨3, _⟩ => ⟨S128x2048, .f32⟩
  | .hbm, ⟨4, _⟩ => ⟨S16x12288, .f32⟩
  | .hbm, ⟨5, _⟩ => ⟨S1x5632x2048, .f32⟩
  | .hbm, ⟨6, _⟩ => ⟨S16x1x12288, .f32⟩
  | .hbm, ⟨7, _⟩ => ⟨S16x1x2048, .f32⟩
  | .hbm, ⟨8, _⟩ => ⟨S16x1x2048, .f32⟩
  | .hbm, ⟨9, _⟩ => ⟨S16x1x2048, .f32⟩
  | .hbm, ⟨10, _⟩ => ⟨S16x1x2048, .f32⟩
  | .hbm, ⟨11, _⟩ => ⟨S16x1x2048, .f32⟩
  | .hbm, ⟨12, _⟩ => ⟨S16x1x2048, .f32⟩
  | .hbm, ⟨13, _⟩ => ⟨S2x1x2048, .f32⟩
  | .hbm, ⟨14, _⟩ => ⟨S8192x5632, .f32⟩
  | .hbm, ⟨15, _⟩ => ⟨S5632x2048, .f32⟩
  | .hbm, ⟨16, _⟩ => ⟨S8192x2048, .f32⟩
  | .hbm, ⟨17, _⟩ => ⟨S2x4096x2048, .f32⟩
  | .hbm, ⟨18, _⟩ => ⟨S2x4096x2048, .f32⟩
  | .hbm, ⟨19, _⟩ => ⟨S2x4096x2048, .f32⟩
  | .hbm, ⟨20, _⟩ => ⟨S2x4096x2048, .f32⟩
  | .hbm, ⟨21, _⟩ => ⟨S2x4096x2048, .f32⟩
  | .hbm, ⟨22, _⟩ => ⟨S8192x2048, .f32⟩
  | .hbm, ⟨23, _⟩ => ⟨S8x1x2048, .f32⟩
  | .hbm, ⟨24, _⟩ => ⟨S128x5632, .f32⟩
  | .hbm, ⟨25, _⟩ => ⟨S5632x2048, .f32⟩
  | .hbm, ⟨26, _⟩ => ⟨S128x2048, .f32⟩
  | .hbm, ⟨27, _⟩ => ⟨S8x16x2048, .f32⟩
  | .hbm, ⟨28, _⟩ => ⟨S8x16x2048, .f32⟩
  | .hbm, ⟨29, _⟩ => ⟨S8x16x2048, .f32⟩
  | .hbm, ⟨30, _⟩ => ⟨S8x16x2048, .f32⟩
  | .hbm, ⟨31, _⟩ => ⟨S8x16x2048, .f32⟩
  | .hbm, ⟨32, _⟩ => ⟨S128x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩

abbrev nD : Nat := 1
abbrev τ : Topo := Topo.v7x

variable {F : FTy → Type} [FloatOps F]
-- ==== Kernel4.lean ====
abbrev S8192x2048 : Shape := ⟨2, ![8192, 2048]⟩
abbrev S128x2048 : Shape := ⟨2, ![128, 2048]⟩
abbrev S8192x10240 : Shape := ⟨2, ![8192, 10240]⟩
abbrev S128x10240 : Shape := ⟨2, ![128, 10240]⟩
abbrev S1x2048x2048 : Shape := ⟨3, ![1, 2048, 2048]⟩
abbrev S2048x2048 : Shape := ⟨2, ![2048, 2048]⟩
abbrev S1024x2048 : Shape := ⟨2, ![1024, 2048]⟩
abbrev S2048x512 : Shape := ⟨2, ![2048, 512]⟩
abbrev S1024x512 : Shape := ⟨2, ![1024, 512]⟩
abbrev S128x512 : Shape := ⟨2, ![128, 512]⟩

abbrev nBuf : Space → Nat
  | .hbm => 14
  | .vmem => 24
  | .smem => 0
  | _ => 0

abbrev bufTy : (tb : Table) → Fin (tcTables nBuf tb) → BufTy
  | .hbm, ⟨0, _⟩ => ⟨S8192x2048, .bf16⟩
  | .hbm, ⟨1, _⟩ => ⟨S128x2048, .bf16⟩
  | .hbm, ⟨2, _⟩ => ⟨S8192x2048, .bf16⟩
  | .hbm, ⟨3, _⟩ => ⟨S128x2048, .bf16⟩
  | .hbm, ⟨4, _⟩ => ⟨S8192x10240, .f32⟩
  | .hbm, ⟨5, _⟩ => ⟨S128x10240, .f32⟩
  | .hbm, ⟨6, _⟩ => ⟨S8192x2048, .f32⟩
  | .hbm, ⟨7, _⟩ => ⟨S128x2048, .f32⟩
  | .hbm, ⟨8, _⟩ => ⟨S1x2048x2048, .f32⟩
  | .hbm, ⟨9, _⟩ => ⟨S1x2048x2048, .f32⟩
  | .hbm, ⟨10, _⟩ => ⟨S2048x2048, .f32⟩
  | .hbm, ⟨11, _⟩ => ⟨S2048x2048, .f32⟩
  | .hbm, ⟨12, _⟩ => ⟨S8192x2048, .bf16⟩
  | .hbm, ⟨13, _⟩ => ⟨S128x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S128x2048, .bf16⟩
  | .local _ .vmem, ⟨5, _⟩ => ⟨S128x2048, .bf16⟩
  | .local _ .vmem, ⟨6, _⟩ => ⟨S2048x512, .f32⟩
  | .local _ .vmem, ⟨7, _⟩ => ⟨S2048x512, .f32⟩
  | .local _ .vmem, ⟨8, _⟩ => ⟨S2048x512, .f32⟩
  | .local _ .vmem, ⟨9, _⟩ => ⟨S2048x512, .f32⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S1024x512, .f32⟩
  | .local _ .vmem, ⟨14, _⟩ => ⟨S128x512, .f32⟩
  | .local _ .vmem, ⟨15, _⟩ => ⟨S128x512, .f32⟩
  | .local _ .vmem, ⟨16, _⟩ => ⟨S128x512, .f32⟩
  | .local _ .vmem, ⟨17, _⟩ => ⟨S128x512, .f32⟩
  | .local _ .vmem, ⟨18, _⟩ => ⟨S1024x512, .bf16⟩
  | .local _ .vmem, ⟨19, _⟩ => ⟨S1024x512, .bf16⟩
  | .local _ .vmem, ⟨20, _⟩ => ⟨S128x512, .bf16⟩
  | .local _ .vmem, ⟨21, _⟩ => ⟨S128x512, .bf16⟩
  | .local _ .vmem, ⟨22, _⟩ => ⟨S2048x512, .bf16⟩
  | .local _ .vmem, ⟨23, _⟩ => ⟨S2048x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2_0 : Ref sig .tc := ⟨.hbm, 12, rfl⟩
abbrev main_v2_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  ![arg1.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_8 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S128x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S128x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S128x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== Reference4Ideal.lean ====
abbrev S8192x2048 : Shape := ⟨2, ![8192, 2048]⟩
abbrev S128x2048 : Shape := ⟨2, ![128, 2048]⟩
abbrev S8192x10240 : Shape := ⟨2, ![8192, 10240]⟩
abbrev S128x10240 : Shape := ⟨2, ![128, 10240]⟩
abbrev S1x2048x2048 : Shape := ⟨3, ![1, 2048, 2048]⟩
abbrev S_ : Shape := ⟨0, ![]⟩
abbrev S2048x2048 : Shape := ⟨2, ![2048, 2048]⟩

abbrev nBuf : Space → Nat
  | .hbm => 64
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S128x2048, .bf16⟩
  | .hbm, ⟨2, _⟩ => ⟨S8192x2048, .bf16⟩
  | .hbm, ⟨3, _⟩ => ⟨S128x2048, .bf16⟩
  | .hbm, ⟨4, _⟩ => ⟨S8192x10240, .f32⟩
  | .hbm, ⟨5, _⟩ => ⟨S128x10240, .f32⟩
  | .hbm, ⟨6, _⟩ => ⟨S8192x2048, .f32⟩
  | .hbm, ⟨7, _⟩ => ⟨S128x2048, .f32⟩
  | .hbm, ⟨8, _⟩ => ⟨S1x2048x2048, .f32⟩
  | .hbm, ⟨9, _⟩ => ⟨S1x2048x2048, .f32⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S_, .f32⟩
  | .hbm, ⟨14, _⟩ => ⟨S8192x2048, .f32⟩
  | .hbm, ⟨15, _⟩ => ⟨S8192x2048, .f32⟩
  | .hbm, ⟨16, _⟩ => ⟨S_, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S2048x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S8192x2048, .f32⟩
  | .hbm, ⟨27, _⟩ => ⟨S8192x2048, .f32⟩
  | .hbm, ⟨28, _⟩ => ⟨S_, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S2048x2048, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S8192x2048, .bf16⟩
  | .hbm, ⟨37, _⟩ => ⟨S128x2048, .f32⟩
  | .hbm, ⟨38, _⟩ => ⟨S128x2048, .f32⟩
  | .hbm, ⟨39, _⟩ => ⟨S128x2048, .f32⟩
  | .hbm, ⟨40, _⟩ => ⟨S_, .f32⟩
  | .hbm, ⟨41, _⟩ => ⟨S128x2048, .f32⟩
  | .hbm, ⟨42, _⟩ => ⟨S128x2048, .f32⟩
  | .hbm, ⟨43, _⟩ => ⟨S_, .f32⟩
  | .hbm, ⟨44, _⟩ => ⟨S128x2048, .f32⟩
  | .hbm, ⟨45, _⟩ => ⟨S128x2048, .f32⟩
  | .hbm, ⟨46, _⟩ => ⟨S128x2048, .f32⟩
  | .hbm, ⟨47, _⟩ => ⟨S2048x2048, .f32⟩
  | .hbm, ⟨48, _⟩ => ⟨S128x2048, .f32⟩
  | .hbm, ⟨49, _⟩ => ⟨S128x2048, .f32⟩
  | .hbm, ⟨50, _⟩ => ⟨S128x2048, .f32⟩
  | .hbm, ⟨51, _⟩ => ⟨S128x2048, .f32⟩
  | .hbm, ⟨52, _⟩ => ⟨S_, .f32⟩
  | .hbm, ⟨53, _⟩ => ⟨S128x2048, .f32⟩
  | .hbm, ⟨54, _⟩ => ⟨S128x2048, .f32⟩
  | .hbm, ⟨55, _⟩ => ⟨S_, .f32⟩
  | .hbm, ⟨56, _⟩ => ⟨S128x2048, .f32⟩
  | .hbm, ⟨57, _⟩ => ⟨S128x2048, .f32⟩
  | .hbm, ⟨58, _⟩ => ⟨S128x2048, .f32⟩
  | .hbm, ⟨59, _⟩ => ⟨S2048x2048, .f32⟩
  | .hbm, ⟨60, _⟩ => ⟨S128x2048, .f32⟩
  | .hbm, ⟨61, _⟩ => ⟨S128x2048, .f32⟩
  | .hbm, ⟨62, _⟩ => ⟨S128x2048, .f32⟩
  | .hbm, ⟨63, _⟩ => ⟨S128x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_3 : Ref sig .tc := ⟨.hbm, 40, rfl⟩
abbrev main_v26 : Ref sig .tc := ⟨.hbm, 41, rfl⟩
abbrev main_v27 : Ref sig .tc := ⟨.hbm, 42, rfl⟩
abbrev main_cst_4 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_5 : Ref sig .tc := ⟨.hbm, 52, rfl⟩
abbrev main_v36 : Ref sig .tc := ⟨.hbm, 53, rfl⟩
abbrev main_v37 : Ref sig .tc := ⟨.hbm, 54, rfl⟩
abbrev main_cst_6 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩

abbrev nD : Nat := 1
abbrev τ : Topo := Topo.v7x

variable {F : FTy → Type} [FloatOps F]
-- ==== Kernel5.lean ====
abbrev S8192x2048 : Shape := ⟨2, ![8192, 2048]⟩
abbrev S2048 : Shape := ⟨1, ![2048]⟩
abbrev S1x2048 : Shape := ⟨2, ![1, 2048]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S1x2048, .f32⟩
  | .hbm, ⟨3, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1024x2048, .f32⟩
  | .local _ .vmem, ⟨4, _⟩ => ⟨S1024x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference5Ideal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 18
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x2048, .f32⟩
  | .hbm, ⟨14, _⟩ => ⟨S8192x2048, .f32⟩
  | .hbm, ⟨15, _⟩ => ⟨S1x2048, .f32⟩
  | .hbm, ⟨16, _⟩ => ⟨S8192x2048, .f32⟩
  | .hbm, ⟨17, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel6.lean ====
abbrev S128x2048 : Shape := ⟨2, ![128, 2048]⟩
abbrev S2048 : Shape := ⟨1, ![2048]⟩
abbrev S1x2048 : Shape := ⟨2, ![1, 2048]⟩
abbrev S128 : Shape := ⟨1, ![128]⟩
abbrev S128x1 : Shape := ⟨2, ![128, 1]⟩

abbrev nBuf : Space → Nat
  | .hbm => 4
  | .vmem => 3
  | .smem => 0
  | _ => 0

abbrev bufTy : (tb : Table) → Fin (tcTables nBuf tb) → BufTy
  | .hbm, ⟨0, _⟩ => ⟨S128x2048, .f32⟩
  | .hbm, ⟨1, _⟩ => ⟨S2048, .f32⟩
  | .hbm, ⟨2, _⟩ => ⟨S1x2048, .f32⟩
  | .hbm, ⟨3, _⟩ => ⟨S128x2048, .f32⟩
  | .local _ .vmem, ⟨0, _⟩ => ⟨S128x2048, .f32⟩
  | .local _ .vmem, ⟨1, _⟩ => ⟨S1x2048, .f32⟩
  | .local _ .vmem, ⟨2, _⟩ => ⟨S128x2048, .f32⟩
  | _, _ => ⟨S128x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== Reference6Ideal.lean ====
abbrev S128x2048 : Shape := ⟨2, ![128, 2048]⟩
abbrev S2048 : Shape := ⟨1, ![2048]⟩
abbrev S_ : Shape := ⟨0, ![]⟩
abbrev S128 : Shape := ⟨1, ![128]⟩
abbrev S128x1 : Shape := ⟨2, ![128, 1]⟩
abbrev S1x2048 : Shape := ⟨2, ![1, 2048]⟩

abbrev nBuf : Space → Nat
  | .hbm => 18
  | .vmem => 0
  | .smem => 0
  | _ => 0

abbrev bufTy : (tb : Table) → Fin (tcTables nBuf tb) → BufTy
  | .hbm, ⟨0, _⟩ => ⟨S128x2048, .f32⟩
  | .hbm, ⟨1, _⟩ => ⟨S2048, .f32⟩
  | .hbm, ⟨2, _⟩ => ⟨S128x2048, .f32⟩
  | .hbm, ⟨3, _⟩ => ⟨S_, .f32⟩
  | .hbm, ⟨4, _⟩ => ⟨S128, .f32⟩
  | .hbm, ⟨5, _⟩ => ⟨S128x1, .f32⟩
  | .hbm, ⟨6, _⟩ => ⟨S_, .f32⟩
  | .hbm, ⟨7, _⟩ => ⟨S128x1, .f32⟩
  | .hbm, ⟨8, _⟩ => ⟨S128x1, .f32⟩
  | .hbm, ⟨9, _⟩ => ⟨S_, .f32⟩
  | .hbm, ⟨10, _⟩ => ⟨S128x1, .f32⟩
  | .hbm, ⟨11, _⟩ => ⟨S128x1, .f32⟩
  | .hbm, ⟨12, _⟩ => ⟨S128x1, .f32⟩
  | .hbm, ⟨13, _⟩ => ⟨S128x2048, .f32⟩
  | .hbm, ⟨14, _⟩ => ⟨S128x2048, .f32⟩
  | .hbm, ⟨15, _⟩ => ⟨S1x2048, .f32⟩
  | .hbm, ⟨16, _⟩ => ⟨S128x2048, .f32⟩
  | .hbm, ⟨17, _⟩ => ⟨S128x2048, .f32⟩
  | _, _ => ⟨S128x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel7.lean ====
abbrev S128x10240 : Shape := ⟨2, ![128, 10240]⟩
abbrev S1x8x3x2048 : Shape := ⟨4, ![1, 8, 3, 2048]⟩
abbrev S1x8x2048 : Shape := ⟨3, ![1, 8, 2048]⟩
abbrev S1x4x2048 : Shape := ⟨3, ![1, 4, 2048]⟩
abbrev S1x2048 : Shape := ⟨2, ![1, 2048]⟩
abbrev S1x16x128x128 : Shape := ⟨4, ![1, 16, 128, 128]⟩
abbrev S4x2048 : Shape := ⟨2, ![4, 2048]⟩
abbrev S2048 : Shape := ⟨1, ![2048]⟩
abbrev S16x128x128 : Shape := ⟨3, ![16, 128, 128]⟩
abbrev S8x3x2048 : Shape := ⟨3, ![8, 3, 2048]⟩
abbrev S_ : Shape := ⟨0, ![]⟩
abbrev S8x8x2048 : Shape := ⟨3, ![8, 8, 2048]⟩
abbrev S8x2048 : Shape := ⟨2, ![8, 2048]⟩
abbrev S8x1x2048 : Shape := ⟨3, ![8, 1, 2048]⟩
abbrev S128x2048 : Shape := ⟨2, ![128, 2048]⟩
abbrev S16x2048 : Shape := ⟨2, ![16, 2048]⟩
abbrev S1x1x2048 : Shape := ⟨3, ![1, 1, 2048]⟩
abbrev S2x8x2048 : Shape := ⟨3, ![2, 8, 2048]⟩
abbrev S2x8x128 : Shape := ⟨3, ![2, 8, 128]⟩
abbrev S4x128 : Shape := ⟨2, ![4, 128]⟩
abbrev S16x128 : Shape := ⟨2, ![16, 128]⟩
abbrev S8x128 : Shape := ⟨2, ![8, 128]⟩
abbrev S1x128 : Shape := ⟨2, ![1, 128]⟩
abbrev S1x1x128 : Shape := ⟨3, ![1, 1, 128]⟩
abbrev S1x8x128 : Shape := ⟨3, ![1, 8, 128]⟩
abbrev S1x128x128 : Shape := ⟨3, ![1, 128, 128]⟩
abbrev S128x128 : Shape := ⟨2, ![128, 128]⟩

abbrev nBuf : Space → Nat
  | .hbm => 30
  | .vmem => 26
  | .smem => 0
  | _ => 0

abbrev bufTy : (tb : Table) → Fin (tcTables nBuf tb) → BufTy
  | .hbm, ⟨0, _⟩ => ⟨S128x10240, .f32⟩
  | .hbm, ⟨1, _⟩ => ⟨S1x8x3x2048, .f32⟩
  | .hbm, ⟨2, _⟩ => ⟨S1x8x2048, .f32⟩
  | .hbm, ⟨3, _⟩ => ⟨S1x4x2048, .f32⟩
  | .hbm, ⟨4, _⟩ => ⟨S1x2048, .f32⟩
  | .hbm, ⟨5, _⟩ => ⟨S1x16x128x128, .f32⟩
  | .hbm, ⟨6, _⟩ => ⟨S1x2048, .f32⟩
  | .hbm, ⟨7, _⟩ => ⟨S1x16x128x128, .f32⟩
  | .hbm, ⟨8, _⟩ => ⟨S1x2048, .f32⟩
  | .hbm, ⟨9, _⟩ => ⟨S1x2048, .f32⟩
  | .hbm, ⟨10, _⟩ => ⟨S4x2048, .f32⟩
  | .hbm, ⟨11, _⟩ => ⟨S2048, .f32⟩
  | .hbm, ⟨12, _⟩ => ⟨S1x2048, .f32⟩
  | .hbm, ⟨13, _⟩ => ⟨S16x128x128, .f32⟩
  | .hbm, ⟨14, _⟩ => ⟨S2048, .f32⟩
  | .hbm, ⟨15, _⟩ => ⟨S1x2048, .f32⟩
  | .hbm, ⟨16, _⟩ => ⟨S16x128x128, .f32⟩
  | .hbm, ⟨17, _⟩ => ⟨S2048, .f32⟩
  | .hbm, ⟨18, _⟩ => ⟨S1x2048, .f32⟩
  | .hbm, ⟨19, _⟩ => ⟨S2048, .f32⟩
  | .hbm, ⟨20, _⟩ => ⟨S1x2048, .f32⟩
  | .hbm, ⟨21, _⟩ => ⟨S8x3x2048, .f32⟩
  | .hbm, ⟨22, _⟩ => ⟨S_, .i32⟩
  | .hbm, ⟨23, _⟩ => ⟨S_, .f32⟩
  | .hbm, ⟨24, _⟩ => ⟨S8x8x2048, .f32⟩
  | .hbm, ⟨25, _⟩ => ⟨S8x2048, .f32⟩
  | .hbm, ⟨26, _⟩ => ⟨S8x1x2048, .f32⟩
  | .hbm, ⟨27, _⟩ => ⟨S128x2048, .bf16⟩
  | .hbm, ⟨28, _⟩ => ⟨S8x1x2048, .f32⟩
  | .hbm, ⟨29, _⟩ => ⟨S8x8x2048, .f32⟩
  | .local _ .vmem, ⟨0, _⟩ => ⟨S16x2048, .f32⟩
  | .local _ .vmem, ⟨1, _⟩ => ⟨S16x2048, .f32⟩
  | .local _ .vmem, ⟨2, _⟩ => ⟨S16x2048, .f32⟩
  | .local _ .vmem, ⟨3, _⟩ => ⟨S16x2048, .f32⟩
  | .local _ .vmem, ⟨4, _⟩ => ⟨S4x2048, .f32⟩
  | .local _ .vmem, ⟨5, _⟩ => ⟨S1x2048, .f32⟩
  | .local _ .vmem, ⟨6, _⟩ => ⟨S16x128x128, .f32⟩
  | .local _ .vmem, ⟨7, _⟩ => ⟨S1x2048, .f32⟩
  | .local _ .vmem, ⟨8, _⟩ => ⟨S16x128x128, .f32⟩
  | .local _ .vmem, ⟨9, _⟩ => ⟨S1x2048, .f32⟩
  | .local _ .vmem, ⟨10, _⟩ => ⟨S1x2048, .f32⟩
  | .local _ .vmem, ⟨11, _⟩ => ⟨S1x8x2048, .f32⟩
  | .local _ .vmem, ⟨12, _⟩ => ⟨S1x8x2048, .f32⟩
  | .local _ .vmem, ⟨13, _⟩ => ⟨S1x1x2048, .f32⟩
  | .local _ .vmem, ⟨14, _⟩ => ⟨S1x1x2048, .f32⟩
  | .local _ .vmem, ⟨15, _⟩ => ⟨S16x2048, .bf16⟩
  | .local _ .vmem, ⟨16, _⟩ => ⟨S16x2048, .bf16⟩
  | .local _ .vmem, ⟨17, _⟩ => ⟨S1x1x2048, .f32⟩
  | .local _ .vmem, ⟨18, _⟩ => ⟨S1x1x2048, .f32⟩
  | .local _ .vmem, ⟨19, _⟩ => ⟨S1x8x2048, .f32⟩
  | .local _ .vmem, ⟨20, _⟩ => ⟨S1x8x2048, .f32⟩
  | .local _ .vmem, ⟨21, _⟩ => ⟨S8x2048, .f32⟩
  | .local _ .vmem, ⟨22, _⟩ => ⟨S2x8x2048, .f32⟩
  | .local _ .vmem, ⟨23, _⟩ => ⟨S2x8x2048, .f32⟩
  | .local _ .vmem, ⟨24, _⟩ => ⟨S2x8x2048, .f32⟩
  | .local _ .vmem, ⟨25, _⟩ => ⟨S1x2048, .f32⟩
  | _, _ => ⟨S128x10240, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_call0_v0 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15_0 : Ref sig .tc := ⟨.hbm, 27, rfl⟩
abbrev main_v15_1 : Ref sig .tc := ⟨.hbm, 28, rfl⟩
abbrev main_v15_2 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_scratch4 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c2_i32 : BitVec 32 := 2#32
  let v2 : BitVec 32 := Scalar.addi c2_i32 arg1
  let c0_i32 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c3_i32 : BitVec 32 := 3#32
  let v2 : BitVec 32 := Scalar.addi c3_i32 arg1
  let c0_i32 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

def cc0_transform_12 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_13 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S16x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S16x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 1 → Memref sig .tc .vmem S4x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 1 → Memref sig .tc .vmem S16x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true, false]

abbrev stage0_6 : Fin 1 → Memref sig .tc .vmem S16x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, true, false]

abbrev stage0_9 : Fin 2 → Memref sig .tc .vmem S1x8x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S1x1x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]

abbrev stage0_11 : Fin 2 → Memref sig .tc .vmem S16x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]

abbrev stage0_12 : Fin 2 → Memref sig .tc .vmem S1x1x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, false]

abbrev stage0_13 : Fin 2 → Memref sig .tc .vmem S1x8x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, false]
-- ==== Reference7Ideal.lean ====
abbrev S128x10240 : Shape := ⟨2, ![128, 10240]⟩
abbrev S1x8x3x2048 : Shape := ⟨4, ![1, 8, 3, 2048]⟩
abbrev S1x8x2048 : Shape := ⟨3, ![1, 8, 2048]⟩
abbrev S1x4x2048 : Shape := ⟨3, ![1, 4, 2048]⟩
abbrev S1x2048 : Shape := ⟨2, ![1, 2048]⟩
abbrev S1x16x128x128 : Shape := ⟨4, ![1, 16, 128, 128]⟩
abbrev S128x2048 : Shape := ⟨2, ![128, 2048]⟩
abbrev S8x16x2048 : Shape := ⟨3, ![8, 16, 2048]⟩
abbrev S8x3x2048 : Shape := ⟨3, ![8, 3, 2048]⟩
abbrev S8x19x2048 : Shape := ⟨3, ![8, 19, 2048]⟩
abbrev S2048 : Shape := ⟨1, ![2048]⟩
abbrev S1x1x2048 : Shape := ⟨3, ![1, 1, 2048]⟩
abbrev S_ : Shape := ⟨0, ![]⟩
abbrev S8x16x16x128 : Shape := ⟨4, ![8, 16, 16, 128]⟩
abbrev S16x128x128 : Shape := ⟨3, ![16, 128, 128]⟩
abbrev S16x128x8x16 : Shape := ⟨4, ![16, 128, 8, 16]⟩
abbrev S8x2048 : Shape := ⟨2, ![8, 2048]⟩
abbrev S16x8x2048 : Shape := ⟨3, ![16, 8, 2048]⟩
abbrev S8x1x2048 : Shape := ⟨3, ![8, 1, 2048]⟩
abbrev S8x8x2048 : Shape := ⟨3, ![8, 8, 2048]⟩

abbrev nBuf : Space → Nat
  | .hbm => 168
  | .vmem => 0
  | .smem => 0
  | _ => 0

abbrev hbmTy0_0 (i : Nat) : BufTy := match i % 128 with
  | 0 => ⟨S128x10240, .f32⟩
  | 1 => ⟨S1x8x3x2048, .f32⟩
  | 2 => ⟨S1x8x2048, .f32⟩
  | 3 => ⟨S1x4x2048, .f32⟩
  | 4 => ⟨S1x2048, .f32⟩
  | 5 => ⟨S1x16x128x128, .f32⟩
  | 6 => ⟨S1x2048, .f32⟩
  | 7 => ⟨S1x16x128x128, .f32⟩
  | 8 => ⟨S1x2048, .f32⟩
  | 9 => ⟨S1x2048, .f32⟩
  | 10 => ⟨S128x2048, .f32⟩
  | 11 => ⟨S8x16x2048, .f32⟩
  | 12 => ⟨S8x3x2048, .f32⟩
  | 13 => ⟨S8x19x2048, .f32⟩
  | 14 => ⟨S2048, .f32⟩
  | 15 => ⟨S8x16x2048, .f32⟩
  | 16 => ⟨S1x1x2048, .f32⟩
  | 17 => ⟨S2048, .f32⟩
  | 18 => ⟨S1x1x2048, .f32⟩
  | 19 => ⟨S8x16x2048, .f32⟩
  | 20 => ⟨S8x16x2048, .f32⟩
  | 21 => ⟨S_, .f32⟩
  | 22 => ⟨S8x16x2048, .f32⟩
  | 23 => ⟨S8x16x2048, .f32⟩
  | 24 => ⟨S8x16x2048, .f32⟩
  | 25 => ⟨S1x1x2048, .f32⟩
  | 26 => ⟨S2048, .f32⟩
  | 27 => ⟨S1x1x2048, .f32⟩
  | 28 => ⟨S8x16x2048, .f32⟩
  | 29 => ⟨S8x16x2048, .f32⟩
  | 30 => ⟨S8x16x2048, .f32⟩
  | 31 => ⟨S8x16x2048, .f32⟩
  | 32 => ⟨S1x1x2048, .f32⟩
  | 33 => ⟨S2048, .f32⟩
  | 34 => ⟨S1x1x2048, .f32⟩
  | 35 => ⟨S8x16x2048, .f32⟩
  | 36 => ⟨S8x16x2048, .f32⟩
  | 37 => ⟨S8x16x2048, .f32⟩
  | 38 => ⟨S8x16x2048, .f32⟩
  | 39 => ⟨S1x1x2048, .f32⟩
  | 40 => ⟨S2048, .f32⟩
  | 41 => ⟨S1x1x2048, .f32⟩
  | 42 => ⟨S8x16x2048, .f32⟩
  | 43 => ⟨S8x16x2048, .f32⟩
  | 44 => ⟨S8x16x2048, .f32⟩
  | 45 => ⟨S1x1x2048, .f32⟩
  | 46 => ⟨S8x16x2048, .f32⟩
  | 47 => ⟨S8x16x2048, .f32⟩
  | 48 => ⟨S8x16x16x128, .f32⟩
  | 49 => ⟨S16x128x128, .f32⟩
  | 50 => ⟨S16x128x8x16, .f32⟩
  | 51 => ⟨S8x16x16x128, .f32⟩
  | 52 => ⟨S8x16x2048, .f32⟩
  | 53 => ⟨S2048, .f32⟩
  | 54 => ⟨S1x1x2048, .f32⟩
  | 55 => ⟨S8x16x2048, .f32⟩
  | 56 => ⟨S8x16x2048, .f32⟩
  | 57 => ⟨S8x16x2048, .f32⟩
  | 58 => ⟨S8x16x2048, .f32⟩
  | 59 => ⟨S_, .f32⟩
  | 60 => ⟨S8x16x2048, .f32⟩
  | 61 => ⟨S8x16x2048, .f32⟩
  | 62 => ⟨S_, .f32⟩
  | 63 => ⟨S8x16x2048, .f32⟩
  | 64 => ⟨S8x16x2048, .f32⟩
  | 65 => ⟨S16x128x128, .f32⟩
  | 66 => ⟨S16x128x8x16, .f32⟩
  | 67 => ⟨S8x16x16x128, .f32⟩
  | 68 => ⟨S8x16x2048, .f32⟩
  | 69 => ⟨S2048, .f32⟩
  | 70 => ⟨S1x1x2048, .f32⟩
  | 71 => ⟨S8x16x2048, .f32⟩
  | 72 => ⟨S8x16x2048, .f32⟩
  | 73 => ⟨S8x16x2048, .f32⟩
  | 74 => ⟨S8x16x2048, .f32⟩
  | 75 => ⟨S_, .f32⟩
  | 76 => ⟨S8x16x2048, .f32⟩
  | 77 => ⟨S8x16x2048, .f32⟩
  | 78 => ⟨S_, .f32⟩
  | 79 => ⟨S8x16x2048, .f32⟩
  | 80 => ⟨S8x16x2048, .f32⟩
  | 81 => ⟨S_, .f32⟩
  | 82 => ⟨S8x16x2048, .f32⟩
  | 83 => ⟨S8x16x2048, .f32⟩
  | 84 => ⟨S2048, .f32⟩
  | 85 => ⟨S2048, .f32⟩
  | 86 => ⟨S_, .f32⟩
  | 87 => ⟨S2048, .f32⟩
  | 88 => ⟨S2048, .f32⟩
  | 89 => ⟨S2048, .f32⟩
  | 90 => ⟨S2048, .f32⟩
  | 91 => ⟨S2048, .i1⟩
  | 92 => ⟨S2048, .f32⟩
  | 93 => ⟨S2048, .f32⟩
  | 94 => ⟨S2048, .f32⟩
  | 95 => ⟨S2048, .f32⟩
  | 96 => ⟨S2048, .f32⟩
  | 97 => ⟨S2048, .f32⟩
  | 98 => ⟨S2048, .f32⟩
  | 99 => ⟨S2048, .f32⟩
  | 100 => ⟨S1x1x2048, .f32⟩
  | 101 => ⟨S8x16x2048, .f32⟩
  | 102 => ⟨S8x16x2048, .f32⟩
  | 103 => ⟨S8x16x2048, .f32⟩
  | 104 => ⟨S_, .f32⟩
  | 105 => ⟨S8x16x2048, .f32⟩
  | 106 => ⟨S8x16x2048, .f32⟩
  | 107 => ⟨S8x16x2048, .f32⟩
  | 108 => ⟨S8x16x2048, .f32⟩
  | 109 => ⟨S8x16x2048, .f32⟩
  | 110 => ⟨S8x16x2048, .f32⟩
  | 111 => ⟨S8x16x2048, .f32⟩
  | 112 => ⟨S8x2048, .f32⟩
  | 113 => ⟨S16x8x2048, .f32⟩
  | 114 => ⟨S16x8x2048, .f32⟩
  | 115 => ⟨S_, .f32⟩
  | 116 => ⟨S16x8x2048, .f32⟩
  | 117 => ⟨S_, .i32⟩
  | 118 => ⟨S16x8x2048, .f32⟩
  | 119 => ⟨S16x8x2048, .f32⟩
  | 120 => ⟨S_, .i32⟩
  | 121 => ⟨S8x2048, .f32⟩
  | 122 => ⟨S16x8x2048, .f32⟩
  | 123 => ⟨S_, .i32⟩
  | 124 => ⟨S_, .i1⟩
  | 125 => ⟨S_, .i32⟩
  | 126 => ⟨S_, .i32⟩
  | 127 => ⟨S1x8x2048, .f32⟩
  | _ => ⟨S128x10240, .f32⟩

abbrev hbmTy0_1 (i : Nat) : BufTy := match i % 128 with
  | 0 => ⟨S8x2048, .f32⟩
  | 1 => ⟨S_, .i32⟩
  | 2 => ⟨S_, .i32⟩
  | 3 => ⟨S1x8x2048, .f32⟩
  | 4 => ⟨S8x2048, .f32⟩
  | 5 => ⟨S8x2048, .f32⟩
  | 6 => ⟨S8x2048, .f32⟩
  | 7 => ⟨S1x8x2048, .f32⟩
  | 8 => ⟨S_, .i32⟩
  | 9 => ⟨S_, .i32⟩
  | 10 => ⟨S16x8x2048, .f32⟩
  | 11 => ⟨S_, .i32⟩
  | 12 => ⟨S_, .i32⟩
  | 13 => ⟨S128x2048, .f32⟩
  | 14 => ⟨S8x16x2048, .f32⟩
  | 15 => ⟨S8x16x2048, .f32⟩
  | 16 => ⟨S8x16x2048, .f32⟩
  | 17 => ⟨S8x16x2048, .f32⟩
  | 18 => ⟨S_, .f32⟩
  | 19 => ⟨S8x16x2048, .f32⟩
  | 20 => ⟨S8x16x2048, .f32⟩
  | 21 => ⟨S8x16x2048, .f32⟩
  | 22 => ⟨S_, .f32⟩
  | 23 => ⟨S8x16x2048, .f32⟩
  | 24 => ⟨S8x16x2048, .f32⟩
  | 25 => ⟨S8x16x2048, .f32⟩
  | 26 => ⟨S_, .f32⟩
  | 27 => ⟨S8x16x2048, .f32⟩
  | 28 => ⟨S8x16x2048, .f32⟩
  | 29 => ⟨S_, .f32⟩
  | 30 => ⟨S8x16x2048, .f32⟩
  | 31 => ⟨S8x16x2048, .f32⟩
  | 32 => ⟨S8x16x2048, .f32⟩
  | 33 => ⟨S8x16x2048, .f32⟩
  | 34 => ⟨S128x2048, .f32⟩
  | 35 => ⟨S128x2048, .bf16⟩
  | 36 => ⟨S8x1x2048, .f32⟩
  | 37 => ⟨S128x2048, .f32⟩
  | 38 => ⟨S8x16x2048, .f32⟩
  | 39 => ⟨S8x8x2048, .f32⟩
  | _ => ⟨S128x10240, .f32⟩

abbrev hbmTy (i : Nat) : BufTy := match i / 128 with
  | 0 => hbmTy0_0 i
  | 1 => hbmTy0_1 i
  | _ => ⟨S128x10240, .f32⟩

abbrev bufTy : (tb : Table) → Fin (tcTables nBuf tb) → BufTy
  | .hbm, ⟨i, _⟩ => hbmTy i
  | _, _ => ⟨S128x10240, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_cst_0 : Ref sig .tc := ⟨.hbm, 59, rfl⟩
abbrev main_v48 : Ref sig .tc := ⟨.hbm, 60, rfl⟩
abbrev main_v49 : Ref sig .tc := ⟨.hbm, 61, rfl⟩
abbrev main_cst_1 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_cst_2 : Ref sig .tc := ⟨.hbm, 75, rfl⟩
abbrev main_v62 : Ref sig .tc := ⟨.hbm, 76, rfl⟩
abbrev main_v63 : Ref sig .tc := ⟨.hbm, 77, rfl⟩
abbrev main_cst_3 : Ref sig .tc := ⟨.hbm, 78, rfl⟩
abbrev main_v64 : Ref sig .tc := ⟨.hbm, 79, rfl⟩
abbrev main_v65 : Ref sig .tc := ⟨.hbm, 80, rfl⟩
abbrev main_cst_4 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_call0_cst : Ref sig .tc := ⟨.hbm, 86, rfl⟩
abbrev main_call0_v0 : Ref sig .tc := ⟨.hbm, 87, rfl⟩
abbrev main_call0_v1 : Ref sig .tc := ⟨.hbm, 88, rfl⟩
abbrev main_call0_v2 : Ref sig .tc := ⟨.hbm, 89, rfl⟩
abbrev main_call0_v3 : Ref sig .tc := ⟨.hbm, 90, rfl⟩
abbrev main_call0_v4 : Ref sig .tc := ⟨.hbm, 91, rfl⟩
abbrev main_call0_v5 : Ref sig .tc := ⟨.hbm, 92, rfl⟩
abbrev main_call0_v6 : Ref sig .tc := ⟨.hbm, 93, rfl⟩
abbrev main_call0_v7 : Ref sig .tc := ⟨.hbm, 94, rfl⟩
abbrev main_call0_v8 : Ref sig .tc := ⟨.hbm, 95, rfl⟩
abbrev main_call0_v9 : Ref sig .tc := ⟨.hbm, 96, rfl⟩
abbrev main_call0_v10 : Ref sig .tc := ⟨.hbm, 97, rfl⟩
abbrev main_call0_v11 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_cst_5 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_cst_6 : Ref sig .tc := ⟨.hbm, 115, rfl⟩
abbrev main_v85 : Ref sig .tc := ⟨.hbm, 116, rfl⟩
abbrev main_c : Ref sig .tc := ⟨.hbm, 117, rfl⟩
abbrev main_v86_0 : Ref sig .tc := ⟨.hbm, 118, rfl⟩
abbrev main_v86_1 : Ref sig .tc := ⟨.hbm, 119, rfl⟩
abbrev main_v86_2 : Ref sig .tc := ⟨.hbm, 120, rfl⟩
abbrev main_v86_3 : Ref sig .tc := ⟨.hbm, 121, rfl⟩
abbrev main_v86_4 : Ref sig .tc := ⟨.hbm, 122, rfl⟩
abbrev main_while0c_c_15 : Ref sig .tc := ⟨.hbm, 123, rfl⟩
abbrev main_while0c_v110 : Ref sig .tc := ⟨.hbm, 124, rfl⟩
abbrev main_while0b_call1_c : Ref sig .tc := ⟨.hbm, 125, rfl⟩
abbrev main_while0b_call1_c_0 : Ref sig .tc := ⟨.hbm, 126, rfl⟩
abbrev main_while0b_call1_v0 : Ref sig .tc := ⟨.hbm, 127, rfl⟩
abbrev main_while0b_v110 : Ref sig .tc := ⟨.hbm, 128, rfl⟩
abbrev main_while0b_call2_c : Ref sig .tc := ⟨.hbm, 129, rfl⟩
abbrev main_while0b_call2_c_0 : Ref sig .tc := ⟨.hbm, 130, rfl⟩
abbrev main_while0b_call2_v0 : Ref sig .tc := ⟨.hbm, 131, rfl⟩
abbrev main_while0b_v111 : Ref sig .tc := ⟨.hbm, 132, rfl⟩
abbrev main_while0b_v112 : Ref sig .tc := ⟨.hbm, 133, rfl⟩
abbrev main_while0b_v113 : Ref sig .tc := ⟨.hbm, 134, rfl⟩
abbrev main_while0b_call3_v0 : Ref sig .tc := ⟨.hbm, 135, rfl⟩
abbrev main_while0b_call3_c : Ref sig .tc := ⟨.hbm, 136, rfl⟩
abbrev main_while0b_call3_c_0 : Ref sig .tc := ⟨.hbm, 137, rfl⟩
abbrev main_while0b_v114 : Ref sig .tc := ⟨.hbm, 138, rfl⟩
abbrev main_while0b_c_15 : Ref sig .tc := ⟨.hbm, 139, rfl⟩
abbrev main_while0b_v115 : Ref sig .tc := ⟨.hbm, 140, rfl⟩
abbrev main_v87 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_cst_7 : Ref sig .tc := ⟨.hbm, 146, rfl⟩
abbrev main_v92 : Ref sig .tc := ⟨.hbm, 147, rfl⟩
abbrev main_v93 : Ref sig .tc := ⟨.hbm, 148, rfl⟩
abbrev main_v94 : Ref sig .tc := ⟨.hbm, 149, rfl⟩
abbrev main_cst_8 : Ref sig .tc := ⟨.hbm, 150, rfl⟩
abbrev main_v95 : Ref sig .tc := ⟨.hbm, 151, rfl⟩
abbrev main_v96 : Ref sig .tc := ⟨.hbm, 152, rfl⟩
abbrev main_v97 : Ref sig .tc := ⟨.hbm, 153, rfl⟩
abbrev main_cst_9 : Ref sig .tc := ⟨.hbm, 154, rfl⟩
abbrev main_v98 : Ref sig .tc := ⟨.hbm, 155, rfl⟩
abbrev main_v99 : Ref sig .tc := ⟨.hbm, 156, rfl⟩
abbrev main_cst_10 : Ref sig .tc := ⟨.hbm, 157, rfl⟩
abbrev main_v100 : Ref sig .tc := ⟨.hbm, 158, rfl⟩
abbrev main_v101 : Ref sig .tc := ⟨.hbm, 159, rfl⟩
abbrev main_v102 : Ref sig .tc := ⟨.hbm, 160, rfl⟩
abbrev main_v103 : Ref sig .tc := ⟨.hbm, 161, rfl⟩
abbrev main_v104 : Ref sig .tc := ⟨.hbm, 162, rfl⟩
abbrev main_v105 : Ref sig .tc := ⟨.hbm, 163, rfl⟩
abbrev main_v106 : Ref sig .tc := ⟨.hbm, 164, rfl⟩
abbrev main_v107 : Ref sig .tc := ⟨.hbm, 165, rfl⟩
abbrev main_v108 : Ref sig .tc := ⟨.hbm, 166, rfl⟩
abbrev main_v109 : Ref sig .tc := ⟨.hbm, 167, rfl⟩

abbrev nD : Nat := 1
abbrev τ : Topo := Topo.v7x

variable {F : FTy → Type} [FloatOps F]

abbrev main_while0_count : Scf.Loop 32 := ⟨0#32, 16#32, 1#32⟩
-- ==== Kernel8.lean ====
abbrev S8192x10240 : Shape := ⟨2, ![8192, 10240]⟩
abbrev S8192x2048 : Shape := ⟨2, ![8192, 2048]⟩
abbrev S128x2048 : Shape := ⟨2, ![128, 2048]⟩
abbrev S1x2048x14336 : Shape := ⟨3, ![1, 2048, 14336]⟩
abbrev S1x4x2048 : Shape := ⟨3, ![1, 4, 2048]⟩
abbrev S1x2048 : Shape := ⟨2, ![1, 2048]⟩
abbrev S1x16x128x128 : Shape := ⟨4, ![1, 16, 128, 128]⟩
abbrev S4x2048 : Shape := ⟨2, ![4, 2048]⟩
abbrev S2048 : Shape := ⟨1, ![2048]⟩
abbrev S16x128x128 : Shape := ⟨3, ![16, 128, 128]⟩
abbrev S2048x14336 : Shape := ⟨2, ![2048, 14336]⟩
abbrev S_ : Shape := ⟨0, ![]⟩
abbrev S2x8x2048 : Shape := ⟨3, ![2, 8, 2048]⟩
abbrev S2x1x2048 : Shape := ⟨3, ![2, 1, 2048]⟩
abbrev S256x1024 : Shape := ⟨2, ![256, 1024]⟩
abbrev S4x1024 : Shape := ⟨2, ![4, 1024]⟩
abbrev S1x1024 : Shape := ⟨2, ![1, 1024]⟩
abbrev S8x128x128 : Shape := ⟨3, ![8, 128, 128]⟩
abbrev S1x8x1024 : Shape := ⟨3, ![1, 8, 1024]⟩
abbrev S1x1x1024 : Shape := ⟨3, ![1, 1, 1024]⟩
abbrev S512x2048 : Shape := ⟨2, ![512, 2048]⟩
abbrev S2048x512 : Shape := ⟨2, ![2048, 512]⟩
abbrev S512x512 : Shape := ⟨2, ![512, 512]⟩
abbrev S128x512 : Shape := ⟨2, ![128, 512]⟩
abbrev S8x1024 : Shape := ⟨2, ![8, 1024]⟩
abbrev S32x8x1024 : Shape := ⟨3, ![32, 8, 1024]⟩
abbrev S32x8x128 : Shape := ⟨3, ![32, 8, 128]⟩
abbrev S4x128 : Shape := ⟨2, ![4, 128]⟩
abbrev S256x128 : Shape := ⟨2, ![256, 128]⟩
abbrev S8x128 : Shape := ⟨2, ![8, 128]⟩
abbrev S1x128 : Shape := ⟨2, ![1, 128]⟩
abbrev S1x1x128 : Shape := ⟨3, ![1, 1, 128]⟩
abbrev S1x8x128 : Shape := ⟨3, ![1, 8, 128]⟩
abbrev S31x8x128 : Shape := ⟨3, ![31, 8, 128]⟩
abbrev S1x128x128 : Shape := ⟨3, ![1, 128, 128]⟩
abbrev S128x128 : Shape := ⟨2, ![128, 128]⟩
abbrev S512x256 : Shape := ⟨2, ![512, 256]⟩
abbrev S256x512 : Shape := ⟨2, ![256, 512]⟩

abbrev nBuf : Space → Nat
  | .hbm => 34
  | .vmem => 52
  | .smem => 0
  | _ => 0

abbrev bufTy : (tb : Table) → Fin (tcTables nBuf tb) → BufTy
  | .hbm, ⟨0, _⟩ => ⟨S8192x10240, .f32⟩
  | .hbm, ⟨1, _⟩ => ⟨S8192x2048, .bf16⟩
  | .hbm, ⟨2, _⟩ => ⟨S128x2048, .bf16⟩
  | .hbm, ⟨3, _⟩ => ⟨S1x2048x14336, .f32⟩
  | .hbm, ⟨4, _⟩ => ⟨S1x4x2048, .f32⟩
  | .hbm, ⟨5, _⟩ => ⟨S1x2048, .f32⟩
  | .hbm, ⟨6, _⟩ => ⟨S1x16x128x128, .f32⟩
  | .hbm, ⟨7, _⟩ => ⟨S1x2048, .f32⟩
  | .hbm, ⟨8, _⟩ => ⟨S1x16x128x128, .f32⟩
  | .hbm, ⟨9, _⟩ => ⟨S1x2048, .f32⟩
  | .hbm, ⟨10, _⟩ => ⟨S1x2048, .f32⟩
  | .hbm, ⟨11, _⟩ => ⟨S4x2048, .f32⟩
  | .hbm, ⟨12, _⟩ => ⟨S2048, .f32⟩
  | .hbm, ⟨13, _⟩ => ⟨S1x2048, .f32⟩
  | .hbm, ⟨14, _⟩ => ⟨S16x128x128, .f32⟩
  | .hbm, ⟨15, _⟩ => ⟨S2048, .f32⟩
  | .hbm, ⟨16, _⟩ => ⟨S1x2048, .f32⟩
  | .hbm, ⟨17, _⟩ => ⟨S16x128x128, .f32⟩
  | .hbm, ⟨18, _⟩ => ⟨S2048, .f32⟩
  | .hbm, ⟨19, _⟩ => ⟨S1x2048, .f32⟩
  | .hbm, ⟨20, _⟩ => ⟨S2048, .f32⟩
  | .hbm, ⟨21, _⟩ => ⟨S1x2048, .f32⟩
  | .hbm, ⟨22, _⟩ => ⟨S2048x14336, .f32⟩
  | .hbm, ⟨23, _⟩ => ⟨S_, .f32⟩
  | .hbm, ⟨24, _⟩ => ⟨S2x8x2048, .f32⟩
  | .hbm, ⟨25, _⟩ => ⟨S_, .f32⟩
  | .hbm, ⟨26, _⟩ => ⟨S2x1x2048, .f32⟩
  | .hbm, ⟨27, _⟩ => ⟨S8192x2048, .bf16⟩
  | .hbm, ⟨28, _⟩ => ⟨S2x1x2048, .f32⟩
  | .hbm, ⟨29, _⟩ => ⟨S2x8x2048, .f32⟩
  | .hbm, ⟨30, _⟩ => ⟨S8192x2048, .bf16⟩
  | .hbm, ⟨31, _⟩ => ⟨S128x2048, .bf16⟩
  | .hbm, ⟨32, _⟩ => ⟨S8192x2048, .f32⟩
  | .hbm, ⟨33, _⟩ => ⟨S128x2048, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S4x1024, .f32⟩
  | .local _ .vmem, ⟨5, _⟩ => ⟨S4x1024, .f32⟩
  | .local _ .vmem, ⟨6, _⟩ => ⟨S1x1024, .f32⟩
  | .local _ .vmem, ⟨7, _⟩ => ⟨S1x1024, .f32⟩
  | .local _ .vmem, ⟨8, _⟩ => ⟨S8x128x128, .f32⟩
  | .local _ .vmem, ⟨9, _⟩ => ⟨S8x128x128, .f32⟩
  | .local _ .vmem, ⟨10, _⟩ => ⟨S1x1024, .f32⟩
  | .local _ .vmem, ⟨11, _⟩ => ⟨S1x1024, .f32⟩
  | .local _ .vmem, ⟨12, _⟩ => ⟨S8x128x128, .f32⟩
  | .local _ .vmem, ⟨13, _⟩ => ⟨S8x128x128, .f32⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | .local _ .vmem, ⟨18, _⟩ => ⟨S1x8x1024, .f32⟩
  | .local _ .vmem, ⟨19, _⟩ => ⟨S1x8x1024, .f32⟩
  | .local _ .vmem, ⟨20, _⟩ => ⟨S1x1x1024, .f32⟩
  | .local _ .vmem, ⟨21, _⟩ => ⟨S1x1x1024, .f32⟩
  | .local _ .vmem, ⟨22, _⟩ => ⟨S512x2048, .bf16⟩
  | .local _ .vmem, ⟨23, _⟩ => ⟨S512x2048, .bf16⟩
  | .local _ .vmem, ⟨24, _⟩ => ⟨S128x2048, .bf16⟩
  | .local _ .vmem, ⟨25, _⟩ => ⟨S2048x512, .f32⟩
  | .local _ .vmem, ⟨26, _⟩ => ⟨S2048x512, .f32⟩
  | .local _ .vmem, ⟨27, _⟩ => ⟨S2048x512, .f32⟩
  | .local _ .vmem, ⟨28, _⟩ => ⟨S2048x512, .f32⟩
  | .local _ .vmem, ⟨29, _⟩ => ⟨S256x1024, .bf16⟩
  | .local _ .vmem, ⟨30, _⟩ => ⟨S256x1024, .bf16⟩
  | .local _ .vmem, ⟨31, _⟩ => ⟨S1x1x1024, .f32⟩
  | .local _ .vmem, ⟨32, _⟩ => ⟨S1x1x1024, .f32⟩
  | .local _ .vmem, ⟨33, _⟩ => ⟨S1x8x1024, .f32⟩
  | .local _ .vmem, ⟨34, _⟩ => ⟨S1x8x1024, .f32⟩
  | .local _ .vmem, ⟨35, _⟩ => ⟨S512x512, .bf16⟩
  | .local _ .vmem, ⟨36, _⟩ => ⟨S512x512, .bf16⟩
  | .local _ .vmem, ⟨37, _⟩ => ⟨S128x512, .bf16⟩
  | .local _ .vmem, ⟨38, _⟩ => ⟨S128x512, .bf16⟩
  | .local _ .vmem, ⟨39, _⟩ => ⟨S512x512, .f32⟩
  | .local _ .vmem, ⟨40, _⟩ => ⟨S512x512, .f32⟩
  | .local _ .vmem, ⟨41, _⟩ => ⟨S128x512, .f32⟩
  | .local _ .vmem, ⟨42, _⟩ => ⟨S128x512, .f32⟩
  | .local _ .vmem, ⟨43, _⟩ => ⟨S8x1024, .f32⟩
  | .local _ .vmem, ⟨44, _⟩ => ⟨S32x8x1024, .f32⟩
  | .local _ .vmem, ⟨45, _⟩ => ⟨S32x8x1024, .f32⟩
  | .local _ .vmem, ⟨46, _⟩ => ⟨S32x8x1024, .f32⟩
  | .local _ .vmem, ⟨47, _⟩ => ⟨S1x1024, .f32⟩
  | .local _ .vmem, ⟨48, _⟩ => ⟨S2048x512, .bf16⟩
  | .local _ .vmem, ⟨49, _⟩ => ⟨S512x512, .f32⟩
  | .local _ .vmem, ⟨50, _⟩ => ⟨S2048x512, .bf16⟩
  | .local _ .vmem, ⟨51, _⟩ => ⟨S512x512, .f32⟩
  | _, _ => ⟨S8192x10240, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst : Ref sig .tc := ⟨.hbm, 23, rfl⟩
abbrev main_v12 : Ref sig .tc := ⟨.hbm, 24, rfl⟩
abbrev main_cst_0 : Ref sig .tc := ⟨.hbm, 25, rfl⟩
abbrev main_v13 : Ref sig .tc := ⟨.hbm, 26, rfl⟩
abbrev main_v14_0 : Ref sig .tc := ⟨.hbm, 27, rfl⟩
abbrev main_v14_1 : Ref sig .tc := ⟨.hbm, 28, rfl⟩
abbrev main_v14_2 : Ref sig .tc := ⟨.hbm, 29, rfl⟩
abbrev main_v14_3 : Ref sig .tc := ⟨.hbm, 30, rfl⟩
abbrev main_v14_4 : Ref sig .tc := ⟨.hbm, 31, rfl⟩
abbrev main_v14_5 : Ref sig .tc := ⟨.hbm, 32, rfl⟩
abbrev main_v14_6 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_stg15_1 : Ref sig .tc := ⟨.vmem, 30, rfl⟩
abbrev cc0_stg16_0 : Ref sig .tc := ⟨.vmem, 31, rfl⟩
abbrev cc0_stg16_1 : Ref sig .tc := ⟨.vmem, 32, rfl⟩
abbrev cc0_stg17_0 : Ref sig .tc := ⟨.vmem, 33, rfl⟩
abbrev cc0_stg17_1 : Ref sig .tc := ⟨.vmem, 34, rfl⟩
abbrev cc0_stg18_0 : Ref sig .tc := ⟨.vmem, 35, rfl⟩
abbrev cc0_stg18_1 : Ref sig .tc := ⟨.vmem, 36, rfl⟩
abbrev cc0_stg19_0 : Ref sig .tc := ⟨.vmem, 37, rfl⟩
abbrev cc0_stg19_1 : Ref sig .tc := ⟨.vmem, 38, rfl⟩
abbrev cc0_stg20_0 : Ref sig .tc := ⟨.vmem, 39, rfl⟩
abbrev cc0_stg20_1 : Ref sig .tc := ⟨.vmem, 40, rfl⟩
abbrev cc0_stg21_0 : Ref sig .tc := ⟨.vmem, 41, rfl⟩
abbrev cc0_stg21_1 : Ref sig .tc := ⟨.vmem, 42, rfl⟩
abbrev cc0_scratch0 : Ref sig .tc := ⟨.vmem, 43, rfl⟩
abbrev cc0_scratch1 : Ref sig .tc := ⟨.vmem, 44, rfl⟩
abbrev cc0_scratch2 : Ref sig .tc := ⟨.vmem, 45, rfl⟩
abbrev cc0_scratch3 : Ref sig .tc := ⟨.vmem, 46, rfl⟩
abbrev cc0_scratch4 : Ref sig .tc := ⟨.vmem, 47, rfl⟩
abbrev cc0_scratch5 : Ref sig .tc := ⟨.vmem, 48, rfl⟩
abbrev cc0_scratch6 : Ref sig .tc := ⟨.vmem, 49, rfl⟩
abbrev cc0_scratch7 : Ref sig .tc := ⟨.vmem, 50, rfl⟩
abbrev cc0_scratch8 : Ref sig .tc := ⟨.vmem, 51, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30
abbrev cc0_sem16_0 : DmaSem sig := 31
abbrev cc0_sem16_1 : DmaSem sig := 32
abbrev cc0_sem17_0 : DmaSem sig := 33
abbrev cc0_sem17_1 : DmaSem sig := 34
abbrev cc0_sem18_0 : DmaSem sig := 35
abbrev cc0_sem18_1 : DmaSem sig := 36
abbrev cc0_sem19_0 : DmaSem sig := 37
abbrev cc0_sem19_1 : DmaSem sig := 38
abbrev cc0_sem20_0 : DmaSem sig := 39
abbrev cc0_sem20_1 : DmaSem sig := 40
abbrev cc0_sem21_0 : DmaSem sig := 41
abbrev cc0_sem21_1 : DmaSem sig := 42

abbrev nD : Nat := 1
abbrev τ : Topo := Topo.v7x

variable {F : FTy → Type} [FloatOps F]

abbrev grid0 : Pipeline.Grid := ⟨3, ![2, 2, 16], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c4_i32 : BitVec 32 := 4#32
  let v2 : BitVec 32 := Scalar.addi c4_i32 arg1
  let c0_i32 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c6_i32 : BitVec 32 := 6#32
  let v2 : BitVec 32 := Scalar.addi c6_i32 arg1
  let c0_i32 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![c0_i32_0.toNat, v2.toNat]

def cc0_transform_14 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let c24_i32 : BitVec 32 := 24#32
  let v1 : BitVec 32 := Scalar.addi c24_i32 v0
  let v2 : BitVec 32 := Scalar.addi v1 arg1
  let c0_i32 : BitVec 32 := 0#32
  let c0_i32_0 : BitVec 32 := 0#32
  ![c0_i32.toNat, v2.toNat]

def cc0_transform_15 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_16 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_17 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_18 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c0_i32 : BitVec 32 := 0#32
  ![arg2.toNat, v1.toNat]

def cc0_transform_19 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![c0_i32.toNat, v1.toNat]

def cc0_transform_20 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c0_i32 : BitVec 32 := 0#32
  ![arg2.toNat, v1.toNat]

def cc0_transform_21 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![c0_i32.toNat, v1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S4x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S8x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S8x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, false]

abbrev stage0_8 : Fin 2 → Memref sig .tc .vmem S1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true, false]

abbrev stage0_9 : Fin 2 → Memref sig .tc .vmem S1x8x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]

abbrev stage0_11 : Fin 2 → Memref sig .tc .vmem S512x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, false, true]

abbrev stage0_12 : Fin 1 → Memref sig .tc .vmem S128x2048 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false, false]

abbrev stage0_13 : Fin 2 → Memref sig .tc .vmem S2048x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, false]

abbrev stage0_14 : Fin 2 → Memref sig .tc .vmem S2048x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true, false]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true, true]

abbrev stage0_16 : Fin 2 → Memref sig .tc .vmem S1x1x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true, false]

abbrev stage0_17 : Fin 2 → Memref sig .tc .vmem S1x8x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true, false]

abbrev stage0_18 : Fin 2 → Memref sig .tc .vmem S512x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true, true]

abbrev stage0_19 : Fin 2 → Memref sig .tc .vmem S128x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true, false]

abbrev stage0_20 : Fin 2 → Memref sig .tc .vmem S512x512 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true, true]

abbrev stage0_21 : Fin 2 → Memref sig .tc .vmem S128x512 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true, false]
-- ==== Reference8Ideal.lean ====
abbrev S8192x10240 : Shape := ⟨2, ![8192, 10240]⟩
abbrev S8192x2048 : Shape := ⟨2, ![8192, 2048]⟩
abbrev S128x2048 : Shape := ⟨2, ![128, 2048]⟩
abbrev S1x2048x14336 : Shape := ⟨3, ![1, 2048, 14336]⟩
abbrev S1x4x2048 : Shape := ⟨3, ![1, 4, 2048]⟩
abbrev S1x2048 : Shape := ⟨2, ![1, 2048]⟩
abbrev S1x16x128x128 : Shape := ⟨4, ![1, 16, 128, 128]⟩
abbrev S2x4096x2048 : Shape := ⟨3, ![2, 4096, 2048]⟩
abbrev S_ : Shape := ⟨0, ![]⟩
abbrev S2x3x2048 : Shape := ⟨3, ![2, 3, 2048]⟩
abbrev S2x2048 : Shape := ⟨2, ![2, 2048]⟩
abbrev S2x4099x2048 : Shape := ⟨3, ![2, 4099, 2048]⟩
abbrev S2048 : Shape := ⟨1, ![2048]⟩
abbrev S1x1x2048 : Shape := ⟨3, ![1, 1, 2048]⟩
abbrev S2x4096x16x128 : Shape := ⟨4, ![2, 4096, 16, 128]⟩
abbrev S16x128x128 : Shape := ⟨3, ![16, 128, 128]⟩
abbrev S16x128x2x4096 : Shape := ⟨4, ![16, 128, 2, 4096]⟩
abbrev S4096x2x2048 : Shape := ⟨3, ![4096, 2, 2048]⟩
abbrev S1x2x2048 : Shape := ⟨3, ![1, 2, 2048]⟩
abbrev S2x8x2048 : Shape := ⟨3, ![2, 8, 2048]⟩
abbrev S2048x14336 : Shape := ⟨2, ![2048, 14336]⟩
abbrev S2048x2048 : Shape := ⟨2, ![2048, 2048]⟩
abbrev S2x1x2048 : Shape := ⟨3, ![2, 1, 2048]⟩

abbrev nBuf : Space → Nat
  | .hbm => 185
  | .vmem => 0
  | .smem => 0
  | _ => 0

abbrev hbmTy0_0 (i : Nat) : BufTy := match i % 128 with
  | 0 => ⟨S8192x10240, .f32⟩
  | 1 => ⟨S8192x2048, .bf16⟩
  | 2 => ⟨S128x2048, .bf16⟩
  | 3 => ⟨S1x2048x14336, .f32⟩
  | 4 => ⟨S1x4x2048, .f32⟩
  | 5 => ⟨S1x2048, .f32⟩
  | 6 => ⟨S1x16x128x128, .f32⟩
  | 7 => ⟨S1x2048, .f32⟩
  | 8 => ⟨S1x16x128x128, .f32⟩
  | 9 => ⟨S1x2048, .f32⟩
  | 10 => ⟨S1x2048, .f32⟩
  | 11 => ⟨S8192x2048, .f32⟩
  | 12 => ⟨S2x4096x2048, .f32⟩
  | 13 => ⟨S_, .f32⟩
  | 14 => ⟨S2x3x2048, .f32⟩
  | 15 => ⟨S_, .f32⟩
  | 16 => ⟨S2x2048, .f32⟩
  | 17 => ⟨S2x4099x2048, .f32⟩
  | 18 => ⟨S2048, .f32⟩
  | 19 => ⟨S2x4096x2048, .f32⟩
  | 20 => ⟨S1x1x2048, .f32⟩
  | 21 => ⟨S2048, .f32⟩
  | 22 => ⟨S1x1x2048, .f32⟩
  | 23 => ⟨S2x4096x2048, .f32⟩
  | 24 => ⟨S2x4096x2048, .f32⟩
  | 25 => ⟨S_, .f32⟩
  | 26 => ⟨S2x4096x2048, .f32⟩
  | 27 => ⟨S2x4096x2048, .f32⟩
  | 28 => ⟨S2x4096x2048, .f32⟩
  | 29 => ⟨S1x1x2048, .f32⟩
  | 30 => ⟨S2048, .f32⟩
  | 31 => ⟨S1x1x2048, .f32⟩
  | 32 => ⟨S2x4096x2048, .f32⟩
  | 33 => ⟨S2x4096x2048, .f32⟩
  | 34 => ⟨S2x4096x2048, .f32⟩
  | 35 => ⟨S2x4096x2048, .f32⟩
  | 36 => ⟨S1x1x2048, .f32⟩
  | 37 => ⟨S2048, .f32⟩
  | 38 => ⟨S1x1x2048, .f32⟩
  | 39 => ⟨S2x4096x2048, .f32⟩
  | 40 => ⟨S2x4096x2048, .f32⟩
  | 41 => ⟨S2x4096x2048, .f32⟩
  | 42 => ⟨S2x4096x2048, .f32⟩
  | 43 => ⟨S1x1x2048, .f32⟩
  | 44 => ⟨S2048, .f32⟩
  | 45 => ⟨S1x1x2048, .f32⟩
  | 46 => ⟨S2x4096x2048, .f32⟩
  | 47 => ⟨S2x4096x2048, .f32⟩
  | 48 => ⟨S2x4096x2048, .f32⟩
  | 49 => ⟨S1x1x2048, .f32⟩
  | 50 => ⟨S2x4096x2048, .f32⟩
  | 51 => ⟨S2x4096x2048, .f32⟩
  | 52 => ⟨S2x4096x16x128, .f32⟩
  | 53 => ⟨S16x128x128, .f32⟩
  | 54 => ⟨S16x128x2x4096, .f32⟩
  | 55 => ⟨S2x4096x16x128, .f32⟩
  | 56 => ⟨S2x4096x2048, .f32⟩
  | 57 => ⟨S2048, .f32⟩
  | 58 => ⟨S1x1x2048, .f32⟩
  | 59 => ⟨S2x4096x2048, .f32⟩
  | 60 => ⟨S2x4096x2048, .f32⟩
  | 61 => ⟨S2x4096x2048, .f32⟩
  | 62 => ⟨S2x4096x2048, .f32⟩
  | 63 => ⟨S_, .f32⟩
  | 64 => ⟨S2x4096x2048, .f32⟩
  | 65 => ⟨S2x4096x2048, .f32⟩
  | 66 => ⟨S_, .f32⟩
  | 67 => ⟨S2x4096x2048, .f32⟩
  | 68 => ⟨S2x4096x2048, .f32⟩
  | 69 => ⟨S16x128x128, .f32⟩
  | 70 => ⟨S16x128x2x4096, .f32⟩
  | 71 => ⟨S2x4096x16x128, .f32⟩
  | 72 => ⟨S2x4096x2048, .f32⟩
  | 73 => ⟨S2048, .f32⟩
  | 74 => ⟨S1x1x2048, .f32⟩
  | 75 => ⟨S2x4096x2048, .f32⟩
  | 76 => ⟨S2x4096x2048, .f32⟩
  | 77 => ⟨S2x4096x2048, .f32⟩
  | 78 => ⟨S2x4096x2048, .f32⟩
  | 79 => ⟨S_, .f32⟩
  | 80 => ⟨S2x4096x2048, .f32⟩
  | 81 => ⟨S2x4096x2048, .f32⟩
  | 82 => ⟨S_, .f32⟩
  | 83 => ⟨S2x4096x2048, .f32⟩
  | 84 => ⟨S2x4096x2048, .f32⟩
  | 85 => ⟨S_, .f32⟩
  | 86 => ⟨S2x4096x2048, .f32⟩
  | 87 => ⟨S2x4096x2048, .f32⟩
  | 88 => ⟨S2048, .f32⟩
  | 89 => ⟨S2048, .f32⟩
  | 90 => ⟨S_, .f32⟩
  | 91 => ⟨S2048, .f32⟩
  | 92 => ⟨S2048, .f32⟩
  | 93 => ⟨S2048, .f32⟩
  | 94 => ⟨S2048, .f32⟩
  | 95 => ⟨S2048, .i1⟩
  | 96 => ⟨S2048, .f32⟩
  | 97 => ⟨S2048, .f32⟩
  | 98 => ⟨S2048, .f32⟩
  | 99 => ⟨S2048, .f32⟩
  | 100 => ⟨S2048, .f32⟩
  | 101 => ⟨S2048, .f32⟩
  | 102 => ⟨S2048, .f32⟩
  | 103 => ⟨S2048, .f32⟩
  | 104 => ⟨S1x1x2048, .f32⟩
  | 105 => ⟨S2x4096x2048, .f32⟩
  | 106 => ⟨S2x4096x2048, .f32⟩
  | 107 => ⟨S2x4096x2048, .f32⟩
  | 108 => ⟨S_, .f32⟩
  | 109 => ⟨S2x4096x2048, .f32⟩
  | 110 => ⟨S2x4096x2048, .f32⟩
  | 111 => ⟨S2x4096x2048, .f32⟩
  | 112 => ⟨S2x4096x2048, .f32⟩
  | 113 => ⟨S2x4096x2048, .f32⟩
  | 114 => ⟨S2x4096x2048, .f32⟩
  | 115 => ⟨S2x4096x2048, .f32⟩
  | 116 => ⟨S4096x2x2048, .f32⟩
  | 117 => ⟨S4096x2x2048, .f32⟩
  | 118 => ⟨S_, .f32⟩
  | 119 => ⟨S4096x2x2048, .f32⟩
  | 120 => ⟨S_, .i32⟩
  | 121 => ⟨S4096x2x2048, .f32⟩
  | 122 => ⟨S4096x2x2048, .f32⟩
  | 123 => ⟨S_, .i32⟩
  | 124 => ⟨S2x2048, .f32⟩
  | 125 => ⟨S4096x2x2048, .f32⟩
  | 126 => ⟨S_, .i32⟩
  | 127 => ⟨S_, .i1⟩
  | _ => ⟨S8192x10240, .f32⟩

abbrev hbmTy0_1 (i : Nat) : BufTy := match i % 128 with
  | 0 => ⟨S_, .i32⟩
  | 1 => ⟨S_, .i32⟩
  | 2 => ⟨S1x2x2048, .f32⟩
  | 3 => ⟨S2x2048, .f32⟩
  | 4 => ⟨S_, .i32⟩
  | 5 => ⟨S_, .i32⟩
  | 6 => ⟨S1x2x2048, .f32⟩
  | 7 => ⟨S2x2048, .f32⟩
  | 8 => ⟨S2x2048, .f32⟩
  | 9 => ⟨S2x2048, .f32⟩
  | 10 => ⟨S1x2x2048, .f32⟩
  | 11 => ⟨S_, .i32⟩
  | 12 => ⟨S_, .i32⟩
  | 13 => ⟨S4096x2x2048, .f32⟩
  | 14 => ⟨S_, .i32⟩
  | 15 => ⟨S_, .i32⟩
  | 16 => ⟨S8192x2048, .f32⟩
  | 17 => ⟨S2x4096x2048, .f32⟩
  | 18 => ⟨S2x4096x2048, .f32⟩
  | 19 => ⟨S2x4096x2048, .f32⟩
  | 20 => ⟨S2x4096x2048, .f32⟩
  | 21 => ⟨S_, .f32⟩
  | 22 => ⟨S2x4096x2048, .f32⟩
  | 23 => ⟨S2x4096x2048, .f32⟩
  | 24 => ⟨S2x4096x2048, .f32⟩
  | 25 => ⟨S_, .f32⟩
  | 26 => ⟨S2x4096x2048, .f32⟩
  | 27 => ⟨S2x4096x2048, .f32⟩
  | 28 => ⟨S2x4096x2048, .f32⟩
  | 29 => ⟨S_, .f32⟩
  | 30 => ⟨S2x4096x2048, .f32⟩
  | 31 => ⟨S2x4096x2048, .f32⟩
  | 32 => ⟨S_, .f32⟩
  | 33 => ⟨S2x4096x2048, .f32⟩
  | 34 => ⟨S2x4096x2048, .f32⟩
  | 35 => ⟨S2x4096x2048, .f32⟩
  | 36 => ⟨S2x4096x2048, .f32⟩
  | 37 => ⟨S8192x2048, .f32⟩
  | 38 => ⟨S2x4096x2048, .f32⟩
  | 39 => ⟨S2x8x2048, .f32⟩
  | 40 => ⟨S2048x14336, .f32⟩
  | 41 => ⟨S2048x2048, .f32⟩
  | 42 => ⟨S2048x14336, .f32⟩
  | 43 => ⟨S2048x2048, .f32⟩
  | 44 => ⟨S8192x2048, .f32⟩
  | 45 => ⟨S8192x2048, .f32⟩
  | 46 => ⟨S128x2048, .f32⟩
  | 47 => ⟨S128x2048, .f32⟩
  | 48 => ⟨S8192x2048, .f32⟩
  | 49 => ⟨S8192x2048, .f32⟩
  | 50 => ⟨S128x2048, .f32⟩
  | 51 => ⟨S128x2048, .f32⟩
  | 52 => ⟨S8192x2048, .f32⟩
  | 53 => ⟨S8192x2048, .bf16⟩
  | 54 => ⟨S2x1x2048, .f32⟩
  | 55 => ⟨S8192x2048, .bf16⟩
  | 56 => ⟨S128x2048, .bf16⟩
  | _ => ⟨S8192x10240, .f32⟩

abbrev hbmTy (i : Nat) : BufTy := match i / 128 with
  | 0 => hbmTy0_0 i
  | 1 => hbmTy0_1 i
  | _ => ⟨S8192x10240, .f32⟩

abbrev bufTy : (tb : Table) → Fin (tcTables nBuf tb) → BufTy
  | .hbm, ⟨i, _⟩ => hbmTy i
  | _, _ => ⟨S8192x10240, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_2 : Ref sig .tc := ⟨.hbm, 63, rfl⟩
abbrev main_v49 : Ref sig .tc := ⟨.hbm, 64, rfl⟩
abbrev main_v50 : Ref sig .tc := ⟨.hbm, 65, rfl⟩
abbrev main_cst_3 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_cst_4 : Ref sig .tc := ⟨.hbm, 79, rfl⟩
abbrev main_v63 : Ref sig .tc := ⟨.hbm, 80, rfl⟩
abbrev main_v64 : Ref sig .tc := ⟨.hbm, 81, rfl⟩
abbrev main_cst_5 : Ref sig .tc := ⟨.hbm, 82, rfl⟩
abbrev main_v65 : Ref sig .tc := ⟨.hbm, 83, rfl⟩
abbrev main_v66 : Ref sig .tc := ⟨.hbm, 84, rfl⟩
abbrev main_cst_6 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_call0_cst : Ref sig .tc := ⟨.hbm, 90, rfl⟩
abbrev main_call0_v0 : Ref sig .tc := ⟨.hbm, 91, rfl⟩
abbrev main_call0_v1 : Ref sig .tc := ⟨.hbm, 92, rfl⟩
abbrev main_call0_v2 : Ref sig .tc := ⟨.hbm, 93, rfl⟩
abbrev main_call0_v3 : Ref sig .tc := ⟨.hbm, 94, rfl⟩
abbrev main_call0_v4 : Ref sig .tc := ⟨.hbm, 95, rfl⟩
abbrev main_call0_v5 : Ref sig .tc := ⟨.hbm, 96, rfl⟩
abbrev main_call0_v6 : Ref sig .tc := ⟨.hbm, 97, rfl⟩
abbrev main_call0_v7 : Ref sig .tc := ⟨.hbm, 98, rfl⟩
abbrev main_call0_v8 : Ref sig .tc := ⟨.hbm, 99, rfl⟩
abbrev main_call0_v9 : Ref sig .tc := ⟨.hbm, 100, rfl⟩
abbrev main_call0_v10 : Ref sig .tc := ⟨.hbm, 101, rfl⟩
abbrev main_call0_v11 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_cst_7 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_8 : Ref sig .tc := ⟨.hbm, 118, rfl⟩
abbrev main_v85 : Ref sig .tc := ⟨.hbm, 119, rfl⟩
abbrev main_c : Ref sig .tc := ⟨.hbm, 120, rfl⟩
abbrev main_v86_0 : Ref sig .tc := ⟨.hbm, 121, rfl⟩
abbrev main_v86_1 : Ref sig .tc := ⟨.hbm, 122, rfl⟩
abbrev main_v86_2 : Ref sig .tc := ⟨.hbm, 123, rfl⟩
abbrev main_v86_3 : Ref sig .tc := ⟨.hbm, 124, rfl⟩
abbrev main_v86_4 : Ref sig .tc := ⟨.hbm, 125, rfl⟩
abbrev main_while0c_c_17 : Ref sig .tc := ⟨.hbm, 126, rfl⟩
abbrev main_while0c_v124 : Ref sig .tc := ⟨.hbm, 127, rfl⟩
abbrev main_while0b_call1_c : Ref sig .tc := ⟨.hbm, 128, rfl⟩
abbrev main_while0b_call1_c_0 : Ref sig .tc := ⟨.hbm, 129, rfl⟩
abbrev main_while0b_call1_v0 : Ref sig .tc := ⟨.hbm, 130, rfl⟩
abbrev main_while0b_v124 : Ref sig .tc := ⟨.hbm, 131, rfl⟩
abbrev main_while0b_call2_c : Ref sig .tc := ⟨.hbm, 132, rfl⟩
abbrev main_while0b_call2_c_0 : Ref sig .tc := ⟨.hbm, 133, rfl⟩
abbrev main_while0b_call2_v0 : Ref sig .tc := ⟨.hbm, 134, rfl⟩
abbrev main_while0b_v125 : Ref sig .tc := ⟨.hbm, 135, rfl⟩
abbrev main_while0b_v126 : Ref sig .tc := ⟨.hbm, 136, rfl⟩
abbrev main_while0b_v127 : Ref sig .tc := ⟨.hbm, 137, rfl⟩
abbrev main_while0b_call3_v0 : Ref sig .tc := ⟨.hbm, 138, rfl⟩
abbrev main_while0b_call3_c : Ref sig .tc := ⟨.hbm, 139, rfl⟩
abbrev main_while0b_call3_c_0 : Ref sig .tc := ⟨.hbm, 140, rfl⟩
abbrev main_while0b_v128 : Ref sig .tc := ⟨.hbm, 141, rfl⟩
abbrev main_while0b_c_17 : Ref sig .tc := ⟨.hbm, 142, rfl⟩
abbrev main_while0b_v129 : Ref sig .tc := ⟨.hbm, 143, rfl⟩
abbrev main_v87 : Ref sig .tc := ⟨.hbm, 144, rfl⟩
abbrev main_v88 : Ref sig .tc := ⟨.hbm, 145, rfl⟩
abbrev main_v89 : Ref sig .tc := ⟨.hbm, 146, rfl⟩
abbrev main_v90 : Ref sig .tc := ⟨.hbm, 147, rfl⟩
abbrev main_v91 : Ref sig .tc := ⟨.hbm, 148, rfl⟩
abbrev main_cst_9 : Ref sig .tc := ⟨.hbm, 149, rfl⟩
abbrev main_v92 : Ref sig .tc := ⟨.hbm, 150, rfl⟩
abbrev main_v93 : Ref sig .tc := ⟨.hbm, 151, rfl⟩
abbrev main_v94 : Ref sig .tc := ⟨.hbm, 152, rfl⟩
abbrev main_cst_10 : Ref sig .tc := ⟨.hbm, 153, rfl⟩
abbrev main_v95 : Ref sig .tc := ⟨.hbm, 154, rfl⟩
abbrev main_v96 : Ref sig .tc := ⟨.hbm, 155, rfl⟩
abbrev main_v97 : Ref sig .tc := ⟨.hbm, 156, rfl⟩
abbrev main_cst_11 : Ref sig .tc := ⟨.hbm, 157, rfl⟩
abbrev main_v98 : Ref sig .tc := ⟨.hbm, 158, rfl⟩
abbrev main_v99 : Ref sig .tc := ⟨.hbm, 159, rfl⟩
abbrev main_cst_12 : Ref sig .tc := ⟨.hbm, 160, rfl⟩
abbrev main_v100 : Ref sig .tc := ⟨.hbm, 161, rfl⟩
abbrev main_v101 : Ref sig .tc := ⟨.hbm, 162, rfl⟩
abbrev main_v102 : Ref sig .tc := ⟨.hbm, 163, rfl⟩
abbrev main_v103 : Ref sig .tc := ⟨.hbm, 164, rfl⟩
abbrev main_v104 : Ref sig .tc := ⟨.hbm, 165, rfl⟩
abbrev main_v105 : Ref sig .tc := ⟨.hbm, 166, rfl⟩
abbrev main_v106 : Ref sig .tc := ⟨.hbm, 167, rfl⟩
abbrev main_v107 : Ref sig .tc := ⟨.hbm, 168, rfl⟩
abbrev main_v108 : Ref sig .tc := ⟨.hbm, 169, rfl⟩
abbrev main_v109 : Ref sig .tc := ⟨.hbm, 170, rfl⟩
abbrev main_v110 : Ref sig .tc := ⟨.hbm, 171, rfl⟩
abbrev main_v111 : Ref sig .tc := ⟨.hbm, 172, rfl⟩
abbrev main_v112 : Ref sig .tc := ⟨.hbm, 173, rfl⟩
abbrev main_v113 : Ref sig .tc := ⟨.hbm, 174, rfl⟩
abbrev main_v114 : Ref sig .tc := ⟨.hbm, 175, rfl⟩
abbrev main_v115 : Ref sig .tc := ⟨.hbm, 176, rfl⟩
abbrev main_v116 : Ref sig .tc := ⟨.hbm, 177, rfl⟩
abbrev main_v117 : Ref sig .tc := ⟨.hbm, 178, rfl⟩
abbrev main_v118 : Ref sig .tc := ⟨.hbm, 179, rfl⟩
abbrev main_v119 : Ref sig .tc := ⟨.hbm, 180, rfl⟩
abbrev main_v120 : Ref sig .tc := ⟨.hbm, 181, rfl⟩
abbrev main_v121 : Ref sig .tc := ⟨.hbm, 182, rfl⟩
abbrev main_v122 : Ref sig .tc := ⟨.hbm, 183, rfl⟩
abbrev main_v123 : Ref sig .tc := ⟨.hbm, 184, rfl⟩

abbrev nD : Nat := 1
abbrev τ : Topo := Topo.v7x

variable {F : FTy → Type} [FloatOps F]

abbrev main_while0_count : Scf.Loop 32 := ⟨0#32, 4096#32, 1#32⟩
-- ==== Proof.Buffer.lean ====
/- Whole buffers of the vector memory: reading one at a rectangle. Programs equal step by step. -/
module

public import Idealize.ShloMosaic.Lib.VecWindow
public import Idealize.ShloMosaic.Lib.Claim

@[expose] public section

noncomputable section

namespace Cert.Buffer

open Idealize.ShloMosaic Idealize.ShloMosaic.TcCoe Idealize.SL Idealize.SL.Sem

variable {sig : RefSig}

/-- A whole buffer read through its whole rectangle. -/
theorem readAt_unread_full {s : Shape} {e : EltTy} {Val : EltTy → Type} (a : Memref sig .tc .vmem s e) (h : a.IsWhole) (x : s.Idx → Val e)
    {off : Fin s.rank → ℕ} (inb : ∀ d, off d + s.size d ≤ s.size d) :
    a.view.readAt Val (Rect.unit off s.size inb).toLoadRect (h.unread x) = x := by
  rw [View.readAt_full, h.read_unread]

theorem readAt_unread_unit {s : Shape} {e : EltTy} {Val : EltTy → Type} (a : Memref sig .tc .vmem s e) (h : a.IsWhole) (x : s.Idx → Val e)
    {off size : Fin s.rank → ℕ} (inb : ∀ d, off d + size d ≤ s.size d) :
    a.view.readAt Val (Rect.unit off size inb).toLoadRect (h.unread x) = VecWindow.window x off size inb := by
  rw [View.readAt_unit _ _ inb rfl inb, h.read_unread]

theorem op_congr.{v} {E : Type → Type v} {α β : Type} {e e' : E β} {k k' : β → Prog E α} (h : e = e') (hk : ∀ x, k x = k' x) :
    Prog.op e k = Prog.op e' k' := by rw [h, funext hk]

end Cert.Buffer

end
-- ==== Proof.InProj.Run.lean ====
/- The run of the projection kernel at every point of its grid, over any float type: what each point leaves in the two
   output blocks and in the kept weight block, the pipeline's proof data, and the run of the whole program. -/
module

public import proofs.«01_k».proof.Proof.Gen.KernelIdeal.Frame
public import proofs.«01_k».proof.Proof.Gen.KernelIdeal.Skeleton
public import proofs.«01_k».proof.Proof.Buffer
public import Idealize.ShloMosaic.Lib.Claim

@[expose] public section

set_option maxRecDepth 16384

noncomputable section

namespace Cert.KernelIdeal.Hand

open Idealize.ShloMosaic Idealize.ShloMosaic.TcCoe Idealize.ShloMosaic.Tactic Cert.Buffer
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- A buffer of the vector memory; the core holds it, whole, with these values. -/
abbrev MR (s : Shape) (e : EltTy) := Memref sig .tc .vmem s e
abbrev own {s : Shape} {e : EltTy} (c : Dev nD) (a : MR s e) (d : Vec F s e) : sProp 𝕄 :=
  owns (c : Thread nD τ) a fullShare d

variable (m : (ℓ : Loc nD τ sig) → Buf (Elt F) ℓ) (ρ : Dev nD → PrngReg) (c : Dev nD) (t : Fin cfg0.N)

/-- The body's condition in closed form: the first row block of each column block. -/
theorem cond_iff : ∀ t : Fin cfg0.N, k0_cond1 (grid0.coords t) = 1#1 ↔ t.val % 8 = 0 :=
  (by decide +kernel : ∀ t : Fin grid0.N, k0_cond1 (grid0.coords t) = 1#1 ↔ t.val % 8 = 0)

/-- The second output is left alone at the other points. -/
theorem idle_of (t : Fin cfg0.N) (h : t.val % 8 ≠ 0) : cfg0.idle 4 (grid0.coords t) = true := by
  have hc : ¬ k0_cond1 (grid0.coords t) = 1#1 := fun e => h ((cond_iff t).mp e)
  show (!(k0_cond1 (grid0.coords t) == 1#1)) = true
  rw [beq_eq_false_iff_ne.mpr hc]; rfl

theorem live_of (t : Fin cfg0.N) (h : t.val % 8 = 0) : cfg0.idle 4 (grid0.coords t) = false := by
  show (!(k0_cond1 (grid0.coords t) == 1#1)) = false
  rw [beq_iff_eq.mpr ((cond_iff t).mpr h)]; rfl

set_option maxHeartbeats 1000000 in
/-- The body where the weight block is new: it keeps the block rounded, and writes both products. -/
theorem runA (c : Dev nD) (i : grid0.Coords) (arg2 : MR S1024x2048 .bf16) (harg2 : arg2.IsWhole) (arg3 : MR S128x2048 .bf16) (harg3 : arg3.IsWhole) (arg4 : MR S2048x1024 .f32) (harg4 : arg4.IsWhole) (arg5 : MR S1024x1024 .f32) (harg5 : arg5.IsWhole) (arg6 : MR S128x1024 .f32) (harg6 : arg6.IsWhole) (arg7 : MR S2048x1024 .bf16) (harg7 : arg7.IsWhole) (hc0 : k0_cond1 i = 1#1)
    (x0 : Vec F S1024x2048 .bf16) (x1 : Vec F S128x2048 .bf16) (x2 : Vec F S2048x1024 .f32) (E : Set ℕ) (K : PUnit → sProp 𝕄) :
    iprop(own c arg2 x0 ∗ own c arg3 x1 ∗ own c arg4 x2 ∗ (∃ d, own c arg5 d) ∗ (∃ d, own c arg6 d) ∗ (∃ d, own c arg7 d)
        ∗ (iprop(own c arg2 x0 ∗ own c arg3 x1 ∗ own c arg4 x2 ∗ own c arg5 (k0_pay3 x0 (k0_pay1 x2)) ∗ own c arg6 (k0_pay2 x1 (k0_pay1 x2)) ∗ own c arg7 (k0_pay1 x2)) -∗ K ⟨⟩))
      ⊢ wp frame (wpE (defs₀ (F := F)) Variants.none c none) E (cc0_in_proj_rest i arg2 harg2 arg3 harg3 arg4 harg4 arg5 harg5 arg6 harg6 arg7 harg7) K := by
  simp only [cc0_in_proj_rest_eq_skeleton]; unfold cc0_in_proj_rest_skel
  unfold own owns
  iintro ⟨⟨%f0, %hf0, H0⟩, ⟨%f1, %hf1, H1⟩, ⟨%f2, %hf2, H2⟩, ⟨%d3, %f3, -, H3⟩, ⟨%d4, %f4, -, H4⟩, ⟨%ds, %fs, -, HS⟩, Hk⟩
  obtain rfl := harg2.eq_unread hf0; obtain rfl := harg3.eq_unread hf1; obtain rfl := harg4.eq_unread hf2
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    rw [View.read_writes_full, readAt_unread_full]; unfold runA.sl.v14 runA.sl.HS_1
    rw [View.readCov_full, readAt_unread_full]
  isplitl [H4]
  · iexists _; isplitr
    swap; · iexact H4
    ipureintro
    rw [View.read_writes_full, readAt_unread_full]; unfold runA.sl.v14 runA.sl.HS_1
    rw [View.readCov_full, readAt_unread_full]
  iexists _; isplitr
  swap; · iexact HS
  ipureintro
  unfold runA.sl.HS_1
  rw [View.read_writes_full, readAt_unread_full]

set_option maxHeartbeats 1000000 in
/-- The body at the other points: it reads the kept weight block and writes the first product only. -/
theorem runB (c : Dev nD) (i : grid0.Coords) (arg2 : MR S1024x2048 .bf16) (harg2 : arg2.IsWhole) (arg3 : MR S128x2048 .bf16) (harg3 : arg3.IsWhole) (arg4 : MR S2048x1024 .f32) (harg4 : arg4.IsWhole) (arg5 : MR S1024x1024 .f32) (harg5 : arg5.IsWhole) (arg6 : MR S128x1024 .f32) (harg6 : arg6.IsWhole) (arg7 : MR S2048x1024 .bf16) (harg7 : arg7.IsWhole) (hc0 : ¬ k0_cond1 i = 1#1)
    (x0 : Vec F S1024x2048 .bf16) (xs : Vec F S2048x1024 .bf16) (E : Set ℕ) (K : PUnit → sProp 𝕄) :
    iprop(own c arg2 x0 ∗ (∃ d, own c arg5 d) ∗ own c arg7 xs
        ∗ (iprop(own c arg2 x0 ∗ own c arg5 (k0_pay3 x0 xs) ∗ own c arg7 xs) -∗ K ⟨⟩))
      ⊢ wp frame (wpE (defs₀ (F := F)) Variants.none c none) E (cc0_in_proj_rest i arg2 harg2 arg3 harg3 arg4 harg4 arg5 harg5 arg6 harg6 arg7 harg7) K := by
  simp only [cc0_in_proj_rest_eq_skeleton]; unfold cc0_in_proj_rest_skel
  unfold own owns
  iintro ⟨⟨%f0, %hf0, H0⟩, ⟨%d3, %f3, -, H3⟩, ⟨%fs, %hfs, HS⟩, Hk⟩
  obtain rfl := harg2.eq_unread hf0; obtain rfl := harg7.eq_unread hfs
  sl_exec (disch := first | sl_exact hc0)
  sl_step
  iapply Hk
  isplitl [H0]
  · iexists _; isplitr; · ipureintro; exact harg2.read_unread _
    iexact H0
  isplitl [H3]
  · iexists _; isplitr
    swap; · iexact H3
    ipureintro
    rw [View.read_writes_full, readAt_unread_full, readAt_unread_full]
  iexists _; isplitr; · ipureintro; exact harg7.read_unread _
  iexact HS

/-! ## What the points leave -/

/-- The weight block as the body keeps it. -/
def wb : Vec F S2048x1024 .bf16 := k0_pay1 (iblk m c 2 t)
/-- The block of the first output a point writes. -/
def o3 : Vec F S1024x1024 .f32 := k0_pay3 (iblk m c 0 t) (wb m c t)
/-- The block of the second output a column block's first point writes. -/
def o4 : Vec F S128x1024 .f32 := k0_pay2 (iblk m c 1 t) (wb m c t)

/-- The scratch operand, a whole scoped buffer. -/
abbrev scM : MR S2048x1024 .bf16 := Memref.whole cc0_scratch0

theorem PhiA_eq (c : Dev nD) :
    (Pipeline.ΦA spec0 c : sProp 𝕄) = iprop((∃ d, own c scM d) ∗ (∃ r, prngReg c r)) := by
  unfold Pipeline.ΦA; rw [scopedRest0_eq]; simp only [scM, owns_whole]; try rfl

/-- Between points: after the first, the kept weight block is the last point's. -/
def PhiS (c : Dev nD) : (n : ℕ) → n ≤ cfg0.N → sProp 𝕄
  | 0, _ => Pipeline.ΦA spec0 c
  | n + 1, hn => iprop(own c scM (wb m c ⟨n, hn⟩) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(own c scM (wb m c ⟨n, hn⟩) ∗ (∃ r, prngReg c r)) := rfl

theorem PhiS_pos (c : Dev nD) (n : ℕ) (h : n ≤ cfg0.N) (hz : n ≠ 0) :
    PhiS m c n h = iprop(own c scM (wb m c ⟨n - 1, by omega⟩) ∗ (∃ r, prngReg c r)) := by
  cases n with
  | zero => exact absurd rfl hz
  | succ n => rfl

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => o3 m c t
    | ⟨4, _⟩ => o4 m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc :
    (dats m 0 c).Φ t.castSucc = PhiS m c t.val (Nat.le_of_lt t.isLt) := by
  dsimp only [dats]; exact Pipeline.Dat.Φ_castSucc (PhiS m c) t

theorem after0 : (dats m 0 c).after 0 t = iblk m c 0 t := by dsimp only [dats]
theorem after1 : (dats m 0 c).after 1 t = iblk m c 1 t := by dsimp only [dats]
theorem after2 : (dats m 0 c).after 2 t = iblk m c 2 t := by dsimp only [dats]
theorem after3 : (dats m 0 c).after 3 t = o3 m c t := by dsimp only [dats]
theorem after4 : (dats m 0 c).after 4 t = o4 m c t := by dsimp only [dats]

theorem before0 (d) : (dats m 0 c).before 0 t d = iblk m c 0 t :=
  before0_0_of m (dats m 0 c) (A_eq m c 0) (after0 m c) t d
theorem before1 (d) : (dats m 0 c).before 1 t d = iblk m c 1 t :=
  before0_1_of m (dats m 0 c) (A_eq m c 1) (after1 m c) t d
theorem before2 (d) : (dats m 0 c).before 2 t d = iblk m c 2 t :=
  before0_2_of m (dats m 0 c) (A_eq m c 2) (after2 m c) t d

/-! ## Within a column block nothing but the first operand moves -/

/-- The point before. -/
abbrev prev (t : Fin cfg0.N) : Fin cfg0.N := ⟨t.val - 1, Nat.lt_of_le_of_lt (Nat.sub_le _ _) t.isLt⟩

/-- An input fetched at neither point has the same block at both. -/
theorem iblk1_prev (ht : t.val % 8 ≠ 0) : iblk m c 1 (prev t) = iblk m c 1 t := by
  have hf : (cfg0.win 1).fetch t = false := Bool.eq_false_iff.mpr fun e => by have := (fetch0_1 t).mp e; omega
  have h := (dats m 0 c).before_of_pos 1 t (by omega) hf (fun _ => Classical.arbitrary _)
  rw [before1, (cfg0.win 1).flush_in rfl, if_neg Bool.false_ne_true] at h
  rw [h]; exact (after1 m c (prev t)).symm

theorem iblk2_prev (ht : t.val % 8 ≠ 0) : iblk m c 2 (prev t) = iblk m c 2 t := by
  have hf : (cfg0.win 2).fetch t = false := Bool.eq_false_iff.mpr fun e => ht ((fetch0_2 t).mp e)
  have h := (dats m 0 c).before_of_pos 2 t (by omega) hf (fun _ => Classical.arbitrary _)
  rw [before2, (cfg0.win 2).flush_in rfl, if_neg Bool.false_ne_true] at h
  rw [h]; exact (after2 m c (prev t)).symm

theorem wb_prev (ht : t.val % 8 ≠ 0) : wb m c (prev t) = wb m c t := by
  unfold wb; rw [iblk2_prev m c t ht]

theorem o4_prev (ht : t.val % 8 ≠ 0) : o4 m c (prev t) = o4 m c t := by
  unfold o4; rw [iblk1_prev m c t ht, wb_prev m c t ht]

/-- The second output's buffer holds its block from the column block's first point on. -/
theorem before4 (c : Dev nD) : ∀ (n : ℕ) (t : Fin cfg0.N), t.val = n → t.val % 8 ≠ 0 → ∀ d, (dats m 0 c).before 4 t d = o4 m c t := by
  intro n
  induction n with
  | zero => intro t h0 ht; omega
  | succ n ih =>
    intro t hn ht d
    rw [(dats m 0 c).before_of_pos 4 t (by omega) ((cfg0.win 4).fetch_out rfl t) d]
    have hfl : (cfg0.win 4).flush (prev t) = false :=
      Bool.eq_false_iff.mpr fun e => by have := (flush0_4 (prev t)).mp e; simp only [prev] at this; omega
    rw [hfl, if_neg Bool.false_ne_true, ← o4_prev m c t ht]
    unfold Dat.left
    by_cases h : (prev t).val % 8 = 0
    · rw [live_of _ h]; exact after4 m c (prev t)
    · rw [idle_of _ h]; exact ih (prev t) (by simp only [prev]; omega) h d

/-- Where the second output is written, or was, its block is what the obligation asks for. -/
theorem leaves4 :
    owns (c : Thread nD τ) ((cfg0.win 4).stage (cfg0.slots t 4)) fullShare (o4 m c t) ⊢ ((dats m 0 c).leavesExact 4 t : sProp 𝕄) := by
  unfold Dat.leavesExact
  by_cases h : t.val % 8 = 0
  · rw [live_of t h]; rw [after4]
  · rw [idle_of t h]
    cases (cfg0.win 4).flush t
    · iintro H; iexists fun _ => Classical.arbitrary _
      rw [before4 m c _ t rfl h]; iexact H
    · rw [after4]

/-! ## The body at any point -/

/-- What the body is called with, -/
def bodyPre : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (dats m 0 c).leavesExact 4 t)

set_option maxHeartbeats 3200000 in
theorem sound_body :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).owesAt () t.succ = (dats m 0 c).owesAt () t.castSucc from rfl, after0, after1, after2, after3]
  rw [show (dats m 0 c).Φ t.succ = PhiS m c (t.val + 1) t.isLt from rfl, PhiS_succ, PhiS_castSucc m c t]
  by_cases h0 : t.val % 8 = 0
  · have hS : PhiS m c t.val (Nat.le_of_lt t.isLt) ⊢ iprop((∃ d, own c scM d) ∗ (∃ r, prngReg c r)) := by
      by_cases hz : t.val = 0
      · rw [PhiS_zero m c _ _ hz, PhiA_eq]
      · rw [PhiS_pos m c _ _ hz]; iintro ⟨HS, Hg⟩; isplitl [HS]; · iexists _; iexact HS
        iexact Hg
    refine (sep_mono hS .rfl).trans ?_
    iintro ⟨⟨HS, Hg⟩, Ho, ⟨%d0, H0⟩, ⟨%d1, H1⟩, ⟨%d2, H2⟩, ⟨%d3, H3⟩, ⟨%d4, H4⟩⟩
    iapply (runA c (grid0.coords t) _ _ _ _ _ _ _ _ _ _ _ _ ((cond_iff t).mpr h0) (iblk m c 0 t) (iblk m c 1 t) (iblk m c 2 t) Set.univ _)
    iframe H0 H1 H2
    isplitl [H3]; · iexists _; iexact H3
    isplitl [H4]; · iexists _; iexact H4
    isplitl [HS]; · iexact HS
    iintro ⟨H0, H1, H2, H3, H4, HS⟩
    isplitl [HS Hg]
    · isplitl [HS]; · iexact HS
      iexact Hg
    iframe Ho H0 H1 H2 H3
    iapply (leaves4 m c t)
    iexact H4
  · rw [PhiS_pos m c _ _ (by omega), show wb m c ⟨t.val - 1, by omega⟩ = wb m c t from wb_prev m c t h0]
    simp only [before4 m c _ t rfl h0]
    iintro ⟨⟨HS, Hg⟩, Ho, ⟨%d0, H0⟩, ⟨%d1, H1⟩, ⟨%d2, H2⟩, ⟨%d3, H3⟩, ⟨%d4, H4⟩⟩
    iapply (runB c (grid0.coords t) _ _ _ _ _ _ _ _ _ _ _ _ (fun h => h0 ((cond_iff t).mp h)) (iblk m c 0 t) (wb m c t) Set.univ _)
    isplitl [H0]; · iexact H0
    isplitl [H3]; · iexists _; iexact H3
    isplitl [HS]; · iexact HS
    iintro ⟨H0, H3, HS⟩
    isplitl [HS Hg]
    · isplitl [HS]; · iexact HS
      iexact Hg
    iframe Ho H0 H1 H2 H3
    iapply (leaves4 m c t)
    iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c cfg0.N (Nat.le_refl _) from rfl,
    PhiS_pos m c _ _ (by have : cfg0.N = 80 := N_0; omega), PhiA_eq]
  iintro ⟨HS, Hg⟩
  isplitl [HS]
  · iexists _; iexact HS
  iexact Hg

/-! ## The run and the frame -/

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged, and no semaphore is left raised. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.KernelIdeal.Hand

end
-- ==== Proof.InProj.Value.lean ====
/- The values of the projection over the extended reals: each block the kernel writes back is the block of the whole
   product, so the two arrays end as the reference's two products. -/
module

public import proofs.«01_k».proof.Proof.InProj.Run
public import proofs.«01_k».proof.Proof.Gen.ReferenceIdeal.Run
public import Idealize.ShloMosaic.Lib.Pointwise

@[expose] public section

set_option maxRecDepth 16384

noncomputable section

namespace Cert.KernelIdeal.Hand

open Idealize.ShloMosaic Idealize.ShloMosaic.TcCoe Idealize.ShloMosaic.Tactic
open Idealize.SL.Sem
open Idealize.ShloMosaic.Pipeline (Dat Cfg Window)
open Cert.KernelIdeal.Gen

variable (m : (ℓ : Loc nD τ sig) → Buf (Elt Ideal) ℓ) (ρ : Dev nD → PrngReg) (c : Dev nD) (t : Fin cfg0.N)

/-- The reference's first result as a function of the arguments. -/
def ref3 (a : FVec Ideal S8192x2048 .bf16) (w : FVec Ideal S1x2048x14336 .f32) : FVec Ideal S8192x10240 .f32 :=
  Host.dotGeneral Cert.ReferenceIdeal.dot_S8192x2048_S2048x10240_S8192x10240_1_0_0_1_n_n none (extf .f32 a Cert.ReferenceIdeal.Gen.bitsLt_bf16_f32)
    (extractStridedSlice Cert.ReferenceIdeal.S2048x10240 ![0, 2048] (shapeCast Cert.ReferenceIdeal.S2048x14336 w Cert.ReferenceIdeal.Gen.shapeCasts_S1x2048x14336_S2048x14336) Cert.ReferenceIdeal.Gen.slices_S2048x14336_S2048x10240_0_2048)

/-- The reference's second result as a function of the arguments. -/
def ref4 (a : FVec Ideal S128x2048 .bf16) (w : FVec Ideal S1x2048x14336 .f32) : FVec Ideal S128x10240 .f32 :=
  Host.dotGeneral Cert.ReferenceIdeal.dot_S128x2048_S2048x10240_S128x10240_1_0_0_1_n_n none (extf .f32 a Cert.ReferenceIdeal.Gen.bitsLt_bf16_f32)
    (extractStridedSlice Cert.ReferenceIdeal.S2048x10240 ![0, 2048] (shapeCast Cert.ReferenceIdeal.S2048x14336 w Cert.ReferenceIdeal.Gen.shapeCasts_S1x2048x14336_S2048x14336) Cert.ReferenceIdeal.Gen.slices_S2048x14336_S2048x10240_0_2048)

theorem ref3_apply (a : FVec Ideal S8192x2048 .bf16) (w : FVec Ideal S1x2048x14336 .f32) (i : S8192x10240.Idx) :
    ref3 a w i = ∑ k : Fin 2048, a (ix2 (i 0) k) * w (ix3 0 k ⟨2048 + (i 1).val, by have h : (i 1).val < 10240 := (i 1).isLt; omega⟩) := by
  pointwise [ref3]

theorem ref4_apply (a : FVec Ideal S128x2048 .bf16) (w : FVec Ideal S1x2048x14336 .f32) (i : S128x10240.Idx) :
    ref4 a w i = ∑ k : Fin 2048, a (ix2 (i 0) k) * w (ix3 0 k ⟨2048 + (i 1).val, by have h : (i 1).val < 10240 := (i 1).isLt; omega⟩) := by
  pointwise [ref4]

theorem pay3_apply (x : Vec Ideal S1024x2048 .bf16) (w : Vec Ideal S2048x1024 .f32) (y : S1024x1024.Idx) :
    k0_pay3 (F := Ideal) x (k0_pay1 w) y = ∑ k : Fin 2048, x (ix2 (y 0) k) * w (ix2 k (y 1)) := by
  pointwise [k0_pay3, k0_pay1]

theorem pay2_apply (x : Vec Ideal S128x2048 .bf16) (w : Vec Ideal S2048x1024 .f32) (y : S128x1024.Idx) :
    k0_pay2 (F := Ideal) x (k0_pay1 w) y = ∑ k : Fin 2048, x (ix2 (y 0) k) * w (ix2 k (y 1)) := by
  pointwise [k0_pay2, k0_pay1]

/-- The weights as the region finds them: the argument without its leading axis. -/
theorem V_main_v0 (c : Dev nD) : V m c main_v0 = shapeCast S2048x14336 (m ((c.tc : Thread nD τ).loc main_arg2)) shapeCasts_S1x2048x14336_S2048x14336 := by
  unfold V
  after_results <;> rfl

theorem cast_weights (w : Vec Ideal S1x2048x14336 .f32) (k : Fin 2048) (J : Fin 14336) :
    shapeCast S2048x14336 w shapeCasts_S1x2048x14336_S2048x14336 (ix2 k J) = w (ix3 0 k J) := by
  pointwise

/-! ## The blocks of the arguments at a point -/

/-- Which blocks the windows read and write at a point. -/
theorem index_facts : ∀ t : Fin cfg0.N, win0_0.index t 0 = t.val % 8 ∧ win0_0.index t 1 = 0 ∧ win0_1.index t 0 = 0 ∧ win0_1.index t 1 = 0
    ∧ win0_2.index t 0 = 0 ∧ win0_2.index t 1 = 2 + t.val / 8 ∧ win0_3.index t 0 = t.val % 8 ∧ win0_3.index t 1 = t.val / 8
    ∧ win0_4.index t 0 = 0 ∧ win0_4.index t 1 = t.val / 8 :=
  (by decide +kernel : ∀ t : Fin grid0.N, _)

theorem iblk0_apply (r : Fin 1024) (k : Fin 2048) (R : Fin 8192) (hR : R.val = t.val % 8 * 1024 + r.val) :
    iblk m c 0 t (ix2 r k) = m ((c.tc : Thread nD τ).loc main_arg0) (ix2 R k) := by
  show V m c main_arg0 (((cfg0.win 0).blk t).view.emb (ix2 r k)) = _
  rw [V_main_arg0]
  refine congrArg _ (Shape.idx_ext₂ ?_ ?_)
  · show win0_0.index t 0 * 1024 + 1 * r.val = R.val
    rw [(index_facts t).1, hR, Nat.one_mul]
  · show win0_0.index t 1 * 2048 + 1 * k.val = k.val
    rw [(index_facts t).2.1]; omega

theorem iblk1_apply (r : Fin 128) (k : Fin 2048) :
    iblk m c 1 t (ix2 r k) = m ((c.tc : Thread nD τ).loc main_arg1) (ix2 r k) := by
  show V m c main_arg1 (((cfg0.win 1).blk t).view.emb (ix2 r k)) = _
  rw [V_main_arg1]
  refine congrArg _ (Shape.idx_ext₂ ?_ ?_)
  · show win0_1.index t 0 * 128 + 1 * r.val = r.val
    rw [(index_facts t).2.2.1]; omega
  · show win0_1.index t 1 * 2048 + 1 * k.val = k.val
    rw [(index_facts t).2.2.2.1]; omega

theorem iblk2_apply (k : Fin 2048) (j : Fin 1024) (J : Fin 14336) (hJ : J.val = 2048 + (t.val / 8 * 1024 + j.val)) :
    iblk m c 2 t (ix2 k j) = m ((c.tc : Thread nD τ).loc main_arg2) (ix3 0 k J) := by
  show V m c main_v0 (((cfg0.win 2).blk t).view.emb (ix2 k j)) = _
  rw [V_main_v0]
  rw [show ((cfg0.win 2).blk t).view.emb (ix2 k j) = (ix2 k J : S2048x14336.Idx) from Shape.idx_ext₂
    (by show win0_2.index t 0 * 2048 + 1 * k.val = k.val; rw [(index_facts t).2.2.2.2.1]; omega)
    (by show win0_2.index t 1 * 1024 + 1 * j.val = J.val; rw [(index_facts t).2.2.2.2.2.1, hJ]; omega)]
  exact cast_weights _ k J

/-! ## What the two arrays end holding -/

theorem flushed3 :
    (dats m 0 c).flushed 3 t = ((cfg0.win 3).blk t).view.read (Elt Ideal)
      (ref3 (m ((c.tc : Thread nD τ).loc main_arg0)) (m ((c.tc : Thread nD τ).loc main_arg2))) := by
  show (cfg0.win 3).cut (grid0.coords t) ((dats m 0 c).after 3 t) = _
  rw [after3]
  funext y
  show k0_pay3 (F := Ideal) (iblk m c 0 t) (k0_pay1 (iblk m c 2 t)) (y : S1024x1024.Idx) = ref3 _ _ (((cfg0.win 3).blk t).view.emb y)
  have h0 : ((((cfg0.win 3).blk t).view.emb y : S8192x10240.Idx) 0).val = t.val % 8 * 1024 + ((y : S1024x1024.Idx) 0).val := by
    show win0_3.index t 0 * 1024 + 1 * _ = _
    rw [(index_facts t).2.2.2.2.2.2.1, Nat.one_mul]
  have h1 : ((((cfg0.win 3).blk t).view.emb y : S8192x10240.Idx) 1).val = t.val / 8 * 1024 + ((y : S1024x1024.Idx) 1).val := by
    show win0_3.index t 1 * 1024 + 1 * _ = _
    rw [(index_facts t).2.2.2.2.2.2.2.1, Nat.one_mul]
  rw [pay3_apply, ref3_apply]
  refine Finset.sum_congr rfl fun k _ => ?_
  exact Ideal.mul_congr (iblk0_apply m c t _ k _ h0) (iblk2_apply m c t k _ _ (congrArg (2048 + ·) h1))

theorem flushed4 :
    (dats m 0 c).flushed 4 t = ((cfg0.win 4).blk t).view.read (Elt Ideal)
      (ref4 (m ((c.tc : Thread nD τ).loc main_arg1)) (m ((c.tc : Thread nD τ).loc main_arg2))) := by
  show (cfg0.win 4).cut (grid0.coords t) ((dats m 0 c).after 4 t) = _
  rw [after4]
  funext y
  show k0_pay2 (F := Ideal) (iblk m c 1 t) (k0_pay1 (iblk m c 2 t)) (y : S128x1024.Idx) = ref4 _ _ (((cfg0.win 4).blk t).view.emb y)
  have h0 : (((cfg0.win 4).blk t).view.emb y : S128x10240.Idx) 0 = (y : S128x1024.Idx) 0 := Fin.ext (by
    show win0_4.index t 0 * 128 + 1 * _ = _
    rw [(index_facts t).2.2.2.2.2.2.2.2.1]; omega)
  have h1 : ((((cfg0.win 4).blk t).view.emb y : S128x10240.Idx) 1).val = t.val / 8 * 1024 + ((y : S128x1024.Idx) 1).val := by
    show win0_4.index t 1 * 1024 + 1 * _ = _
    rw [(index_facts t).2.2.2.2.2.2.2.2.2, Nat.one_mul]
  rw [pay2_apply, ref4_apply]
  refine Finset.sum_congr rfl fun k _ => ?_
  exact Ideal.mul_congr ((iblk1_apply m c t _ k).trans (congrArg (fun r => m ((c.tc : Thread nD τ).loc main_arg1) (ix2 r k)) h0.symm))
    (iblk2_apply m c t k _ _ (congrArg (2048 + ·) h1))

theorem mem_blk3 (t : Fin cfg0.N) (i : S8192x10240.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v1_0).slice (win0_3.rect t)).set ↔ _
  rw [View.set_slice_whole, Rect.mem_set_unit]
  exact Iff.rfl

theorem mem_blk4 (t : Fin cfg0.N) (i : S128x10240.Idx) :
    i ∈ ((cfg0.win 4).blk t).view.set ↔ ∀ a : Fin 2, win0_4.index t a * S128x1024.size a ≤ (i a).val ∧ (i a).val < win0_4.index t a * S128x1024.size a + S128x1024.size a := by
  show i ∈ ((View.whole main_v1_1).slice (win0_4.rect t)).set ↔ _
  rw [View.set_slice_whole, Rect.mem_set_unit]
  exact Iff.rfl

theorem final3 (c : Dev nD) : (dats m 0 c).arrAt 3 cfg0.N
    = ref3 (m ((c.tc : Thread nD τ).loc main_arg0)) (m ((c.tc : Thread nD τ).loc main_arg2)) :=
  (dats m 0 c).arrAt_eq_of_cover 3 _ (fun t _ => flushed3 m c t) (fun i => by
    have hi0 : ((i : S8192x10240.Idx) 0).val < 8192 := ((i : S8192x10240.Idx) 0).isLt
    have hi1 : ((i : S8192x10240.Idx) 1).val < 10240 := ((i : S8192x10240.Idx) 1).isLt
    have hN : cfg0.N = 80 := N_0
    refine ⟨⟨((i : S8192x10240.Idx) 1).val / 1024 * 8 + ((i : S8192x10240.Idx) 0).val / 1024, by omega⟩, flush0_3 _, ?_⟩
    refine (mem_blk3 _ i).mpr ?_
    intro a
    match a with
    | ⟨0, _⟩ =>
      show win0_3.index _ 0 * 1024 ≤ (i 0).val ∧ (i 0).val < win0_3.index _ 0 * 1024 + 1024
      rw [(index_facts _).2.2.2.2.2.2.1]; dsimp only; omega
    | ⟨1, _⟩ =>
      show win0_3.index _ 1 * 1024 ≤ (i 1).val ∧ (i 1).val < win0_3.index _ 1 * 1024 + 1024
      rw [(index_facts _).2.2.2.2.2.2.2.1]; dsimp only; omega)

theorem final4 (c : Dev nD) : (dats m 0 c).arrAt 4 cfg0.N
    = ref4 (m ((c.tc : Thread nD τ).loc main_arg1)) (m ((c.tc : Thread nD τ).loc main_arg2)) :=
  (dats m 0 c).arrAt_eq_of_cover 4 _ (fun t _ => flushed4 m c t) (fun i => by
    have hi0 : ((i : S128x10240.Idx) 0).val < 128 := ((i : S128x10240.Idx) 0).isLt
    have hi1 : ((i : S128x10240.Idx) 1).val < 10240 := ((i : S128x10240.Idx) 1).isLt
    have hN : cfg0.N = 80 := N_0
    refine ⟨⟨((i : S128x10240.Idx) 1).val / 1024 * 8 + 7, by omega⟩, (flush0_4 _).mpr (by dsimp only; omega), ?_⟩
    refine (mem_blk4 _ i).mpr ?_
    intro a
    match a with
    | ⟨0, _⟩ =>
      show win0_4.index _ 0 * 128 ≤ (i 0).val ∧ (i 0).val < win0_4.index _ 0 * 128 + 128
      rw [(index_facts _).2.2.2.2.2.2.2.2.1]; omega
    | ⟨1, _⟩ =>
      show win0_4.index _ 1 * 1024 ≤ (i 1).val ∧ (i 1).val < win0_4.index _ 1 * 1024 + 1024
      rw [(index_facts _).2.2.2.2.2.2.2.2.2]; dsimp only; omega)

/-- The kernel's run with its two results named. -/
theorem run_values : θ_run defs (onTc (τ := τ) (main (F := Ideal))) ⟨m, fun _ => 0, ρ⟩ fun r => ∀ c : Dev nD,
      r.2.mem ((c.tc : Thread nD τ).loc main_v1_0) = ref3 (m ((c.tc : Thread nD τ).loc main_arg0)) (m ((c.tc : Thread nD τ).loc main_arg2))
      ∧ r.2.mem ((c.tc : Thread nD τ).loc main_v1_1) = ref4 (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h.1 c).1 3).trans (final3 m c), ((h.1 c).1 4).trans (final4 m c), h.2.1 c⟩)
    (θ_run_and (run_main m ρ) (frame m ρ))

end Cert.KernelIdeal.Hand

end
-- ==== Proof.FfnUp.Run.lean ====
/- The run of the gated feed-forward kernel at every point of its grid, over any float type: what each point leaves in the two
   output blocks and in the kept weight blocks, the pipeline's proof data, and the run of the whole program. -/
module

public import proofs.«01_k».proof.Proof.Gen.Kernel2Ideal.Frame
public import proofs.«01_k».proof.Proof.Gen.Kernel2Ideal.Skeleton
public import proofs.«01_k».proof.Proof.Buffer
public import Idealize.ShloMosaic.Lib.Claim

@[expose] public section

set_option maxRecDepth 16384

noncomputable section

namespace Cert.Kernel2Ideal.Hand

open Idealize.ShloMosaic Idealize.ShloMosaic.TcCoe Idealize.ShloMosaic.Tactic Cert.Buffer
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel2Ideal.Gen

variable {F : FTy → Type} [FloatOps F]

local notation "𝕄" => MT nD τ sig Unit (Elt F) ℕ (UR sig nD τ) ℕ

/-- A buffer of the vector memory; the core holds it, whole, with these values. -/
abbrev MR (s : Shape) (e : EltTy) := Memref sig .tc .vmem s e
abbrev own {s : Shape} {e : EltTy} (c : Dev nD) (a : MR s e) (d : Vec F s e) : sProp 𝕄 :=
  owns (c : Thread nD τ) a fullShare d

variable (m : (ℓ : Loc nD τ sig) → Buf (Elt F) ℓ) (ρ : Dev nD → PrngReg) (c : Dev nD) (t : Fin cfg0.N)

/-- The body's condition in closed form: the first row block of each column block. -/
theorem cond_iff : ∀ t : Fin cfg0.N, k0_cond1 (grid0.coords t) = 1#1 ↔ t.val % 8 = 0 :=
  (by decide +kernel : ∀ t : Fin grid0.N, k0_cond1 (grid0.coords t) = 1#1 ↔ t.val % 8 = 0)

/-- The second output is left alone at the other points. -/
theorem idle_of (t : Fin cfg0.N) (h : t.val % 8 ≠ 0) : cfg0.idle 5 (grid0.coords t) = true := by
  have hc : ¬ k0_cond1 (grid0.coords t) = 1#1 := fun e => h ((cond_iff t).mp e)
  show (!(k0_cond1 (grid0.coords t) == 1#1)) = true
  rw [beq_eq_false_iff_ne.mpr hc]; rfl

theorem live_of (t : Fin cfg0.N) (h : t.val % 8 = 0) : cfg0.idle 5 (grid0.coords t) = false := by
  show (!(k0_cond1 (grid0.coords t) == 1#1)) = false
  rw [beq_iff_eq.mpr ((cond_iff t).mpr h)]; rfl

set_option maxHeartbeats 2000000 in
/-- The body where the weight blocks are new: it keeps them rounded, and writes both outputs. -/
theorem runA (c : Dev nD) (i : grid0.Coords) (arg2 : MR S1024x2048 .bf16) (harg2 : arg2.IsWhole) (arg3 : MR S128x2048 .bf16) (harg3 : arg3.IsWhole) (arg4 : MR S2048x512 .f32) (harg4 : arg4.IsWhole) (arg5 : MR S2048x512 .f32) (harg5 : arg5.IsWhole) (arg6 : MR S1024x512 .bf16) (harg6 : arg6.IsWhole) (arg7 : MR S128x512 .bf16) (harg7 : arg7.IsWhole) (arg8 : MR S2048x512 .bf16) (harg8 : arg8.IsWhole) (arg9 : MR S2048x512 .bf16) (harg9 : arg9.IsWhole) (hc0 : k0_cond1 i = 1#1)
    (x0 : Vec F S1024x2048 .bf16) (x1 : Vec F S128x2048 .bf16) (x2 x3 : Vec F S2048x512 .f32) (E : Set ℕ) (K : PUnit → sProp 𝕄) :
    iprop(own c arg2 x0 ∗ own c arg3 x1 ∗ own c arg4 x2 ∗ own c arg5 x3 ∗ (∃ d, own c arg6 d) ∗ (∃ d, own c arg7 d) ∗ (∃ d, own c arg8 d) ∗ (∃ d, own c arg9 d)
        ∗ (iprop(own c arg2 x0 ∗ own c arg3 x1 ∗ own c arg4 x2 ∗ own c arg5 x3 ∗ own c arg6 (k0_pay4 x0 (k0_pay1 x2) x0 (k0_pay2 x3)) ∗ own c arg7 (k0_pay3 x1 (k0_pay1 x2) x1 (k0_pay2 x3)) ∗ own c arg8 (k0_pay1 x2) ∗ own c arg9 (k0_pay2 x3)) -∗ K ⟨⟩))
      ⊢ wp frame (wpE (defs₀ (F := F)) Variants.none c none) E (cc0_ffn_up i arg2 harg2 arg3 harg3 arg4 harg4 arg5 harg5 arg6 harg6 arg7 harg7 arg8 harg8 arg9 harg9) K := by
  simp only [cc0_ffn_up_eq_skeleton]; unfold cc0_ffn_up_skel
  unfold own owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds0, %fs0, -, HS0⟩, ⟨%ds1, %fs1, -, HS1⟩, Hk⟩
  obtain rfl := harg2.eq_unread hf0
  obtain rfl := harg3.eq_unread hf1
  obtain rfl := harg4.eq_unread hf2
  obtain rfl := harg5.eq_unread hf3
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    rw [View.read_writes_full]; repeat rw [readAt_unread_full]
    unfold runA.sl.v30 runA.sl.v33 runA.sl.HS0_1 runA.sl.HS1_1
    repeat rw [View.readCov_full]
    repeat rw [readAt_unread_full]
  isplitl [H5]
  · iexists _; isplitr
    swap; · iexact H5
    ipureintro
    rw [View.read_writes_full]; repeat rw [readAt_unread_full]
    unfold runA.sl.v30 runA.sl.v33 runA.sl.HS0_1 runA.sl.HS1_1
    repeat rw [View.readCov_full]
    repeat rw [readAt_unread_full]
  isplitl [HS0]
  · iexists _; isplitr
    swap; · iexact HS0
    ipureintro
    unfold runA.sl.HS0_1
    rw [View.read_writes_full, readAt_unread_full]
  iexists _; isplitr
  swap; · iexact HS1
  ipureintro
  unfold runA.sl.HS1_1
  rw [View.read_writes_full, readAt_unread_full]

set_option maxHeartbeats 2000000 in
/-- The body at the other points: it reads the kept weight blocks and writes the first output only. -/
theorem runB (c : Dev nD) (i : grid0.Coords) (arg2 : MR S1024x2048 .bf16) (harg2 : arg2.IsWhole) (arg3 : MR S128x2048 .bf16) (harg3 : arg3.IsWhole) (arg4 : MR S2048x512 .f32) (harg4 : arg4.IsWhole) (arg5 : MR S2048x512 .f32) (harg5 : arg5.IsWhole) (arg6 : MR S1024x512 .bf16) (harg6 : arg6.IsWhole) (arg7 : MR S128x512 .bf16) (harg7 : arg7.IsWhole) (arg8 : MR S2048x512 .bf16) (harg8 : arg8.IsWhole) (arg9 : MR S2048x512 .bf16) (harg9 : arg9.IsWhole) (hc0 : ¬ k0_cond1 i = 1#1)
    (x0 : Vec F S1024x2048 .bf16) (s0 s1 : Vec F S2048x512 .bf16) (E : Set ℕ) (K : PUnit → sProp 𝕄) :
    iprop(own c arg2 x0 ∗ (∃ d, own c arg6 d) ∗ own c arg8 s0 ∗ own c arg9 s1
        ∗ (iprop(own c arg2 x0 ∗ own c arg6 (k0_pay4 x0 s0 x0 s1) ∗ own c arg8 s0 ∗ own c arg9 s1) -∗ K ⟨⟩))
      ⊢ wp frame (wpE (defs₀ (F := F)) Variants.none c none) E (cc0_ffn_up i arg2 harg2 arg3 harg3 arg4 harg4 arg5 harg5 arg6 harg6 arg7 harg7 arg8 harg8 arg9 harg9) K := by
  simp only [cc0_ffn_up_eq_skeleton]; unfold cc0_ffn_up_skel
  unfold own owns
  iintro ⟨⟨%f0, %hf0, H0⟩, ⟨%d4, %f4, -, H4⟩, ⟨%fs0, %hfs0, HS0⟩, ⟨%fs1, %hfs1, HS1⟩, Hk⟩
  obtain rfl := harg2.eq_unread hf0
  obtain rfl := harg8.eq_unread hfs0
  obtain rfl := harg9.eq_unread hfs1
  sl_exec (disch := first | sl_exact hc0)
  sl_step
  iapply Hk
  isplitl [H0]
  · iexists _; isplitr; · ipureintro; exact harg2.read_unread _
    iexact H0
  isplitl [H4]
  · iexists _; isplitr
    swap; · iexact H4
    ipureintro
    rw [View.read_writes_full]; repeat rw [readAt_unread_full]
  isplitl [HS0]
  · iexists _; isplitr; · ipureintro; exact harg8.read_unread _
    iexact HS0
  iexists _; isplitr; · ipureintro; exact harg9.read_unread _
  iexact HS1

/-! ## What the points leave -/

/-- A weight block as the body keeps it. -/
def wb0 : Vec F S2048x512 .bf16 := k0_pay1 (iblk m c 2 t)
/-- A weight block as the body keeps it. -/
def wb1 : Vec F S2048x512 .bf16 := k0_pay2 (iblk m c 3 t)
/-- The block of the first output a point writes. -/
def oP : Vec F S1024x512 .bf16 := k0_pay4 (iblk m c 0 t) (wb0 m c t) (iblk m c 0 t) (wb1 m c t)
/-- The block of the second output a column block's first point writes. -/
def oS : Vec F S128x512 .bf16 := k0_pay3 (iblk m c 1 t) (wb0 m c t) (iblk m c 1 t) (wb1 m c t)

/-- A scratch operand, a whole scoped buffer. -/
abbrev scM0 : MR S2048x512 .bf16 := Memref.whole cc0_scratch0
/-- A scratch operand, a whole scoped buffer. -/
abbrev scM1 : MR S2048x512 .bf16 := Memref.whole cc0_scratch1

theorem PhiA_eq (c : Dev nD) :
    (Pipeline.ΦA spec0 c : sProp 𝕄) = iprop(((∃ d, own c scM0 d) ∗ (∃ d, own c scM1 d)) ∗ (∃ r, prngReg c r)) := by
  unfold Pipeline.ΦA; rw [scopedRest0_eq]; simp only [scM0, scM1, owns_whole]; try rfl

/-- Between points: after the first, the kept weight blocks are the last point's. -/
def PhiS (c : Dev nD) : (n : ℕ) → n ≤ cfg0.N → sProp 𝕄
  | 0, _ => Pipeline.ΦA spec0 c
  | n + 1, hn => iprop(own c scM0 (wb0 m c ⟨n, hn⟩) ∗ own c scM1 (wb1 m c ⟨n, hn⟩) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(own c scM0 (wb0 m c ⟨n, hn⟩) ∗ own c scM1 (wb1 m c ⟨n, hn⟩) ∗ (∃ r, prngReg c r)) := rfl

theorem PhiS_pos (c : Dev nD) (n : ℕ) (h : n ≤ cfg0.N) (hz : n ≠ 0) :
    PhiS m c n h = iprop(own c scM0 (wb0 m c ⟨n - 1, by omega⟩) ∗ own c scM1 (wb1 m c ⟨n - 1, by omega⟩) ∗ (∃ r, prngReg c r)) := by
  cases n with
  | zero => exact absurd rfl hz
  | succ n => rfl

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => oP m c t
    | ⟨5, _⟩ => oS m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc :
    (dats m 0 c).Φ t.castSucc = PhiS m c t.val (Nat.le_of_lt t.isLt) := by
  dsimp only [dats]; exact Pipeline.Dat.Φ_castSucc (PhiS m c) t

theorem after0 : (dats m 0 c).after 0 t = iblk m c 0 t := by dsimp only [dats]
theorem after1 : (dats m 0 c).after 1 t = iblk m c 1 t := by dsimp only [dats]
theorem after2 : (dats m 0 c).after 2 t = iblk m c 2 t := by dsimp only [dats]
theorem after3 : (dats m 0 c).after 3 t = iblk m c 3 t := by dsimp only [dats]
theorem after4 : (dats m 0 c).after 4 t = oP m c t := by dsimp only [dats]
theorem after5 : (dats m 0 c).after 5 t = oS m c t := by dsimp only [dats]

theorem before0 (d) : (dats m 0 c).before 0 t d = iblk m c 0 t :=
  before0_0_of m (dats m 0 c) (A_eq m c 0) (after0 m c) t d
theorem before1 (d) : (dats m 0 c).before 1 t d = iblk m c 1 t :=
  before0_1_of m (dats m 0 c) (A_eq m c 1) (after1 m c) t d
theorem before2 (d) : (dats m 0 c).before 2 t d = iblk m c 2 t :=
  before0_2_of m (dats m 0 c) (A_eq m c 2) (after2 m c) t d
theorem before3 (d) : (dats m 0 c).before 3 t d = iblk m c 3 t :=
  before0_3_of m (dats m 0 c) (A_eq m c 3) (after3 m c) t d

/-! ## Within a column block only the row operands move -/

/-- The point before. -/
abbrev prev (t : Fin cfg0.N) : Fin cfg0.N := ⟨t.val - 1, Nat.lt_of_le_of_lt (Nat.sub_le _ _) t.isLt⟩

theorem iblk1_prev (ht : t.val % 8 ≠ 0) : iblk m c 1 (prev t) = iblk m c 1 t := by
  have hf : (cfg0.win 1).fetch t = false := Bool.eq_false_iff.mpr fun e => by have := (fetch0_1 t).mp e; omega
  have h := (dats m 0 c).before_of_pos 1 t (by omega) hf (fun _ => Classical.arbitrary _)
  rw [before1, (cfg0.win 1).flush_in rfl, if_neg Bool.false_ne_true] at h
  rw [h]; exact (after1 m c (prev t)).symm

theorem iblk2_prev (ht : t.val % 8 ≠ 0) : iblk m c 2 (prev t) = iblk m c 2 t := by
  have hf : (cfg0.win 2).fetch t = false := Bool.eq_false_iff.mpr fun e => by have := (fetch0_2 t).mp e; omega
  have h := (dats m 0 c).before_of_pos 2 t (by omega) hf (fun _ => Classical.arbitrary _)
  rw [before2, (cfg0.win 2).flush_in rfl, if_neg Bool.false_ne_true] at h
  rw [h]; exact (after2 m c (prev t)).symm

theorem iblk3_prev (ht : t.val % 8 ≠ 0) : iblk m c 3 (prev t) = iblk m c 3 t := by
  have hf : (cfg0.win 3).fetch t = false := Bool.eq_false_iff.mpr fun e => by have := (fetch0_3 t).mp e; omega
  have h := (dats m 0 c).before_of_pos 3 t (by omega) hf (fun _ => Classical.arbitrary _)
  rw [before3, (cfg0.win 3).flush_in rfl, if_neg Bool.false_ne_true] at h
  rw [h]; exact (after3 m c (prev t)).symm

theorem wb0_prev (ht : t.val % 8 ≠ 0) : wb0 m c (prev t) = wb0 m c t := by
  unfold wb0; rw [iblk2_prev m c t ht]

theorem wb1_prev (ht : t.val % 8 ≠ 0) : wb1 m c (prev t) = wb1 m c t := by
  unfold wb1; rw [iblk3_prev m c t ht]

theorem oS_prev (ht : t.val % 8 ≠ 0) : oS m c (prev t) = oS m c t := by
  unfold oS; rw [iblk1_prev m c t ht, wb0_prev m c t ht, wb1_prev m c t ht]

/-- The second output's buffer holds its block from the column block's first point on. -/
theorem before5 (c : Dev nD) : ∀ (n : ℕ) (t : Fin cfg0.N), t.val = n → t.val % 8 ≠ 0 → ∀ d, (dats m 0 c).before 5 t d = oS m c t := by
  intro n
  induction n with
  | zero => intro t h0 ht; omega
  | succ n ih =>
    intro t hn ht d
    rw [(dats m 0 c).before_of_pos 5 t (by omega) ((cfg0.win 5).fetch_out rfl t) d]
    have hfl : (cfg0.win 5).flush (prev t) = false :=
      Bool.eq_false_iff.mpr fun e => by have := (flush0_5 (prev t)).mp e; simp only [prev] at this; omega
    rw [hfl, if_neg Bool.false_ne_true, ← oS_prev m c t ht]
    unfold Dat.left
    by_cases h : (prev t).val % 8 = 0
    · rw [live_of _ h]; exact after5 m c (prev t)
    · rw [idle_of _ h]; exact ih (prev t) (by simp only [prev]; omega) h d

/-- Where the second output is written, or was, its block is what the obligation asks for. -/
theorem leaves5 :
    owns (c : Thread nD τ) ((cfg0.win 5).stage (cfg0.slots t 5)) fullShare (oS m c t) ⊢ ((dats m 0 c).leavesExact 5 t : sProp 𝕄) := by
  unfold Dat.leavesExact
  by_cases h : t.val % 8 = 0
  · rw [live_of t h]; rw [after5]
  · rw [idle_of t h]
    cases (cfg0.win 5).flush t
    · iintro H; iexists fun _ => Classical.arbitrary _
      rw [before5 m c _ t rfl h]; iexact H
    · rw [after5]

/-! ## The body at any point -/

/-- What the body is called with, -/
def bodyPre : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (dats m 0 c).leavesExact 5 t)

set_option maxHeartbeats 3200000 in
theorem sound_body :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl, after0, after1, after2, after3, after4]
  rw [show (dats m 0 c).Φ t.succ = PhiS m c (t.val + 1) t.isLt from rfl, PhiS_succ, PhiS_castSucc m c t]
  by_cases h0 : t.val % 8 = 0
  · have hS : PhiS m c t.val (Nat.le_of_lt t.isLt) ⊢ iprop((∃ d, own c scM0 d) ∗ (∃ d, own c scM1 d) ∗ (∃ r, prngReg c r)) := by
      by_cases hz : t.val = 0
      · rw [PhiS_zero m c _ _ hz, PhiA_eq]
        iintro ⟨⟨HS0, HS1⟩, Hg⟩
        iframe HS0 HS1 Hg
      · rw [PhiS_pos m c _ _ hz]; iintro ⟨HS0, HS1, Hg⟩
        isplitl [HS0]; · iexists _; iexact HS0
        isplitl [HS1]; · iexists _; iexact HS1
        iexact Hg
    refine (sep_mono hS .rfl).trans ?_
    iintro ⟨⟨HS0, HS1, Hg⟩, Ho, ⟨%d0, H0⟩, ⟨%d1, H1⟩, ⟨%d2, H2⟩, ⟨%d3, H3⟩, ⟨%d4, H4⟩, ⟨%d5, H5⟩⟩
    iapply (runA c (grid0.coords t) _ _ _ _ _ _ _ _ _ _ _ _ _ _ _ _ ((cond_iff t).mpr h0) (iblk m c 0 t) (iblk m c 1 t) (iblk m c 2 t) (iblk m c 3 t) Set.univ _)
    iframe H0 H1 H2 H3
    isplitl [H4]; · iexists _; iexact H4
    isplitl [H5]; · iexists _; iexact H5
    isplitl [HS0]; · iexact HS0
    isplitl [HS1]; · iexact HS1
    iintro ⟨H0, H1, H2, H3, H4, H5, HS0, HS1⟩
    isplitl [HS0 HS1 Hg]
    · iframe HS0 HS1 Hg
    iframe Ho H0 H1 H2 H3 H4
    iapply (leaves5 m c t)
    iexact H5
  · rw [PhiS_pos m c _ _ (by omega), show wb0 m c ⟨t.val - 1, by omega⟩ = wb0 m c t from wb0_prev m c t h0, show wb1 m c ⟨t.val - 1, by omega⟩ = wb1 m c t from wb1_prev m c t h0]
    simp only [before5 m c _ t rfl h0]
    iintro ⟨⟨HS0, HS1, Hg⟩, Ho, ⟨%d0, H0⟩, ⟨%d1, H1⟩, ⟨%d2, H2⟩, ⟨%d3, H3⟩, ⟨%d4, H4⟩, ⟨%d5, H5⟩⟩
    iapply (runB c (grid0.coords t) _ _ _ _ _ _ _ _ _ _ _ _ _ _ _ _ (fun h => h0 ((cond_iff t).mp h)) (iblk m c 0 t) (wb0 m c t) (wb1 m c t) Set.univ _)
    isplitl [H0]; · iexact H0
    isplitl [H4]; · iexists _; iexact H4
    isplitl [HS0]; · iexact HS0
    isplitl [HS1]; · iexact HS1
    iintro ⟨H0, H4, HS0, HS1⟩
    isplitl [HS0 HS1 Hg]
    · iframe HS0 HS1 Hg
    iframe Ho H0 H1 H2 H3 H4
    iapply (leaves5 m c t)
    iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c cfg0.N (Nat.le_refl _) from rfl,
    PhiS_pos m c _ _ (by have : cfg0.N = 88 := N_0; omega), PhiA_eq]
  iintro ⟨HS0, HS1, Hg⟩
  isplitl [HS0 HS1]
  · isplitl [HS0]
    · iexists _; iexact HS0
    iexists _; iexact HS1
  iexact Hg

/-! ## The run and the frame -/

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged, and no semaphore is left raised. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.Kernel2Ideal.Hand

end
-- ==== Proof.Sigmoid.lean ====
/- The logistic function through the hyperbolic tangent over the extended reals, and the two gate forms built on it. -/
module

public import Idealize.ShloMosaic.Lib.Pointwise
public import Idealize.ShloMosaic.Lib.IdealHost

@[expose] public section

noncomputable section

namespace Cert.Sigmoid

open Idealize.ShloMosaic

/-- The constant one half. -/
theorem half_eq : Ideal.ofBits .f32 0x3F000000#32 = ((1 / 2 : ℝ) : EReal) := by
  simp [Ideal.ofBits, Ideal.ieee, -EReal.coe_mul]; norm_num

theorem real_logistic (r : ℝ) : (1 + Real.exp (-r))⁻¹ = 1 / 2 * (1 + Real.tanh (1 / 2 * r)) := by
  have h1 : Real.exp (-r) = Real.exp (-(1 / 2 * r)) * Real.exp (-(1 / 2 * r)) := by rw [← Real.exp_add]; congr 1; ring
  have h2 : Real.exp (1 / 2 * r) * Real.exp (-(1 / 2 * r)) = 1 := by rw [← Real.exp_add]; simp
  have p1 := Real.exp_pos (1 / 2 * r)
  have p2 := Real.exp_pos (-(1 / 2 * r))
  rw [Real.tanh_eq_sinh_div_cosh, Real.sinh_eq, Real.cosh_eq, h1]
  generalize Real.exp (1 / 2 * r) = a at *
  generalize Real.exp (-(1 / 2 * r)) = b at *
  have hs : a + b ≠ 0 := by positivity
  have hb : 1 + b * b ≠ 0 := by positivity
  field_simp
  nlinarith [h2]

/-- `σ x = (1 + tanh (x / 2)) / 2`, the infinities included. -/
theorem logistic_eq (x : EReal) :
    Ideal.logistic x = ((1 / 2 : ℝ) : EReal) * (1 + Ideal.tanh (((1 / 2 : ℝ) : EReal) * x)) := by
  induction x with
  | bot =>
    rw [Ideal.logistic_bot, EReal.coe_mul_bot_of_pos (by norm_num), Ideal.tanh_bot]
    rw [show (1 : EReal) + -1 = 0 from by rw [← EReal.coe_one, ← EReal.coe_neg, ← EReal.coe_add]; simp, mul_zero]
  | top =>
    rw [Ideal.logistic_top, EReal.coe_mul_top_of_pos (by norm_num), Ideal.tanh_top]
    rw [← EReal.coe_one, ← EReal.coe_add, ← EReal.coe_mul]; norm_num
  | coe r =>
    rw [Ideal.logistic_coe, ← EReal.coe_mul, Ideal.tanh_coe, ← EReal.coe_one, ← EReal.coe_add, ← EReal.coe_mul, real_logistic]

theorem half_mul_add (a b : EReal) : ((1 / 2 : ℝ) : EReal) * (a + b) = ((1 / 2 : ℝ) : EReal) * a + ((1 / 2 : ℝ) : EReal) * b :=
  EReal.left_distrib_of_nonneg_of_ne_top (by exact_mod_cast (by norm_num : (0 : ℝ) ≤ 1 / 2)) (EReal.coe_ne_top _) a b

/-- Two branches weighted by logistic gates. -/
theorem merge_eq (x y a b : EReal) :
    ((1 / 2 : ℝ) : EReal) * ((1 + Ideal.tanh (((1 / 2 : ℝ) : EReal) * x)) * a + (1 + Ideal.tanh (((1 / 2 : ℝ) : EReal) * y)) * b)
      = Ideal.logistic x * a + Ideal.logistic y * b := by
  rw [half_mul_add, ← mul_assoc, ← mul_assoc, ← logistic_eq, ← logistic_eq]

/-- A value times its own logistic, at a finite value. -/
theorem swish_eq (r : ℝ) :
    ((1 / 2 : ℝ) : EReal) * (r : EReal) + ((1 / 2 : ℝ) : EReal) * (r : EReal) * Ideal.tanh (((1 / 2 : ℝ) : EReal) * (r : EReal))
      = (r : EReal) * Ideal.logistic (r : EReal) := by
  rw [logistic_eq, ← EReal.coe_mul, Ideal.tanh_coe, ← EReal.coe_mul, ← EReal.coe_add, ← EReal.coe_one, ← EReal.coe_add, ← EReal.coe_mul,
    ← EReal.coe_mul]
  congr 1; ring

/-- A sum of products of finite values is finite. -/
theorem sum_real {ι : Type} [Fintype ι] (f g : ι → EReal) (hf : ∀ k, ∃ r : ℝ, f k = r) (hg : ∀ k, ∃ r : ℝ, g k = r) :
    ∃ r : ℝ, ∑ k, f k * g k = (r : EReal) := by
  choose a ha using hf
  choose b hb using hg
  refine ⟨∑ k, a k * b k, ?_⟩
  simp only [ha, hb, ← EReal.coe_mul]
  exact (map_sum (⟨⟨fun r : ℝ => (r : EReal), EReal.coe_zero⟩, EReal.coe_add⟩ : ℝ →+ EReal) _ _).symm

/-- What differs from itself by nothing is finite. -/
theorem real_of_sub_self {x : EReal} (h : x - x = 0) : ∃ r : ℝ, x = r := by
  induction x with
  | bot => simp at h
  | top => simp at h
  | coe r => exact ⟨r, rfl⟩

end Cert.Sigmoid

end
-- ==== Proof.FfnUp.Value.lean ====
/- The values of the two feed-forward products with their gate over the extended reals: each block the kernel writes back is the block of the
   reference's result, so the two arrays end as the reference's two results. -/
module

public import proofs.«01_k».proof.Proof.FfnUp.Run
public import proofs.«01_k».proof.Proof.Sigmoid
public import proofs.«01_k».proof.Proof.Gen.Reference2Ideal.Run
public import Idealize.ShloMosaic.Lib.Pointwise
public import Idealize.ShloMosaic.Lib.ReduceAll
public import proofs.«01_k».proof.Pre_finite_gate_input

@[expose] public section

set_option maxRecDepth 16384

noncomputable section

namespace Cert.Reference2Ideal.Hand

open Idealize.ShloMosaic
open Cert.Reference2Ideal Cert.Reference2Ideal.Gen

/-- The reference's first result as a function of the arguments. -/
def refP (a0 : FVec Ideal S8192x2048 .bf16) (a2 a3 : FVec Ideal S1x2048x5632 .f32) : FVec Ideal S8192x5632 .bf16 :=
  truncf .bf16 (mulf (mulf (Host.dotGeneral dot_S8192x2048_S2048x5632_S8192x5632_1_0_0_1_n_n none (extf .f32 a0 bitsLt_bf16_f32) (shapeCast _ a2 shapeCasts_S1x2048x5632_S2048x5632)) (Host.divf (broadcastInDim S8192x5632 ![] bcast_S_S8192x5632 (constant S_ .f32 0x3F800000#32)) (addf (broadcastInDim S8192x5632 ![] bcast_S_S8192x5632 (constant S_ .f32 0x3F800000#32)) (Host.exp (Host.negf (Host.dotGeneral dot_S8192x2048_S2048x5632_S8192x5632_1_0_0_1_n_n none (extf .f32 a0 bitsLt_bf16_f32) (shapeCast _ a2 shapeCasts_S1x2048x5632_S2048x5632))))))) (Host.dotGeneral dot_S8192x2048_S2048x5632_S8192x5632_1_0_0_1_n_n none (extf .f32 a0 bitsLt_bf16_f32) (shapeCast _ a3 shapeCasts_S1x2048x5632_S2048x5632))) bitsLt_bf16_f32

/-- The reference's second result as a function of the arguments. -/
def refS (a1 : FVec Ideal S128x2048 .bf16) (a2 a3 : FVec Ideal S1x2048x5632 .f32) : FVec Ideal S128x5632 .bf16 :=
  truncf .bf16 (mulf (mulf (Host.dotGeneral dot_S128x2048_S2048x5632_S128x5632_1_0_0_1_n_n none (extf .f32 a1 bitsLt_bf16_f32) (shapeCast _ a2 shapeCasts_S1x2048x5632_S2048x5632)) (Host.divf (broadcastInDim S128x5632 ![] bcast_S_S128x5632 (constant S_ .f32 0x3F800000#32)) (addf (broadcastInDim S128x5632 ![] bcast_S_S128x5632 (constant S_ .f32 0x3F800000#32)) (Host.exp (Host.negf (Host.dotGeneral dot_S128x2048_S2048x5632_S128x5632_1_0_0_1_n_n none (extf .f32 a1 bitsLt_bf16_f32) (shapeCast _ a2 shapeCasts_S1x2048x5632_S2048x5632))))))) (Host.dotGeneral dot_S128x2048_S2048x5632_S128x5632_1_0_0_1_n_n none (extf .f32 a1 bitsLt_bf16_f32) (shapeCast _ a3 shapeCasts_S1x2048x5632_S2048x5632))) bitsLt_bf16_f32

end Cert.Reference2Ideal.Hand

namespace Cert.Kernel2Ideal.Hand

open Idealize.ShloMosaic Idealize.ShloMosaic.TcCoe Idealize.ShloMosaic.Tactic
open Idealize.SL.Sem
open Idealize.ShloMosaic.Pipeline (Dat Cfg Window)
open Cert.Kernel2Ideal.Gen
open Cert.Reference2Ideal.Hand (refP refS)

variable (m : (ℓ : Loc nD τ sig) → Buf (Elt Ideal) ℓ) (ρ : Dev nD → PrngReg) (c : Dev nD) (t : Fin cfg0.N)

/-- One entry of a projection: a row of activations against a column of weights. -/
def entry {n : Nat} (a : FVec Ideal ⟨2, ![n, 2048]⟩ .bf16) (w : FVec Ideal S1x2048x5632 .f32) (r : Fin n) (j : Fin 5632) : EReal :=
  ∑ k : Fin 2048, a (ix2 r k) * w (ix3 0 k j)

/-- The activations and the gate's weights are finite. -/
def Finite (m : (ℓ : Loc nD τ sig) → Buf (Elt Ideal) ℓ) : Prop := ∀ c : Dev nD,
  (∀ i : S8192x2048.Idx, ∃ r : ℝ, m ((c.tc : Thread nD τ).loc main_arg0) i = (r : EReal))
  ∧ (∀ i : S128x2048.Idx, ∃ r : ℝ, m ((c.tc : Thread nD τ).loc main_arg1) i = (r : EReal))
  ∧ (∀ i : S1x2048x5632.Idx, ∃ r : ℝ, m ((c.tc : Thread nD τ).loc main_arg2) i = (r : EReal))

instance : Subsingleton Cert.Pre_finite_gate_input.S_.Idx := ⟨fun a b => funext fun x => x.elim0⟩

theorem finite_entry {x : EReal} (h : Ideal.cmp .oeq (x - x) (Ideal.ofBits .f32 0x00000000#32) = 1#1) : ∃ r : ℝ, x = r := by
  rw [Ideal.ofBits_zero_f32] at h
  refine Cert.Sigmoid.real_of_sub_self ?_
  by_contra hn
  simp [Ideal.cmp, hn] at h

/-- What the precondition says of the three arrays. -/
theorem finite_of_pre [Cert.Pre_finite_gate_input.Facts] (a0 : FVec Ideal S8192x2048 .bf16) (a1 : FVec Ideal S128x2048 .bf16)
    (g u : FVec Ideal S1x2048x5632 .f32) (h : Cert.Pre_finite_gate_input.fn (F := Ideal) a0 a1 g u = fun _ => 1#1) :
    (∀ i, ∃ r : ℝ, a0 i = (r : EReal)) ∧ (∀ i, ∃ r : ℝ, a1 i = (r : EReal)) ∧ (∀ i, ∃ r : ℝ, g i = (r : EReal)) := by
  have h := congrFun h fun a => a.elim0
  obtain ⟨h12, h3⟩ := IntOp.andi_eq_one.1 h
  obtain ⟨h1, h2⟩ := IntOp.andi_eq_one.1 h12
  exact ⟨fun i => finite_entry (Host.reduce_andi_all _ _ _ _ _ h1 i), fun i => finite_entry (Host.reduce_andi_all _ _ _ _ _ h2 i),
    fun i => finite_entry (Host.reduce_andi_all _ _ _ _ _ h3 i)⟩

theorem refP_apply (a : FVec Ideal S8192x2048 .bf16) (g u : FVec Ideal S1x2048x5632 .f32) (i : S8192x5632.Idx) :
    refP a g u i = entry a g (i 0) (i 1) * Ideal.logistic (entry a g (i 0) (i 1)) * entry a u (i 0) (i 1) := by
  pointwise [refP, entry]
  rfl

theorem refS_apply (a : FVec Ideal S128x2048 .bf16) (g u : FVec Ideal S1x2048x5632 .f32) (i : S128x5632.Idx) :
    refS a g u i = entry a g (i 0) (i 1) * Ideal.logistic (entry a g (i 0) (i 1)) * entry a u (i 0) (i 1) := by
  pointwise [refS, entry]
  rfl

/-- A block of the first result from the two products it is made of, the gate's product finite. -/
theorem pay4_eq (x : Vec Ideal S1024x2048 .bf16) (g u : Vec Ideal S2048x512 .f32) (y : S1024x512.Idx) (a b : EReal) (ha : ∃ r : ℝ, a = r)
    (hg : ∑ k : Fin 2048, x (ix2 (y 0) k) * g (ix2 k (y 1)) = a) (hu : ∑ k : Fin 2048, x (ix2 (y 0) k) * u (ix2 k (y 1)) = b) :
    k0_pay4 (F := Ideal) x (k0_pay1 g) x (k0_pay2 u) y = a * Ideal.logistic a * b := by
  obtain ⟨r, rfl⟩ := ha
  rw [← Cert.Sigmoid.swish_eq, ← Cert.Sigmoid.half_eq, ← hg, ← hu]
  pointwise [k0_pay4, k0_pay1, k0_pay2]

theorem pay3_eq (x : Vec Ideal S128x2048 .bf16) (g u : Vec Ideal S2048x512 .f32) (y : S128x512.Idx) (a b : EReal) (ha : ∃ r : ℝ, a = r)
    (hg : ∑ k : Fin 2048, x (ix2 (y 0) k) * g (ix2 k (y 1)) = a) (hu : ∑ k : Fin 2048, x (ix2 (y 0) k) * u (ix2 k (y 1)) = b) :
    k0_pay3 (F := Ideal) x (k0_pay1 g) x (k0_pay2 u) y = a * Ideal.logistic a * b := by
  obtain ⟨r, rfl⟩ := ha
  rw [← Cert.Sigmoid.swish_eq, ← Cert.Sigmoid.half_eq, ← hg, ← hu]
  pointwise [k0_pay3, k0_pay1, k0_pay2]

theorem cast_weights (w : Vec Ideal S1x2048x5632 .f32) (k : Fin 2048) (J : Fin 5632) :
    shapeCast S2048x5632 w shapeCasts_S1x2048x5632_S2048x5632 (ix2 k J) = w (ix3 0 k J) := by
  pointwise

/-! ## The blocks of the arguments at a point -/

theorem idx0 : ∀ t : Fin cfg0.N, win0_0.index t 0 = t.val % 8 ∧ win0_0.index t 1 = 0 :=
  (by decide +kernel : ∀ t : Fin grid0.N, _)

theorem iblk0_apply (r : Fin 1024) (k : Fin 2048) (R : Fin 8192) (K : Fin 2048)
    (hR : R.val = (t.val % 8) * 1024 + r.val) (hK : K.val = (0) * 2048 + k.val) :
    iblk m c 0 t (ix2 r k) = m ((c.tc : Thread nD τ).loc main_arg0) (ix2 R K) := by
  show V m c main_arg0 (((cfg0.win 0).blk t).view.emb (ix2 r k)) = _
  rw [V_main_arg0, show ((cfg0.win 0).blk t).view.emb (ix2 r k) = (ix2 R K : S8192x2048.Idx) from Shape.idx_ext₂
    (by show win0_0.index t 0 * 1024 + 1 * r.val = R.val; rw [(idx0 t).1, hR]; omega)
    (by show win0_0.index t 1 * 2048 + 1 * k.val = K.val; rw [(idx0 t).2, hK]; omega)]

theorem idx1 : ∀ t : Fin cfg0.N, win0_1.index t 0 = 0 ∧ win0_1.index t 1 = 0 :=
  (by decide +kernel : ∀ t : Fin grid0.N, _)

theorem iblk1_apply (r : Fin 128) (k : Fin 2048) (R : Fin 128) (K : Fin 2048)
    (hR : R.val = (0) * 128 + r.val) (hK : K.val = (0) * 2048 + k.val) :
    iblk m c 1 t (ix2 r k) = m ((c.tc : Thread nD τ).loc main_arg1) (ix2 R K) := by
  show V m c main_arg1 (((cfg0.win 1).blk t).view.emb (ix2 r k)) = _
  rw [V_main_arg1, show ((cfg0.win 1).blk t).view.emb (ix2 r k) = (ix2 R K : S128x2048.Idx) from Shape.idx_ext₂
    (by show win0_1.index t 0 * 128 + 1 * r.val = R.val; rw [(idx1 t).1, hR]; omega)
    (by show win0_1.index t 1 * 2048 + 1 * k.val = K.val; rw [(idx1 t).2, hK]; omega)]

theorem idx2 : ∀ t : Fin cfg0.N, win0_2.index t 0 = 0 ∧ win0_2.index t 1 = t.val / 8 :=
  (by decide +kernel : ∀ t : Fin grid0.N, _)

theorem V_main_v0 (c : Dev nD) : V m c main_v0 = shapeCast S2048x5632 (m ((c.tc : Thread nD τ).loc main_arg2)) shapeCasts_S1x2048x5632_S2048x5632 := by
  unfold V
  after_results <;> rfl

theorem iblk2_apply (r : Fin 2048) (k : Fin 512) (R : Fin 2048) (K : Fin 5632)
    (hR : R.val = (0) * 2048 + r.val) (hK : K.val = (t.val / 8) * 512 + k.val) :
    iblk m c 2 t (ix2 r k) = m ((c.tc : Thread nD τ).loc main_arg2) (ix3 0 R K) := by
  show V m c main_v0 (((cfg0.win 2).blk t).view.emb (ix2 r k)) = _
  rw [V_main_v0, show ((cfg0.win 2).blk t).view.emb (ix2 r k) = (ix2 R K : S2048x5632.Idx) from Shape.idx_ext₂
    (by show win0_2.index t 0 * 2048 + 1 * r.val = R.val; rw [(idx2 t).1, hR]; omega)
    (by show win0_2.index t 1 * 512 + 1 * k.val = K.val; rw [(idx2 t).2, hK]; omega)]
  exact cast_weights _ R K

theorem idx3 : ∀ t : Fin cfg0.N, win0_3.index t 0 = 0 ∧ win0_3.index t 1 = t.val / 8 :=
  (by decide +kernel : ∀ t : Fin grid0.N, _)

theorem V_main_v1 (c : Dev nD) : V m c main_v1 = shapeCast S2048x5632 (m ((c.tc : Thread nD τ).loc main_arg3)) shapeCasts_S1x2048x5632_S2048x5632 := by
  unfold V
  after_results <;> rfl

theorem iblk3_apply (r : Fin 2048) (k : Fin 512) (R : Fin 2048) (K : Fin 5632)
    (hR : R.val = (0) * 2048 + r.val) (hK : K.val = (t.val / 8) * 512 + k.val) :
    iblk m c 3 t (ix2 r k) = m ((c.tc : Thread nD τ).loc main_arg3) (ix3 0 R K) := by
  show V m c main_v1 (((cfg0.win 3).blk t).view.emb (ix2 r k)) = _
  rw [V_main_v1, show ((cfg0.win 3).blk t).view.emb (ix2 r k) = (ix2 R K : S2048x5632.Idx) from Shape.idx_ext₂
    (by show win0_3.index t 0 * 2048 + 1 * r.val = R.val; rw [(idx3 t).1, hR]; omega)
    (by show win0_3.index t 1 * 512 + 1 * k.val = K.val; rw [(idx3 t).2, hK]; omega)]
  exact cast_weights _ R K

theorem blockP (hf : Finite m) (c : Dev nD) (t : Fin cfg0.N) (y : S1024x512.Idx) (i : S8192x5632.Idx)
    (h0 : (i 0).val = t.val % 8 * 1024 + (y 0).val) (h1 : (i 1).val = t.val / 8 * 512 + (y 1).val) :
    oP m c t y = refP (m ((c.tc : Thread nD τ).loc main_arg0)) (m ((c.tc : Thread nD τ).loc main_arg2)) (m ((c.tc : Thread nD τ).loc main_arg3)) i := by
  rw [refP_apply]
  exact pay4_eq (iblk m c 0 t) (iblk m c 2 t) (iblk m c 3 t) y _ _
    (Cert.Sigmoid.sum_real _ _ (fun k => (hf c).1 _) (fun k => (hf c).2.2 _))
    (Finset.sum_congr rfl fun k _ => Ideal.mul_congr (iblk0_apply m c t _ k _ k h0 (by omega)) (iblk2_apply m c t k _ k _ (by omega) h1))
    (Finset.sum_congr rfl fun k _ => Ideal.mul_congr (iblk0_apply m c t _ k _ k h0 (by omega)) (iblk3_apply m c t k _ k _ (by omega) h1))

theorem blockS (hf : Finite m) (c : Dev nD) (t : Fin cfg0.N) (y : S128x512.Idx) (i : S128x5632.Idx)
    (h0 : (i 0).val = 0 * 128 + (y 0).val) (h1 : (i 1).val = t.val / 8 * 512 + (y 1).val) :
    oS m c t y = refS (m ((c.tc : Thread nD τ).loc main_arg1)) (m ((c.tc : Thread nD τ).loc main_arg2)) (m ((c.tc : Thread nD τ).loc main_arg3)) i := by
  rw [refS_apply]
  exact pay3_eq (iblk m c 1 t) (iblk m c 2 t) (iblk m c 3 t) y _ _
    (Cert.Sigmoid.sum_real _ _ (fun k => (hf c).2.1 _) (fun k => (hf c).2.2 _))
    (Finset.sum_congr rfl fun k _ => Ideal.mul_congr (iblk1_apply m c t _ k _ k h0 (by omega)) (iblk2_apply m c t k _ k _ (by omega) h1))
    (Finset.sum_congr rfl fun k _ => Ideal.mul_congr (iblk1_apply m c t _ k _ k h0 (by omega)) (iblk3_apply m c t k _ k _ (by omega) h1))

/-! ## What the two arrays end holding -/

theorem idx4 : ∀ t : Fin cfg0.N, win0_4.index t 0 = t.val % 8 ∧ win0_4.index t 1 = t.val / 8 :=
  (by decide +kernel : ∀ t : Fin grid0.N, _)

theorem flushed4 (hf : Finite m) (c : Dev nD) (t : Fin cfg0.N) :
    (dats m 0 c).flushed 4 t = ((cfg0.win 4).blk t).view.read (Elt Ideal)
      (refP (m ((c.tc : Thread nD τ).loc main_arg0)) (m ((c.tc : Thread nD τ).loc main_arg2)) (m ((c.tc : Thread nD τ).loc main_arg3))) := by
  show (cfg0.win 4).cut (grid0.coords t) ((dats m 0 c).after 4 t) = _
  rw [after4]
  funext y
  show oP m c t (y : S1024x512.Idx) = refP (m ((c.tc : Thread nD τ).loc main_arg0)) (m ((c.tc : Thread nD τ).loc main_arg2)) (m ((c.tc : Thread nD τ).loc main_arg3)) (((cfg0.win 4).blk t).view.emb y)
  refine blockP m hf c t y _ ?_ ?_
  · show win0_4.index t 0 * 1024 + 1 * _ = _
    rw [(idx4 t).1, Nat.one_mul]
  · show win0_4.index t 1 * 512 + 1 * _ = _
    rw [(idx4 t).2, Nat.one_mul]

theorem mem_blk4 (t : Fin cfg0.N) (i : S8192x5632.Idx) :
    i ∈ ((cfg0.win 4).blk t).view.set ↔ ∀ a : Fin 2, win0_4.index t a * S1024x512.size a ≤ (i a).val ∧ (i a).val < win0_4.index t a * S1024x512.size a + S1024x512.size a := by
  show i ∈ ((View.whole main_v2_0).slice (win0_4.rect t)).set ↔ _
  rw [View.set_slice_whole, Rect.mem_set_unit]
  exact Iff.rfl

theorem final4 (hf : Finite m) (c : Dev nD) : (dats m 0 c).arrAt 4 cfg0.N
    = refP (m ((c.tc : Thread nD τ).loc main_arg0)) (m ((c.tc : Thread nD τ).loc main_arg2)) (m ((c.tc : Thread nD τ).loc main_arg3)) :=
  (dats m 0 c).arrAt_eq_of_cover 4 _ (fun t _ => flushed4 m hf c t) (fun i => by
    have hi0 : ((i : S8192x5632.Idx) 0).val < 8192 := ((i : S8192x5632.Idx) 0).isLt
    have hi1 : ((i : S8192x5632.Idx) 1).val < 5632 := ((i : S8192x5632.Idx) 1).isLt
    have hN : cfg0.N = 88 := N_0
    refine ⟨⟨((i : S8192x5632.Idx) 1).val / 512 * 8 + ((i : S8192x5632.Idx) 0).val / 1024, by omega⟩, flush0_4 _, ?_⟩
    refine (mem_blk4 _ i).mpr ?_
    intro a
    match a with
    | ⟨0, _⟩ =>
      show win0_4.index _ 0 * 1024 ≤ (i 0).val ∧ (i 0).val < win0_4.index _ 0 * 1024 + 1024
      rw [(idx4 _).1]; dsimp only; omega
    | ⟨1, _⟩ =>
      show win0_4.index _ 1 * 512 ≤ (i 1).val ∧ (i 1).val < win0_4.index _ 1 * 512 + 512
      rw [(idx4 _).2]; dsimp only; omega)

theorem idx5 : ∀ t : Fin cfg0.N, win0_5.index t 0 = 0 ∧ win0_5.index t 1 = t.val / 8 :=
  (by decide +kernel : ∀ t : Fin grid0.N, _)

theorem flushed5 (hf : Finite m) (c : Dev nD) (t : Fin cfg0.N) :
    (dats m 0 c).flushed 5 t = ((cfg0.win 5).blk t).view.read (Elt Ideal)
      (refS (m ((c.tc : Thread nD τ).loc main_arg1)) (m ((c.tc : Thread nD τ).loc main_arg2)) (m ((c.tc : Thread nD τ).loc main_arg3))) := by
  show (cfg0.win 5).cut (grid0.coords t) ((dats m 0 c).after 5 t) = _
  rw [after5]
  funext y
  show oS m c t (y : S128x512.Idx) = refS (m ((c.tc : Thread nD τ).loc main_arg1)) (m ((c.tc : Thread nD τ).loc main_arg2)) (m ((c.tc : Thread nD τ).loc main_arg3)) (((cfg0.win 5).blk t).view.emb y)
  refine blockS m hf c t y _ ?_ ?_
  · show win0_5.index t 0 * 128 + 1 * _ = _
    rw [(idx5 t).1, Nat.one_mul]
  · show win0_5.index t 1 * 512 + 1 * _ = _
    rw [(idx5 t).2, Nat.one_mul]

theorem mem_blk5 (t : Fin cfg0.N) (i : S128x5632.Idx) :
    i ∈ ((cfg0.win 5).blk t).view.set ↔ ∀ a : Fin 2, win0_5.index t a * S128x512.size a ≤ (i a).val ∧ (i a).val < win0_5.index t a * S128x512.size a + S128x512.size a := by
  show i ∈ ((View.whole main_v2_1).slice (win0_5.rect t)).set ↔ _
  rw [View.set_slice_whole, Rect.mem_set_unit]
  exact Iff.rfl

theorem final5 (hf : Finite m) (c : Dev nD) : (dats m 0 c).arrAt 5 cfg0.N
    = refS (m ((c.tc : Thread nD τ).loc main_arg1)) (m ((c.tc : Thread nD τ).loc main_arg2)) (m ((c.tc : Thread nD τ).loc main_arg3)) :=
  (dats m 0 c).arrAt_eq_of_cover 5 _ (fun t _ => flushed5 m hf c t) (fun i => by
    have hi0 : ((i : S128x5632.Idx) 0).val < 128 := ((i : S128x5632.Idx) 0).isLt
    have hi1 : ((i : S128x5632.Idx) 1).val < 5632 := ((i : S128x5632.Idx) 1).isLt
    have hN : cfg0.N = 88 := N_0
    refine ⟨⟨((i : S128x5632.Idx) 1).val / 512 * 8 + 7, by omega⟩, (flush0_5 _).mpr (by dsimp only; omega), ?_⟩
    refine (mem_blk5 _ i).mpr ?_
    intro a
    match a with
    | ⟨0, _⟩ =>
      show win0_5.index _ 0 * 128 ≤ (i 0).val ∧ (i 0).val < win0_5.index _ 0 * 128 + 128
      rw [(idx5 _).1]; dsimp only; omega
    | ⟨1, _⟩ =>
      show win0_5.index _ 1 * 512 ≤ (i 1).val ∧ (i 1).val < win0_5.index _ 1 * 512 + 512
      rw [(idx5 _).2]; dsimp only; omega)

/-- The kernel's run with its two results named. -/
theorem run_values (hf : Finite m) : θ_run defs (onTc (τ := τ) (main (F := Ideal))) ⟨m, fun _ => 0, ρ⟩ fun r => ∀ c : Dev nD,
      r.2.mem ((c.tc : Thread nD τ).loc main_v2_0) = refP (m ((c.tc : Thread nD τ).loc main_arg0)) (m ((c.tc : Thread nD τ).loc main_arg2)) (m ((c.tc : Thread nD τ).loc main_arg3))
      ∧ r.2.mem ((c.tc : Thread nD τ).loc main_v2_1) = refS (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h.1 c).1 4).trans (final4 m hf c), ((h.1 c).1 5).trans (final5 m hf c), h.2.1 c⟩)
    (θ_run_and (run_main m ρ) (frame m ρ))

end Cert.Kernel2Ideal.Hand

end
-- ==== Proof.FfnDown.Run.lean ====
/- The run of the second feed-forward kernel at every point of its grid, over any float type: what each point leaves in the two
   output blocks and in the kept weight blocks, the pipeline's proof data, and the run of the whole program. -/
module

public import proofs.«01_k».proof.Proof.Gen.Kernel3Ideal.Frame
public import proofs.«01_k».proof.Proof.Gen.Kernel3Ideal.Skeleton
public import proofs.«01_k».proof.Proof.Buffer
public import Idealize.ShloMosaic.Lib.Claim

@[expose] public section

set_option maxRecDepth 16384

noncomputable section

namespace Cert.Kernel3Ideal.Hand

open Idealize.ShloMosaic Idealize.ShloMosaic.TcCoe Idealize.ShloMosaic.Tactic Cert.Buffer
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel3Ideal.Gen

variable {F : FTy → Type} [FloatOps F]

local notation "𝕄" => MT nD τ sig Unit (Elt F) ℕ (UR sig nD τ) ℕ

/-- A buffer of the vector memory; the core holds it, whole, with these values. -/
abbrev MR (s : Shape) (e : EltTy) := Memref sig .tc .vmem s e
abbrev own {s : Shape} {e : EltTy} (c : Dev nD) (a : MR s e) (d : Vec F s e) : sProp 𝕄 :=
  owns (c : Thread nD τ) a fullShare d

variable (m : (ℓ : Loc nD τ sig) → Buf (Elt F) ℓ) (ρ : Dev nD → PrngReg) (c : Dev nD) (t : Fin cfg0.N)

/-- The body's condition in closed form: the first row block of each column block. -/
theorem cond_iff : ∀ t : Fin cfg0.N, k0_cond1 (grid0.coords t) = 1#1 ↔ t.val % 16 = 0 :=
  (by decide +kernel : ∀ t : Fin grid0.N, k0_cond1 (grid0.coords t) = 1#1 ↔ t.val % 16 = 0)

/-- The second output is left alone at the other points. -/
theorem idle_of (t : Fin cfg0.N) (h : t.val % 16 ≠ 0) : cfg0.idle 8 (grid0.coords t) = true := by
  have hc : ¬ k0_cond1 (grid0.coords t) = 1#1 := fun e => h ((cond_iff t).mp e)
  show (!(k0_cond1 (grid0.coords t) == 1#1)) = true
  rw [beq_eq_false_iff_ne.mpr hc]; rfl

theorem live_of (t : Fin cfg0.N) (h : t.val % 16 = 0) : cfg0.idle 8 (grid0.coords t) = false := by
  show (!(k0_cond1 (grid0.coords t) == 1#1)) = false
  rw [beq_iff_eq.mpr ((cond_iff t).mpr h)]; rfl

set_option maxHeartbeats 2000000 in
/-- The body where the weight blocks are new: it keeps them rounded, and writes both outputs. -/
theorem runA (c : Dev nD) (i : grid0.Coords) (arg2 : MR S512x5632 .bf16) (harg2 : arg2.IsWhole) (arg3 : MR S128x5632 .bf16) (harg3 : arg3.IsWhole) (arg4 : MR S5632x512 .f32) (harg4 : arg4.IsWhole) (arg5 : MR S512x512 .f32) (harg5 : arg5.IsWhole) (arg6 : MR S128x512 .f32) (harg6 : arg6.IsWhole) (arg7 : MR S128x512 .f32) (harg7 : arg7.IsWhole) (arg8 : MR S1x1x512 .f32) (harg8 : arg8.IsWhole) (arg9 : MR S512x512 .f32) (harg9 : arg9.IsWhole) (arg10 : MR S128x512 .f32) (harg10 : arg10.IsWhole) (arg11 : MR S5632x512 .bf16) (harg11 : arg11.IsWhole) (hc0 : k0_cond1 i = 1#1)
    (x0 : Vec F S512x5632 .bf16) (x1 : Vec F S128x5632 .bf16) (x2 : Vec F S5632x512 .f32) (x3 : Vec F S512x512 .f32) (x4 x5 : Vec F S128x512 .f32) (x6 : Vec F S1x1x512 .f32) (E : Set ℕ) (K : PUnit → sProp 𝕄) :
    iprop(own c arg2 x0 ∗ own c arg3 x1 ∗ own c arg4 x2 ∗ own c arg5 x3 ∗ own c arg6 x4 ∗ own c arg7 x5 ∗ own c arg8 x6 ∗ (∃ d, own c arg9 d) ∗ (∃ d, own c arg10 d) ∗ (∃ d, own c arg11 d)
        ∗ (iprop(own c arg2 x0 ∗ own c arg3 x1 ∗ own c arg4 x2 ∗ own c arg5 x3 ∗ own c arg6 x4 ∗ own c arg7 x5 ∗ own c arg8 x6 ∗ own c arg9 (k0_pay3 x6 x0 (k0_pay1 x2) x3) ∗ own c arg10 (k0_pay2 x1 (k0_pay1 x2) x4 x5) ∗ own c arg11 (k0_pay1 x2)) -∗ K ⟨⟩))
      ⊢ wp frame (wpE (defs₀ (F := F)) Variants.none c none) E (cc0_ffn_down i arg2 harg2 arg3 harg3 arg4 harg4 arg5 harg5 arg6 harg6 arg7 harg7 arg8 harg8 arg9 harg9 arg10 harg10 arg11 harg11) K := by
  simp only [cc0_ffn_down_eq_skeleton]; unfold cc0_ffn_down_skel
  unfold own owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%ds0, %fs0, -, HS0⟩, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  obtain rfl := harg8.eq_unread hf6
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr
    swap; · iexact H7
    ipureintro
    rw [View.read_writes_full]; repeat rw [readAt_unread_full]
    unfold runA.sl.v20 runA.sl.HS0_1
    repeat rw [View.readCov_full]
    repeat rw [readAt_unread_full]
  isplitl [H8]
  · iexists _; isplitr
    swap; · iexact H8
    ipureintro
    rw [View.read_writes_full]; repeat rw [readAt_unread_full]
    unfold runA.sl.v20 runA.sl.HS0_1
    repeat rw [View.readCov_full]
    repeat rw [readAt_unread_full]
  iexists _; isplitr
  swap; · iexact HS0
  ipureintro
  unfold runA.sl.HS0_1
  rw [View.read_writes_full, readAt_unread_full]

set_option maxHeartbeats 2000000 in
/-- The body at the other points: it reads the kept weight blocks and writes the first output only. -/
theorem runB (c : Dev nD) (i : grid0.Coords) (arg2 : MR S512x5632 .bf16) (harg2 : arg2.IsWhole) (arg3 : MR S128x5632 .bf16) (harg3 : arg3.IsWhole) (arg4 : MR S5632x512 .f32) (harg4 : arg4.IsWhole) (arg5 : MR S512x512 .f32) (harg5 : arg5.IsWhole) (arg6 : MR S128x512 .f32) (harg6 : arg6.IsWhole) (arg7 : MR S128x512 .f32) (harg7 : arg7.IsWhole) (arg8 : MR S1x1x512 .f32) (harg8 : arg8.IsWhole) (arg9 : MR S512x512 .f32) (harg9 : arg9.IsWhole) (arg10 : MR S128x512 .f32) (harg10 : arg10.IsWhole) (arg11 : MR S5632x512 .bf16) (harg11 : arg11.IsWhole) (hc0 : ¬ k0_cond1 i = 1#1)
    (x0 : Vec F S512x5632 .bf16) (x3 : Vec F S512x512 .f32) (x6 : Vec F S1x1x512 .f32) (s0 : Vec F S5632x512 .bf16) (E : Set ℕ) (K : PUnit → sProp 𝕄) :
    iprop(own c arg2 x0 ∗ own c arg5 x3 ∗ own c arg8 x6 ∗ (∃ d, own c arg9 d) ∗ own c arg11 s0
        ∗ (iprop(own c arg2 x0 ∗ own c arg5 x3 ∗ own c arg8 x6 ∗ own c arg9 (k0_pay3 x6 x0 s0 x3) ∗ own c arg11 s0) -∗ K ⟨⟩))
      ⊢ wp frame (wpE (defs₀ (F := F)) Variants.none c none) E (cc0_ffn_down i arg2 harg2 arg3 harg3 arg4 harg4 arg5 harg5 arg6 harg6 arg7 harg7 arg8 harg8 arg9 harg9 arg10 harg10 arg11 harg11) K := by
  simp only [cc0_ffn_down_eq_skeleton]; unfold cc0_ffn_down_skel
  unfold own owns
  iintro ⟨⟨%f0, %hf0, H0⟩, ⟨%f3, %hf3, H3⟩, ⟨%f6, %hf6, H6⟩, ⟨%d7, %f7, -, H7⟩, ⟨%fs0, %hfs0, HS0⟩, Hk⟩
  obtain rfl := harg2.eq_unread hf0
  obtain rfl := harg5.eq_unread hf3
  obtain rfl := harg8.eq_unread hf6
  obtain rfl := harg11.eq_unread hfs0
  sl_exec (disch := first | sl_exact hc0)
  sl_step
  iapply Hk
  isplitl [H0]
  · iexists _; isplitr; · ipureintro; exact harg2.read_unread _
    iexact H0
  isplitl [H3]
  · iexists _; isplitr; · ipureintro; exact harg5.read_unread _
    iexact H3
  isplitl [H6]
  · iexists _; isplitr; · ipureintro; exact harg8.read_unread _
    iexact H6
  isplitl [H7]
  · iexists _; isplitr
    swap; · iexact H7
    ipureintro
    rw [View.read_writes_full]; repeat rw [readAt_unread_full]
  iexists _; isplitr; · ipureintro; exact harg11.read_unread _
  iexact HS0

/-! ## What the points leave -/

/-- A weight block as the body keeps it. -/
def wb0 : Vec F S5632x512 .bf16 := k0_pay1 (iblk m c 2 t)
/-- The block of the first output a point writes. -/
def oP : Vec F S512x512 .f32 := k0_pay3 (iblk m c 6 t) (iblk m c 0 t) (wb0 m c t) (iblk m c 3 t)
/-- The block of the second output a column block's first point writes. -/
def oS : Vec F S128x512 .f32 := k0_pay2 (iblk m c 1 t) (wb0 m c t) (iblk m c 4 t) (iblk m c 5 t)

/-- A scratch operand, a whole scoped buffer. -/
abbrev scM0 : MR S5632x512 .bf16 := Memref.whole cc0_scratch0

theorem PhiA_eq (c : Dev nD) :
    (Pipeline.ΦA spec0 c : sProp 𝕄) = iprop((∃ d, own c scM0 d) ∗ (∃ r, prngReg c r)) := by
  unfold Pipeline.ΦA; rw [scopedRest0_eq]; simp only [scM0, owns_whole]; try rfl

/-- Between points: after the first, the kept weight blocks are the last point's. -/
def PhiS (c : Dev nD) : (n : ℕ) → n ≤ cfg0.N → sProp 𝕄
  | 0, _ => Pipeline.ΦA spec0 c
  | n + 1, hn => iprop(own c scM0 (wb0 m c ⟨n, hn⟩) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(own c scM0 (wb0 m c ⟨n, hn⟩) ∗ (∃ r, prngReg c r)) := rfl

theorem PhiS_pos (c : Dev nD) (n : ℕ) (h : n ≤ cfg0.N) (hz : n ≠ 0) :
    PhiS m c n h = iprop(own c scM0 (wb0 m c ⟨n - 1, by omega⟩) ∗ (∃ r, prngReg c r)) := by
  cases n with
  | zero => exact absurd rfl hz
  | succ n => rfl

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => oP m c t
    | ⟨8, _⟩ => oS m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc :
    (dats m 0 c).Φ t.castSucc = PhiS m c t.val (Nat.le_of_lt t.isLt) := by
  dsimp only [dats]; exact Pipeline.Dat.Φ_castSucc (PhiS m c) t

theorem after0 : (dats m 0 c).after 0 t = iblk m c 0 t := by dsimp only [dats]
theorem after1 : (dats m 0 c).after 1 t = iblk m c 1 t := by dsimp only [dats]
theorem after2 : (dats m 0 c).after 2 t = iblk m c 2 t := by dsimp only [dats]
theorem after3 : (dats m 0 c).after 3 t = iblk m c 3 t := by dsimp only [dats]
theorem after4 : (dats m 0 c).after 4 t = iblk m c 4 t := by dsimp only [dats]
theorem after5 : (dats m 0 c).after 5 t = iblk m c 5 t := by dsimp only [dats]
theorem after6 : (dats m 0 c).after 6 t = iblk m c 6 t := by dsimp only [dats]
theorem after7 : (dats m 0 c).after 7 t = oP m c t := by dsimp only [dats]
theorem after8 : (dats m 0 c).after 8 t = oS m c t := by dsimp only [dats]

theorem before0 (d) : (dats m 0 c).before 0 t d = iblk m c 0 t :=
  before0_0_of m (dats m 0 c) (A_eq m c 0) (after0 m c) t d
theorem before1 (d) : (dats m 0 c).before 1 t d = iblk m c 1 t :=
  before0_1_of m (dats m 0 c) (A_eq m c 1) (after1 m c) t d
theorem before2 (d) : (dats m 0 c).before 2 t d = iblk m c 2 t :=
  before0_2_of m (dats m 0 c) (A_eq m c 2) (after2 m c) t d
theorem before3 (d) : (dats m 0 c).before 3 t d = iblk m c 3 t :=
  before0_3_of m (dats m 0 c) (A_eq m c 3) (after3 m c) t d
theorem before4 (d) : (dats m 0 c).before 4 t d = iblk m c 4 t :=
  before0_4_of m (dats m 0 c) (A_eq m c 4) (after4 m c) t d
theorem before5 (d) : (dats m 0 c).before 5 t d = iblk m c 5 t :=
  before0_5_of m (dats m 0 c) (A_eq m c 5) (after5 m c) t d
theorem before6 (d) : (dats m 0 c).before 6 t d = iblk m c 6 t :=
  before0_6_of m (dats m 0 c) (A_eq m c 6) (after6 m c) t d

/-! ## Within a column block only the row operands move -/

/-- The point before. -/
abbrev prev (t : Fin cfg0.N) : Fin cfg0.N := ⟨t.val - 1, Nat.lt_of_le_of_lt (Nat.sub_le _ _) t.isLt⟩

theorem iblk1_prev (ht : t.val % 16 ≠ 0) : iblk m c 1 (prev t) = iblk m c 1 t := by
  have hf : (cfg0.win 1).fetch t = false := Bool.eq_false_iff.mpr fun e => by have := (fetch0_1 t).mp e; omega
  have h := (dats m 0 c).before_of_pos 1 t (by omega) hf (fun _ => Classical.arbitrary _)
  rw [before1, (cfg0.win 1).flush_in rfl, if_neg Bool.false_ne_true] at h
  rw [h]; exact (after1 m c (prev t)).symm

theorem iblk2_prev (ht : t.val % 16 ≠ 0) : iblk m c 2 (prev t) = iblk m c 2 t := by
  have hf : (cfg0.win 2).fetch t = false := Bool.eq_false_iff.mpr fun e => by have := (fetch0_2 t).mp e; omega
  have h := (dats m 0 c).before_of_pos 2 t (by omega) hf (fun _ => Classical.arbitrary _)
  rw [before2, (cfg0.win 2).flush_in rfl, if_neg Bool.false_ne_true] at h
  rw [h]; exact (after2 m c (prev t)).symm

theorem iblk4_prev (ht : t.val % 16 ≠ 0) : iblk m c 4 (prev t) = iblk m c 4 t := by
  have hf : (cfg0.win 4).fetch t = false := Bool.eq_false_iff.mpr fun e => by have := (fetch0_4 t).mp e; omega
  have h := (dats m 0 c).before_of_pos 4 t (by omega) hf (fun _ => Classical.arbitrary _)
  rw [before4, (cfg0.win 4).flush_in rfl, if_neg Bool.false_ne_true] at h
  rw [h]; exact (after4 m c (prev t)).symm

theorem iblk5_prev (ht : t.val % 16 ≠ 0) : iblk m c 5 (prev t) = iblk m c 5 t := by
  have hf : (cfg0.win 5).fetch t = false := Bool.eq_false_iff.mpr fun e => by have := (fetch0_5 t).mp e; omega
  have h := (dats m 0 c).before_of_pos 5 t (by omega) hf (fun _ => Classical.arbitrary _)
  rw [before5, (cfg0.win 5).flush_in rfl, if_neg Bool.false_ne_true] at h
  rw [h]; exact (after5 m c (prev t)).symm

theorem wb0_prev (ht : t.val % 16 ≠ 0) : wb0 m c (prev t) = wb0 m c t := by
  unfold wb0; rw [iblk2_prev m c t ht]

theorem oS_prev (ht : t.val % 16 ≠ 0) : oS m c (prev t) = oS m c t := by
  unfold oS; rw [iblk1_prev m c t ht, iblk4_prev m c t ht, iblk5_prev m c t ht, wb0_prev m c t ht]

/-- The second output's buffer holds its block from the column block's first point on. -/
theorem before8 (c : Dev nD) : ∀ (n : ℕ) (t : Fin cfg0.N), t.val = n → t.val % 16 ≠ 0 → ∀ d, (dats m 0 c).before 8 t d = oS m c t := by
  intro n
  induction n with
  | zero => intro t h0 ht; omega
  | succ n ih =>
    intro t hn ht d
    rw [(dats m 0 c).before_of_pos 8 t (by omega) ((cfg0.win 8).fetch_out rfl t) d]
    have hfl : (cfg0.win 8).flush (prev t) = false :=
      Bool.eq_false_iff.mpr fun e => by have := (flush0_8 (prev t)).mp e; simp only [prev] at this; omega
    rw [hfl, if_neg Bool.false_ne_true, ← oS_prev m c t ht]
    unfold Dat.left
    by_cases h : (prev t).val % 16 = 0
    · rw [live_of _ h]; exact after8 m c (prev t)
    · rw [idle_of _ h]; exact ih (prev t) (by simp only [prev]; omega) h d

/-- Where the second output is written, or was, its block is what the obligation asks for. -/
theorem leaves8 :
    owns (c : Thread nD τ) ((cfg0.win 8).stage (cfg0.slots t 8)) fullShare (oS m c t) ⊢ ((dats m 0 c).leavesExact 8 t : sProp 𝕄) := by
  unfold Dat.leavesExact
  by_cases h : t.val % 16 = 0
  · rw [live_of t h]; rw [after8]
  · rw [idle_of t h]
    cases (cfg0.win 8).flush t
    · iintro H; iexists fun _ => Classical.arbitrary _
      rw [before8 m c _ t rfl h]; iexact H
    · rw [after8]

/-! ## The body at any point -/

/-- What the body is called with, -/
def bodyPre : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ (dats m 0 c).leavesExact 8 t)

set_option maxHeartbeats 3200000 in
theorem sound_body :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).owesAt () t.succ = (dats m 0 c).owesAt () t.castSucc from rfl, after0, after1, after2, after3, after4, after5, after6, after7]
  rw [show (dats m 0 c).Φ t.succ = PhiS m c (t.val + 1) t.isLt from rfl, PhiS_succ, PhiS_castSucc m c t]
  by_cases h0 : t.val % 16 = 0
  · have hS : PhiS m c t.val (Nat.le_of_lt t.isLt) ⊢ iprop((∃ d, own c scM0 d) ∗ (∃ r, prngReg c r)) := by
      by_cases hz : t.val = 0
      · rw [PhiS_zero m c _ _ hz, PhiA_eq]
      · rw [PhiS_pos m c _ _ hz]; iintro ⟨HS0, Hg⟩
        isplitl [HS0]; · iexists _; iexact HS0
        iexact Hg
    refine (sep_mono hS .rfl).trans ?_
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (runA c (grid0.coords t) _ _ _ _ _ _ _ _ _ _ _ _ _ _ _ _ _ _ _ _ ((cond_iff t).mpr h0) (iblk m c 0 t) (iblk m c 1 t) (iblk m c 2 t) (iblk m c 3 t) (iblk m c 4 t) (iblk m c 5 t) (iblk m c 6 t) Set.univ _)
    iframe H0 H1 H2 H3 H4 H5 H6
    isplitl [H7]; · iexists _; iexact H7
    isplitl [H8]; · iexists _; iexact H8
    isplitl [HS0]; · iexact HS0
    iintro ⟨H0, H1, H2, H3, H4, H5, H6, H7, H8, HS0⟩
    isplitl [HS0 Hg]
    · isplitl [HS0]; · iexact HS0
      iexact Hg
    iframe Ho H0 H1 H2 H3 H4 H5 H6 H7
    iapply (leaves8 m c t)
    iexact H8
  · rw [PhiS_pos m c _ _ (by omega), show wb0 m c ⟨t.val - 1, by omega⟩ = wb0 m c t from wb0_prev m c t h0]
    simp only [before8 m c _ t rfl h0]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (runB c (grid0.coords t) _ _ _ _ _ _ _ _ _ _ _ _ _ _ _ _ _ _ _ _ (fun h => h0 ((cond_iff t).mp h)) (iblk m c 0 t) (iblk m c 3 t) (iblk m c 6 t) (wb0 m c t) Set.univ _)
    iframe H0 H3 H6
    isplitl [H7]; · iexists _; iexact H7
    isplitl [HS0]; · iexact HS0
    iintro ⟨H0, H3, H6, H7, HS0⟩
    isplitl [HS0 Hg]
    · isplitl [HS0]; · iexact HS0
      iexact Hg
    iframe Ho H0 H1 H2 H3 H4 H5 H6 H7
    iapply (leaves8 m c t)
    iexact H8

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c cfg0.N (Nat.le_refl _) from rfl,
    PhiS_pos m c _ _ (by have : cfg0.N = 64 := N_0; omega), PhiA_eq]
  iintro ⟨HS0, Hg⟩
  isplitl [HS0]
  · iexists _; iexact HS0
  iexact Hg

/-! ## The run and the frame -/

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged, and no semaphore is left raised. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.Kernel3Ideal.Hand

end
-- ==== Proof.FfnDown.Value.lean ====
/- The values of the closing feed-forward product with its gated residual over the extended reals: each block the kernel writes back is the block of the
   reference's result, so the two arrays end as the reference's two results. -/
module

public import proofs.«01_k».proof.Proof.FfnDown.Run
public import proofs.«01_k».proof.Proof.Sigmoid
public import proofs.«01_k».proof.Proof.Gen.Reference3Ideal.Run
public import Idealize.ShloMosaic.Lib.Pointwise

@[expose] public section

set_option maxRecDepth 16384

noncomputable section

namespace Cert.Reference3Ideal.Hand

open Idealize.ShloMosaic
open Cert.Reference3Ideal Cert.Reference3Ideal.Gen

/-- The reference's first result as a function of the arguments. -/
def refP (a0 : FVec Ideal S8192x5632 .bf16) (a2 : FVec Ideal S8192x2048 .f32) (a4 : FVec Ideal S16x12288 .f32) (a5 : FVec Ideal S1x5632x2048 .f32) : FVec Ideal S8192x2048 .f32 :=
  shapeCast _ (addf (shapeCast _ a2 shapeCasts_S8192x2048_S2x4096x2048) (mulf (broadcastInDim S2x4096x2048 ![0, 1, 2] bcast_S2x1x2048_S2x4096x2048_0_1_2 (extractStridedSlice S2x1x2048 ![0, 0, 0] (extractStridedSlice S16x1x2048 ![0, 0, 10240] (broadcastInDim S16x1x12288 ![0, 2] bcast_S16x12288_S16x1x12288_0_2 a4) slices_S16x1x12288_S16x1x2048_0_0_10240) slices_S16x1x2048_S2x1x2048_0_0_0)) (shapeCast _ (Host.dotGeneral dot_S8192x5632_S5632x2048_S8192x2048_1_0_0_1_n_n none (extf .f32 a0 bitsLt_bf16_f32) (shapeCast _ a5 shapeCasts_S1x5632x2048_S5632x2048)) shapeCasts_S8192x2048_S2x4096x2048))) shapeCasts_S2x4096x2048_S8192x2048

/-- The reference's second result as a function of the arguments. -/
def refS (a1 : FVec Ideal S128x5632 .bf16) (a3 : FVec Ideal S128x2048 .f32) (a4 : FVec Ideal S16x12288 .f32) (a5 : FVec Ideal S1x5632x2048 .f32) : FVec Ideal S128x2048 .f32 :=
  shapeCast _ (addf (shapeCast _ a3 shapeCasts_S128x2048_S8x16x2048) (mulf (broadcastInDim S8x16x2048 ![0, 1, 2] bcast_S8x1x2048_S8x16x2048_0_1_2 (extractStridedSlice S8x1x2048 ![2, 0, 0] (extractStridedSlice S16x1x2048 ![0, 0, 10240] (broadcastInDim S16x1x12288 ![0, 2] bcast_S16x12288_S16x1x12288_0_2 a4) slices_S16x1x12288_S16x1x2048_0_0_10240) slices_S16x1x2048_S8x1x2048_2_0_0)) (shapeCast _ (Host.dotGeneral dot_S128x5632_S5632x2048_S128x2048_1_0_0_1_n_n none (extf .f32 a1 bitsLt_bf16_f32) (shapeCast _ a5 shapeCasts_S1x5632x2048_S5632x2048)) shapeCasts_S128x2048_S8x16x2048))) shapeCasts_S8x16x2048_S128x2048

end Cert.Reference3Ideal.Hand

namespace Cert.Kernel3Ideal.Hand

open Idealize.ShloMosaic Idealize.ShloMosaic.TcCoe Idealize.ShloMosaic.Tactic
open Idealize.SL.Sem
open Idealize.ShloMosaic.Pipeline (Dat Cfg Window)
open Cert.Kernel3Ideal.Gen
open Cert.Reference3Ideal.Hand (refP refS)

variable (m : (ℓ : Loc nD τ sig) → Buf (Elt Ideal) ℓ) (ρ : Dev nD → PrngReg) (c : Dev nD) (t : Fin cfg0.N)

theorem refP_apply (a : FVec Ideal S8192x5632 .bf16) (x : FVec Ideal S8192x2048 .f32) (d : FVec Ideal S16x12288 .f32) (w : FVec Ideal S1x5632x2048 .f32)
    (r : Fin 8192) (j : Fin 2048) :
    refP a x d w (ix2 r j) = x (ix2 r j) + d (ix2 ⟨r.val / 4096, by omega⟩ ⟨10240 + j.val, by omega⟩) * ∑ k : Fin 5632, a (ix2 r k) * w (ix3 0 k j) := by
  pointwise [refP]

theorem refS_apply (a : FVec Ideal S128x5632 .bf16) (x : FVec Ideal S128x2048 .f32) (d : FVec Ideal S16x12288 .f32) (w : FVec Ideal S1x5632x2048 .f32)
    (r : Fin 128) (j : Fin 2048) :
    refS a x d w (ix2 r j) = x (ix2 r j) + d (ix2 ⟨2 + r.val / 16, by omega⟩ ⟨10240 + j.val, by omega⟩) * ∑ k : Fin 5632, a (ix2 r k) * w (ix3 0 k j) := by
  pointwise [refS]

theorem pay3_apply (v : Vec Ideal S1x1x512 .f32) (a : Vec Ideal S512x5632 .bf16) (w : Vec Ideal S5632x512 .f32) (x : Vec Ideal S512x512 .f32)
    (r : Fin 512) (j : Fin 512) :
    k0_pay3 (F := Ideal) v a (k0_pay1 w) x (ix2 r j) = x (ix2 r j) + v (ix3 0 0 j) * ∑ k : Fin 5632, a (ix2 r k) * w (ix2 k j) := by
  pointwise [k0_pay3, k0_pay1]

theorem pay2_apply (a : Vec Ideal S128x5632 .bf16) (w : Vec Ideal S5632x512 .f32) (x d : Vec Ideal S128x512 .f32)
    (r : Fin 128) (j : Fin 512) :
    k0_pay2 (F := Ideal) a (k0_pay1 w) x d (ix2 r j) = x (ix2 r j) + d (ix2 r j) * ∑ k : Fin 5632, a (ix2 r k) * w (ix2 k j) := by
  pointwise [k0_pay2, k0_pay1]

theorem cast_weights (w : Vec Ideal S1x5632x2048 .f32) (k : Fin 5632) (J : Fin 2048) :
    shapeCast S5632x2048 w shapeCasts_S1x5632x2048_S5632x2048 (ix2 k J) = w (ix3 0 k J) := by
  pointwise

theorem gate_rows (d : Vec Ideal S16x12288 .f32) (b : Fin 16) (J : Fin 12288) :
    broadcastInDim S16x1x12288 ![0, 2] bcast_S16x12288_S16x1x12288_0_2 d (ix3 b 0 J) = d (ix2 b J) := by
  pointwise

theorem gate_rows_sample (d : Vec Ideal S16x12288 .f32) (r : Fin 128) (J : Fin 12288) :
    shapeCast S128x12288 (broadcastInDim S8x16x12288 ![0, 2] bcast_S8x12288_S8x16x12288_0_2
      (extractStridedSlice S8x12288 ![2, 0] d slices_S16x12288_S8x12288_2_0)) shapeCasts_S8x16x12288_S128x12288 (ix2 r J)
      = d (ix2 ⟨2 + r.val / 16, by omega⟩ J) := by
  pointwise

/-! ## The blocks of the arguments at a point -/

theorem idx0 : ∀ t : Fin cfg0.N, win0_0.index t 0 = t.val % 16 ∧ win0_0.index t 1 = 0 :=
  (by decide +kernel : ∀ t : Fin grid0.N, _)

theorem iblk0_apply (r : Fin 512) (k : Fin 5632) (R : Fin 8192) (K : Fin 5632)
    (hR : R.val = (t.val % 16) * 512 + r.val) (hK : K.val = (0) * 5632 + k.val) :
    iblk m c 0 t (ix2 r k) = m ((c.tc : Thread nD τ).loc main_arg0) (ix2 R K) := by
  show V m c main_arg0 (((cfg0.win 0).blk t).view.emb (ix2 r k)) = _
  rw [V_main_arg0, show ((cfg0.win 0).blk t).view.emb (ix2 r k) = (ix2 R K : S8192x5632.Idx) from Shape.idx_ext₂
    (by show win0_0.index t 0 * 512 + 1 * r.val = R.val; rw [(idx0 t).1, hR]; omega)
    (by show win0_0.index t 1 * 5632 + 1 * k.val = K.val; rw [(idx0 t).2, hK]; omega)]

theorem idx1 : ∀ t : Fin cfg0.N, win0_1.index t 0 = 0 ∧ win0_1.index t 1 = 0 :=
  (by decide +kernel : ∀ t : Fin grid0.N, _)

theorem iblk1_apply (r : Fin 128) (k : Fin 5632) (R : Fin 128) (K : Fin 5632)
    (hR : R.val = (0) * 128 + r.val) (hK : K.val = (0) * 5632 + k.val) :
    iblk m c 1 t (ix2 r k) = m ((c.tc : Thread nD τ).loc main_arg1) (ix2 R K) := by
  show V m c main_arg1 (((cfg0.win 1).blk t).view.emb (ix2 r k)) = _
  rw [V_main_arg1, show ((cfg0.win 1).blk t).view.emb (ix2 r k) = (ix2 R K : S128x5632.Idx) from Shape.idx_ext₂
    (by show win0_1.index t 0 * 128 + 1 * r.val = R.val; rw [(idx1 t).1, hR]; omega)
    (by show win0_1.index t 1 * 5632 + 1 * k.val = K.val; rw [(idx1 t).2, hK]; omega)]

theorem idx2 : ∀ t : Fin cfg0.N, win0_2.index t 0 = 0 ∧ win0_2.index t 1 = t.val / 16 :=
  (by decide +kernel : ∀ t : Fin grid0.N, _)

theorem V_main_v4 (c : Dev nD) : V m c main_v4 = shapeCast S5632x2048 (m ((c.tc : Thread nD τ).loc main_arg5)) shapeCasts_S1x5632x2048_S5632x2048 := by
  unfold V
  after_results <;> rfl

theorem iblk2_apply (r : Fin 5632) (k : Fin 512) (R : Fin 5632) (K : Fin 2048)
    (hR : R.val = (0) * 5632 + r.val) (hK : K.val = (t.val / 16) * 512 + k.val) :
    iblk m c 2 t (ix2 r k) = m ((c.tc : Thread nD τ).loc main_arg5) (ix3 0 R K) := by
  show V m c main_v4 (((cfg0.win 2).blk t).view.emb (ix2 r k)) = _
  rw [V_main_v4, show ((cfg0.win 2).blk t).view.emb (ix2 r k) = (ix2 R K : S5632x2048.Idx) from Shape.idx_ext₂
    (by show win0_2.index t 0 * 5632 + 1 * r.val = R.val; rw [(idx2 t).1, hR]; omega)
    (by show win0_2.index t 1 * 512 + 1 * k.val = K.val; rw [(idx2 t).2, hK]; omega)]
  exact cast_weights _ R K

theorem idx3 : ∀ t : Fin cfg0.N, win0_3.index t 0 = t.val % 16 ∧ win0_3.index t 1 = t.val / 16 :=
  (by decide +kernel : ∀ t : Fin grid0.N, _)

theorem iblk3_apply (r : Fin 512) (k : Fin 512) (R : Fin 8192) (K : Fin 2048)
    (hR : R.val = (t.val % 16) * 512 + r.val) (hK : K.val = (t.val / 16) * 512 + k.val) :
    iblk m c 3 t (ix2 r k) = m ((c.tc : Thread nD τ).loc main_arg2) (ix2 R K) := by
  show V m c main_arg2 (((cfg0.win 3).blk t).view.emb (ix2 r k)) = _
  rw [V_main_arg2, show ((cfg0.win 3).blk t).view.emb (ix2 r k) = (ix2 R K : S8192x2048.Idx) from Shape.idx_ext₂
    (by show win0_3.index t 0 * 512 + 1 * r.val = R.val; rw [(idx3 t).1, hR]; omega)
    (by show win0_3.index t 1 * 512 + 1 * k.val = K.val; rw [(idx3 t).2, hK]; omega)]

theorem idx4 : ∀ t : Fin cfg0.N, win0_4.index t 0 = 0 ∧ win0_4.index t 1 = t.val / 16 :=
  (by decide +kernel : ∀ t : Fin grid0.N, _)

theorem iblk4_apply (r : Fin 128) (k : Fin 512) (R : Fin 128) (K : Fin 2048)
    (hR : R.val = (0) * 128 + r.val) (hK : K.val = (t.val / 16) * 512 + k.val) :
    iblk m c 4 t (ix2 r k) = m ((c.tc : Thread nD τ).loc main_arg3) (ix2 R K) := by
  show V m c main_arg3 (((cfg0.win 4).blk t).view.emb (ix2 r k)) = _
  rw [V_main_arg3, show ((cfg0.win 4).blk t).view.emb (ix2 r k) = (ix2 R K : S128x2048.Idx) from Shape.idx_ext₂
    (by show win0_4.index t 0 * 128 + 1 * r.val = R.val; rw [(idx4 t).1, hR]; omega)
    (by show win0_4.index t 1 * 512 + 1 * k.val = K.val; rw [(idx4 t).2, hK]; omega)]

theorem V_main_v0 (c : Dev nD) : V m c main_v0 = broadcastInDim S16x1x12288 ![0, 2] bcast_S16x12288_S16x1x12288_0_2 (m ((c.tc : Thread nD τ).loc main_arg4)) := by
  unfold V
  after_results <;> rfl

theorem V_main_v3 (c : Dev nD) : V m c main_v3 = shapeCast S128x12288 (broadcastInDim S8x16x12288 ![0, 2] bcast_S8x12288_S8x16x12288_0_2
    (extractStridedSlice S8x12288 ![2, 0] (m ((c.tc : Thread nD τ).loc main_arg4)) slices_S16x12288_S8x12288_2_0)) shapeCasts_S8x16x12288_S128x12288 := by
  unfold V
  after_results <;> rfl

theorem idx5 : ∀ t : Fin cfg0.N, win0_5.index t 0 = 0 ∧ win0_5.index t 1 = 20 + t.val / 16 :=
  (by decide +kernel : ∀ t : Fin grid0.N, _)

theorem idx6 : ∀ t : Fin cfg0.N, win0_6.index t 0 = t.val % 16 / 8 ∧ win0_6.index t 1 = 0 ∧ win0_6.index t 2 = 20 + t.val / 16 :=
  (by decide +kernel : ∀ t : Fin grid0.N, _)

theorem iblk5_apply (r : Fin 128) (k : Fin 512) (R : Fin 128) (b : Fin 16) (K : Fin 12288)
    (hR : R.val = r.val) (hb : b.val = 2 + R.val / 16) (hK : K.val = (20 + t.val / 16) * 512 + k.val) :
    iblk m c 5 t (ix2 r k) = m ((c.tc : Thread nD τ).loc main_arg4) (ix2 b K) := by
  show V m c main_v3 (((cfg0.win 5).blk t).view.emb (ix2 r k)) = _
  rw [V_main_v3, show ((cfg0.win 5).blk t).view.emb (ix2 r k) = (ix2 R K : S128x12288.Idx) from Shape.idx_ext₂
    (by show win0_5.index t 0 * 128 + 1 * r.val = R.val; rw [(idx5 t).1, hR]; omega)
    (by show win0_5.index t 1 * 512 + 1 * k.val = K.val; rw [(idx5 t).2, hK]; omega)]
  refine (gate_rows_sample _ R K).trans ?_
  rw [show (⟨2 + R.val / 16, by omega⟩ : Fin 16) = b from Fin.ext hb.symm]

theorem iblk6_apply (k : Fin 512) (b : Fin 16) (K : Fin 12288)
    (hb : b.val = t.val % 16 / 8) (hK : K.val = (20 + t.val / 16) * 512 + k.val) :
    iblk m c 6 t (ix3 0 0 k) = m ((c.tc : Thread nD τ).loc main_arg4) (ix2 b K) := by
  show V m c main_v0 (((cfg0.win 6).blk t).view.emb (ix3 0 0 k)) = _
  rw [V_main_v0, show ((cfg0.win 6).blk t).view.emb (ix3 0 0 k) = (ix3 b 0 K : S16x1x12288.Idx) from funext fun a => Fin.ext (match a with
    | ⟨0, _⟩ => by show win0_6.index t 0 * 1 + 1 * 0 = b.val; rw [(idx6 t).1, hb]; omega
    | ⟨1, _⟩ => by show win0_6.index t 1 * 1 + 1 * 0 = 0; rw [(idx6 t).2.1]
    | ⟨2, _⟩ => by show win0_6.index t 2 * 512 + 1 * k.val = K.val; rw [(idx6 t).2.2, hK]; omega)]
  exact gate_rows _ b K

theorem blockP (y : S512x512.Idx) (i : S8192x2048.Idx)
    (h0 : (i 0).val = t.val % 16 * 512 + (y 0).val) (h1 : (i 1).val = t.val / 16 * 512 + (y 1).val) :
    oP m c t y = refP (m ((c.tc : Thread nD τ).loc main_arg0)) (m ((c.tc : Thread nD τ).loc main_arg2)) (m ((c.tc : Thread nD τ).loc main_arg4))
      (m ((c.tc : Thread nD τ).loc main_arg5)) i := by
  have hy : (y 0).val < 512 := (y 0).isLt
  rw [show i = ix2 (i 0) (i 1) from Shape.idx_ext₂ rfl rfl, show y = ix2 (y 0) (y 1) from Shape.idx_ext₂ rfl rfl]
  refine (pay3_apply (iblk m c 6 t) (iblk m c 0 t) (iblk m c 2 t) (iblk m c 3 t) (y 0) (y 1)).trans ((refP_apply _ _ _ _ (i 0) (i 1)).trans ?_).symm
  refine congrArg₂ (fun a b : EReal => a + b) (iblk3_apply m c t _ _ _ _ h0 h1).symm (Ideal.mul_congr ?_ ?_)
  · exact (iblk6_apply m c t (y 1) _ _ (by show (i 0).val / 4096 = _; omega) (by show 10240 + (i 1).val = _; omega)).symm
  · exact (Finset.sum_congr rfl fun k _ => Ideal.mul_congr (iblk0_apply m c t _ k _ k h0 (by omega)) (iblk2_apply m c t k _ k _ (by omega) h1)).symm

theorem blockS (y : S128x512.Idx) (i : S128x2048.Idx)
    (h0 : (i 0).val = 0 * 128 + (y 0).val) (h1 : (i 1).val = t.val / 16 * 512 + (y 1).val) :
    oS m c t y = refS (m ((c.tc : Thread nD τ).loc main_arg1)) (m ((c.tc : Thread nD τ).loc main_arg3)) (m ((c.tc : Thread nD τ).loc main_arg4))
      (m ((c.tc : Thread nD τ).loc main_arg5)) i := by
  rw [show i = ix2 (i 0) (i 1) from Shape.idx_ext₂ rfl rfl, show y = ix2 (y 0) (y 1) from Shape.idx_ext₂ rfl rfl]
  refine (pay2_apply (iblk m c 1 t) (iblk m c 2 t) (iblk m c 4 t) (iblk m c 5 t) (y 0) (y 1)).trans ((refS_apply _ _ _ _ (i 0) (i 1)).trans ?_).symm
  refine congrArg₂ (fun a b : EReal => a + b) (iblk4_apply m c t _ _ _ _ h0 h1).symm (Ideal.mul_congr ?_ ?_)
  · exact (iblk5_apply m c t (y 0) (y 1) (i 0) _ _ (by omega) rfl (by show 10240 + (i 1).val = _; omega)).symm
  · exact (Finset.sum_congr rfl fun k _ => Ideal.mul_congr (iblk1_apply m c t _ k _ k h0 (by omega)) (iblk2_apply m c t k _ k _ (by omega) h1)).symm

/-! ## What the two arrays end holding -/

theorem idx7 : ∀ t : Fin cfg0.N, win0_7.index t 0 = t.val % 16 ∧ win0_7.index t 1 = t.val / 16 :=
  (by decide +kernel : ∀ t : Fin grid0.N, _)

theorem flushed7  (c : Dev nD) (t : Fin cfg0.N) :
    (dats m 0 c).flushed 7 t = ((cfg0.win 7).blk t).view.read (Elt Ideal)
      (refP (m ((c.tc : Thread nD τ).loc main_arg0)) (m ((c.tc : Thread nD τ).loc main_arg2)) (m ((c.tc : Thread nD τ).loc main_arg4)) (m ((c.tc : Thread nD τ).loc main_arg5))) := by
  show (cfg0.win 7).cut (grid0.coords t) ((dats m 0 c).after 7 t) = _
  rw [after7]
  funext y
  show oP m c t (y : S512x512.Idx) = refP (m ((c.tc : Thread nD τ).loc main_arg0)) (m ((c.tc : Thread nD τ).loc main_arg2)) (m ((c.tc : Thread nD τ).loc main_arg4)) (m ((c.tc : Thread nD τ).loc main_arg5)) (((cfg0.win 7).blk t).view.emb y)
  refine blockP m  c t y _ ?_ ?_
  · show win0_7.index t 0 * 512 + 1 * _ = _
    rw [(idx7 t).1, Nat.one_mul]
  · show win0_7.index t 1 * 512 + 1 * _ = _
    rw [(idx7 t).2, Nat.one_mul]

theorem mem_blk7 (t : Fin cfg0.N) (i : S8192x2048.Idx) :
    i ∈ ((cfg0.win 7).blk t).view.set ↔ ∀ a : Fin 2, win0_7.index t a * S512x512.size a ≤ (i a).val ∧ (i a).val < win0_7.index t a * S512x512.size a + S512x512.size a := by
  show i ∈ ((View.whole main_v5_0).slice (win0_7.rect t)).set ↔ _
  rw [View.set_slice_whole, Rect.mem_set_unit]
  exact Iff.rfl

theorem final7  (c : Dev nD) : (dats m 0 c).arrAt 7 cfg0.N
    = refP (m ((c.tc : Thread nD τ).loc main_arg0)) (m ((c.tc : Thread nD τ).loc main_arg2)) (m ((c.tc : Thread nD τ).loc main_arg4)) (m ((c.tc : Thread nD τ).loc main_arg5)) :=
  (dats m 0 c).arrAt_eq_of_cover 7 _ (fun t _ => flushed7 m  c t) (fun i => by
    have hi0 : ((i : S8192x2048.Idx) 0).val < 8192 := ((i : S8192x2048.Idx) 0).isLt
    have hi1 : ((i : S8192x2048.Idx) 1).val < 2048 := ((i : S8192x2048.Idx) 1).isLt
    have hN : cfg0.N = 64 := N_0
    refine ⟨⟨((i : S8192x2048.Idx) 1).val / 512 * 16 + ((i : S8192x2048.Idx) 0).val / 512, by omega⟩, flush0_7 _, ?_⟩
    refine (mem_blk7 _ i).mpr ?_
    intro a
    match a with
    | ⟨0, _⟩ =>
      show win0_7.index _ 0 * 512 ≤ (i 0).val ∧ (i 0).val < win0_7.index _ 0 * 512 + 512
      rw [(idx7 _).1]; dsimp only; omega
    | ⟨1, _⟩ =>
      show win0_7.index _ 1 * 512 ≤ (i 1).val ∧ (i 1).val < win0_7.index _ 1 * 512 + 512
      rw [(idx7 _).2]; dsimp only; omega)

theorem idx8 : ∀ t : Fin cfg0.N, win0_8.index t 0 = 0 ∧ win0_8.index t 1 = t.val / 16 :=
  (by decide +kernel : ∀ t : Fin grid0.N, _)

theorem flushed8  (c : Dev nD) (t : Fin cfg0.N) :
    (dats m 0 c).flushed 8 t = ((cfg0.win 8).blk t).view.read (Elt Ideal)
      (refS (m ((c.tc : Thread nD τ).loc main_arg1)) (m ((c.tc : Thread nD τ).loc main_arg3)) (m ((c.tc : Thread nD τ).loc main_arg4)) (m ((c.tc : Thread nD τ).loc main_arg5))) := by
  show (cfg0.win 8).cut (grid0.coords t) ((dats m 0 c).after 8 t) = _
  rw [after8]
  funext y
  show oS m c t (y : S128x512.Idx) = refS (m ((c.tc : Thread nD τ).loc main_arg1)) (m ((c.tc : Thread nD τ).loc main_arg3)) (m ((c.tc : Thread nD τ).loc main_arg4)) (m ((c.tc : Thread nD τ).loc main_arg5)) (((cfg0.win 8).blk t).view.emb y)
  refine blockS m  c t y _ ?_ ?_
  · show win0_8.index t 0 * 128 + 1 * _ = _
    rw [(idx8 t).1, Nat.one_mul]
  · show win0_8.index t 1 * 512 + 1 * _ = _
    rw [(idx8 t).2, Nat.one_mul]

theorem mem_blk8 (t : Fin cfg0.N) (i : S128x2048.Idx) :
    i ∈ ((cfg0.win 8).blk t).view.set ↔ ∀ a : Fin 2, win0_8.index t a * S128x512.size a ≤ (i a).val ∧ (i a).val < win0_8.index t a * S128x512.size a + S128x512.size a := by
  show i ∈ ((View.whole main_v5_1).slice (win0_8.rect t)).set ↔ _
  rw [View.set_slice_whole, Rect.mem_set_unit]
  exact Iff.rfl

theorem final8  (c : Dev nD) : (dats m 0 c).arrAt 8 cfg0.N
    = refS (m ((c.tc : Thread nD τ).loc main_arg1)) (m ((c.tc : Thread nD τ).loc main_arg3)) (m ((c.tc : Thread nD τ).loc main_arg4)) (m ((c.tc : Thread nD τ).loc main_arg5)) :=
  (dats m 0 c).arrAt_eq_of_cover 8 _ (fun t _ => flushed8 m  c t) (fun i => by
    have hi0 : ((i : S128x2048.Idx) 0).val < 128 := ((i : S128x2048.Idx) 0).isLt
    have hi1 : ((i : S128x2048.Idx) 1).val < 2048 := ((i : S128x2048.Idx) 1).isLt
    have hN : cfg0.N = 64 := N_0
    refine ⟨⟨((i : S128x2048.Idx) 1).val / 512 * 16 + 15, by omega⟩, (flush0_8 _).mpr (by dsimp only; omega), ?_⟩
    refine (mem_blk8 _ i).mpr ?_
    intro a
    match a with
    | ⟨0, _⟩ =>
      show win0_8.index _ 0 * 128 ≤ (i 0).val ∧ (i 0).val < win0_8.index _ 0 * 128 + 128
      rw [(idx8 _).1]; dsimp only; omega
    | ⟨1, _⟩ =>
      show win0_8.index _ 1 * 512 ≤ (i 1).val ∧ (i 1).val < win0_8.index _ 1 * 512 + 512
      rw [(idx8 _).2]; dsimp only; omega)

/-- The kernel's run with its two results named. -/
theorem run_values  : θ_run defs (onTc (τ := τ) (main (F := Ideal))) ⟨m, fun _ => 0, ρ⟩ fun r => ∀ c : Dev nD,
      r.2.mem ((c.tc : Thread nD τ).loc main_v5_0) = refP (m ((c.tc : Thread nD τ).loc main_arg0)) (m ((c.tc : Thread nD τ).loc main_arg2)) (m ((c.tc : Thread nD τ).loc main_arg4)) (m ((c.tc : Thread nD τ).loc main_arg5))
      ∧ r.2.mem ((c.tc : Thread nD τ).loc main_v5_1) = refS (m ((c.tc : Thread nD τ).loc main_arg1)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨((h.1 c).1 7).trans (final7 m  c), ((h.1 c).1 8).trans (final8 m  c), h.2.1 c⟩)
    (θ_run_and (run_main m ρ) (frame m ρ))

end Cert.Kernel3Ideal.Hand

end
-- ==== Proof.Merge.Run.lean ====
/- The run of the branch merge kernel at every point of its grid, over any float type: what each point leaves in the two
   output blocks and in the kept weight blocks, the pipeline's proof data, and the run of the whole program. -/
module

public import proofs.«01_k».proof.Proof.Gen.Kernel4Ideal.Frame
public import proofs.«01_k».proof.Proof.Gen.Kernel4Ideal.Skeleton
public import proofs.«01_k».proof.Proof.Buffer
public import Idealize.ShloMosaic.Lib.Claim

@[expose] public section

set_option maxRecDepth 16384

noncomputable section

namespace Cert.Kernel4Ideal.Hand

open Idealize.ShloMosaic Idealize.ShloMosaic.TcCoe Idealize.ShloMosaic.Tactic Cert.Buffer
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel4Ideal.Gen

variable {F : FTy → Type} [FloatOps F]

local notation "𝕄" => MT nD τ sig Unit (Elt F) ℕ (UR sig nD τ) ℕ

/-- A buffer of the vector memory; the core holds it, whole, with these values. -/
abbrev MR (s : Shape) (e : EltTy) := Memref sig .tc .vmem s e
abbrev own {s : Shape} {e : EltTy} (c : Dev nD) (a : MR s e) (d : Vec F s e) : sProp 𝕄 :=
  owns (c : Thread nD τ) a fullShare d

variable (m : (ℓ : Loc nD τ sig) → Buf (Elt F) ℓ) (ρ : Dev nD → PrngReg) (c : Dev nD) (t : Fin cfg0.N)

/-- The body's condition in closed form: the first row block of each column block. -/
theorem cond_iff : ∀ t : Fin cfg0.N, k0_cond1 (grid0.coords t) = 1#1 ↔ t.val % 8 = 0 :=
  (by decide +kernel : ∀ t : Fin grid0.N, k0_cond1 (grid0.coords t) = 1#1 ↔ t.val % 8 = 0)

/-- The second output is left alone at the other points. -/
theorem idle_of (t : Fin cfg0.N) (h : t.val % 8 ≠ 0) : cfg0.idle 11 (grid0.coords t) = true := by
  have hc : ¬ k0_cond1 (grid0.coords t) = 1#1 := fun e => h ((cond_iff t).mp e)
  show (!(k0_cond1 (grid0.coords t) == 1#1)) = true
  rw [beq_eq_false_iff_ne.mpr hc]; rfl

theorem live_of (t : Fin cfg0.N) (h : t.val % 8 = 0) : cfg0.idle 11 (grid0.coords t) = false := by
  show (!(k0_cond1 (grid0.coords t) == 1#1)) = false
  rw [beq_iff_eq.mpr ((cond_iff t).mpr h)]; rfl

set_option maxHeartbeats 2000000 in
/-- The body where the weight blocks are new: it keeps them rounded, and writes both outputs. -/
theorem runA (c : Dev nD) (i : grid0.Coords) (arg2 : MR S1024x2048 .bf16) (harg2 : arg2.IsWhole) (arg3 : MR S1024x2048 .bf16) (harg3 : arg3.IsWhole) (arg4 : MR S128x2048 .bf16) (harg4 : arg4.IsWhole) (arg5 : MR S128x2048 .bf16) (harg5 : arg5.IsWhole) (arg6 : MR S2048x512 .f32) (harg6 : arg6.IsWhole) (arg7 : MR S2048x512 .f32) (harg7 : arg7.IsWhole) (arg8 : MR S1024x512 .f32) (harg8 : arg8.IsWhole) (arg9 : MR S1024x512 .f32) (harg9 : arg9.IsWhole) (arg10 : MR S128x512 .f32) (harg10 : arg10.IsWhole) (arg11 : MR S128x512 .f32) (harg11 : arg11.IsWhole) (arg12 : MR S1024x512 .bf16) (harg12 : arg12.IsWhole) (arg13 : MR S128x512 .bf16) (harg13 : arg13.IsWhole) (arg14 : MR S2048x512 .bf16) (harg14 : arg14.IsWhole) (arg15 : MR S2048x512 .bf16) (harg15 : arg15.IsWhole) (hc0 : k0_cond1 i = 1#1)
    (x0 x1 : Vec F S1024x2048 .bf16) (x2 x3 : Vec F S128x2048 .bf16) (x4 x5 : Vec F S2048x512 .f32) (x6 x7 : Vec F S1024x512 .f32) (x8 x9 : Vec F S128x512 .f32) (E : Set ℕ) (K : PUnit → sProp 𝕄) :
    iprop(own c arg2 x0 ∗ own c arg3 x1 ∗ own c arg4 x2 ∗ own c arg5 x3 ∗ own c arg6 x4 ∗ own c arg7 x5 ∗ own c arg8 x6 ∗ own c arg9 x7 ∗ own c arg10 x8 ∗ own c arg11 x9 ∗ (∃ d, own c arg12 d) ∗ (∃ d, own c arg13 d) ∗ (∃ d, own c arg14 d) ∗ (∃ d, own c arg15 d)
        ∗ (iprop(own c arg2 x0 ∗ own c arg3 x1 ∗ own c arg4 x2 ∗ own c arg5 x3 ∗ own c arg6 x4 ∗ own c arg7 x5 ∗ own c arg8 x6 ∗ own c arg9 x7 ∗ own c arg10 x8 ∗ own c arg11 x9 ∗ own c arg12 (k0_pay2 x0 (k0_pay3 x4) x1 (k0_pay4 x5) x6 x7) ∗ own c arg13 (k0_pay1 (k0_pay5 x2 (k0_pay3 x4) x8) (k0_pay6 x3 (k0_pay4 x5) x9)) ∗ own c arg14 (k0_pay3 x4) ∗ own c arg15 (k0_pay4 x5)) -∗ K ⟨⟩))
      ⊢ wp frame (wpE (defs₀ (F := F)) Variants.none c none) E (cc0_branch_proj i arg2 harg2 arg3 harg3 arg4 harg4 arg5 harg5 arg6 harg6 arg7 harg7 arg8 harg8 arg9 harg9 arg10 harg10 arg11 harg11 arg12 harg12 arg13 harg13 arg14 harg14 arg15 harg15) K := by
  rw [cc0_branch_proj_eq_skeleton]; unfold cc0_branch_proj_skel
  rw [k0_part1_eq_skeleton]; unfold k0_part1_skel
  unfold own owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%ds0, %fs0, -, HS0⟩, ⟨%ds1, %fs1, -, HS1⟩, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  obtain rfl := harg8.eq_unread hf6
  obtain rfl := harg9.eq_unread hf7
  obtain rfl := harg10.eq_unread hf8
  obtain rfl := harg11.eq_unread hf9
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr
    swap; · iexact H10
    ipureintro
    rw [View.read_writes_full]; repeat rw [readAt_unread_full]
    unfold runA.sl.v41 runA.sl.v44 runA.sl.HS0_1 runA.sl.HS1_1
    repeat rw [View.readCov_full]
    repeat rw [readAt_unread_full]
  isplitl [H11]
  · iexists _; isplitr
    swap; · iexact H11
    ipureintro
    rw [View.read_writes_full]; repeat rw [readAt_unread_full]
    unfold runA.sl.v41 runA.sl.v44 runA.sl.HS0_1 runA.sl.HS1_1
    repeat rw [View.readCov_full]
    repeat rw [readAt_unread_full]
  isplitl [HS0]
  · iexists _; isplitr
    swap; · iexact HS0
    ipureintro
    unfold runA.sl.HS0_1
    rw [View.read_writes_full, readAt_unread_full]
  iexists _; isplitr
  swap; · iexact HS1
  ipureintro
  unfold runA.sl.HS1_1
  rw [View.read_writes_full, readAt_unread_full]

set_option maxHeartbeats 2000000 in
/-- The body at the other points: it reads the kept weight blocks and writes the first output only. -/
theorem runB (c : Dev nD) (i : grid0.Coords) (arg2 : MR S1024x2048 .bf16) (harg2 : arg2.IsWhole) (arg3 : MR S1024x2048 .bf16) (harg3 : arg3.IsWhole) (arg4 : MR S128x2048 .bf16) (harg4 : arg4.IsWhole) (arg5 : MR S128x2048 .bf16) (harg5 : arg5.IsWhole) (arg6 : MR S2048x512 .f32) (harg6 : arg6.IsWhole) (arg7 : MR S2048x512 .f32) (harg7 : arg7.IsWhole) (arg8 : MR S1024x512 .f32) (harg8 : arg8.IsWhole) (arg9 : MR S1024x512 .f32) (harg9 : arg9.IsWhole) (arg10 : MR S128x512 .f32) (harg10 : arg10.IsWhole) (arg11 : MR S128x512 .f32) (harg11 : arg11.IsWhole) (arg12 : MR S1024x512 .bf16) (harg12 : arg12.IsWhole) (arg13 : MR S128x512 .bf16) (harg13 : arg13.IsWhole) (arg14 : MR S2048x512 .bf16) (harg14 : arg14.IsWhole) (arg15 : MR S2048x512 .bf16) (harg15 : arg15.IsWhole) (hc0 : ¬ k0_cond1 i = 1#1)
    (x0 x1 : Vec F S1024x2048 .bf16) (x6 x7 : Vec F S1024x512 .f32) (s0 s1 : Vec F S2048x512 .bf16) (E : Set ℕ) (K : PUnit → sProp 𝕄) :
    iprop(own c arg2 x0 ∗ own c arg3 x1 ∗ own c arg8 x6 ∗ own c arg9 x7 ∗ (∃ d, own c arg12 d) ∗ own c arg14 s0 ∗ own c arg15 s1
        ∗ (iprop(own c arg2 x0 ∗ own c arg3 x1 ∗ own c arg8 x6 ∗ own c arg9 x7 ∗ own c arg12 (k0_pay2 x0 s0 x1 s1 x6 x7) ∗ own c arg14 s0 ∗ own c arg15 s1) -∗ K ⟨⟩))
      ⊢ wp frame (wpE (defs₀ (F := F)) Variants.none c none) E (cc0_branch_proj i arg2 harg2 arg3 harg3 arg4 harg4 arg5 harg5 arg6 harg6 arg7 harg7 arg8 harg8 arg9 harg9 arg10 harg10 arg11 harg11 arg12 harg12 arg13 harg13 arg14 harg14 arg15 harg15) K := by
  rw [cc0_branch_proj_eq_skeleton]; unfold cc0_branch_proj_skel
  rw [k0_part1_eq_skeleton]; unfold k0_part1_skel
  unfold own owns
  iintro ⟨⟨%f0, %hf0, H0⟩, ⟨%f1, %hf1, H1⟩, ⟨%f6, %hf6, H6⟩, ⟨%f7, %hf7, H7⟩, ⟨%d10, %f10, -, H10⟩, ⟨%fs0, %hfs0, HS0⟩, ⟨%fs1, %hfs1, HS1⟩, Hk⟩
  obtain rfl := harg2.eq_unread hf0
  obtain rfl := harg3.eq_unread hf1
  obtain rfl := harg8.eq_unread hf6
  obtain rfl := harg9.eq_unread hf7
  obtain rfl := harg14.eq_unread hfs0
  obtain rfl := harg15.eq_unread hfs1
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H6]
  · iexists _; isplitr; · ipureintro; exact harg8.read_unread _
    iexact H6
  isplitl [H7]
  · iexists _; isplitr; · ipureintro; exact harg9.read_unread _
    iexact H7
  isplitl [H10]
  · iexists _; isplitr
    swap; · iexact H10
    ipureintro
    rw [View.read_writes_full]; repeat rw [readAt_unread_full]
  isplitl [HS0]
  · iexists _; isplitr; · ipureintro; exact harg14.read_unread _
    iexact HS0
  iexists _; isplitr; · ipureintro; exact harg15.read_unread _
  iexact HS1

/-! ## What the points leave -/

/-- A weight block as the body keeps it. -/
def wb0 : Vec F S2048x512 .bf16 := k0_pay3 (iblk m c 4 t)
/-- A weight block as the body keeps it. -/
def wb1 : Vec F S2048x512 .bf16 := k0_pay4 (iblk m c 5 t)
/-- The block of the first output a point writes. -/
def oP : Vec F S1024x512 .bf16 := k0_pay2 (iblk m c 0 t) (wb0 m c t) (iblk m c 1 t) (wb1 m c t) (iblk m c 6 t) (iblk m c 7 t)
/-- The block of the second output a column block's first point writes. -/
def oS : Vec F S128x512 .bf16 := k0_pay1 (k0_pay5 (iblk m c 2 t) (wb0 m c t) (iblk m c 8 t)) (k0_pay6 (iblk m c 3 t) (wb1 m c t) (iblk m c 9 t))

/-- A scratch operand, a whole scoped buffer. -/
abbrev scM0 : MR S2048x512 .bf16 := Memref.whole cc0_scratch0
/-- A scratch operand, a whole scoped buffer. -/
abbrev scM1 : MR S2048x512 .bf16 := Memref.whole cc0_scratch1

theorem PhiA_eq (c : Dev nD) :
    (Pipeline.ΦA spec0 c : sProp 𝕄) = iprop(((∃ d, own c scM0 d) ∗ (∃ d, own c scM1 d)) ∗ (∃ r, prngReg c r)) := by
  unfold Pipeline.ΦA; rw [scopedRest0_eq]; simp only [scM0, scM1, owns_whole]; try rfl

/-- Between points: after the first, the kept weight blocks are the last point's. -/
def PhiS (c : Dev nD) : (n : ℕ) → n ≤ cfg0.N → sProp 𝕄
  | 0, _ => Pipeline.ΦA spec0 c
  | n + 1, hn => iprop(own c scM0 (wb0 m c ⟨n, hn⟩) ∗ own c scM1 (wb1 m c ⟨n, hn⟩) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(own c scM0 (wb0 m c ⟨n, hn⟩) ∗ own c scM1 (wb1 m c ⟨n, hn⟩) ∗ (∃ r, prngReg c r)) := rfl

theorem PhiS_pos (c : Dev nD) (n : ℕ) (h : n ≤ cfg0.N) (hz : n ≠ 0) :
    PhiS m c n h = iprop(own c scM0 (wb0 m c ⟨n - 1, by omega⟩) ∗ own c scM1 (wb1 m c ⟨n - 1, by omega⟩) ∗ (∃ r, prngReg c r)) := by
  cases n with
  | zero => exact absurd rfl hz
  | succ n => rfl

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => oP m c t
    | ⟨11, _⟩ => oS m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc :
    (dats m 0 c).Φ t.castSucc = PhiS m c t.val (Nat.le_of_lt t.isLt) := by
  dsimp only [dats]; exact Pipeline.Dat.Φ_castSucc (PhiS m c) t

theorem after0 : (dats m 0 c).after 0 t = iblk m c 0 t := by dsimp only [dats]
theorem after1 : (dats m 0 c).after 1 t = iblk m c 1 t := by dsimp only [dats]
theorem after2 : (dats m 0 c).after 2 t = iblk m c 2 t := by dsimp only [dats]
theorem after3 : (dats m 0 c).after 3 t = iblk m c 3 t := by dsimp only [dats]
theorem after4 : (dats m 0 c).after 4 t = iblk m c 4 t := by dsimp only [dats]
theorem after5 : (dats m 0 c).after 5 t = iblk m c 5 t := by dsimp only [dats]
theorem after6 : (dats m 0 c).after 6 t = iblk m c 6 t := by dsimp only [dats]
theorem after7 : (dats m 0 c).after 7 t = iblk m c 7 t := by dsimp only [dats]
theorem after8 : (dats m 0 c).after 8 t = iblk m c 8 t := by dsimp only [dats]
theorem after9 : (dats m 0 c).after 9 t = iblk m c 9 t := by dsimp only [dats]
theorem after10 : (dats m 0 c).after 10 t = oP m c t := by dsimp only [dats]
theorem after11 : (dats m 0 c).after 11 t = oS m c t := by dsimp only [dats]

theorem before0 (d) : (dats m 0 c).before 0 t d = iblk m c 0 t :=
  before0_0_of m (dats m 0 c) (A_eq m c 0) (after0 m c) t d
theorem before1 (d) : (dats m 0 c).before 1 t d = iblk m c 1 t :=
  before0_1_of m (dats m 0 c) (A_eq m c 1) (after1 m c) t d
theorem before2 (d) : (dats m 0 c).before 2 t d = iblk m c 2 t :=
  before0_2_of m (dats m 0 c) (A_eq m c 2) (after2 m c) t d
theorem before3 (d) : (dats m 0 c).before 3 t d = iblk m c 3 t :=
  before0_3_of m (dats m 0 c) (A_eq m c 3) (after3 m c) t d
theorem before4 (d) : (dats m 0 c).before 4 t d = iblk m c 4 t :=
  before0_4_of m (dats m 0 c) (A_eq m c 4) (after4 m c) t d
theorem before5 (d) : (dats m 0 c).before 5 t d = iblk m c 5 t :=
  before0_5_of m (dats m 0 c) (A_eq m c 5) (after5 m c) t d
theorem before6 (d) : (dats m 0 c).before 6 t d = iblk m c 6 t :=
  before0_6_of m (dats m 0 c) (A_eq m c 6) (after6 m c) t d
theorem before7 (d) : (dats m 0 c).before 7 t d = iblk m c 7 t :=
  before0_7_of m (dats m 0 c) (A_eq m c 7) (after7 m c) t d
theorem before8 (d) : (dats m 0 c).before 8 t d = iblk m c 8 t :=
  before0_8_of m (dats m 0 c) (A_eq m c 8) (after8 m c) t d
theorem before9 (d) : (dats m 0 c).before 9 t d = iblk m c 9 t :=
  before0_9_of m (dats m 0 c) (A_eq m c 9) (after9 m c) t d

/-! ## Within a column block only the row operands move -/

/-- The point before. -/
abbrev prev (t : Fin cfg0.N) : Fin cfg0.N := ⟨t.val - 1, Nat.lt_of_le_of_lt (Nat.sub_le _ _) t.isLt⟩

theorem iblk2_prev (ht : t.val % 8 ≠ 0) : iblk m c 2 (prev t) = iblk m c 2 t := by
  have hf : (cfg0.win 2).fetch t = false := Bool.eq_false_iff.mpr fun e => by have := (fetch0_2 t).mp e; omega
  have h := (dats m 0 c).before_of_pos 2 t (by omega) hf (fun _ => Classical.arbitrary _)
  rw [before2, (cfg0.win 2).flush_in rfl, if_neg Bool.false_ne_true] at h
  rw [h]; exact (after2 m c (prev t)).symm

theorem iblk3_prev (ht : t.val % 8 ≠ 0) : iblk m c 3 (prev t) = iblk m c 3 t := by
  have hf : (cfg0.win 3).fetch t = false := Bool.eq_false_iff.mpr fun e => by have := (fetch0_3 t).mp e; omega
  have h := (dats m 0 c).before_of_pos 3 t (by omega) hf (fun _ => Classical.arbitrary _)
  rw [before3, (cfg0.win 3).flush_in rfl, if_neg Bool.false_ne_true] at h
  rw [h]; exact (after3 m c (prev t)).symm

theorem iblk4_prev (ht : t.val % 8 ≠ 0) : iblk m c 4 (prev t) = iblk m c 4 t := by
  have hf : (cfg0.win 4).fetch t = false := Bool.eq_false_iff.mpr fun e => by have := (fetch0_4 t).mp e; omega
  have h := (dats m 0 c).before_of_pos 4 t (by omega) hf (fun _ => Classical.arbitrary _)
  rw [before4, (cfg0.win 4).flush_in rfl, if_neg Bool.false_ne_true] at h
  rw [h]; exact (after4 m c (prev t)).symm

theorem iblk5_prev (ht : t.val % 8 ≠ 0) : iblk m c 5 (prev t) = iblk m c 5 t := by
  have hf : (cfg0.win 5).fetch t = false := Bool.eq_false_iff.mpr fun e => by have := (fetch0_5 t).mp e; omega
  have h := (dats m 0 c).before_of_pos 5 t (by omega) hf (fun _ => Classical.arbitrary _)
  rw [before5, (cfg0.win 5).flush_in rfl, if_neg Bool.false_ne_true] at h
  rw [h]; exact (after5 m c (prev t)).symm

theorem iblk8_prev (ht : t.val % 8 ≠ 0) : iblk m c 8 (prev t) = iblk m c 8 t := by
  have hf : (cfg0.win 8).fetch t = false := Bool.eq_false_iff.mpr fun e => by have := (fetch0_8 t).mp e; omega
  have h := (dats m 0 c).before_of_pos 8 t (by omega) hf (fun _ => Classical.arbitrary _)
  rw [before8, (cfg0.win 8).flush_in rfl, if_neg Bool.false_ne_true] at h
  rw [h]; exact (after8 m c (prev t)).symm

theorem iblk9_prev (ht : t.val % 8 ≠ 0) : iblk m c 9 (prev t) = iblk m c 9 t := by
  have hf : (cfg0.win 9).fetch t = false := Bool.eq_false_iff.mpr fun e => by have := (fetch0_9 t).mp e; omega
  have h := (dats m 0 c).before_of_pos 9 t (by omega) hf (fun _ => Classical.arbitrary _)
  rw [before9, (cfg0.win 9).flush_in rfl, if_neg Bool.false_ne_true] at h
  rw [h]; exact (after9 m c (prev t)).symm

theorem wb0_prev (ht : t.val % 8 ≠ 0) : wb0 m c (prev t) = wb0 m c t := by
  unfold wb0; rw [iblk4_prev m c t ht]

theorem wb1_prev (ht : t.val % 8 ≠ 0) : wb1 m c (prev t) = wb1 m c t := by
  unfold wb1; rw [iblk5_prev m c t ht]

theorem oS_prev (ht : t.val % 8 ≠ 0) : oS m c (prev t) = oS m c t := by
  unfold oS; rw [iblk2_prev m c t ht, iblk3_prev m c t ht, iblk8_prev m c t ht, iblk9_prev m c t ht, wb0_prev m c t ht, wb1_prev m c t ht]

/-- The second output's buffer holds its block from the column block's first point on. -/
theorem before11 (c : Dev nD) : ∀ (n : ℕ) (t : Fin cfg0.N), t.val = n → t.val % 8 ≠ 0 → ∀ d, (dats m 0 c).before 11 t d = oS m c t := by
  intro n
  induction n with
  | zero => intro t h0 ht; omega
  | succ n ih =>
    intro t hn ht d
    rw [(dats m 0 c).before_of_pos 11 t (by omega) ((cfg0.win 11).fetch_out rfl t) d]
    have hfl : (cfg0.win 11).flush (prev t) = false :=
      Bool.eq_false_iff.mpr fun e => by have := (flush0_11 (prev t)).mp e; simp only [prev] at this; omega
    rw [hfl, if_neg Bool.false_ne_true, ← oS_prev m c t ht]
    unfold Dat.left
    by_cases h : (prev t).val % 8 = 0
    · rw [live_of _ h]; exact after11 m c (prev t)
    · rw [idle_of _ h]; exact ih (prev t) (by simp only [prev]; omega) h d

/-- Where the second output is written, or was, its block is what the obligation asks for. -/
theorem leaves11 :
    owns (c : Thread nD τ) ((cfg0.win 11).stage (cfg0.slots t 11)) fullShare (oS m c t) ⊢ ((dats m 0 c).leavesExact 11 t : sProp 𝕄) := by
  unfold Dat.leavesExact
  by_cases h : t.val % 8 = 0
  · rw [live_of t h]; rw [after11]
  · rw [idle_of t h]
    cases (cfg0.win 11).flush t
    · iintro H; iexists fun _ => Classical.arbitrary _
      rw [before11 m c _ t rfl h]; iexact H
    · rw [after11]

/-! ## The body at any point -/

/-- What the body is called with, -/
def bodyPre : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- and what it returns. -/
def bodyPost : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ (dats m 0 c).leavesExact 11 t)

set_option maxHeartbeats 3200000 in
theorem sound_body :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9]
  rw [show (dats m 0 c).owesAt () t.succ = (dats m 0 c).owesAt () t.castSucc from rfl, after0, after1, after2, after3, after4, after5, after6, after7, after8, after9, after10]
  rw [show (dats m 0 c).Φ t.succ = PhiS m c (t.val + 1) t.isLt from rfl, PhiS_succ, PhiS_castSucc m c t]
  by_cases h0 : t.val % 8 = 0
  · have hS : PhiS m c t.val (Nat.le_of_lt t.isLt) ⊢ iprop((∃ d, own c scM0 d) ∗ (∃ d, own c scM1 d) ∗ (∃ r, prngReg c r)) := by
      by_cases hz : t.val = 0
      · rw [PhiS_zero m c _ _ hz, PhiA_eq]
        iintro ⟨⟨HS0, HS1⟩, Hg⟩
        iframe HS0 HS1 Hg
      · rw [PhiS_pos m c _ _ hz]; iintro ⟨HS0, HS1, Hg⟩
        isplitl [HS0]; · iexists _; iexact HS0
        isplitl [HS1]; · iexists _; iexact HS1
        iexact Hg
    refine (sep_mono hS .rfl).trans ?_
    iintro ⟨⟨HS0, HS1, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (runA c (grid0.coords t) _ _ _ _ _ _ _ _ _ _ _ _ _ _ _ _ _ _ _ _ _ _ _ _ _ _ _ _ ((cond_iff t).mpr h0) (iblk m c 0 t) (iblk m c 1 t) (iblk m c 2 t) (iblk m c 3 t) (iblk m c 4 t) (iblk m c 5 t) (iblk m c 6 t) (iblk m c 7 t) (iblk m c 8 t) (iblk m c 9 t) Set.univ _)
    iframe H0 H1 H2 H3 H4 H5 H6 H7 H8 H9
    isplitl [H10]; · iexists _; iexact H10
    isplitl [H11]; · iexists _; iexact H11
    isplitl [HS0]; · iexact HS0
    isplitl [HS1]; · iexact HS1
    iintro ⟨H0, H1, H2, H3, H4, H5, H6, H7, H8, H9, H10, H11, HS0, HS1⟩
    isplitl [HS0 HS1 Hg]
    · iframe HS0 HS1 Hg
    iframe Ho H0 H1 H2 H3 H4 H5 H6 H7 H8 H9 H10
    iapply (leaves11 m c t)
    iexact H11
  · rw [PhiS_pos m c _ _ (by omega), show wb0 m c ⟨t.val - 1, by omega⟩ = wb0 m c t from wb0_prev m c t h0, show wb1 m c ⟨t.val - 1, by omega⟩ = wb1 m c t from wb1_prev m c t h0]
    simp only [before11 m c _ t rfl h0]
    iintro ⟨⟨HS0, HS1, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (runB c (grid0.coords t) _ _ _ _ _ _ _ _ _ _ _ _ _ _ _ _ _ _ _ _ _ _ _ _ _ _ _ _ (fun h => h0 ((cond_iff t).mp h)) (iblk m c 0 t) (iblk m c 1 t) (iblk m c 6 t) (iblk m c 7 t) (wb0 m c t) (wb1 m c t) Set.univ _)
    iframe H0 H1 H6 H7
    isplitl [H10]; · iexists _; iexact H10
    isplitl [HS0]; · iexact HS0
    isplitl [HS1]; · iexact HS1
    iintro ⟨H0, H1, H6, H7, H10, HS0, HS1⟩
    isplitl [HS0 HS1 Hg]
    · iframe HS0 HS1 Hg
    iframe Ho H0 H1 H2 H3 H4 H5 H6 H7 H8 H9 H10
    iapply (leaves11 m c t)
    iexact H11

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c cfg0.N (Nat.le_refl _) from rfl,
    PhiS_pos m c _ _ (by have : cfg0.N = 32 := N_0; omega), PhiA_eq]
  iintro ⟨HS0, HS1, Hg⟩
  isplitl [HS0 HS1]
  · isplitl [HS0]
    · iexists _; iexact HS0
    iexists _; iexact HS1
  iexact Hg

/-! ## The run and the frame -/

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged, and no semaphore is left raised. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (frame_of m ρ (dats m) (A_eq m) (run_main m ρ)) ((θ_run defs _ _).mono (fun _ h => h.2) (run_main_quiescent m ρ))

end Cert.Kernel4Ideal.Hand

end
-- ==== Proof.Merge.Value.lean ====
/- The values of the two gated branch products over the extended reals: each block the kernel writes back is the block of the
   reference's result, so the two arrays end as the reference's two results. -/
module

public import proofs.«01_k».proof.Proof.Merge.Run
public import proofs.«01_k».proof.Proof.Sigmoid
public import proofs.«01_k».proof.Proof.Gen.Reference4Ideal.Run
public import Idealize.ShloMosaic.Lib.Pointwise

@[expose] public section

set_option maxRecDepth 16384

noncomputable section

namespace Cert.Reference4Ideal.Hand

open Idealize.ShloMosaic
open Cert.Reference4Ideal Cert.Reference4Ideal.Gen

/-- The reference's first result as a function of the arguments. -/
def refP (a0 a2 : FVec Ideal S8192x2048 .bf16) (a4 : FVec Ideal S8192x10240 .f32) (a6 : FVec Ideal S8192x2048 .f32) (a8 a9 : FVec Ideal S1x2048x2048 .f32) : FVec Ideal S8192x2048 .bf16 :=
  truncf .bf16 (addf (mulf (Host.divf (broadcastInDim S8192x2048 ![] bcast_S_S8192x2048 (constant S_ .f32 0x3F800000#32)) (addf (broadcastInDim S8192x2048 ![] bcast_S_S8192x2048 (constant S_ .f32 0x3F800000#32)) (Host.exp (Host.negf (extractStridedSlice S8192x2048 ![0, 8192] a4 slices_S8192x10240_S8192x2048_0_8192))))) (Host.dotGeneral dot_S8192x2048_S2048x2048_S8192x2048_1_0_0_1_n_n none (extf .f32 a0 bitsLt_bf16_f32) (shapeCast _ a8 shapeCasts_S1x2048x2048_S2048x2048))) (mulf (Host.divf (broadcastInDim S8192x2048 ![] bcast_S_S8192x2048 (constant S_ .f32 0x3F800000#32)) (addf (broadcastInDim S8192x2048 ![] bcast_S_S8192x2048 (constant S_ .f32 0x3F800000#32)) (Host.exp (Host.negf a6)))) (Host.dotGeneral dot_S8192x2048_S2048x2048_S8192x2048_1_0_0_1_n_n none (extf .f32 a2 bitsLt_bf16_f32) (shapeCast _ a9 shapeCasts_S1x2048x2048_S2048x2048)))) bitsLt_bf16_f32

/-- The reference's second result as a function of the arguments. -/
def refS (a1 a3 : FVec Ideal S128x2048 .bf16) (a5 : FVec Ideal S128x10240 .f32) (a7 : FVec Ideal S128x2048 .f32) (a8 a9 : FVec Ideal S1x2048x2048 .f32) : FVec Ideal S128x2048 .bf16 :=
  truncf .bf16 (addf (mulf (Host.divf (broadcastInDim S128x2048 ![] bcast_S_S128x2048 (constant S_ .f32 0x3F800000#32)) (addf (broadcastInDim S128x2048 ![] bcast_S_S128x2048 (constant S_ .f32 0x3F800000#32)) (Host.exp (Host.negf (extractStridedSlice S128x2048 ![0, 8192] a5 slices_S128x10240_S128x2048_0_8192))))) (Host.dotGeneral dot_S128x2048_S2048x2048_S128x2048_1_0_0_1_n_n none (extf .f32 a1 bitsLt_bf16_f32) (shapeCast _ a8 shapeCasts_S1x2048x2048_S2048x2048))) (mulf (Host.divf (broadcastInDim S128x2048 ![] bcast_S_S128x2048 (constant S_ .f32 0x3F800000#32)) (addf (broadcastInDim S128x2048 ![] bcast_S_S128x2048 (constant S_ .f32 0x3F800000#32)) (Host.exp (Host.negf a7)))) (Host.dotGeneral dot_S128x2048_S2048x2048_S128x2048_1_0_0_1_n_n none (extf .f32 a3 bitsLt_bf16_f32) (shapeCast _ a9 shapeCasts_S1x2048x2048_S2048x2048)))) bitsLt_bf16_f32

end Cert.Reference4Ideal.Hand

namespace Cert.Kernel4Ideal.Hand

open Idealize.ShloMosaic Idealize.ShloMosaic.TcCoe Idealize.ShloMosaic.Tactic
open Idealize.SL.Sem
open Idealize.ShloMosaic.Pipeline (Dat Cfg Window)
open Cert.Kernel4Ideal.Gen
open Cert.Reference4Ideal.Hand (refP refS)

variable (m : (ℓ : Loc nD τ sig) → Buf (Elt Ideal) ℓ) (ρ : Dev nD → PrngReg) (c : Dev nD) (t : Fin cfg0.N)

/-- One entry of a branch's projection. -/
def entry {n : Nat} (a : FVec Ideal ⟨2, ![n, 2048]⟩ .bf16) (w : FVec Ideal S1x2048x2048 .f32) (r : Fin n) (j : Fin 2048) : EReal :=
  ∑ k : Fin 2048, a (ix2 r k) * w (ix3 0 k j)

theorem refP_apply (a b : FVec Ideal S8192x2048 .bf16) (z : FVec Ideal S8192x10240 .f32) (g : FVec Ideal S8192x2048 .f32) (u v : FVec Ideal S1x2048x2048 .f32)
    (r : Fin 8192) (j : Fin 2048) :
    refP a b z g u v (ix2 r j) = Ideal.logistic (z (ix2 r ⟨8192 + j.val, by omega⟩)) * entry a u r j + Ideal.logistic (g (ix2 r j)) * entry b v r j := by
  pointwise [refP, entry]
  rfl

theorem refS_apply (a b : FVec Ideal S128x2048 .bf16) (z : FVec Ideal S128x10240 .f32) (g : FVec Ideal S128x2048 .f32) (u v : FVec Ideal S1x2048x2048 .f32)
    (r : Fin 128) (j : Fin 2048) :
    refS a b z g u v (ix2 r j) = Ideal.logistic (z (ix2 r ⟨8192 + j.val, by omega⟩)) * entry a u r j + Ideal.logistic (g (ix2 r j)) * entry b v r j := by
  pointwise [refS, entry]
  rfl

/-- A block of the first result from the two products and the two gates it is made of. -/
theorem pay2_eq (x y : Vec Ideal S1024x2048 .bf16) (u v : Vec Ideal S2048x512 .f32) (z g : Vec Ideal S1024x512 .f32) (r : Fin 1024) (j : Fin 512)
    (a b p q : EReal) (hz : z (ix2 r j) = p) (hg : g (ix2 r j) = q)
    (hu : ∑ k : Fin 2048, x (ix2 r k) * u (ix2 k j) = a) (hv : ∑ k : Fin 2048, y (ix2 r k) * v (ix2 k j) = b) :
    k0_pay2 (F := Ideal) x (k0_pay3 u) y (k0_pay4 v) z g (ix2 r j) = Ideal.logistic p * a + Ideal.logistic q * b := by
  rw [← Cert.Sigmoid.merge_eq, ← Cert.Sigmoid.half_eq, ← hu, ← hv, ← hz, ← hg]
  pointwise [k0_pay2, k0_pay3, k0_pay4]

theorem pay1_eq (x y : Vec Ideal S128x2048 .bf16) (u v : Vec Ideal S2048x512 .f32) (z g : Vec Ideal S128x512 .f32) (r : Fin 128) (j : Fin 512)
    (a b p q : EReal) (hz : z (ix2 r j) = p) (hg : g (ix2 r j) = q)
    (hu : ∑ k : Fin 2048, x (ix2 r k) * u (ix2 k j) = a) (hv : ∑ k : Fin 2048, y (ix2 r k) * v (ix2 k j) = b) :
    k0_pay1 (F := Ideal) (k0_pay5 x (k0_pay3 u) z) (k0_pay6 y (k0_pay4 v) g) (ix2 r j) = Ideal.logistic p * a + Ideal.logistic q * b := by
  rw [← Cert.Sigmoid.merge_eq, ← Cert.Sigmoid.half_eq, ← hu, ← hv, ← hz, ← hg]
  pointwise [k0_pay1, k0_pay3, k0_pay4, k0_pay5, k0_pay6]

theorem cast_weights (w : Vec Ideal S1x2048x2048 .f32) (k : Fin 2048) (J : Fin 2048) :
    shapeCast S2048x2048 w shapeCasts_S1x2048x2048_S2048x2048 (ix2 k J) = w (ix3 0 k J) := by
  pointwise

/-! ## The blocks of the arguments at a point -/

theorem idx0 : ∀ t : Fin cfg0.N, win0_0.index t 0 = t.val % 8 ∧ win0_0.index t 1 = 0 :=
  (by decide +kernel : ∀ t : Fin grid0.N, _)

theorem iblk0_apply (r : Fin 1024) (k : Fin 2048) (R : Fin 8192) (K : Fin 2048)
    (hR : R.val = (t.val % 8) * 1024 + r.val) (hK : K.val = (0) * 2048 + k.val) :
    iblk m c 0 t (ix2 r k) = m ((c.tc : Thread nD τ).loc main_arg0) (ix2 R K) := by
  show V m c main_arg0 (((cfg0.win 0).blk t).view.emb (ix2 r k)) = _
  rw [V_main_arg0, show ((cfg0.win 0).blk t).view.emb (ix2 r k) = (ix2 R K : S8192x2048.Idx) from Shape.idx_ext₂
    (by show win0_0.index t 0 * 1024 + 1 * r.val = R.val; rw [(idx0 t).1, hR]; omega)
    (by show win0_0.index t 1 * 2048 + 1 * k.val = K.val; rw [(idx0 t).2, hK]; omega)]

theorem idx1 : ∀ t : Fin cfg0.N, win0_1.index t 0 = t.val % 8 ∧ win0_1.index t 1 = 0 :=
  (by decide +kernel : ∀ t : Fin grid0.N, _)

theorem iblk1_apply (r : Fin 1024) (k : Fin 2048) (R : Fin 8192) (K : Fin 2048)
    (hR : R.val = (t.val % 8) * 1024 + r.val) (hK : K.val = (0) * 2048 + k.val) :
    iblk m c 1 t (ix2 r k) = m ((c.tc : Thread nD τ).loc main_arg2) (ix2 R K) := by
  show V m c main_arg2 (((cfg0.win 1).blk t).view.emb (ix2 r k)) = _
  rw [V_main_arg2, show ((cfg0.win 1).blk t).view.emb (ix2 r k) = (ix2 R K : S8192x2048.Idx) from Shape.idx_ext₂
    (by show win0_1.index t 0 * 1024 + 1 * r.val = R.val; rw [(idx1 t).1, hR]; omega)
    (by show win0_1.index t 1 * 2048 + 1 * k.val = K.val; rw [(idx1 t).2, hK]; omega)]

theorem idx2 : ∀ t : Fin cfg0.N, win0_2.index t 0 = 0 ∧ win0_2.index t 1 = 0 :=
  (by decide +kernel : ∀ t : Fin grid0.N, _)

theorem iblk2_apply (r : Fin 128) (k : Fin 2048) (R : Fin 128) (K : Fin 2048)
    (hR : R.val = (0) * 128 + r.val) (hK : K.val = (0) * 2048 + k.val) :
    iblk m c 2 t (ix2 r k) = m ((c.tc : Thread nD τ).loc main_arg1) (ix2 R K) := by
  show V m c main_arg1 (((cfg0.win 2).blk t).view.emb (ix2 r k)) = _
  rw [V_main_arg1, show ((cfg0.win 2).blk t).view.emb (ix2 r k) = (ix2 R K : S128x2048.Idx) from Shape.idx_ext₂
    (by show win0_2.index t 0 * 128 + 1 * r.val = R.val; rw [(idx2 t).1, hR]; omega)
    (by show win0_2.index t 1 * 2048 + 1 * k.val = K.val; rw [(idx2 t).2, hK]; omega)]

theorem idx3 : ∀ t : Fin cfg0.N, win0_3.index t 0 = 0 ∧ win0_3.index t 1 = 0 :=
  (by decide +kernel : ∀ t : Fin grid0.N, _)

theorem iblk3_apply (r : Fin 128) (k : Fin 2048) (R : Fin 128) (K : Fin 2048)
    (hR : R.val = (0) * 128 + r.val) (hK : K.val = (0) * 2048 + k.val) :
    iblk m c 3 t (ix2 r k) = m ((c.tc : Thread nD τ).loc main_arg3) (ix2 R K) := by
  show V m c main_arg3 (((cfg0.win 3).blk t).view.emb (ix2 r k)) = _
  rw [V_main_arg3, show ((cfg0.win 3).blk t).view.emb (ix2 r k) = (ix2 R K : S128x2048.Idx) from Shape.idx_ext₂
    (by show win0_3.index t 0 * 128 + 1 * r.val = R.val; rw [(idx3 t).1, hR]; omega)
    (by show win0_3.index t 1 * 2048 + 1 * k.val = K.val; rw [(idx3 t).2, hK]; omega)]

theorem idx4 : ∀ t : Fin cfg0.N, win0_4.index t 0 = 0 ∧ win0_4.index t 1 = t.val / 8 :=
  (by decide +kernel : ∀ t : Fin grid0.N, _)

theorem V_main_v0 (c : Dev nD) : V m c main_v0 = shapeCast S2048x2048 (m ((c.tc : Thread nD τ).loc main_arg8)) shapeCasts_S1x2048x2048_S2048x2048 := by
  unfold V
  after_results <;> rfl

theorem iblk4_apply (r : Fin 2048) (k : Fin 512) (R : Fin 2048) (K : Fin 2048)
    (hR : R.val = (0) * 2048 + r.val) (hK : K.val = (t.val / 8) * 512 + k.val) :
    iblk m c 4 t (ix2 r k) = m ((c.tc : Thread nD τ).loc main_arg8) (ix3 0 R K) := by
  show V m c main_v0 (((cfg0.win 4).blk t).view.emb (ix2 r k)) = _
  rw [V_main_v0, show ((cfg0.win 4).blk t).view.emb (ix2 r k) = (ix2 R K : S2048x2048.Idx) from Shape.idx_ext₂
    (by show win0_4.index t 0 * 2048 + 1 * r.val = R.val; rw [(idx4 t).1, hR]; omega)
    (by show win0_4.index t 1 * 512 + 1 * k.val = K.val; rw [(idx4 t).2, hK]; omega)]
  exact cast_weights _ R K

theorem idx5 : ∀ t : Fin cfg0.N, win0_5.index t 0 = 0 ∧ win0_5.index t 1 = t.val / 8 :=
  (by decide +kernel : ∀ t : Fin grid0.N, _)

theorem V_main_v1 (c : Dev nD) : V m c main_v1 = shapeCast S2048x2048 (m ((c.tc : Thread nD τ).loc main_arg9)) shapeCasts_S1x2048x2048_S2048x2048 := by
  unfold V
  after_results <;> rfl

theorem iblk5_apply (r : Fin 2048) (k : Fin 512) (R : Fin 2048) (K : Fin 2048)
    (hR : R.val = (0) * 2048 + r.val) (hK : K.val = (t.val / 8) * 512 + k.val) :
    iblk m c 5 t (ix2 r k) = m ((c.tc : Thread nD τ).loc main_arg9) (ix3 0 R K) := by
  show V m c main_v1 (((cfg0.win 5).blk t).view.emb (ix2 r k)) = _
  rw [V_main_v1, show ((cfg0.win 5).blk t).view.emb (ix2 r k) = (ix2 R K : S2048x2048.Idx) from Shape.idx_ext₂
    (by show win0_5.index t 0 * 2048 + 1 * r.val = R.val; rw [(idx5 t).1, hR]; omega)
    (by show win0_5.index t 1 * 512 + 1 * k.val = K.val; rw [(idx5 t).2, hK]; omega)]
  exact cast_weights _ R K

theorem idx6 : ∀ t : Fin cfg0.N, win0_6.index t 0 = t.val % 8 ∧ win0_6.index t 1 = 16 + t.val / 8 :=
  (by decide +kernel : ∀ t : Fin grid0.N, _)

theorem iblk6_apply (r : Fin 1024) (k : Fin 512) (R : Fin 8192) (K : Fin 10240)
    (hR : R.val = (t.val % 8) * 1024 + r.val) (hK : K.val = (16 + t.val / 8) * 512 + k.val) :
    iblk m c 6 t (ix2 r k) = m ((c.tc : Thread nD τ).loc main_arg4) (ix2 R K) := by
  show V m c main_arg4 (((cfg0.win 6).blk t).view.emb (ix2 r k)) = _
  rw [V_main_arg4, show ((cfg0.win 6).blk t).view.emb (ix2 r k) = (ix2 R K : S8192x10240.Idx) from Shape.idx_ext₂
    (by show win0_6.index t 0 * 1024 + 1 * r.val = R.val; rw [(idx6 t).1, hR]; omega)
    (by show win0_6.index t 1 * 512 + 1 * k.val = K.val; rw [(idx6 t).2, hK]; omega)]

theorem idx7 : ∀ t : Fin cfg0.N, win0_7.index t 0 = t.val % 8 ∧ win0_7.index t 1 = t.val / 8 :=
  (by decide +kernel : ∀ t : Fin grid0.N, _)

theorem iblk7_apply (r : Fin 1024) (k : Fin 512) (R : Fin 8192) (K : Fin 2048)
    (hR : R.val = (t.val % 8) * 1024 + r.val) (hK : K.val = (t.val / 8) * 512 + k.val) :
    iblk m c 7 t (ix2 r k) = m ((c.tc : Thread nD τ).loc main_arg6) (ix2 R K) := by
  show V m c main_arg6 (((cfg0.win 7).blk t).view.emb (ix2 r k)) = _
  rw [V_main_arg6, show ((cfg0.win 7).blk t).view.emb (ix2 r k) = (ix2 R K : S8192x2048.Idx) from Shape.idx_ext₂
    (by show win0_7.index t 0 * 1024 + 1 * r.val = R.val; rw [(idx7 t).1, hR]; omega)
    (by show win0_7.index t 1 * 512 + 1 * k.val = K.val; rw [(idx7 t).2, hK]; omega)]

theorem idx8 : ∀ t : Fin cfg0.N, win0_8.index t 0 = 0 ∧ win0_8.index t 1 = 16 + t.val / 8 :=
  (by decide +kernel : ∀ t : Fin grid0.N, _)

theorem iblk8_apply (r : Fin 128) (k : Fin 512) (R : Fin 128) (K : Fin 10240)
    (hR : R.val = (0) * 128 + r.val) (hK : K.val = (16 + t.val / 8) * 512 + k.val) :
    iblk m c 8 t (ix2 r k) = m ((c.tc : Thread nD τ).loc main_arg5) (ix2 R K) := by
  show V m c main_arg5 (((cfg0.win 8).blk t).view.emb (ix2 r k)) = _
  rw [V_main_arg5, show ((cfg0.win 8).blk t).view.emb (ix2 r k) = (ix2 R K : S128x10240.Idx) from Shape.idx_ext₂
    (by show win0_8.index t 0 * 128 + 1 * r.val = R.val; rw [(idx8 t).1, hR]; omega)
    (by show win0_8.index t 1 * 512 + 1 * k.val = K.val; rw [(idx8 t).2, hK]; omega)]

theorem idx9 : ∀ t : Fin cfg0.N, win0_9.index t 0 = 0 ∧ win0_9.index t 1 = t.val / 8 :=
  (by decide +kernel : ∀ t : Fin grid0.N, _)

theorem iblk9_apply (r : Fin 128) (k : Fin 512) (R : Fin 128) (K : Fin 2048)
    (hR : R.val = (0) * 128 + r.val) (hK : K.val = (t.val / 8) * 512 + k.val) :
    iblk m c 9 t (ix2 r k) = m ((c.tc : Thread nD τ).loc main_arg7) (ix2 R K) := by
  show V m c main_arg7 (((cfg0.win 9).blk t).view.emb (ix2 r k)) = _
  rw [V_main_arg7, show ((cfg0.win 9).blk t).view.emb (ix2 r k) = (ix2 R K : S128x2048.Idx) from Shape.idx_ext₂
    (by show win0_9.index t 0 * 128 + 1 * r.val = R.val; rw [(idx9 t).1, hR]; omega)
    (by show win0_9.index t 1 * 512 + 1 * k.val = K.val; rw [(idx9 t).2, hK]; omega)]

theorem blockP (y : S1024x512.Idx) (i : S8192x2048.Idx)
    (h0 : (i 0).val = t.val % 8 * 1024 + (y 0).val) (h1 : (i 1).val = t.val / 8 * 512 + (y 1).val) :
    oP m c t y = refP (m ((c.tc : Thread nD τ).loc main_arg0)) (m ((c.tc : Thread nD τ).loc main_arg2)) (m ((c.tc : Thread nD τ).loc main_arg4))
      (m ((c.tc : Thread nD τ).loc main_arg6)) (m ((c.tc : Thread nD τ).loc main_arg8)) (m ((c.tc : Thread nD τ).loc main_arg9)) i := by
  rw [show i = ix2 (i 0) (i 1) from Shape.idx_ext₂ rfl rfl, show y = ix2 (y 0) (y 1) from Shape.idx_ext₂ rfl rfl]
  refine Eq.trans ?_ (refP_apply _ _ _ _ _ _ (i 0) (i 1)).symm
  exact pay2_eq (iblk m c 0 t) (iblk m c 1 t) (iblk m c 4 t) (iblk m c 5 t) (iblk m c 6 t) (iblk m c 7 t) (y 0) (y 1) _ _ _ _
    (iblk6_apply m c t _ _ _ _ h0 (by show 8192 + (i 1).val = _; omega)) (iblk7_apply m c t _ _ _ _ h0 h1)
    (Finset.sum_congr rfl fun k _ => Ideal.mul_congr (iblk0_apply m c t _ k _ k h0 (by omega)) (iblk4_apply m c t k _ k _ (by omega) h1))
    (Finset.sum_congr rfl fun k _ => Ideal.mul_congr (iblk1_apply m c t _ k _ k h0 (by omega)) (iblk5_apply m c t k _ k _ (by omega) h1))

theorem blockS (y : S128x512.Idx) (i : S128x2048.Idx)
    (h0 : (i 0).val = 0 * 128 + (y 0).val) (h1 : (i 1).val = t.val / 8 * 512 + (y 1).val) :
    oS m c t y = refS (m ((c.tc : Thread nD τ).loc main_arg1)) (m ((c.tc : Thread nD τ).loc main_arg3)) (m ((c.tc : Thread nD τ).loc main_arg5))
      (m ((c.tc : Thread nD τ).loc main_arg7)) (m ((c.tc : Thread nD τ).loc main_arg8)) (m ((c.tc : Thread nD τ).loc main_arg9)) i := by
  rw [show i = ix2 (i 0) (i 1) from Shape.idx_ext₂ rfl rfl, show y = ix2 (y 0) (y 1) from Shape.idx_ext₂ rfl rfl]
  refine Eq.trans ?_ (refS_apply _ _ _ _ _ _ (i 0) (i 1)).symm
  exact pay1_eq (iblk m c 2 t) (iblk m c 3 t) (iblk m c 4 t) (iblk m c 5 t) (iblk m c 8 t) (iblk m c 9 t) (y 0) (y 1) _ _ _ _
    (iblk8_apply m c t _ _ _ _ h0 (by show 8192 + (i 1).val = _; omega)) (iblk9_apply m c t _ _ _ _ h0 h1)
    (Finset.sum_congr rfl fun k _ => Ideal.mul_congr (iblk2_apply m c t _ k _ k h0 (by omega)) (iblk4_apply m c t k _ k _ (by omega) h1))
    (Finset.sum_congr rfl fun k _ => Ideal.mul_congr (iblk3_apply m c t _ k _ k h0 (by omega)) (iblk5_apply m c t k _ k _ (by omega) h1))

/-! ## What the two arrays end holding -/

theorem idx10 : ∀ t : Fin cfg0.N, win0_10.index t 0 = t.val % 8 ∧ win0_10.index t 1 = t.val / 8 :=
  (by decide +kernel : ∀ t : Fin grid0.N, _)

theorem flushed10  (c : Dev nD) (t : Fin cfg0.N) :
    (dats m 0 c).flushed 10 t = ((cfg0.win 10).blk t).view.read (Elt Ideal)
      (refP (m ((c.tc : Thread nD τ).loc main_arg0)) (m ((c.tc : Thread nD τ).loc main_arg2)) (m ((c.tc : Thread nD τ).loc main_arg4)) (m ((c.tc : Thread nD τ).loc main_arg6)) (m ((c.tc : Thread nD τ).loc main_arg8)) (m ((c.tc : Thread nD τ).loc main_arg9))) := by
  show (cfg0.win 10).cut (grid0.coords t) ((dats m 0 c).after 10 t) = _
  rw [after10]
  funext y
  show oP m c t (y : S1024x512.Idx) = refP (m ((c.tc : Thread nD τ).loc main_arg0)) (m ((c.tc : Thread nD τ).loc main_arg2)) (m ((c.tc : Thread nD τ).loc main_arg4)) (m ((c.tc : Thread nD τ).loc main_arg6)) (m ((c.tc : Thread nD τ).loc main_arg8)) (m ((c.tc : Thread nD τ).loc main_arg9)) (((cfg0.win 10).blk t).view.emb y)
  refine blockP m  c t y _ ?_ ?_
  · show win0_10.index t 0 * 1024 + 1 * _ = _
    rw [(idx10 t).1, Nat.one_mul]
  · show win0_10.index t 1 * 512 + 1 * _ = _
    rw [(idx10 t).2, Nat.one_mul]

theorem mem_blk10 (t : Fin cfg0.N) (i : S8192x2048.Idx) :
    i ∈ ((cfg0.win 10).blk t).view.set ↔ ∀ a : Fin 2, win0_10.index t a * S1024x512.size a ≤ (i a).val ∧ (i a).val < win0_10.index t a * S1024x512.size a + S1024x512.size a := by
  show i ∈ ((View.whole main_v2_0).slice (win0_10.rect t)).set ↔ _
  rw [View.set_slice_whole, Rect.mem_set_unit]
  exact Iff.rfl

theorem final10  (c : Dev nD) : (dats m 0 c).arrAt 10 cfg0.N
    = refP (m ((c.tc : Thread nD τ).loc main_arg0)) (m ((c.tc : Thread nD τ).loc main_arg2)) (m ((c.tc : Thread nD τ).loc main_arg4)) (m ((c.tc : Thread nD τ).loc main_arg6)) (m ((c.tc : Thread nD τ).loc main_arg8)) (m ((c.tc : Thread nD τ).loc main_arg9)) :=
  (dats m 0 c).arrAt_eq_of_cover 10 _ (fun t _ => flushed10 m  c t) (fun i => by
    have hi0 : ((i : S8192x2048.Idx) 0).val < 8192 := ((i : S8192x2048.Idx) 0).isLt
    have hi1 : ((i : S8192x2048.Idx) 1).val < 2048 := ((i : S8192x2048.Idx) 1).isLt
    have hN : cfg0.N = 32 := N_0
    refine ⟨⟨((i : S8192x2048.Idx) 1).val / 512 * 8 + ((i : S8192x2048.Idx) 0).val / 1024, by omega⟩, flush0_10 _, ?_⟩
    refine (mem_blk10 _ i).mpr ?_
    intro a
    match a with
    | ⟨0, _⟩ =>
      show win0_10.index _ 0 * 1024 ≤ (i 0).val ∧ (i 0).val < win0_10.index _ 0 * 1024 + 1024
      rw [(idx10 _).1]; dsimp only; omega
    | ⟨1, _⟩ =>
      show win0_10.index _ 1 * 512 ≤ (i 1).val ∧ (i 1).val < win0_10.index _ 1 * 512 + 512
      rw [(idx10 _).2]; dsimp only; omega)

theorem idx11 : ∀ t : Fin cfg0.N, win0_11.index t 0 = 0 ∧ win0_11.index t 1 = t.val / 8 :=
  (by decide +kernel : ∀ t : Fin grid0.N, _)

theorem flushed11  (c : Dev nD) (t : Fin cfg0.N) :
    (dats m 0 c).flushed 11 t = ((cfg0.win 11).blk t).view.read (Elt Ideal)
      (refS (m ((c.tc : Thread nD τ).loc main_arg1)) (m ((c.tc : Thread nD τ).loc main_arg3)) (m ((c.tc : Thread nD τ).loc main_arg5)) (m ((c.tc : Thread nD τ).loc main_arg7)) (m ((c.tc : Thread nD τ).loc main_arg8)) (m ((c.tc : Thread nD τ).loc main_arg9))) := by
  show (cfg0.win 11).cut (grid0.coords t) ((dats m 0 c).after 11 t) = _
  rw [after11]
  funext y
  show oS m c t (y : S128x512.Idx) = refS (m ((c.tc : Thread nD τ).loc main_arg1)) (m ((c.tc : Thread nD τ).loc main_arg3)) (m ((c.tc : Thread nD τ).loc main_arg5)) (m ((c.tc : Thread nD τ).loc main_arg7)) (m ((c.tc : Thread nD τ).loc main_arg8)) (m ((c.tc : Thread nD τ).loc main_arg9)) (((cfg0.win 11).blk t).view.emb y)
  refine blockS m  c t y _ ?_ ?_
  · show win0_11.index t 0 * 128 + 1 * _ = _
    rw [(idx11 t).1, Nat.one_mul]
  · show win0_11.index t 1 * 512 + 1 * _ = _
    rw [(idx11 t).2, Nat.one_mul]

theorem mem_blk11 (t : Fin cfg0.N) (i : S128x2048.Idx) :
    i ∈ ((cfg0.win 11).blk t).view.set ↔ ∀ a : Fin 2, win0_11.index t a * S128x512.size a ≤ (i a).val ∧ (i a).val < win0_11.index t a * S128x512.size a + S128x512.size a := by
  show i ∈ ((View.whole main_v2_1).slice (win0_11.rect t)).set ↔ _
  rw [View.set_slice_whole, Rect.mem_set_unit]
  exact Iff.rfl

theorem final11  (c : Dev nD) : (dats m 0 c).arrAt 11 cfg0.N
    = refS (m ((c.tc : Thread nD τ).loc main_arg1)) (m ((c.tc : Thread nD τ).loc main_arg3)) (m ((c.tc : Thread nD τ).loc main_arg5)) (m ((c.tc : Thread nD τ).loc main_arg7)) (m ((c.tc : Thread nD τ).loc main_arg8)) (m ((c.tc : Thread nD τ).loc main_arg9)) :=
  (dats m 0 c).arrAt_eq_of_cover 11 _ (fun t _ => flushed11 m  c t) (fun i => by
    have hi0 : ((i : S128x2048.Idx) 0).val < 128 := ((i : S128x2048.Idx) 0).isLt
    have hi1 : ((i : S128x2048.Idx) 1).val < 2048 := ((i : S128x2048.Idx) 1).isLt
    have hN : cfg0.N = 32 := N_0
    refine ⟨⟨((i : S128x2048.Idx) 1).val / 512 * 8 + 7, by omega⟩, (flush0_11 _).mpr (by dsimp only; omega), ?_⟩
    refine (mem_blk11 _ i).mpr ?_
    intro a
    match a with
    | ⟨0, _⟩ =>
      show win0_11.index _ 0 * 128 ≤ (i 0).val ∧ (i 0).val < win0_11.index _ 0 * 128 + 128
      rw [(idx11 _).1]; dsimp only; omega
    | ⟨1, _⟩ =>
      show win0_11.index _ 1 * 512 ≤ (i 1).val ∧ (i 1).val < win0_11.index _ 1 * 512 + 512
      rw [(idx11 _).2]; dsimp only; omega)

/-- The kernel's run with its two results named. -/
theorem run_values  : θ_run defs (onTc (τ := τ) (main (F := Ideal))) ⟨m, fun _ => 0, ρ⟩ fun r => ∀ c : Dev nD,
      r.2.mem ((c.tc : Thread nD τ).loc main_v2_0) = refP (m ((c.tc : Thread nD τ).loc main_arg0)) (m ((c.tc : Thread nD τ).loc main_arg2)) (m ((c.tc : Thread nD τ).loc main_arg4)) (m ((c.tc : Thread nD τ).loc main_arg6)) (m ((c.tc : Thread nD τ).loc main_arg8)) (m ((c.tc : Thread nD τ).loc main_arg9))
      ∧ r.2.mem ((c.tc : Thread nD τ).loc main_v2_1) = refS (m ((c.tc : Thread nD τ).loc main_arg1)) (m ((c.tc : Thread nD τ).loc main_arg3)) (m ((c.tc : Thread nD τ).loc main_arg5)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨((h.1 c).1 10).trans (final10 m  c), ((h.1 c).1 11).trans (final11 m  c), h.2.1 c⟩)
    (θ_run_and (run_main m ρ) (frame m ρ))

end Cert.Kernel4Ideal.Hand

end
-- ==== Proof.NormRow.lean ====
/- One entry of a row divided by its root mean square and scaled, over the extended reals. -/
module

public import Idealize.ShloMosaic.Lib.Pointwise

@[expose] public section

noncomputable section

namespace Cert.NormRow

open Idealize.ShloMosaic

/-- One entry of a normalized row, `g` the gain of its column. -/
def entry {n : Nat} (x : FVec Ideal ⟨2, ![n, 2048]⟩ .f32) (g : EReal) (r : Fin n) (j : Fin 2048) : EReal :=
  x (ix2 r j) * Ideal.rsqrt (Ideal.div (∑ k : Fin 2048, x (ix2 r k) * x (ix2 r k)) (Ideal.ofBits .f32 0x45000000#32) + Ideal.ofBits .f32 0x358637BD#32) * g

theorem entry_congr {n n' : Nat} (x : FVec Ideal ⟨2, ![n, 2048]⟩ .f32) (x' : FVec Ideal ⟨2, ![n', 2048]⟩ .f32) (g g' : EReal) (r : Fin n) (r' : Fin n')
    (j : Fin 2048) (hx : ∀ k, x (ix2 r k) = x' (ix2 r' k)) (hg : g = g') : entry x g r j = entry x' g' r' j := by
  have hs : ∑ k : Fin 2048, x (ix2 r k) * x (ix2 r k) = ∑ k : Fin 2048, x' (ix2 r' k) * x' (ix2 r' k) :=
    Finset.sum_congr rfl fun k _ => by rw [hx k]
  unfold entry
  rw [hx j, hg, hs]

end Cert.NormRow

end
-- ==== Proof.Norm.Value.lean ====
/- The values of the last normalization over the extended reals: each block of rows the kernel writes back is that block
   of the reference's result. -/
module

public import proofs.«01_k».proof.Proof.Gen.Kernel5Ideal.Value
public import proofs.«01_k».proof.Proof.Gen.Reference5Ideal.Run
public import proofs.«01_k».proof.Proof.NormRow
public import Idealize.ShloMosaic.Lib.Pointwise

@[expose] public section

set_option maxRecDepth 16384

noncomputable section

namespace Cert.Reference5Ideal.Hand

open Idealize.ShloMosaic
open Cert.Reference5Ideal Cert.Reference5Ideal.Gen

/-- The reference's result as a function of the arguments. -/
def ref (a0 : FVec Ideal S8192x2048 .f32) (a1 : FVec Ideal S2048 .f32) : FVec Ideal S8192x2048 .f32 :=
  mulf (mulf a0 (broadcastInDim S8192x2048 ![0, 1] bcast_S8192x1_S8192x2048_0_1 (Host.rsqrt (addf (Host.divf (broadcastInDim S8192x1 ![0] bcast_S8192_S8192x1_0 (Host.reduceAdd (mulf a0 a0) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 a1))

end Cert.Reference5Ideal.Hand

namespace Cert.Kernel5Ideal.Hand

open Idealize.ShloMosaic Idealize.ShloMosaic.TcCoe Idealize.ShloMosaic.Tactic
open Idealize.SL.Sem
open Idealize.ShloMosaic.Pipeline (Dat Cfg Window)
open Cert.Kernel5Ideal.Gen
open Cert.Reference5Ideal.Hand (ref)
open Cert.NormRow (entry entry_congr)

variable (m : (ℓ : Loc nD τ sig) → Buf (Elt Ideal) ℓ) (ρ : Dev nD → PrngReg)

theorem ref_apply (x : FVec Ideal S8192x2048 .f32) (g : FVec Ideal S2048 .f32) (r : Fin 8192) (j : Fin 2048) :
    ref x g (ix2 r j) = entry x (g (ix1 j)) r j := by
  pointwise [ref, entry]

theorem pay1_apply (x : Vec Ideal S1024x2048 .f32) (g : Vec Ideal S1x2048 .f32) (r : Fin 1024) (j : Fin 2048) :
    k0_pay1 (F := Ideal) x g (ix2 r j) = entry x (g (ix2 0 j)) r j := by
  pointwise [k0_pay1, entry]

/-- One store of the whole block leaves what was stored. -/
theorem out_eq (x : Vec Ideal S1024x2048 .f32) (g : Vec Ideal S1x2048 .f32) (y : S1024x2048.Idx) : out0_2 (F := Ideal) x g y = k0_pay1 (F := Ideal) x g y := by
  have e0 : View.ld x r0_0 = x := funext fun i => congrArg x (Shape.idx_ext₂ (by show 0 + 1 * (i 0).val = (i 0).val; omega) (by show 0 + 1 * (i 1).val = (i 1).val; omega))
  have e1 : View.ld g r0_1 = g := funext fun i => congrArg g (Shape.idx_ext₂ (by show 0 + 1 * (i 0).val = (i 0).val; omega) (by show 0 + 1 * (i 1).val = (i 1).val; omega))
  unfold out0_2
  rw [e0, e1]
  refine View.canon_apply_of_pieces (Val := Elt Ideal) (k0_pay1 (F := Ideal) x g) _ ?_ y (cover0_2 _ y)
  intro pc hpc
  rcases List.mem_cons.mp hpc with rfl | hpc
  · exact fun i => congrArg (k0_pay1 (F := Ideal) x g) (Shape.idx_ext₂ (by show (i 0).val = 0 + 1 * (i 0).val; omega) (by show (i 1).val = 0 + 1 * (i 1).val; omega))
  nomatch hpc

theorem V_main_v0 (c : Dev nD) : V m c main_v0 = broadcastInDim S1x2048 ![1] bcast_S2048_S1x2048_1 (m ((c.tc : Thread nD τ).loc main_arg1)) := by
  unfold V
  after_results <;> rfl

theorem gain_row (g : Vec Ideal S2048 .f32) (j : Fin 2048) : broadcastInDim S1x2048 ![1] bcast_S2048_S1x2048_1 g (ix2 0 j) = g (ix1 j) := by
  pointwise

theorem idx0 : ∀ t : Fin cfg0.N, win0_0.index t 0 = t.val ∧ win0_0.index t 1 = 0 :=
  (by decide +kernel : ∀ t : Fin grid0.N, _)

theorem idx1 : ∀ t : Fin cfg0.N, win0_1.index t 0 = 0 ∧ win0_1.index t 1 = 0 :=
  (by decide +kernel : ∀ t : Fin grid0.N, _)

theorem idx2 : ∀ t : Fin cfg0.N, win0_2.index t 0 = t.val ∧ win0_2.index t 1 = 0 :=
  (by decide +kernel : ∀ t : Fin grid0.N, _)

theorem flush2 : ∀ t : Fin cfg0.N, (cfg0.win 2).flush t = true :=
  (by decide +kernel : ∀ t : Fin grid0.N, (cfg0.win 2).flush t = true)

theorem iblk0_apply (c : Dev nD) (t : Fin cfg0.N) (r : Fin 1024) (k : Fin 2048) (R : Fin 8192) (hR : R.val = t.val * 1024 + r.val) :
    iblk m c 0 t (ix2 r k) = m ((c.tc : Thread nD τ).loc main_arg0) (ix2 R k) := by
  show V m c main_arg0 (((cfg0.win 0).blk t).view.emb (ix2 r k)) = _
  rw [V_main_arg0]
  refine congrArg _ (Shape.idx_ext₂ ?_ ?_)
  · show win0_0.index t 0 * 1024 + 1 * r.val = R.val
    rw [(idx0 t).1, hR, Nat.one_mul]
  · show win0_0.index t 1 * 2048 + 1 * k.val = k.val
    rw [(idx0 t).2]; omega

theorem iblk1_apply (c : Dev nD) (t : Fin cfg0.N) (j : Fin 2048) :
    iblk m c 1 t (ix2 0 j) = m ((c.tc : Thread nD τ).loc main_arg1) (ix1 j) := by
  show V m c main_v0 (((cfg0.win 1).blk t).view.emb (ix2 0 j)) = _
  rw [V_main_v0, show ((cfg0.win 1).blk t).view.emb (ix2 0 j) = (ix2 0 j : S1x2048.Idx) from Shape.idx_ext₂
    (by show win0_1.index t 0 * 1 + 1 * 0 = 0; rw [(idx1 t).1])
    (by show win0_1.index t 1 * 2048 + 1 * j.val = j.val; rw [(idx1 t).2]; omega)]
  exact gain_row _ j

theorem block (c : Dev nD) (t : Fin cfg0.N) (y : S1024x2048.Idx) (i : S8192x2048.Idx) (h0 : (i 0).val = t.val * 1024 + (y 0).val) (h1 : (i 1).val = (y 1).val) :
    out0_2 (F := Ideal) (iblk m c 0 t) (iblk m c 1 t) y = ref (m ((c.tc : Thread nD τ).loc main_arg0)) (m ((c.tc : Thread nD τ).loc main_arg1)) i := by
  refine (out_eq (iblk m c 0 t) (iblk m c 1 t) y).trans ?_
  rw [show i = ix2 (i 0) (y 1) from Shape.idx_ext₂ rfl h1, show y = ix2 (y 0) (y 1) from Shape.idx_ext₂ rfl rfl]
  refine (pay1_apply (iblk m c 0 t) (iblk m c 1 t) (y 0) (y 1)).trans (Eq.trans ?_ (ref_apply _ _ (i 0) (y 1)).symm)
  exact entry_congr (iblk m c 0 t) _ _ _ _ _ _ (fun k => iblk0_apply m c t _ k _ h0) (iblk1_apply m c t _)

theorem flushed (c : Dev nD) (t : Fin cfg0.N) :
    (dats m 0 c).flushed 2 t = ((cfg0.win 2).blk t).view.read (Elt Ideal) (ref (m ((c.tc : Thread nD τ).loc main_arg0)) (m ((c.tc : Thread nD τ).loc main_arg1))) := by
  rw [Value.flushed2]
  funext y
  show out0_2 (F := Ideal) (iblk m c 0 t) (iblk m c 1 t) (y : S1024x2048.Idx) = ref (m ((c.tc : Thread nD τ).loc main_arg0)) (m ((c.tc : Thread nD τ).loc main_arg1)) (((cfg0.win 2).blk t).view.emb y)
  refine block m c t y _ ?_ ?_
  · show win0_2.index t 0 * 1024 + 1 * _ = _
    rw [(idx2 t).1, Nat.one_mul]
  · show win0_2.index t 1 * 2048 + 1 * _ = _
    rw [(idx2 t).2, Nat.zero_mul, Nat.one_mul, Nat.zero_add]

theorem mem_blk (t : Fin cfg0.N) (i : S8192x2048.Idx) :
    i ∈ ((cfg0.win 2).blk t).view.set ↔ ∀ a : Fin 2, win0_2.index t a * S1024x2048.size a ≤ (i a).val ∧ (i a).val < win0_2.index t a * S1024x2048.size a + S1024x2048.size a := by
  show i ∈ ((View.whole main_v1).slice (win0_2.rect t)).set ↔ _
  rw [View.set_slice_whole, Rect.mem_set_unit]
  exact Iff.rfl

theorem final (c : Dev nD) : (dats m 0 c).arrAt 2 cfg0.N = ref (m ((c.tc : Thread nD τ).loc main_arg0)) (m ((c.tc : Thread nD τ).loc main_arg1)) :=
  (dats m 0 c).arrAt_eq_of_cover 2 _ (fun t _ => flushed m c t) (fun i => by
    have hi0 : ((i : S8192x2048.Idx) 0).val < 8192 := ((i : S8192x2048.Idx) 0).isLt
    have hi1 : ((i : S8192x2048.Idx) 1).val < 2048 := ((i : S8192x2048.Idx) 1).isLt
    have hN : cfg0.N = 8 := N_0
    refine ⟨⟨((i : S8192x2048.Idx) 0).val / 1024, by omega⟩, flush2 _, ?_⟩
    refine (mem_blk _ i).mpr ?_
    intro a
    match a with
    | ⟨0, _⟩ =>
      show win0_2.index _ 0 * 1024 ≤ (i 0).val ∧ (i 0).val < win0_2.index _ 0 * 1024 + 1024
      rw [(idx2 _).1]; dsimp only; omega
    | ⟨1, _⟩ =>
      show win0_2.index _ 1 * 2048 ≤ (i 1).val ∧ (i 1).val < win0_2.index _ 1 * 2048 + 2048
      rw [(idx2 _).2]; omega)

/-- The kernel's run with its result named. -/
theorem run_values : θ_run defs (onTc (τ := τ) (main (F := Ideal))) ⟨m, fun _ => 0, ρ⟩ fun r => ∀ c : Dev nD,
      r.2.mem ((c.tc : Thread nD τ).loc main_v1) = ref (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (final m c), (h c).2⟩) (Value.run_blocks m ρ)

end Cert.Kernel5Ideal.Hand

end
-- ==== Proof.NormSample.Value.lean ====
/- The values of the last normalization over the extended reals: each block of rows the kernel writes back is that block
   of the reference's result. -/
module

public import proofs.«01_k».proof.Proof.Gen.Kernel6Ideal.Value
public import proofs.«01_k».proof.Proof.Gen.Reference6Ideal.Run
public import proofs.«01_k».proof.Proof.NormRow
public import Idealize.ShloMosaic.Lib.Pointwise

@[expose] public section

set_option maxRecDepth 16384

noncomputable section

namespace Cert.Reference6Ideal.Hand

open Idealize.ShloMosaic
open Cert.Reference6Ideal Cert.Reference6Ideal.Gen

/-- The reference's result as a function of the arguments. -/
def ref (a0 : FVec Ideal S128x2048 .f32) (a1 : FVec Ideal S2048 .f32) : FVec Ideal S128x2048 .f32 :=
  mulf (mulf a0 (broadcastInDim S128x2048 ![0, 1] bcast_S128x1_S128x2048_0_1 (Host.rsqrt (addf (Host.divf (broadcastInDim S128x1 ![0] bcast_S128_S128x1_0 (Host.reduceAdd (mulf a0 a0) (constant S_ .f32 0x00000000#32) reducesTo_S128x2048_S128_d1 h_S_)) (broadcastInDim S128x1 ![] bcast_S_S128x1 (constant S_ .f32 0x45000000#32))) (broadcastInDim S128x1 ![] bcast_S_S128x1 (constant S_ .f32 0x358637BD#32)))))) (broadcastInDim S128x2048 ![0, 1] bcast_S1x2048_S128x2048_0_1 (broadcastInDim S1x2048 ![1] bcast_S2048_S1x2048_1 a1))

end Cert.Reference6Ideal.Hand

namespace Cert.Kernel6Ideal.Hand

open Idealize.ShloMosaic Idealize.ShloMosaic.TcCoe Idealize.ShloMosaic.Tactic
open Idealize.SL.Sem
open Idealize.ShloMosaic.Pipeline (Dat Cfg Window)
open Cert.Kernel6Ideal.Gen
open Cert.Reference6Ideal.Hand (ref)
open Cert.NormRow (entry entry_congr)

variable (m : (ℓ : Loc nD τ sig) → Buf (Elt Ideal) ℓ) (ρ : Dev nD → PrngReg)

theorem ref_apply (x : FVec Ideal S128x2048 .f32) (g : FVec Ideal S2048 .f32) (r : Fin 128) (j : Fin 2048) :
    ref x g (ix2 r j) = entry x (g (ix1 j)) r j := by
  pointwise [ref, entry]

theorem pay1_apply (x : Vec Ideal S128x2048 .f32) (g : Vec Ideal S1x2048 .f32) (r : Fin 128) (j : Fin 2048) :
    k0_pay1 (F := Ideal) x g (ix2 r j) = entry x (g (ix2 0 j)) r j := by
  pointwise [k0_pay1, entry]

/-- One store of the whole block leaves what was stored. -/
theorem out_eq (x : Vec Ideal S128x2048 .f32) (g : Vec Ideal S1x2048 .f32) (y : S128x2048.Idx) : out0_2 (F := Ideal) x g y = k0_pay1 (F := Ideal) x g y := by
  have e0 : View.ld x r0_0 = x := funext fun i => congrArg x (Shape.idx_ext₂ (by show 0 + 1 * (i 0).val = (i 0).val; omega) (by show 0 + 1 * (i 1).val = (i 1).val; omega))
  have e1 : View.ld g r0_1 = g := funext fun i => congrArg g (Shape.idx_ext₂ (by show 0 + 1 * (i 0).val = (i 0).val; omega) (by show 0 + 1 * (i 1).val = (i 1).val; omega))
  unfold out0_2
  rw [e0, e1]
  refine View.canon_apply_of_pieces (Val := Elt Ideal) (k0_pay1 (F := Ideal) x g) _ ?_ y (cover0_2 _ y)
  intro pc hpc
  rcases List.mem_cons.mp hpc with rfl | hpc
  · exact fun i => congrArg (k0_pay1 (F := Ideal) x g) (Shape.idx_ext₂ (by show (i 0).val = 0 + 1 * (i 0).val; omega) (by show (i 1).val = 0 + 1 * (i 1).val; omega))
  nomatch hpc

theorem V_main_v0 (c : Dev nD) : V m c main_v0 = broadcastInDim S1x2048 ![1] bcast_S2048_S1x2048_1 (m ((c.tc : Thread nD τ).loc main_arg1)) := by
  unfold V
  after_results <;> rfl

theorem gain_row (g : Vec Ideal S2048 .f32) (j : Fin 2048) : broadcastInDim S1x2048 ![1] bcast_S2048_S1x2048_1 g (ix2 0 j) = g (ix1 j) := by
  pointwise

theorem idx0 : ∀ t : Fin cfg0.N, win0_0.index t 0 = t.val ∧ win0_0.index t 1 = 0 :=
  (by decide +kernel : ∀ t : Fin grid0.N, _)

theorem idx1 : ∀ t : Fin cfg0.N, win0_1.index t 0 = 0 ∧ win0_1.index t 1 = 0 :=
  (by decide +kernel : ∀ t : Fin grid0.N, _)

theorem idx2 : ∀ t : Fin cfg0.N, win0_2.index t 0 = t.val ∧ win0_2.index t 1 = 0 :=
  (by decide +kernel : ∀ t : Fin grid0.N, _)

theorem flush2 : ∀ t : Fin cfg0.N, (cfg0.win 2).flush t = true :=
  (by decide +kernel : ∀ t : Fin grid0.N, (cfg0.win 2).flush t = true)

theorem iblk0_apply (c : Dev nD) (t : Fin cfg0.N) (r : Fin 128) (k : Fin 2048) (R : Fin 128) (hR : R.val = t.val * 128 + r.val) :
    iblk m c 0 t (ix2 r k) = m ((c.tc : Thread nD τ).loc main_arg0) (ix2 R k) := by
  show V m c main_arg0 (((cfg0.win 0).blk t).view.emb (ix2 r k)) = _
  rw [V_main_arg0]
  refine congrArg _ (Shape.idx_ext₂ ?_ ?_)
  · show win0_0.index t 0 * 128 + 1 * r.val = R.val
    rw [(idx0 t).1, hR, Nat.one_mul]
  · show win0_0.index t 1 * 2048 + 1 * k.val = k.val
    rw [(idx0 t).2]; omega

theorem iblk1_apply (c : Dev nD) (t : Fin cfg0.N) (j : Fin 2048) :
    iblk m c 1 t (ix2 0 j) = m ((c.tc : Thread nD τ).loc main_arg1) (ix1 j) := by
  show V m c main_v0 (((cfg0.win 1).blk t).view.emb (ix2 0 j)) = _
  rw [V_main_v0, show ((cfg0.win 1).blk t).view.emb (ix2 0 j) = (ix2 0 j : S1x2048.Idx) from Shape.idx_ext₂
    (by show win0_1.index t 0 * 1 + 1 * 0 = 0; rw [(idx1 t).1])
    (by show win0_1.index t 1 * 2048 + 1 * j.val = j.val; rw [(idx1 t).2]; omega)]
  exact gain_row _ j

theorem block (c : Dev nD) (t : Fin cfg0.N) (y : S128x2048.Idx) (i : S128x2048.Idx) (h0 : (i 0).val = t.val * 128 + (y 0).val) (h1 : (i 1).val = (y 1).val) :
    out0_2 (F := Ideal) (iblk m c 0 t) (iblk m c 1 t) y = ref (m ((c.tc : Thread nD τ).loc main_arg0)) (m ((c.tc : Thread nD τ).loc main_arg1)) i := by
  refine (out_eq (iblk m c 0 t) (iblk m c 1 t) y).trans ?_
  rw [show i = ix2 (i 0) (y 1) from Shape.idx_ext₂ rfl h1, show y = ix2 (y 0) (y 1) from Shape.idx_ext₂ rfl rfl]
  refine (pay1_apply (iblk m c 0 t) (iblk m c 1 t) (y 0) (y 1)).trans (Eq.trans ?_ (ref_apply _ _ (i 0) (y 1)).symm)
  exact entry_congr (iblk m c 0 t) _ _ _ _ _ _ (fun k => iblk0_apply m c t _ k _ h0) (iblk1_apply m c t _)

theorem flushed (c : Dev nD) (t : Fin cfg0.N) :
    (dats m 0 c).flushed 2 t = ((cfg0.win 2).blk t).view.read (Elt Ideal) (ref (m ((c.tc : Thread nD τ).loc main_arg0)) (m ((c.tc : Thread nD τ).loc main_arg1))) := by
  rw [Value.flushed2]
  funext y
  show out0_2 (F := Ideal) (iblk m c 0 t) (iblk m c 1 t) (y : S128x2048.Idx) = ref (m ((c.tc : Thread nD τ).loc main_arg0)) (m ((c.tc : Thread nD τ).loc main_arg1)) (((cfg0.win 2).blk t).view.emb y)
  refine block m c t y _ ?_ ?_
  · show win0_2.index t 0 * 128 + 1 * _ = _
    rw [(idx2 t).1, Nat.one_mul]
  · show win0_2.index t 1 * 2048 + 1 * _ = _
    rw [(idx2 t).2, Nat.zero_mul, Nat.one_mul, Nat.zero_add]

theorem mem_blk (t : Fin cfg0.N) (i : S128x2048.Idx) :
    i ∈ ((cfg0.win 2).blk t).view.set ↔ ∀ a : Fin 2, win0_2.index t a * S128x2048.size a ≤ (i a).val ∧ (i a).val < win0_2.index t a * S128x2048.size a + S128x2048.size a := by
  show i ∈ ((View.whole main_v1).slice (win0_2.rect t)).set ↔ _
  rw [View.set_slice_whole, Rect.mem_set_unit]
  exact Iff.rfl

theorem final (c : Dev nD) : (dats m 0 c).arrAt 2 cfg0.N = ref (m ((c.tc : Thread nD τ).loc main_arg0)) (m ((c.tc : Thread nD τ).loc main_arg1)) :=
  (dats m 0 c).arrAt_eq_of_cover 2 _ (fun t _ => flushed m c t) (fun i => by
    have hi0 : ((i : S128x2048.Idx) 0).val < 128 := ((i : S128x2048.Idx) 0).isLt
    have hi1 : ((i : S128x2048.Idx) 1).val < 2048 := ((i : S128x2048.Idx) 1).isLt
    have hN : cfg0.N = 1 := N_0
    refine ⟨⟨((i : S128x2048.Idx) 0).val / 128, by omega⟩, flush2 _, ?_⟩
    refine (mem_blk _ i).mpr ?_
    intro a
    match a with
    | ⟨0, _⟩ =>
      show win0_2.index _ 0 * 128 ≤ (i 0).val ∧ (i 0).val < win0_2.index _ 0 * 128 + 128
      rw [(idx2 _).1]; dsimp only; omega
    | ⟨1, _⟩ =>
      show win0_2.index _ 1 * 2048 ≤ (i 1).val ∧ (i 1).val < win0_2.index _ 1 * 2048 + 2048
      rw [(idx2 _).2]; omega)

/-- The kernel's run with its result named. -/
theorem run_values : θ_run defs (onTc (τ := τ) (main (F := Ideal))) ⟨m, fun _ => 0, ρ⟩ fun r => ∀ c : Dev nD,
      r.2.mem ((c.tc : Thread nD τ).loc main_v1) = ref (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (final m c), (h c).2⟩) (Value.run_blocks m ρ)

end Cert.Kernel6Ideal.Hand

end
-- ==== Proof.RglruSample.Cut.lean ====
/- The body of the recurrence kernel over one tile, cut where its own loops are: a chunk of 128 channels, the scan over the groups of
   eight rows, and what surrounds them. The printed body is these pieces in order. -/
module

public import proofs.«01_k».proof.Proof.Gen.Kernel7Ideal.Frame.Runs
public import proofs.«01_k».proof.Proof.Gen.Kernel7Ideal.Skeleton
public import proofs.«01_k».proof.Proof.Gen.Kernel7Ideal.Launch
public import proofs.«01_k».proof.Proof.Buffer
public import Idealize.ShloMosaic.Lib.Claim

@[expose] public section

set_option maxRecDepth 65536

noncomputable section

namespace Cert.Kernel7Ideal.Hand

open Idealize.ShloMosaic Idealize.ShloMosaic.TcCoe Idealize.ShloMosaic.Tactic Cert.Buffer
open Idealize.SL Idealize.SL.RA Idealize.SL.BI
open scoped Idealize.SL.BI
open Idealize.SL.BI.BIBase Idealize.SL.BI.Laws Idealize.SL.ProofMode Idealize.SL.Sem
open Cert.Kernel7Ideal.Gen

variable {F : FTy → Type} [FloatOps F]

/-- A buffer of the vector memory. -/
abbrev MR (s : Shape) (e : EltTy) := Memref sig .tc .vmem s e

/-! ## What one chunk of 128 channels computes -/

/-- Half of the causal convolution of width four, the eight rows before the tile at hand. -/
def cConv (cw : Vec F S4x128 .f32) (u : Vec F S16x128 .f32) (prev : Vec F S8x128 .f32) (cb : Vec F S1x128 .f32) : FVec F S16x128 .f32 :=
  have v3 : IVec S2x8x128 32 := iota .tc S2x8x128 32 [1] iota_S2x8x128_d1_w32
  have v5 : FVec F S4x128 .f32 := shapeCast S4x128 cw shapeCasts_S4x128_S4x128
  have cst : F .f32 := Scalar.ofBits .f32 0x3F000000#32
  have v6 : FVec F S4x128 .f32 := broadcast S4x128 cst
  have v7 : FVec F S4x128 .f32 := mulf v6 v5
  have v9 : FVec F S2x8x128 .f32 := shapeCast S2x8x128 u shapeCasts_S16x128_S2x8x128
  have v12 : FVec F S1x128 .f32 := shapeCast S1x128 cb shapeCasts_S1x128_S1x128
  have cst_8 : F .f32 := Scalar.ofBits .f32 0x3F000000#32
  have v13 : FVec F S1x128 .f32 := broadcast S1x128 cst_8
  have v14 : FVec F S1x128 .f32 := mulf v13 v12
  have v15 : FVec F S1x128 .f32 := extractStridedSlice S1x128 ![3, 0] v7 slices_S4x128_o3_0_S1x128
  have v16 : FVec F S1x1x128 .f32 := shapeCast S1x1x128 v15 shapeCasts_S1x128_S1x1x128
  have v17 : FVec F S2x8x128 .f32 := broadcastTo S2x8x128 v16 broadcasts_S1x1x128_S2x8x128
  have v18 : FVec F S2x8x128 .f32 := mulf v9 v17
  have v19 : FVec F S1x1x128 .f32 := shapeCast S1x1x128 v14 shapeCasts_S1x128_S1x1x128
  have v20 : FVec F S2x8x128 .f32 := broadcastTo S2x8x128 v19 broadcasts_S1x1x128_S2x8x128
  have v21 : FVec F S2x8x128 .f32 := addf v20 v18
  let c3_i32 : BitVec 32 := 3#32
  have v22 : FVec F S2x8x128 .f32 := dynamicRotate 1 c3_i32 none v9 rotates_S2x8x128_d1
  let c3_i32_9 : BitVec 32 := 3#32
  have v23 : FVec F S8x128 .f32 := dynamicRotate 0 c3_i32_9 none prev rotates_S8x128_d0
  have v24 : FVec F S1x8x128 .f32 := shapeCast S1x8x128 v23 shapeCasts_S8x128_S1x8x128
  have v25 : FVec F S1x8x128 .f32 := extractStridedSlice S1x8x128 ![0, 0, 0] v22 slices_S2x8x128_o0_0_0_S1x8x128
  have v26 : FVec F S2x8x128 .f32 := concatenate S2x8x128 0 [⟨S1x8x128, v24⟩, ⟨S1x8x128, v25⟩] concatenates_S1x8x128_S1x8x128_S2x8x128_d0
  let c3_i32_10 : BitVec 32 := 3#32
  have v27 : IVec S2x8x128 32 := broadcast S2x8x128 c3_i32_10
  have v28 : IVec S2x8x128 1 := cmpi .sge v3 v27
  have v29 : FVec F S2x8x128 .f32 := select v28 v22 v26
  have v30 : FVec F S1x128 .f32 := extractStridedSlice S1x128 ![0, 0] v7 slices_S4x128_o0_0_S1x128
  have v31 : FVec F S1x1x128 .f32 := shapeCast S1x1x128 v30 shapeCasts_S1x128_S1x1x128
  have v32 : FVec F S2x8x128 .f32 := broadcastTo S2x8x128 v31 broadcasts_S1x1x128_S2x8x128
  have v33 : FVec F S2x8x128 .f32 := mulf v29 v32
  have v34 : FVec F S2x8x128 .f32 := addf v21 v33
  let c2_i32 : BitVec 32 := 2#32
  have v35 : FVec F S2x8x128 .f32 := dynamicRotate 1 c2_i32 none v9 rotates_S2x8x128_d1
  let c2_i32_11 : BitVec 32 := 2#32
  have v36 : FVec F S8x128 .f32 := dynamicRotate 0 c2_i32_11 none prev rotates_S8x128_d0
  have v37 : FVec F S1x8x128 .f32 := shapeCast S1x8x128 v36 shapeCasts_S8x128_S1x8x128
  have v38 : FVec F S1x8x128 .f32 := extractStridedSlice S1x8x128 ![0, 0, 0] v35 slices_S2x8x128_o0_0_0_S1x8x128
  have v39 : FVec F S2x8x128 .f32 := concatenate S2x8x128 0 [⟨S1x8x128, v37⟩, ⟨S1x8x128, v38⟩] concatenates_S1x8x128_S1x8x128_S2x8x128_d0
  let c2_i32_12 : BitVec 32 := 2#32
  have v40 : IVec S2x8x128 32 := broadcast S2x8x128 c2_i32_12
  have v41 : IVec S2x8x128 1 := cmpi .sge v3 v40
  have v42 : FVec F S2x8x128 .f32 := select v41 v35 v39
  have v43 : FVec F S1x128 .f32 := extractStridedSlice S1x128 ![1, 0] v7 slices_S4x128_o1_0_S1x128
  have v44 : FVec F S1x1x128 .f32 := shapeCast S1x1x128 v43 shapeCasts_S1x128_S1x1x128
  have v45 : FVec F S2x8x128 .f32 := broadcastTo S2x8x128 v44 broadcasts_S1x1x128_S2x8x128
  have v46 : FVec F S2x8x128 .f32 := mulf v42 v45
  have v47 : FVec F S2x8x128 .f32 := addf v34 v46
  let c1_i32 : BitVec 32 := 1#32
  have v48 : FVec F S2x8x128 .f32 := dynamicRotate 1 c1_i32 none v9 rotates_S2x8x128_d1
  let c1_i32_13 : BitVec 32 := 1#32
  have v49 : FVec F S8x128 .f32 := dynamicRotate 0 c1_i32_13 none prev rotates_S8x128_d0
  have v50 : FVec F S1x8x128 .f32 := shapeCast S1x8x128 v49 shapeCasts_S8x128_S1x8x128
  have v51 : FVec F S1x8x128 .f32 := extractStridedSlice S1x8x128 ![0, 0, 0] v48 slices_S2x8x128_o0_0_0_S1x8x128
  have v52 : FVec F S2x8x128 .f32 := concatenate S2x8x128 0 [⟨S1x8x128, v50⟩, ⟨S1x8x128, v51⟩] concatenates_S1x8x128_S1x8x128_S2x8x128_d0
  let c1_i32_14 : BitVec 32 := 1#32
  have v53 : IVec S2x8x128 32 := broadcast S2x8x128 c1_i32_14
  have v54 : IVec S2x8x128 1 := cmpi .sge v3 v53
  have v55 : FVec F S2x8x128 .f32 := select v54 v48 v52
  have v56 : FVec F S1x128 .f32 := extractStridedSlice S1x128 ![2, 0] v7 slices_S4x128_o2_0_S1x128
  have v57 : FVec F S1x1x128 .f32 := shapeCast S1x1x128 v56 shapeCasts_S1x128_S1x1x128
  have v58 : FVec F S2x8x128 .f32 := broadcastTo S2x8x128 v57 broadcasts_S1x1x128_S2x8x128
  have v59 : FVec F S2x8x128 .f32 := mulf v55 v58
  have v60 : FVec F S2x8x128 .f32 := addf v47 v59
  have v61 : FVec F S16x128 .f32 := shapeCast S16x128 v60 shapeCasts_S2x8x128_S16x128
  v61

/-- The hyperbolic tangent of half a gate. -/
def cTanh (xh : FVec F S16x128 .f32) (w : Vec F S1x128x128 .f32) (b : Vec F S1x128 .f32) : FVec F S16x128 .f32 :=
  have v62 : FVec F S16x128 .bf16 := truncf .bf16 xh bitsLt_bf16_f32
  have v64 : FVec F S128x128 .f32 := shapeCast S128x128 w shapeCasts_S1x128x128_S128x128
  have v65 : FVec F S128x128 .bf16 := truncf .bf16 v64 bitsLt_bf16_f32
  have cst_18 : FVec F S16x128 .f32 := constant S16x128 .f32 0x00000000#32
  have v66 : FVec F S16x128 .f32 := matmul dot_S16x128_S128x128_S16x128_1_0_0_1_n_n none v62 v65 cst_18
  have v72 : FVec F S1x128 .f32 := shapeCast S1x128 b shapeCasts_S1x128_S1x128
  have cst_25 : F .f32 := Scalar.ofBits .f32 0x3F000000#32
  have v73 : FVec F S1x128 .f32 := broadcast S1x128 cst_25
  have v74 : FVec F S1x128 .f32 := mulf v73 v72
  have v75 : FVec F S16x128 .f32 := broadcastTo S16x128 v74 broadcasts_S1x128_S16x128
  have v76 : FVec F S16x128 .f32 := addf v66 v75
  have v77 : FVec F S16x128 .f32 := tanh v76
  v77

/-- The logarithm of the decay. -/
def cLog (tr : FVec F S16x128 .f32) (lam : Vec F S1x128 .f32) : FVec F S16x128 .f32 :=
  have cst_29 : F .f32 := Scalar.ofBits .f32 0x3F800000#32
  have v85 : FVec F S16x128 .f32 := broadcast S16x128 cst_29
  have v86 : FVec F S16x128 .f32 := addf v85 tr
  have v88 : FVec F S1x128 .f32 := shapeCast S1x128 lam shapeCasts_S1x128_S1x128
  have cst_32 : F .f32 := Scalar.ofBits .f32 0x00000000#32
  have v89 : FVec F S1x128 .f32 := broadcast S1x128 cst_32
  have v90 : FVec F S1x128 .f32 := subf v89 v88
  have cst_33 : F .f32 := Scalar.ofBits .f32 0x00000000#32
  have v91 : FVec F S1x128 .f32 := broadcast S1x128 cst_33
  have v92 : FVec F S1x128 .f32 := maximumf v90 v91
  have v93 : FVec F S1x128 .f32 := absf v90
  have cst_34 : F .f32 := Scalar.ofBits .f32 0x00000000#32
  have v94 : FVec F S1x128 .f32 := broadcast S1x128 cst_34
  have v95 : FVec F S1x128 .f32 := subf v94 v93
  have v96 : FVec F S1x128 .f32 := exp v95
  have v97 : FVec F S1x128 .f32 := log1p v96
  have v98 : FVec F S1x128 .f32 := addf v92 v97
  have cst_35 : F .f32 := Scalar.ofBits .f32 0xC0800000#32
  have v99 : FVec F S1x128 .f32 := broadcast S1x128 cst_35
  have v100 : FVec F S1x128 .f32 := mulf v99 v98
  have v101 : FVec F S16x128 .f32 := broadcastTo S16x128 v100 broadcasts_S1x128_S16x128
  have v102 : FVec F S16x128 .f32 := mulf v86 v101
  v102

/-- The input term of the recurrence. -/
def cB (la ti xh : FVec F S16x128 .f32) : FVec F S16x128 .f32 :=
  have v104 : FVec F S16x128 .f32 := tanh la
  have v105 : FVec F S16x128 .f32 := mulf (exp la) (exp la)
  have cst_36 : F .f32 := Scalar.ofBits .f32 0xBF800000#32
  have v106 : FVec F S16x128 .f32 := broadcast S16x128 cst_36
  have v107 : FVec F S16x128 .f32 := subf v106 v105
  have v108 : FVec F S16x128 .f32 := mulf v104 v107
  have cst_37 : F .f32 := Scalar.ofBits .f32 0x00000000#32
  have v109 : FVec F S16x128 .f32 := broadcast S16x128 cst_37
  have v110 : IVec S16x128 1 := cmpf .ogt v108 v109
  have v111 : FVec F S16x128 .f32 := rsqrt v108
  have v112 : FVec F S16x128 .f32 := mulf v108 v111
  have cst_38 : F .f32 := Scalar.ofBits .f32 0x00000000#32
  have v113 : FVec F S16x128 .f32 := broadcast S16x128 cst_38
  have v114 : FVec F S16x128 .f32 := select v110 v112 v113
  have cst_39 : F .f32 := Scalar.ofBits .f32 0x3F800000#32
  have v115 : FVec F S16x128 .f32 := broadcast S16x128 cst_39
  have v116 : FVec F S16x128 .f32 := addf v115 ti
  have v117 : FVec F S16x128 .f32 := mulf v116 xh
  have v118 : FVec F S16x128 .f32 := mulf v114 v117
  v118

/-- The products of decays over the rows of a group, up to each row. -/
def cScanA (a b : FVec F S16x128 .f32) : FVec F S2x8x128 .f32 :=
  have v3 : IVec S2x8x128 32 := iota .tc S2x8x128 32 [1] iota_S2x8x128_d1_w32
  have v119 : FVec F S2x8x128 .f32 := shapeCast S2x8x128 a shapeCasts_S16x128_S2x8x128
  have v120 : FVec F S2x8x128 .f32 := shapeCast S2x8x128 b shapeCasts_S16x128_S2x8x128
  let c1_i32_40 : BitVec 32 := 1#32
  have v121 : IVec S2x8x128 32 := broadcast S2x8x128 c1_i32_40
  have v122 : IVec S2x8x128 1 := cmpi .sge v3 v121
  let c1_i32_41 : BitVec 32 := 1#32
  have v123 : FVec F S2x8x128 .f32 := dynamicRotate 1 c1_i32_41 none v119 rotates_S2x8x128_d1
  let c1_i32_42 : BitVec 32 := 1#32
  have v124 : FVec F S2x8x128 .f32 := dynamicRotate 1 c1_i32_42 none v120 rotates_S2x8x128_d1
  have v125 : FVec F S2x8x128 .f32 := mulf v119 v124
  have v126 : FVec F S2x8x128 .f32 := addf v125 v120
  have v127 : FVec F S2x8x128 .f32 := select v122 v126 v120
  have v128 : FVec F S2x8x128 .f32 := mulf v119 v123
  have v129 : FVec F S2x8x128 .f32 := select v122 v128 v119
  let c2_i32_43 : BitVec 32 := 2#32
  have v130 : IVec S2x8x128 32 := broadcast S2x8x128 c2_i32_43
  have v131 : IVec S2x8x128 1 := cmpi .sge v3 v130
  let c2_i32_44 : BitVec 32 := 2#32
  have v132 : FVec F S2x8x128 .f32 := dynamicRotate 1 c2_i32_44 none v129 rotates_S2x8x128_d1
  let c2_i32_45 : BitVec 32 := 2#32
  have v133 : FVec F S2x8x128 .f32 := dynamicRotate 1 c2_i32_45 none v127 rotates_S2x8x128_d1
  have v134 : FVec F S2x8x128 .f32 := mulf v129 v133
  have v135 : FVec F S2x8x128 .f32 := addf v134 v127
  have v136 : FVec F S2x8x128 .f32 := select v131 v135 v127
  have v137 : FVec F S2x8x128 .f32 := mulf v129 v132
  have v138 : FVec F S2x8x128 .f32 := select v131 v137 v129
  let c4_i32 : BitVec 32 := 4#32
  have v139 : IVec S2x8x128 32 := broadcast S2x8x128 c4_i32
  have v140 : IVec S2x8x128 1 := cmpi .sge v3 v139
  let c4_i32_46 : BitVec 32 := 4#32
  have v141 : FVec F S2x8x128 .f32 := dynamicRotate 1 c4_i32_46 none v138 rotates_S2x8x128_d1
  let c4_i32_47 : BitVec 32 := 4#32
  have v142 : FVec F S2x8x128 .f32 := dynamicRotate 1 c4_i32_47 none v136 rotates_S2x8x128_d1
  have v143 : FVec F S2x8x128 .f32 := mulf v138 v142
  have v144 : FVec F S2x8x128 .f32 := addf v143 v136
  have v145 : FVec F S2x8x128 .f32 := select v140 v144 v136
  have v146 : FVec F S2x8x128 .f32 := mulf v138 v141
  have v147 : FVec F S2x8x128 .f32 := select v140 v146 v138
  have v150 : FVec F S2x8x128 .f32 := shapeCast S2x8x128 v147 shapeCasts_S2x8x128_S2x8x128
  v150

/-- The recurrence within a group from nothing. -/
def cScanB (a b : FVec F S16x128 .f32) : FVec F S2x8x128 .f32 :=
  have v3 : IVec S2x8x128 32 := iota .tc S2x8x128 32 [1] iota_S2x8x128_d1_w32
  have v119 : FVec F S2x8x128 .f32 := shapeCast S2x8x128 a shapeCasts_S16x128_S2x8x128
  have v120 : FVec F S2x8x128 .f32 := shapeCast S2x8x128 b shapeCasts_S16x128_S2x8x128
  let c1_i32_40 : BitVec 32 := 1#32
  have v121 : IVec S2x8x128 32 := broadcast S2x8x128 c1_i32_40
  have v122 : IVec S2x8x128 1 := cmpi .sge v3 v121
  let c1_i32_41 : BitVec 32 := 1#32
  have v123 : FVec F S2x8x128 .f32 := dynamicRotate 1 c1_i32_41 none v119 rotates_S2x8x128_d1
  let c1_i32_42 : BitVec 32 := 1#32
  have v124 : FVec F S2x8x128 .f32 := dynamicRotate 1 c1_i32_42 none v120 rotates_S2x8x128_d1
  have v125 : FVec F S2x8x128 .f32 := mulf v119 v124
  have v126 : FVec F S2x8x128 .f32 := addf v125 v120
  have v127 : FVec F S2x8x128 .f32 := select v122 v126 v120
  have v128 : FVec F S2x8x128 .f32 := mulf v119 v123
  have v129 : FVec F S2x8x128 .f32 := select v122 v128 v119
  let c2_i32_43 : BitVec 32 := 2#32
  have v130 : IVec S2x8x128 32 := broadcast S2x8x128 c2_i32_43
  have v131 : IVec S2x8x128 1 := cmpi .sge v3 v130
  let c2_i32_44 : BitVec 32 := 2#32
  have v132 : FVec F S2x8x128 .f32 := dynamicRotate 1 c2_i32_44 none v129 rotates_S2x8x128_d1
  let c2_i32_45 : BitVec 32 := 2#32
  have v133 : FVec F S2x8x128 .f32 := dynamicRotate 1 c2_i32_45 none v127 rotates_S2x8x128_d1
  have v134 : FVec F S2x8x128 .f32 := mulf v129 v133
  have v135 : FVec F S2x8x128 .f32 := addf v134 v127
  have v136 : FVec F S2x8x128 .f32 := select v131 v135 v127
  have v137 : FVec F S2x8x128 .f32 := mulf v129 v132
  have v138 : FVec F S2x8x128 .f32 := select v131 v137 v129
  let c4_i32 : BitVec 32 := 4#32
  have v139 : IVec S2x8x128 32 := broadcast S2x8x128 c4_i32
  have v140 : IVec S2x8x128 1 := cmpi .sge v3 v139
  let c4_i32_46 : BitVec 32 := 4#32
  have v141 : FVec F S2x8x128 .f32 := dynamicRotate 1 c4_i32_46 none v138 rotates_S2x8x128_d1
  let c4_i32_47 : BitVec 32 := 4#32
  have v142 : FVec F S2x8x128 .f32 := dynamicRotate 1 c4_i32_47 none v136 rotates_S2x8x128_d1
  have v143 : FVec F S2x8x128 .f32 := mulf v138 v142
  have v144 : FVec F S2x8x128 .f32 := addf v143 v136
  have v145 : FVec F S2x8x128 .f32 := select v140 v144 v136
  have v146 : FVec F S2x8x128 .f32 := mulf v138 v141
  have v147 : FVec F S2x8x128 .f32 := select v140 v146 v138
  have v153 : FVec F S2x8x128 .f32 := shapeCast S2x8x128 v145 shapeCasts_S2x8x128_S2x8x128
  v153

/-! ## The pieces of the body -/

theorem inbU : ∀ n : Fin 16, ∀ a, (![0, 128 * n.val] : Fin 2 → Nat) a + S16x128.size a ≤ S16x2048.size a := by decide
theorem inbE : ∀ n : Fin 16, ∀ a, (![0, 128 * n.val] : Fin 2 → Nat) a + S8x128.size a ≤ S8x2048.size a := by decide
theorem inbC : ∀ n : Fin 16, ∀ a, (![0, 128 * n.val] : Fin 2 → Nat) a + S4x128.size a ≤ S4x2048.size a := by decide
theorem inbV : ∀ n : Fin 16, ∀ a, (![0, 128 * n.val] : Fin 2 → Nat) a + S1x128.size a ≤ S1x2048.size a := by decide
theorem inbW : ∀ n : Fin 16, ∀ a, (![n.val, 0, 0] : Fin 3 → Nat) a + S1x128x128.size a ≤ S16x128x128.size a := by decide
theorem inbA : ∀ n : Fin 16, ∀ a, (![0, 0, 128 * n.val] : Fin 3 → Nat) a + S2x8x128.size a ≤ S2x8x2048.size a := by decide
theorem inbG : ∀ g : Fin 2, ∀ a, (![g.val, 0, 0] : Fin 3 → Nat) a + S1x8x2048.size a ≤ S2x8x2048.size a := by decide

/-- The decays of a chunk and its input terms, of what it reads. -/
def headVal (cw : Vec F S4x128 .f32) (u : Vec F S16x128 .f32) (prev : Vec F S8x128 .f32) (cb : Vec F S1x128 .f32) (wa wx : Vec F S1x128x128 .f32) (ba bx lam : Vec F S1x128 .f32) : FVec F S16x128 .f32 × FVec F S16x128 .f32 :=
  (exp (cLog (cTanh (cConv cw u prev cb) wa ba) lam), cB (cLog (cTanh (cConv cw u prev cb) wa ba) lam) (cTanh (cConv cw u prev cb) wx bx) (cConv cw u prev cb))

/-- A chunk of channels up to its decays and input terms. -/
def chunkHead (n : Fin 16) (arg3 : MR S16x2048 .f32) (arg5 : MR S4x2048 .f32) (arg17 : MR S8x2048 .f32) (arg6 : MR S1x2048 .f32) (arg7 arg9 : MR S16x128x128 .f32) (arg8 arg10 arg11 : MR S1x2048 .f32) :
    Prog (TpuEff nD τ sig (Elt F) Λ₀ .tc) (FVec F S16x128 .f32 × FVec F S16x128 .f32) := do
  let cw : Vec F S4x128 .f32 ← Prog.lift (.load arg5 (Rect.unit (s := S4x2048) ![0, 128 * n.val] S4x128.size (inbC n)).toLoadRect (View.loadsAt_vmem h_S4x128))
  let u : Vec F S16x128 .f32 ← Prog.lift (.load arg3 (Rect.unit (s := S16x2048) ![0, 128 * n.val] S16x128.size (inbU n)).toLoadRect (View.loadsAt_vmem h_S16x128))
  let prev : Vec F S8x128 .f32 ← Prog.lift (.load arg17 (Rect.unit (s := S8x2048) ![0, 128 * n.val] S8x128.size (inbE n)).toLoadRect (View.loadsAt_vmem h_S8x128))
  let cb : Vec F S1x128 .f32 ← Prog.lift (.load arg6 (Rect.unit (s := S1x2048) ![0, 128 * n.val] S1x128.size (inbV n)).toLoadRect (View.loadsAt_vmem h_S1x128))
  let wa : Vec F S1x128x128 .f32 ← Prog.lift (.load arg7 (Rect.unit (s := S16x128x128) ![n.val, 0, 0] S1x128x128.size (inbW n)).toLoadRect (View.loadsAt_vmem h_S1x128x128))
  let wx : Vec F S1x128x128 .f32 ← Prog.lift (.load arg9 (Rect.unit (s := S16x128x128) ![n.val, 0, 0] S1x128x128.size (inbW n)).toLoadRect (View.loadsAt_vmem h_S1x128x128))
  let ba : Vec F S1x128 .f32 ← Prog.lift (.load arg8 (Rect.unit (s := S1x2048) ![0, 128 * n.val] S1x128.size (inbV n)).toLoadRect (View.loadsAt_vmem h_S1x128))
  let bx : Vec F S1x128 .f32 ← Prog.lift (.load arg10 (Rect.unit (s := S1x2048) ![0, 128 * n.val] S1x128.size (inbV n)).toLoadRect (View.loadsAt_vmem h_S1x128))
  let lam : Vec F S1x128 .f32 ← Prog.lift (.load arg11 (Rect.unit (s := S1x2048) ![0, 128 * n.val] S1x128.size (inbV n)).toLoadRect (View.loadsAt_vmem h_S1x128))
  pure (headVal cw u prev cb wa wx ba bx lam)

/-- The end of a chunk: its scans are kept. -/
def chunkTail (n : Fin 16) (a b : FVec F S16x128 .f32) (arg18 arg19 : MR S2x8x2048 .f32) : Prog (TpuEff nD τ sig (Elt F) Λ₀ .tc) PUnit := do
  let x : Vec F S2x8x128 .f32 ← Prog.lift (.load arg18 (Rect.unit (s := S2x8x2048) ![0, 0, 128 * n.val] S2x8x128.size (inbA n)).toLoadRect (View.loadsAt_vmem h_S2x8x128))
  Prog.lift (.store arg18 (Rect.unit (s := S2x8x2048) ![0, 0, 128 * n.val] S2x8x128.size (inbA n)) (cScanA a b) Finset.univ (View.stores_vmem_bits_univ h_S2x8x128 rfl) (.inl rfl))
  let y : Vec F S2x8x128 .f32 ← Prog.lift (.load arg19 (Rect.unit (s := S2x8x2048) ![0, 0, 128 * n.val] S2x8x128.size (inbA n)).toLoadRect (View.loadsAt_vmem h_S2x8x128))
  Prog.lift (.store arg19 (Rect.unit (s := S2x8x2048) ![0, 0, 128 * n.val] S2x8x128.size (inbA n)) (cScanB a b) Finset.univ (View.stores_vmem_bits_univ h_S2x8x128 rfl) (.inl rfl))

/-- The chunks in order. -/
def chunks (arg3 : MR S16x2048 .f32) (arg5 : MR S4x2048 .f32) (arg17 : MR S8x2048 .f32) (arg6 : MR S1x2048 .f32) (arg7 arg9 : MR S16x128x128 .f32) (arg8 arg10 arg11 : MR S1x2048 .f32) (arg18 arg19 : MR S2x8x2048 .f32) : (k n : ℕ) → n + k ≤ 16 → Prog (TpuEff nD τ sig (Elt F) Λ₀ .tc) PUnit
  | 0, _, _ => pure ⟨⟩
  | k + 1, n, h => do
    let p ← chunkHead ⟨n, by omega⟩ arg3 arg5 arg17 arg6 arg7 arg9 arg8 arg10 arg11
    chunkTail ⟨n, by omega⟩ p.1 p.2 arg18 arg19
    chunks arg3 arg5 arg17 arg6 arg7 arg9 arg8 arg10 arg11 arg18 arg19 k (n + 1) (by omega)

/-- The rows of a group from the last row before it. -/
def gRow (a b : Vec F S1x8x2048 .f32) (h : FVec F S1x2048 .f32) : FVec F S8x2048 .f32 :=
  addf (mulf (shapeCast S8x2048 a shapeCasts_S1x8x2048_S8x2048) (broadcastTo S8x2048 h broadcasts_S1x2048_S8x2048)) (shapeCast S8x2048 b shapeCasts_S1x8x2048_S8x2048)
/-- A group's last row. -/
def gLast (x : FVec F S8x2048 .f32) : FVec F S1x2048 .f32 := extractStridedSlice S1x2048 ![7, 0] x slices_S8x2048_o7_0_S1x2048

/-- One group of rows. -/
def group (g : Fin 2) (h : FVec F S1x2048 .f32) (arg18 arg19 arg20 : MR S2x8x2048 .f32) : Prog (TpuEff nD τ sig (Elt F) Λ₀ .tc) (FVec F S1x2048 .f32) := do
  let a : Vec F S1x8x2048 .f32 ← Prog.lift (.load arg18 (Rect.unit (s := S2x8x2048) ![g.val, 0, 0] S1x8x2048.size (inbG g)).toLoadRect (View.loadsAt_vmem h_S1x8x2048))
  let b : Vec F S1x8x2048 .f32 ← Prog.lift (.load arg19 (Rect.unit (s := S2x8x2048) ![g.val, 0, 0] S1x8x2048.size (inbG g)).toLoadRect (View.loadsAt_vmem h_S1x8x2048))
  let z : Vec F S1x8x2048 .f32 ← Prog.lift (.load arg20 (Rect.unit (s := S2x8x2048) ![g.val, 0, 0] S1x8x2048.size (inbG g)).toLoadRect (View.loadsAt_vmem h_S1x8x2048))
  Prog.lift (.store arg20 (Rect.unit (s := S2x8x2048) ![g.val, 0, 0] S1x8x2048.size (inbG g)) (shapeCast S1x8x2048 (gRow a b h) shapeCasts_S8x2048_S1x8x2048) Finset.univ (View.stores_vmem_bits_univ h_S1x8x2048 rfl) (.inl rfl))
  pure (gLast (gRow a b h))

/-- The groups in order. -/
def groups (arg18 arg19 arg20 : MR S2x8x2048 .f32) : (k g : ℕ) → g + k ≤ 2 → FVec F S1x2048 .f32 → Prog (TpuEff nD τ sig (Elt F) Λ₀ .tc) (FVec F S1x2048 .f32)
  | 0, _, _, h => pure h
  | k + 1, g, hg, h => do
    let h' ← group ⟨g, by omega⟩ h arg18 arg19 arg20
    groups arg18 arg19 arg20 k (g + 1) (by omega) h'

/-- What the first tile of a block does first. -/
def init (arg12 : MR S1x8x2048 .f32) (arg13 : MR S1x1x2048 .f32) (arg17 : MR S8x2048 .f32) (arg21 : MR S1x2048 .f32) : Prog (TpuEff nD τ sig (Elt F) Λ₀ .tc) PUnit := do
  let v2466 : Vec F S1x8x2048 .f32 ← Prog.lift (.load arg12 (Rect.unit (s := S1x8x2048) ![0, 0, 0] S1x8x2048.size inb_S1x8x2048_S1x8x2048_0_0_0).toLoadRect (View.loadsAt_vmem h_S1x8x2048))
  have v2467 : FVec F S8x2048 .f32 := shapeCast S8x2048 v2466 shapeCasts_S1x8x2048_S8x2048
  let v2468 : Vec F S8x2048 .f32 ← Prog.lift (.load arg17 (Rect.unit (s := S8x2048) ![0, 0] S8x2048.size inb_S8x2048_S8x2048_0_0).toLoadRect (View.loadsAt_vmem h_S8x2048))
  have v2469 : FVec F S8x2048 .f32 := shapeCast S8x2048 v2468 shapeCasts_S8x2048_S8x2048
  have v2470 : FVec F S8x2048 .f32 := shapeCast S8x2048 v2467 shapeCasts_S8x2048_S8x2048
  Prog.lift (.store arg17 (Rect.unit (s := S8x2048) ![0, 0] S8x2048.size inb_S8x2048_S8x2048_0_0) v2470 Finset.univ (View.stores_vmem_bits_univ h_S8x2048 rfl) (.inl rfl))
  let v2471 : Vec F S1x1x2048 .f32 ← Prog.lift (.load arg13 (Rect.unit (s := S1x1x2048) ![0, 0, 0] S1x1x2048.size inb_S1x1x2048_S1x1x2048_0_0_0).toLoadRect (View.loadsAt_vmem h_S1x1x2048))
  have v2472 : FVec F S1x2048 .f32 := shapeCast S1x2048 v2471 shapeCasts_S1x1x2048_S1x2048
  let v2473 : Vec F S1x2048 .f32 ← Prog.lift (.load arg21 (Rect.unit (s := S1x2048) ![0, 0] S1x2048.size inb_S1x2048_S1x2048_0_0).toLoadRect (View.loadsAt_vmem h_S1x2048))
  have v2474 : FVec F S1x2048 .f32 := shapeCast S1x2048 v2473 shapeCasts_S1x2048_S1x2048
  have v2475 : FVec F S1x2048 .f32 := shapeCast S1x2048 v2472 shapeCasts_S1x2048_S1x2048
  Prog.lift (.store arg21 (Rect.unit (s := S1x2048) ![0, 0] S1x2048.size inb_S1x2048_S1x2048_0_0) v2475 Finset.univ (View.stores_vmem_bits_univ h_S1x2048 rfl) (.inl rfl))
  pure ⟨⟩

/-- The gated tile. -/
def yOut (h : Vec F S2x8x2048 .f32) (g : Vec F S16x2048 .f32) : FVec F S16x2048 .bf16 :=
  have v2437 : FVec F S16x2048 .f32 := shapeCast S16x2048 h shapeCasts_S2x8x2048_S16x2048
  have v2439 : FVec F S16x2048 .f32 := mulf g g
  have v2440 : FVec F S16x2048 .f32 := mulf g v2439
  have cst_933 : F .f32 := Scalar.ofBits .f32 0x3D372713#32
  have v2441 : FVec F S16x2048 .f32 := broadcast S16x2048 cst_933
  have v2442 : FVec F S16x2048 .f32 := mulf v2441 v2440
  have v2443 : FVec F S16x2048 .f32 := addf g v2442
  have cst_934 : F .f32 := Scalar.ofBits .f32 0x3F4C422A#32
  have v2444 : FVec F S16x2048 .f32 := broadcast S16x2048 cst_934
  have v2445 : FVec F S16x2048 .f32 := mulf v2444 v2443
  have v2446 : FVec F S16x2048 .f32 := tanh v2445
  have cst_935 : F .f32 := Scalar.ofBits .f32 0x3F800000#32
  have v2447 : FVec F S16x2048 .f32 := broadcast S16x2048 cst_935
  have v2448 : FVec F S16x2048 .f32 := addf v2447 v2446
  have cst_936 : F .f32 := Scalar.ofBits .f32 0x3F000000#32
  have v2449 : FVec F S16x2048 .f32 := broadcast S16x2048 cst_936
  have v2450 : FVec F S16x2048 .f32 := mulf v2449 v2448
  have v2451 : FVec F S16x2048 .f32 := mulf g v2450
  have v2452 : FVec F S16x2048 .f32 := mulf v2437 v2451
  have v2453 : FVec F S16x2048 .bf16 := truncf .bf16 v2452 bitsLt_bf16_f32
  v2453

/-- The end of a tile. -/
def final (v2432 : FVec F S1x2048 .f32) (arg3 arg4 : MR S16x2048 .f32) (arg14 : MR S16x2048 .bf16) (harg14 : arg14.IsWhole) (arg15 : MR S1x1x2048 .f32) (arg16 : MR S1x8x2048 .f32) (arg17 : MR S8x2048 .f32) (arg20 : MR S2x8x2048 .f32) (arg21 : MR S1x2048 .f32) : Prog (TpuEff nD τ sig (Elt F) Λ₀ .tc) PUnit := do
  let v2433 : Vec F S1x2048 .f32 ← Prog.lift (.load arg21 (Rect.unit (s := S1x2048) ![0, 0] S1x2048.size inb_S1x2048_S1x2048_0_0).toLoadRect (View.loadsAt_vmem h_S1x2048))
  have v2434 : FVec F S1x2048 .f32 := shapeCast S1x2048 v2433 shapeCasts_S1x2048_S1x2048
  have v2435 : FVec F S1x2048 .f32 := shapeCast S1x2048 v2432 shapeCasts_S1x2048_S1x2048
  Prog.lift (.store arg21 (Rect.unit (s := S1x2048) ![0, 0] S1x2048.size inb_S1x2048_S1x2048_0_0) v2435 Finset.univ (View.stores_vmem_bits_univ h_S1x2048 rfl) (.inl rfl))
  let v2436 : Vec F S2x8x2048 .f32 ← Prog.lift (.load arg20 (Rect.unit (s := S2x8x2048) ![0, 0, 0] S2x8x2048.size inb_S2x8x2048_S2x8x2048_0_0_0).toLoadRect (View.loadsAt_vmem h_S2x8x2048))
  let v2438 : Vec F S16x2048 .f32 ← Prog.lift (.load arg4 (Rect.unit (s := S16x2048) ![0, 0] S16x2048.size inb_S16x2048_S16x2048_0_0).toLoadRect (View.loadsAt_vmem h_S16x2048))
  let v2454 : Vec F S16x2048 .bf16 ← Prog.lift (.load arg14 (Rect.unit (s := S16x2048) ![0, 0] S16x2048.size inb_S16x2048_S16x2048_0_0).toLoadRect (View.loadsAt_vmem h_S16x2048))
  Prog.lift (.store arg14 (Rect.unit (s := S16x2048) ![0, 0] S16x2048.size inb_S16x2048_S16x2048_0_0) (yOut v2436 v2438) Finset.univ (View.stores_vmem h_S16x2048 (harg14.storeExact_slice rfl _ packedbf16_S16x2048_S16x2048_0_0) (fun _ => rfl)) (.inl rfl))
  let v2455 : Vec F S1x1x2048 .f32 ← Prog.lift (.load arg15 (Rect.unit (s := S1x1x2048) ![0, 0, 0] S1x1x2048.size inb_S1x1x2048_S1x1x2048_0_0_0).toLoadRect (View.loadsAt_vmem h_S1x1x2048))
  have v2456 : FVec F S1x2048 .f32 := shapeCast S1x2048 v2455 shapeCasts_S1x1x2048_S1x2048
  have v2457 : FVec F S1x1x2048 .f32 := shapeCast S1x1x2048 v2432 shapeCasts_S1x2048_S1x1x2048
  Prog.lift (.store arg15 (Rect.unit (s := S1x1x2048) ![0, 0, 0] S1x1x2048.size inb_S1x1x2048_S1x1x2048_0_0_0) v2457 Finset.univ (View.stores_vmem_bits_univ h_S1x1x2048 rfl) (.inl rfl))
  let v2458 : Vec F S8x2048 .f32 ← Prog.lift (.load arg3 (Rect.unit (s := S16x2048) ![8, 0] S8x2048.size inb_S16x2048_S8x2048_8_0).toLoadRect (View.loadsAt_vmem h_S8x2048))
  let v2459 : Vec F S8x2048 .f32 ← Prog.lift (.load arg17 (Rect.unit (s := S8x2048) ![0, 0] S8x2048.size inb_S8x2048_S8x2048_0_0).toLoadRect (View.loadsAt_vmem h_S8x2048))
  have v2460 : FVec F S8x2048 .f32 := shapeCast S8x2048 v2459 shapeCasts_S8x2048_S8x2048
  have v2461 : FVec F S8x2048 .f32 := shapeCast S8x2048 v2458 shapeCasts_S8x2048_S8x2048
  Prog.lift (.store arg17 (Rect.unit (s := S8x2048) ![0, 0] S8x2048.size inb_S8x2048_S8x2048_0_0) v2461 Finset.univ (View.stores_vmem_bits_univ h_S8x2048 rfl) (.inl rfl))
  let v2462 : Vec F S8x2048 .f32 ← Prog.lift (.load arg3 (Rect.unit (s := S16x2048) ![8, 0] S8x2048.size inb_S16x2048_S8x2048_8_0).toLoadRect (View.loadsAt_vmem h_S8x2048))
  let v2463 : Vec F S1x8x2048 .f32 ← Prog.lift (.load arg16 (Rect.unit (s := S1x8x2048) ![0, 0, 0] S1x8x2048.size inb_S1x8x2048_S1x8x2048_0_0_0).toLoadRect (View.loadsAt_vmem h_S1x8x2048))
  have v2464 : FVec F S8x2048 .f32 := shapeCast S8x2048 v2463 shapeCasts_S1x8x2048_S8x2048
  have v2465 : FVec F S1x8x2048 .f32 := shapeCast S1x8x2048 v2462 shapeCasts_S8x2048_S1x8x2048
  Prog.lift (.store arg16 (Rect.unit (s := S1x8x2048) ![0, 0, 0] S1x8x2048.size inb_S1x8x2048_S1x8x2048_0_0_0) v2465 Finset.univ (View.stores_vmem_bits_univ h_S1x8x2048 rfl) (.inl rfl))
  pure ⟨⟩

/-- The body by its own loops. -/
def cutBody (i : grid0.Coords) (arg3 : MR S16x2048 .f32) (harg3 : arg3.IsWhole) (arg4 : MR S16x2048 .f32) (harg4 : arg4.IsWhole) (arg5 : MR S4x2048 .f32) (harg5 : arg5.IsWhole) (arg6 : MR S1x2048 .f32) (harg6 : arg6.IsWhole) (arg7 : MR S16x128x128 .f32) (harg7 : arg7.IsWhole) (arg8 : MR S1x2048 .f32) (harg8 : arg8.IsWhole) (arg9 : MR S16x128x128 .f32) (harg9 : arg9.IsWhole) (arg10 : MR S1x2048 .f32) (harg10 : arg10.IsWhole) (arg11 : MR S1x2048 .f32) (harg11 : arg11.IsWhole) (arg12 : MR S1x8x2048 .f32) (harg12 : arg12.IsWhole) (arg13 : MR S1x1x2048 .f32) (harg13 : arg13.IsWhole) (arg14 : MR S16x2048 .bf16) (harg14 : arg14.IsWhole) (arg15 : MR S1x1x2048 .f32) (harg15 : arg15.IsWhole) (arg16 : MR S1x8x2048 .f32) (harg16 : arg16.IsWhole) (arg17 : MR S8x2048 .f32) (harg17 : arg17.IsWhole) (arg18 : MR S2x8x2048 .f32) (harg18 : arg18.IsWhole) (arg19 : MR S2x8x2048 .f32) (harg19 : arg19.IsWhole) (arg20 : MR S2x8x2048 .f32) (harg20 : arg20.IsWhole) (arg21 : MR S1x2048 .f32) (harg21 : arg21.IsWhole) : Prog (TpuEff nD τ sig (Elt F) Λ₀ .tc) PUnit := do
  if k0_h1 : cond0_0 i then do
    init arg12 arg13 arg17 arg21
  else do
    pure ⟨⟩
  chunks arg3 arg5 arg17 arg6 arg7 arg9 arg8 arg10 arg11 arg18 arg19 16 0 (by decide)
  let h0 : Vec F S1x2048 .f32 ← Prog.lift (.load arg21 (Rect.unit (s := S1x2048) ![0, 0] S1x2048.size inb_S1x2048_S1x2048_0_0).toLoadRect (View.loadsAt_vmem h_S1x2048))
  let h ← groups arg18 arg19 arg20 2 0 (by decide) h0
  final h arg3 arg4 arg14 harg14 arg15 arg16 arg17 arg20 arg21

set_option maxHeartbeats 8000000 in
/-- The printed body is this. -/
theorem cut_eq : cc0_rglru (F := F) = cutBody (F := F) := by
  funext i a3 h3 a4 h4 a5 h5 a6 h6 a7 h7 a8 h8 a9 h9 a10 h10 a11 h11 a12 h12 a13 h13 a14 h14 a15 h15 a16 h16 a17 h17 a18 h18 a19 h19 a20 h20 a21 h21
  unfold cc0_rglru k0_part59 k0_part1 cutBody
  by_cases hc : cond0_0 i
  · rw [dif_pos hc, dif_pos hc]
    repeat refine op_congr rfl fun _ => ?_
    rfl
  · rw [dif_neg hc, dif_neg hc]
    repeat refine op_congr rfl fun _ => ?_
    rfl

end Cert.Kernel7Ideal.Hand

end
-- ==== Proof.RglruSample.Pieces.lean ====
/- What each piece of the recurrence kernel's body does to the buffers, over any float type: a chunk of channels, the chunks in
   order, a group of rows, the groups in order, and what comes before and after them. -/
module

public import proofs.«01_k».proof.Proof.RglruSample.Cut
public import Idealize.ShloMosaic.Lib.Pipeline.Value

@[expose] public section

set_option maxRecDepth 65536

noncomputable section

namespace Cert.Kernel7Ideal.Hand

open Idealize.ShloMosaic Idealize.ShloMosaic.TcCoe Idealize.ShloMosaic.Tactic Cert.Buffer
open Idealize.SL Idealize.SL.RA Idealize.SL.BI
open scoped Idealize.SL.BI
open Idealize.SL.BI.BIBase Idealize.SL.BI.Laws Idealize.SL.ProofMode Idealize.SL.Sem
open Cert.Kernel7Ideal.Gen

variable {F : FTy → Type} [FloatOps F]

local notation "𝕄" => MT nD τ sig Unit (Elt F) ℕ (UR sig nD τ) ℕ

/-- The core holds a buffer, whole, with these values. -/
abbrev own {s : Shape} {e : EltTy} (c : Dev nD) (a : MR s e) (d : Vec F s e) : sProp 𝕄 :=
  owns (c : Thread nD τ) a fullShare d

/-! ## Windows -/

/-- The indices of a three-axis and of a two-axis array. -/
abbrev at3 {a b d : ℕ} (i : Fin a) (j : Fin b) (k : Fin d) : (⟨3, ![a, b, d]⟩ : Shape).Idx := Fin.cons i (Fin.cons j (Fin.cons k finZeroElim))

def winU (n : Fin 16) (x : Vec F S16x2048 .f32) : Vec F S16x128 .f32 := VecWindow.window x ![0, 128 * n.val] S16x128.size (inbU n)
def winE (n : Fin 16) (x : Vec F S8x2048 .f32) : Vec F S8x128 .f32 := VecWindow.window x ![0, 128 * n.val] S8x128.size (inbE n)
def winC (n : Fin 16) (x : Vec F S4x2048 .f32) : Vec F S4x128 .f32 := VecWindow.window x ![0, 128 * n.val] S4x128.size (inbC n)
def winV (n : Fin 16) (x : Vec F S1x2048 .f32) : Vec F S1x128 .f32 := VecWindow.window x ![0, 128 * n.val] S1x128.size (inbV n)
def winW (n : Fin 16) (x : Vec F S16x128x128 .f32) : Vec F S1x128x128 .f32 := VecWindow.window x ![n.val, 0, 0] S1x128x128.size (inbW n)
def winG (g : Fin 2) (x : Vec F S2x8x2048 .f32) : Vec F S1x8x2048 .f32 := VecWindow.window x ![g.val, 0, 0] S1x8x2048.size (inbG g)

/-! ## A chunk -/

/-- The decays and input terms of chunk `n`, of the blocks. -/
def headOf (n : Fin 16) (cw : Vec F S4x2048 .f32) (u : Vec F S16x2048 .f32) (ex : Vec F S8x2048 .f32) (cb : Vec F S1x2048 .f32) (wa wx : Vec F S16x128x128 .f32) (ba bx lam : Vec F S1x2048 .f32) : FVec F S16x128 .f32 × FVec F S16x128 .f32 :=
  headVal (winC n cw) (winU n u) (winE n ex) (winV n cb) (winW n wa) (winW n wx) (winV n ba) (winV n bx) (winV n lam)

/-- The blocks a chunk reads, held. -/
def insOwn (c : Dev nD) (arg5 : MR S4x2048 .f32) (arg3 : MR S16x2048 .f32) (arg17 : MR S8x2048 .f32) (arg6 : MR S1x2048 .f32) (arg7 arg9 : MR S16x128x128 .f32) (arg8 arg10 arg11 : MR S1x2048 .f32) (cw : Vec F S4x2048 .f32) (u : Vec F S16x2048 .f32) (ex : Vec F S8x2048 .f32) (cb : Vec F S1x2048 .f32) (wa wx : Vec F S16x128x128 .f32) (ba bx lam : Vec F S1x2048 .f32) : sProp 𝕄 :=
  iprop(own c arg5 cw ∗ own c arg3 u ∗ own c arg17 ex ∗ own c arg6 cb ∗ own c arg7 wa ∗ own c arg9 wx ∗ own c arg8 ba ∗ own c arg10 bx ∗ own c arg11 lam)

set_option maxHeartbeats 1000000 in
theorem head_run (c : Dev nD) (n : Fin 16) (arg5 : MR S4x2048 .f32) (harg5 : arg5.IsWhole) (arg3 : MR S16x2048 .f32) (harg3 : arg3.IsWhole) (arg17 : MR S8x2048 .f32) (harg17 : arg17.IsWhole) (arg6 : MR S1x2048 .f32) (harg6 : arg6.IsWhole) (arg7 : MR S16x128x128 .f32) (harg7 : arg7.IsWhole) (arg9 : MR S16x128x128 .f32) (harg9 : arg9.IsWhole) (arg8 : MR S1x2048 .f32) (harg8 : arg8.IsWhole) (arg10 : MR S1x2048 .f32) (harg10 : arg10.IsWhole) (arg11 : MR S1x2048 .f32) (harg11 : arg11.IsWhole) (cw : Vec F S4x2048 .f32) (u : Vec F S16x2048 .f32) (ex : Vec F S8x2048 .f32) (cb : Vec F S1x2048 .f32) (wa wx : Vec F S16x128x128 .f32) (ba bx lam : Vec F S1x2048 .f32) (E : Set ℕ) (K : FVec F S16x128 .f32 × FVec F S16x128 .f32 → sProp 𝕄) :
    iprop(insOwn c arg5 arg3 arg17 arg6 arg7 arg9 arg8 arg10 arg11 cw u ex cb wa wx ba bx lam ∗ (insOwn c arg5 arg3 arg17 arg6 arg7 arg9 arg8 arg10 arg11 cw u ex cb wa wx ba bx lam -∗ K (headOf n cw u ex cb wa wx ba bx lam)))
      ⊢ wp frame (wpE (defs₀ (F := F)) Variants.none c none) E (chunkHead n arg3 arg5 arg17 arg6 arg7 arg9 arg8 arg10 arg11) K := by
  unfold chunkHead insOwn headOf winC winU winE winV winW
  unfold own owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩⟩, Hk⟩
  obtain rfl := harg5.eq_unread hf0; obtain rfl := harg3.eq_unread hf1; obtain rfl := harg17.eq_unread hf2; obtain rfl := harg6.eq_unread hf3; obtain rfl := harg7.eq_unread hf4; obtain rfl := harg9.eq_unread hf5; obtain rfl := harg8.eq_unread hf6; obtain rfl := harg10.eq_unread hf7; obtain rfl := harg11.eq_unread hf8
  sl_exec
  sl_step
  simp only [readAt_unread_unit]
  first | iapply Hk | skip
  isplitl [H0]
  · iexists _; isplitr; · ipureintro; exact harg5.read_unread _
    iexact H0
  isplitl [H1]
  · iexists _; isplitr; · ipureintro; exact harg3.read_unread _
    iexact H1
  isplitl [H2]
  · iexists _; isplitr; · ipureintro; exact harg17.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg9.read_unread _
    iexact H5
  isplitl [H6]
  · iexists _; isplitr; · ipureintro; exact harg8.read_unread _
    iexact H6
  isplitl [H7]
  · iexists _; isplitr; · ipureintro; exact harg10.read_unread _
    iexact H7
  iexists _; isplitr; · ipureintro; exact harg11.read_unread _
  iexact H8

set_option maxHeartbeats 1000000 in
theorem tail_run (c : Dev nD) (n : Fin 16) (a b : FVec F S16x128 .f32) (arg18 : MR S2x8x2048 .f32) (harg18 : arg18.IsWhole) (arg19 : MR S2x8x2048 .f32) (harg19 : arg19.IsWhole) (A B : Vec F S2x8x2048 .f32) (E : Set ℕ) (K : PUnit → sProp 𝕄) :
    iprop(own c arg18 A ∗ own c arg19 B
        ∗ (iprop(own c arg18 (VecWindow.put A ![0, 0, 128 * n.val] S2x8x128.size (cScanA a b)) ∗ own c arg19 (VecWindow.put B ![0, 0, 128 * n.val] S2x8x128.size (cScanB a b))) -∗ K ⟨⟩))
      ⊢ wp frame (wpE (defs₀ (F := F)) Variants.none c none) E (chunkTail n a b arg18 arg19) K := by
  unfold chunkTail
  unfold own owns
  iintro ⟨⟨%f0, %hf0, H0⟩, ⟨%f1, %hf1, H1⟩, Hk⟩
  obtain rfl := harg18.eq_unread hf0; obtain rfl := harg19.eq_unread hf1
  sl_exec
  sl_step
  iapply Hk
  isplitl [H0]
  · iexists _; isplitr
    swap; · iexact H0
    ipureintro
    rw [View.read_writes_cons_put _ _ _ _ _ rfl, View.writes_nil, harg18.read_unread]
  iexists _; isplitr
  swap; · iexact H1
  ipureintro
  rw [View.read_writes_cons_put _ _ _ _ _ rfl, View.writes_nil, harg19.read_unread]

/-! ## The chunks in order -/

/-- The scans of every chunk. -/
def fullA (cw : Vec F S4x2048 .f32) (u : Vec F S16x2048 .f32) (ex : Vec F S8x2048 .f32) (cb : Vec F S1x2048 .f32) (wa wx : Vec F S16x128x128 .f32) (ba bx lam : Vec F S1x2048 .f32) : Vec F S2x8x2048 .f32 := fun i =>
  cScanA (headOf ⟨(i 2).val / 128, by have := (i 2).isLt; change (i 2).val < 2048 at this; omega⟩ cw u ex cb wa wx ba bx lam).1 (headOf ⟨(i 2).val / 128, by have := (i 2).isLt; change (i 2).val < 2048 at this; omega⟩ cw u ex cb wa wx ba bx lam).2 (at3 (i 0) (i 1) ⟨(i 2).val % 128, Nat.mod_lt _ (by decide)⟩)
def fullB (cw : Vec F S4x2048 .f32) (u : Vec F S16x2048 .f32) (ex : Vec F S8x2048 .f32) (cb : Vec F S1x2048 .f32) (wa wx : Vec F S16x128x128 .f32) (ba bx lam : Vec F S1x2048 .f32) : Vec F S2x8x2048 .f32 := fun i =>
  cScanB (headOf ⟨(i 2).val / 128, by have := (i 2).isLt; change (i 2).val < 2048 at this; omega⟩ cw u ex cb wa wx ba bx lam).1 (headOf ⟨(i 2).val / 128, by have := (i 2).isLt; change (i 2).val < 2048 at this; omega⟩ cw u ex cb wa wx ba bx lam).2 (at3 (i 0) (i 1) ⟨(i 2).val % 128, Nat.mod_lt _ (by decide)⟩)

/-- A chunk put over the chunks before it. -/
theorem put_chunk (f : Fin 16 → Vec F S2x8x128 .f32) (X : Vec F S2x8x2048 .f32) (n : ℕ) (hn : n < 16)
    (hX : ∀ i : S2x8x2048.Idx, (i 2).val < 128 * n → X i = f ⟨(i 2).val / 128, by have := (i 2).isLt; change (i 2).val < 2048 at this; omega⟩ (at3 (i 0) (i 1) ⟨(i 2).val % 128, Nat.mod_lt _ (by decide)⟩)) :
    ∀ i : S2x8x2048.Idx, (i 2).val < 128 * (n + 1) → VecWindow.put X ![0, 0, 128 * n] S2x8x128.size (f ⟨n, hn⟩) i = f ⟨(i 2).val / 128, by have := (i 2).isLt; change (i 2).val < 2048 at this; omega⟩ (at3 (i 0) (i 1) ⟨(i 2).val % 128, Nat.mod_lt _ (by decide)⟩) := by
  intro i hi
  have h0 := (i 0).isLt; have h1 := (i 1).isLt
  change (i 0).val < 2 at h0; change (i 1).val < 8 at h1
  unfold VecWindow.put
  by_cases h : 128 * n ≤ (i 2).val
  · rw [dif_pos (by
      intro a
      match a with
      | ⟨0, _⟩ => exact ⟨Nat.zero_le _, by show (i 0).val < 0 + 2; omega⟩
      | ⟨1, _⟩ => exact ⟨Nat.zero_le _, by show (i 1).val < 0 + 8; omega⟩
      | ⟨2, _⟩ => exact ⟨h, by show (i 2).val < 128 * n + 128; omega⟩)]
    have e : (⟨n, hn⟩ : Fin 16) = ⟨(i 2).val / 128, by have := (i 2).isLt; change (i 2).val < 2048 at this; omega⟩ := Fin.ext (by show n = (i 2).val / 128; omega)
    rw [e]
    congr 1
    funext a
    match a with
    | ⟨0, _⟩ => exact Fin.ext (by show (i 0).val - 0 = (i 0).val; omega)
    | ⟨1, _⟩ => exact Fin.ext (by show (i 1).val - 0 = (i 1).val; omega)
    | ⟨2, _⟩ => exact Fin.ext (by show (i 2).val - 128 * n = (i 2).val % 128; omega)
  · rw [dif_neg (fun hall => h (hall 2).1)]
    exact hX i (by omega)

set_option maxHeartbeats 1000000 in
theorem chunks_run (c : Dev nD) (arg5 : MR S4x2048 .f32) (harg5 : arg5.IsWhole) (arg3 : MR S16x2048 .f32) (harg3 : arg3.IsWhole) (arg17 : MR S8x2048 .f32) (harg17 : arg17.IsWhole) (arg6 : MR S1x2048 .f32) (harg6 : arg6.IsWhole) (arg7 : MR S16x128x128 .f32) (harg7 : arg7.IsWhole) (arg9 : MR S16x128x128 .f32) (harg9 : arg9.IsWhole) (arg8 : MR S1x2048 .f32) (harg8 : arg8.IsWhole) (arg10 : MR S1x2048 .f32) (harg10 : arg10.IsWhole) (arg11 : MR S1x2048 .f32) (harg11 : arg11.IsWhole) (arg18 : MR S2x8x2048 .f32) (harg18 : arg18.IsWhole) (arg19 : MR S2x8x2048 .f32) (harg19 : arg19.IsWhole) (cw : Vec F S4x2048 .f32) (u : Vec F S16x2048 .f32) (ex : Vec F S8x2048 .f32) (cb : Vec F S1x2048 .f32) (wa wx : Vec F S16x128x128 .f32) (ba bx lam : Vec F S1x2048 .f32) (E : Set ℕ) (K : PUnit → sProp 𝕄) :
    ∀ (k n : ℕ) (h : n + k ≤ 16) (hk : n + k = 16) (A B : Vec F S2x8x2048 .f32)
      (hA : ∀ i : S2x8x2048.Idx, (i 2).val < 128 * n → A i = fullA cw u ex cb wa wx ba bx lam i) (hB : ∀ i : S2x8x2048.Idx, (i 2).val < 128 * n → B i = fullB cw u ex cb wa wx ba bx lam i),
    iprop(insOwn c arg5 arg3 arg17 arg6 arg7 arg9 arg8 arg10 arg11 cw u ex cb wa wx ba bx lam ∗ own c arg18 A ∗ own c arg19 B
        ∗ (iprop(insOwn c arg5 arg3 arg17 arg6 arg7 arg9 arg8 arg10 arg11 cw u ex cb wa wx ba bx lam ∗ own c arg18 (fullA cw u ex cb wa wx ba bx lam) ∗ own c arg19 (fullB cw u ex cb wa wx ba bx lam)) -∗ K ⟨⟩))
      ⊢ wp frame (wpE (defs₀ (F := F)) Variants.none c none) E (chunks arg3 arg5 arg17 arg6 arg7 arg9 arg8 arg10 arg11 arg18 arg19 k n h) K := by
  intro k
  induction k with
  | zero =>
    intro n h hk A B hA hB
    have eA : A = fullA cw u ex cb wa wx ba bx lam := funext fun i => hA i (by have := (i 2).isLt; change (i 2).val < 2048 at this; omega)
    have eB : B = fullB cw u ex cb wa wx ba bx lam := funext fun i => hB i (by have := (i 2).isLt; change (i 2).val < 2048 at this; omega)
    subst eA eB
    unfold chunks
    iintro ⟨HI, H0, H1, Hk⟩
    sl_step
    iapply Hk
    iframe HI H0 H1
  | succ k ih =>
    intro n h hk A B hA hB
    unfold chunks
    rw [wp_bind]
    iintro ⟨HI, H0, H1, Hk⟩
    iapply (head_run c _ arg5 harg5 arg3 harg3 arg17 harg17 arg6 harg6 arg7 harg7 arg9 harg9 arg8 harg8 arg10 harg10 arg11 harg11 cw u ex cb wa wx ba bx lam E _)
    isplitl [HI]; · iexact HI
    iintro HI
    rw [wp_bind]
    iapply (tail_run c _ _ _ arg18 harg18 arg19 harg19 A B E _)
    isplitl [H0]; · iexact H0
    isplitl [H1]; · iexact H1
    iintro ⟨H0, H1⟩
    iapply (ih (n + 1) _ (hk := (by omega : n + 1 + k = 16)) _ _
      (put_chunk (fun n => cScanA (headOf n cw u ex cb wa wx ba bx lam).1 (headOf n cw u ex cb wa wx ba bx lam).2) A n (by omega) hA)
      (put_chunk (fun n => cScanB (headOf n cw u ex cb wa wx ba bx lam).1 (headOf n cw u ex cb wa wx ba bx lam).2) B n (by omega) hB))
    iframe HI H0 H1 Hk

/-! ## The groups of rows -/

/-- The rows of group `g`, and the last row before each group. -/
def rowsOf (A B : Vec F S2x8x2048 .f32) (g : Fin 2) (h : FVec F S1x2048 .f32) : FVec F S8x2048 .f32 := gRow (winG g A) (winG g B) h
def lastRow (A B : Vec F S2x8x2048 .f32) (h0 : FVec F S1x2048 .f32) : ℕ → FVec F S1x2048 .f32
  | 0 => h0
  | g + 1 => gLast (rowsOf A B ⟨g % 2, Nat.mod_lt _ (by decide)⟩ (lastRow A B h0 g))
/-- Every row. -/
def fullH (A B : Vec F S2x8x2048 .f32) (h0 : FVec F S1x2048 .f32) : Vec F S2x8x2048 .f32 := fun i =>
  shapeCast S1x8x2048 (rowsOf A B (i 0) (lastRow A B h0 (i 0).val)) shapeCasts_S8x2048_S1x8x2048 (at3 0 (i 1) (i 2))

set_option maxHeartbeats 1000000 in
theorem group_run (c : Dev nD) (g : Fin 2) (h : FVec F S1x2048 .f32) (arg18 : MR S2x8x2048 .f32) (harg18 : arg18.IsWhole) (arg19 : MR S2x8x2048 .f32) (harg19 : arg19.IsWhole) (arg20 : MR S2x8x2048 .f32) (harg20 : arg20.IsWhole) (A B H : Vec F S2x8x2048 .f32) (E : Set ℕ) (K : FVec F S1x2048 .f32 → sProp 𝕄) :
    iprop(own c arg18 A ∗ own c arg19 B ∗ own c arg20 H
        ∗ (iprop(own c arg18 A ∗ own c arg19 B ∗ own c arg20 (VecWindow.put H ![g.val, 0, 0] S1x8x2048.size (shapeCast S1x8x2048 (rowsOf A B g h) shapeCasts_S8x2048_S1x8x2048))) -∗ K (gLast (rowsOf A B g h))))
      ⊢ wp frame (wpE (defs₀ (F := F)) Variants.none c none) E (group g h arg18 arg19 arg20) K := by
  unfold group rowsOf winG
  unfold own owns
  iintro ⟨⟨%f0, %hf0, H0⟩, ⟨%f1, %hf1, H1⟩, ⟨%f2, %hf2, H2⟩, Hk⟩
  obtain rfl := harg18.eq_unread hf0; obtain rfl := harg19.eq_unread hf1; obtain rfl := harg20.eq_unread hf2
  sl_exec
  sl_step
  simp only [readAt_unread_unit]
  first | iapply Hk | skip
  isplitl [H0]
  · iexists _; isplitr; · ipureintro; exact harg18.read_unread _
    iexact H0
  isplitl [H1]
  · iexists _; isplitr; · ipureintro; exact harg19.read_unread _
    iexact H1
  iexists _; isplitr
  swap; · iexact H2
  ipureintro
  rw [View.read_writes_cons_put _ _ _ _ _ rfl, View.writes_nil, harg20.read_unread]

theorem put_group (f : Fin 2 → Vec F S1x8x2048 .f32) (X : Vec F S2x8x2048 .f32) (g : ℕ) (hg : g < 2)
    (hX : ∀ i : S2x8x2048.Idx, (i 0).val < g → X i = f (i 0) (at3 0 (i 1) (i 2))) :
    ∀ i : S2x8x2048.Idx, (i 0).val < g + 1 → VecWindow.put X ![g, 0, 0] S1x8x2048.size (f ⟨g, hg⟩) i = f (i 0) (at3 0 (i 1) (i 2)) := by
  intro i hi
  have h2 := (i 2).isLt; have h1 := (i 1).isLt
  change (i 2).val < 2048 at h2; change (i 1).val < 8 at h1
  unfold VecWindow.put
  by_cases h : g ≤ (i 0).val
  · rw [dif_pos (by
      intro a
      match a with
      | ⟨0, _⟩ => exact ⟨h, by show (i 0).val < g + 1; omega⟩
      | ⟨1, _⟩ => exact ⟨Nat.zero_le _, by show (i 1).val < 0 + 8; omega⟩
      | ⟨2, _⟩ => exact ⟨Nat.zero_le _, by show (i 2).val < 0 + 2048; omega⟩)]
    have e : (⟨g, hg⟩ : Fin 2) = i 0 := Fin.ext (by show g = (i 0).val; omega)
    rw [e]
    congr 1
    funext a
    match a with
    | ⟨0, _⟩ => exact Fin.ext (by show (i 0).val - g = 0; omega)
    | ⟨1, _⟩ => exact Fin.ext (by show (i 1).val - 0 = (i 1).val; omega)
    | ⟨2, _⟩ => exact Fin.ext (by show (i 2).val - 0 = (i 2).val; omega)
  · rw [dif_neg (fun hall => h (hall 0).1)]
    exact hX i (by omega)

set_option maxHeartbeats 1000000 in
theorem groups_run (c : Dev nD) (arg18 : MR S2x8x2048 .f32) (harg18 : arg18.IsWhole) (arg19 : MR S2x8x2048 .f32) (harg19 : arg19.IsWhole) (arg20 : MR S2x8x2048 .f32) (harg20 : arg20.IsWhole) (A B : Vec F S2x8x2048 .f32) (h0 : FVec F S1x2048 .f32) (E : Set ℕ) (K : FVec F S1x2048 .f32 → sProp 𝕄) :
    ∀ (k g : ℕ) (h : g + k ≤ 2) (hk : g + k = 2) (H : Vec F S2x8x2048 .f32)
      (hH : ∀ i : S2x8x2048.Idx, (i 0).val < g → H i = fullH A B h0 i),
    iprop(own c arg18 A ∗ own c arg19 B ∗ own c arg20 H
        ∗ (iprop(own c arg18 A ∗ own c arg19 B ∗ own c arg20 (fullH A B h0)) -∗ K (lastRow A B h0 2)))
      ⊢ wp frame (wpE (defs₀ (F := F)) Variants.none c none) E (groups arg18 arg19 arg20 k g h (lastRow A B h0 g)) K := by
  intro k
  induction k with
  | zero =>
    intro g h hk H hH
    have e : H = fullH A B h0 := funext fun i => hH i (by have := (i 0).isLt; change (i 0).val < 2 at this; omega)
    have eg : g = 2 := by omega
    subst e eg
    unfold groups
    iintro ⟨H0, H1, H2, Hk⟩
    sl_step
    iapply Hk
    iframe H0 H1 H2
  | succ k ih =>
    intro g h hk H hH
    unfold groups
    rw [wp_bind]
    iintro ⟨H0, H1, H2, Hk⟩
    iapply (group_run c _ _ arg18 harg18 arg19 harg19 arg20 harg20 A B H E _)
    iframe H0 H1 H2
    iintro ⟨H0, H1, H2⟩
    have e : gLast (rowsOf A B ⟨g, by omega⟩ (lastRow A B h0 g)) = lastRow A B h0 (g + 1) := by
      have eg : (⟨g, by omega⟩ : Fin 2) = ⟨g % 2, Nat.mod_lt _ (by decide)⟩ := Fin.ext (Nat.mod_eq_of_lt (by omega)).symm
      rw [eg]; rfl
    rw [e]
    iapply (ih (g + 1) _ (hk := (by omega : g + 1 + k = 2)) _
      (put_group (fun g => shapeCast S1x8x2048 (rowsOf A B g (lastRow A B h0 g.val)) shapeCasts_S8x2048_S1x8x2048) H g (by omega) hH))
    iframe H0 H1 H2 Hk

/-! ## Before and after -/

/-- The last eight rows of a tile. -/
def lastU (u : Vec F S16x2048 .f32) : Vec F S8x2048 .f32 := VecWindow.window u ![8, 0] S8x2048.size inb_S16x2048_S8x2048_8_0

set_option maxHeartbeats 1000000 in
theorem init_run (c : Dev nD) (arg12 : MR S1x8x2048 .f32) (harg12 : arg12.IsWhole) (arg13 : MR S1x1x2048 .f32) (harg13 : arg13.IsWhole) (arg17 : MR S8x2048 .f32) (harg17 : arg17.IsWhole) (arg21 : MR S1x2048 .f32) (harg21 : arg21.IsWhole) (x12 : Vec F S1x8x2048 .f32) (x13 : Vec F S1x1x2048 .f32) (E : Set ℕ) (K : PUnit → sProp 𝕄) :
    iprop(own c arg12 x12 ∗ own c arg13 x13 ∗ (∃ d, own c arg17 d) ∗ (∃ d, own c arg21 d)
        ∗ (iprop(own c arg12 x12 ∗ own c arg13 x13 ∗ own c arg17 (shapeCast S8x2048 x12 shapeCasts_S1x8x2048_S8x2048) ∗ own c arg21 (shapeCast S1x2048 x13 shapeCasts_S1x1x2048_S1x2048)) -∗ K ⟨⟩))
      ⊢ wp frame (wpE (defs₀ (F := F)) Variants.none c none) E (init arg12 arg13 arg17 arg21) K := by
  unfold init
  unfold own owns
  iintro ⟨⟨%f0, %hf0, H0⟩, ⟨%f1, %hf1, H1⟩, ⟨%d2, %f2, -, H2⟩, ⟨%d3, %f3, -, H3⟩, Hk⟩
  obtain rfl := harg12.eq_unread hf0; obtain rfl := harg13.eq_unread hf1
  sl_exec
  sl_step
  iapply Hk
  isplitl [H0]
  · iexists _; isplitr; · ipureintro; exact harg12.read_unread _
    iexact H0
  isplitl [H1]
  · iexists _; isplitr; · ipureintro; exact harg13.read_unread _
    iexact H1
  isplitl [H2]
  · iexists _; isplitr
    swap; · iexact H2
    ipureintro
    rw [View.read_writes_full]
    exact (shapeCast_self _ _).trans (congrArg (fun x => shapeCast S8x2048 x shapeCasts_S1x8x2048_S8x2048) (readAt_unread_full arg12 harg12 x12 _))
  iexists _; isplitr
  swap; · iexact H3
  ipureintro
  rw [View.read_writes_full]
  exact (shapeCast_self _ _).trans (congrArg (fun x => shapeCast S1x2048 x shapeCasts_S1x1x2048_S1x2048) (readAt_unread_full arg13 harg13 x13 _))

set_option maxHeartbeats 2000000 in
theorem final_run (c : Dev nD) (h : FVec F S1x2048 .f32) (arg3 : MR S16x2048 .f32) (harg3 : arg3.IsWhole) (arg4 : MR S16x2048 .f32) (harg4 : arg4.IsWhole) (arg14 : MR S16x2048 .bf16) (harg14 : arg14.IsWhole) (arg15 : MR S1x1x2048 .f32) (harg15 : arg15.IsWhole) (arg16 : MR S1x8x2048 .f32) (harg16 : arg16.IsWhole) (arg17 : MR S8x2048 .f32) (harg17 : arg17.IsWhole) (arg20 : MR S2x8x2048 .f32) (harg20 : arg20.IsWhole) (arg21 : MR S1x2048 .f32) (harg21 : arg21.IsWhole)
    (u g : Vec F S16x2048 .f32) (H : Vec F S2x8x2048 .f32) (E : Set ℕ) (K : PUnit → sProp 𝕄) :
    iprop(own c arg3 u ∗ own c arg4 g ∗ (∃ d, own c arg14 d) ∗ (∃ d, own c arg15 d) ∗ (∃ d, own c arg16 d) ∗ (∃ d, own c arg17 d) ∗ own c arg20 H ∗ (∃ d, own c arg21 d)
        ∗ (iprop(own c arg3 u ∗ own c arg4 g ∗ own c arg14 (yOut H g) ∗ own c arg15 (shapeCast S1x1x2048 h shapeCasts_S1x2048_S1x1x2048) ∗ own c arg16 (shapeCast S1x8x2048 (lastU u) shapeCasts_S8x2048_S1x8x2048) ∗ own c arg17 (lastU u) ∗ own c arg20 H ∗ own c arg21 h) -∗ K ⟨⟩))
      ⊢ wp frame (wpE (defs₀ (F := F)) Variants.none c none) E (final h arg3 arg4 arg14 harg14 arg15 arg16 arg17 arg20 arg21) K := by
  unfold final
  unfold own owns
  iintro ⟨⟨%f0, %hf0, H0⟩, ⟨%f1, %hf1, H1⟩, ⟨%d2, %f2, -, H2⟩, ⟨%d3, %f3, -, H3⟩, ⟨%d4, %f4, -, H4⟩, ⟨%d5, %f5, -, H5⟩, ⟨%f6, %hf6, H6⟩, ⟨%d7, %f7, -, H7⟩, Hk⟩
  obtain rfl := harg3.eq_unread hf0; obtain rfl := harg4.eq_unread hf1; obtain rfl := harg20.eq_unread hf6
  sl_exec
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr
    swap; · iexact H2
    ipureintro
    rw [View.read_writes_full, readAt_unread_full, readAt_unread_full]
  isplitl [H3]
  · iexists _; isplitr
    swap; · iexact H3
    ipureintro
    rw [View.read_writes_full]; rfl
  isplitl [H4]
  · iexists _; isplitr
    swap; · iexact H4
    ipureintro
    rw [View.read_writes_full]
    exact congrArg (fun x => shapeCast S1x8x2048 x shapeCasts_S8x2048_S1x8x2048) (readAt_unread_unit arg3 harg3 u _)
  isplitl [H5]
  · iexists _; isplitr
    swap; · iexact H5
    ipureintro
    rw [View.read_writes_full]
    exact (shapeCast_self _ _).trans (readAt_unread_unit arg3 harg3 u _)
  isplitl [H6]
  · iexists _; isplitr; · ipureintro; exact harg20.read_unread _
    iexact H6
  iexists _; isplitr
  swap; · iexact H7
  ipureintro
  rw [View.read_writes_full]
  exact shapeCast_self _ _

set_option maxHeartbeats 1000000 in
/-- The load of the carried row. -/
theorem carry_run (c : Dev nD) (arg21 : MR S1x2048 .f32) (harg21 : arg21.IsWhole) (x : Vec F S1x2048 .f32) (E : Set ℕ) (K : Vec F S1x2048 .f32 → sProp 𝕄) :
    iprop(own c arg21 x ∗ (own c arg21 x -∗ K x))
      ⊢ wp frame (wpE (defs₀ (F := F)) Variants.none c none) E (Prog.lift (.load arg21 (Rect.unit (s := S1x2048) ![0, 0] S1x2048.size inb_S1x2048_S1x2048_0_0).toLoadRect (View.loadsAt_vmem h_S1x2048)) : Prog (TpuEff nD τ sig (Elt F) Λ₀ .tc) _) K := by
  unfold own owns
  iintro ⟨⟨%f0, %hf0, H0⟩, Hk⟩
  obtain rfl := harg21.eq_unread hf0
  sl_exec
  sl_step
  rw [readAt_unread_full]
  iapply Hk
  iexists _; isplitr; · ipureintro; exact harg21.read_unread _
  iexact H0

end Cert.Kernel7Ideal.Hand

end
-- ==== Proof.RglruSample.Run.lean ====
/- The run of the recurrence kernel on the sample rows, over any float type: what a point leaves in its three output blocks, the
   pipeline's proof data, and the run of the whole program. -/
module

public import proofs.«01_k».proof.Proof.RglruSample.Pieces
public import proofs.«01_k».proof.Proof.Gen.Kernel7Ideal.Frame

@[expose] public section

set_option maxRecDepth 65536

noncomputable section

namespace Cert.Kernel7Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel7Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg) (c : Dev nD) (t : Fin cfg0.N)

/-! ## What a point leaves, of its input blocks -/

/-- The scans of the tile. -/
def tileA (u g : Vec F S16x2048 .f32) (cw : Vec F S4x2048 .f32) (cb : Vec F S1x2048 .f32) (wa : Vec F S16x128x128 .f32) (ba : Vec F S1x2048 .f32) (wx : Vec F S16x128x128 .f32) (bx lam : Vec F S1x2048 .f32) (ci : Vec F S1x8x2048 .f32) (h0 : Vec F S1x1x2048 .f32) : Vec F S2x8x2048 .f32 := fullA cw u (shapeCast S8x2048 ci shapeCasts_S1x8x2048_S8x2048) cb wa wx ba bx lam
def tileB (u g : Vec F S16x2048 .f32) (cw : Vec F S4x2048 .f32) (cb : Vec F S1x2048 .f32) (wa : Vec F S16x128x128 .f32) (ba : Vec F S1x2048 .f32) (wx : Vec F S16x128x128 .f32) (bx lam : Vec F S1x2048 .f32) (ci : Vec F S1x8x2048 .f32) (h0 : Vec F S1x1x2048 .f32) : Vec F S2x8x2048 .f32 := fullB cw u (shapeCast S8x2048 ci shapeCasts_S1x8x2048_S8x2048) cb wa wx ba bx lam
/-- The gated tile, -/
def tileY (u g : Vec F S16x2048 .f32) (cw : Vec F S4x2048 .f32) (cb : Vec F S1x2048 .f32) (wa : Vec F S16x128x128 .f32) (ba : Vec F S1x2048 .f32) (wx : Vec F S16x128x128 .f32) (bx lam : Vec F S1x2048 .f32) (ci : Vec F S1x8x2048 .f32) (h0 : Vec F S1x1x2048 .f32) : Vec F S16x2048 .bf16 := yOut (fullH (tileA u g cw cb wa ba wx bx lam ci h0) (tileB u g cw cb wa ba wx bx lam ci h0) (shapeCast S1x2048 h0 shapeCasts_S1x1x2048_S1x2048)) g
/-- the state after its last row, -/
def tileL (u g : Vec F S16x2048 .f32) (cw : Vec F S4x2048 .f32) (cb : Vec F S1x2048 .f32) (wa : Vec F S16x128x128 .f32) (ba : Vec F S1x2048 .f32) (wx : Vec F S16x128x128 .f32) (bx lam : Vec F S1x2048 .f32) (ci : Vec F S1x8x2048 .f32) (h0 : Vec F S1x1x2048 .f32) : Vec F S1x1x2048 .f32 := shapeCast S1x1x2048 (lastRow (tileA u g cw cb wa ba wx bx lam ci h0) (tileB u g cw cb wa ba wx bx lam ci h0) (shapeCast S1x2048 h0 shapeCasts_S1x1x2048_S1x2048) 2) shapeCasts_S1x2048_S1x1x2048
/-- and its last eight inputs. -/
def tileC (u : Vec F S16x2048 .f32) : Vec F S1x8x2048 .f32 := shapeCast S1x8x2048 (lastU u) shapeCasts_S8x2048_S1x8x2048

set_option maxHeartbeats 4000000 in
theorem body_run (c : Dev nD) (i : grid0.Coords) (arg3 : MR S16x2048 .f32) (harg3 : arg3.IsWhole) (arg4 : MR S16x2048 .f32) (harg4 : arg4.IsWhole) (arg5 : MR S4x2048 .f32) (harg5 : arg5.IsWhole) (arg6 : MR S1x2048 .f32) (harg6 : arg6.IsWhole) (arg7 : MR S16x128x128 .f32) (harg7 : arg7.IsWhole) (arg8 : MR S1x2048 .f32) (harg8 : arg8.IsWhole) (arg9 : MR S16x128x128 .f32) (harg9 : arg9.IsWhole) (arg10 : MR S1x2048 .f32) (harg10 : arg10.IsWhole) (arg11 : MR S1x2048 .f32) (harg11 : arg11.IsWhole) (arg12 : MR S1x8x2048 .f32) (harg12 : arg12.IsWhole) (arg13 : MR S1x1x2048 .f32) (harg13 : arg13.IsWhole) (arg14 : MR S16x2048 .bf16) (harg14 : arg14.IsWhole) (arg15 : MR S1x1x2048 .f32) (harg15 : arg15.IsWhole) (arg16 : MR S1x8x2048 .f32) (harg16 : arg16.IsWhole) (arg17 : MR S8x2048 .f32) (harg17 : arg17.IsWhole) (arg18 : MR S2x8x2048 .f32) (harg18 : arg18.IsWhole) (arg19 : MR S2x8x2048 .f32) (harg19 : arg19.IsWhole) (arg20 : MR S2x8x2048 .f32) (harg20 : arg20.IsWhole) (arg21 : MR S1x2048 .f32) (harg21 : arg21.IsWhole) (hc0 : cond0_0 i)
    (u g : Vec F S16x2048 .f32) (cw : Vec F S4x2048 .f32) (cb : Vec F S1x2048 .f32) (wa : Vec F S16x128x128 .f32) (ba : Vec F S1x2048 .f32) (wx : Vec F S16x128x128 .f32) (bx lam : Vec F S1x2048 .f32) (ci : Vec F S1x8x2048 .f32) (h0 : Vec F S1x1x2048 .f32) (E : Set ℕ) (K : PUnit → sProp 𝕄) :
    iprop(own c arg3 u ∗ own c arg4 g ∗ own c arg5 cw ∗ own c arg6 cb ∗ own c arg7 wa ∗ own c arg8 ba ∗ own c arg9 wx ∗ own c arg10 bx ∗ own c arg11 lam ∗ own c arg12 ci ∗ own c arg13 h0 ∗ (∃ d, own c arg14 d) ∗ (∃ d, own c arg15 d) ∗ (∃ d, own c arg16 d) ∗ (∃ d, own c arg17 d) ∗ (∃ d, own c arg18 d) ∗ (∃ d, own c arg19 d) ∗ (∃ d, own c arg20 d) ∗ (∃ d, own c arg21 d)
        ∗ (iprop(own c arg3 u ∗ own c arg4 g ∗ own c arg5 cw ∗ own c arg6 cb ∗ own c arg7 wa ∗ own c arg8 ba ∗ own c arg9 wx ∗ own c arg10 bx ∗ own c arg11 lam ∗ own c arg12 ci ∗ own c arg13 h0 ∗ own c arg14 (tileY u g cw cb wa ba wx bx lam ci h0) ∗ own c arg15 (tileL u g cw cb wa ba wx bx lam ci h0) ∗ own c arg16 (tileC u) ∗ (∃ d, own c arg17 d) ∗ (∃ d, own c arg18 d) ∗ (∃ d, own c arg19 d) ∗ (∃ d, own c arg20 d) ∗ (∃ d, own c arg21 d)) -∗ K ⟨⟩))
      ⊢ wp frame (wpE (defs₀ (F := F)) Variants.none c none) E (cc0_rglru i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  rw [cut_eq]; unfold cutBody
  rw [dif_pos hc0]
  simp only [wp_bind]
  iintro ⟨H3, H4, H5, H6, H7, H8, H9, H10, H11, H12, H13, H14, H15, H16, H17, ⟨%dA, H18⟩, ⟨%dB, H19⟩, ⟨%dH, H20⟩, H21, Hk⟩
  iapply (init_run c arg12 harg12 arg13 harg13 arg17 harg17 arg21 harg21 ci h0 E _)
  iframe H12 H13 H17 H21
  iintro ⟨H12, H13, H17, H21⟩
  iapply (chunks_run c arg5 harg5 arg3 harg3 arg17 harg17 arg6 harg6 arg7 harg7 arg9 harg9 arg8 harg8 arg10 harg10 arg11 harg11 arg18 harg18 arg19 harg19 cw u (shapeCast S8x2048 ci shapeCasts_S1x8x2048_S8x2048) cb wa wx ba bx lam E _ 16 0 _ (hk := rfl) dA dB (fun i h => absurd h (by omega)) (fun i h => absurd h (by omega)))
  isplitl [H5 H3 H17 H6 H7 H9 H8 H10 H11]
  · unfold insOwn
    iframe H5 H3 H17 H6 H7 H9 H8 H10 H11
  isplitl [H18]; · iexact H18
  isplitl [H19]; · iexact H19
  unfold insOwn
  iintro ⟨⟨H5, H3, H17, H6, H7, H9, H8, H10, H11⟩, H18, H19⟩
  iapply (carry_run c arg21 harg21 (shapeCast S1x2048 h0 shapeCasts_S1x1x2048_S1x2048) E _)
  isplitl [H21]; · iexact H21
  iintro H21
  iapply (groups_run c arg18 harg18 arg19 harg19 arg20 harg20 _ _ (shapeCast S1x2048 h0 shapeCasts_S1x1x2048_S1x2048) E _ 2 0 _ (hk := rfl) dH (fun i h => absurd h (by omega)))
  iframe H18 H19 H20
  iintro ⟨H18, H19, H20⟩
  iapply (final_run c _ arg3 harg3 arg4 harg4 arg14 harg14 arg15 harg15 arg16 harg16 arg17 harg17 arg20 harg20 arg21 harg21 u g _ E _)
  iframe H3 H4 H14 H15 H16
  isplitl [H17]; · iexists _; iexact H17
  isplitl [H20]; · iexact H20
  isplitl [H21]; · iexists _; iexact H21
  iintro ⟨H3, H4, H14, H15, H16, H17, H20, H21⟩
  iapply Hk
  iframe H3 H4 H5 H6 H7 H8 H9 H10 H11 H12 H13 H14 H15 H16
  isplitl [H17]; · iexists _; iexact H17
  isplitl [H18]; · iexists _; iexact H18
  isplitl [H19]; · iexists _; iexact H19
  isplitl [H20]; · iexists _; iexact H20
  iexists _; iexact H21

/-! ## The pipeline's proof data -/

def o11 : Vec F S16x2048 .bf16 := tileY (iblk m c 0 t) (iblk m c 1 t) (iblk m c 2 t) (iblk m c 3 t) (iblk m c 4 t) (iblk m c 5 t) (iblk m c 6 t) (iblk m c 7 t) (iblk m c 8 t) (iblk m c 9 t) (iblk m c 10 t)
def o12 : Vec F S1x1x2048 .f32 := tileL (iblk m c 0 t) (iblk m c 1 t) (iblk m c 2 t) (iblk m c 3 t) (iblk m c 4 t) (iblk m c 5 t) (iblk m c 6 t) (iblk m c 7 t) (iblk m c 8 t) (iblk m c 9 t) (iblk m c 10 t)
def o13 : Vec F S1x8x2048 .f32 := tileC (iblk m c 0 t)

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => o11 m c t
    | ⟨12, _⟩ => o12 m c t
    | ⟨13, _⟩ => o13 m c t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0 : (dats m 0 c).after 0 t = iblk m c 0 t := by dsimp only [dats]
theorem after1 : (dats m 0 c).after 1 t = iblk m c 1 t := by dsimp only [dats]
theorem after2 : (dats m 0 c).after 2 t = iblk m c 2 t := by dsimp only [dats]
theorem after3 : (dats m 0 c).after 3 t = iblk m c 3 t := by dsimp only [dats]
theorem after4 : (dats m 0 c).after 4 t = iblk m c 4 t := by dsimp only [dats]
theorem after5 : (dats m 0 c).after 5 t = iblk m c 5 t := by dsimp only [dats]
theorem after6 : (dats m 0 c).after 6 t = iblk m c 6 t := by dsimp only [dats]
theorem after7 : (dats m 0 c).after 7 t = iblk m c 7 t := by dsimp only [dats]
theorem after8 : (dats m 0 c).after 8 t = iblk m c 8 t := by dsimp only [dats]
theorem after9 : (dats m 0 c).after 9 t = iblk m c 9 t := by dsimp only [dats]
theorem after10 : (dats m 0 c).after 10 t = iblk m c 10 t := by dsimp only [dats]
theorem after11 : (dats m 0 c).after 11 t = o11 m c t := by dsimp only [dats]
theorem after12 : (dats m 0 c).after 12 t = o12 m c t := by dsimp only [dats]
theorem after13 : (dats m 0 c).after 13 t = o13 m c t := by dsimp only [dats]
theorem before0 (d) : (dats m 0 c).before 0 t d = iblk m c 0 t :=
  before0_0_of m (dats m 0 c) (A_eq m c 0) (after0 m c) t d
theorem before1 (d) : (dats m 0 c).before 1 t d = iblk m c 1 t :=
  before0_1_of m (dats m 0 c) (A_eq m c 1) (after1 m c) t d
theorem before2 (d) : (dats m 0 c).before 2 t d = iblk m c 2 t :=
  before0_2_of m (dats m 0 c) (A_eq m c 2) (after2 m c) t d
theorem before3 (d) : (dats m 0 c).before 3 t d = iblk m c 3 t :=
  before0_3_of m (dats m 0 c) (A_eq m c 3) (after3 m c) t d
theorem before4 (d) : (dats m 0 c).before 4 t d = iblk m c 4 t :=
  before0_4_of m (dats m 0 c) (A_eq m c 4) (after4 m c) t d
theorem before5 (d) : (dats m 0 c).before 5 t d = iblk m c 5 t :=
  before0_5_of m (dats m 0 c) (A_eq m c 5) (after5 m c) t d
theorem before6 (d) : (dats m 0 c).before 6 t d = iblk m c 6 t :=
  before0_6_of m (dats m 0 c) (A_eq m c 6) (after6 m c) t d
theorem before7 (d) : (dats m 0 c).before 7 t d = iblk m c 7 t :=
  before0_7_of m (dats m 0 c) (A_eq m c 7) (after7 m c) t d
theorem before8 (d) : (dats m 0 c).before 8 t d = iblk m c 8 t :=
  before0_8_of m (dats m 0 c) (A_eq m c 8) (after8 m c) t d
theorem before9 (d) : (dats m 0 c).before 9 t d = iblk m c 9 t :=
  before0_9_of m (dats m 0 c) (A_eq m c 9) (after9 m c) t d
theorem before10 (d) : (dats m 0 c).before 10 t d = iblk m c 10 t :=
  before0_10_of m (dats m 0 c) (A_eq m c 10) (after10 m c) t d

/-- What the body is called with, -/
def bodyPre : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d)))

/-- and what it returns. -/
def bodyPost : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t))

set_option maxHeartbeats 1600000 in
theorem sound_body :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11, after12, after13]
  rw [show (dats m 0 c).Φ t.castSucc = Pipeline.ΦA spec0 c from rfl, PhiA0_eq]
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (body_run c (grid0.coords t) _ _ _ _ _ _ _ _ _ _ _ _ _ _ _ _ _ _ _ _ _ _ _ _ _ _ _ _ _ _ _ _ _ _ _ _ _ _ (hcond0_0 t) (iblk m c 0 t) (iblk m c 1 t) (iblk m c 2 t) (iblk m c 3 t) (iblk m c 4 t) (iblk m c 5 t) (iblk m c 6 t) (iblk m c 7 t) (iblk m c 8 t) (iblk m c 9 t) (iblk m c 10 t) Set.univ _)
  iframe H0 H1 H2 H3 H4 H5 H6 H7 H8 H9 H10
  isplitl [H11]; · iexists _; iexact H11
  isplitl [H12]; · iexists _; iexact H12
  isplitl [H13]; · iexists _; iexact H13
  iframe HS0 HS1 HS2 HS3 HS4
  iintro ⟨H0, H1, H2, H3, H4, H5, H6, H7, H8, H9, H10, H11, H12, H13, HS0, HS1, HS2, HS3, HS4⟩
  isplitl [HS0 HS1 HS2 HS3 HS4 Hg]
  · isplitl [HS0 HS1 HS2 HS3 HS4]
    · iframe HS0 HS1 HS2 HS3 HS4
    iexact Hg
  iframe Ho H0 H1 H2 H3 H4 H5 H6 H7 H8 H9 H10 H11 H12 H13

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged, and no semaphore is left raised. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (frame_of m ρ (dats m) (A_eq m) (run_main m ρ)) ((θ_run defs _ _).mono (fun _ h => h.2) (run_main_quiescent m ρ))

end Cert.Kernel7Ideal.Hand

end
-- ==== Proof.Recur.lean ====
/- The gated linear recurrence over the extended reals: its gates, and its scan in blocks of eight. -/
module

public import proofs.«01_k».proof.Proof.Sigmoid

@[expose] public section

noncomputable section

namespace Cert.Recur

open Idealize.ShloMosaic Cert.Sigmoid

/-- One half. -/
abbrev half : EReal := ((1 / 2 : ℝ) : EReal)

theorem neg4_eq : Ideal.ofBits .f32 3229614080#32 = ((-4 : ℝ) : EReal) := by
  simp [Ideal.ofBits, Ideal.ieee, -EReal.coe_mul, -EReal.coe_neg]; norm_num
theorem neg1_eq : Ideal.ofBits .f32 3212836864#32 = ((-1 : ℝ) : EReal) := by
  simp [Ideal.ofBits, Ideal.ieee, -EReal.coe_mul, -EReal.coe_neg]; norm_num
theorem neg8_eq : Ideal.ofBits .f32 3238002688#32 = ((-8 : ℝ) : EReal) := by
  simp [Ideal.ofBits, Ideal.ieee, -EReal.coe_mul, -EReal.coe_neg]; norm_num
theorem two_eq : Ideal.ofBits .f32 1073741824#32 = ((2 : ℝ) : EReal) := by
  simp [Ideal.ofBits, Ideal.ieee, -EReal.coe_mul, -EReal.coe_neg]; norm_num

theorem half_mul_sum {n : ℕ} (f : Fin n → EReal) : half * ∑ k, f k = ∑ k, half * f k := by
  induction n with
  | zero => simp
  | succ n ih => rw [Fin.sum_univ_succ, Fin.sum_univ_succ, half_mul_add, ih]

/-- Twice the logistic function. -/
theorem one_add_tanh (z : EReal) : 1 + Ideal.tanh (half * z) = ((2 : ℝ) : EReal) * Ideal.logistic z := by
  rw [logistic_eq, ← mul_assoc, ← EReal.coe_mul]; norm_num

/-- The softplus function. -/
def sp (x : EReal) : EReal := max x 0 + Ideal.log1p (Ideal.exp (-max x (-x)))

/-- The decay's logarithm at gate argument `z` and parameter `lam`. -/
def gLog (z lam : EReal) : EReal := ((-8 : ℝ) : EReal) * Ideal.logistic z * sp (-lam)

/-- The decay. -/
def gA (z lam : EReal) : EReal := Ideal.exp (gLog z lam)

/-- The recurrence's input at gate arguments `z` and `zi`, value `x` and parameter `lam`. -/
def gB (z zi x lam : EReal) : EReal :=
  Ideal.sqrt (-(Ideal.expm1 (((2 : ℝ) : EReal) * gLog z lam))) * (Ideal.logistic zi * x)

theorem log_form (z s : EReal) :
    (1 + Ideal.tanh (half * z)) * (((-4 : ℝ) : EReal) * s) = ((-8 : ℝ) : EReal) * Ideal.logistic z * s := by
  rw [one_add_tanh, mul_assoc, mul_left_comm (Ideal.logistic z), ← mul_assoc, ← mul_assoc, ← EReal.coe_mul]
  norm_num

theorem input_form (z x : EReal) : (1 + Ideal.tanh (half * z)) * (half * x) = Ideal.logistic z * x := by
  rw [logistic_eq, ← mul_assoc, mul_comm half (1 + Ideal.tanh (half * z))]

theorem real_one_sub_sq (r : ℝ) : Real.tanh r * (-1 - Real.exp r * Real.exp r) = 1 - Real.exp (2 * r) := by
  have h1 : Real.exp (2 * r) = Real.exp r * Real.exp r := by rw [← Real.exp_add]; congr 1; ring
  have h2 : Real.exp r * Real.exp (-r) = 1 := by rw [← Real.exp_add]; simp
  have p1 := Real.exp_pos r
  have p2 := Real.exp_pos (-r)
  rw [Real.tanh_eq_sinh_div_cosh, Real.sinh_eq, Real.cosh_eq, h1]
  generalize Real.exp r = a at *
  generalize Real.exp (-r) = b at *
  have hs : a + b ≠ 0 := by positivity
  field_simp
  linear_combination (2 * a) * h2

/-- The square root of one minus the decay's square, written with the hyperbolic tangent. -/
theorem root_form (l : EReal) (h : l ≤ 0) (v : EReal)
    (hv : v = Ideal.tanh l * (((-1 : ℝ) : EReal) - Ideal.exp l * Ideal.exp l)) :
    (if 0 < v then v * Ideal.rsqrt v else 0) = Ideal.sqrt (-(Ideal.expm1 (((2 : ℝ) : EReal) * l))) := by
  induction l with
  | top => simp at h
  | bot =>
    have e : v = ((1 : ℝ) : EReal) := by
      rw [hv, Ideal.tanh_bot, Ideal.exp_bot, mul_zero, sub_zero, ← EReal.coe_one, ← EReal.coe_neg, ← EReal.coe_mul]; norm_num
    rw [EReal.coe_mul_bot_of_pos (by norm_num), Ideal.expm1, Ideal.exp_bot, e, zero_sub, neg_neg, ← EReal.coe_one,
      Ideal.rsqrt_coe, Ideal.sqrt_coe]
    norm_num
  | coe r =>
    have hr : r ≤ 0 := by exact_mod_cast h
    have e : v = ((1 - Real.exp (2 * r) : ℝ) : EReal) := by
      rw [hv, Ideal.tanh_coe, Ideal.exp_coe, ← EReal.coe_mul, ← EReal.coe_sub, ← EReal.coe_mul, real_one_sub_sq]
    have e2 : -(Ideal.expm1 (((2 : ℝ) : EReal) * (r : EReal))) = ((1 - Real.exp (2 * r) : ℝ) : EReal) := by
      rw [← EReal.coe_mul, Ideal.expm1, Ideal.exp_coe, ← EReal.coe_one, ← EReal.coe_sub, ← EReal.coe_neg]; congr 1; ring
    have hw : 0 ≤ 1 - Real.exp (2 * r) := by
      have := Real.exp_le_one_iff.mpr (by linarith : 2 * r ≤ 0)
      linarith
    rw [e, e2]
    generalize 1 - Real.exp (2 * r) = w at hw
    rcases hw.eq_or_lt with rfl | hp
    · rw [Ideal.sqrt_coe, if_neg (lt_irrefl _), Real.sqrt_zero, EReal.coe_zero, if_neg (lt_irrefl _)]
    · rw [if_pos (by exact_mod_cast hp), Ideal.rsqrt_coe, Ideal.sqrt_coe, if_neg (not_lt.mpr hw), if_neg hp.ne', if_neg (not_lt.mpr hw),
        ← EReal.coe_mul]
      congr 1
      have hs := Real.sqrt_pos.mpr hp
      field_simp
      exact (Real.sq_sqrt hw).symm

theorem logistic_nonneg (z : EReal) : 0 ≤ Ideal.logistic z := by
  induction z with
  | bot => simp
  | top => simp
  | coe r => rw [Ideal.logistic_coe]; exact_mod_cast (by positivity : (0 : ℝ) ≤ (1 + Real.exp (-r))⁻¹)

theorem sp_nonneg (x : EReal) : 0 ≤ sp x := by
  refine add_nonneg (le_max_right _ _) ?_
  have key : ∀ y : EReal, 0 ≤ Ideal.log1p (Ideal.exp y) := by
    intro y
    induction y with
    | bot => rw [Ideal.exp_bot, Ideal.log1p, add_zero, ← EReal.coe_one, Ideal.log_coe, if_neg (by norm_num), Real.log_one]; simp
    | top => rw [Ideal.exp_top, Ideal.log1p, EReal.add_top_of_ne_bot (show (1 : EReal) ≠ ⊥ from EReal.coe_ne_bot 1)]; simp
    | coe r =>
      have p := Real.exp_pos r
      rw [Ideal.exp_coe, Ideal.log1p, ← EReal.coe_one, ← EReal.coe_add, Ideal.log_coe, if_neg (by linarith)]
      exact_mod_cast Real.log_nonneg (by linarith)
  exact key _

theorem gLog_nonpos (z lam : EReal) : gLog z lam ≤ 0 := by
  unfold gLog
  rw [EReal.coe_neg, EReal.neg_mul, EReal.neg_mul]
  exact EReal.neg_le.mpr (by
    rw [neg_zero]
    exact EReal.mul_nonneg (EReal.mul_nonneg (by exact_mod_cast (by norm_num : (0 : ℝ) ≤ 8)) (logistic_nonneg z)) (sp_nonneg _))

/-- A finite value that is not negative. -/
def Fin0 (x : EReal) : Prop := ∃ r : ℝ, 0 ≤ r ∧ x = r

theorem Fin0.mul {x y : EReal} (hx : Fin0 x) (hy : Fin0 y) : Fin0 (x * y) := by
  obtain ⟨r, hr, rfl⟩ := hx
  obtain ⟨s, hs, rfl⟩ := hy
  exact ⟨r * s, mul_nonneg hr hs, (EReal.coe_mul r s).symm⟩

theorem gA_fin (z lam : EReal) : Fin0 (gA z lam) := by
  unfold gA
  have h := gLog_nonpos z lam
  generalize gLog z lam = l at h
  induction l with
  | bot => exact ⟨0, le_rfl, by simp⟩
  | top => simp at h
  | coe r => exact ⟨Real.exp r, (Real.exp_pos r).le, by simp⟩

/-- `n` steps of `h ↦ a·h + b` from position `lo`. -/
def R (a b : ℕ → EReal) (lo : ℕ) : ℕ → EReal → EReal
  | 0, h => h
  | n + 1, h => a (lo + n) * R a b lo n h + b (lo + n)

theorem R_add (a b : ℕ → EReal) (lo m n : ℕ) (h : EReal) : R a b lo (m + n) h = R a b (lo + m) n (R a b lo m h) := by
  induction n with
  | zero => rfl
  | succ n ih => show a (lo + (m + n)) * R a b lo (m + n) h + b (lo + (m + n)) = a (lo + m + n) * R a b (lo + m) n (R a b lo m h) + b (lo + m + n); rw [ih, Nat.add_assoc]

/-- `A` and `B` are the products and sums of the last `w` steps of the block at `o`. -/
def Inv (a b : ℕ → EReal) (o w : ℕ) (A B : ℕ → EReal) : Prop :=
  ∀ s < 8, Fin0 (A s) ∧ ∀ h, A s * h + B s = R a b (o + (s + 1 - w)) (min w (s + 1)) h

theorem inv_one {a b A B : ℕ → EReal} {o : ℕ} (ha : ∀ s < 8, A s = a (o + s)) (hb : ∀ s < 8, B s = b (o + s))
    (hf : ∀ s < 8, Fin0 (A s)) : Inv a b o 1 A B := by
  intro s hs
  refine ⟨hf s hs, fun h => ?_⟩
  rw [show min 1 (s + 1) = 0 + 1 by omega, show s + 1 - 1 = s by omega, ha s hs, hb s hs]
  rfl

theorem inv_step {a b A B A' B' : ℕ → EReal} {o w : ℕ} (hi : Inv a b o w A B)
    (hA : ∀ s < 8, A' s = if w ≤ s then A s * A (s - w) else A s)
    (hB : ∀ s < 8, B' s = if w ≤ s then A s * B (s - w) + B s else B s) : Inv a b o (w + w) A' B' := by
  intro s hs
  rw [hA s hs, hB s hs]
  by_cases hw : w ≤ s
  · rw [if_pos hw, if_pos hw]
    obtain ⟨f1, e1⟩ := hi s hs
    obtain ⟨f2, e2⟩ := hi (s - w) (by omega)
    refine ⟨f1.mul f2, fun h => ?_⟩
    obtain ⟨r, hr, hra⟩ := f1
    have hd : A s * (A (s - w) * h + B (s - w)) = A s * (A (s - w) * h) + A s * B (s - w) := by
      rw [hra]; exact EReal.left_distrib_of_nonneg_of_ne_top (by exact_mod_cast hr) (EReal.coe_ne_top _) _ _
    rw [mul_assoc, ← add_assoc, ← hd, e2, e1, show min (w + w) (s + 1) = min w (s - w + 1) + w by omega, R_add,
      show min w (s + 1) = w by omega, show o + (s + 1 - w) = o + (s + 1 - (w + w)) + min w (s - w + 1) by omega,
      show s - w + 1 - w = s + 1 - (w + w) by omega]
  · rw [if_neg hw, if_neg hw]
    obtain ⟨f1, e1⟩ := hi s hs
    refine ⟨f1, fun h => ?_⟩
    rw [e1, show s + 1 - (w + w) = s + 1 - w by omega, show min (w + w) (s + 1) = min w (s + 1) by omega]

theorem inv_end {a b A B : ℕ → EReal} {o : ℕ} (hi : Inv a b o 8 A B) {s : ℕ} (hs : s < 8) (h : EReal) :
    A s * h + B s = R a b o (s + 1) h := by
  rw [(hi s hs).2 h, show o + (s + 1 - 8) = o by omega, show min 8 (s + 1) = s + 1 by omega]

/-! ## The recurrence of one block of channels -/

/-- The layer's values at one block of 128 channels: the convolution's weights and bias, the two gates' weights and biases, the
    decay's parameter, and the input rows with the three rows before them. -/
structure Par where
  cw : Fin 4 → Fin 128 → EReal
  cb : Fin 128 → EReal
  wa : Fin 128 → Fin 128 → EReal
  ba : Fin 128 → EReal
  wx : Fin 128 → Fin 128 → EReal
  bx : Fin 128 → EReal
  lam : Fin 128 → EReal
  x : ℕ → Fin 128 → EReal

/-- The convolved row `t`, -/
def Par.xc (p : Par) (t : ℕ) (l : Fin 128) : EReal :=
  p.cb l + (p.x t l * p.cw 0 l + p.x (t + 1) l * p.cw 1 l + p.x (t + 2) l * p.cw 2 l + p.x (t + 3) l * p.cw 3 l)
/-- its gates' arguments, -/
def Par.za (p : Par) (t : ℕ) (l : Fin 128) : EReal := ∑ k, p.wa k l * p.xc t k + p.ba l
def Par.zx (p : Par) (t : ℕ) (l : Fin 128) : EReal := ∑ k, p.wx k l * p.xc t k + p.bx l
/-- its decay and its input to the recurrence. -/
def Par.a (p : Par) (l : Fin 128) (t : ℕ) : EReal := gA (p.za t l) (p.lam l)
def Par.b (p : Par) (l : Fin 128) (t : ℕ) : EReal := gB (p.za t l) (p.zx t l) (p.xc t l) (p.lam l)

/-- Two indices of three coordinates are equal where their coordinates are. -/
theorem idx_ext3 {a b d : ℕ} {i j : (⟨3, ![a, b, d]⟩ : Shape).Idx} (h0 : (i 0).val = (j 0).val) (h1 : (i 1).val = (j 1).val) (h2 : (i 2).val = (j 2).val) : i = j :=
  funext fun k => match k with
    | ⟨0, _⟩ => Fin.ext h0
    | ⟨1, _⟩ => Fin.ext h1
    | ⟨2, _⟩ => Fin.ext h2

theorem sel_sge {α : Type} (s k : ℕ) (hs : s < 8) (hk : k < 8) (x y : α) :
    Scalar.select (IntOp.cmpi .sge (BitVec.ofNat 32 s) (BitVec.ofNat 32 k)) x y = if k ≤ s then x else y := by
  interval_cases s <;> interval_cases k <;> rfl

/-- The convolution at half its size. -/
theorem conv_half (cb w0 w1 w2 w3 x0 x1 x2 x3 : EReal) :
    half * cb + x3 * (half * w3) + x0 * (half * w0) + x1 * (half * w1) + x2 * (half * w2)
      = half * (cb + (x0 * w0 + x1 * w1 + x2 * w2 + x3 * w3)) := by
  rw [half_mul_add, half_mul_add, half_mul_add, half_mul_add, mul_left_comm x3, mul_left_comm x0, mul_left_comm x1, mul_left_comm x2]
  abel

/-- A gate's argument at half its size. -/
theorem gate_half (f w : Fin 128 → EReal) (b : EReal) :
    ∑ k, half * f k * w k + half * b = half * (∑ k, w k * f k + b) := by
  rw [half_mul_add, half_mul_sum]
  congr 1
  exact Finset.sum_congr rfl fun k _ => by rw [mul_assoc, mul_comm (f k)]

/-! ## Channels, and the gate of the output -/

/-- The block of a channel and its place in it. -/
def chN (j : Fin 2048) : Fin 16 := ⟨j.val / 128, by omega⟩
def chL (j : Fin 2048) : Fin 128 := ⟨j.val % 128, Nat.mod_lt _ (by decide)⟩
def chJ (n : Fin 16) (l : Fin 128) : Fin 2048 := ⟨128 * n.val + l.val, by omega⟩

theorem chJ_eq (j : Fin 2048) : chJ (chN j) (chL j) = j := Fin.ext (by show 128 * (j.val / 128) + j.val % 128 = j.val; omega)

/-- The smooth gate of the output. -/
def gel (g : EReal) : EReal :=
  g * (half * (1 + Ideal.tanh (Ideal.ofBits .f32 1061962282#32 * (g + Ideal.ofBits .f32 1027024659#32 * (g * (g * g))))))

/-- The gate of the output, as the reference multiplies it. -/
def refGel (g : EReal) : EReal :=
  g * (Ideal.ofBits .f32 1056964608#32 * (1 + Ideal.tanh (Ideal.ofBits .f32 1061962282#32 * (g + Ideal.ofBits .f32 1027024659#32 * (g * g * g)))))

theorem refGel_eq (g : EReal) : refGel g = gel g := by
  unfold refGel gel
  rw [show Ideal.ofBits .f32 1056964608#32 = half from Cert.Sigmoid.half_eq, mul_assoc g g g]

end Cert.Recur
-- ==== Proof.RglruSample.Tile.lean ====
/- The values of a tile of the recurrence kernel on the sample rows, over the extended reals: a chunk's decays and inputs, the scans of each group of
   rows as steps of the recurrence, and the tile's rows. -/
module

public import proofs.«01_k».proof.Proof.RglruSample.Pieces
public import proofs.«01_k».proof.Proof.Recur
public import Idealize.ShloMosaic.Lib.Pointwise

@[expose] public section

set_option maxRecDepth 65536

noncomputable section

namespace Cert.Kernel7Ideal.Hand

open Idealize.ShloMosaic Idealize.ShloMosaic.TcCoe
open Cert.Kernel7Ideal.Gen Cert.Recur

/-! ## A round of the scans -/

/-- One round of a scan over the rows of each group: the products, -/
def rndA (k : BitVec 32) (A : FVec Ideal S2x8x128 .f32) : FVec Ideal S2x8x128 .f32 :=
  select (cmpi .sge (iota .tc S2x8x128 32 [1] iota_S2x8x128_d1_w32) (broadcast S2x8x128 k)) (mulf A (dynamicRotate 1 k none A rotates_S2x8x128_d1)) A
/-- and the sums. -/
def rndB (k : BitVec 32) (A B : FVec Ideal S2x8x128 .f32) : FVec Ideal S2x8x128 .f32 :=
  select (cmpi .sge (iota .tc S2x8x128 32 [1] iota_S2x8x128_d1_w32) (broadcast S2x8x128 k)) (addf (mulf A (dynamicRotate 1 k none B rotates_S2x8x128_d1)) B) B

/-- The rows of a group, by number. -/
def rowN (A : FVec Ideal S2x8x128 .f32) (g : Fin 2) (l : Fin 128) (s : ℕ) : EReal := A (ix3 g ⟨s % 8, Nat.mod_lt _ (by decide)⟩ l)

theorem rowN_eq (A : FVec Ideal S2x8x128 .f32) (g : Fin 2) (l : Fin 128) (s : Fin 8) : A (ix3 g s l) = rowN A g l s.val := by
  unfold rowN
  congr 1
  exact congrArg (fun s => ix3 g s l) (Fin.ext (Nat.mod_eq_of_lt s.isLt).symm)

theorem rndA_row1 (A : FVec Ideal S2x8x128 .f32) (g : Fin 2) (l : Fin 128) (s : ℕ) (hs : s < 8) :
    rowN (rndA 1#32 A) g l s = if 1 ≤ s then rowN A g l s * rowN A g l (s - 1) else rowN A g l s := by
  have h : ∀ s : Fin 8, rndA 1#32 A (ix3 g s l) = if 1 ≤ s.val then A (ix3 g s l) * A (ix3 g ⟨(s.val + 8 - 1) % 8, Nat.mod_lt _ (by decide)⟩ l) else A (ix3 g s l) := by
    intro s
    rw [← sel_sge s.val 1 s.isLt (by decide)]
    pointwise [rndA]
  rw [← rowN_eq _ g l ⟨s, hs⟩, h ⟨s, hs⟩]
  show (if 1 ≤ s then A (ix3 g ⟨s, hs⟩ l) * A (ix3 g ⟨(s + 8 - 1) % 8, Nat.mod_lt _ (by decide)⟩ l) else A (ix3 g ⟨s, hs⟩ l)) = _
  rw [rowN_eq A g l ⟨s, hs⟩, rowN_eq A g l ⟨(s + 8 - 1) % 8, Nat.mod_lt _ (by decide)⟩]
  show (if 1 ≤ s then rowN A g l s * rowN A g l ((s + 8 - 1) % 8) else rowN A g l s) = _
  by_cases hk : 1 ≤ s
  · rw [if_pos hk, if_pos hk, show (s + 8 - 1) % 8 = s - 1 by omega]
  · rw [if_neg hk, if_neg hk]

theorem rndB_row1 (A B : FVec Ideal S2x8x128 .f32) (g : Fin 2) (l : Fin 128) (s : ℕ) (hs : s < 8) :
    rowN (rndB 1#32 A B) g l s = if 1 ≤ s then rowN A g l s * rowN B g l (s - 1) + rowN B g l s else rowN B g l s := by
  have h : ∀ s : Fin 8, rndB 1#32 A B (ix3 g s l) = if 1 ≤ s.val then A (ix3 g s l) * B (ix3 g ⟨(s.val + 8 - 1) % 8, Nat.mod_lt _ (by decide)⟩ l) + B (ix3 g s l) else B (ix3 g s l) := by
    intro s
    rw [← sel_sge s.val 1 s.isLt (by decide)]
    pointwise [rndB]
  rw [← rowN_eq _ g l ⟨s, hs⟩, h ⟨s, hs⟩]
  show (if 1 ≤ s then A (ix3 g ⟨s, hs⟩ l) * B (ix3 g ⟨(s + 8 - 1) % 8, Nat.mod_lt _ (by decide)⟩ l) + B (ix3 g ⟨s, hs⟩ l) else B (ix3 g ⟨s, hs⟩ l)) = _
  rw [rowN_eq A g l ⟨s, hs⟩, rowN_eq B g l ⟨s, hs⟩, rowN_eq B g l ⟨(s + 8 - 1) % 8, Nat.mod_lt _ (by decide)⟩]
  show (if 1 ≤ s then rowN A g l s * rowN B g l ((s + 8 - 1) % 8) + rowN B g l s else rowN B g l s) = _
  by_cases hk : 1 ≤ s
  · rw [if_pos hk, if_pos hk, show (s + 8 - 1) % 8 = s - 1 by omega]
  · rw [if_neg hk, if_neg hk]

theorem rndA_row2 (A : FVec Ideal S2x8x128 .f32) (g : Fin 2) (l : Fin 128) (s : ℕ) (hs : s < 8) :
    rowN (rndA 2#32 A) g l s = if 2 ≤ s then rowN A g l s * rowN A g l (s - 2) else rowN A g l s := by
  have h : ∀ s : Fin 8, rndA 2#32 A (ix3 g s l) = if 2 ≤ s.val then A (ix3 g s l) * A (ix3 g ⟨(s.val + 8 - 2) % 8, Nat.mod_lt _ (by decide)⟩ l) else A (ix3 g s l) := by
    intro s
    rw [← sel_sge s.val 2 s.isLt (by decide)]
    pointwise [rndA]
  rw [← rowN_eq _ g l ⟨s, hs⟩, h ⟨s, hs⟩]
  show (if 2 ≤ s then A (ix3 g ⟨s, hs⟩ l) * A (ix3 g ⟨(s + 8 - 2) % 8, Nat.mod_lt _ (by decide)⟩ l) else A (ix3 g ⟨s, hs⟩ l)) = _
  rw [rowN_eq A g l ⟨s, hs⟩, rowN_eq A g l ⟨(s + 8 - 2) % 8, Nat.mod_lt _ (by decide)⟩]
  show (if 2 ≤ s then rowN A g l s * rowN A g l ((s + 8 - 2) % 8) else rowN A g l s) = _
  by_cases hk : 2 ≤ s
  · rw [if_pos hk, if_pos hk, show (s + 8 - 2) % 8 = s - 2 by omega]
  · rw [if_neg hk, if_neg hk]

theorem rndB_row2 (A B : FVec Ideal S2x8x128 .f32) (g : Fin 2) (l : Fin 128) (s : ℕ) (hs : s < 8) :
    rowN (rndB 2#32 A B) g l s = if 2 ≤ s then rowN A g l s * rowN B g l (s - 2) + rowN B g l s else rowN B g l s := by
  have h : ∀ s : Fin 8, rndB 2#32 A B (ix3 g s l) = if 2 ≤ s.val then A (ix3 g s l) * B (ix3 g ⟨(s.val + 8 - 2) % 8, Nat.mod_lt _ (by decide)⟩ l) + B (ix3 g s l) else B (ix3 g s l) := by
    intro s
    rw [← sel_sge s.val 2 s.isLt (by decide)]
    pointwise [rndB]
  rw [← rowN_eq _ g l ⟨s, hs⟩, h ⟨s, hs⟩]
  show (if 2 ≤ s then A (ix3 g ⟨s, hs⟩ l) * B (ix3 g ⟨(s + 8 - 2) % 8, Nat.mod_lt _ (by decide)⟩ l) + B (ix3 g ⟨s, hs⟩ l) else B (ix3 g ⟨s, hs⟩ l)) = _
  rw [rowN_eq A g l ⟨s, hs⟩, rowN_eq B g l ⟨s, hs⟩, rowN_eq B g l ⟨(s + 8 - 2) % 8, Nat.mod_lt _ (by decide)⟩]
  show (if 2 ≤ s then rowN A g l s * rowN B g l ((s + 8 - 2) % 8) + rowN B g l s else rowN B g l s) = _
  by_cases hk : 2 ≤ s
  · rw [if_pos hk, if_pos hk, show (s + 8 - 2) % 8 = s - 2 by omega]
  · rw [if_neg hk, if_neg hk]

theorem rndA_row4 (A : FVec Ideal S2x8x128 .f32) (g : Fin 2) (l : Fin 128) (s : ℕ) (hs : s < 8) :
    rowN (rndA 4#32 A) g l s = if 4 ≤ s then rowN A g l s * rowN A g l (s - 4) else rowN A g l s := by
  have h : ∀ s : Fin 8, rndA 4#32 A (ix3 g s l) = if 4 ≤ s.val then A (ix3 g s l) * A (ix3 g ⟨(s.val + 8 - 4) % 8, Nat.mod_lt _ (by decide)⟩ l) else A (ix3 g s l) := by
    intro s
    rw [← sel_sge s.val 4 s.isLt (by decide)]
    pointwise [rndA]
  rw [← rowN_eq _ g l ⟨s, hs⟩, h ⟨s, hs⟩]
  show (if 4 ≤ s then A (ix3 g ⟨s, hs⟩ l) * A (ix3 g ⟨(s + 8 - 4) % 8, Nat.mod_lt _ (by decide)⟩ l) else A (ix3 g ⟨s, hs⟩ l)) = _
  rw [rowN_eq A g l ⟨s, hs⟩, rowN_eq A g l ⟨(s + 8 - 4) % 8, Nat.mod_lt _ (by decide)⟩]
  show (if 4 ≤ s then rowN A g l s * rowN A g l ((s + 8 - 4) % 8) else rowN A g l s) = _
  by_cases hk : 4 ≤ s
  · rw [if_pos hk, if_pos hk, show (s + 8 - 4) % 8 = s - 4 by omega]
  · rw [if_neg hk, if_neg hk]

theorem rndB_row4 (A B : FVec Ideal S2x8x128 .f32) (g : Fin 2) (l : Fin 128) (s : ℕ) (hs : s < 8) :
    rowN (rndB 4#32 A B) g l s = if 4 ≤ s then rowN A g l s * rowN B g l (s - 4) + rowN B g l s else rowN B g l s := by
  have h : ∀ s : Fin 8, rndB 4#32 A B (ix3 g s l) = if 4 ≤ s.val then A (ix3 g s l) * B (ix3 g ⟨(s.val + 8 - 4) % 8, Nat.mod_lt _ (by decide)⟩ l) + B (ix3 g s l) else B (ix3 g s l) := by
    intro s
    rw [← sel_sge s.val 4 s.isLt (by decide)]
    pointwise [rndB]
  rw [← rowN_eq _ g l ⟨s, hs⟩, h ⟨s, hs⟩]
  show (if 4 ≤ s then A (ix3 g ⟨s, hs⟩ l) * B (ix3 g ⟨(s + 8 - 4) % 8, Nat.mod_lt _ (by decide)⟩ l) + B (ix3 g ⟨s, hs⟩ l) else B (ix3 g ⟨s, hs⟩ l)) = _
  rw [rowN_eq A g l ⟨s, hs⟩, rowN_eq B g l ⟨s, hs⟩, rowN_eq B g l ⟨(s + 8 - 4) % 8, Nat.mod_lt _ (by decide)⟩]
  show (if 4 ≤ s then rowN A g l s * rowN B g l ((s + 8 - 4) % 8) + rowN B g l s else rowN B g l s) = _
  by_cases hk : 4 ≤ s
  · rw [if_pos hk, if_pos hk, show (s + 8 - 4) % 8 = s - 4 by omega]
  · rw [if_neg hk, if_neg hk]

/-- The three rounds leave the block's products and sums. -/
theorem scan_inv (a b : FVec Ideal S16x128 .f32) (α β : ℕ → EReal) (g : Fin 2) (l : Fin 128)
    (ha : ∀ t : Fin 16, a (ix2 t l) = α t.val) (hb : ∀ t : Fin 16, b (ix2 t l) = β t.val) (hf : ∀ t, Fin0 (α t)) :
    Inv α β (8 * g.val) 8 (rowN (cScanA a b) g l) (rowN (cScanB a b) g l) := by
  have eA : cScanA a b = rndA 4#32 (rndA 2#32 (rndA 1#32 (shapeCast S2x8x128 a shapeCasts_S16x128_S2x8x128))) := by
    show shapeCast S2x8x128 (rndA 4#32 (rndA 2#32 (rndA 1#32 (shapeCast S2x8x128 a shapeCasts_S16x128_S2x8x128)))) _ = _
    exact shapeCast_self _ _
  have eB : cScanB a b = rndB 4#32 (rndA 2#32 (rndA 1#32 (shapeCast S2x8x128 a shapeCasts_S16x128_S2x8x128)))
      (rndB 2#32 (rndA 1#32 (shapeCast S2x8x128 a shapeCasts_S16x128_S2x8x128)) (rndB 1#32 (shapeCast S2x8x128 a shapeCasts_S16x128_S2x8x128) (shapeCast S2x8x128 b shapeCasts_S16x128_S2x8x128))) := by
    show shapeCast S2x8x128 (rndB 4#32 (rndA 2#32 (rndA 1#32 (shapeCast S2x8x128 a shapeCasts_S16x128_S2x8x128)))
      (rndB 2#32 (rndA 1#32 (shapeCast S2x8x128 a shapeCasts_S16x128_S2x8x128)) (rndB 1#32 (shapeCast S2x8x128 a shapeCasts_S16x128_S2x8x128) (shapeCast S2x8x128 b shapeCasts_S16x128_S2x8x128)))) _ = _
    exact shapeCast_self _ _
  have e : ∀ (x : FVec Ideal S16x128 .f32) (f : ℕ → EReal), (∀ t : Fin 16, x (ix2 t l) = f t.val) → ∀ s < 8, rowN (shapeCast S2x8x128 x shapeCasts_S16x128_S2x8x128) g l s = f (8 * g.val + s) := by
    intro x f hx s hs
    have h : ∀ s : Fin 8, shapeCast S2x8x128 x shapeCasts_S16x128_S2x8x128 (ix3 g s l) = x (ix2 ⟨g.val * 8 + s.val, by omega⟩ l) := by
      intro s; pointwise []
    rw [← rowN_eq _ g l ⟨s, hs⟩, h, hx]
    show f (g.val * 8 + s) = _
    rw [mul_comm]
  rw [eA, eB]
  have i1 : Inv α β (8 * g.val) 1 _ _ := inv_one (e a α ha) (e b β hb) (fun s hs => by rw [e a α ha s hs]; exact hf _)
  have i2 : Inv α β (8 * g.val) 2 _ _ := inv_step i1 (rndA_row1 _ g l) (rndB_row1 _ _ g l)
  have i4 : Inv α β (8 * g.val) 4 _ _ := inv_step i2 (rndA_row2 _ g l) (rndB_row2 _ _ g l)
  exact inv_step i4 (rndA_row4 _ g l) (rndB_row4 _ _ g l)

/-! ## A chunk's decays and inputs -/

theorem winU_apply (n : Fin 16) (x : Vec Ideal S16x2048 .f32) (t : Fin 16) (l : Fin 128) : winU n x (ix2 t l) = x (ix2 t ⟨128 * n.val + l.val, by omega⟩) := by
  unfold winU VecWindow.window
  exact congrArg x (Shape.idx_ext₂ (by show 0 + 1 * t.val = t.val; omega) (by show 128 * n.val + 1 * l.val = 128 * n.val + l.val; omega))

theorem winE_apply (n : Fin 16) (x : Vec Ideal S8x2048 .f32) (t : Fin 8) (l : Fin 128) : winE n x (ix2 t l) = x (ix2 t ⟨128 * n.val + l.val, by omega⟩) := by
  unfold winE VecWindow.window
  exact congrArg x (Shape.idx_ext₂ (by show 0 + 1 * t.val = t.val; omega) (by show 128 * n.val + 1 * l.val = 128 * n.val + l.val; omega))

theorem winC_apply (n : Fin 16) (x : Vec Ideal S4x2048 .f32) (t : Fin 4) (l : Fin 128) : winC n x (ix2 t l) = x (ix2 t ⟨128 * n.val + l.val, by omega⟩) := by
  unfold winC VecWindow.window
  exact congrArg x (Shape.idx_ext₂ (by show 0 + 1 * t.val = t.val; omega) (by show 128 * n.val + 1 * l.val = 128 * n.val + l.val; omega))

theorem winV_apply (n : Fin 16) (x : Vec Ideal S1x2048 .f32) (t : Fin 1) (l : Fin 128) : winV n x (ix2 t l) = x (ix2 t ⟨128 * n.val + l.val, by omega⟩) := by
  unfold winV VecWindow.window
  exact congrArg x (Shape.idx_ext₂ (by show 0 + 1 * t.val = t.val; omega) (by show 128 * n.val + 1 * l.val = 128 * n.val + l.val; omega))

theorem winW_apply (n : Fin 16) (x : Vec Ideal S16x128x128 .f32) (k l : Fin 128) : winW n x (ix3 0 k l) = x (ix3 n k l) := by
  unfold winW VecWindow.window
  exact congrArg x (idx_ext3 (by show n.val + 1 * 0 = n.val; omega) (by show 0 + 1 * k.val = k.val; omega) (by show 0 + 1 * l.val = l.val; omega))

theorem winG_apply (g : Fin 2) (x : Vec Ideal S2x8x2048 .f32) (s : Fin 8) (j : Fin 2048) : winG g x (ix3 0 s j) = x (ix3 g s j) := by
  unfold winG VecWindow.window
  exact congrArg x (idx_ext3 (by show g.val + 1 * 0 = g.val; omega) (by show 0 + 1 * s.val = s.val; omega) (by show 0 + 1 * j.val = j.val; omega))

variable (n : Fin 16)
  (cw : Vec Ideal S4x2048 .f32) (u : Vec Ideal S16x2048 .f32) (ex : Vec Ideal S8x2048 .f32) (cb : Vec Ideal S1x2048 .f32) (wa wx : Vec Ideal S16x128x128 .f32) (ba bx lam : Vec Ideal S1x2048 .f32)

/-- The layer's values at chunk `n` of a tile: row `s` is among the rows kept from before the tile up to `s = 2`. -/
def parT : Par where
  cw := fun k l => cw (ix2 k ⟨128 * n.val + l.val, by omega⟩)
  cb := fun l => cb (ix2 0 ⟨128 * n.val + l.val, by omega⟩)
  wa := fun k l => wa (ix3 n k l)
  ba := fun l => ba (ix2 0 ⟨128 * n.val + l.val, by omega⟩)
  wx := fun k l => wx (ix3 n k l)
  bx := fun l => bx (ix2 0 ⟨128 * n.val + l.val, by omega⟩)
  lam := fun l => lam (ix2 0 ⟨128 * n.val + l.val, by omega⟩)
  x := fun s l => if h : s < 3 then ex (ix2 ⟨s + 5, by omega⟩ ⟨128 * n.val + l.val, by omega⟩)
    else if h : s - 3 < 16 then u (ix2 ⟨s - 3, h⟩ ⟨128 * n.val + l.val, by omega⟩) else 0

set_option maxHeartbeats 1000000 in
theorem xrow (u : Vec Ideal S16x128 .f32) (prev : Vec Ideal S8x128 .f32) (t : Fin 16) (l : Fin 128) (k : ℕ) (hk0 : 0 < k) (hk : k < 4) :
    Scalar.select (IntOp.cmpi .sge (BitVec.ofNat 32 (t.val % 8)) (BitVec.ofNat 32 k))
        (u (ix2 ⟨t.val / 8 * 8 + (t.val % 8 + 8 - k) % 8, by omega⟩ l))
        (if h : t.val / 8 < 1 then prev (ix2 ⟨(t.val % 8 + 8 - k) % 8, by omega⟩ l)
          else u (ix2 ⟨(t.val / 8 - 1) * 8 + (t.val % 8 + 8 - k) % 8, by omega⟩ l))
      = if h : t.val + 3 - k < 3 then prev (ix2 ⟨t.val + 3 - k + 5, by omega⟩ l) else if h : t.val + 3 - k - 3 < 16 then u (ix2 ⟨t.val + 3 - k - 3, h⟩ l) else 0 := by
  rw [sel_sge _ _ (by omega) (by omega)]
  by_cases h1 : k ≤ t.val % 8
  · rw [if_pos h1, dif_neg (by omega), dif_pos (by omega)]
    exact congrArg (fun s => u (ix2 s l)) (Fin.ext (by show t.val / 8 * 8 + (t.val % 8 + 8 - k) % 8 = t.val + 3 - k - 3; omega))
  · rw [if_neg h1]
    by_cases h2 : t.val / 8 < 1
    · rw [dif_pos h2, dif_pos (by omega)]
      exact congrArg (fun s => prev (ix2 s l)) (Fin.ext (by show (t.val % 8 + 8 - k) % 8 = t.val + 3 - k + 5; omega))
    · rw [dif_neg h2, dif_neg (by omega), dif_pos (by omega)]
      exact congrArg (fun s => u (ix2 s l)) (Fin.ext (by show (t.val / 8 - 1) * 8 + (t.val % 8 + 8 - k) % 8 = t.val + 3 - k - 3; omega))

set_option maxHeartbeats 1000000 in
theorem cConv_apply (cw : Vec Ideal S4x128 .f32) (u : Vec Ideal S16x128 .f32) (prev : Vec Ideal S8x128 .f32) (cb : Vec Ideal S1x128 .f32) (t : Fin 16) (l : Fin 128)
    (x : ℕ → EReal) (hx : ∀ s, x s = if h : s < 3 then prev (ix2 ⟨s + 5, by omega⟩ l) else if h : s - 3 < 16 then u (ix2 ⟨s - 3, h⟩ l) else 0) :
    cConv cw u prev cb (ix2 t l) = half * (cb (ix2 0 l) + (x t.val * cw (ix2 0 l) + x (t.val + 1) * cw (ix2 1 l) + x (t.val + 2) * cw (ix2 2 l) + x (t.val + 3) * cw (ix2 3 l))) := by
  have e3 : u (ix2 t l) = x (t.val + 3) := by
    rw [hx, dif_neg (by omega), dif_pos (by omega)]
    exact congrArg (fun s => u (ix2 s l)) (Fin.ext (by show t.val = t.val + 3 - 3; omega))
  have e0 := (xrow u prev t l 3 (by decide) (by decide)).trans (hx (t.val + 3 - 3)).symm
  have e1 := (xrow u prev t l 2 (by decide) (by decide)).trans (hx (t.val + 3 - 2)).symm
  have e2 := (xrow u prev t l 1 (by decide) (by decide)).trans (hx (t.val + 3 - 1)).symm
  rw [show t.val + 3 - 3 = t.val by omega] at e0
  rw [show t.val + 3 - 2 = t.val + 1 by omega] at e1
  rw [show t.val + 3 - 1 = t.val + 2 by omega] at e2
  have hh : Ideal.ofBits .f32 0x3F000000#32 = half := Cert.Sigmoid.half_eq
  rw [← conv_half, ← hh, ← e3, ← e0, ← e1, ← e2]
  pointwise [cConv]

/-- A gate's hyperbolic tangent, of a halved convolution. -/
theorem cTanh_apply (xh : FVec Ideal S16x128 .f32) (w : Vec Ideal S1x128x128 .f32) (b : Vec Ideal S1x128 .f32) (t : Fin 16) (l : Fin 128)
    (f : Fin 128 → EReal) (hf : ∀ k, xh (ix2 t k) = half * f k) :
    cTanh xh w b (ix2 t l) = Ideal.tanh (half * (∑ k, w (ix3 0 k l) * f k + b (ix2 0 l))) := by
  have e : cTanh xh w b (ix2 t l) = Ideal.tanh (∑ k, xh (ix2 t k) * w (ix3 0 k l) + Ideal.ofBits .f32 1056964608#32 * b (ix2 0 l)) := by
    pointwise [cTanh]
  have hh : Ideal.ofBits .f32 1056964608#32 = half := Cert.Sigmoid.half_eq
  rw [e, ← gate_half, hh]
  congr 2
  exact Finset.sum_congr rfl fun k _ => by rw [hf]

theorem cLog_apply (tr : FVec Ideal S16x128 .f32) (lam : Vec Ideal S1x128 .f32) (t : Fin 16) (l : Fin 128) (z : EReal)
    (hz : tr (ix2 t l) = Ideal.tanh (half * z)) : cLog tr lam (ix2 t l) = gLog z (lam (ix2 0 l)) := by
  have e : cLog tr lam (ix2 t l) = (1 + tr (ix2 t l)) * (Ideal.ofBits .f32 3229614080#32
      * (max (0 - lam (ix2 0 l)) 0 + Ideal.log1p (Ideal.exp (0 - FloatOps.absf (F := Ideal) (φ := .f32) (0 - lam (ix2 0 l)))))) := by
    pointwise [cLog]
  rw [e, hz, neg4_eq, zero_sub, zero_sub]
  exact log_form z (sp (-lam (ix2 0 l)))

theorem cB_apply (la ti xh : FVec Ideal S16x128 .f32) (t : Fin 16) (l : Fin 128) (z zi x lam : EReal)
    (hl : la (ix2 t l) = gLog z lam) (hz : ti (ix2 t l) = Ideal.tanh (half * zi)) (hx : xh (ix2 t l) = half * x) :
    cB la ti xh (ix2 t l) = gB z zi x lam := by
  have e : ∀ v, v = Ideal.tanh (la (ix2 t l)) * (Ideal.ofBits .f32 3212836864#32 - Ideal.exp (la (ix2 t l)) * Ideal.exp (la (ix2 t l))) →
      cB la ti xh (ix2 t l) = (if 0 < v then v * Ideal.rsqrt v else 0) * ((1 + ti (ix2 t l)) * xh (ix2 t l)) := by
    rintro v rfl
    pointwise [cB]
  rw [e _ rfl, hz, hx, input_form, root_form _ (hl ▸ gLog_nonpos z lam) _ (by rw [neg1_eq]), hl]
  rfl

/-- The convolved rows and the gates' arguments of chunk `n`. -/
theorem conv_chunk (t : Fin 16) (l : Fin 128) :
    cConv (winC n cw) (winU n u) (winE n ex) (winV n cb) (ix2 t l) = half * (parT n cw u ex cb wa wx ba bx lam).xc t.val l := by
  rw [cConv_apply _ _ _ _ t l (fun s => (parT n cw u ex cb wa wx ba bx lam).x s l) (fun s => ?_)]
  · rw [winV_apply, winC_apply, winC_apply, winC_apply, winC_apply]; rfl
  · by_cases h : s < 3
    · rw [dif_pos h, winE_apply]; exact dif_pos h
    · rw [dif_neg h]
      refine (dif_neg h).trans ?_
      by_cases h' : s - 3 < 16
      · rw [dif_pos h', dif_pos h', winU_apply]
      · rw [dif_neg h', dif_neg h']

theorem headA_apply (t : Fin 16) (l : Fin 128) :
    (headOf n cw u ex cb wa wx ba bx lam).1 (ix2 t l) = (parT n cw u ex cb wa wx ba bx lam).a l t.val := by
  show Ideal.exp (cLog (cTanh (cConv (winC n cw) (winU n u) (winE n ex) (winV n cb)) (winW n wa) (winV n ba)) (winV n lam) (ix2 t l)) = _
  rw [cLog_apply _ _ t l ((parT n cw u ex cb wa wx ba bx lam).za t.val l) ?_, winV_apply]
  · rfl
  · rw [cTanh_apply _ _ _ t l _ (fun k => conv_chunk n cw u ex cb wa wx ba bx lam t k), winV_apply]
    simp only [winW_apply]; rfl

theorem headB_apply (t : Fin 16) (l : Fin 128) :
    (headOf n cw u ex cb wa wx ba bx lam).2 (ix2 t l) = (parT n cw u ex cb wa wx ba bx lam).b l t.val := by
  show cB (cLog (cTanh (cConv (winC n cw) (winU n u) (winE n ex) (winV n cb)) (winW n wa) (winV n ba)) (winV n lam))
    (cTanh (cConv (winC n cw) (winU n u) (winE n ex) (winV n cb)) (winW n wx) (winV n bx)) (cConv (winC n cw) (winU n u) (winE n ex) (winV n cb)) (ix2 t l) = _
  rw [cB_apply _ _ _ t l ((parT n cw u ex cb wa wx ba bx lam).za t.val l) ((parT n cw u ex cb wa wx ba bx lam).zx t.val l) ((parT n cw u ex cb wa wx ba bx lam).xc t.val l) ((parT n cw u ex cb wa wx ba bx lam).lam l)
    ?_ ?_ (conv_chunk n cw u ex cb wa wx ba bx lam t l)]
  · rfl
  · rw [cLog_apply _ _ t l ((parT n cw u ex cb wa wx ba bx lam).za t.val l) ?_, winV_apply]
    · rfl
    · rw [cTanh_apply _ _ _ t l _ (fun k => conv_chunk n cw u ex cb wa wx ba bx lam t k), winV_apply]
      simp only [winW_apply]; rfl
  · rw [cTanh_apply _ _ _ t l _ (fun k => conv_chunk n cw u ex cb wa wx ba bx lam t k), winV_apply]
    simp only [winW_apply]; rfl

/-! ## The rows of a tile -/

/-- The chunk of a channel and its place in it. -/
def chN (j : Fin 2048) : Fin 16 := ⟨j.val / 128, by omega⟩
def chL (j : Fin 2048) : Fin 128 := ⟨j.val % 128, Nat.mod_lt _ (by decide)⟩

/-- Within a group of rows the scans are steps of the recurrence. -/
theorem full_step (g : Fin 2) (s : Fin 8) (j : Fin 2048) (h : EReal) :
    fullA cw u ex cb wa wx ba bx lam (ix3 g s j) * h + fullB cw u ex cb wa wx ba bx lam (ix3 g s j)
      = R ((parT (chN j) cw u ex cb wa wx ba bx lam).a (chL j)) ((parT (chN j) cw u ex cb wa wx ba bx lam).b (chL j)) (8 * g.val) (s.val + 1) h := by
  have e : at3 g s (chL j) = ix3 g s (chL j) := idx_ext3 rfl rfl rfl
  have eA : fullA cw u ex cb wa wx ba bx lam (ix3 g s j) = rowN (cScanA (headOf (chN j) cw u ex cb wa wx ba bx lam).1 (headOf (chN j) cw u ex cb wa wx ba bx lam).2) g (chL j) s.val := by
    rw [← rowN_eq, ← e]; rfl
  have eB : fullB cw u ex cb wa wx ba bx lam (ix3 g s j) = rowN (cScanB (headOf (chN j) cw u ex cb wa wx ba bx lam).1 (headOf (chN j) cw u ex cb wa wx ba bx lam).2) g (chL j) s.val := by
    rw [← rowN_eq, ← e]; rfl
  rw [eA, eB]
  exact inv_end (scan_inv _ _ _ _ g (chL j) (fun t => headA_apply (chN j) cw u ex cb wa wx ba bx lam t (chL j)) (fun t => headB_apply (chN j) cw u ex cb wa wx ba bx lam t (chL j))
    (fun t => gA_fin _ _)) s.isLt h

theorem rowsOf_apply (A B : Vec Ideal S2x8x2048 .f32) (g : Fin 2) (h : FVec Ideal S1x2048 .f32) (s : Fin 8) (j : Fin 2048) :
    rowsOf A B g h (ix2 s j) = A (ix3 g s j) * h (ix2 0 j) + B (ix3 g s j) := by
  have e : ∀ a b : Vec Ideal S1x8x2048 .f32, gRow a b h (ix2 s j) = a (ix3 0 s j) * h (ix2 0 j) + b (ix3 0 s j) := by
    intro a b; pointwise [gRow]
  unfold rowsOf
  rw [e, winG_apply, winG_apply]

theorem gLast_apply (x : FVec Ideal S8x2048 .f32) (t : Fin 1) (l : Fin 2048) : gLast x (ix2 t l) = x (ix2 7 l) := by
  pointwise [gLast]

/-- The last row before group `g`: the recurrence's first `8 g` steps. -/
theorem lastRow_apply (h0 : FVec Ideal S1x2048 .f32) (j : Fin 2048) : ∀ g : ℕ, g ≤ 2 →
    lastRow (fullA cw u ex cb wa wx ba bx lam) (fullB cw u ex cb wa wx ba bx lam) h0 g (ix2 0 j)
      = R ((parT (chN j) cw u ex cb wa wx ba bx lam).a (chL j)) ((parT (chN j) cw u ex cb wa wx ba bx lam).b (chL j)) 0 (8 * g) (h0 (ix2 0 j))
  | 0, _ => rfl
  | g + 1, hg => by
    have hm : g % 2 = g := Nat.mod_eq_of_lt (by omega)
    show gLast (rowsOf _ _ ⟨g % 2, _⟩ (lastRow _ _ h0 g)) (ix2 0 j) = _
    rw [gLast_apply, rowsOf_apply, full_step, lastRow_apply h0 j g (by omega)]
    show R _ _ (8 * (g % 2)) (7 + 1) _ = _
    rw [hm, show 8 * (g + 1) = 8 * g + (7 + 1) by omega, R_add _ _ 0 (8 * g), Nat.zero_add]

/-- Every row of the tile. -/
theorem fullH_apply (h0 : FVec Ideal S1x2048 .f32) (g : Fin 2) (s : Fin 8) (j : Fin 2048) :
    fullH (fullA cw u ex cb wa wx ba bx lam) (fullB cw u ex cb wa wx ba bx lam) h0 (ix3 g s j)
      = R ((parT (chN j) cw u ex cb wa wx ba bx lam).a (chL j)) ((parT (chN j) cw u ex cb wa wx ba bx lam).b (chL j)) 0 (8 * g.val + s.val + 1) (h0 (ix2 0 j)) := by
  have e : ∀ x : FVec Ideal S8x2048 .f32, shapeCast S1x8x2048 x shapeCasts_S8x2048_S1x8x2048 (at3 0 s j) = x (ix2 s j) := by
    intro x
    rw [show at3 (0 : Fin 1) s j = ix3 0 s j from idx_ext3 rfl rfl rfl]
    pointwise []
  show shapeCast S1x8x2048 (rowsOf _ _ g (lastRow _ _ h0 g.val)) shapeCasts_S8x2048_S1x8x2048 (at3 0 s j) = _
  rw [e, rowsOf_apply, full_step, lastRow_apply cw u ex cb wa wx ba bx lam h0 j g.val (by omega), Nat.add_assoc, R_add _ _ 0 (8 * g.val), Nat.zero_add]

end Cert.Kernel7Ideal.Hand
-- ==== Proof.RglruSample.Spec.lean ====
/- What the recurrence computes on the sample rows, over the extended reals: the results as functions of the arrays. -/
module

public import proofs.«01_k».proof.Proof.Recur

@[expose] public section

noncomputable section

namespace Cert.RecurSample

open Idealize.ShloMosaic Cert.Recur

/-- The arrays: the projected rows, the rows before them, the state before them, and the layer's weights. -/
structure Args where
  z : (⟨2, ![128, 10240]⟩ : Shape).Idx → EReal
  cs : (⟨4, ![1, 8, 3, 2048]⟩ : Shape).Idx → EReal
  h0 : (⟨3, ![1, 8, 2048]⟩ : Shape).Idx → EReal
  cw : (⟨3, ![1, 4, 2048]⟩ : Shape).Idx → EReal
  cb : (⟨2, ![1, 2048]⟩ : Shape).Idx → EReal
  wa : (⟨4, ![1, 16, 128, 128]⟩ : Shape).Idx → EReal
  ba : (⟨2, ![1, 2048]⟩ : Shape).Idx → EReal
  wx : (⟨4, ![1, 16, 128, 128]⟩ : Shape).Idx → EReal
  bx : (⟨2, ![1, 2048]⟩ : Shape).Idx → EReal
  lam : (⟨2, ![1, 2048]⟩ : Shape).Idx → EReal

/-- Batch `b`'s values at block `n` of channels. -/
def Args.par (p : Args) (b : Fin 8) (n : Fin 16) : Par where
  cw := fun k l => p.cw (ix3 0 k (chJ n l))
  cb := fun l => p.cb (ix2 0 (chJ n l))
  wa := fun k l => p.wa (ix4 0 n k l)
  ba := fun l => p.ba (ix2 0 (chJ n l))
  wx := fun k l => p.wx (ix4 0 n k l)
  bx := fun l => p.bx (ix2 0 (chJ n l))
  lam := fun l => p.lam (ix2 0 (chJ n l))
  x := fun s l => if h : s < 3 then p.cs (ix4 0 b ⟨s, h⟩ (chJ n l))
    else if h : s - 3 < 16 then p.z (ix2 ⟨16 * b.val + (s - 3), by omega⟩ ⟨4096 + (chJ n l).val, by omega⟩) else 0

/-- The state of batch `b` at channel `j` after `k` rows. -/
def Args.state (p : Args) (b : Fin 8) (j : Fin 2048) (k : ℕ) : EReal :=
  R ((p.par b (chN j)).a (chL j)) ((p.par b (chN j)).b (chL j)) 0 k (p.h0 (ix3 0 b j))

/-- The gated rows, -/
def Args.y (p : Args) : (⟨2, ![128, 2048]⟩ : Shape).Idx → EReal := fun i =>
  p.state ⟨(i 0).val / 16, by have := (i 0).isLt; change (i 0).val < 128 at this; omega⟩ (i 1) ((i 0).val % 16 + 1)
    * gel (p.z (ix2 (i 0) ⟨6144 + (i 1).val, by have := (i 1).isLt; change (i 1).val < 2048 at this; omega⟩))
/-- the last state, -/
def Args.last (p : Args) : (⟨3, ![8, 1, 2048]⟩ : Shape).Idx → EReal := fun i => p.state (i 0) (i 2) 16
/-- and the last eight inputs. -/
def Args.conv (p : Args) : (⟨3, ![8, 8, 2048]⟩ : Shape).Idx → EReal := fun i =>
  p.z (ix2 ⟨16 * (i 0).val + 8 + (i 1).val, by
      have h0 := (i 0).isLt; have h1 := (i 1).isLt; change (i 0).val < 8 at h0; change (i 1).val < 8 at h1; omega⟩
    ⟨4096 + (i 2).val, by have := (i 2).isLt; change (i 2).val < 2048 at this; omega⟩)

end Cert.RecurSample

end
-- ==== Proof.RglruSample.Value.lean ====
/- The values of the recurrence kernel on the sample rows, over the extended reals: each block the kernel writes back is the block of the
   recurrence's result, so the three arrays end as the recurrence's three results. -/
module

public import proofs.«01_k».proof.Proof.RglruSample.Run
public import proofs.«01_k».proof.Proof.RglruSample.Tile
public import proofs.«01_k».proof.Proof.RglruSample.Spec
public import Idealize.ShloMosaic.Lib.Pointwise

@[expose] public section

set_option maxRecDepth 16384

noncomputable section

namespace Cert.Kernel7Ideal.Hand

open Idealize.ShloMosaic Idealize.ShloMosaic.TcCoe Idealize.ShloMosaic.Tactic
open Idealize.SL.Sem
open Idealize.ShloMosaic.Pipeline (Dat Cfg Window)
open Cert.Kernel7Ideal.Gen Cert.Recur
open Cert.RecurSample (Args)

variable (m : (ℓ : Loc nD τ sig) → Buf (Elt Ideal) ℓ) (ρ : Dev nD → PrngReg) (c : Dev nD) (t : Fin cfg0.N)

/-- The arguments of a device. -/
def args (c : Dev nD) : Args where
  z := m ((c.tc : Thread nD τ).loc main_arg0)
  cs := m ((c.tc : Thread nD τ).loc main_arg1)
  h0 := m ((c.tc : Thread nD τ).loc main_arg2)
  cw := m ((c.tc : Thread nD τ).loc main_arg3)
  cb := m ((c.tc : Thread nD τ).loc main_arg4)
  wa := m ((c.tc : Thread nD τ).loc main_arg5)
  ba := m ((c.tc : Thread nD τ).loc main_arg6)
  wx := m ((c.tc : Thread nD τ).loc main_arg7)
  bx := m ((c.tc : Thread nD τ).loc main_arg8)
  lam := m ((c.tc : Thread nD τ).loc main_arg9)

/-- The batch of a grid point. -/
def bat (t : Fin cfg0.N) : Fin 8 := ⟨t.val, lt_of_lt_of_eq t.isLt N_0⟩

/-! ## The blocks of the arguments at a point -/

theorem idx0 : ∀ t : Fin cfg0.N, win0_0.index t 0 = t.val ∧ win0_0.index t 1 = 2 :=
  (by decide +kernel : ∀ t : Fin grid0.N, _)

theorem iblk0_apply (s : Fin 16) (j : Fin 2048) :
    iblk m c 0 t (ix2 s j) = (args m c).z (ix2 ⟨16 * (bat t).val + s.val, by omega⟩ ⟨4096 + j.val, by omega⟩) := by
  show V m c main_arg0 (((cfg0.win 0).blk t).view.emb (ix2 s j)) = _
  rw [V_main_arg0, show ((cfg0.win 0).blk t).view.emb (ix2 s j) = (ix2 ⟨16 * (bat t).val + s.val, by omega⟩ ⟨4096 + j.val, by omega⟩ : S128x10240.Idx) from Shape.idx_ext₂
    (by show win0_0.index t 0 * 16 + 1 * s.val = 16 * t.val + s.val; rw [(idx0 t).1]; omega)
    (by show win0_0.index t 1 * 2048 + 1 * j.val = 4096 + j.val; rw [(idx0 t).2]; omega)]
  rfl

theorem idx1 : ∀ t : Fin cfg0.N, win0_1.index t 0 = t.val ∧ win0_1.index t 1 = 3 :=
  (by decide +kernel : ∀ t : Fin grid0.N, _)

theorem iblk1_apply (s : Fin 16) (j : Fin 2048) :
    iblk m c 1 t (ix2 s j) = (args m c).z (ix2 ⟨16 * (bat t).val + s.val, by omega⟩ ⟨6144 + j.val, by omega⟩) := by
  show V m c main_arg0 (((cfg0.win 1).blk t).view.emb (ix2 s j)) = _
  rw [V_main_arg0, show ((cfg0.win 1).blk t).view.emb (ix2 s j) = (ix2 ⟨16 * (bat t).val + s.val, by omega⟩ ⟨6144 + j.val, by omega⟩ : S128x10240.Idx) from Shape.idx_ext₂
    (by show win0_1.index t 0 * 16 + 1 * s.val = 16 * t.val + s.val; rw [(idx1 t).1]; omega)
    (by show win0_1.index t 1 * 2048 + 1 * j.val = 6144 + j.val; rw [(idx1 t).2]; omega)]
  rfl

theorem idx2 : ∀ t : Fin cfg0.N, win0_2.index t 0 = 0 ∧ win0_2.index t 1 = 0 :=
  (by decide +kernel : ∀ t : Fin grid0.N, _)

theorem V_main_v0 (c : Dev nD) : V m c main_v0 = shapeCast S4x2048 (m ((c.tc : Thread nD τ).loc main_arg3)) shapeCasts_S1x4x2048_S4x2048 := by
  unfold V
  simp only [List.flatten_cons, List.flatten_nil, List.append_nil, StableHlo.after_append]
  after_results
  rfl

theorem cast_cw (x : Vec Ideal S1x4x2048 .f32) (k : Fin 4) (j : Fin 2048) :
    (shapeCast S4x2048 x shapeCasts_S1x4x2048_S4x2048 : Vec Ideal S4x2048 .f32) (ix2 k j) = x (ix3 0 k j) := by
  pointwise
theorem cast_row (x : Vec Ideal S1x2048 .f32) (j : Fin 2048) :
    (broadcastInDim S1x2048 ![1] bcast_S2048_S1x2048_1 (shapeCast S2048 x shapeCasts_S1x2048_S2048) : Vec Ideal S1x2048 .f32) (ix2 0 j) = x (ix2 0 j) := by
  pointwise
theorem cast_w (x : Vec Ideal S1x16x128x128 .f32) (n : Fin 16) (k l : Fin 128) :
    (shapeCast S16x128x128 x shapeCasts_S1x16x128x128_S16x128x128 : Vec Ideal S16x128x128 .f32) (ix3 n k l) = x (ix4 0 n k l) := by
  pointwise

theorem iblk2_apply (k : Fin 4) (j : Fin 2048) : iblk m c 2 t (ix2 k j) = (args m c).cw (ix3 0 k j) := by
  show V m c main_v0 (((cfg0.win 2).blk t).view.emb (ix2 k j)) = _
  rw [V_main_v0, show ((cfg0.win 2).blk t).view.emb (ix2 k j) = (ix2 k j : S4x2048.Idx) from Shape.idx_ext₂
    (by show win0_2.index t 0 * 4 + 1 * k.val = k.val; rw [(idx2 t).1]; omega)
    (by show win0_2.index t 1 * 2048 + 1 * j.val = j.val; rw [(idx2 t).2]; omega)]
  exact cast_cw _ k j

theorem idx3 : ∀ t : Fin cfg0.N, win0_3.index t 0 = 0 ∧ win0_3.index t 1 = 0 :=
  (by decide +kernel : ∀ t : Fin grid0.N, _)

theorem V_main_v2 (c : Dev nD) : V m c main_v2 = broadcastInDim S1x2048 ![1] bcast_S2048_S1x2048_1 (shapeCast S2048 (m ((c.tc : Thread nD τ).loc main_arg4)) shapeCasts_S1x2048_S2048) := by
  unfold V
  simp only [List.flatten_cons, List.flatten_nil, List.append_nil, StableHlo.after_append]
  after_results
  rfl

theorem iblk3_apply (j : Fin 2048) : iblk m c 3 t (ix2 0 j) = (args m c).cb (ix2 0 j) := by
  show V m c main_v2 (((cfg0.win 3).blk t).view.emb (ix2 0 j)) = _
  rw [V_main_v2, show ((cfg0.win 3).blk t).view.emb (ix2 0 j) = (ix2 0 j : S1x2048.Idx) from Shape.idx_ext₂
    (by show win0_3.index t 0 * 1 + 1 * 0 = 0; rw [(idx3 t).1])
    (by show win0_3.index t 1 * 2048 + 1 * j.val = j.val; rw [(idx3 t).2]; omega)]
  exact cast_row _ j

theorem idx5 : ∀ t : Fin cfg0.N, win0_5.index t 0 = 0 ∧ win0_5.index t 1 = 0 :=
  (by decide +kernel : ∀ t : Fin grid0.N, _)

theorem V_main_v5 (c : Dev nD) : V m c main_v5 = broadcastInDim S1x2048 ![1] bcast_S2048_S1x2048_1 (shapeCast S2048 (m ((c.tc : Thread nD τ).loc main_arg6)) shapeCasts_S1x2048_S2048) := by
  unfold V
  simp only [List.flatten_cons, List.flatten_nil, List.append_nil, StableHlo.after_append]
  after_results
  rfl

theorem iblk5_apply (j : Fin 2048) : iblk m c 5 t (ix2 0 j) = (args m c).ba (ix2 0 j) := by
  show V m c main_v5 (((cfg0.win 5).blk t).view.emb (ix2 0 j)) = _
  rw [V_main_v5, show ((cfg0.win 5).blk t).view.emb (ix2 0 j) = (ix2 0 j : S1x2048.Idx) from Shape.idx_ext₂
    (by show win0_5.index t 0 * 1 + 1 * 0 = 0; rw [(idx5 t).1])
    (by show win0_5.index t 1 * 2048 + 1 * j.val = j.val; rw [(idx5 t).2]; omega)]
  exact cast_row _ j

theorem idx7 : ∀ t : Fin cfg0.N, win0_7.index t 0 = 0 ∧ win0_7.index t 1 = 0 :=
  (by decide +kernel : ∀ t : Fin grid0.N, _)

theorem V_main_v8 (c : Dev nD) : V m c main_v8 = broadcastInDim S1x2048 ![1] bcast_S2048_S1x2048_1 (shapeCast S2048 (m ((c.tc : Thread nD τ).loc main_arg8)) shapeCasts_S1x2048_S2048) := by
  unfold V
  simp only [List.flatten_cons, List.flatten_nil, List.append_nil, StableHlo.after_append]
  after_results
  rfl

theorem iblk7_apply (j : Fin 2048) : iblk m c 7 t (ix2 0 j) = (args m c).bx (ix2 0 j) := by
  show V m c main_v8 (((cfg0.win 7).blk t).view.emb (ix2 0 j)) = _
  rw [V_main_v8, show ((cfg0.win 7).blk t).view.emb (ix2 0 j) = (ix2 0 j : S1x2048.Idx) from Shape.idx_ext₂
    (by show win0_7.index t 0 * 1 + 1 * 0 = 0; rw [(idx7 t).1])
    (by show win0_7.index t 1 * 2048 + 1 * j.val = j.val; rw [(idx7 t).2]; omega)]
  exact cast_row _ j

theorem idx8 : ∀ t : Fin cfg0.N, win0_8.index t 0 = 0 ∧ win0_8.index t 1 = 0 :=
  (by decide +kernel : ∀ t : Fin grid0.N, _)

theorem V_main_v10 (c : Dev nD) : V m c main_v10 = broadcastInDim S1x2048 ![1] bcast_S2048_S1x2048_1 (shapeCast S2048 (m ((c.tc : Thread nD τ).loc main_arg9)) shapeCasts_S1x2048_S2048) := by
  unfold V
  simp only [List.flatten_cons, List.flatten_nil, List.append_nil, StableHlo.after_append]
  after_results
  rfl

theorem iblk8_apply (j : Fin 2048) : iblk m c 8 t (ix2 0 j) = (args m c).lam (ix2 0 j) := by
  show V m c main_v10 (((cfg0.win 8).blk t).view.emb (ix2 0 j)) = _
  rw [V_main_v10, show ((cfg0.win 8).blk t).view.emb (ix2 0 j) = (ix2 0 j : S1x2048.Idx) from Shape.idx_ext₂
    (by show win0_8.index t 0 * 1 + 1 * 0 = 0; rw [(idx8 t).1])
    (by show win0_8.index t 1 * 2048 + 1 * j.val = j.val; rw [(idx8 t).2]; omega)]
  exact cast_row _ j

theorem idx4 : ∀ t : Fin cfg0.N, win0_4.index t 0 = 0 ∧ win0_4.index t 1 = 0 ∧ win0_4.index t 2 = 0 :=
  (by decide +kernel : ∀ t : Fin grid0.N, _)

theorem V_main_v3 (c : Dev nD) : V m c main_v3 = shapeCast S16x128x128 (m ((c.tc : Thread nD τ).loc main_arg5)) shapeCasts_S1x16x128x128_S16x128x128 := by
  unfold V
  simp only [List.flatten_cons, List.flatten_nil, List.append_nil, StableHlo.after_append]
  after_results
  rfl

theorem iblk4_apply (n : Fin 16) (k l : Fin 128) : iblk m c 4 t (ix3 n k l) = (args m c).wa (ix4 0 n k l) := by
  show V m c main_v3 (((cfg0.win 4).blk t).view.emb (ix3 n k l)) = _
  rw [V_main_v3, show ((cfg0.win 4).blk t).view.emb (ix3 n k l) = (ix3 n k l : S16x128x128.Idx) from idx_ext3
    (by show win0_4.index t 0 * 16 + 1 * n.val = n.val; rw [(idx4 t).1]; omega)
    (by show win0_4.index t 1 * 128 + 1 * k.val = k.val; rw [(idx4 t).2.1]; omega)
    (by show win0_4.index t 2 * 128 + 1 * l.val = l.val; rw [(idx4 t).2.2]; omega)]
  exact cast_w _ n k l

theorem idx6 : ∀ t : Fin cfg0.N, win0_6.index t 0 = 0 ∧ win0_6.index t 1 = 0 ∧ win0_6.index t 2 = 0 :=
  (by decide +kernel : ∀ t : Fin grid0.N, _)

theorem V_main_v6 (c : Dev nD) : V m c main_v6 = shapeCast S16x128x128 (m ((c.tc : Thread nD τ).loc main_arg7)) shapeCasts_S1x16x128x128_S16x128x128 := by
  unfold V
  simp only [List.flatten_cons, List.flatten_nil, List.append_nil, StableHlo.after_append]
  after_results
  rfl

theorem iblk6_apply (n : Fin 16) (k l : Fin 128) : iblk m c 6 t (ix3 n k l) = (args m c).wx (ix4 0 n k l) := by
  show V m c main_v6 (((cfg0.win 6).blk t).view.emb (ix3 n k l)) = _
  rw [V_main_v6, show ((cfg0.win 6).blk t).view.emb (ix3 n k l) = (ix3 n k l : S16x128x128.Idx) from idx_ext3
    (by show win0_6.index t 0 * 16 + 1 * n.val = n.val; rw [(idx6 t).1]; omega)
    (by show win0_6.index t 1 * 128 + 1 * k.val = k.val; rw [(idx6 t).2.1]; omega)
    (by show win0_6.index t 2 * 128 + 1 * l.val = l.val; rw [(idx6 t).2.2]; omega)]
  exact cast_w _ n k l

theorem idx9 : ∀ t : Fin cfg0.N, win0_9.index t 0 = t.val ∧ win0_9.index t 1 = 0 ∧ win0_9.index t 2 = 0 :=
  (by decide +kernel : ∀ t : Fin grid0.N, _)

/-- The rows kept from before, below five rows of zeros. -/
def padOf (x : FVec Ideal S1x8x3x2048 .f32) : FVec Ideal S8x8x2048 .f32 :=
  pad S8x8x2048 ![0, 5, 0] ![0, 0, 0] ![0, 0, 0] (shapeCast S8x3x2048 x shapeCasts_S1x8x3x2048_S8x3x2048) (sitofp (F := Ideal) (s := S_) .f32 (constantI S_ 32 0#32)) pads_S8x3x2048_S8x8x2048_000_500_000

theorem padOf_apply (x : Vec Ideal S1x8x3x2048 .f32) (b : Fin 8) (s : Fin 3) (j : Fin 2048) : padOf x (ix3 b ⟨s.val + 5, by omega⟩ j) = x (ix4 0 b s j) := by
  have h : (⟨s.val + 5 - 5, by omega⟩ : Fin 3) = s := Fin.ext (by show s.val + 5 - 5 = s.val; omega)
  pointwise [padOf]
  rw [dif_pos (by omega), h]

theorem V_main_v12 (c : Dev nD) : V m c main_v12 = padOf (m ((c.tc : Thread nD τ).loc main_arg1)) := by
  unfold V
  simp only [List.flatten_cons, List.flatten_nil, List.append_nil, StableHlo.after_append]
  after_results
  rfl

theorem iblk9_apply (s : Fin 3) (j : Fin 2048) : iblk m c 9 t (ix3 0 ⟨s.val + 5, by omega⟩ j) = (args m c).cs (ix4 0 (bat t) s j) := by
  show V m c main_v12 (((cfg0.win 9).blk t).view.emb (ix3 0 ⟨s.val + 5, by omega⟩ j)) = _
  rw [V_main_v12, show ((cfg0.win 9).blk t).view.emb (ix3 0 ⟨s.val + 5, by omega⟩ j) = (ix3 (bat t) ⟨s.val + 5, by omega⟩ j : S8x8x2048.Idx) from idx_ext3
    (by show win0_9.index t 0 * 1 + 1 * 0 = t.val; rw [(idx9 t).1]; omega)
    (by show win0_9.index t 1 * 8 + 1 * (s.val + 5) = s.val + 5; rw [(idx9 t).2.1]; omega)
    (by show win0_9.index t 2 * 2048 + 1 * j.val = j.val; rw [(idx9 t).2.2]; omega)]
  exact padOf_apply _ _ s j

theorem idx10 : ∀ t : Fin cfg0.N, win0_10.index t 0 = t.val ∧ win0_10.index t 1 = 0 ∧ win0_10.index t 2 = 0 :=
  (by decide +kernel : ∀ t : Fin grid0.N, _)

theorem V_main_v14 (c : Dev nD) : V m c main_v14 = broadcastInDim S8x1x2048 ![0, 2] bcast_S8x2048_S8x1x2048_0_2 (shapeCast S8x2048 (m ((c.tc : Thread nD τ).loc main_arg2)) shapeCasts_S1x8x2048_S8x2048) := by
  unfold V
  simp only [List.flatten_cons, List.flatten_nil, List.append_nil, StableHlo.after_append]
  after_results
  rfl

theorem cast_h0 (x : Vec Ideal S1x8x2048 .f32) (b : Fin 8) (j : Fin 2048) :
    (broadcastInDim S8x1x2048 ![0, 2] bcast_S8x2048_S8x1x2048_0_2 (shapeCast S8x2048 x shapeCasts_S1x8x2048_S8x2048) : Vec Ideal S8x1x2048 .f32) (ix3 b 0 j) = x (ix3 0 b j) := by
  pointwise

theorem iblk10_apply (j : Fin 2048) : iblk m c 10 t (ix3 0 0 j) = (args m c).h0 (ix3 0 (bat t) j) := by
  show V m c main_v14 (((cfg0.win 10).blk t).view.emb (ix3 0 0 j)) = _
  rw [V_main_v14, show ((cfg0.win 10).blk t).view.emb (ix3 0 0 j) = (ix3 (bat t) 0 j : S8x1x2048.Idx) from idx_ext3
    (by show win0_10.index t 0 * 1 + 1 * 0 = t.val; rw [(idx10 t).1]; omega)
    (by show win0_10.index t 1 * 1 + 1 * 0 = 0; rw [(idx10 t).2.1])
    (by show win0_10.index t 2 * 2048 + 1 * j.val = j.val; rw [(idx10 t).2.2]; omega)]
  exact cast_h0 _ _ j

/-! ## A point's values -/

theorem cast_ci (x : Vec Ideal S1x8x2048 .f32) (s : Fin 8) (j : Fin 2048) :
    (shapeCast S8x2048 x shapeCasts_S1x8x2048_S8x2048 : Vec Ideal S8x2048 .f32) (ix2 s j) = x (ix3 0 s j) := by
  pointwise

theorem cast_state (x : Vec Ideal S1x1x2048 .f32) (j : Fin 2048) :
    (shapeCast S1x2048 x shapeCasts_S1x1x2048_S1x2048 : Vec Ideal S1x2048 .f32) (ix2 0 j) = x (ix3 0 0 j) := by
  pointwise

theorem par_eq (n : Fin 16) :
    parT n (iblk m c 2 t) (iblk m c 0 t) (shapeCast S8x2048 (iblk m c 9 t) shapeCasts_S1x8x2048_S8x2048) (iblk m c 3 t) (iblk m c 4 t)
      (iblk m c 6 t) (iblk m c 5 t) (iblk m c 7 t) (iblk m c 8 t) = (args m c).par (bat t) n := by
  unfold parT Args.par
  congr 1
  · funext k l; exact iblk2_apply m c t k (chJ n l)
  · funext l; exact iblk3_apply m c t (chJ n l)
  · funext k l; exact iblk4_apply m c t n k l
  · funext l; exact iblk5_apply m c t (chJ n l)
  · funext k l; exact iblk6_apply m c t n k l
  · funext l; exact iblk7_apply m c t (chJ n l)
  · funext l; exact iblk8_apply m c t (chJ n l)
  · funext s l
    by_cases h : s < 3
    · rw [dif_pos h, dif_pos h]
      exact (cast_ci _ _ _).trans (iblk9_apply m c t ⟨s, h⟩ (chJ n l))
    · rw [dif_neg h, dif_neg h]
      by_cases h' : s - 3 < 16
      · rw [dif_pos h', dif_pos h']
        exact iblk0_apply m c t ⟨s - 3, h'⟩ (chJ n l)
      · rw [dif_neg h', dif_neg h']

theorem start_eq (j : Fin 2048) :
    (shapeCast S1x2048 (iblk m c 10 t) shapeCasts_S1x1x2048_S1x2048 : Vec Ideal S1x2048 .f32) (ix2 0 j) = (args m c).h0 (ix3 0 (bat t) j) :=
  (cast_state _ j).trans (iblk10_apply m c t j)

theorem yOut_apply (h : Vec Ideal S2x8x2048 .f32) (g : Vec Ideal S16x2048 .f32) (t : Fin 16) (l : Fin 2048) :
    yOut h g (ix2 t l) = h (ix3 ⟨t.val / 8, by omega⟩ ⟨t.val % 8, by omega⟩ l) * gel (g (ix2 t l)) := by
  unfold gel
  rw [show half = Ideal.ofBits .f32 1056964608#32 from Cert.Sigmoid.half_eq.symm]
  pointwise [yOut]

theorem o11_apply (s : Fin 16) (j : Fin 2048) : o11 m c t (ix2 s j)
    = (args m c).state (bat t) j (s.val + 1) * gel ((args m c).z (ix2 ⟨16 * (bat t).val + s.val, by omega⟩ ⟨6144 + j.val, by omega⟩)) := by
  unfold o11 tileY tileA tileB
  rw [yOut_apply, iblk1_apply, fullH_apply, par_eq, start_eq]
  unfold Args.state
  show R _ _ 0 (8 * (s.val / 8) + s.val % 8 + 1) _ * _ = _
  rw [Nat.div_add_mod]
  rfl

theorem cast_last (x : Vec Ideal S1x2048 .f32) (j : Fin 2048) :
    (shapeCast S1x1x2048 x shapeCasts_S1x2048_S1x1x2048 : Vec Ideal S1x1x2048 .f32) (ix3 0 0 j) = x (ix2 0 j) := by
  pointwise

theorem o12_apply (j : Fin 2048) : o12 m c t (ix3 0 0 j) = (args m c).state (bat t) j 16 := by
  unfold o12 tileL tileA tileB
  rw [cast_last, lastRow_apply _ _ _ _ _ _ _ _ _ _ j 2 (Nat.le_refl _), par_eq, start_eq]
  rfl

theorem cast_conv (x : Vec Ideal S8x2048 .f32) (s : Fin 8) (j : Fin 2048) :
    (shapeCast S1x8x2048 x shapeCasts_S8x2048_S1x8x2048 : Vec Ideal S1x8x2048 .f32) (ix3 0 s j) = x (ix2 s j) := by
  pointwise

theorem lastU_apply (u : Vec Ideal S16x2048 .f32) (s : Fin 8) (j : Fin 2048) : lastU u (ix2 s j) = u (ix2 ⟨8 + s.val, by omega⟩ j) := by
  unfold lastU VecWindow.window
  exact congrArg u (Shape.idx_ext₂ (by show 8 + 1 * s.val = 8 + s.val; omega) (by show 0 + 1 * j.val = j.val; omega))

theorem o13_apply (s : Fin 8) (j : Fin 2048) :
    o13 m c t (ix3 0 s j) = (args m c).z (ix2 ⟨16 * (bat t).val + 8 + s.val, by omega⟩ ⟨4096 + j.val, by omega⟩) := by
  unfold o13 tileC
  rw [cast_conv, lastU_apply, iblk0_apply]
  exact congrArg (args m c).z (Shape.idx_ext₂ (by show 16 * (bat t).val + (8 + s.val) = 16 * (bat t).val + 8 + s.val; omega) rfl)

/-! ## The results -/

theorem idx11 : ∀ t : Fin cfg0.N, win0_11.index t 0 = t.val ∧ win0_11.index t 1 = 0 :=
  (by decide +kernel : ∀ t : Fin grid0.N, _)

theorem idx12 : ∀ t : Fin cfg0.N, win0_12.index t 0 = t.val ∧ win0_12.index t 1 = 0 ∧ win0_12.index t 2 = 0 :=
  (by decide +kernel : ∀ t : Fin grid0.N, _)

theorem idx13 : ∀ t : Fin cfg0.N, win0_13.index t 0 = t.val ∧ win0_13.index t 1 = 0 ∧ win0_13.index t 2 = 0 :=
  (by decide +kernel : ∀ t : Fin grid0.N, _)

theorem flushed11 : (dats m 0 c).flushed 11 t = ((cfg0.win 11).blk t).view.read (Elt Ideal) (args m c).y := by
  show (cfg0.win 11).cut (grid0.coords t) ((dats m 0 c).after 11 t) = _
  rw [after11]
  funext y
  show o11 m c t (y : S16x2048.Idx) = (args m c).y (((cfg0.win 11).blk t).view.emb y)
  obtain ⟨s, j, rfl⟩ : ∃ (s : Fin 16) (j : Fin 2048), y = ix2 s j := ⟨y 0, y 1, Shape.idx_ext₂ rfl rfl⟩
  rw [o11_apply, show ((cfg0.win 11).blk t).view.emb (ix2 s j) = (ix2 ⟨16 * (bat t).val + s.val, by omega⟩ j : S128x2048.Idx) from Shape.idx_ext₂
    (by show win0_11.index t 0 * 16 + 1 * s.val = 16 * t.val + s.val; rw [(idx11 t).1]; omega)
    (by show win0_11.index t 1 * 2048 + 1 * j.val = j.val; rw [(idx11 t).2]; omega)]
  unfold Args.y
  have h1 : (⟨(16 * (bat t).val + s.val) / 16, by omega⟩ : Fin 8) = bat t := Fin.ext (by show (16 * (bat t).val + s.val) / 16 = (bat t).val; omega)
  have h2 : (16 * (bat t).val + s.val) % 16 = s.val := by omega
  show _ = (args m c).state ⟨(16 * (bat t).val + s.val) / 16, _⟩ j ((16 * (bat t).val + s.val) % 16 + 1) * _
  rw [h1, h2]
  rfl

theorem flushed12 : (dats m 0 c).flushed 12 t = ((cfg0.win 12).blk t).view.read (Elt Ideal) (args m c).last := by
  show (cfg0.win 12).cut (grid0.coords t) ((dats m 0 c).after 12 t) = _
  rw [after12]
  funext y
  show o12 m c t (y : S1x1x2048.Idx) = (args m c).last (((cfg0.win 12).blk t).view.emb y)
  obtain ⟨j, rfl⟩ : ∃ (j : Fin 2048), y = ix3 0 0 j := ⟨y 2, idx_ext3 (Nat.lt_one_iff.1 (y 0).isLt) (Nat.lt_one_iff.1 (y 1).isLt) rfl⟩
  rw [o12_apply, show ((cfg0.win 12).blk t).view.emb (ix3 0 0 j) = (ix3 (bat t) 0 j : S8x1x2048.Idx) from idx_ext3
    (by show win0_12.index t 0 * 1 + 1 * 0 = t.val; rw [(idx12 t).1]; omega)
    (by show win0_12.index t 1 * 1 + 1 * 0 = 0; rw [(idx12 t).2.1])
    (by show win0_12.index t 2 * 2048 + 1 * j.val = j.val; rw [(idx12 t).2.2]; omega)]
  rfl

theorem flushed13 : (dats m 0 c).flushed 13 t = ((cfg0.win 13).blk t).view.read (Elt Ideal) (args m c).conv := by
  show (cfg0.win 13).cut (grid0.coords t) ((dats m 0 c).after 13 t) = _
  rw [after13]
  funext y
  show o13 m c t (y : S1x8x2048.Idx) = (args m c).conv (((cfg0.win 13).blk t).view.emb y)
  obtain ⟨s, j, rfl⟩ : ∃ (s : Fin 8) (j : Fin 2048), y = ix3 0 s j := ⟨y 1, y 2, idx_ext3 (Nat.lt_one_iff.1 (y 0).isLt) rfl rfl⟩
  rw [o13_apply, show ((cfg0.win 13).blk t).view.emb (ix3 0 s j) = (ix3 (bat t) s j : S8x8x2048.Idx) from idx_ext3
    (by show win0_13.index t 0 * 1 + 1 * 0 = t.val; rw [(idx13 t).1]; omega)
    (by show win0_13.index t 1 * 8 + 1 * s.val = s.val; rw [(idx13 t).2.1]; omega)
    (by show win0_13.index t 2 * 2048 + 1 * j.val = j.val; rw [(idx13 t).2.2]; omega)]
  rfl

theorem mem_blk11 (t : Fin cfg0.N) (i : S128x2048.Idx) : i ∈ ((cfg0.win 11).blk t).view.set ↔
    ∀ a : Fin 2, win0_11.index t a * S16x2048.size a ≤ (i a).val ∧ (i a).val < win0_11.index t a * S16x2048.size a + S16x2048.size a := by
  show i ∈ ((View.whole main_v15_0).slice (win0_11.rect t)).set ↔ _
  rw [View.set_slice_whole, Rect.mem_set_unit]
  exact Iff.rfl

theorem mem_blk12 (t : Fin cfg0.N) (i : S8x1x2048.Idx) : i ∈ ((cfg0.win 12).blk t).view.set ↔
    ∀ a : Fin 3, win0_12.index t a * S1x1x2048.size a ≤ (i a).val ∧ (i a).val < win0_12.index t a * S1x1x2048.size a + S1x1x2048.size a := by
  show i ∈ ((View.whole main_v15_1).slice (win0_12.rect t)).set ↔ _
  rw [View.set_slice_whole, Rect.mem_set_unit]
  exact Iff.rfl

theorem mem_blk13 (t : Fin cfg0.N) (i : S8x8x2048.Idx) : i ∈ ((cfg0.win 13).blk t).view.set ↔
    ∀ a : Fin 3, win0_13.index t a * S1x8x2048.size a ≤ (i a).val ∧ (i a).val < win0_13.index t a * S1x8x2048.size a + S1x8x2048.size a := by
  show i ∈ ((View.whole main_v15_2).slice (win0_13.rect t)).set ↔ _
  rw [View.set_slice_whole, Rect.mem_set_unit]
  exact Iff.rfl

theorem final11 (c : Dev nD) : (dats m 0 c).arrAt 11 cfg0.N = (args m c).y :=
  (dats m 0 c).arrAt_eq_of_cover 11 _ (fun t _ => flushed11 m c t) (fun i => by
    have hi0 : ((i : S128x2048.Idx) 0).val < 128 := ((i : S128x2048.Idx) 0).isLt
    have hi1 : ((i : S128x2048.Idx) 1).val < 2048 := ((i : S128x2048.Idx) 1).isLt
    have hN : cfg0.N = 8 := N_0
    refine ⟨⟨((i : S128x2048.Idx) 0).val / 16, by omega⟩, flush0_11 _, (mem_blk11 _ i).mpr ?_⟩
    intro a
    match a with
    | ⟨0, _⟩ =>
      show win0_11.index _ 0 * 16 ≤ (i 0).val ∧ (i 0).val < win0_11.index _ 0 * 16 + 16
      rw [(idx11 _).1]; dsimp only; omega
    | ⟨1, _⟩ =>
      show win0_11.index _ 1 * 2048 ≤ (i 1).val ∧ (i 1).val < win0_11.index _ 1 * 2048 + 2048
      rw [(idx11 _).2]; dsimp only; omega)

theorem final12 (c : Dev nD) : (dats m 0 c).arrAt 12 cfg0.N = (args m c).last :=
  (dats m 0 c).arrAt_eq_of_cover 12 _ (fun t _ => flushed12 m c t) (fun i => by
    have hi0 : ((i : S8x1x2048.Idx) 0).val < 8 := ((i : S8x1x2048.Idx) 0).isLt
    have hi1 : ((i : S8x1x2048.Idx) 1).val < 1 := ((i : S8x1x2048.Idx) 1).isLt
    have hi2 : ((i : S8x1x2048.Idx) 2).val < 2048 := ((i : S8x1x2048.Idx) 2).isLt
    have hN : cfg0.N = 8 := N_0
    refine ⟨⟨((i : S8x1x2048.Idx) 0).val, by omega⟩, flush0_12 _, (mem_blk12 _ i).mpr ?_⟩
    intro a
    match a with
    | ⟨0, _⟩ =>
      show win0_12.index _ 0 * 1 ≤ (i 0).val ∧ (i 0).val < win0_12.index _ 0 * 1 + 1
      rw [(idx12 _).1]; dsimp only; omega
    | ⟨1, _⟩ =>
      show win0_12.index _ 1 * 1 ≤ (i 1).val ∧ (i 1).val < win0_12.index _ 1 * 1 + 1
      rw [(idx12 _).2.1]; dsimp only; omega
    | ⟨2, _⟩ =>
      show win0_12.index _ 2 * 2048 ≤ (i 2).val ∧ (i 2).val < win0_12.index _ 2 * 2048 + 2048
      rw [(idx12 _).2.2]; dsimp only; omega)

theorem final13 (c : Dev nD) : (dats m 0 c).arrAt 13 cfg0.N = (args m c).conv :=
  (dats m 0 c).arrAt_eq_of_cover 13 _ (fun t _ => flushed13 m c t) (fun i => by
    have hi0 : ((i : S8x8x2048.Idx) 0).val < 8 := ((i : S8x8x2048.Idx) 0).isLt
    have hi1 : ((i : S8x8x2048.Idx) 1).val < 8 := ((i : S8x8x2048.Idx) 1).isLt
    have hi2 : ((i : S8x8x2048.Idx) 2).val < 2048 := ((i : S8x8x2048.Idx) 2).isLt
    have hN : cfg0.N = 8 := N_0
    refine ⟨⟨((i : S8x8x2048.Idx) 0).val, by omega⟩, flush0_13 _, (mem_blk13 _ i).mpr ?_⟩
    intro a
    match a with
    | ⟨0, _⟩ =>
      show win0_13.index _ 0 * 1 ≤ (i 0).val ∧ (i 0).val < win0_13.index _ 0 * 1 + 1
      rw [(idx13 _).1]; dsimp only; omega
    | ⟨1, _⟩ =>
      show win0_13.index _ 1 * 8 ≤ (i 1).val ∧ (i 1).val < win0_13.index _ 1 * 8 + 8
      rw [(idx13 _).2.1]; dsimp only; omega
    | ⟨2, _⟩ =>
      show win0_13.index _ 2 * 2048 ≤ (i 2).val ∧ (i 2).val < win0_13.index _ 2 * 2048 + 2048
      rw [(idx13 _).2.2]; dsimp only; omega)

/-- The kernel's run with its three results named. -/
theorem run_values : θ_run defs (onTc (τ := τ) (main (F := Ideal))) ⟨m, fun _ => 0, ρ⟩ fun r => ∀ c : Dev nD,
      r.2.mem ((c.tc : Thread nD τ).loc main_v15_0) = (args m c).y
      ∧ r.2.mem ((c.tc : Thread nD τ).loc main_v15_1) = (args m c).last
      ∧ r.2.mem ((c.tc : Thread nD τ).loc main_v15_2) = (args m c).conv
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨((h.1 c).1 11).trans (final11 m c), ((h.1 c).1 12).trans (final12 m c), ((h.1 c).1 13).trans (final13 m c), h.2.1 c⟩)
    (θ_run_and (run_main m ρ) (frame m ρ))

end Cert.Kernel7Ideal.Hand

end
-- ==== Proof.RglruSample.Ref.lean ====
/- The reference of the recurrence on the sample rows, over the extended reals: its values before the loop, the loop's steps as steps of
   the recurrence, and its results. -/
module

public import proofs.«01_k».proof.Proof.RglruSample.Spec
public import proofs.«01_k».proof.Proof.Gen.Reference7Ideal.Run
public import Idealize.ShloMosaic.Lib.Pointwise
public import Idealize.ShloMosaic.Lib.DynamicIndex

@[expose] public section

set_option maxRecDepth 65536

noncomputable section

namespace Cert.Reference7Ideal.Hand

open Idealize.ShloMosaic Idealize.ShloMosaic.TcCoe Idealize.ShloMosaic.StableHlo
open Cert.Reference7Ideal Cert.Reference7Ideal.Gen Cert.Reference7Ideal.Value Cert.Recur Cert.RecurSample

/-! ## The values before the loop -/

/-- The rows with the three before them. -/
def refExt (a0 : FVec Ideal S128x10240 .f32) (a1 : FVec Ideal S1x8x3x2048 .f32) : FVec Ideal S8x19x2048 .f32 :=
  (concatenate S8x19x2048 1 [⟨S8x3x2048, (shapeCast _ a1 shapeCasts_S1x8x3x2048_S8x3x2048)⟩, ⟨S8x16x2048, (shapeCast _ (extractStridedSlice S128x2048 ![0, 4096] a0 slices_S128x10240_S128x2048_0_4096) shapeCasts_S128x2048_S8x16x2048)⟩] concatenates_S8x3x2048_S8x16x2048_S8x19x2048_d1)

/-- The convolution. -/
def refConv (e : FVec Ideal S8x19x2048 .f32) (a3 : FVec Ideal S1x4x2048 .f32) (a4 : FVec Ideal S1x2048 .f32) : FVec Ideal S8x16x2048 .f32 :=
  (addf (broadcastInDim S8x16x2048 ![0, 1, 2] bcast_S1x1x2048_S8x16x2048_0_1_2 (broadcastInDim S1x1x2048 ![2] bcast_S2048_S1x1x2048_2 (shapeCast _ a4 shapeCasts_S1x2048_S2048))) (addf (addf (addf (addf (broadcastInDim S8x16x2048 ![] bcast_S_S8x16x2048 (constant S_ .f32 0x00000000#32)) (mulf (extractStridedSlice S8x16x2048 ![0, 0, 0] e slices_S8x19x2048_S8x16x2048_0_0_0) (broadcastInDim S8x16x2048 ![0, 1, 2] bcast_S1x1x2048_S8x16x2048_0_1_2 (broadcastInDim S1x1x2048 ![2] bcast_S2048_S1x1x2048_2 (shapeCast _ (extractStridedSlice S1x1x2048 ![0, 0, 0] a3 slices_S1x4x2048_S1x1x2048_0_0_0) shapeCasts_S1x1x2048_S2048))))) (mulf (extractStridedSlice S8x16x2048 ![0, 1, 0] e slices_S8x19x2048_S8x16x2048_0_1_0) (broadcastInDim S8x16x2048 ![0, 1, 2] bcast_S1x1x2048_S8x16x2048_0_1_2 (broadcastInDim S1x1x2048 ![2] bcast_S2048_S1x1x2048_2 (shapeCast _ (extractStridedSlice S1x1x2048 ![0, 1, 0] a3 slices_S1x4x2048_S1x1x2048_0_1_0) shapeCasts_S1x1x2048_S2048))))) (mulf (extractStridedSlice S8x16x2048 ![0, 2, 0] e slices_S8x19x2048_S8x16x2048_0_2_0) (broadcastInDim S8x16x2048 ![0, 1, 2] bcast_S1x1x2048_S8x16x2048_0_1_2 (broadcastInDim S1x1x2048 ![2] bcast_S2048_S1x1x2048_2 (shapeCast _ (extractStridedSlice S1x1x2048 ![0, 2, 0] a3 slices_S1x4x2048_S1x1x2048_0_2_0) shapeCasts_S1x1x2048_S2048))))) (mulf (extractStridedSlice S8x16x2048 ![0, 3, 0] e slices_S8x19x2048_S8x16x2048_0_3_0) (broadcastInDim S8x16x2048 ![0, 1, 2] bcast_S1x1x2048_S8x16x2048_0_1_2 (broadcastInDim S1x1x2048 ![2] bcast_S2048_S1x1x2048_2 (shapeCast _ (extractStridedSlice S1x1x2048 ![0, 3, 0] a3 slices_S1x4x2048_S1x1x2048_0_3_0) shapeCasts_S1x1x2048_S2048))))))

/-- A gate's argument. -/
def refGate (x : FVec Ideal S8x16x2048 .f32) (a5 : FVec Ideal S1x16x128x128 .f32) (a6 : FVec Ideal S1x2048 .f32) : FVec Ideal S8x16x2048 .f32 :=
  (addf (shapeCast _ (transpose S8x16x16x128 [2, 3, 0, 1] (Host.dotGeneral dot_S16x128x128_S8x16x16x128_S16x128x8x16_1_3_2_01_0_2 none (shapeCast _ a5 shapeCasts_S1x16x128x128_S16x128x128) (shapeCast _ x shapeCasts_S8x16x2048_S8x16x16x128)) transposes_S16x128x8x16_S8x16x16x128_2_3_0_1) shapeCasts_S8x16x16x128_S8x16x2048) (broadcastInDim S8x16x2048 ![0, 1, 2] bcast_S1x1x2048_S8x16x2048_0_1_2 (broadcastInDim S1x1x2048 ![2] bcast_S2048_S1x1x2048_2 (shapeCast _ a6 shapeCasts_S1x2048_S2048))))

/-- A gate. -/
def refSig (z : FVec Ideal S8x16x2048 .f32) : FVec Ideal S8x16x2048 .f32 :=
  (Host.divf (broadcastInDim S8x16x2048 ![] bcast_S_S8x16x2048 (constant S_ .f32 0x3F800000#32)) (addf (broadcastInDim S8x16x2048 ![] bcast_S_S8x16x2048 (constant S_ .f32 0x3F800000#32)) (Host.exp (Host.negf z))))

/-- The softplus of the negated parameter. -/
def refSp (a9 : FVec Ideal S1x2048 .f32) : FVec Ideal S2048 .f32 :=
  (select (cmpf .une (subf (Host.negf (shapeCast _ a9 shapeCasts_S1x2048_S2048)) (broadcastInDim S2048 ![] bcast_S_S2048 (constant S_ .f32 0x00000000#32))) (subf (Host.negf (shapeCast _ a9 shapeCasts_S1x2048_S2048)) (broadcastInDim S2048 ![] bcast_S_S2048 (constant S_ .f32 0x00000000#32)))) (addf (Host.negf (shapeCast _ a9 shapeCasts_S1x2048_S2048)) (broadcastInDim S2048 ![] bcast_S_S2048 (constant S_ .f32 0x00000000#32))) (addf (maximumf (Host.negf (shapeCast _ a9 shapeCasts_S1x2048_S2048)) (broadcastInDim S2048 ![] bcast_S_S2048 (constant S_ .f32 0x00000000#32))) (Host.log1p (Host.exp (Host.negf (Host.absf (subf (Host.negf (shapeCast _ a9 shapeCasts_S1x2048_S2048)) (broadcastInDim S2048 ![] bcast_S_S2048 (constant S_ .f32 0x00000000#32)))))))))

/-- The decay's logarithm. -/
def refLog (r : FVec Ideal S8x16x2048 .f32) (s : FVec Ideal S2048 .f32) : FVec Ideal S8x16x2048 .f32 :=
  (mulf (mulf (broadcastInDim S8x16x2048 ![] bcast_S_S8x16x2048 (constant S_ .f32 0xC1000000#32)) r) (broadcastInDim S8x16x2048 ![0, 1, 2] bcast_S1x1x2048_S8x16x2048_0_1_2 (broadcastInDim S1x1x2048 ![2] bcast_S2048_S1x1x2048_2 s)))

/-- The decays, time first. -/
def refA (l : FVec Ideal S8x16x2048 .f32) : FVec Ideal S16x8x2048 .f32 :=
  (transpose S16x8x2048 [1, 0, 2] (Host.exp l) transposes_S8x16x2048_S16x8x2048_1_0_2)

/-- The recurrence's inputs, time first. -/
def refB (l i x : FVec Ideal S8x16x2048 .f32) : FVec Ideal S16x8x2048 .f32 :=
  (transpose S16x8x2048 [1, 0, 2] (mulf (Host.sqrt (Host.negf (Host.expm1 (mulf (broadcastInDim S8x16x2048 ![] bcast_S_S8x16x2048 (constant S_ .f32 0x40000000#32)) l)))) (mulf i x)) transposes_S8x16x2048_S16x8x2048_1_0_2)

/-- The decays and -/
def valA (a0 : FVec Ideal S128x10240 .f32) (a1 : FVec Ideal S1x8x3x2048 .f32) (a3 : FVec Ideal S1x4x2048 .f32) (a4 : FVec Ideal S1x2048 .f32) (a5 : FVec Ideal S1x16x128x128 .f32) (a6 : FVec Ideal S1x2048 .f32) (a7 : FVec Ideal S1x16x128x128 .f32) (a8 a9 : FVec Ideal S1x2048 .f32) : FVec Ideal S16x8x2048 .f32 :=
  refA (refLog (refSig (refGate (refConv (refExt a0 a1) a3 a4) a5 a6)) (refSp a9))

/-- the inputs of the arguments. -/
def valB (a0 : FVec Ideal S128x10240 .f32) (a1 : FVec Ideal S1x8x3x2048 .f32) (a3 : FVec Ideal S1x4x2048 .f32) (a4 : FVec Ideal S1x2048 .f32) (a5 : FVec Ideal S1x16x128x128 .f32) (a6 : FVec Ideal S1x2048 .f32) (a7 : FVec Ideal S1x16x128x128 .f32) (a8 a9 : FVec Ideal S1x2048 .f32) : FVec Ideal S16x8x2048 .f32 :=
  refB (refLog (refSig (refGate (refConv (refExt a0 a1) a3 a4) a5 a6)) (refSp a9)) (refSig (refGate (refConv (refExt a0 a1) a3 a4) a7 a8)) (refConv (refExt a0 a1) a3 a4)

variable (m : (ℓ : Loc nD τ sig) → Buf (Elt Ideal) ℓ)

set_option maxHeartbeats 4000000 in
theorem entry_a (c : Dev nD) : entryContents preI m c (Proc.devRef .tc main_v86_0) = valA (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  simp only [preI, entryContents, afterL_cons, afterL_nil, hostOps0, hostOps0_1, hostOps0_2]
  unfold valA refA refLog refSig refGate refSp refConv refExt
  after_results_entrywise []

set_option maxHeartbeats 4000000 in
theorem entry_b (c : Dev nD) : entryContents preI m c (Proc.devRef .tc main_v86_1) = valB (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  simp only [preI, entryContents, afterL_cons, afterL_nil, hostOps0, hostOps0_1, hostOps0_2]
  unfold valB refB refLog refSig refGate refSp refConv refExt
  after_results_entrywise []

set_option maxHeartbeats 4000000 in
theorem entry_h (c : Dev nD) : entryContents preI m c (Proc.devRef .tc main_v86_3) = shapeCast S8x2048 (m ((c.tc : Thread nD τ).loc main_arg2)) shapeCasts_S1x8x2048_S8x2048 := by
  simp only [preI, entryContents, afterL_cons, afterL_nil, hostOps0, hostOps0_1, hostOps0_2]
  after_results_entrywise []

/-! ## The values before the loop at an index -/

theorem refExt_apply (a0 : FVec Ideal S128x10240 .f32) (a1 : FVec Ideal S1x8x3x2048 .f32) (b : Fin 8) (s : Fin 19) (j : Fin 2048) :
    refExt a0 a1 (ix3 b s j) = if h : s.val < 3 then a1 (ix4 0 b ⟨s.val, h⟩ j)
      else a0 (ix2 ⟨b.val * 16 + (s.val - 3), by omega⟩ ⟨4096 + j.val, by omega⟩) := by
  pointwise [refExt]

theorem refConv_apply (e : FVec Ideal S8x19x2048 .f32) (a3 : FVec Ideal S1x4x2048 .f32) (a4 : FVec Ideal S1x2048 .f32) (b : Fin 8) (s : Fin 16) (j : Fin 2048) :
    refConv e a3 a4 (ix3 b s j) = a4 (ix2 0 j) + (e (ix3 b ⟨s.val, by omega⟩ j) * a3 (ix3 0 0 j) + e (ix3 b ⟨1 + s.val, by omega⟩ j) * a3 (ix3 0 1 j)
      + e (ix3 b ⟨2 + s.val, by omega⟩ j) * a3 (ix3 0 2 j) + e (ix3 b ⟨3 + s.val, by omega⟩ j) * a3 (ix3 0 3 j)) := by
  pointwise [refConv]

theorem refGate_apply (x : FVec Ideal S8x16x2048 .f32) (a5 : FVec Ideal S1x16x128x128 .f32) (a6 : FVec Ideal S1x2048 .f32) (b : Fin 8) (s : Fin 16) (j : Fin 2048) :
    refGate x a5 a6 (ix3 b s j) = ∑ k : Fin 128, a5 (ix4 0 ⟨j.val / 128, by omega⟩ k ⟨j.val % 128, by omega⟩) * x (ix3 b s ⟨j.val / 128 * 128 + k.val, by omega⟩)
      + a6 (ix2 0 j) := by
  pointwise [refGate]

theorem refSig_apply (z : FVec Ideal S8x16x2048 .f32) (b : Fin 8) (s : Fin 16) (j : Fin 2048) :
    refSig z (ix3 b s j) = Ideal.logistic (z (ix3 b s j)) := by
  unfold Ideal.logistic
  pointwise [refSig]

theorem refSp_apply (x : FVec Ideal S1x2048 .f32) (j : Fin 2048) : refSp x (ix1 j) = sp (-x (ix2 0 j)) := by
  have h : refSp x (ix1 j) = if -x (ix2 0 j) ≠ -x (ix2 0 j) then -x (ix2 0 j)
      else max (-x (ix2 0 j)) 0 + Ideal.log1p (Ideal.exp (-FloatOps.absf (F := Ideal) (-x (ix2 0 j)))) := by
    pointwise [refSp]
  rw [h, if_neg (fun hn => hn rfl)]
  rfl

theorem refLog_apply (r : FVec Ideal S8x16x2048 .f32) (s : FVec Ideal S2048 .f32) (b : Fin 8) (t : Fin 16) (j : Fin 2048) :
    refLog r s (ix3 b t j) = ((-8 : ℝ) : EReal) * r (ix3 b t j) * s (ix1 j) := by
  rw [← neg8_eq]
  pointwise [refLog]

theorem refA_apply (l : FVec Ideal S8x16x2048 .f32) (b : Fin 8) (t : Fin 16) (j : Fin 2048) :
    refA l (ix3 t b j) = Ideal.exp (l (ix3 b t j)) := by
  pointwise [refA]

theorem refB_apply (l i x : FVec Ideal S8x16x2048 .f32) (b : Fin 8) (t : Fin 16) (j : Fin 2048) :
    refB l i x (ix3 t b j) = Ideal.sqrt (-(Ideal.expm1 (((2 : ℝ) : EReal) * l (ix3 b t j)))) * (i (ix3 b t j) * x (ix3 b t j)) := by
  rw [← two_eq]
  unfold Ideal.expm1
  pointwise [refB]

/-- The arguments of a device. -/
def args (m : (ℓ : Loc nD τ sig) → Buf (Elt Ideal) ℓ) (c : Dev nD) : Args where
  z := m ((c.tc : Thread nD τ).loc main_arg0)
  cs := m ((c.tc : Thread nD τ).loc main_arg1)
  h0 := m ((c.tc : Thread nD τ).loc main_arg2)
  cw := m ((c.tc : Thread nD τ).loc main_arg3)
  cb := m ((c.tc : Thread nD τ).loc main_arg4)
  wa := m ((c.tc : Thread nD τ).loc main_arg5)
  ba := m ((c.tc : Thread nD τ).loc main_arg6)
  wx := m ((c.tc : Thread nD τ).loc main_arg7)
  bx := m ((c.tc : Thread nD τ).loc main_arg8)
  lam := m ((c.tc : Thread nD τ).loc main_arg9)

/-- A row of the convolution's input. -/
theorem ext_row (p : Args) (b : Fin 8) (s : Fin 19) (n : Fin 16) (l : Fin 128) :
    refExt p.z p.cs (ix3 b s (chJ n l)) = (p.par b n).x s.val l := by
  rw [refExt_apply]
  show _ = if h : s.val < 3 then _ else if h : s.val - 3 < 16 then _ else _
  split
  · rfl
  · rw [dif_pos (show s.val - 3 < 16 by omega)]
    exact congrArg p.z (Shape.idx_ext₂ (by show b.val * 16 + (s.val - 3) = 16 * b.val + (s.val - 3); omega) rfl)

theorem conv_row (p : Args) (b : Fin 8) (t : Fin 16) (n : Fin 16) (l : Fin 128) :
    refConv (refExt p.z p.cs) p.cw p.cb (ix3 b t (chJ n l)) = (p.par b n).xc t.val l := by
  rw [refConv_apply, ext_row, ext_row, ext_row, ext_row]
  show _ + ((p.par b n).x t.val l * _ + (p.par b n).x (1 + t.val) l * _ + (p.par b n).x (2 + t.val) l * _ + (p.par b n).x (3 + t.val) l * _) = _
  rw [Nat.add_comm 1, Nat.add_comm 2, Nat.add_comm 3]
  rfl

theorem gate_row (p : Args) (w : (⟨4, ![1, 16, 128, 128]⟩ : Shape).Idx → EReal) (d : (⟨2, ![1, 2048]⟩ : Shape).Idx → EReal)
    (b : Fin 8) (t : Fin 16) (j : Fin 2048) :
    refGate (refConv (refExt p.z p.cs) p.cw p.cb) w d (ix3 b t j)
      = ∑ k : Fin 128, w (ix4 0 (chN j) k (chL j)) * (p.par b (chN j)).xc t.val k + d (ix2 0 j) := by
  rw [refGate_apply]
  refine congrArg (· + _) (Finset.sum_congr rfl fun k _ => ?_)
  have e : (⟨j.val / 128 * 128 + k.val, by omega⟩ : Fin 2048) = chJ (chN j) k := Fin.ext (by show j.val / 128 * 128 + k.val = 128 * (j.val / 128) + k.val; omega)
  rw [e, conv_row]
  rfl

theorem log_row (p : Args) (b : Fin 8) (t : Fin 16) (j : Fin 2048) :
    refLog (refSig (refGate (refConv (refExt p.z p.cs) p.cw p.cb) p.wa p.ba)) (refSp p.lam) (ix3 b t j)
      = gLog ((p.par b (chN j)).za t.val (chL j)) ((p.par b (chN j)).lam (chL j)) := by
  rw [refLog_apply, refSig_apply, refSp_apply, gate_row]
  unfold gLog Par.za
  show _ = _ * Ideal.logistic (_ + p.ba (ix2 0 (chJ (chN j) (chL j)))) * sp (-p.lam (ix2 0 (chJ (chN j) (chL j))))
  rw [chJ_eq]
  rfl

theorem valA_apply (p : Args) (b : Fin 8) (t : Fin 16) (j : Fin 2048) :
    valA p.z p.cs p.cw p.cb p.wa p.ba p.wx p.bx p.lam (ix3 t b j) = (p.par b (chN j)).a (chL j) t.val := by
  unfold valA
  rw [refA_apply, log_row]
  rfl

theorem valB_apply (p : Args) (b : Fin 8) (t : Fin 16) (j : Fin 2048) :
    valB p.z p.cs p.cw p.cb p.wa p.ba p.wx p.bx p.lam (ix3 t b j) = (p.par b (chN j)).b (chL j) t.val := by
  have hc := conv_row p b t (chN j) (chL j)
  rw [chJ_eq] at hc
  unfold valB
  rw [refB_apply, log_row, refSig_apply, gate_row, hc]
  unfold Par.b gB Par.zx
  show _ = _ * (Ideal.logistic (_ + p.bx (ix2 0 (chJ (chN j) (chL j)))) * _)
  rw [chJ_eq]
  rfl

/-! ## One step of the loop -/

theorem start_val (w : (⟨S_, .i32⟩ : BufTy).Contents (Elt Ideal)) (k : ℕ) (hk : k < 16) (hw : w = fun _ => BitVec.ofNat 32 k) (a : Fin 3) :
    (((![w, constantI S_ 32 0#32, constantI S_ 32 0#32] : Fin 3 → (⟨S_, .i32⟩ : BufTy).Contents (Elt Ideal))) a (Shape.Idx.first h_S_)).toInt
      = ((![k, 0, 0] : Fin 3 → ℕ) a : Int) := by
  subst hw
  fin_cases a
  · exact toInt_ofNat_of_lt (by omega)
  · rfl
  · rfl

theorem fits (k : ℕ) (hk : k < 16) : S16x8x2048.Slices (![k, 0, 0] : Fin 3 → ℕ) S1x8x2048 :=
  ⟨rfl, fun a => by fin_cases a <;> [(show k + 1 ≤ 16; omega); exact Nat.le_refl _; exact Nat.le_refl _]⟩

theorem slice_at (x : FVec Ideal S16x8x2048 .f32) (w : (⟨S_, .i32⟩ : BufTy).Contents (Elt Ideal)) (k : ℕ) (hk : k < 16) (hw : w = fun _ => BitVec.ofNat 32 k)
    (b : Fin 8) (j : Fin 2048) :
    (shapeCast S8x2048 (Host.dynamicSlice S1x8x2048 x (fun a => (((![w, constantI S_ 32 0#32, constantI S_ 32 0#32] : Fin 3 → (⟨S_, .i32⟩ : BufTy).Contents (Elt Ideal))) a (Shape.Idx.first h_S_)).toInt) sliceFits_S16x8x2048_S1x8x2048) shapeCasts_S1x8x2048_S8x2048 : FVec Ideal S8x2048 .f32) (ix2 b j)
      = x (ix3 ⟨k, hk⟩ b j) := by
  rw [Host.dynamicSlice_eq_extractStridedSlice S1x8x2048 x _ ![k, 0, 0] _ (fits k hk) (start_val w k hk hw)]
  pointwise []

theorem update_at (x : FVec Ideal S16x8x2048 .f32) (u : FVec Ideal S8x2048 .f32) (w : (⟨S_, .i32⟩ : BufTy).Contents (Elt Ideal)) (k : ℕ) (hk : k < 16)
    (hw : w = fun _ => BitVec.ofNat 32 k) (t : Fin 16) (b : Fin 8) (j : Fin 2048) :
    (Host.dynamicUpdateSlice x (broadcastInDim S1x8x2048 ![1, 2] bcast_S8x2048_S1x8x2048_1_2 u) (fun a => (((![w, constantI S_ 32 0#32, constantI S_ 32 0#32] : Fin 3 → (⟨S_, .i32⟩ : BufTy).Contents (Elt Ideal))) a (Shape.Idx.first h_S_)).toInt) updateFits_S16x8x2048_S1x8x2048 : FVec Ideal S16x8x2048 .f32) (ix3 t b j)
      = if t.val = k then u (ix2 b j) else x (ix3 t b j) := by
  rw [Host.dynamicUpdateSlice_eq_updateSlice x _ _ _ ![k, 0, 0] (fun a => by
    have h := start_val w k hk hw a
    have hb := (fits k hk).2 a
    rw [h]
    omega) (fits k hk)]
  by_cases he : t.val = k
  · rw [if_pos he]
    pointwise []
    rw [dif_pos ⟨by omega, by omega⟩]
  · rw [if_neg he]
    pointwise []
    rw [dif_neg (by omega)]

/-! ## The loop -/

theorem count (c : Dev nD) : ∀ k, (STEP^[k] (entryContents preI m c)) (Proc.devRef .tc main_v86_2) = fun _ => BitVec.ofNat 32 k
  | 0 => ctr_entry m c
  | k + 1 => by
    rw [Function.iterate_succ_apply', STEP_main_v86_2]
    unfold step_main_v86_2
    rw [count c k, BitVec.ofNat_add]
    rfl

theorem keep_a (c : Dev nD) : ∀ k, (STEP^[k] (entryContents preI m c)) (Proc.devRef .tc main_v86_0)
    = valA (args m c).z (args m c).cs (args m c).cw (args m c).cb (args m c).wa (args m c).ba (args m c).wx (args m c).bx (args m c).lam
  | 0 => entry_a m c
  | k + 1 => by rw [Function.iterate_succ_apply', STEP_main_v86_0, keep_a c k]

theorem keep_b (c : Dev nD) : ∀ k, (STEP^[k] (entryContents preI m c)) (Proc.devRef .tc main_v86_1)
    = valB (args m c).z (args m c).cs (args m c).cw (args m c).cb (args m c).wa (args m c).ba (args m c).wx (args m c).bx (args m c).lam
  | 0 => entry_b m c
  | k + 1 => by rw [Function.iterate_succ_apply', STEP_main_v86_1, keep_b c k]

/-- The state a step computes. -/
theorem step_value (c : Dev nD) (k : ℕ) (hk : k < 16) (b : Fin 8) (j : Fin 2048)
    (h : (STEP^[k] (entryContents preI m c)) (Proc.devRef .tc main_v86_3) (ix2 b j) = (args m c).state b j k) :
    res_main_while0b_v113 (STEP^[k] (entryContents preI m c)) (ix2 b j) = (args m c).state b j (k + 1) := by
  unfold res_main_while0b_v113
  unfold Args.state R
  rw [Nat.zero_add, ← valA_apply (args m c) b ⟨k, hk⟩, ← valB_apply (args m c) b ⟨k, hk⟩, ← keep_a m c k, ← keep_b m c k]
  exact congrArg₂ (fun u v : EReal => u + v) (congrArg₂ (fun u v : EReal => u * v) (slice_at _ _ k hk (count m c k) b j) h)
    (slice_at _ _ k hk (count m c k) b j)

/-- The state after `k` steps. -/
theorem state_at (c : Dev nD) (b : Fin 8) (j : Fin 2048) : ∀ k, k ≤ 16 →
    (STEP^[k] (entryContents preI m c)) (Proc.devRef .tc main_v86_3) (ix2 b j) = (args m c).state b j k
  | 0, _ => by
    rw [Function.iterate_zero, id_eq, entry_h]
    show _ = (args m c).h0 (ix3 0 b j)
    show (shapeCast S8x2048 ((args m c).h0 : FVec Ideal S1x8x2048 .f32) shapeCasts_S1x8x2048_S8x2048 : FVec Ideal S8x2048 .f32) (ix2 b j) = _
    generalize (args m c).h0 = h0
    pointwise []
  | k + 1, hk => by
    rw [Function.iterate_succ_apply', STEP_main_v86_3]
    exact step_value m c k (by omega) b j (state_at c b j k (by omega))

/-- The rows written after `k` steps. -/
theorem rows_at (c : Dev nD) (t : Fin 16) (b : Fin 8) (j : Fin 2048) : ∀ k, k ≤ 16 → t.val < k →
    (STEP^[k] (entryContents preI m c)) (Proc.devRef .tc main_v86_4) (ix3 t b j) = (args m c).state b j (t.val + 1)
  | 0, _, h => absurd h (Nat.not_lt_zero _)
  | k + 1, hk, ht => by
    rw [Function.iterate_succ_apply', STEP_main_v86_4]
    refine (update_at _ _ _ k (by omega) (count m c k) t b j).trans ?_
    split
    · next he => rw [he]; exact step_value m c k (by omega) b j (state_at m c b j k (by omega))
    · next he => exact rows_at c t b j k (by omega) (by omega)

/-! ## The results -/

theorem out_last (c : Dev nD) : out_main_v106 (STEP^[16] (entryContents preI m c)) = (args m c).last := by
  funext i
  obtain ⟨b, s, j, rfl⟩ : ∃ (b : Fin 8) (s : Fin 1) (j : Fin 2048), i = ix3 b s j := ⟨i 0, i 1, i 2, idx_ext3 rfl rfl rfl⟩
  have h : ∀ V0 : Valuation τ sig (Elt Ideal), out_main_v106 V0 (ix3 b s j) = V0 (Proc.devRef .tc main_v86_3) (ix2 b j) := fun V0 => by
    pointwise [out_main_v106]
  rw [h, state_at m c b j 16 (Nat.le_refl _)]
  rfl

theorem out_conv (c : Dev nD) : out_main_v109 (STEP^[16] (entryContents preI m c)) = (args m c).conv := by
  funext i
  obtain ⟨b, s, j, rfl⟩ : ∃ (b : Fin 8) (s : Fin 8) (j : Fin 2048), i = ix3 b s j := ⟨i 0, i 1, i 2, idx_ext3 rfl rfl rfl⟩
  have h : ∀ V0 : Valuation τ sig (Elt Ideal), out_main_v109 V0 (ix3 b s j)
      = V0 (Proc.devRef .tc main_arg0) (ix2 ⟨b.val * 16 + (8 + s.val), by omega⟩ ⟨4096 + j.val, by omega⟩) := fun V0 => by
    pointwise [out_main_v109]
  rw [h, iter_main_arg0]
  exact congrArg (args m c).z (Shape.idx_ext₂ (by show b.val * 16 + (8 + s.val) = 16 * b.val + 8 + s.val; omega) rfl)

theorem out_rows_apply (V0 : Valuation τ sig (Elt Ideal)) (r : Fin 128) (j : Fin 2048) : out_main_v105 V0 (ix2 r j)
    = @HMul.hMul EReal EReal EReal _ (V0 (Proc.devRef .tc main_v86_4) (ix3 ⟨r.val % 16, by omega⟩ ⟨r.val / 16, by omega⟩ j))
        (refGel (V0 (Proc.devRef .tc main_arg0) (ix2 r ⟨6144 + j.val, by omega⟩))) := by
  unfold refGel
  pointwise [out_main_v105]

theorem out_rows (c : Dev nD) : out_main_v105 (STEP^[16] (entryContents preI m c)) = (args m c).y := by
  funext i
  obtain ⟨r, j, rfl⟩ : ∃ (r : Fin 128) (j : Fin 2048), i = ix2 r j := ⟨i 0, i 1, Shape.idx_ext₂ rfl rfl⟩
  rw [out_rows_apply, iter_main_arg0, rows_at m c _ _ j 16 (Nat.le_refl _) (Nat.mod_lt _ (by decide)), refGel_eq]
  rfl

end Cert.Reference7Ideal.Hand

end
-- ==== Proof.RglruPrompt.Cut.lean ====
/- The body of the recurrence kernel over one tile, cut where its own loops are: a chunk of 128 channels, the scan over the groups of
   eight rows, and what surrounds them. The printed body is these pieces in order. -/
module

public import proofs.«01_k».proof.Proof.Gen.Kernel8Ideal.Frame
public import proofs.«01_k».proof.Proof.Gen.Kernel8Ideal.Skeleton
public import proofs.«01_k».proof.Proof.Buffer
public import Idealize.ShloMosaic.Lib.Claim

@[expose] public section

set_option maxRecDepth 65536

noncomputable section

namespace Cert.Kernel8Ideal.Hand

open Idealize.ShloMosaic Idealize.ShloMosaic.TcCoe Idealize.ShloMosaic.Tactic Cert.Buffer
open Idealize.SL Idealize.SL.RA Idealize.SL.BI
open scoped Idealize.SL.BI
open Idealize.SL.BI.BIBase Idealize.SL.BI.Laws Idealize.SL.ProofMode Idealize.SL.Sem
open Cert.Kernel8Ideal.Gen

variable {F : FTy → Type} [FloatOps F]

/-- A buffer of the vector memory. -/
abbrev MR (s : Shape) (e : EltTy) := Memref sig .tc .vmem s e

/-! ## What one chunk of 128 channels computes -/

/-- Half of the causal convolution of width four, the eight rows before the tile at hand. -/
def cConv (cw : Vec F S4x128 .f32) (u : Vec F S256x128 .f32) (prev : Vec F S8x128 .f32) (cb : Vec F S1x128 .f32) : FVec F S256x128 .f32 :=
  have v3 : IVec S32x8x128 32 := iota .tc S32x8x128 32 [1] iota_S32x8x128_d1_w32
  have v167 : FVec F S4x128 .f32 := shapeCast S4x128 cw shapeCasts_S4x128_S4x128
  have cst_69 : F .f32 := Scalar.ofBits .f32 0x3F000000#32
  have v168 : FVec F S4x128 .f32 := broadcast S4x128 cst_69
  have v169 : FVec F S4x128 .f32 := mulf v168 v167
  have v171 : FVec F S32x8x128 .f32 := shapeCast S32x8x128 u shapeCasts_S256x128_S32x8x128
  have v174 : FVec F S1x128 .f32 := shapeCast S1x128 cb shapeCasts_S1x128_S1x128
  have cst_76 : F .f32 := Scalar.ofBits .f32 0x3F000000#32
  have v175 : FVec F S1x128 .f32 := broadcast S1x128 cst_76
  have v176 : FVec F S1x128 .f32 := mulf v175 v174
  have v177 : FVec F S1x128 .f32 := extractStridedSlice S1x128 ![3, 0] v169 slices_S4x128_o3_0_S1x128
  have v178 : FVec F S1x1x128 .f32 := shapeCast S1x1x128 v177 shapeCasts_S1x128_S1x1x128
  have v179 : FVec F S32x8x128 .f32 := broadcastTo S32x8x128 v178 broadcasts_S1x1x128_S32x8x128
  have v180 : FVec F S32x8x128 .f32 := mulf v171 v179
  have v181 : FVec F S1x1x128 .f32 := shapeCast S1x1x128 v176 shapeCasts_S1x128_S1x1x128
  have v182 : FVec F S32x8x128 .f32 := broadcastTo S32x8x128 v181 broadcasts_S1x1x128_S32x8x128
  have v183 : FVec F S32x8x128 .f32 := addf v182 v180
  let c3_i32_77 : BitVec 32 := 3#32
  have v184 : FVec F S32x8x128 .f32 := dynamicRotate 1 c3_i32_77 none v171 rotates_S32x8x128_d1
  let c3_i32_78 : BitVec 32 := 3#32
  have v185 : FVec F S8x128 .f32 := dynamicRotate 0 c3_i32_78 none prev rotates_S8x128_d0
  have v186 : FVec F S1x8x128 .f32 := shapeCast S1x8x128 v185 shapeCasts_S8x128_S1x8x128
  have v187 : FVec F S31x8x128 .f32 := extractStridedSlice S31x8x128 ![0, 0, 0] v184 slices_S32x8x128_o0_0_0_S31x8x128
  have v188 : FVec F S32x8x128 .f32 := concatenate S32x8x128 0 [⟨S1x8x128, v186⟩, ⟨S31x8x128, v187⟩] concatenates_S1x8x128_S31x8x128_S32x8x128_d0
  let c3_i32_79 : BitVec 32 := 3#32
  have v189 : IVec S32x8x128 32 := broadcast S32x8x128 c3_i32_79
  have v190 : IVec S32x8x128 1 := cmpi .sge v3 v189
  have v191 : FVec F S32x8x128 .f32 := select v190 v184 v188
  have v192 : FVec F S1x128 .f32 := extractStridedSlice S1x128 ![0, 0] v169 slices_S4x128_o0_0_S1x128
  have v193 : FVec F S1x1x128 .f32 := shapeCast S1x1x128 v192 shapeCasts_S1x128_S1x1x128
  have v194 : FVec F S32x8x128 .f32 := broadcastTo S32x8x128 v193 broadcasts_S1x1x128_S32x8x128
  have v195 : FVec F S32x8x128 .f32 := mulf v191 v194
  have v196 : FVec F S32x8x128 .f32 := addf v183 v195
  let c2_i32_80 : BitVec 32 := 2#32
  have v197 : FVec F S32x8x128 .f32 := dynamicRotate 1 c2_i32_80 none v171 rotates_S32x8x128_d1
  let c2_i32_81 : BitVec 32 := 2#32
  have v198 : FVec F S8x128 .f32 := dynamicRotate 0 c2_i32_81 none prev rotates_S8x128_d0
  have v199 : FVec F S1x8x128 .f32 := shapeCast S1x8x128 v198 shapeCasts_S8x128_S1x8x128
  have v200 : FVec F S31x8x128 .f32 := extractStridedSlice S31x8x128 ![0, 0, 0] v197 slices_S32x8x128_o0_0_0_S31x8x128
  have v201 : FVec F S32x8x128 .f32 := concatenate S32x8x128 0 [⟨S1x8x128, v199⟩, ⟨S31x8x128, v200⟩] concatenates_S1x8x128_S31x8x128_S32x8x128_d0
  let c2_i32_82 : BitVec 32 := 2#32
  have v202 : IVec S32x8x128 32 := broadcast S32x8x128 c2_i32_82
  have v203 : IVec S32x8x128 1 := cmpi .sge v3 v202
  have v204 : FVec F S32x8x128 .f32 := select v203 v197 v201
  have v205 : FVec F S1x128 .f32 := extractStridedSlice S1x128 ![1, 0] v169 slices_S4x128_o1_0_S1x128
  have v206 : FVec F S1x1x128 .f32 := shapeCast S1x1x128 v205 shapeCasts_S1x128_S1x1x128
  have v207 : FVec F S32x8x128 .f32 := broadcastTo S32x8x128 v206 broadcasts_S1x1x128_S32x8x128
  have v208 : FVec F S32x8x128 .f32 := mulf v204 v207
  have v209 : FVec F S32x8x128 .f32 := addf v196 v208
  let c1_i32_83 : BitVec 32 := 1#32
  have v210 : FVec F S32x8x128 .f32 := dynamicRotate 1 c1_i32_83 none v171 rotates_S32x8x128_d1
  let c1_i32_84 : BitVec 32 := 1#32
  have v211 : FVec F S8x128 .f32 := dynamicRotate 0 c1_i32_84 none prev rotates_S8x128_d0
  have v212 : FVec F S1x8x128 .f32 := shapeCast S1x8x128 v211 shapeCasts_S8x128_S1x8x128
  have v213 : FVec F S31x8x128 .f32 := extractStridedSlice S31x8x128 ![0, 0, 0] v210 slices_S32x8x128_o0_0_0_S31x8x128
  have v214 : FVec F S32x8x128 .f32 := concatenate S32x8x128 0 [⟨S1x8x128, v212⟩, ⟨S31x8x128, v213⟩] concatenates_S1x8x128_S31x8x128_S32x8x128_d0
  let c1_i32_85 : BitVec 32 := 1#32
  have v215 : IVec S32x8x128 32 := broadcast S32x8x128 c1_i32_85
  have v216 : IVec S32x8x128 1 := cmpi .sge v3 v215
  have v217 : FVec F S32x8x128 .f32 := select v216 v210 v214
  have v218 : FVec F S1x128 .f32 := extractStridedSlice S1x128 ![2, 0] v169 slices_S4x128_o2_0_S1x128
  have v219 : FVec F S1x1x128 .f32 := shapeCast S1x1x128 v218 shapeCasts_S1x128_S1x1x128
  have v220 : FVec F S32x8x128 .f32 := broadcastTo S32x8x128 v219 broadcasts_S1x1x128_S32x8x128
  have v221 : FVec F S32x8x128 .f32 := mulf v217 v220
  have v222 : FVec F S32x8x128 .f32 := addf v209 v221
  have v223 : FVec F S256x128 .f32 := shapeCast S256x128 v222 shapeCasts_S32x8x128_S256x128
  v223

/-- The hyperbolic tangent of half a gate. -/
def cTanh (xh : FVec F S256x128 .f32) (w : Vec F S1x128x128 .f32) (b : Vec F S1x128 .f32) : FVec F S256x128 .f32 :=
  have v224 : FVec F S256x128 .bf16 := truncf .bf16 xh bitsLt_bf16_f32
  have v226 : FVec F S128x128 .f32 := shapeCast S128x128 w shapeCasts_S1x128x128_S128x128
  have v227 : FVec F S128x128 .bf16 := truncf .bf16 v226 bitsLt_bf16_f32
  have cst_88 : FVec F S256x128 .f32 := constant S256x128 .f32 0x00000000#32
  have v228 : FVec F S256x128 .f32 := matmul dot_S256x128_S128x128_S256x128_1_0_0_1_n_n none v224 v227 cst_88
  have v234 : FVec F S1x128 .f32 := shapeCast S1x128 b shapeCasts_S1x128_S1x128
  have cst_95 : F .f32 := Scalar.ofBits .f32 0x3F000000#32
  have v235 : FVec F S1x128 .f32 := broadcast S1x128 cst_95
  have v236 : FVec F S1x128 .f32 := mulf v235 v234
  have v237 : FVec F S256x128 .f32 := broadcastTo S256x128 v236 broadcasts_S1x128_S256x128
  have v238 : FVec F S256x128 .f32 := addf v228 v237
  have v239 : FVec F S256x128 .f32 := tanh v238
  v239

/-- The logarithm of the decay. -/
def cLog (tr : FVec F S256x128 .f32) (lam : Vec F S1x128 .f32) : FVec F S256x128 .f32 :=
  have cst_99 : F .f32 := Scalar.ofBits .f32 0x3F800000#32
  have v247 : FVec F S256x128 .f32 := broadcast S256x128 cst_99
  have v248 : FVec F S256x128 .f32 := addf v247 tr
  have v250 : FVec F S1x128 .f32 := shapeCast S1x128 lam shapeCasts_S1x128_S1x128
  have cst_102 : F .f32 := Scalar.ofBits .f32 0x00000000#32
  have v251 : FVec F S1x128 .f32 := broadcast S1x128 cst_102
  have v252 : FVec F S1x128 .f32 := subf v251 v250
  have cst_103 : F .f32 := Scalar.ofBits .f32 0x00000000#32
  have v253 : FVec F S1x128 .f32 := broadcast S1x128 cst_103
  have v254 : FVec F S1x128 .f32 := maximumf v252 v253
  have v255 : FVec F S1x128 .f32 := absf v252
  have cst_104 : F .f32 := Scalar.ofBits .f32 0x00000000#32
  have v256 : FVec F S1x128 .f32 := broadcast S1x128 cst_104
  have v257 : FVec F S1x128 .f32 := subf v256 v255
  have v258 : FVec F S1x128 .f32 := exp v257
  have v259 : FVec F S1x128 .f32 := log1p v258
  have v260 : FVec F S1x128 .f32 := addf v254 v259
  have cst_105 : F .f32 := Scalar.ofBits .f32 0xC0800000#32
  have v261 : FVec F S1x128 .f32 := broadcast S1x128 cst_105
  have v262 : FVec F S1x128 .f32 := mulf v261 v260
  have v263 : FVec F S256x128 .f32 := broadcastTo S256x128 v262 broadcasts_S1x128_S256x128
  have v264 : FVec F S256x128 .f32 := mulf v248 v263
  v264

/-- The input term of the recurrence. -/
def cB (la ti xh : FVec F S256x128 .f32) : FVec F S256x128 .f32 :=
  have v265 : FVec F S256x128 .f32 := exp la
  have v266 : FVec F S256x128 .f32 := tanh la
  have v267 : FVec F S256x128 .f32 := mulf v265 v265
  have cst_106 : F .f32 := Scalar.ofBits .f32 0xBF800000#32
  have v268 : FVec F S256x128 .f32 := broadcast S256x128 cst_106
  have v269 : FVec F S256x128 .f32 := subf v268 v267
  have v270 : FVec F S256x128 .f32 := mulf v266 v269
  have cst_107 : F .f32 := Scalar.ofBits .f32 0x00000000#32
  have v271 : FVec F S256x128 .f32 := broadcast S256x128 cst_107
  have v272 : IVec S256x128 1 := cmpf .ogt v270 v271
  have v273 : FVec F S256x128 .f32 := rsqrt v270
  have v274 : FVec F S256x128 .f32 := mulf v270 v273
  have cst_108 : F .f32 := Scalar.ofBits .f32 0x00000000#32
  have v275 : FVec F S256x128 .f32 := broadcast S256x128 cst_108
  have v276 : FVec F S256x128 .f32 := select v272 v274 v275
  have cst_109 : F .f32 := Scalar.ofBits .f32 0x3F800000#32
  have v277 : FVec F S256x128 .f32 := broadcast S256x128 cst_109
  have v278 : FVec F S256x128 .f32 := addf v277 ti
  have v279 : FVec F S256x128 .f32 := mulf v278 xh
  have v280 : FVec F S256x128 .f32 := mulf v276 v279
  v280

/-- The products of decays over the rows of a group, up to each row. -/
def cScanA (a b : FVec F S256x128 .f32) : FVec F S32x8x128 .f32 :=
  have v3 : IVec S32x8x128 32 := iota .tc S32x8x128 32 [1] iota_S32x8x128_d1_w32
  have v297 : FVec F S32x8x128 .f32 := shapeCast S32x8x128 a shapeCasts_S256x128_S32x8x128
  have v298 : FVec F S32x8x128 .f32 := shapeCast S32x8x128 b shapeCasts_S256x128_S32x8x128
  let c1_i32_127 : BitVec 32 := 1#32
  have v299 : IVec S32x8x128 32 := broadcast S32x8x128 c1_i32_127
  have v300 : IVec S32x8x128 1 := cmpi .sge v3 v299
  let c1_i32_128 : BitVec 32 := 1#32
  have v301 : FVec F S32x8x128 .f32 := dynamicRotate 1 c1_i32_128 none v297 rotates_S32x8x128_d1
  let c1_i32_129 : BitVec 32 := 1#32
  have v302 : FVec F S32x8x128 .f32 := dynamicRotate 1 c1_i32_129 none v298 rotates_S32x8x128_d1
  have v303 : FVec F S32x8x128 .f32 := mulf v297 v302
  have v304 : FVec F S32x8x128 .f32 := addf v303 v298
  have v305 : FVec F S32x8x128 .f32 := select v300 v304 v298
  have v306 : FVec F S32x8x128 .f32 := mulf v297 v301
  have v307 : FVec F S32x8x128 .f32 := select v300 v306 v297
  let c2_i32_130 : BitVec 32 := 2#32
  have v308 : IVec S32x8x128 32 := broadcast S32x8x128 c2_i32_130
  have v309 : IVec S32x8x128 1 := cmpi .sge v3 v308
  let c2_i32_131 : BitVec 32 := 2#32
  have v310 : FVec F S32x8x128 .f32 := dynamicRotate 1 c2_i32_131 none v307 rotates_S32x8x128_d1
  let c2_i32_132 : BitVec 32 := 2#32
  have v311 : FVec F S32x8x128 .f32 := dynamicRotate 1 c2_i32_132 none v305 rotates_S32x8x128_d1
  have v312 : FVec F S32x8x128 .f32 := mulf v307 v311
  have v313 : FVec F S32x8x128 .f32 := addf v312 v305
  have v314 : FVec F S32x8x128 .f32 := select v309 v313 v305
  have v315 : FVec F S32x8x128 .f32 := mulf v307 v310
  have v316 : FVec F S32x8x128 .f32 := select v309 v315 v307
  let c4_i32_133 : BitVec 32 := 4#32
  have v317 : IVec S32x8x128 32 := broadcast S32x8x128 c4_i32_133
  have v318 : IVec S32x8x128 1 := cmpi .sge v3 v317
  let c4_i32_134 : BitVec 32 := 4#32
  have v319 : FVec F S32x8x128 .f32 := dynamicRotate 1 c4_i32_134 none v316 rotates_S32x8x128_d1
  let c4_i32_135 : BitVec 32 := 4#32
  have v320 : FVec F S32x8x128 .f32 := dynamicRotate 1 c4_i32_135 none v314 rotates_S32x8x128_d1
  have v321 : FVec F S32x8x128 .f32 := mulf v316 v320
  have v322 : FVec F S32x8x128 .f32 := addf v321 v314
  have v323 : FVec F S32x8x128 .f32 := select v318 v322 v314
  have v324 : FVec F S32x8x128 .f32 := mulf v316 v319
  have v325 : FVec F S32x8x128 .f32 := select v318 v324 v316
  have v328 : FVec F S32x8x128 .f32 := shapeCast S32x8x128 v325 shapeCasts_S32x8x128_S32x8x128
  v328

/-- The recurrence within a group from nothing. -/
def cScanB (a b : FVec F S256x128 .f32) : FVec F S32x8x128 .f32 :=
  have v3 : IVec S32x8x128 32 := iota .tc S32x8x128 32 [1] iota_S32x8x128_d1_w32
  have v297 : FVec F S32x8x128 .f32 := shapeCast S32x8x128 a shapeCasts_S256x128_S32x8x128
  have v298 : FVec F S32x8x128 .f32 := shapeCast S32x8x128 b shapeCasts_S256x128_S32x8x128
  let c1_i32_127 : BitVec 32 := 1#32
  have v299 : IVec S32x8x128 32 := broadcast S32x8x128 c1_i32_127
  have v300 : IVec S32x8x128 1 := cmpi .sge v3 v299
  let c1_i32_128 : BitVec 32 := 1#32
  have v301 : FVec F S32x8x128 .f32 := dynamicRotate 1 c1_i32_128 none v297 rotates_S32x8x128_d1
  let c1_i32_129 : BitVec 32 := 1#32
  have v302 : FVec F S32x8x128 .f32 := dynamicRotate 1 c1_i32_129 none v298 rotates_S32x8x128_d1
  have v303 : FVec F S32x8x128 .f32 := mulf v297 v302
  have v304 : FVec F S32x8x128 .f32 := addf v303 v298
  have v305 : FVec F S32x8x128 .f32 := select v300 v304 v298
  have v306 : FVec F S32x8x128 .f32 := mulf v297 v301
  have v307 : FVec F S32x8x128 .f32 := select v300 v306 v297
  let c2_i32_130 : BitVec 32 := 2#32
  have v308 : IVec S32x8x128 32 := broadcast S32x8x128 c2_i32_130
  have v309 : IVec S32x8x128 1 := cmpi .sge v3 v308
  let c2_i32_131 : BitVec 32 := 2#32
  have v310 : FVec F S32x8x128 .f32 := dynamicRotate 1 c2_i32_131 none v307 rotates_S32x8x128_d1
  let c2_i32_132 : BitVec 32 := 2#32
  have v311 : FVec F S32x8x128 .f32 := dynamicRotate 1 c2_i32_132 none v305 rotates_S32x8x128_d1
  have v312 : FVec F S32x8x128 .f32 := mulf v307 v311
  have v313 : FVec F S32x8x128 .f32 := addf v312 v305
  have v314 : FVec F S32x8x128 .f32 := select v309 v313 v305
  have v315 : FVec F S32x8x128 .f32 := mulf v307 v310
  have v316 : FVec F S32x8x128 .f32 := select v309 v315 v307
  let c4_i32_133 : BitVec 32 := 4#32
  have v317 : IVec S32x8x128 32 := broadcast S32x8x128 c4_i32_133
  have v318 : IVec S32x8x128 1 := cmpi .sge v3 v317
  let c4_i32_134 : BitVec 32 := 4#32
  have v319 : FVec F S32x8x128 .f32 := dynamicRotate 1 c4_i32_134 none v316 rotates_S32x8x128_d1
  let c4_i32_135 : BitVec 32 := 4#32
  have v320 : FVec F S32x8x128 .f32 := dynamicRotate 1 c4_i32_135 none v314 rotates_S32x8x128_d1
  have v321 : FVec F S32x8x128 .f32 := mulf v316 v320
  have v322 : FVec F S32x8x128 .f32 := addf v321 v314
  have v323 : FVec F S32x8x128 .f32 := select v318 v322 v314
  have v324 : FVec F S32x8x128 .f32 := mulf v316 v319
  have v325 : FVec F S32x8x128 .f32 := select v318 v324 v316
  have v331 : FVec F S32x8x128 .f32 := shapeCast S32x8x128 v323 shapeCasts_S32x8x128_S32x8x128
  v331

/-! ## The pieces of the body -/

theorem inbU : ∀ n : Fin 8, ∀ a, (![0, 128 * n.val] : Fin 2 → Nat) a + S256x128.size a ≤ S256x1024.size a := by decide
theorem inbE : ∀ n : Fin 8, ∀ a, (![0, 128 * n.val] : Fin 2 → Nat) a + S8x128.size a ≤ S8x1024.size a := by decide
theorem inbC : ∀ n : Fin 8, ∀ a, (![0, 128 * n.val] : Fin 2 → Nat) a + S4x128.size a ≤ S4x1024.size a := by decide
theorem inbV : ∀ n : Fin 8, ∀ a, (![0, 128 * n.val] : Fin 2 → Nat) a + S1x128.size a ≤ S1x1024.size a := by decide
theorem inbW : ∀ n : Fin 8, ∀ a, (![n.val, 0, 0] : Fin 3 → Nat) a + S1x128x128.size a ≤ S8x128x128.size a := by decide
theorem inbS : ∀ n : Fin 8, ∀ a, (![0, 256 * n.val] : Fin 2 → Nat) a + S512x256.size a ≤ S512x2048.size a := by decide
theorem inbT : ∀ n : Fin 8, ∀ a, (![256 * n.val, 0] : Fin 2 → Nat) a + S256x512.size a ≤ S2048x512.size a := by decide
theorem inbA : ∀ n : Fin 8, ∀ a, (![0, 0, 128 * n.val] : Fin 3 → Nat) a + S32x8x128.size a ≤ S32x8x1024.size a := by decide
theorem inbG : ∀ g : Fin 32, ∀ a, (![g.val, 0, 0] : Fin 3 → Nat) a + S1x8x1024.size a ≤ S32x8x1024.size a := by decide

/-- The decays of a chunk and its input terms, of what it reads. -/
def headVal (cw : Vec F S4x128 .f32) (u : Vec F S256x128 .f32) (prev : Vec F S8x128 .f32) (cb : Vec F S1x128 .f32) (wa wx : Vec F S1x128x128 .f32) (ba bx lam : Vec F S1x128 .f32) : FVec F S256x128 .f32 × FVec F S256x128 .f32 :=
  (exp (cLog (cTanh (cConv cw u prev cb) wa ba) lam), cB (cLog (cTanh (cConv cw u prev cb) wa ba) lam) (cTanh (cConv cw u prev cb) wx bx) (cConv cw u prev cb))

/-- A chunk of channels up to its decays and input terms. -/
def chunkHead (n : Fin 8) (arg3 : MR S256x1024 .f32) (arg5 : MR S4x1024 .f32) (arg25 : MR S8x1024 .f32) (arg6 : MR S1x1024 .f32) (arg7 arg9 : MR S8x128x128 .f32) (arg8 arg10 arg11 : MR S1x1024 .f32) :
    Prog (TpuEff nD τ sig (Elt F) Λ₀ .tc) (FVec F S256x128 .f32 × FVec F S256x128 .f32) := do
  let cw : Vec F S4x128 .f32 ← Prog.lift (.load arg5 (Rect.unit (s := S4x1024) ![0, 128 * n.val] S4x128.size (inbC n)).toLoadRect (View.loadsAt_vmem h_S4x128))
  let u : Vec F S256x128 .f32 ← Prog.lift (.load arg3 (Rect.unit (s := S256x1024) ![0, 128 * n.val] S256x128.size (inbU n)).toLoadRect (View.loadsAt_vmem h_S256x128))
  let prev : Vec F S8x128 .f32 ← Prog.lift (.load arg25 (Rect.unit (s := S8x1024) ![0, 128 * n.val] S8x128.size (inbE n)).toLoadRect (View.loadsAt_vmem h_S8x128))
  let cb : Vec F S1x128 .f32 ← Prog.lift (.load arg6 (Rect.unit (s := S1x1024) ![0, 128 * n.val] S1x128.size (inbV n)).toLoadRect (View.loadsAt_vmem h_S1x128))
  let wa : Vec F S1x128x128 .f32 ← Prog.lift (.load arg7 (Rect.unit (s := S8x128x128) ![n.val, 0, 0] S1x128x128.size (inbW n)).toLoadRect (View.loadsAt_vmem h_S1x128x128))
  let wx : Vec F S1x128x128 .f32 ← Prog.lift (.load arg9 (Rect.unit (s := S8x128x128) ![n.val, 0, 0] S1x128x128.size (inbW n)).toLoadRect (View.loadsAt_vmem h_S1x128x128))
  let ba : Vec F S1x128 .f32 ← Prog.lift (.load arg8 (Rect.unit (s := S1x1024) ![0, 128 * n.val] S1x128.size (inbV n)).toLoadRect (View.loadsAt_vmem h_S1x128))
  let bx : Vec F S1x128 .f32 ← Prog.lift (.load arg10 (Rect.unit (s := S1x1024) ![0, 128 * n.val] S1x128.size (inbV n)).toLoadRect (View.loadsAt_vmem h_S1x128))
  let lam : Vec F S1x128 .f32 ← Prog.lift (.load arg11 (Rect.unit (s := S1x1024) ![0, 128 * n.val] S1x128.size (inbV n)).toLoadRect (View.loadsAt_vmem h_S1x128))
  pure (headVal cw u prev cb wa wx ba bx lam)

/-- A partial product of the projections done beside the recurrence. -/
def part (x : Vec F S512x256 .bf16) (w : Vec F S256x512 .bf16) : FVec F S512x512 .f32 :=
  matmul dot_S512x256_S256x512_S512x512_1_0_0_1_n_n none x w (constant S512x512 .f32 0x00000000#32)

/-- The first partial products. -/
def side0 (n : Fin 8) (arg14 : MR S512x2048 .bf16) (arg30 : MR S2048x512 .bf16) (arg31 : MR S512x512 .f32) (arg32 : MR S2048x512 .bf16) (arg33 : MR S512x512 .f32) : Prog (TpuEff nD τ sig (Elt F) Λ₀ .tc) PUnit := do
  let x0 : Vec F S512x256 .bf16 ← Prog.lift (.load arg14 (Rect.unit (s := S512x2048) ![0, 256 * n.val] S512x256.size (inbS n)).toLoadRect (View.loadsAt_vmem h_S512x256))
  let w0 : Vec F S256x512 .bf16 ← Prog.lift (.load arg30 (Rect.unit (s := S2048x512) ![256 * n.val, 0] S256x512.size (inbT n)).toLoadRect (View.loadsAt_vmem h_S256x512))
  let y0 : Vec F S512x512 .f32 ← Prog.lift (.load arg31 (Rect.unit (s := S512x512) ![0, 0] S512x512.size inb_S512x512_S512x512_0_0).toLoadRect (View.loadsAt_vmem h_S512x512))
  Prog.lift (.store arg31 (Rect.unit (s := S512x512) ![0, 0] S512x512.size inb_S512x512_S512x512_0_0) (shapeCast S512x512 (part x0 w0) shapeCasts_S512x512_S512x512) Finset.univ (View.stores_vmem_bits_univ h_S512x512 rfl) (.inl rfl))
  let x1 : Vec F S512x256 .bf16 ← Prog.lift (.load arg14 (Rect.unit (s := S512x2048) ![0, 256 * n.val] S512x256.size (inbS n)).toLoadRect (View.loadsAt_vmem h_S512x256))
  let w1 : Vec F S256x512 .bf16 ← Prog.lift (.load arg32 (Rect.unit (s := S2048x512) ![256 * n.val, 0] S256x512.size (inbT n)).toLoadRect (View.loadsAt_vmem h_S256x512))
  let y1 : Vec F S512x512 .f32 ← Prog.lift (.load arg33 (Rect.unit (s := S512x512) ![0, 0] S512x512.size inb_S512x512_S512x512_0_0).toLoadRect (View.loadsAt_vmem h_S512x512))
  Prog.lift (.store arg33 (Rect.unit (s := S512x512) ![0, 0] S512x512.size inb_S512x512_S512x512_0_0) (shapeCast S512x512 (part x1 w1) shapeCasts_S512x512_S512x512) Finset.univ (View.stores_vmem_bits_univ h_S512x512 rfl) (.inl rfl))

/-- The next partial products. -/
def sideMid (n : Fin 8) (arg14 : MR S512x2048 .bf16) (arg30 : MR S2048x512 .bf16) (arg31 : MR S512x512 .f32) (arg32 : MR S2048x512 .bf16) (arg33 : MR S512x512 .f32) : Prog (TpuEff nD τ sig (Elt F) Λ₀ .tc) PUnit := do
  let x0 : Vec F S512x256 .bf16 ← Prog.lift (.load arg14 (Rect.unit (s := S512x2048) ![0, 256 * n.val] S512x256.size (inbS n)).toLoadRect (View.loadsAt_vmem h_S512x256))
  let w0 : Vec F S256x512 .bf16 ← Prog.lift (.load arg30 (Rect.unit (s := S2048x512) ![256 * n.val, 0] S256x512.size (inbT n)).toLoadRect (View.loadsAt_vmem h_S256x512))
  let y0 : Vec F S512x512 .f32 ← Prog.lift (.load arg31 (Rect.unit (s := S512x512) ![0, 0] S512x512.size inb_S512x512_S512x512_0_0).toLoadRect (View.loadsAt_vmem h_S512x512))
  let z0 : Vec F S512x512 .f32 ← Prog.lift (.load arg31 (Rect.unit (s := S512x512) ![0, 0] S512x512.size inb_S512x512_S512x512_0_0).toLoadRect (View.loadsAt_vmem h_S512x512))
  Prog.lift (.store arg31 (Rect.unit (s := S512x512) ![0, 0] S512x512.size inb_S512x512_S512x512_0_0) (shapeCast S512x512 (addf y0 (part x0 w0)) shapeCasts_S512x512_S512x512) Finset.univ (View.stores_vmem_bits_univ h_S512x512 rfl) (.inl rfl))
  let x1 : Vec F S512x256 .bf16 ← Prog.lift (.load arg14 (Rect.unit (s := S512x2048) ![0, 256 * n.val] S512x256.size (inbS n)).toLoadRect (View.loadsAt_vmem h_S512x256))
  let w1 : Vec F S256x512 .bf16 ← Prog.lift (.load arg32 (Rect.unit (s := S2048x512) ![256 * n.val, 0] S256x512.size (inbT n)).toLoadRect (View.loadsAt_vmem h_S256x512))
  let y1 : Vec F S512x512 .f32 ← Prog.lift (.load arg33 (Rect.unit (s := S512x512) ![0, 0] S512x512.size inb_S512x512_S512x512_0_0).toLoadRect (View.loadsAt_vmem h_S512x512))
  let z1 : Vec F S512x512 .f32 ← Prog.lift (.load arg33 (Rect.unit (s := S512x512) ![0, 0] S512x512.size inb_S512x512_S512x512_0_0).toLoadRect (View.loadsAt_vmem h_S512x512))
  Prog.lift (.store arg33 (Rect.unit (s := S512x512) ![0, 0] S512x512.size inb_S512x512_S512x512_0_0) (shapeCast S512x512 (addf y1 (part x1 w1)) shapeCasts_S512x512_S512x512) Finset.univ (View.stores_vmem_bits_univ h_S512x512 rfl) (.inl rfl))

/-- The last partial products, and the finished blocks. -/
def sideLast (n : Fin 8) (arg14 : MR S512x2048 .bf16) (arg30 : MR S2048x512 .bf16) (arg31 : MR S512x512 .f32) (arg32 : MR S2048x512 .bf16) (arg33 : MR S512x512 .f32) (arg21 : MR S512x512 .bf16) (harg21 : arg21.IsWhole) (arg23 : MR S512x512 .f32) : Prog (TpuEff nD τ sig (Elt F) Λ₀ .tc) PUnit := do
  let x0 : Vec F S512x256 .bf16 ← Prog.lift (.load arg14 (Rect.unit (s := S512x2048) ![0, 256 * n.val] S512x256.size (inbS n)).toLoadRect (View.loadsAt_vmem h_S512x256))
  let w0 : Vec F S256x512 .bf16 ← Prog.lift (.load arg30 (Rect.unit (s := S2048x512) ![256 * n.val, 0] S256x512.size (inbT n)).toLoadRect (View.loadsAt_vmem h_S256x512))
  let y0 : Vec F S512x512 .f32 ← Prog.lift (.load arg31 (Rect.unit (s := S512x512) ![0, 0] S512x512.size inb_S512x512_S512x512_0_0).toLoadRect (View.loadsAt_vmem h_S512x512))
  let z0 : Vec F S512x512 .bf16 ← Prog.lift (.load arg21 (Rect.unit (s := S512x512) ![0, 0] S512x512.size inb_S512x512_S512x512_0_0).toLoadRect (View.loadsAt_vmem h_S512x512))
  Prog.lift (.store arg21 (Rect.unit (s := S512x512) ![0, 0] S512x512.size inb_S512x512_S512x512_0_0) (truncf .bf16 (addf y0 (part x0 w0)) bitsLt_bf16_f32) Finset.univ (View.stores_vmem h_S512x512 (harg21.storeExact_slice rfl _ packedbf16_S512x512_S512x512_0_0) (fun _ => rfl)) (.inl rfl))
  let x1 : Vec F S512x256 .bf16 ← Prog.lift (.load arg14 (Rect.unit (s := S512x2048) ![0, 256 * n.val] S512x256.size (inbS n)).toLoadRect (View.loadsAt_vmem h_S512x256))
  let w1 : Vec F S256x512 .bf16 ← Prog.lift (.load arg32 (Rect.unit (s := S2048x512) ![256 * n.val, 0] S256x512.size (inbT n)).toLoadRect (View.loadsAt_vmem h_S256x512))
  let y1 : Vec F S512x512 .f32 ← Prog.lift (.load arg33 (Rect.unit (s := S512x512) ![0, 0] S512x512.size inb_S512x512_S512x512_0_0).toLoadRect (View.loadsAt_vmem h_S512x512))
  let z1 : Vec F S512x512 .f32 ← Prog.lift (.load arg23 (Rect.unit (s := S512x512) ![0, 0] S512x512.size inb_S512x512_S512x512_0_0).toLoadRect (View.loadsAt_vmem h_S512x512))
  Prog.lift (.store arg23 (Rect.unit (s := S512x512) ![0, 0] S512x512.size inb_S512x512_S512x512_0_0) (addf y1 (part x1 w1)) Finset.univ (View.stores_vmem_bits_univ h_S512x512 rfl) (.inl rfl))

/-- The end of a chunk: its scans are kept. -/
def chunkTail (n : Fin 8) (a b : FVec F S256x128 .f32) (arg26 arg27 : MR S32x8x1024 .f32) : Prog (TpuEff nD τ sig (Elt F) Λ₀ .tc) PUnit := do
  let x : Vec F S32x8x128 .f32 ← Prog.lift (.load arg26 (Rect.unit (s := S32x8x1024) ![0, 0, 128 * n.val] S32x8x128.size (inbA n)).toLoadRect (View.loadsAt_vmem h_S32x8x128))
  Prog.lift (.store arg26 (Rect.unit (s := S32x8x1024) ![0, 0, 128 * n.val] S32x8x128.size (inbA n)) (cScanA a b) Finset.univ (View.stores_vmem_bits_univ h_S32x8x128 rfl) (.inl rfl))
  let y : Vec F S32x8x128 .f32 ← Prog.lift (.load arg27 (Rect.unit (s := S32x8x1024) ![0, 0, 128 * n.val] S32x8x128.size (inbA n)).toLoadRect (View.loadsAt_vmem h_S32x8x128))
  Prog.lift (.store arg27 (Rect.unit (s := S32x8x1024) ![0, 0, 128 * n.val] S32x8x128.size (inbA n)) (cScanB a b) Finset.univ (View.stores_vmem_bits_univ h_S32x8x128 rfl) (.inl rfl))

/-- The chunks between the first and the last. -/
def mids (arg3 : MR S256x1024 .f32) (arg5 : MR S4x1024 .f32) (arg25 : MR S8x1024 .f32) (arg6 : MR S1x1024 .f32) (arg7 arg9 : MR S8x128x128 .f32) (arg8 arg10 arg11 : MR S1x1024 .f32) (arg14 : MR S512x2048 .bf16) (arg30 : MR S2048x512 .bf16) (arg31 : MR S512x512 .f32) (arg32 : MR S2048x512 .bf16) (arg33 : MR S512x512 .f32) (arg26 arg27 : MR S32x8x1024 .f32) : (k n : ℕ) → n + k ≤ 8 → Prog (TpuEff nD τ sig (Elt F) Λ₀ .tc) PUnit
  | 0, _, _ => pure ⟨⟩
  | k + 1, n, h => do
    let p ← chunkHead ⟨n, by omega⟩ arg3 arg5 arg25 arg6 arg7 arg9 arg8 arg10 arg11
    sideMid ⟨n, by omega⟩ arg14 arg30 arg31 arg32 arg33
    chunkTail ⟨n, by omega⟩ p.1 p.2 arg26 arg27
    mids arg3 arg5 arg25 arg6 arg7 arg9 arg8 arg10 arg11 arg14 arg30 arg31 arg32 arg33 arg26 arg27 k (n + 1) (by omega)

/-- The rows of a group from the last row before it. -/
def gRow (a b : Vec F S1x8x1024 .f32) (h : FVec F S1x1024 .f32) : FVec F S8x1024 .f32 :=
  addf (mulf (shapeCast S8x1024 a shapeCasts_S1x8x1024_S8x1024) (broadcastTo S8x1024 h broadcasts_S1x1024_S8x1024)) (shapeCast S8x1024 b shapeCasts_S1x8x1024_S8x1024)
/-- A group's last row. -/
def gLast (x : FVec F S8x1024 .f32) : FVec F S1x1024 .f32 := extractStridedSlice S1x1024 ![7, 0] x slices_S8x1024_o7_0_S1x1024

/-- One group of rows. -/
def group (g : Fin 32) (h : FVec F S1x1024 .f32) (arg26 arg27 arg28 : MR S32x8x1024 .f32) : Prog (TpuEff nD τ sig (Elt F) Λ₀ .tc) (FVec F S1x1024 .f32) := do
  let a : Vec F S1x8x1024 .f32 ← Prog.lift (.load arg26 (Rect.unit (s := S32x8x1024) ![g.val, 0, 0] S1x8x1024.size (inbG g)).toLoadRect (View.loadsAt_vmem h_S1x8x1024))
  let b : Vec F S1x8x1024 .f32 ← Prog.lift (.load arg27 (Rect.unit (s := S32x8x1024) ![g.val, 0, 0] S1x8x1024.size (inbG g)).toLoadRect (View.loadsAt_vmem h_S1x8x1024))
  let z : Vec F S1x8x1024 .f32 ← Prog.lift (.load arg28 (Rect.unit (s := S32x8x1024) ![g.val, 0, 0] S1x8x1024.size (inbG g)).toLoadRect (View.loadsAt_vmem h_S1x8x1024))
  Prog.lift (.store arg28 (Rect.unit (s := S32x8x1024) ![g.val, 0, 0] S1x8x1024.size (inbG g)) (shapeCast S1x8x1024 (gRow a b h) shapeCasts_S8x1024_S1x8x1024) Finset.univ (View.stores_vmem_bits_univ h_S1x8x1024 rfl) (.inl rfl))
  pure (gLast (gRow a b h))

/-- The groups in order. -/
def groups (arg26 arg27 arg28 : MR S32x8x1024 .f32) : (k g : ℕ) → g + k ≤ 32 → FVec F S1x1024 .f32 → Prog (TpuEff nD τ sig (Elt F) Λ₀ .tc) (FVec F S1x1024 .f32)
  | 0, _, _, h => pure h
  | k + 1, g, hg, h => do
    let h' ← group ⟨g, by omega⟩ h arg26 arg27 arg28
    groups arg26 arg27 arg28 k (g + 1) (by omega) h'

/-- What the first tile of a block does first. -/
def init (arg12 : MR S1x8x1024 .f32) (arg13 : MR S1x1x1024 .f32) (arg15 : MR S128x2048 .bf16) (arg16 arg17 : MR S2048x512 .f32) (arg22 : MR S128x512 .bf16) (harg22 : arg22.IsWhole) (arg24 : MR S128x512 .f32) (arg25 : MR S8x1024 .f32) (arg29 : MR S1x1024 .f32) (arg30 : MR S2048x512 .bf16) (harg30 : arg30.IsWhole) (arg32 : MR S2048x512 .bf16) (harg32 : arg32.IsWhole) : Prog (TpuEff nD τ sig (Elt F) Λ₀ .tc) PUnit := do
  let v1807 : Vec F S1x8x1024 .f32 ← Prog.lift (.load arg12 (Rect.unit (s := S1x8x1024) ![0, 0, 0] S1x8x1024.size inb_S1x8x1024_S1x8x1024_0_0_0).toLoadRect (View.loadsAt_vmem h_S1x8x1024))
  have v1808 : FVec F S8x1024 .f32 := shapeCast S8x1024 v1807 shapeCasts_S1x8x1024_S8x1024
  let v1809 : Vec F S8x1024 .f32 ← Prog.lift (.load arg25 (Rect.unit (s := S8x1024) ![0, 0] S8x1024.size inb_S8x1024_S8x1024_0_0).toLoadRect (View.loadsAt_vmem h_S8x1024))
  have v1810 : FVec F S8x1024 .f32 := shapeCast S8x1024 v1809 shapeCasts_S8x1024_S8x1024
  have v1811 : FVec F S8x1024 .f32 := shapeCast S8x1024 v1808 shapeCasts_S8x1024_S8x1024
  Prog.lift (.store arg25 (Rect.unit (s := S8x1024) ![0, 0] S8x1024.size inb_S8x1024_S8x1024_0_0) v1811 Finset.univ (View.stores_vmem_bits_univ h_S8x1024 rfl) (.inl rfl))
  let v1812 : Vec F S1x1x1024 .f32 ← Prog.lift (.load arg13 (Rect.unit (s := S1x1x1024) ![0, 0, 0] S1x1x1024.size inb_S1x1x1024_S1x1x1024_0_0_0).toLoadRect (View.loadsAt_vmem h_S1x1x1024))
  have v1813 : FVec F S1x1024 .f32 := shapeCast S1x1024 v1812 shapeCasts_S1x1x1024_S1x1024
  let v1814 : Vec F S1x1024 .f32 ← Prog.lift (.load arg29 (Rect.unit (s := S1x1024) ![0, 0] S1x1024.size inb_S1x1024_S1x1024_0_0).toLoadRect (View.loadsAt_vmem h_S1x1024))
  have v1815 : FVec F S1x1024 .f32 := shapeCast S1x1024 v1814 shapeCasts_S1x1024_S1x1024
  have v1816 : FVec F S1x1024 .f32 := shapeCast S1x1024 v1813 shapeCasts_S1x1024_S1x1024
  Prog.lift (.store arg29 (Rect.unit (s := S1x1024) ![0, 0] S1x1024.size inb_S1x1024_S1x1024_0_0) v1816 Finset.univ (View.stores_vmem_bits_univ h_S1x1024 rfl) (.inl rfl))
  let v1817 : Vec F S2048x512 .f32 ← Prog.lift (.load arg16 (Rect.unit (s := S2048x512) ![0, 0] S2048x512.size inb_S2048x512_S2048x512_0_0).toLoadRect (View.loadsAt_vmem h_S2048x512))
  have v1818 : FVec F S2048x512 .f32 := shapeCast S2048x512 v1817 shapeCasts_S2048x512_S2048x512
  have v1819 : FVec F S2048x512 .bf16 := truncf .bf16 v1818 bitsLt_bf16_f32
  let v1820 : Vec F S2048x512 .bf16 ← Prog.lift (.load arg30 (Rect.unit (s := S2048x512) ![0, 0] S2048x512.size inb_S2048x512_S2048x512_0_0).toLoadRect (View.loadsAt_vmem h_S2048x512))
  have v1821 : FVec F S2048x512 .bf16 := shapeCast S2048x512 v1820 shapeCasts_S2048x512_S2048x512
  have v1822 : FVec F S2048x512 .bf16 := shapeCast S2048x512 v1819 shapeCasts_S2048x512_S2048x512
  Prog.lift (.store arg30 (Rect.unit (s := S2048x512) ![0, 0] S2048x512.size inb_S2048x512_S2048x512_0_0) v1822 Finset.univ (View.stores_vmem h_S2048x512 (harg30.storeExact_slice rfl _ packedbf16_S2048x512_S2048x512_0_0) (fun _ => rfl)) (.inl rfl))
  let v1823 : Vec F S128x2048 .bf16 ← Prog.lift (.load arg15 (Rect.unit (s := S128x2048) ![0, 0] S128x2048.size inb_S128x2048_S128x2048_0_0).toLoadRect (View.loadsAt_vmem h_S128x2048))
  let v1824 : Vec F S2048x512 .bf16 ← Prog.lift (.load arg30 (Rect.unit (s := S2048x512) ![0, 0] S2048x512.size inb_S2048x512_S2048x512_0_0).toLoadRect (View.loadsAt_vmem h_S2048x512))
  have cst_830 : FVec F S128x512 .f32 := constant S128x512 .f32 0x00000000#32
  have v1825 : FVec F S128x512 .f32 := matmul dot_S128x2048_S2048x512_S128x512_1_0_0_1_n_n none v1823 v1824 cst_830
  have v1826 : FVec F S128x512 .bf16 := truncf .bf16 v1825 bitsLt_bf16_f32
  let v1827 : Vec F S128x512 .bf16 ← Prog.lift (.load arg22 (Rect.unit (s := S128x512) ![0, 0] S128x512.size inb_S128x512_S128x512_0_0).toLoadRect (View.loadsAt_vmem h_S128x512))
  Prog.lift (.store arg22 (Rect.unit (s := S128x512) ![0, 0] S128x512.size inb_S128x512_S128x512_0_0) v1826 Finset.univ (View.stores_vmem h_S128x512 (harg22.storeExact_slice rfl _ packedbf16_S128x512_S128x512_0_0) (fun _ => rfl)) (.inl rfl))
  let v1828 : Vec F S2048x512 .f32 ← Prog.lift (.load arg17 (Rect.unit (s := S2048x512) ![0, 0] S2048x512.size inb_S2048x512_S2048x512_0_0).toLoadRect (View.loadsAt_vmem h_S2048x512))
  have v1829 : FVec F S2048x512 .f32 := shapeCast S2048x512 v1828 shapeCasts_S2048x512_S2048x512
  have v1830 : FVec F S2048x512 .bf16 := truncf .bf16 v1829 bitsLt_bf16_f32
  let v1831 : Vec F S2048x512 .bf16 ← Prog.lift (.load arg32 (Rect.unit (s := S2048x512) ![0, 0] S2048x512.size inb_S2048x512_S2048x512_0_0).toLoadRect (View.loadsAt_vmem h_S2048x512))
  have v1832 : FVec F S2048x512 .bf16 := shapeCast S2048x512 v1831 shapeCasts_S2048x512_S2048x512
  have v1833 : FVec F S2048x512 .bf16 := shapeCast S2048x512 v1830 shapeCasts_S2048x512_S2048x512
  Prog.lift (.store arg32 (Rect.unit (s := S2048x512) ![0, 0] S2048x512.size inb_S2048x512_S2048x512_0_0) v1833 Finset.univ (View.stores_vmem h_S2048x512 (harg32.storeExact_slice rfl _ packedbf16_S2048x512_S2048x512_0_0) (fun _ => rfl)) (.inl rfl))
  let v1834 : Vec F S128x2048 .bf16 ← Prog.lift (.load arg15 (Rect.unit (s := S128x2048) ![0, 0] S128x2048.size inb_S128x2048_S128x2048_0_0).toLoadRect (View.loadsAt_vmem h_S128x2048))
  let v1835 : Vec F S2048x512 .bf16 ← Prog.lift (.load arg32 (Rect.unit (s := S2048x512) ![0, 0] S2048x512.size inb_S2048x512_S2048x512_0_0).toLoadRect (View.loadsAt_vmem h_S2048x512))
  have cst_841 : FVec F S128x512 .f32 := constant S128x512 .f32 0x00000000#32
  have v1836 : FVec F S128x512 .f32 := matmul dot_S128x2048_S2048x512_S128x512_1_0_0_1_n_n none v1834 v1835 cst_841
  let v1837 : Vec F S128x512 .f32 ← Prog.lift (.load arg24 (Rect.unit (s := S128x512) ![0, 0] S128x512.size inb_S128x512_S128x512_0_0).toLoadRect (View.loadsAt_vmem h_S128x512))
  Prog.lift (.store arg24 (Rect.unit (s := S128x512) ![0, 0] S128x512.size inb_S128x512_S128x512_0_0) v1836 Finset.univ (View.stores_vmem_bits_univ h_S128x512 rfl) (.inl rfl))
  pure ⟨⟩
  pure ⟨⟩

/-- The gated tile. -/
def yOut (h : Vec F S32x8x1024 .f32) (g : Vec F S256x1024 .f32) : FVec F S256x1024 .bf16 :=
  have v1778 : FVec F S256x1024 .f32 := shapeCast S256x1024 h shapeCasts_S32x8x1024_S256x1024
  have v1780 : FVec F S256x1024 .f32 := mulf g g
  have v1781 : FVec F S256x1024 .f32 := mulf g v1780
  have cst_795 : F .f32 := Scalar.ofBits .f32 0x3D372713#32
  have v1782 : FVec F S256x1024 .f32 := broadcast S256x1024 cst_795
  have v1783 : FVec F S256x1024 .f32 := mulf v1782 v1781
  have v1784 : FVec F S256x1024 .f32 := addf g v1783
  have cst_796 : F .f32 := Scalar.ofBits .f32 0x3F4C422A#32
  have v1785 : FVec F S256x1024 .f32 := broadcast S256x1024 cst_796
  have v1786 : FVec F S256x1024 .f32 := mulf v1785 v1784
  have v1787 : FVec F S256x1024 .f32 := tanh v1786
  have cst_797 : F .f32 := Scalar.ofBits .f32 0x3F800000#32
  have v1788 : FVec F S256x1024 .f32 := broadcast S256x1024 cst_797
  have v1789 : FVec F S256x1024 .f32 := addf v1788 v1787
  have cst_798 : F .f32 := Scalar.ofBits .f32 0x3F000000#32
  have v1790 : FVec F S256x1024 .f32 := broadcast S256x1024 cst_798
  have v1791 : FVec F S256x1024 .f32 := mulf v1790 v1789
  have v1792 : FVec F S256x1024 .f32 := mulf g v1791
  have v1793 : FVec F S256x1024 .f32 := mulf v1778 v1792
  have v1794 : FVec F S256x1024 .bf16 := truncf .bf16 v1793 bitsLt_bf16_f32
  v1794

/-- The end of a tile. -/
def final (v1773 : FVec F S1x1024 .f32) (arg3 arg4 : MR S256x1024 .f32) (arg18 : MR S256x1024 .bf16) (harg18 : arg18.IsWhole) (arg19 : MR S1x1x1024 .f32) (arg20 : MR S1x8x1024 .f32) (arg25 : MR S8x1024 .f32) (arg28 : MR S32x8x1024 .f32) (arg29 : MR S1x1024 .f32) : Prog (TpuEff nD τ sig (Elt F) Λ₀ .tc) PUnit := do
  let v1774 : Vec F S1x1024 .f32 ← Prog.lift (.load arg29 (Rect.unit (s := S1x1024) ![0, 0] S1x1024.size inb_S1x1024_S1x1024_0_0).toLoadRect (View.loadsAt_vmem h_S1x1024))
  have v1775 : FVec F S1x1024 .f32 := shapeCast S1x1024 v1774 shapeCasts_S1x1024_S1x1024
  have v1776 : FVec F S1x1024 .f32 := shapeCast S1x1024 v1773 shapeCasts_S1x1024_S1x1024
  Prog.lift (.store arg29 (Rect.unit (s := S1x1024) ![0, 0] S1x1024.size inb_S1x1024_S1x1024_0_0) v1776 Finset.univ (View.stores_vmem_bits_univ h_S1x1024 rfl) (.inl rfl))
  let v1777 : Vec F S32x8x1024 .f32 ← Prog.lift (.load arg28 (Rect.unit (s := S32x8x1024) ![0, 0, 0] S32x8x1024.size inb_S32x8x1024_S32x8x1024_0_0_0).toLoadRect (View.loadsAt_vmem h_S32x8x1024))
  let v1779 : Vec F S256x1024 .f32 ← Prog.lift (.load arg4 (Rect.unit (s := S256x1024) ![0, 0] S256x1024.size inb_S256x1024_S256x1024_0_0).toLoadRect (View.loadsAt_vmem h_S256x1024))
  let v1795 : Vec F S256x1024 .bf16 ← Prog.lift (.load arg18 (Rect.unit (s := S256x1024) ![0, 0] S256x1024.size inb_S256x1024_S256x1024_0_0).toLoadRect (View.loadsAt_vmem h_S256x1024))
  Prog.lift (.store arg18 (Rect.unit (s := S256x1024) ![0, 0] S256x1024.size inb_S256x1024_S256x1024_0_0) (yOut v1777 v1779) Finset.univ (View.stores_vmem h_S256x1024 (harg18.storeExact_slice rfl _ packedbf16_S256x1024_S256x1024_0_0) (fun _ => rfl)) (.inl rfl))
  let v1796 : Vec F S1x1x1024 .f32 ← Prog.lift (.load arg19 (Rect.unit (s := S1x1x1024) ![0, 0, 0] S1x1x1024.size inb_S1x1x1024_S1x1x1024_0_0_0).toLoadRect (View.loadsAt_vmem h_S1x1x1024))
  have v1797 : FVec F S1x1024 .f32 := shapeCast S1x1024 v1796 shapeCasts_S1x1x1024_S1x1024
  have v1798 : FVec F S1x1x1024 .f32 := shapeCast S1x1x1024 v1773 shapeCasts_S1x1024_S1x1x1024
  Prog.lift (.store arg19 (Rect.unit (s := S1x1x1024) ![0, 0, 0] S1x1x1024.size inb_S1x1x1024_S1x1x1024_0_0_0) v1798 Finset.univ (View.stores_vmem_bits_univ h_S1x1x1024 rfl) (.inl rfl))
  let v1799 : Vec F S8x1024 .f32 ← Prog.lift (.load arg3 (Rect.unit (s := S256x1024) ![248, 0] S8x1024.size inb_S256x1024_S8x1024_248_0).toLoadRect (View.loadsAt_vmem h_S8x1024))
  let v1800 : Vec F S8x1024 .f32 ← Prog.lift (.load arg25 (Rect.unit (s := S8x1024) ![0, 0] S8x1024.size inb_S8x1024_S8x1024_0_0).toLoadRect (View.loadsAt_vmem h_S8x1024))
  have v1801 : FVec F S8x1024 .f32 := shapeCast S8x1024 v1800 shapeCasts_S8x1024_S8x1024
  have v1802 : FVec F S8x1024 .f32 := shapeCast S8x1024 v1799 shapeCasts_S8x1024_S8x1024
  Prog.lift (.store arg25 (Rect.unit (s := S8x1024) ![0, 0] S8x1024.size inb_S8x1024_S8x1024_0_0) v1802 Finset.univ (View.stores_vmem_bits_univ h_S8x1024 rfl) (.inl rfl))
  let v1803 : Vec F S8x1024 .f32 ← Prog.lift (.load arg3 (Rect.unit (s := S256x1024) ![248, 0] S8x1024.size inb_S256x1024_S8x1024_248_0).toLoadRect (View.loadsAt_vmem h_S8x1024))
  let v1804 : Vec F S1x8x1024 .f32 ← Prog.lift (.load arg20 (Rect.unit (s := S1x8x1024) ![0, 0, 0] S1x8x1024.size inb_S1x8x1024_S1x8x1024_0_0_0).toLoadRect (View.loadsAt_vmem h_S1x8x1024))
  have v1805 : FVec F S8x1024 .f32 := shapeCast S8x1024 v1804 shapeCasts_S1x8x1024_S8x1024
  have v1806 : FVec F S1x8x1024 .f32 := shapeCast S1x8x1024 v1803 shapeCasts_S8x1024_S1x8x1024
  Prog.lift (.store arg20 (Rect.unit (s := S1x8x1024) ![0, 0, 0] S1x8x1024.size inb_S1x8x1024_S1x8x1024_0_0_0) v1806 Finset.univ (View.stores_vmem_bits_univ h_S1x8x1024 rfl) (.inl rfl))
  pure ⟨⟩

/-- What every point does: the chunks with the partial products between, the groups, and the end. -/
def rest (arg3 arg4 : MR S256x1024 .f32) (arg5 : MR S4x1024 .f32) (arg6 : MR S1x1024 .f32) (arg7 : MR S8x128x128 .f32) (arg8 : MR S1x1024 .f32) (arg9 : MR S8x128x128 .f32) (arg10 arg11 : MR S1x1024 .f32) (arg14 : MR S512x2048 .bf16) (arg18 : MR S256x1024 .bf16) (harg18 : arg18.IsWhole) (arg19 : MR S1x1x1024 .f32) (arg20 : MR S1x8x1024 .f32) (arg21 : MR S512x512 .bf16) (harg21 : arg21.IsWhole) (arg23 : MR S512x512 .f32) (arg25 : MR S8x1024 .f32) (arg26 arg27 arg28 : MR S32x8x1024 .f32) (arg29 : MR S1x1024 .f32) (arg30 : MR S2048x512 .bf16) (arg31 : MR S512x512 .f32) (arg32 : MR S2048x512 .bf16) (arg33 : MR S512x512 .f32) : Prog (TpuEff nD τ sig (Elt F) Λ₀ .tc) PUnit := do
  let p ← chunkHead 0 arg3 arg5 arg25 arg6 arg7 arg9 arg8 arg10 arg11
  side0 0 arg14 arg30 arg31 arg32 arg33
  chunkTail 0 p.1 p.2 arg26 arg27
  mids arg3 arg5 arg25 arg6 arg7 arg9 arg8 arg10 arg11 arg14 arg30 arg31 arg32 arg33 arg26 arg27 6 1 (by decide)
  let q ← chunkHead 7 arg3 arg5 arg25 arg6 arg7 arg9 arg8 arg10 arg11
  sideLast 7 arg14 arg30 arg31 arg32 arg33 arg21 harg21 arg23
  chunkTail 7 q.1 q.2 arg26 arg27
  let h0 : Vec F S1x1024 .f32 ← Prog.lift (.load arg29 (Rect.unit (s := S1x1024) ![0, 0] S1x1024.size inb_S1x1024_S1x1024_0_0).toLoadRect (View.loadsAt_vmem h_S1x1024))
  let h ← groups arg26 arg27 arg28 32 0 (by decide) h0
  final h arg3 arg4 arg18 harg18 arg19 arg20 arg25 arg28 arg29

/-- The body by its own loops. -/
def cutBody (i : grid0.Coords) (arg3 : MR S256x1024 .f32) (harg3 : arg3.IsWhole) (arg4 : MR S256x1024 .f32) (harg4 : arg4.IsWhole) (arg5 : MR S4x1024 .f32) (harg5 : arg5.IsWhole) (arg6 : MR S1x1024 .f32) (harg6 : arg6.IsWhole) (arg7 : MR S8x128x128 .f32) (harg7 : arg7.IsWhole) (arg8 : MR S1x1024 .f32) (harg8 : arg8.IsWhole) (arg9 : MR S8x128x128 .f32) (harg9 : arg9.IsWhole) (arg10 : MR S1x1024 .f32) (harg10 : arg10.IsWhole) (arg11 : MR S1x1024 .f32) (harg11 : arg11.IsWhole) (arg12 : MR S1x8x1024 .f32) (harg12 : arg12.IsWhole) (arg13 : MR S1x1x1024 .f32) (harg13 : arg13.IsWhole) (arg14 : MR S512x2048 .bf16) (harg14 : arg14.IsWhole) (arg15 : MR S128x2048 .bf16) (harg15 : arg15.IsWhole) (arg16 : MR S2048x512 .f32) (harg16 : arg16.IsWhole) (arg17 : MR S2048x512 .f32) (harg17 : arg17.IsWhole) (arg18 : MR S256x1024 .bf16) (harg18 : arg18.IsWhole) (arg19 : MR S1x1x1024 .f32) (harg19 : arg19.IsWhole) (arg20 : MR S1x8x1024 .f32) (harg20 : arg20.IsWhole) (arg21 : MR S512x512 .bf16) (harg21 : arg21.IsWhole) (arg22 : MR S128x512 .bf16) (harg22 : arg22.IsWhole) (arg23 : MR S512x512 .f32) (harg23 : arg23.IsWhole) (arg24 : MR S128x512 .f32) (harg24 : arg24.IsWhole) (arg25 : MR S8x1024 .f32) (harg25 : arg25.IsWhole) (arg26 : MR S32x8x1024 .f32) (harg26 : arg26.IsWhole) (arg27 : MR S32x8x1024 .f32) (harg27 : arg27.IsWhole) (arg28 : MR S32x8x1024 .f32) (harg28 : arg28.IsWhole) (arg29 : MR S1x1024 .f32) (harg29 : arg29.IsWhole) (arg30 : MR S2048x512 .bf16) (harg30 : arg30.IsWhole) (arg31 : MR S512x512 .f32) (harg31 : arg31.IsWhole) (arg32 : MR S2048x512 .bf16) (harg32 : arg32.IsWhole) (arg33 : MR S512x512 .f32) (harg33 : arg33.IsWhole) : Prog (TpuEff nD τ sig (Elt F) Λ₀ .tc) PUnit := do
  if k0_h1 : k0_cond1 i = 1#1 then do
    init arg12 arg13 arg15 arg16 arg17 arg22 harg22 arg24 arg25 arg29 arg30 harg30 arg32 harg32
  else do
    pure ⟨⟩
  rest arg3 arg4 arg5 arg6 arg7 arg8 arg9 arg10 arg11 arg14 arg18 harg18 arg19 arg20 arg21 harg21 arg23 arg25 arg26 arg27 arg28 arg29 arg30 arg31 arg32 arg33

set_option maxHeartbeats 8000000 in
/-- The printed body is this. -/
theorem cut_eq : cc0_rglru (F := F) = cutBody (F := F) := by
  funext i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 a32 h32 a33 h33
  unfold cc0_rglru k0_part47 k0_part2 cutBody
  by_cases hc : k0_cond1 i = 1#1
  · rw [dif_pos hc, dif_pos hc]
    repeat refine op_congr rfl fun _ => ?_
    rfl
  · rw [dif_neg hc, dif_neg hc]
    repeat refine op_congr rfl fun _ => ?_
    rfl

end Cert.Kernel8Ideal.Hand

end
-- ==== Proof.RglruPrompt.Pieces.lean ====
/- What each piece of the recurrence kernel's body does to the buffers, over any float type: a chunk of channels, the chunks in
   order, a group of rows, the groups in order, and what comes before and after them. -/
module

public import proofs.«01_k».proof.Proof.RglruPrompt.Cut
public import Idealize.ShloMosaic.Lib.Pipeline.Value

@[expose] public section

set_option maxRecDepth 65536

noncomputable section

namespace Cert.Kernel8Ideal.Hand

open Idealize.ShloMosaic Idealize.ShloMosaic.TcCoe Idealize.ShloMosaic.Tactic Cert.Buffer
open Idealize.SL Idealize.SL.RA Idealize.SL.BI
open scoped Idealize.SL.BI
open Idealize.SL.BI.BIBase Idealize.SL.BI.Laws Idealize.SL.ProofMode Idealize.SL.Sem
open Cert.Kernel8Ideal.Gen

variable {F : FTy → Type} [FloatOps F]

local notation "𝕄" => MT nD τ sig Unit (Elt F) ℕ (UR sig nD τ) ℕ

/-- The core holds a buffer, whole, with these values. -/
abbrev own {s : Shape} {e : EltTy} (c : Dev nD) (a : MR s e) (d : Vec F s e) : sProp 𝕄 :=
  owns (c : Thread nD τ) a fullShare d

/-! ## Windows -/

/-- The indices of a three-axis and of a two-axis array. -/
abbrev at3 {a b d : ℕ} (i : Fin a) (j : Fin b) (k : Fin d) : (⟨3, ![a, b, d]⟩ : Shape).Idx := Fin.cons i (Fin.cons j (Fin.cons k finZeroElim))

def winU (n : Fin 8) (x : Vec F S256x1024 .f32) : Vec F S256x128 .f32 := VecWindow.window x ![0, 128 * n.val] S256x128.size (inbU n)
def winE (n : Fin 8) (x : Vec F S8x1024 .f32) : Vec F S8x128 .f32 := VecWindow.window x ![0, 128 * n.val] S8x128.size (inbE n)
def winC (n : Fin 8) (x : Vec F S4x1024 .f32) : Vec F S4x128 .f32 := VecWindow.window x ![0, 128 * n.val] S4x128.size (inbC n)
def winV (n : Fin 8) (x : Vec F S1x1024 .f32) : Vec F S1x128 .f32 := VecWindow.window x ![0, 128 * n.val] S1x128.size (inbV n)
def winW (n : Fin 8) (x : Vec F S8x128x128 .f32) : Vec F S1x128x128 .f32 := VecWindow.window x ![n.val, 0, 0] S1x128x128.size (inbW n)
def winG (g : Fin 32) (x : Vec F S32x8x1024 .f32) : Vec F S1x8x1024 .f32 := VecWindow.window x ![g.val, 0, 0] S1x8x1024.size (inbG g)

/-! ## A chunk -/

/-- The decays and input terms of chunk `n`, of the blocks. -/
def headOf (n : Fin 8) (cw : Vec F S4x1024 .f32) (u : Vec F S256x1024 .f32) (ex : Vec F S8x1024 .f32) (cb : Vec F S1x1024 .f32) (wa wx : Vec F S8x128x128 .f32) (ba bx lam : Vec F S1x1024 .f32) : FVec F S256x128 .f32 × FVec F S256x128 .f32 :=
  headVal (winC n cw) (winU n u) (winE n ex) (winV n cb) (winW n wa) (winW n wx) (winV n ba) (winV n bx) (winV n lam)

/-- The blocks a chunk reads, held. -/
def insOwn (c : Dev nD) (arg5 : MR S4x1024 .f32) (arg3 : MR S256x1024 .f32) (arg25 : MR S8x1024 .f32) (arg6 : MR S1x1024 .f32) (arg7 arg9 : MR S8x128x128 .f32) (arg8 arg10 arg11 : MR S1x1024 .f32) (cw : Vec F S4x1024 .f32) (u : Vec F S256x1024 .f32) (ex : Vec F S8x1024 .f32) (cb : Vec F S1x1024 .f32) (wa wx : Vec F S8x128x128 .f32) (ba bx lam : Vec F S1x1024 .f32) : sProp 𝕄 :=
  iprop(own c arg5 cw ∗ own c arg3 u ∗ own c arg25 ex ∗ own c arg6 cb ∗ own c arg7 wa ∗ own c arg9 wx ∗ own c arg8 ba ∗ own c arg10 bx ∗ own c arg11 lam)

set_option maxHeartbeats 1000000 in
theorem head_run (c : Dev nD) (n : Fin 8) (arg5 : MR S4x1024 .f32) (harg5 : arg5.IsWhole) (arg3 : MR S256x1024 .f32) (harg3 : arg3.IsWhole) (arg25 : MR S8x1024 .f32) (harg25 : arg25.IsWhole) (arg6 : MR S1x1024 .f32) (harg6 : arg6.IsWhole) (arg7 : MR S8x128x128 .f32) (harg7 : arg7.IsWhole) (arg9 : MR S8x128x128 .f32) (harg9 : arg9.IsWhole) (arg8 : MR S1x1024 .f32) (harg8 : arg8.IsWhole) (arg10 : MR S1x1024 .f32) (harg10 : arg10.IsWhole) (arg11 : MR S1x1024 .f32) (harg11 : arg11.IsWhole) (cw : Vec F S4x1024 .f32) (u : Vec F S256x1024 .f32) (ex : Vec F S8x1024 .f32) (cb : Vec F S1x1024 .f32) (wa wx : Vec F S8x128x128 .f32) (ba bx lam : Vec F S1x1024 .f32) (E : Set ℕ) (K : FVec F S256x128 .f32 × FVec F S256x128 .f32 → sProp 𝕄) :
    iprop(insOwn c arg5 arg3 arg25 arg6 arg7 arg9 arg8 arg10 arg11 cw u ex cb wa wx ba bx lam ∗ (insOwn c arg5 arg3 arg25 arg6 arg7 arg9 arg8 arg10 arg11 cw u ex cb wa wx ba bx lam -∗ K (headOf n cw u ex cb wa wx ba bx lam)))
      ⊢ wp frame (wpE (defs₀ (F := F)) Variants.none c none) E (chunkHead n arg3 arg5 arg25 arg6 arg7 arg9 arg8 arg10 arg11) K := by
  unfold chunkHead insOwn headOf winC winU winE winV winW
  unfold own owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩⟩, Hk⟩
  obtain rfl := harg5.eq_unread hf0; obtain rfl := harg3.eq_unread hf1; obtain rfl := harg25.eq_unread hf2; obtain rfl := harg6.eq_unread hf3; obtain rfl := harg7.eq_unread hf4; obtain rfl := harg9.eq_unread hf5; obtain rfl := harg8.eq_unread hf6; obtain rfl := harg10.eq_unread hf7; obtain rfl := harg11.eq_unread hf8
  sl_exec
  sl_step
  simp only [readAt_unread_unit]
  first | iapply Hk | skip
  isplitl [H0]
  · iexists _; isplitr; · ipureintro; exact harg5.read_unread _
    iexact H0
  isplitl [H1]
  · iexists _; isplitr; · ipureintro; exact harg3.read_unread _
    iexact H1
  isplitl [H2]
  · iexists _; isplitr; · ipureintro; exact harg25.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg9.read_unread _
    iexact H5
  isplitl [H6]
  · iexists _; isplitr; · ipureintro; exact harg8.read_unread _
    iexact H6
  isplitl [H7]
  · iexists _; isplitr; · ipureintro; exact harg10.read_unread _
    iexact H7
  iexists _; isplitr; · ipureintro; exact harg11.read_unread _
  iexact H8

set_option maxHeartbeats 1000000 in
theorem tail_run (c : Dev nD) (n : Fin 8) (a b : FVec F S256x128 .f32) (arg26 : MR S32x8x1024 .f32) (harg26 : arg26.IsWhole) (arg27 : MR S32x8x1024 .f32) (harg27 : arg27.IsWhole) (A B : Vec F S32x8x1024 .f32) (E : Set ℕ) (K : PUnit → sProp 𝕄) :
    iprop(own c arg26 A ∗ own c arg27 B
        ∗ (iprop(own c arg26 (VecWindow.put A ![0, 0, 128 * n.val] S32x8x128.size (cScanA a b)) ∗ own c arg27 (VecWindow.put B ![0, 0, 128 * n.val] S32x8x128.size (cScanB a b))) -∗ K ⟨⟩))
      ⊢ wp frame (wpE (defs₀ (F := F)) Variants.none c none) E (chunkTail n a b arg26 arg27) K := by
  unfold chunkTail
  unfold own owns
  iintro ⟨⟨%f0, %hf0, H0⟩, ⟨%f1, %hf1, H1⟩, Hk⟩
  obtain rfl := harg26.eq_unread hf0; obtain rfl := harg27.eq_unread hf1
  sl_exec
  sl_step
  iapply Hk
  isplitl [H0]
  · iexists _; isplitr
    swap; · iexact H0
    ipureintro
    rw [View.read_writes_cons_put _ _ _ _ _ rfl, View.writes_nil, harg26.read_unread]
  iexists _; isplitr
  swap; · iexact H1
  ipureintro
  rw [View.read_writes_cons_put _ _ _ _ _ rfl, View.writes_nil, harg27.read_unread]

/-! ## The chunks in order -/

/-- The scans of every chunk. -/
def fullA (cw : Vec F S4x1024 .f32) (u : Vec F S256x1024 .f32) (ex : Vec F S8x1024 .f32) (cb : Vec F S1x1024 .f32) (wa wx : Vec F S8x128x128 .f32) (ba bx lam : Vec F S1x1024 .f32) : Vec F S32x8x1024 .f32 := fun i =>
  cScanA (headOf ⟨(i 2).val / 128, by have := (i 2).isLt; change (i 2).val < 1024 at this; omega⟩ cw u ex cb wa wx ba bx lam).1 (headOf ⟨(i 2).val / 128, by have := (i 2).isLt; change (i 2).val < 1024 at this; omega⟩ cw u ex cb wa wx ba bx lam).2 (at3 (i 0) (i 1) ⟨(i 2).val % 128, Nat.mod_lt _ (by decide)⟩)
def fullB (cw : Vec F S4x1024 .f32) (u : Vec F S256x1024 .f32) (ex : Vec F S8x1024 .f32) (cb : Vec F S1x1024 .f32) (wa wx : Vec F S8x128x128 .f32) (ba bx lam : Vec F S1x1024 .f32) : Vec F S32x8x1024 .f32 := fun i =>
  cScanB (headOf ⟨(i 2).val / 128, by have := (i 2).isLt; change (i 2).val < 1024 at this; omega⟩ cw u ex cb wa wx ba bx lam).1 (headOf ⟨(i 2).val / 128, by have := (i 2).isLt; change (i 2).val < 1024 at this; omega⟩ cw u ex cb wa wx ba bx lam).2 (at3 (i 0) (i 1) ⟨(i 2).val % 128, Nat.mod_lt _ (by decide)⟩)

/-- A chunk put over the chunks before it. -/
theorem put_chunk (f : Fin 8 → Vec F S32x8x128 .f32) (X : Vec F S32x8x1024 .f32) (n : ℕ) (hn : n < 8)
    (hX : ∀ i : S32x8x1024.Idx, (i 2).val < 128 * n → X i = f ⟨(i 2).val / 128, by have := (i 2).isLt; change (i 2).val < 1024 at this; omega⟩ (at3 (i 0) (i 1) ⟨(i 2).val % 128, Nat.mod_lt _ (by decide)⟩)) :
    ∀ i : S32x8x1024.Idx, (i 2).val < 128 * (n + 1) → VecWindow.put X ![0, 0, 128 * n] S32x8x128.size (f ⟨n, hn⟩) i = f ⟨(i 2).val / 128, by have := (i 2).isLt; change (i 2).val < 1024 at this; omega⟩ (at3 (i 0) (i 1) ⟨(i 2).val % 128, Nat.mod_lt _ (by decide)⟩) := by
  intro i hi
  have h0 := (i 0).isLt; have h1 := (i 1).isLt
  change (i 0).val < 32 at h0; change (i 1).val < 8 at h1
  unfold VecWindow.put
  by_cases h : 128 * n ≤ (i 2).val
  · rw [dif_pos (by
      intro a
      match a with
      | ⟨0, _⟩ => exact ⟨Nat.zero_le _, by show (i 0).val < 0 + 32; omega⟩
      | ⟨1, _⟩ => exact ⟨Nat.zero_le _, by show (i 1).val < 0 + 8; omega⟩
      | ⟨2, _⟩ => exact ⟨h, by show (i 2).val < 128 * n + 128; omega⟩)]
    have e : (⟨n, hn⟩ : Fin 8) = ⟨(i 2).val / 128, by have := (i 2).isLt; change (i 2).val < 1024 at this; omega⟩ := Fin.ext (by show n = (i 2).val / 128; omega)
    rw [e]
    congr 1
    funext a
    match a with
    | ⟨0, _⟩ => exact Fin.ext (by show (i 0).val - 0 = (i 0).val; omega)
    | ⟨1, _⟩ => exact Fin.ext (by show (i 1).val - 0 = (i 1).val; omega)
    | ⟨2, _⟩ => exact Fin.ext (by show (i 2).val - 128 * n = (i 2).val % 128; omega)
  · rw [dif_neg (fun hall => h (hall 2).1)]
    exact hX i (by omega)

/-! ## The partial products -/

def winS (n : Fin 8) (x : Vec F S512x2048 .bf16) : Vec F S512x256 .bf16 := VecWindow.window x ![0, 256 * n.val] S512x256.size (inbS n)
def winT (n : Fin 8) (x : Vec F S2048x512 .bf16) : Vec F S256x512 .bf16 := VecWindow.window x ![256 * n.val, 0] S256x512.size (inbT n)

/-- The product of the first `n + 1` column blocks with the row blocks they meet. -/
def acc (x : Vec F S512x2048 .bf16) (w : Vec F S2048x512 .bf16) : ℕ → FVec F S512x512 .f32
  | 0 => part (winS 0 x) (winT 0 w)
  | n + 1 => addf (acc x w n) (part (winS ⟨(n + 1) % 8, Nat.mod_lt _ (by decide)⟩ x) (winT ⟨(n + 1) % 8, Nat.mod_lt _ (by decide)⟩ w))

theorem acc_succ (x : Vec F S512x2048 .bf16) (w : Vec F S2048x512 .bf16) (n : ℕ) (h : n + 1 < 8) :
    addf (acc x w n) (part (winS ⟨n + 1, h⟩ x) (winT ⟨n + 1, h⟩ w)) = acc x w (n + 1) := by
  have e : (⟨n + 1, h⟩ : Fin 8) = ⟨(n + 1) % 8, Nat.mod_lt _ (by decide)⟩ := Fin.ext (Nat.mod_eq_of_lt h).symm
  rw [e]; rfl

/-- The operands of the partial products, held. -/
def sideOwn (c : Dev nD) (arg14 : MR S512x2048 .bf16) (arg30 arg32 : MR S2048x512 .bf16) (xs : Vec F S512x2048 .bf16) (w0 w1 : Vec F S2048x512 .bf16) : sProp 𝕄 :=
  iprop(own c arg14 xs ∗ own c arg30 w0 ∗ own c arg32 w1)

set_option maxHeartbeats 1000000 in
theorem side0_run (c : Dev nD) (arg14 : MR S512x2048 .bf16) (harg14 : arg14.IsWhole) (arg30 : MR S2048x512 .bf16) (harg30 : arg30.IsWhole) (arg31 : MR S512x512 .f32) (harg31 : arg31.IsWhole) (arg32 : MR S2048x512 .bf16) (harg32 : arg32.IsWhole) (arg33 : MR S512x512 .f32) (harg33 : arg33.IsWhole) (xs : Vec F S512x2048 .bf16) (w0 w1 : Vec F S2048x512 .bf16) (E : Set ℕ) (K : PUnit → sProp 𝕄) :
    iprop(sideOwn c arg14 arg30 arg32 xs w0 w1 ∗ (∃ d, own c arg31 d) ∗ (∃ d, own c arg33 d)
        ∗ (iprop(sideOwn c arg14 arg30 arg32 xs w0 w1 ∗ own c arg31 (acc xs w0 0) ∗ own c arg33 (acc xs w1 0)) -∗ K ⟨⟩))
      ⊢ wp frame (wpE (defs₀ (F := F)) Variants.none c none) E (side0 0 arg14 arg30 arg31 arg32 arg33) K := by
  unfold side0 sideOwn
  unfold own owns
  iintro ⟨⟨⟨%f0, %hf0, H0⟩, ⟨%f1, %hf1, H1⟩, ⟨%f2, %hf2, H2⟩⟩, ⟨%d3, %f3, -, H3⟩, ⟨%d4, %f4, -, H4⟩, Hk⟩
  obtain rfl := harg14.eq_unread hf0; obtain rfl := harg30.eq_unread hf1; obtain rfl := harg32.eq_unread hf2
  sl_exec
  sl_step
  iapply Hk
  isplitl [H0 H1 H2]
  · isplitl [H0]
    · iexists _; isplitr; · ipureintro; exact harg14.read_unread _
      iexact H0
    isplitl [H1]
    · iexists _; isplitr; · ipureintro; exact harg30.read_unread _
      iexact H1
    iexists _; isplitr; · ipureintro; exact harg32.read_unread _
    iexact H2
  isplitl [H3]
  · iexists _; isplitr
    swap; · iexact H3
    ipureintro
    rw [View.read_writes_full]
    refine (shapeCast_self _ _).trans ?_
    exact (congrArg₂ part (readAt_unread_unit arg14 harg14 xs _) (readAt_unread_unit arg30 harg30 w0 _))
  iexists _; isplitr
  swap; · iexact H4
  ipureintro
  rw [View.read_writes_full]
  refine (shapeCast_self _ _).trans ?_
  exact (congrArg₂ part (readAt_unread_unit arg14 harg14 xs _) (readAt_unread_unit arg32 harg32 w1 _))

set_option maxHeartbeats 1000000 in
theorem sideMid_run (c : Dev nD) (n : Fin 8) (arg14 : MR S512x2048 .bf16) (harg14 : arg14.IsWhole) (arg30 : MR S2048x512 .bf16) (harg30 : arg30.IsWhole) (arg31 : MR S512x512 .f32) (harg31 : arg31.IsWhole) (arg32 : MR S2048x512 .bf16) (harg32 : arg32.IsWhole) (arg33 : MR S512x512 .f32) (harg33 : arg33.IsWhole) (xs : Vec F S512x2048 .bf16) (w0 w1 : Vec F S2048x512 .bf16) (a0 a1 : FVec F S512x512 .f32) (E : Set ℕ) (K : PUnit → sProp 𝕄) :
    iprop(sideOwn c arg14 arg30 arg32 xs w0 w1 ∗ own c arg31 a0 ∗ own c arg33 a1
        ∗ (iprop(sideOwn c arg14 arg30 arg32 xs w0 w1 ∗ own c arg31 (addf a0 (part (winS n xs) (winT n w0))) ∗ own c arg33 (addf a1 (part (winS n xs) (winT n w1)))) -∗ K ⟨⟩))
      ⊢ wp frame (wpE (defs₀ (F := F)) Variants.none c none) E (sideMid n arg14 arg30 arg31 arg32 arg33) K := by
  unfold sideMid sideOwn winS winT
  unfold own owns
  iintro ⟨⟨⟨%f0, %hf0, H0⟩, ⟨%f1, %hf1, H1⟩, ⟨%f2, %hf2, H2⟩⟩, ⟨%f3, %hf3, H3⟩, ⟨%f4, %hf4, H4⟩, Hk⟩
  obtain rfl := harg14.eq_unread hf0; obtain rfl := harg30.eq_unread hf1; obtain rfl := harg32.eq_unread hf2; obtain rfl := harg31.eq_unread hf3; obtain rfl := harg33.eq_unread hf4
  sl_exec
  sl_step
  iapply Hk
  isplitl [H0 H1 H2]
  · isplitl [H0]
    · iexists _; isplitr; · ipureintro; exact harg14.read_unread _
      iexact H0
    isplitl [H1]
    · iexists _; isplitr; · ipureintro; exact harg30.read_unread _
      iexact H1
    iexists _; isplitr; · ipureintro; exact harg32.read_unread _
    iexact H2
  isplitl [H3]
  · iexists _; isplitr
    swap; · iexact H3
    ipureintro
    rw [View.read_writes_full]
    refine (shapeCast_self _ _).trans ?_
    exact congrArg₂ addf (readAt_unread_full (Val := Elt F) arg31 harg31 a0 _) (congrArg₂ part (readAt_unread_unit arg14 harg14 xs _) (readAt_unread_unit arg30 harg30 w0 _))
  iexists _; isplitr
  swap; · iexact H4
  ipureintro
  rw [View.read_writes_full]
  refine (shapeCast_self _ _).trans ?_
  exact congrArg₂ addf (readAt_unread_full (Val := Elt F) arg33 harg33 a1 _) (congrArg₂ part (readAt_unread_unit arg14 harg14 xs _) (readAt_unread_unit arg32 harg32 w1 _))

set_option maxHeartbeats 1000000 in
theorem sideLast_run (c : Dev nD) (arg14 : MR S512x2048 .bf16) (harg14 : arg14.IsWhole) (arg30 : MR S2048x512 .bf16) (harg30 : arg30.IsWhole) (arg31 : MR S512x512 .f32) (harg31 : arg31.IsWhole) (arg32 : MR S2048x512 .bf16) (harg32 : arg32.IsWhole) (arg33 : MR S512x512 .f32) (harg33 : arg33.IsWhole) (arg21 : MR S512x512 .bf16) (harg21 : arg21.IsWhole) (arg23 : MR S512x512 .f32) (harg23 : arg23.IsWhole) (xs : Vec F S512x2048 .bf16) (w0 w1 : Vec F S2048x512 .bf16) (E : Set ℕ) (K : PUnit → sProp 𝕄) :
    iprop(sideOwn c arg14 arg30 arg32 xs w0 w1 ∗ own c arg31 (acc xs w0 6) ∗ own c arg33 (acc xs w1 6) ∗ (∃ d, own c arg21 d) ∗ (∃ d, own c arg23 d)
        ∗ (iprop(sideOwn c arg14 arg30 arg32 xs w0 w1 ∗ own c arg31 (acc xs w0 6) ∗ own c arg33 (acc xs w1 6) ∗ own c arg21 (truncf .bf16 (acc xs w0 7) bitsLt_bf16_f32) ∗ own c arg23 (acc xs w1 7)) -∗ K ⟨⟩))
      ⊢ wp frame (wpE (defs₀ (F := F)) Variants.none c none) E (sideLast 7 arg14 arg30 arg31 arg32 arg33 arg21 harg21 arg23) K := by
  rw [← acc_succ xs w0 6 (by decide), ← acc_succ xs w1 6 (by decide)]
  unfold sideLast sideOwn winS winT
  unfold own owns
  iintro ⟨⟨⟨%f0, %hf0, H0⟩, ⟨%f1, %hf1, H1⟩, ⟨%f2, %hf2, H2⟩⟩, ⟨%f3, %hf3, H3⟩, ⟨%f4, %hf4, H4⟩, ⟨%d5, %f5, -, H5⟩, ⟨%d6, %f6, -, H6⟩, Hk⟩
  obtain rfl := harg14.eq_unread hf0; obtain rfl := harg30.eq_unread hf1; obtain rfl := harg32.eq_unread hf2; obtain rfl := harg31.eq_unread hf3; obtain rfl := harg33.eq_unread hf4
  sl_exec
  sl_step
  iapply Hk
  isplitl [H0 H1 H2]
  · isplitl [H0]
    · iexists _; isplitr; · ipureintro; exact harg14.read_unread _
      iexact H0
    isplitl [H1]
    · iexists _; isplitr; · ipureintro; exact harg30.read_unread _
      iexact H1
    iexists _; isplitr; · ipureintro; exact harg32.read_unread _
    iexact H2
  isplitl [H3]
  · iexists _; isplitr; · ipureintro; exact harg31.read_unread _
    iexact H3
  isplitl [H4]
  · iexists _; isplitr; · ipureintro; exact harg33.read_unread _
    iexact H4
  isplitl [H5]
  · iexists _; isplitr
    swap; · iexact H5
    ipureintro
    rw [View.read_writes_full]
    exact congrArg (fun x => truncf .bf16 x bitsLt_bf16_f32) (congrArg₂ addf (readAt_unread_full arg31 harg31 _ _) (congrArg₂ part (readAt_unread_unit arg14 harg14 xs _) (readAt_unread_unit arg30 harg30 w0 _)))
  iexists _; isplitr
  swap; · iexact H6
  ipureintro
  rw [View.read_writes_full]
  exact congrArg₂ addf (readAt_unread_full arg33 harg33 _ _) (congrArg₂ part (readAt_unread_unit arg14 harg14 xs _) (readAt_unread_unit arg32 harg32 w1 _))

set_option maxHeartbeats 2000000 in
/-- The chunks between the first and the last. -/
theorem mids_run (c : Dev nD) (arg5 : MR S4x1024 .f32) (harg5 : arg5.IsWhole) (arg3 : MR S256x1024 .f32) (harg3 : arg3.IsWhole) (arg25 : MR S8x1024 .f32) (harg25 : arg25.IsWhole) (arg6 : MR S1x1024 .f32) (harg6 : arg6.IsWhole) (arg7 : MR S8x128x128 .f32) (harg7 : arg7.IsWhole) (arg9 : MR S8x128x128 .f32) (harg9 : arg9.IsWhole) (arg8 : MR S1x1024 .f32) (harg8 : arg8.IsWhole) (arg10 : MR S1x1024 .f32) (harg10 : arg10.IsWhole) (arg11 : MR S1x1024 .f32) (harg11 : arg11.IsWhole) (arg26 : MR S32x8x1024 .f32) (harg26 : arg26.IsWhole) (arg27 : MR S32x8x1024 .f32) (harg27 : arg27.IsWhole) (arg14 : MR S512x2048 .bf16) (harg14 : arg14.IsWhole) (arg30 : MR S2048x512 .bf16) (harg30 : arg30.IsWhole) (arg31 : MR S512x512 .f32) (harg31 : arg31.IsWhole) (arg32 : MR S2048x512 .bf16) (harg32 : arg32.IsWhole) (arg33 : MR S512x512 .f32) (harg33 : arg33.IsWhole) (cw : Vec F S4x1024 .f32) (u : Vec F S256x1024 .f32) (ex : Vec F S8x1024 .f32) (cb : Vec F S1x1024 .f32) (wa wx : Vec F S8x128x128 .f32) (ba bx lam : Vec F S1x1024 .f32) (xs : Vec F S512x2048 .bf16) (w0 w1 : Vec F S2048x512 .bf16) (E : Set ℕ) (K : PUnit → sProp 𝕄) :
    ∀ (k n : ℕ) (h : n + 1 + k ≤ 8) (hk : n + k = 6) (A B : Vec F S32x8x1024 .f32)
      (hA : ∀ i : S32x8x1024.Idx, (i 2).val < 128 * (n + 1) → A i = fullA cw u ex cb wa wx ba bx lam i) (hB : ∀ i : S32x8x1024.Idx, (i 2).val < 128 * (n + 1) → B i = fullB cw u ex cb wa wx ba bx lam i),
    iprop(insOwn c arg5 arg3 arg25 arg6 arg7 arg9 arg8 arg10 arg11 cw u ex cb wa wx ba bx lam ∗ own c arg26 A ∗ own c arg27 B ∗ sideOwn c arg14 arg30 arg32 xs w0 w1 ∗ own c arg31 (acc xs w0 n) ∗ own c arg33 (acc xs w1 n)
        ∗ (∀ A', ∀ B', ⌜(∀ i : S32x8x1024.Idx, (i 2).val < 128 * 7 → A' i = fullA cw u ex cb wa wx ba bx lam i) ∧ ∀ i : S32x8x1024.Idx, (i 2).val < 128 * 7 → B' i = fullB cw u ex cb wa wx ba bx lam i⌝ -∗ iprop(insOwn c arg5 arg3 arg25 arg6 arg7 arg9 arg8 arg10 arg11 cw u ex cb wa wx ba bx lam ∗ own c arg26 A' ∗ own c arg27 B' ∗ sideOwn c arg14 arg30 arg32 xs w0 w1 ∗ own c arg31 (acc xs w0 6) ∗ own c arg33 (acc xs w1 6)) -∗ K ⟨⟩))
      ⊢ wp frame (wpE (defs₀ (F := F)) Variants.none c none) E (mids arg3 arg5 arg25 arg6 arg7 arg9 arg8 arg10 arg11 arg14 arg30 arg31 arg32 arg33 arg26 arg27 k (n + 1) h) K := by
  intro k
  induction k with
  | zero =>
    intro n h hk A B hA hB
    obtain rfl : n = 6 := by omega
    unfold mids
    iintro ⟨HI, H0, H1, HS, H2, H3, Hk⟩
    sl_step
    ispecialize Hk $$ %A %B %⟨hA, hB⟩
    iapply Hk
    iframe HI H0 H1 HS H2 H3
  | succ k ih =>
    intro n h hk A B hA hB
    unfold mids
    rw [wp_bind]
    iintro ⟨HI, H0, H1, HS, H2, H3, Hk⟩
    iapply (head_run c _ arg5 harg5 arg3 harg3 arg25 harg25 arg6 harg6 arg7 harg7 arg9 harg9 arg8 harg8 arg10 harg10 arg11 harg11 cw u ex cb wa wx ba bx lam E _)
    isplitl [HI]; · iexact HI
    iintro HI
    rw [wp_bind]
    iapply (sideMid_run c _ arg14 harg14 arg30 harg30 arg31 harg31 arg32 harg32 arg33 harg33 xs w0 w1 (acc xs w0 n) (acc xs w1 n) E _)
    iframe HS H2 H3
    rw [acc_succ xs w0 n (by omega), acc_succ xs w1 n (by omega)]
    iintro ⟨HS, H2, H3⟩
    rw [wp_bind]
    iapply (tail_run c _ _ _ arg26 harg26 arg27 harg27 A B E _)
    isplitl [H0]; · iexact H0
    isplitl [H1]; · iexact H1
    iintro ⟨H0, H1⟩
    iapply (ih (n + 1) _ (hk := (by omega : n + 1 + k = 6)) _ _
      (put_chunk (fun n => cScanA (headOf n cw u ex cb wa wx ba bx lam).1 (headOf n cw u ex cb wa wx ba bx lam).2) A (n + 1) (by omega) hA)
      (put_chunk (fun n => cScanB (headOf n cw u ex cb wa wx ba bx lam).1 (headOf n cw u ex cb wa wx ba bx lam).2) B (n + 1) (by omega) hB))
    iframe HI H0 H1 HS H2 H3 Hk

/-! ## The groups of rows -/

/-- The rows of group `g`, and the last row before each group. -/
def rowsOf (A B : Vec F S32x8x1024 .f32) (g : Fin 32) (h : FVec F S1x1024 .f32) : FVec F S8x1024 .f32 := gRow (winG g A) (winG g B) h
def lastRow (A B : Vec F S32x8x1024 .f32) (h0 : FVec F S1x1024 .f32) : ℕ → FVec F S1x1024 .f32
  | 0 => h0
  | g + 1 => gLast (rowsOf A B ⟨g % 32, Nat.mod_lt _ (by decide)⟩ (lastRow A B h0 g))
/-- Every row. -/
def fullH (A B : Vec F S32x8x1024 .f32) (h0 : FVec F S1x1024 .f32) : Vec F S32x8x1024 .f32 := fun i =>
  shapeCast S1x8x1024 (rowsOf A B (i 0) (lastRow A B h0 (i 0).val)) shapeCasts_S8x1024_S1x8x1024 (at3 0 (i 1) (i 2))

set_option maxHeartbeats 1000000 in
theorem group_run (c : Dev nD) (g : Fin 32) (h : FVec F S1x1024 .f32) (arg26 : MR S32x8x1024 .f32) (harg26 : arg26.IsWhole) (arg27 : MR S32x8x1024 .f32) (harg27 : arg27.IsWhole) (arg28 : MR S32x8x1024 .f32) (harg28 : arg28.IsWhole) (A B H : Vec F S32x8x1024 .f32) (E : Set ℕ) (K : FVec F S1x1024 .f32 → sProp 𝕄) :
    iprop(own c arg26 A ∗ own c arg27 B ∗ own c arg28 H
        ∗ (iprop(own c arg26 A ∗ own c arg27 B ∗ own c arg28 (VecWindow.put H ![g.val, 0, 0] S1x8x1024.size (shapeCast S1x8x1024 (rowsOf A B g h) shapeCasts_S8x1024_S1x8x1024))) -∗ K (gLast (rowsOf A B g h))))
      ⊢ wp frame (wpE (defs₀ (F := F)) Variants.none c none) E (group g h arg26 arg27 arg28) K := by
  unfold group rowsOf winG
  unfold own owns
  iintro ⟨⟨%f0, %hf0, H0⟩, ⟨%f1, %hf1, H1⟩, ⟨%f2, %hf2, H2⟩, Hk⟩
  obtain rfl := harg26.eq_unread hf0; obtain rfl := harg27.eq_unread hf1; obtain rfl := harg28.eq_unread hf2
  sl_exec
  sl_step
  simp only [readAt_unread_unit]
  first | iapply Hk | skip
  isplitl [H0]
  · iexists _; isplitr; · ipureintro; exact harg26.read_unread _
    iexact H0
  isplitl [H1]
  · iexists _; isplitr; · ipureintro; exact harg27.read_unread _
    iexact H1
  iexists _; isplitr
  swap; · iexact H2
  ipureintro
  rw [View.read_writes_cons_put _ _ _ _ _ rfl, View.writes_nil, harg28.read_unread]

theorem put_group (f : Fin 32 → Vec F S1x8x1024 .f32) (X : Vec F S32x8x1024 .f32) (g : ℕ) (hg : g < 32)
    (hX : ∀ i : S32x8x1024.Idx, (i 0).val < g → X i = f (i 0) (at3 0 (i 1) (i 2))) :
    ∀ i : S32x8x1024.Idx, (i 0).val < g + 1 → VecWindow.put X ![g, 0, 0] S1x8x1024.size (f ⟨g, hg⟩) i = f (i 0) (at3 0 (i 1) (i 2)) := by
  intro i hi
  have h2 := (i 2).isLt; have h1 := (i 1).isLt
  change (i 2).val < 1024 at h2; change (i 1).val < 8 at h1
  unfold VecWindow.put
  by_cases h : g ≤ (i 0).val
  · rw [dif_pos (by
      intro a
      match a with
      | ⟨0, _⟩ => exact ⟨h, by show (i 0).val < g + 1; omega⟩
      | ⟨1, _⟩ => exact ⟨Nat.zero_le _, by show (i 1).val < 0 + 8; omega⟩
      | ⟨2, _⟩ => exact ⟨Nat.zero_le _, by show (i 2).val < 0 + 1024; omega⟩)]
    have e : (⟨g, hg⟩ : Fin 32) = i 0 := Fin.ext (by show g = (i 0).val; omega)
    rw [e]
    congr 1
    funext a
    match a with
    | ⟨0, _⟩ => exact Fin.ext (by show (i 0).val - g = 0; omega)
    | ⟨1, _⟩ => exact Fin.ext (by show (i 1).val - 0 = (i 1).val; omega)
    | ⟨2, _⟩ => exact Fin.ext (by show (i 2).val - 0 = (i 2).val; omega)
  · rw [dif_neg (fun hall => h (hall 0).1)]
    exact hX i (by omega)

set_option maxHeartbeats 1000000 in
theorem groups_run (c : Dev nD) (arg26 : MR S32x8x1024 .f32) (harg26 : arg26.IsWhole) (arg27 : MR S32x8x1024 .f32) (harg27 : arg27.IsWhole) (arg28 : MR S32x8x1024 .f32) (harg28 : arg28.IsWhole) (A B : Vec F S32x8x1024 .f32) (h0 : FVec F S1x1024 .f32) (E : Set ℕ) (K : FVec F S1x1024 .f32 → sProp 𝕄) :
    ∀ (k g : ℕ) (h : g + k ≤ 32) (hk : g + k = 32) (H : Vec F S32x8x1024 .f32)
      (hH : ∀ i : S32x8x1024.Idx, (i 0).val < g → H i = fullH A B h0 i),
    iprop(own c arg26 A ∗ own c arg27 B ∗ own c arg28 H
        ∗ (iprop(own c arg26 A ∗ own c arg27 B ∗ own c arg28 (fullH A B h0)) -∗ K (lastRow A B h0 32)))
      ⊢ wp frame (wpE (defs₀ (F := F)) Variants.none c none) E (groups arg26 arg27 arg28 k g h (lastRow A B h0 g)) K := by
  intro k
  induction k with
  | zero =>
    intro g h hk H hH
    have e : H = fullH A B h0 := funext fun i => hH i (by have := (i 0).isLt; change (i 0).val < 32 at this; omega)
    have eg : g = 32 := by omega
    subst e eg
    unfold groups
    iintro ⟨H0, H1, H2, Hk⟩
    sl_step
    iapply Hk
    iframe H0 H1 H2
  | succ k ih =>
    intro g h hk H hH
    unfold groups
    rw [wp_bind]
    iintro ⟨H0, H1, H2, Hk⟩
    iapply (group_run c _ _ arg26 harg26 arg27 harg27 arg28 harg28 A B H E _)
    iframe H0 H1 H2
    iintro ⟨H0, H1, H2⟩
    have e : gLast (rowsOf A B ⟨g, by omega⟩ (lastRow A B h0 g)) = lastRow A B h0 (g + 1) := by
      have eg : (⟨g, by omega⟩ : Fin 32) = ⟨g % 32, Nat.mod_lt _ (by decide)⟩ := Fin.ext (Nat.mod_eq_of_lt (by omega)).symm
      rw [eg]; rfl
    rw [e]
    iapply (ih (g + 1) _ (hk := (by omega : g + 1 + k = 32)) _
      (put_group (fun g => shapeCast S1x8x1024 (rowsOf A B g (lastRow A B h0 g.val)) shapeCasts_S8x1024_S1x8x1024) H g (by omega) hH))
    iframe H0 H1 H2 Hk

/-! ## Before and after -/

/-- The last eight rows of a tile. -/
def lastU (u : Vec F S256x1024 .f32) : Vec F S8x1024 .f32 := VecWindow.window u ![248, 0] S8x1024.size inb_S256x1024_S8x1024_248_0

/-- What a whole row block of the other activations gives. -/
def soxOf (x : Vec F S128x2048 .bf16) (w : Vec F S2048x512 .f32) : FVec F S128x512 .f32 :=
  matmul dot_S128x2048_S2048x512_S128x512_1_0_0_1_n_n none x (truncf .bf16 w bitsLt_bf16_f32) (constant S128x512 .f32 0x00000000#32)

set_option maxHeartbeats 4000000 in
theorem init_run (c : Dev nD) (arg12 : MR S1x8x1024 .f32) (harg12 : arg12.IsWhole) (arg13 : MR S1x1x1024 .f32) (harg13 : arg13.IsWhole) (arg15 : MR S128x2048 .bf16) (harg15 : arg15.IsWhole) (arg16 : MR S2048x512 .f32) (harg16 : arg16.IsWhole) (arg17 : MR S2048x512 .f32) (harg17 : arg17.IsWhole) (arg22 : MR S128x512 .bf16) (harg22 : arg22.IsWhole) (arg24 : MR S128x512 .f32) (harg24 : arg24.IsWhole) (arg25 : MR S8x1024 .f32) (harg25 : arg25.IsWhole) (arg29 : MR S1x1024 .f32) (harg29 : arg29.IsWhole) (arg30 : MR S2048x512 .bf16) (harg30 : arg30.IsWhole) (arg32 : MR S2048x512 .bf16) (harg32 : arg32.IsWhole) (x12 : Vec F S1x8x1024 .f32) (x13 : Vec F S1x1x1024 .f32) (x15 : Vec F S128x2048 .bf16) (x16 x17 : Vec F S2048x512 .f32) (E : Set ℕ) (K : PUnit → sProp 𝕄) :
    iprop(own c arg12 x12 ∗ own c arg13 x13 ∗ own c arg15 x15 ∗ own c arg16 x16 ∗ own c arg17 x17 ∗ (∃ d, own c arg22 d) ∗ (∃ d, own c arg24 d) ∗ (∃ d, own c arg25 d) ∗ (∃ d, own c arg29 d) ∗ (∃ d, own c arg30 d) ∗ (∃ d, own c arg32 d)
        ∗ (iprop(own c arg12 x12 ∗ own c arg13 x13 ∗ own c arg15 x15 ∗ own c arg16 x16 ∗ own c arg17 x17 ∗ own c arg22 (truncf .bf16 (soxOf x15 x16) bitsLt_bf16_f32) ∗ own c arg24 (soxOf x15 x17) ∗ own c arg25 (shapeCast S8x1024 x12 shapeCasts_S1x8x1024_S8x1024) ∗ own c arg29 (shapeCast S1x1024 x13 shapeCasts_S1x1x1024_S1x1024) ∗ own c arg30 (truncf .bf16 x16 bitsLt_bf16_f32) ∗ own c arg32 (truncf .bf16 x17 bitsLt_bf16_f32)) -∗ K ⟨⟩))
      ⊢ wp frame (wpE (defs₀ (F := F)) Variants.none c none) E (init arg12 arg13 arg15 arg16 arg17 arg22 harg22 arg24 arg25 arg29 arg30 harg30 arg32 harg32) K := by
  unfold init
  unfold own owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, Hk⟩
  obtain rfl := harg12.eq_unread hf0; obtain rfl := harg13.eq_unread hf1; obtain rfl := harg15.eq_unread hf2; obtain rfl := harg16.eq_unread hf3; obtain rfl := harg17.eq_unread hf4
  sl_exec
  sl_step
  iapply Hk
  isplitl [H0]
  · iexists _; isplitr; · ipureintro; exact harg12.read_unread _
    iexact H0
  isplitl [H1]
  · iexists _; isplitr; · ipureintro; exact harg13.read_unread _
    iexact H1
  isplitl [H2]
  · iexists _; isplitr; · ipureintro; exact harg15.read_unread _
    iexact H2
  isplitl [H3]
  · iexists _; isplitr; · ipureintro; exact harg16.read_unread _
    iexact H3
  isplitl [H4]
  · iexists _; isplitr; · ipureintro; exact harg17.read_unread _
    iexact H4
  isplitl [H5]
  · iexists _; isplitr
    swap; · iexact H5
    ipureintro
    rw [View.read_writes_full]
    unfold init_run.sl.v1826
    refine congrArg (fun x => truncf .bf16 x bitsLt_bf16_f32) ?_
    unfold init_run.sl.v1825
    unfold init_run.sl.v1824 init_run.sl.H9_1
    rw [View.readCov_full]
    exact congrArg₂ (fun (a : FVec F S128x2048 .bf16) (b : FVec F S2048x512 .bf16) => matmul dot_S128x2048_S2048x512_S128x512_1_0_0_1_n_n none a b (constant S128x512 .f32 0x00000000#32)) (readAt_unread_full (Val := Elt F) arg15 harg15 x15 _) ((shapeCast_self _ _).trans (congrArg (fun x => truncf .bf16 x bitsLt_bf16_f32) ((shapeCast_self _ _).trans (readAt_unread_full (Val := Elt F) arg16 harg16 x16 _))))
  isplitl [H6]
  · iexists _; isplitr
    swap; · iexact H6
    ipureintro
    rw [View.read_writes_full]
    unfold init_run.sl.v1836
    unfold init_run.sl.v1835 init_run.sl.H10_1
    rw [View.readCov_full]
    exact congrArg₂ (fun (a : FVec F S128x2048 .bf16) (b : FVec F S2048x512 .bf16) => matmul dot_S128x2048_S2048x512_S128x512_1_0_0_1_n_n none a b (constant S128x512 .f32 0x00000000#32)) (readAt_unread_full (Val := Elt F) arg15 harg15 x15 _) ((shapeCast_self _ _).trans (congrArg (fun x => truncf .bf16 x bitsLt_bf16_f32) ((shapeCast_self _ _).trans (readAt_unread_full (Val := Elt F) arg17 harg17 x17 _))))
  isplitl [H7]
  · iexists _; isplitr
    swap; · iexact H7
    ipureintro
    rw [View.read_writes_full]
    exact (shapeCast_self _ _).trans (congrArg (fun x => shapeCast S8x1024 x shapeCasts_S1x8x1024_S8x1024) (readAt_unread_full arg12 harg12 x12 _))
  isplitl [H8]
  · iexists _; isplitr
    swap; · iexact H8
    ipureintro
    rw [View.read_writes_full]
    exact (shapeCast_self _ _).trans (congrArg (fun x => shapeCast S1x1024 x shapeCasts_S1x1x1024_S1x1024) (readAt_unread_full arg13 harg13 x13 _))
  isplitl [H9]
  · iexists _; isplitr
    swap; · iexact H9
    ipureintro
    unfold init_run.sl.H9_1
    rw [View.read_writes_full]
    exact (shapeCast_self _ _).trans (congrArg (fun x => truncf .bf16 x bitsLt_bf16_f32) ((shapeCast_self _ _).trans (readAt_unread_full arg16 harg16 x16 _)))
  iexists _; isplitr
  swap; · iexact H10
  ipureintro
  unfold init_run.sl.H10_1
  rw [View.read_writes_full]
  exact (shapeCast_self _ _).trans (congrArg (fun x => truncf .bf16 x bitsLt_bf16_f32) ((shapeCast_self _ _).trans (readAt_unread_full arg17 harg17 x17 _)))

set_option maxHeartbeats 2000000 in
theorem final_run (c : Dev nD) (h : FVec F S1x1024 .f32) (arg3 : MR S256x1024 .f32) (harg3 : arg3.IsWhole) (arg4 : MR S256x1024 .f32) (harg4 : arg4.IsWhole) (arg18 : MR S256x1024 .bf16) (harg18 : arg18.IsWhole) (arg19 : MR S1x1x1024 .f32) (harg19 : arg19.IsWhole) (arg20 : MR S1x8x1024 .f32) (harg20 : arg20.IsWhole) (arg25 : MR S8x1024 .f32) (harg25 : arg25.IsWhole) (arg28 : MR S32x8x1024 .f32) (harg28 : arg28.IsWhole) (arg29 : MR S1x1024 .f32) (harg29 : arg29.IsWhole)
    (u g : Vec F S256x1024 .f32) (H : Vec F S32x8x1024 .f32) (E : Set ℕ) (K : PUnit → sProp 𝕄) :
    iprop(own c arg3 u ∗ own c arg4 g ∗ (∃ d, own c arg18 d) ∗ (∃ d, own c arg19 d) ∗ (∃ d, own c arg20 d) ∗ (∃ d, own c arg25 d) ∗ own c arg28 H ∗ (∃ d, own c arg29 d)
        ∗ (iprop(own c arg3 u ∗ own c arg4 g ∗ own c arg18 (yOut H g) ∗ own c arg19 (shapeCast S1x1x1024 h shapeCasts_S1x1024_S1x1x1024) ∗ own c arg20 (shapeCast S1x8x1024 (lastU u) shapeCasts_S8x1024_S1x8x1024) ∗ own c arg25 (lastU u) ∗ own c arg28 H ∗ own c arg29 h) -∗ K ⟨⟩))
      ⊢ wp frame (wpE (defs₀ (F := F)) Variants.none c none) E (final h arg3 arg4 arg18 harg18 arg19 arg20 arg25 arg28 arg29) K := by
  unfold final
  unfold own owns
  iintro ⟨⟨%f0, %hf0, H0⟩, ⟨%f1, %hf1, H1⟩, ⟨%d2, %f2, -, H2⟩, ⟨%d3, %f3, -, H3⟩, ⟨%d4, %f4, -, H4⟩, ⟨%d5, %f5, -, H5⟩, ⟨%f6, %hf6, H6⟩, ⟨%d7, %f7, -, H7⟩, Hk⟩
  obtain rfl := harg3.eq_unread hf0; obtain rfl := harg4.eq_unread hf1; obtain rfl := harg28.eq_unread hf6
  sl_exec
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr
    swap; · iexact H2
    ipureintro
    rw [View.read_writes_full, readAt_unread_full, readAt_unread_full]
  isplitl [H3]
  · iexists _; isplitr
    swap; · iexact H3
    ipureintro
    rw [View.read_writes_full]; rfl
  isplitl [H4]
  · iexists _; isplitr
    swap; · iexact H4
    ipureintro
    rw [View.read_writes_full]
    exact congrArg (fun x => shapeCast S1x8x1024 x shapeCasts_S8x1024_S1x8x1024) (readAt_unread_unit arg3 harg3 u _)
  isplitl [H5]
  · iexists _; isplitr
    swap; · iexact H5
    ipureintro
    rw [View.read_writes_full]
    exact (shapeCast_self _ _).trans (readAt_unread_unit arg3 harg3 u _)
  isplitl [H6]
  · iexists _; isplitr; · ipureintro; exact harg28.read_unread _
    iexact H6
  iexists _; isplitr
  swap; · iexact H7
  ipureintro
  rw [View.read_writes_full]
  exact shapeCast_self _ _

set_option maxHeartbeats 1000000 in
/-- The load of the carried row. -/
theorem carry_run (c : Dev nD) (arg29 : MR S1x1024 .f32) (harg29 : arg29.IsWhole) (x : Vec F S1x1024 .f32) (E : Set ℕ) (K : Vec F S1x1024 .f32 → sProp 𝕄) :
    iprop(own c arg29 x ∗ (own c arg29 x -∗ K x))
      ⊢ wp frame (wpE (defs₀ (F := F)) Variants.none c none) E (Prog.lift (.load arg29 (Rect.unit (s := S1x1024) ![0, 0] S1x1024.size inb_S1x1024_S1x1024_0_0).toLoadRect (View.loadsAt_vmem h_S1x1024)) : Prog (TpuEff nD τ sig (Elt F) Λ₀ .tc) _) K := by
  unfold own owns
  iintro ⟨⟨%f0, %hf0, H0⟩, Hk⟩
  obtain rfl := harg29.eq_unread hf0
  sl_exec
  sl_step
  rw [readAt_unread_full]
  iapply Hk
  iexists _; isplitr; · ipureintro; exact harg29.read_unread _
  iexact H0

end Cert.Kernel8Ideal.Hand

end
-- ==== Proof.RglruPrompt.Run.lean ====
/- The run of the recurrence kernel on the prompt rows, over any float type: what the body leaves at a point, what it keeps from
   a time tile to the next, the pipeline's proof data, and the run of the whole program. -/
module

public import proofs.«01_k».proof.Proof.RglruPrompt.Pieces
public import proofs.«01_k».proof.Proof.Gen.Kernel8Ideal.Frame

@[expose] public section

set_option maxRecDepth 65536

noncomputable section

namespace Cert.Kernel8Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel8Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg) (c : Dev nD) (t : Fin cfg0.N)

/-! ## The body, the kept tail and state given -/

set_option maxHeartbeats 4000000 in
theorem rest_run (c : Dev nD) (arg3 : MR S256x1024 .f32) (harg3 : arg3.IsWhole) (arg4 : MR S256x1024 .f32) (harg4 : arg4.IsWhole) (arg5 : MR S4x1024 .f32) (harg5 : arg5.IsWhole) (arg6 : MR S1x1024 .f32) (harg6 : arg6.IsWhole) (arg7 : MR S8x128x128 .f32) (harg7 : arg7.IsWhole) (arg8 : MR S1x1024 .f32) (harg8 : arg8.IsWhole) (arg9 : MR S8x128x128 .f32) (harg9 : arg9.IsWhole) (arg10 : MR S1x1024 .f32) (harg10 : arg10.IsWhole) (arg11 : MR S1x1024 .f32) (harg11 : arg11.IsWhole) (arg14 : MR S512x2048 .bf16) (harg14 : arg14.IsWhole) (arg18 : MR S256x1024 .bf16) (harg18 : arg18.IsWhole) (arg19 : MR S1x1x1024 .f32) (harg19 : arg19.IsWhole) (arg20 : MR S1x8x1024 .f32) (harg20 : arg20.IsWhole) (arg21 : MR S512x512 .bf16) (harg21 : arg21.IsWhole) (arg23 : MR S512x512 .f32) (harg23 : arg23.IsWhole) (arg25 : MR S8x1024 .f32) (harg25 : arg25.IsWhole) (arg26 : MR S32x8x1024 .f32) (harg26 : arg26.IsWhole) (arg27 : MR S32x8x1024 .f32) (harg27 : arg27.IsWhole) (arg28 : MR S32x8x1024 .f32) (harg28 : arg28.IsWhole) (arg29 : MR S1x1024 .f32) (harg29 : arg29.IsWhole) (arg30 : MR S2048x512 .bf16) (harg30 : arg30.IsWhole) (arg31 : MR S512x512 .f32) (harg31 : arg31.IsWhole) (arg32 : MR S2048x512 .bf16) (harg32 : arg32.IsWhole) (arg33 : MR S512x512 .f32) (harg33 : arg33.IsWhole)
    (u g : Vec F S256x1024 .f32) (cw : Vec F S4x1024 .f32) (cb : Vec F S1x1024 .f32) (wa : Vec F S8x128x128 .f32) (ba : Vec F S1x1024 .f32) (wx : Vec F S8x128x128 .f32) (bx lam : Vec F S1x1024 .f32) (xs : Vec F S512x2048 .bf16) (ex : Vec F S8x1024 .f32) (h : Vec F S1x1024 .f32) (w0 w1 : Vec F S2048x512 .bf16) (E : Set ℕ) (K : PUnit → sProp 𝕄) :
    iprop(own c arg3 u ∗ own c arg4 g ∗ own c arg5 cw ∗ own c arg6 cb ∗ own c arg7 wa ∗ own c arg8 ba ∗ own c arg9 wx ∗ own c arg10 bx ∗ own c arg11 lam ∗ own c arg14 xs ∗ (∃ d, own c arg18 d) ∗ (∃ d, own c arg19 d) ∗ (∃ d, own c arg20 d) ∗ (∃ d, own c arg21 d) ∗ (∃ d, own c arg23 d) ∗ own c arg25 ex ∗ (∃ d, own c arg26 d) ∗ (∃ d, own c arg27 d) ∗ (∃ d, own c arg28 d) ∗ own c arg29 h ∗ own c arg30 w0 ∗ (∃ d, own c arg31 d) ∗ own c arg32 w1 ∗ (∃ d, own c arg33 d)
        ∗ (iprop(own c arg3 u ∗ own c arg4 g ∗ own c arg5 cw ∗ own c arg6 cb ∗ own c arg7 wa ∗ own c arg8 ba ∗ own c arg9 wx ∗ own c arg10 bx ∗ own c arg11 lam ∗ own c arg14 xs ∗ own c arg18 (yOut (fullH (fullA cw u ex cb wa wx ba bx lam) (fullB cw u ex cb wa wx ba bx lam) h) g) ∗ own c arg19 (shapeCast S1x1x1024 (lastRow (fullA cw u ex cb wa wx ba bx lam) (fullB cw u ex cb wa wx ba bx lam) h 32) shapeCasts_S1x1024_S1x1x1024) ∗ own c arg20 (shapeCast S1x8x1024 (lastU u) shapeCasts_S8x1024_S1x8x1024) ∗ own c arg21 (truncf .bf16 (acc xs w0 7) bitsLt_bf16_f32) ∗ own c arg23 (acc xs w1 7) ∗ own c arg25 (lastU u) ∗ (∃ d, own c arg26 d) ∗ (∃ d, own c arg27 d) ∗ (∃ d, own c arg28 d) ∗ own c arg29 (lastRow (fullA cw u ex cb wa wx ba bx lam) (fullB cw u ex cb wa wx ba bx lam) h 32) ∗ own c arg30 w0 ∗ (∃ d, own c arg31 d) ∗ own c arg32 w1 ∗ (∃ d, own c arg33 d)) -∗ K ⟨⟩))
      ⊢ wp frame (wpE (defs₀ (F := F)) Variants.none c none) E (rest arg3 arg4 arg5 arg6 arg7 arg8 arg9 arg10 arg11 arg14 arg18 harg18 arg19 arg20 arg21 harg21 arg23 arg25 arg26 arg27 arg28 arg29 arg30 arg31 arg32 arg33) K := by
  unfold rest
  simp only [wp_bind]
  iintro ⟨H3, H4, H5, H6, H7, H8, H9, H10, H11, H14, H18, H19, H20, H21, H23, H25, ⟨%dA, H26⟩, ⟨%dB, H27⟩, ⟨%dH, H28⟩, H29, H30, H31, H32, H33, Hk⟩
  iapply (head_run c 0 arg5 harg5 arg3 harg3 arg25 harg25 arg6 harg6 arg7 harg7 arg9 harg9 arg8 harg8 arg10 harg10 arg11 harg11 cw u ex cb wa wx ba bx lam E _)
  isplitl [H5 H3 H25 H6 H7 H9 H8 H10 H11]
  · unfold insOwn
    iframe H5 H3 H25 H6 H7 H9 H8 H10 H11
  iintro HI
  iapply (side0_run c arg14 harg14 arg30 harg30 arg31 harg31 arg32 harg32 arg33 harg33 xs w0 w1 E _)
  isplitl [H14 H30 H32]
  · unfold sideOwn
    iframe H14 H30 H32
  isplitl [H31]; · iexact H31
  isplitl [H33]; · iexact H33
  iintro ⟨HD, H31, H33⟩
  iapply (tail_run c 0 _ _ arg26 harg26 arg27 harg27 dA dB E _)
  isplitl [H26]; · iexact H26
  isplitl [H27]; · iexact H27
  iintro ⟨H26, H27⟩
  iapply (mids_run c arg5 harg5 arg3 harg3 arg25 harg25 arg6 harg6 arg7 harg7 arg9 harg9 arg8 harg8 arg10 harg10 arg11 harg11 arg26 harg26 arg27 harg27 arg14 harg14 arg30 harg30 arg31 harg31 arg32 harg32 arg33 harg33 cw u ex cb wa wx ba bx lam xs w0 w1 E _ 6 0 _ (hk := rfl) _ _
    (put_chunk (fun n => cScanA (headOf n cw u ex cb wa wx ba bx lam).1 (headOf n cw u ex cb wa wx ba bx lam).2) dA 0 (by decide) (fun i h => absurd h (by omega)))
    (put_chunk (fun n => cScanB (headOf n cw u ex cb wa wx ba bx lam).1 (headOf n cw u ex cb wa wx ba bx lam).2) dB 0 (by decide) (fun i h => absurd h (by omega))))
  iframe HI H26 H27 HD H31 H33
  iintro %A1
  iintro %B1
  iintro %hAB
  iintro ⟨HI, H26, H27, HD, H31, H33⟩
  iapply (head_run c 7 arg5 harg5 arg3 harg3 arg25 harg25 arg6 harg6 arg7 harg7 arg9 harg9 arg8 harg8 arg10 harg10 arg11 harg11 cw u ex cb wa wx ba bx lam E _)
  isplitl [HI]; · iexact HI
  iintro HI
  iapply (sideLast_run c arg14 harg14 arg30 harg30 arg31 harg31 arg32 harg32 arg33 harg33 arg21 harg21 arg23 harg23 xs w0 w1 E _)
  iframe HD H31 H33 H21 H23
  iintro ⟨HD, H31, H33, H21, H23⟩
  iapply (tail_run c 7 _ _ arg26 harg26 arg27 harg27 A1 B1 E _)
  isplitl [H26]; · iexact H26
  isplitl [H27]; · iexact H27
  iintro ⟨H26, H27⟩
  have hA : VecWindow.put A1 ![0, 0, 128 * (7 : Fin 8).val] S32x8x128.size (cScanA (headOf 7 cw u ex cb wa wx ba bx lam).1 (headOf 7 cw u ex cb wa wx ba bx lam).2) = (fullA cw u ex cb wa wx ba bx lam) :=
    funext fun i => put_chunk (fun n => cScanA (headOf n cw u ex cb wa wx ba bx lam).1 (headOf n cw u ex cb wa wx ba bx lam).2) A1 7 (by decide) hAB.1 i (i 2).isLt
  have hB : VecWindow.put B1 ![0, 0, 128 * (7 : Fin 8).val] S32x8x128.size (cScanB (headOf 7 cw u ex cb wa wx ba bx lam).1 (headOf 7 cw u ex cb wa wx ba bx lam).2) = (fullB cw u ex cb wa wx ba bx lam) :=
    funext fun i => put_chunk (fun n => cScanB (headOf n cw u ex cb wa wx ba bx lam).1 (headOf n cw u ex cb wa wx ba bx lam).2) B1 7 (by decide) hAB.2 i (i 2).isLt
  rw [hA, hB]
  iapply (carry_run c arg29 harg29 h E _)
  isplitl [H29]; · iexact H29
  iintro H29
  iapply (groups_run c arg26 harg26 arg27 harg27 arg28 harg28 _ _ h E _ 32 0 _ (hk := rfl) dH (fun i h => absurd h (by omega)))
  iframe H26 H27 H28
  iintro ⟨H26, H27, H28⟩
  unfold insOwn sideOwn
  icases HI with ⟨H5, H3, H25, H6, H7, H9, H8, H10, H11⟩
  icases HD with ⟨H14, H30, H32⟩
  iapply (final_run c _ arg3 harg3 arg4 harg4 arg18 harg18 arg19 harg19 arg20 harg20 arg25 harg25 arg28 harg28 arg29 harg29 u g _ E _)
  iframe H3 H4 H18 H19 H20
  isplitl [H25]; · iexists _; iexact H25
  isplitl [H28]; · iexact H28
  isplitl [H29]; · iexists _; iexact H29
  iintro ⟨H3, H4, H18, H19, H20, H25, H28, H29⟩
  iapply Hk
  iframe H3 H4 H5 H6 H7 H8 H9 H10 H11 H14 H18 H19 H20 H21 H23 H25
  isplitl [H26]; · iexists _; iexact H26
  isplitl [H27]; · iexists _; iexact H27
  isplitl [H28]; · iexists _; iexact H28
  isplitl [H29]; · iexact H29
  isplitl [H30]; · iexact H30
  isplitl [H31]; · iexists _; iexact H31
  isplitl [H32]; · iexact H32
  iexists _; iexact H33

set_option maxHeartbeats 4000000 in
/-- The body at a channel block's first time tile: the tail and the state start from their blocks. -/
theorem runA (c : Dev nD) (i : grid0.Coords) (arg3 : MR S256x1024 .f32) (harg3 : arg3.IsWhole) (arg4 : MR S256x1024 .f32) (harg4 : arg4.IsWhole) (arg5 : MR S4x1024 .f32) (harg5 : arg5.IsWhole) (arg6 : MR S1x1024 .f32) (harg6 : arg6.IsWhole) (arg7 : MR S8x128x128 .f32) (harg7 : arg7.IsWhole) (arg8 : MR S1x1024 .f32) (harg8 : arg8.IsWhole) (arg9 : MR S8x128x128 .f32) (harg9 : arg9.IsWhole) (arg10 : MR S1x1024 .f32) (harg10 : arg10.IsWhole) (arg11 : MR S1x1024 .f32) (harg11 : arg11.IsWhole) (arg12 : MR S1x8x1024 .f32) (harg12 : arg12.IsWhole) (arg13 : MR S1x1x1024 .f32) (harg13 : arg13.IsWhole) (arg14 : MR S512x2048 .bf16) (harg14 : arg14.IsWhole) (arg15 : MR S128x2048 .bf16) (harg15 : arg15.IsWhole) (arg16 : MR S2048x512 .f32) (harg16 : arg16.IsWhole) (arg17 : MR S2048x512 .f32) (harg17 : arg17.IsWhole) (arg18 : MR S256x1024 .bf16) (harg18 : arg18.IsWhole) (arg19 : MR S1x1x1024 .f32) (harg19 : arg19.IsWhole) (arg20 : MR S1x8x1024 .f32) (harg20 : arg20.IsWhole) (arg21 : MR S512x512 .bf16) (harg21 : arg21.IsWhole) (arg22 : MR S128x512 .bf16) (harg22 : arg22.IsWhole) (arg23 : MR S512x512 .f32) (harg23 : arg23.IsWhole) (arg24 : MR S128x512 .f32) (harg24 : arg24.IsWhole) (arg25 : MR S8x1024 .f32) (harg25 : arg25.IsWhole) (arg26 : MR S32x8x1024 .f32) (harg26 : arg26.IsWhole) (arg27 : MR S32x8x1024 .f32) (harg27 : arg27.IsWhole) (arg28 : MR S32x8x1024 .f32) (harg28 : arg28.IsWhole) (arg29 : MR S1x1024 .f32) (harg29 : arg29.IsWhole) (arg30 : MR S2048x512 .bf16) (harg30 : arg30.IsWhole) (arg31 : MR S512x512 .f32) (harg31 : arg31.IsWhole) (arg32 : MR S2048x512 .bf16) (harg32 : arg32.IsWhole) (arg33 : MR S512x512 .f32) (harg33 : arg33.IsWhole) (hc0 : k0_cond1 i = 1#1)
    (u g : Vec F S256x1024 .f32) (cw : Vec F S4x1024 .f32) (cb : Vec F S1x1024 .f32) (wa : Vec F S8x128x128 .f32) (ba : Vec F S1x1024 .f32) (wx : Vec F S8x128x128 .f32) (bx lam : Vec F S1x1024 .f32) (xs : Vec F S512x2048 .bf16) (x12 : Vec F S1x8x1024 .f32) (x13 : Vec F S1x1x1024 .f32) (x15 : Vec F S128x2048 .bf16) (x16 x17 : Vec F S2048x512 .f32) (E : Set ℕ) (K : PUnit → sProp 𝕄) :
    iprop(own c arg3 u ∗ own c arg4 g ∗ own c arg5 cw ∗ own c arg6 cb ∗ own c arg7 wa ∗ own c arg8 ba ∗ own c arg9 wx ∗ own c arg10 bx ∗ own c arg11 lam ∗ own c arg12 x12 ∗ own c arg13 x13 ∗ own c arg14 xs ∗ own c arg15 x15 ∗ own c arg16 x16 ∗ own c arg17 x17 ∗ (∃ d, own c arg18 d) ∗ (∃ d, own c arg19 d) ∗ (∃ d, own c arg20 d) ∗ (∃ d, own c arg21 d) ∗ (∃ d, own c arg22 d) ∗ (∃ d, own c arg23 d) ∗ (∃ d, own c arg24 d) ∗ (∃ d, own c arg25 d) ∗ (∃ d, own c arg26 d) ∗ (∃ d, own c arg27 d) ∗ (∃ d, own c arg28 d) ∗ (∃ d, own c arg29 d) ∗ (∃ d, own c arg30 d) ∗ (∃ d, own c arg31 d) ∗ (∃ d, own c arg32 d) ∗ (∃ d, own c arg33 d)
        ∗ (iprop(own c arg3 u ∗ own c arg4 g ∗ own c arg5 cw ∗ own c arg6 cb ∗ own c arg7 wa ∗ own c arg8 ba ∗ own c arg9 wx ∗ own c arg10 bx ∗ own c arg11 lam ∗ own c arg12 x12 ∗ own c arg13 x13 ∗ own c arg14 xs ∗ own c arg15 x15 ∗ own c arg16 x16 ∗ own c arg17 x17 ∗ own c arg18 (yOut (fullH (fullA cw u (shapeCast S8x1024 x12 shapeCasts_S1x8x1024_S8x1024) cb wa wx ba bx lam) (fullB cw u (shapeCast S8x1024 x12 shapeCasts_S1x8x1024_S8x1024) cb wa wx ba bx lam) (shapeCast S1x1024 x13 shapeCasts_S1x1x1024_S1x1024)) g) ∗ own c arg19 (shapeCast S1x1x1024 (lastRow (fullA cw u (shapeCast S8x1024 x12 shapeCasts_S1x8x1024_S8x1024) cb wa wx ba bx lam) (fullB cw u (shapeCast S8x1024 x12 shapeCasts_S1x8x1024_S8x1024) cb wa wx ba bx lam) (shapeCast S1x1024 x13 shapeCasts_S1x1x1024_S1x1024) 32) shapeCasts_S1x1024_S1x1x1024) ∗ own c arg20 (shapeCast S1x8x1024 (lastU u) shapeCasts_S8x1024_S1x8x1024) ∗ own c arg21 (truncf .bf16 (acc xs (truncf .bf16 x16 bitsLt_bf16_f32) 7) bitsLt_bf16_f32) ∗ own c arg22 (truncf .bf16 (soxOf x15 x16) bitsLt_bf16_f32) ∗ own c arg23 (acc xs (truncf .bf16 x17 bitsLt_bf16_f32) 7) ∗ own c arg24 (soxOf x15 x17) ∗ own c arg25 (lastU u) ∗ (∃ d, own c arg26 d) ∗ (∃ d, own c arg27 d) ∗ (∃ d, own c arg28 d) ∗ own c arg29 (lastRow (fullA cw u (shapeCast S8x1024 x12 shapeCasts_S1x8x1024_S8x1024) cb wa wx ba bx lam) (fullB cw u (shapeCast S8x1024 x12 shapeCasts_S1x8x1024_S8x1024) cb wa wx ba bx lam) (shapeCast S1x1024 x13 shapeCasts_S1x1x1024_S1x1024) 32) ∗ own c arg30 (truncf .bf16 x16 bitsLt_bf16_f32) ∗ (∃ d, own c arg31 d) ∗ own c arg32 (truncf .bf16 x17 bitsLt_bf16_f32) ∗ (∃ d, own c arg33 d)) -∗ K ⟨⟩))
      ⊢ wp frame (wpE (defs₀ (F := F)) Variants.none c none) E (cc0_rglru i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33) K := by
  rw [cut_eq]; unfold cutBody
  rw [dif_pos hc0]
  simp only [wp_bind]
  iintro ⟨H3, H4, H5, H6, H7, H8, H9, H10, H11, H12, H13, H14, H15, H16, H17, H18, H19, H20, H21, H22, H23, H24, H25, H26, H27, H28, H29, H30, H31, H32, H33, Hk⟩
  iapply (init_run c arg12 harg12 arg13 harg13 arg15 harg15 arg16 harg16 arg17 harg17 arg22 harg22 arg24 harg24 arg25 harg25 arg29 harg29 arg30 harg30 arg32 harg32 x12 x13 x15 x16 x17 E _)
  iframe H12 H13 H15 H16 H17 H22 H24 H25 H29 H30 H32
  iintro ⟨H12, H13, H15, H16, H17, H22, H24, H25, H29, H30, H32⟩
  iapply (rest_run c arg3 harg3 arg4 harg4 arg5 harg5 arg6 harg6 arg7 harg7 arg8 harg8 arg9 harg9 arg10 harg10 arg11 harg11 arg14 harg14 arg18 harg18 arg19 harg19 arg20 harg20 arg21 harg21 arg23 harg23 arg25 harg25 arg26 harg26 arg27 harg27 arg28 harg28 arg29 harg29 arg30 harg30 arg31 harg31 arg32 harg32 arg33 harg33 u g cw cb wa ba wx bx lam xs (shapeCast S8x1024 x12 shapeCasts_S1x8x1024_S8x1024) (shapeCast S1x1024 x13 shapeCasts_S1x1x1024_S1x1024) (truncf .bf16 x16 bitsLt_bf16_f32) (truncf .bf16 x17 bitsLt_bf16_f32) E _)
  iframe H3 H4 H5 H6 H7 H8 H9 H10 H11 H14 H18 H19 H20 H21 H23 H25 H26 H27 H28 H29 H30 H31 H32 H33
  iintro ⟨H3, H4, H5, H6, H7, H8, H9, H10, H11, H14, H18, H19, H20, H21, H23, H25, H26, H27, H28, H29, H30, H31, H32, H33⟩
  iapply Hk
  iframe H3 H4 H5 H6 H7 H8 H9 H10 H11 H12 H13 H14 H15 H16 H17 H18 H19 H20 H21 H22 H23 H24 H25 H26 H27 H28 H29 H30 H31 H32 H33

set_option maxHeartbeats 4000000 in
/-- The body at the other points: it goes on from the tail and the state it kept. -/
theorem runB (c : Dev nD) (i : grid0.Coords) (arg3 : MR S256x1024 .f32) (harg3 : arg3.IsWhole) (arg4 : MR S256x1024 .f32) (harg4 : arg4.IsWhole) (arg5 : MR S4x1024 .f32) (harg5 : arg5.IsWhole) (arg6 : MR S1x1024 .f32) (harg6 : arg6.IsWhole) (arg7 : MR S8x128x128 .f32) (harg7 : arg7.IsWhole) (arg8 : MR S1x1024 .f32) (harg8 : arg8.IsWhole) (arg9 : MR S8x128x128 .f32) (harg9 : arg9.IsWhole) (arg10 : MR S1x1024 .f32) (harg10 : arg10.IsWhole) (arg11 : MR S1x1024 .f32) (harg11 : arg11.IsWhole) (arg12 : MR S1x8x1024 .f32) (harg12 : arg12.IsWhole) (arg13 : MR S1x1x1024 .f32) (harg13 : arg13.IsWhole) (arg14 : MR S512x2048 .bf16) (harg14 : arg14.IsWhole) (arg15 : MR S128x2048 .bf16) (harg15 : arg15.IsWhole) (arg16 : MR S2048x512 .f32) (harg16 : arg16.IsWhole) (arg17 : MR S2048x512 .f32) (harg17 : arg17.IsWhole) (arg18 : MR S256x1024 .bf16) (harg18 : arg18.IsWhole) (arg19 : MR S1x1x1024 .f32) (harg19 : arg19.IsWhole) (arg20 : MR S1x8x1024 .f32) (harg20 : arg20.IsWhole) (arg21 : MR S512x512 .bf16) (harg21 : arg21.IsWhole) (arg22 : MR S128x512 .bf16) (harg22 : arg22.IsWhole) (arg23 : MR S512x512 .f32) (harg23 : arg23.IsWhole) (arg24 : MR S128x512 .f32) (harg24 : arg24.IsWhole) (arg25 : MR S8x1024 .f32) (harg25 : arg25.IsWhole) (arg26 : MR S32x8x1024 .f32) (harg26 : arg26.IsWhole) (arg27 : MR S32x8x1024 .f32) (harg27 : arg27.IsWhole) (arg28 : MR S32x8x1024 .f32) (harg28 : arg28.IsWhole) (arg29 : MR S1x1024 .f32) (harg29 : arg29.IsWhole) (arg30 : MR S2048x512 .bf16) (harg30 : arg30.IsWhole) (arg31 : MR S512x512 .f32) (harg31 : arg31.IsWhole) (arg32 : MR S2048x512 .bf16) (harg32 : arg32.IsWhole) (arg33 : MR S512x512 .f32) (harg33 : arg33.IsWhole) (hc0 : ¬ k0_cond1 i = 1#1)
    (u g : Vec F S256x1024 .f32) (cw : Vec F S4x1024 .f32) (cb : Vec F S1x1024 .f32) (wa : Vec F S8x128x128 .f32) (ba : Vec F S1x1024 .f32) (wx : Vec F S8x128x128 .f32) (bx lam : Vec F S1x1024 .f32) (xs : Vec F S512x2048 .bf16) (ex : Vec F S8x1024 .f32) (h : Vec F S1x1024 .f32) (w0 w1 : Vec F S2048x512 .bf16) (E : Set ℕ) (K : PUnit → sProp 𝕄) :
    iprop(own c arg3 u ∗ own c arg4 g ∗ own c arg5 cw ∗ own c arg6 cb ∗ own c arg7 wa ∗ own c arg8 ba ∗ own c arg9 wx ∗ own c arg10 bx ∗ own c arg11 lam ∗ own c arg14 xs ∗ (∃ d, own c arg18 d) ∗ (∃ d, own c arg19 d) ∗ (∃ d, own c arg20 d) ∗ (∃ d, own c arg21 d) ∗ (∃ d, own c arg23 d) ∗ own c arg25 ex ∗ (∃ d, own c arg26 d) ∗ (∃ d, own c arg27 d) ∗ (∃ d, own c arg28 d) ∗ own c arg29 h ∗ own c arg30 w0 ∗ (∃ d, own c arg31 d) ∗ own c arg32 w1 ∗ (∃ d, own c arg33 d)
        ∗ (iprop(own c arg3 u ∗ own c arg4 g ∗ own c arg5 cw ∗ own c arg6 cb ∗ own c arg7 wa ∗ own c arg8 ba ∗ own c arg9 wx ∗ own c arg10 bx ∗ own c arg11 lam ∗ own c arg14 xs ∗ own c arg18 (yOut (fullH (fullA cw u ex cb wa wx ba bx lam) (fullB cw u ex cb wa wx ba bx lam) h) g) ∗ own c arg19 (shapeCast S1x1x1024 (lastRow (fullA cw u ex cb wa wx ba bx lam) (fullB cw u ex cb wa wx ba bx lam) h 32) shapeCasts_S1x1024_S1x1x1024) ∗ own c arg20 (shapeCast S1x8x1024 (lastU u) shapeCasts_S8x1024_S1x8x1024) ∗ own c arg21 (truncf .bf16 (acc xs w0 7) bitsLt_bf16_f32) ∗ own c arg23 (acc xs w1 7) ∗ own c arg25 (lastU u) ∗ (∃ d, own c arg26 d) ∗ (∃ d, own c arg27 d) ∗ (∃ d, own c arg28 d) ∗ own c arg29 (lastRow (fullA cw u ex cb wa wx ba bx lam) (fullB cw u ex cb wa wx ba bx lam) h 32) ∗ own c arg30 w0 ∗ (∃ d, own c arg31 d) ∗ own c arg32 w1 ∗ (∃ d, own c arg33 d)) -∗ K ⟨⟩))
      ⊢ wp frame (wpE (defs₀ (F := F)) Variants.none c none) E (cc0_rglru i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33) K := by
  rw [cut_eq]; unfold cutBody
  rw [dif_neg hc0]
  exact rest_run c arg3 harg3 arg4 harg4 arg5 harg5 arg6 harg6 arg7 harg7 arg8 harg8 arg9 harg9 arg10 harg10 arg11 harg11 arg14 harg14 arg18 harg18 arg19 harg19 arg20 harg20 arg21 harg21 arg23 harg23 arg25 harg25 arg26 harg26 arg27 harg27 arg28 harg28 arg29 harg29 arg30 harg30 arg31 harg31 arg32 harg32 arg33 harg33 u g cw cb wa ba wx bx lam xs ex h w0 w1 E K

/-! ## What the points leave -/

/-- The body's condition in closed form: the first time tile of each channel block. -/
theorem cond_iff : ∀ t : Fin cfg0.N, k0_cond1 (grid0.coords t) = 1#1 ↔ t.val % 16 = 0 :=
  (by decide +kernel : ∀ t : Fin grid0.N, k0_cond1 (grid0.coords t) = 1#1 ↔ t.val % 16 = 0)

/-- The point before. -/
abbrev prev (t : Fin cfg0.N) : Fin cfg0.N := ⟨t.val - 1, Nat.lt_of_le_of_lt (Nat.sub_le _ _) t.isLt⟩

/-- The eight inputs before a tile's first row. -/
def exIn : Vec F S8x1024 .f32 :=
  if t.val % 16 = 0 then shapeCast S8x1024 (iblk m c 9 t) shapeCasts_S1x8x1024_S8x1024 else lastU (iblk m c 0 (prev t))
/-- The scans of a tile. -/
def tA : Vec F S32x8x1024 .f32 := fullA (iblk m c 2 t) (iblk m c 0 t) (exIn m c t) (iblk m c 3 t) (iblk m c 4 t) (iblk m c 6 t) (iblk m c 5 t) (iblk m c 7 t) (iblk m c 8 t)
def tB : Vec F S32x8x1024 .f32 := fullB (iblk m c 2 t) (iblk m c 0 t) (exIn m c t) (iblk m c 3 t) (iblk m c 4 t) (iblk m c 6 t) (iblk m c 5 t) (iblk m c 7 t) (iblk m c 8 t)

/-- The state after a tile's last row. -/
def carry (c : Dev nD) : (n : ℕ) → n < cfg0.N → Vec F S1x1024 .f32
  | 0, h => lastRow (tA m c ⟨0, h⟩) (tB m c ⟨0, h⟩) (shapeCast S1x1024 (iblk m c 10 ⟨0, h⟩) shapeCasts_S1x1x1024_S1x1024) 32
  | n + 1, h => lastRow (tA m c ⟨n + 1, h⟩) (tB m c ⟨n + 1, h⟩)
      (if (n + 1) % 16 = 0 then shapeCast S1x1024 (iblk m c 10 ⟨n + 1, h⟩) shapeCasts_S1x1x1024_S1x1024 else carry c n (Nat.lt_of_succ_lt h)) 32
/-- The state before a tile's first row. -/
def hIn : Vec F S1x1024 .f32 :=
  if t.val % 16 = 0 then shapeCast S1x1024 (iblk m c 10 t) shapeCasts_S1x1x1024_S1x1024 else carry m c (prev t).val (prev t).isLt

theorem carry_eq (c : Dev nD) : ∀ t : Fin cfg0.N, carry m c t.val t.isLt = lastRow (tA m c t) (tB m c t) (hIn m c t) 32
  | ⟨0, h⟩ => rfl
  | ⟨n + 1, h⟩ => rfl

/-- A weight block as the body keeps it. -/
def wb0 : Vec F S2048x512 .bf16 := truncf .bf16 (iblk m c 13 t) bitsLt_bf16_f32
def wb1 : Vec F S2048x512 .bf16 := truncf .bf16 (iblk m c 14 t) bitsLt_bf16_f32
def o15 : Vec F S256x1024 .bf16 := yOut (fullH (tA m c t) (tB m c t) (hIn m c t)) (iblk m c 1 t)
def o16 : Vec F S1x1x1024 .f32 := shapeCast S1x1x1024 (carry m c t.val t.isLt) shapeCasts_S1x1024_S1x1x1024
def o17 : Vec F S1x8x1024 .f32 := shapeCast S1x8x1024 (lastU (iblk m c 0 t)) shapeCasts_S8x1024_S1x8x1024
def o18 : Vec F S512x512 .bf16 := truncf .bf16 (acc (iblk m c 11 t) (wb0 m c t) 7) bitsLt_bf16_f32
def o19 : Vec F S128x512 .bf16 := truncf .bf16 (soxOf (iblk m c 12 t) (iblk m c 13 t)) bitsLt_bf16_f32
def o20 : Vec F S512x512 .f32 := acc (iblk m c 11 t) (wb1 m c t) 7
def o21 : Vec F S128x512 .f32 := soxOf (iblk m c 12 t) (iblk m c 14 t)

/-- This output is left alone at the other points. -/
theorem idle_of19 (t : Fin cfg0.N) (h : t.val % 16 ≠ 0) : cfg0.idle 19 (grid0.coords t) = true := by
  have hc : ¬ k0_cond1 (grid0.coords t) = 1#1 := fun e => h ((cond_iff t).mp e)
  show (!(k0_cond1 (grid0.coords t) == 1#1)) = true
  rw [beq_eq_false_iff_ne.mpr hc]; rfl

theorem live_of19 (t : Fin cfg0.N) (h : t.val % 16 = 0) : cfg0.idle 19 (grid0.coords t) = false := by
  show (!(k0_cond1 (grid0.coords t) == 1#1)) = false
  rw [beq_iff_eq.mpr ((cond_iff t).mpr h)]; rfl

/-- This output is left alone at the other points. -/
theorem idle_of21 (t : Fin cfg0.N) (h : t.val % 16 ≠ 0) : cfg0.idle 21 (grid0.coords t) = true := by
  have hc : ¬ k0_cond1 (grid0.coords t) = 1#1 := fun e => h ((cond_iff t).mp e)
  show (!(k0_cond1 (grid0.coords t) == 1#1)) = true
  rw [beq_eq_false_iff_ne.mpr hc]; rfl

theorem live_of21 (t : Fin cfg0.N) (h : t.val % 16 = 0) : cfg0.idle 21 (grid0.coords t) = false := by
  show (!(k0_cond1 (grid0.coords t) == 1#1)) = false
  rw [beq_iff_eq.mpr ((cond_iff t).mpr h)]; rfl

/-- A scratch operand, a whole scoped buffer. -/
abbrev scM0 : MR S8x1024 .f32 := Memref.whole cc0_scratch0
/-- A scratch operand, a whole scoped buffer. -/
abbrev scM1 : MR S32x8x1024 .f32 := Memref.whole cc0_scratch1
/-- A scratch operand, a whole scoped buffer. -/
abbrev scM2 : MR S32x8x1024 .f32 := Memref.whole cc0_scratch2
/-- A scratch operand, a whole scoped buffer. -/
abbrev scM3 : MR S32x8x1024 .f32 := Memref.whole cc0_scratch3
/-- A scratch operand, a whole scoped buffer. -/
abbrev scM4 : MR S1x1024 .f32 := Memref.whole cc0_scratch4
/-- A scratch operand, a whole scoped buffer. -/
abbrev scM5 : MR S2048x512 .bf16 := Memref.whole cc0_scratch5
/-- A scratch operand, a whole scoped buffer. -/
abbrev scM6 : MR S512x512 .f32 := Memref.whole cc0_scratch6
/-- A scratch operand, a whole scoped buffer. -/
abbrev scM7 : MR S2048x512 .bf16 := Memref.whole cc0_scratch7
/-- A scratch operand, a whole scoped buffer. -/
abbrev scM8 : MR S512x512 .f32 := Memref.whole cc0_scratch8

theorem PhiA_eq (c : Dev nD) :
    (Pipeline.ΦA spec0 c : sProp 𝕄) = iprop(((∃ d, own c scM0 d) ∗ (∃ d, own c scM1 d) ∗ (∃ d, own c scM2 d) ∗ (∃ d, own c scM3 d) ∗ (∃ d, own c scM4 d) ∗ (∃ d, own c scM5 d) ∗ (∃ d, own c scM6 d) ∗ (∃ d, own c scM7 d) ∗ (∃ d, own c scM8 d)) ∗ (∃ r, prngReg c r)) := by
  unfold Pipeline.ΦA; rw [scopedRest0_eq]; simp only [scM0, scM1, scM2, scM3, scM4, scM5, scM6, scM7, scM8, owns_whole]; try rfl

/-- Between points: after the first, the kept tail, state and weight blocks are the last point's. -/
def PhiS (c : Dev nD) : (n : ℕ) → n ≤ cfg0.N → sProp 𝕄
  | 0, _ => Pipeline.ΦA spec0 c
  | n + 1, hn => iprop(own c scM0 (lastU (iblk m c 0 ⟨n, hn⟩)) ∗ (∃ d, own c scM1 d) ∗ (∃ d, own c scM2 d) ∗ (∃ d, own c scM3 d) ∗ own c scM4 (carry m c n hn) ∗ own c scM5 (wb0 m c ⟨n, hn⟩) ∗ (∃ d, own c scM6 d) ∗ own c scM7 (wb1 m c ⟨n, hn⟩) ∗ (∃ d, own c scM8 d) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(own c scM0 (lastU (iblk m c 0 ⟨n, hn⟩)) ∗ (∃ d, own c scM1 d) ∗ (∃ d, own c scM2 d) ∗ (∃ d, own c scM3 d) ∗ own c scM4 (carry m c n hn) ∗ own c scM5 (wb0 m c ⟨n, hn⟩) ∗ (∃ d, own c scM6 d) ∗ own c scM7 (wb1 m c ⟨n, hn⟩) ∗ (∃ d, own c scM8 d) ∗ (∃ r, prngReg c r)) := rfl

theorem PhiS_pos (c : Dev nD) (n : ℕ) (h : n ≤ cfg0.N) (hz : n ≠ 0) :
    PhiS m c n h = iprop(own c scM0 (lastU (iblk m c 0 ⟨n - 1, by omega⟩)) ∗ (∃ d, own c scM1 d) ∗ (∃ d, own c scM2 d) ∗ (∃ d, own c scM3 d) ∗ own c scM4 (carry m c (n - 1) (by omega)) ∗ own c scM5 (wb0 m c ⟨n - 1, by omega⟩) ∗ (∃ d, own c scM6 d) ∗ own c scM7 (wb1 m c ⟨n - 1, by omega⟩) ∗ (∃ d, own c scM8 d) ∗ (∃ r, prngReg c r)) := by
  cases n with
  | zero => exact absurd rfl hz
  | succ n => rfl

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => o15 m c t
    | ⟨16, _⟩ => o16 m c t
    | ⟨17, _⟩ => o17 m c t
    | ⟨18, _⟩ => o18 m c t
    | ⟨19, _⟩ => o19 m c t
    | ⟨20, _⟩ => o20 m c t
    | ⟨21, _⟩ => o21 m c t
    | ⟨n + 22, h⟩ => absurd h (Nat.not_lt_of_le (Nat.le_add_left 22 n))
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc :
    (dats m 0 c).Φ t.castSucc = PhiS m c t.val (Nat.le_of_lt t.isLt) := by
  dsimp only [dats]; exact Pipeline.Dat.Φ_castSucc (PhiS m c) t

theorem after0 : (dats m 0 c).after 0 t = iblk m c 0 t := by dsimp only [dats]
theorem after1 : (dats m 0 c).after 1 t = iblk m c 1 t := by dsimp only [dats]
theorem after2 : (dats m 0 c).after 2 t = iblk m c 2 t := by dsimp only [dats]
theorem after3 : (dats m 0 c).after 3 t = iblk m c 3 t := by dsimp only [dats]
theorem after4 : (dats m 0 c).after 4 t = iblk m c 4 t := by dsimp only [dats]
theorem after5 : (dats m 0 c).after 5 t = iblk m c 5 t := by dsimp only [dats]
theorem after6 : (dats m 0 c).after 6 t = iblk m c 6 t := by dsimp only [dats]
theorem after7 : (dats m 0 c).after 7 t = iblk m c 7 t := by dsimp only [dats]
theorem after8 : (dats m 0 c).after 8 t = iblk m c 8 t := by dsimp only [dats]
theorem after9 : (dats m 0 c).after 9 t = iblk m c 9 t := by dsimp only [dats]
theorem after10 : (dats m 0 c).after 10 t = iblk m c 10 t := by dsimp only [dats]
theorem after11 : (dats m 0 c).after 11 t = iblk m c 11 t := by dsimp only [dats]
theorem after12 : (dats m 0 c).after 12 t = iblk m c 12 t := by dsimp only [dats]
theorem after13 : (dats m 0 c).after 13 t = iblk m c 13 t := by dsimp only [dats]
theorem after14 : (dats m 0 c).after 14 t = iblk m c 14 t := by dsimp only [dats]
theorem after15 : (dats m 0 c).after 15 t = o15 m c t := by dsimp only [dats]
theorem after16 : (dats m 0 c).after 16 t = o16 m c t := by dsimp only [dats]
theorem after17 : (dats m 0 c).after 17 t = o17 m c t := by dsimp only [dats]
theorem after18 : (dats m 0 c).after 18 t = o18 m c t := by dsimp only [dats]
theorem after19 : (dats m 0 c).after 19 t = o19 m c t := by dsimp only [dats]
theorem after20 : (dats m 0 c).after 20 t = o20 m c t := by dsimp only [dats]
theorem after21 : (dats m 0 c).after 21 t = o21 m c t := by dsimp only [dats]
theorem before0 (d) : (dats m 0 c).before 0 t d = iblk m c 0 t :=
  before0_0_of m (dats m 0 c) (A_eq m c 0) (after0 m c) t d
theorem before1 (d) : (dats m 0 c).before 1 t d = iblk m c 1 t :=
  before0_1_of m (dats m 0 c) (A_eq m c 1) (after1 m c) t d
theorem before2 (d) : (dats m 0 c).before 2 t d = iblk m c 2 t :=
  before0_2_of m (dats m 0 c) (A_eq m c 2) (after2 m c) t d
theorem before3 (d) : (dats m 0 c).before 3 t d = iblk m c 3 t :=
  before0_3_of m (dats m 0 c) (A_eq m c 3) (after3 m c) t d
theorem before4 (d) : (dats m 0 c).before 4 t d = iblk m c 4 t :=
  before0_4_of m (dats m 0 c) (A_eq m c 4) (after4 m c) t d
theorem before5 (d) : (dats m 0 c).before 5 t d = iblk m c 5 t :=
  before0_5_of m (dats m 0 c) (A_eq m c 5) (after5 m c) t d
theorem before6 (d) : (dats m 0 c).before 6 t d = iblk m c 6 t :=
  before0_6_of m (dats m 0 c) (A_eq m c 6) (after6 m c) t d
theorem before7 (d) : (dats m 0 c).before 7 t d = iblk m c 7 t :=
  before0_7_of m (dats m 0 c) (A_eq m c 7) (after7 m c) t d
theorem before8 (d) : (dats m 0 c).before 8 t d = iblk m c 8 t :=
  before0_8_of m (dats m 0 c) (A_eq m c 8) (after8 m c) t d
theorem before9 (d) : (dats m 0 c).before 9 t d = iblk m c 9 t :=
  before0_9_of m (dats m 0 c) (A_eq m c 9) (after9 m c) t d
theorem before10 (d) : (dats m 0 c).before 10 t d = iblk m c 10 t :=
  before0_10_of m (dats m 0 c) (A_eq m c 10) (after10 m c) t d
theorem before11 (d) : (dats m 0 c).before 11 t d = iblk m c 11 t :=
  before0_11_of m (dats m 0 c) (A_eq m c 11) (after11 m c) t d
theorem before12 (d) : (dats m 0 c).before 12 t d = iblk m c 12 t :=
  before0_12_of m (dats m 0 c) (A_eq m c 12) (after12 m c) t d
theorem before13 (d) : (dats m 0 c).before 13 t d = iblk m c 13 t :=
  before0_13_of m (dats m 0 c) (A_eq m c 13) (after13 m c) t d
theorem before14 (d) : (dats m 0 c).before 14 t d = iblk m c 14 t :=
  before0_14_of m (dats m 0 c) (A_eq m c 14) (after14 m c) t d

/-! ## Within a channel block the weights stay -/

theorem iblk12_prev (ht : t.val % 16 ≠ 0) : iblk m c 12 (prev t) = iblk m c 12 t := by
  have hf : (cfg0.win 12).fetch t = false := Bool.eq_false_iff.mpr fun e => by have := (fetch0_12 t).mp e; omega
  have h := (dats m 0 c).before_of_pos 12 t (by omega) hf (fun _ => Classical.arbitrary _)
  rw [before12, (cfg0.win 12).flush_in rfl, if_neg Bool.false_ne_true] at h
  rw [h]; exact (after12 m c (prev t)).symm

theorem iblk13_prev (ht : t.val % 16 ≠ 0) : iblk m c 13 (prev t) = iblk m c 13 t := by
  have hf : (cfg0.win 13).fetch t = false := Bool.eq_false_iff.mpr fun e => by have := (fetch0_13 t).mp e; omega
  have h := (dats m 0 c).before_of_pos 13 t (by omega) hf (fun _ => Classical.arbitrary _)
  rw [before13, (cfg0.win 13).flush_in rfl, if_neg Bool.false_ne_true] at h
  rw [h]; exact (after13 m c (prev t)).symm

theorem iblk14_prev (ht : t.val % 16 ≠ 0) : iblk m c 14 (prev t) = iblk m c 14 t := by
  have hf : (cfg0.win 14).fetch t = false := Bool.eq_false_iff.mpr fun e => by have := (fetch0_14 t).mp e; omega
  have h := (dats m 0 c).before_of_pos 14 t (by omega) hf (fun _ => Classical.arbitrary _)
  rw [before14, (cfg0.win 14).flush_in rfl, if_neg Bool.false_ne_true] at h
  rw [h]; exact (after14 m c (prev t)).symm

theorem wb0_prev (ht : t.val % 16 ≠ 0) : wb0 m c (prev t) = wb0 m c t := by
  unfold wb0; rw [iblk13_prev m c t ht]

theorem wb1_prev (ht : t.val % 16 ≠ 0) : wb1 m c (prev t) = wb1 m c t := by
  unfold wb1; rw [iblk14_prev m c t ht]

theorem o19_prev (ht : t.val % 16 ≠ 0) : o19 m c (prev t) = o19 m c t := by
  unfold o19; rw [iblk12_prev m c t ht, iblk13_prev m c t ht]

theorem o21_prev (ht : t.val % 16 ≠ 0) : o21 m c (prev t) = o21 m c t := by
  unfold o21; rw [iblk12_prev m c t ht, iblk14_prev m c t ht]

/-- This output's buffer holds its block from the channel block's first point on. -/
theorem before19 (c : Dev nD) : ∀ (n : ℕ) (t : Fin cfg0.N), t.val = n → t.val % 16 ≠ 0 → ∀ d, (dats m 0 c).before 19 t d = o19 m c t := by
  intro n
  induction n with
  | zero => intro t h0 ht; omega
  | succ n ih =>
    intro t hn ht d
    rw [(dats m 0 c).before_of_pos 19 t (by omega) ((cfg0.win 19).fetch_out rfl t) d]
    have hfl : (cfg0.win 19).flush (prev t) = false :=
      Bool.eq_false_iff.mpr fun e => by have := (flush0_19 (prev t)).mp e; simp only [prev] at this; omega
    rw [hfl, if_neg Bool.false_ne_true, ← o19_prev m c t ht]
    unfold Dat.left
    by_cases h : (prev t).val % 16 = 0
    · rw [live_of19 _ h]; exact after19 m c (prev t)
    · rw [idle_of19 _ h]; exact ih (prev t) (by simp only [prev]; omega) h d

/-- Where this output is written, or was, its block is what the obligation asks for. -/
theorem leaves19 :
    owns (c : Thread nD τ) ((cfg0.win 19).stage (cfg0.slots t 19)) fullShare (o19 m c t) ⊢ ((dats m 0 c).leavesExact 19 t : sProp 𝕄) := by
  unfold Dat.leavesExact
  by_cases h : t.val % 16 = 0
  · rw [live_of19 t h]; rw [after19]
  · rw [idle_of19 t h]
    cases (cfg0.win 19).flush t
    · iintro H; iexists fun _ => Classical.arbitrary _
      rw [before19 m c _ t rfl h]; iexact H
    · rw [after19]

/-- This output's buffer holds its block from the channel block's first point on. -/
theorem before21 (c : Dev nD) : ∀ (n : ℕ) (t : Fin cfg0.N), t.val = n → t.val % 16 ≠ 0 → ∀ d, (dats m 0 c).before 21 t d = o21 m c t := by
  intro n
  induction n with
  | zero => intro t h0 ht; omega
  | succ n ih =>
    intro t hn ht d
    rw [(dats m 0 c).before_of_pos 21 t (by omega) ((cfg0.win 21).fetch_out rfl t) d]
    have hfl : (cfg0.win 21).flush (prev t) = false :=
      Bool.eq_false_iff.mpr fun e => by have := (flush0_21 (prev t)).mp e; simp only [prev] at this; omega
    rw [hfl, if_neg Bool.false_ne_true, ← o21_prev m c t ht]
    unfold Dat.left
    by_cases h : (prev t).val % 16 = 0
    · rw [live_of21 _ h]; exact after21 m c (prev t)
    · rw [idle_of21 _ h]; exact ih (prev t) (by simp only [prev]; omega) h d

/-- Where this output is written, or was, its block is what the obligation asks for. -/
theorem leaves21 :
    owns (c : Thread nD τ) ((cfg0.win 21).stage (cfg0.slots t 21)) fullShare (o21 m c t) ⊢ ((dats m 0 c).leavesExact 21 t : sProp 𝕄) := by
  unfold Dat.leavesExact
  by_cases h : t.val % 16 = 0
  · rw [live_of21 t h]; rw [after21]
  · rw [idle_of21 t h]
    cases (cfg0.win 21).flush t
    · iintro H; iexists fun _ => Classical.arbitrary _
      rw [before21 m c _ t rfl h]; iexact H
    · rw [after21]

/-! ## The body at any point -/

/-- What the body is called with, -/
def bodyPre : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d)))

/-- and what it returns. -/
def bodyPost : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ (dats m 0 c).leavesExact 19 t
    ∗ owns (c : Thread nD τ) (st0_20 t) fullShare ((dats m 0 c).after 20 t)
    ∗ (dats m 0 c).leavesExact 21 t)

set_option maxHeartbeats 6400000 in
theorem sound_body :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12, before13, before14]
  rw [show (dats m 0 c).owesAt () t.succ = (dats m 0 c).owesAt () t.castSucc from rfl, after0, after1, after2, after3, after4, after5, after6, after7, after8, after9, after10, after11, after12, after13, after14, after15, after16, after17, after18, after20]
  rw [show (dats m 0 c).Φ t.succ = PhiS m c (t.val + 1) t.isLt from rfl, PhiS_succ, PhiS_castSucc m c t, carry_eq m c t]
  by_cases h0 : t.val % 16 = 0
  · have hS : PhiS m c t.val (Nat.le_of_lt t.isLt) ⊢ iprop((∃ d, own c scM0 d) ∗ (∃ d, own c scM1 d) ∗ (∃ d, own c scM2 d) ∗ (∃ d, own c scM3 d) ∗ (∃ d, own c scM4 d) ∗ (∃ d, own c scM5 d) ∗ (∃ d, own c scM6 d) ∗ (∃ d, own c scM7 d) ∗ (∃ d, own c scM8 d) ∗ (∃ r, prngReg c r)) := by
      by_cases hz : t.val = 0
      · rw [PhiS_zero m c _ _ hz, PhiA_eq]
        iintro ⟨⟨HS0, HS1, HS2, HS3, HS4, HS5, HS6, HS7, HS8⟩, Hg⟩
        iframe HS0 HS1 HS2 HS3 HS4 HS5 HS6 HS7 HS8 Hg
      · rw [PhiS_pos m c _ _ hz]; iintro ⟨HS0, HS1, HS2, HS3, HS4, HS5, HS6, HS7, HS8, Hg⟩
        isplitl [HS0]; · iexists _; iexact HS0
        iframe HS1 HS2 HS3
        isplitl [HS4]; · iexists _; iexact HS4
        isplitl [HS5]; · iexists _; iexact HS5
        isplitl [HS6]; · iexact HS6
        isplitl [HS7]; · iexists _; iexact HS7
        isplitl [HS8]; · iexact HS8
        iexact Hg
    refine (sep_mono hS .rfl).trans ?_
    unfold o15 o16 o17 o18 o20
    rw [carry_eq m c t]; unfold tA tB wb0 wb1
    rw [show exIn m c t = shapeCast S8x1024 (iblk m c 9 t) shapeCasts_S1x8x1024_S8x1024 from if_pos h0,
      show hIn m c t = shapeCast S1x1024 (iblk m c 10 t) shapeCasts_S1x1x1024_S1x1024 from if_pos h0]
    iintro ⟨⟨HS0, HS1, HS2, HS3, HS4, HS5, HS6, HS7, HS8, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
    iapply (runA c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ ((cond_iff t).mpr h0) (iblk m c 0 t) (iblk m c 1 t) (iblk m c 2 t) (iblk m c 3 t) (iblk m c 4 t) (iblk m c 5 t) (iblk m c 6 t) (iblk m c 7 t) (iblk m c 8 t) (iblk m c 11 t) (iblk m c 9 t) (iblk m c 10 t) (iblk m c 12 t) (iblk m c 13 t) (iblk m c 14 t) Set.univ _)
    iframe H0 H1 H2 H3 H4 H5 H6 H7 H8 H9 H10 H11 H12 H13 H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    iframe HS0 HS1 HS2 HS3 HS4 HS5 HS6 HS7 HS8
    iintro ⟨H0, H1, H2, H3, H4, H5, H6, H7, H8, H9, H10, H11, H12, H13, H14, H15, H16, H17, H18, H19, H20, H21, HS0, HS1, HS2, HS3, HS4, HS5, HS6, HS7, HS8⟩
    isplitl [HS0 HS1 HS2 HS3 HS4 HS5 HS6 HS7 HS8 Hg]
    · iframe HS0 HS1 HS2 HS3 HS4 HS5 HS6 HS7 HS8 Hg
    iframe Ho H0 H1 H2 H3 H4 H5 H6 H7 H8 H9 H10 H11 H12 H13 H14 H15 H16 H17 H18
    isplitl [H19]
    · iapply (leaves19 m c t)
      iexact H19
    isplitl [H20]; · iexact H20
    iapply (leaves21 m c t)
    iexact H21
  · rw [PhiS_pos m c _ _ (by omega), show wb0 m c ⟨t.val - 1, by omega⟩ = wb0 m c t from wb0_prev m c t h0, show wb1 m c ⟨t.val - 1, by omega⟩ = wb1 m c t from wb1_prev m c t h0]
    simp only [before19 m c _ t rfl h0, before21 m c _ t rfl h0]
    unfold o15 o16 o17 o18 o20
    rw [carry_eq m c t]; unfold tA tB
    rw [show exIn m c t = lastU (iblk m c 0 (prev t)) from if_neg h0,
      show hIn m c t = carry m c (t.val - 1) (by omega) from if_neg h0]
    iintro ⟨⟨HS0, HS1, HS2, HS3, HS4, HS5, HS6, HS7, HS8, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
    iapply (runB c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (fun h => h0 ((cond_iff t).mp h)) (iblk m c 0 t) (iblk m c 1 t) (iblk m c 2 t) (iblk m c 3 t) (iblk m c 4 t) (iblk m c 5 t) (iblk m c 6 t) (iblk m c 7 t) (iblk m c 8 t) (iblk m c 11 t) (lastU (iblk m c 0 (prev t))) (carry m c (t.val - 1) (by omega)) (wb0 m c t) (wb1 m c t) Set.univ _)
    iframe H0 H1 H2 H3 H4 H5 H6 H7 H8 H11
    isplitl [H15]; · iexists _; iexact H15
    isplitl [H16]; · iexists _; iexact H16
    isplitl [H17]; · iexists _; iexact H17
    isplitl [H18]; · iexists _; iexact H18
    isplitl [H20]; · iexists _; iexact H20
    iframe HS0 HS1 HS2 HS3 HS4 HS5 HS6 HS7 HS8
    iintro ⟨H0, H1, H2, H3, H4, H5, H6, H7, H8, H11, H15, H16, H17, H18, H20, HS0, HS1, HS2, HS3, HS4, HS5, HS6, HS7, HS8⟩
    isplitl [HS0 HS1 HS2 HS3 HS4 HS5 HS6 HS7 HS8 Hg]
    · iframe HS0 HS1 HS2 HS3 HS4 HS5 HS6 HS7 HS8 Hg
    iframe Ho H0 H1 H2 H3 H4 H5 H6 H7 H8 H9 H10 H11 H12 H13 H14 H15 H16 H17 H18
    isplitl [H19]
    · iapply (leaves19 m c t)
      iexact H19
    isplitl [H20]; · iexact H20
    iapply (leaves21 m c t)
    iexact H21

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c cfg0.N (Nat.le_refl _) from rfl,
    PhiS_pos m c _ _ (by have : cfg0.N = 64 := N_0; omega), PhiA_eq]
  iintro ⟨HS0, HS1, HS2, HS3, HS4, HS5, HS6, HS7, HS8, Hg⟩
  isplitl [HS0 HS1 HS2 HS3 HS4 HS5 HS6 HS7 HS8]
  · isplitl [HS0]; · iexists _; iexact HS0
    iframe HS1 HS2 HS3
    isplitl [HS4]; · iexists _; iexact HS4
    isplitl [HS5]; · iexists _; iexact HS5
    isplitl [HS6]; · iexact HS6
    isplitl [HS7]; · iexists _; iexact HS7
    iexact HS8
  iexact Hg

/-! ## The run and the frame -/

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged, and no semaphore is left raised. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (frame_of m ρ (dats m) (A_eq m) (run_main m ρ)) ((θ_run defs _ _).mono (fun _ h => h.2) (run_main_quiescent m ρ))

end Cert.Kernel8Ideal.Hand

end
-- ==== Proof.RglruPrompt.Spec.lean ====
/- What the recurrence computes on the prompt rows, over the extended reals: the results as functions of the arrays. -/
module

public import proofs.«01_k».proof.Proof.Recur

@[expose] public section

noncomputable section

namespace Cert.RecurPrompt

open Idealize.ShloMosaic Cert.Recur

/-- The arrays: the projected rows, the rows of the two side products and their weights, and the layer's weights. -/
structure Args where
  z : (⟨2, ![8192, 10240]⟩ : Shape).Idx → EReal
  hp : (⟨2, ![8192, 2048]⟩ : Shape).Idx → EReal
  hs : (⟨2, ![128, 2048]⟩ : Shape).Idx → EReal
  w : (⟨3, ![1, 2048, 14336]⟩ : Shape).Idx → EReal
  cw : (⟨3, ![1, 4, 2048]⟩ : Shape).Idx → EReal
  cb : (⟨2, ![1, 2048]⟩ : Shape).Idx → EReal
  wa : (⟨4, ![1, 16, 128, 128]⟩ : Shape).Idx → EReal
  ba : (⟨2, ![1, 2048]⟩ : Shape).Idx → EReal
  wx : (⟨4, ![1, 16, 128, 128]⟩ : Shape).Idx → EReal
  bx : (⟨2, ![1, 2048]⟩ : Shape).Idx → EReal
  lam : (⟨2, ![1, 2048]⟩ : Shape).Idx → EReal

/-- Batch `b`'s values at block `n` of channels. -/
def Args.par (p : Args) (b : Fin 2) (n : Fin 16) : Par where
  cw := fun k l => p.cw (ix3 0 k (chJ n l))
  cb := fun l => p.cb (ix2 0 (chJ n l))
  wa := fun k l => p.wa (ix4 0 n k l)
  ba := fun l => p.ba (ix2 0 (chJ n l))
  wx := fun k l => p.wx (ix4 0 n k l)
  bx := fun l => p.bx (ix2 0 (chJ n l))
  lam := fun l => p.lam (ix2 0 (chJ n l))
  x := fun s l => if s < 3 then 0
    else if h : s - 3 < 4096 then p.z (ix2 ⟨4096 * b.val + (s - 3), by omega⟩ ⟨4096 + (chJ n l).val, by omega⟩) else 0

/-- The state of batch `b` at channel `j` after `k` rows. -/
def Args.state (p : Args) (b : Fin 2) (j : Fin 2048) (k : ℕ) : EReal :=
  R ((p.par b (chN j)).a (chL j)) ((p.par b (chN j)).b (chL j)) 0 k 0

/-- The gated rows, -/
def Args.y (p : Args) : (⟨2, ![8192, 2048]⟩ : Shape).Idx → EReal := fun i =>
  p.state ⟨(i 0).val / 4096, by have := (i 0).isLt; change (i 0).val < 8192 at this; omega⟩ (i 1) ((i 0).val % 4096 + 1)
    * gel (p.z (ix2 (i 0) ⟨6144 + (i 1).val, by have := (i 1).isLt; change (i 1).val < 2048 at this; omega⟩))
/-- the last state, -/
def Args.last (p : Args) : (⟨3, ![2, 1, 2048]⟩ : Shape).Idx → EReal := fun i => p.state (i 0) (i 2) 4096
/-- the last eight inputs, -/
def Args.conv (p : Args) : (⟨3, ![2, 8, 2048]⟩ : Shape).Idx → EReal := fun i =>
  p.z (ix2 ⟨4096 * (i 0).val + 4088 + (i 1).val, by
      have h0 := (i 0).isLt; have h1 := (i 1).isLt; change (i 0).val < 2 at h0; change (i 1).val < 8 at h1; omega⟩
    ⟨4096 + (i 2).val, by have := (i 2).isLt; change (i 2).val < 2048 at this; omega⟩)
/-- and the two side products, of `n` rows with the `2048` columns of the weights from `off`. -/
def side {n : ℕ} (x : (⟨2, ![n, 2048]⟩ : Shape).Idx → EReal) (w : (⟨3, ![1, 2048, 14336]⟩ : Shape).Idx → EReal) (off : ℕ) (h : off ≤ 12288) :
    (⟨2, ![n, 2048]⟩ : Shape).Idx → EReal := fun i =>
  ∑ k : Fin 2048, x (ix2 (i 0) k) * w (ix3 0 k ⟨off + (i 1).val, by have := (i 1).isLt; change (i 1).val < 2048 at this; omega⟩)

theorem side_zero {n : ℕ} (x : (⟨2, ![n, 2048]⟩ : Shape).Idx → EReal) (w : (⟨3, ![1, 2048, 14336]⟩ : Shape).Idx → EReal) (h : 0 ≤ 12288)
    (r : Fin n) (j : Fin 2048) : side x w 0 h (ix2 r j) = ∑ k : Fin 2048, x (ix2 r k) * w (ix3 0 k ⟨j.val, by omega⟩) :=
  Finset.sum_congr rfl fun k _ => congrArg (fun v : EReal => x (ix2 r k) * v) (congrArg w (idx_ext3 rfl rfl (Nat.zero_add j.val)))

end Cert.RecurPrompt

end
-- ==== Proof.RglruPrompt.Blocks.lean ====
/- The blocks of the arguments of the recurrence kernel on the prompt rows at a grid point, over the extended reals. -/
module

public import proofs.«01_k».proof.Proof.RglruPrompt.Run
public import proofs.«01_k».proof.Proof.RglruPrompt.Spec
public import Idealize.ShloMosaic.Lib.Pointwise

@[expose] public section

set_option maxRecDepth 16384

noncomputable section

namespace Cert.Kernel8Ideal.Hand

open Idealize.ShloMosaic Idealize.ShloMosaic.TcCoe Idealize.ShloMosaic.Tactic
open Idealize.SL.Sem
open Idealize.ShloMosaic.Pipeline (Dat Cfg Window)
open Cert.Kernel8Ideal.Gen Cert.Recur
open Cert.RecurPrompt (Args side)

variable (m : (ℓ : Loc nD τ sig) → Buf (Elt Ideal) ℓ) (c : Dev nD) (t : Fin cfg0.N)

/-- The arguments of a device. -/
def args (c : Dev nD) : Args where
  z := m ((c.tc : Thread nD τ).loc main_arg0)
  hp := m ((c.tc : Thread nD τ).loc main_arg1)
  hs := m ((c.tc : Thread nD τ).loc main_arg2)
  w := m ((c.tc : Thread nD τ).loc main_arg3)
  cw := m ((c.tc : Thread nD τ).loc main_arg4)
  cb := m ((c.tc : Thread nD τ).loc main_arg5)
  wa := m ((c.tc : Thread nD τ).loc main_arg6)
  ba := m ((c.tc : Thread nD τ).loc main_arg7)
  wx := m ((c.tc : Thread nD τ).loc main_arg8)
  bx := m ((c.tc : Thread nD τ).loc main_arg9)
  lam := m ((c.tc : Thread nD τ).loc main_arg10)

theorem val_lt (t : Fin cfg0.N) : t.val < 64 := lt_of_lt_of_eq t.isLt N_0

/-- The batch of a grid point, its half of the channels, its tile of rows, and the two together that the side products' columns take. -/
def bt (t : Fin cfg0.N) : Fin 2 := ⟨t.val / 32, by have := val_lt t; omega⟩
def hf (t : Fin cfg0.N) : Fin 2 := ⟨t.val % 32 / 16, by omega⟩
def tl (t : Fin cfg0.N) : Fin 16 := ⟨t.val % 16, by omega⟩
def qt (t : Fin cfg0.N) : Fin 4 := ⟨t.val / 16, by have := val_lt t; omega⟩

/-- A channel, a block of channels, a row and a side product's column of a grid point among all of them. -/
def gJ (t : Fin cfg0.N) (j : Fin 1024) : Fin 2048 := ⟨1024 * (hf t).val + j.val, by omega⟩
def gN (t : Fin cfg0.N) (n : Fin 8) : Fin 16 := ⟨8 * (hf t).val + n.val, by omega⟩
def gR (t : Fin cfg0.N) (s : Fin 256) : Fin 8192 := ⟨4096 * (bt t).val + 256 * (tl t).val + s.val, by omega⟩
def gQ (t : Fin cfg0.N) (j : Fin 512) : Fin 2048 := ⟨512 * (qt t).val + j.val, by omega⟩

theorem cast_cw (x : Vec Ideal S1x4x2048 .f32) (k : Fin 4) (j : Fin 2048) :
    (shapeCast S4x2048 x shapeCasts_S1x4x2048_S4x2048 : Vec Ideal S4x2048 .f32) (ix2 k j) = x (ix3 0 k j) := by
  pointwise
theorem cast_row (x : Vec Ideal S1x2048 .f32) (j : Fin 2048) :
    (broadcastInDim S1x2048 ![1] bcast_S2048_S1x2048_1 (shapeCast S2048 x shapeCasts_S1x2048_S2048) : Vec Ideal S1x2048 .f32) (ix2 0 j) = x (ix2 0 j) := by
  pointwise
theorem cast_w (x : Vec Ideal S1x16x128x128 .f32) (n : Fin 16) (k l : Fin 128) :
    (shapeCast S16x128x128 x shapeCasts_S1x16x128x128_S16x128x128 : Vec Ideal S16x128x128 .f32) (ix3 n k l) = x (ix4 0 n k l) := by
  pointwise
theorem cast_in (x : Vec Ideal S1x2048x14336 .f32) (k : Fin 2048) (j : Fin 14336) :
    (shapeCast S2048x14336 x shapeCasts_S1x2048x14336_S2048x14336 : Vec Ideal S2048x14336 .f32) (ix2 k j) = x (ix3 0 k j) := by
  pointwise
theorem zero_ci (b : Fin 2) (s : Fin 8) (j : Fin 2048) :
    (broadcastInDim S2x8x2048 ![] bcast_S_S2x8x2048 (constant (F := Ideal) S_ .f32 0#32) : Vec Ideal S2x8x2048 .f32) (ix3 b s j) = 0 := by
  pointwise
theorem zero_h0 (b : Fin 2) (j : Fin 2048) :
    (broadcastInDim S2x1x2048 ![] bcast_S_S2x1x2048 (constant (F := Ideal) S_ .f32 0#32) : Vec Ideal S2x1x2048 .f32) (ix3 b 0 j) = 0 := by
  pointwise

theorem idx0 : ∀ t : Fin cfg0.N, win0_0.index t 0 = 16 * (t.val / 32) + t.val % 16 ∧ win0_0.index t 1 = 4 + t.val % 32 / 16 :=
  (by decide +kernel : ∀ t : Fin grid0.N, _)

theorem iblk0_apply (s : Fin 256) (j : Fin 1024) :
    iblk m c 0 t (ix2 s j) = (args m c).z (ix2 (gR t s) ⟨4096 + (gJ t j).val, by omega⟩) := by
  show V m c main_arg0 (((cfg0.win 0).blk t).view.emb (ix2 s j)) = _
  rw [V_main_arg0, show ((cfg0.win 0).blk t).view.emb (ix2 s j) = (ix2 (gR t s) ⟨4096 + (gJ t j).val, by omega⟩ : S8192x10240.Idx) from Shape.idx_ext₂
    (by show win0_0.index t 0 * 256 + 1 * s.val = 4096 * (t.val / 32) + 256 * (t.val % 16) + s.val; rw [(idx0 _).1]; omega)
    (by show win0_0.index t 1 * 1024 + 1 * j.val = 4096 + (1024 * (t.val % 32 / 16) + j.val); rw [(idx0 _).2]; omega)]
  rfl

theorem idx1 : ∀ t : Fin cfg0.N, win0_1.index t 0 = 16 * (t.val / 32) + t.val % 16 ∧ win0_1.index t 1 = 6 + t.val % 32 / 16 :=
  (by decide +kernel : ∀ t : Fin grid0.N, _)

theorem iblk1_apply (s : Fin 256) (j : Fin 1024) :
    iblk m c 1 t (ix2 s j) = (args m c).z (ix2 (gR t s) ⟨6144 + (gJ t j).val, by omega⟩) := by
  show V m c main_arg0 (((cfg0.win 1).blk t).view.emb (ix2 s j)) = _
  rw [V_main_arg0, show ((cfg0.win 1).blk t).view.emb (ix2 s j) = (ix2 (gR t s) ⟨6144 + (gJ t j).val, by omega⟩ : S8192x10240.Idx) from Shape.idx_ext₂
    (by show win0_1.index t 0 * 256 + 1 * s.val = 4096 * (t.val / 32) + 256 * (t.val % 16) + s.val; rw [(idx1 _).1]; omega)
    (by show win0_1.index t 1 * 1024 + 1 * j.val = 6144 + (1024 * (t.val % 32 / 16) + j.val); rw [(idx1 _).2]; omega)]
  rfl

theorem V_main_v0 (c : Dev nD) : V m c main_v0 = shapeCast S4x2048 (m ((c.tc : Thread nD τ).loc main_arg4)) shapeCasts_S1x4x2048_S4x2048 := by
  unfold V
  after_results
  rfl

theorem idx2 : ∀ t : Fin cfg0.N, win0_2.index t 0 = 0 ∧ win0_2.index t 1 = t.val % 32 / 16 :=
  (by decide +kernel : ∀ t : Fin grid0.N, _)

theorem iblk2_apply (k : Fin 4) (j : Fin 1024) :
    iblk m c 2 t (ix2 k j) = (args m c).cw (ix3 0 k (gJ t j)) := by
  show V m c main_v0 (((cfg0.win 2).blk t).view.emb (ix2 k j)) = _
  rw [V_main_v0, show ((cfg0.win 2).blk t).view.emb (ix2 k j) = (ix2 k (gJ t j) : S4x2048.Idx) from Shape.idx_ext₂
    (by show win0_2.index t 0 * 4 + 1 * k.val = k.val; rw [(idx2 _).1]; omega)
    (by show win0_2.index t 1 * 1024 + 1 * j.val = 1024 * (t.val % 32 / 16) + j.val; rw [(idx2 _).2]; omega)]
  exact cast_cw _ k _

theorem V_main_v2 (c : Dev nD) : V m c main_v2 = broadcastInDim S1x2048 ![1] bcast_S2048_S1x2048_1 (shapeCast S2048 (m ((c.tc : Thread nD τ).loc main_arg5)) shapeCasts_S1x2048_S2048) := by
  unfold V
  after_results
  rfl

theorem idx3 : ∀ t : Fin cfg0.N, win0_3.index t 0 = 0 ∧ win0_3.index t 1 = t.val % 32 / 16 :=
  (by decide +kernel : ∀ t : Fin grid0.N, _)

theorem iblk3_apply (j : Fin 1024) :
    iblk m c 3 t (ix2 0 j) = (args m c).cb (ix2 0 (gJ t j)) := by
  show V m c main_v2 (((cfg0.win 3).blk t).view.emb (ix2 0 j)) = _
  rw [V_main_v2, show ((cfg0.win 3).blk t).view.emb (ix2 0 j) = (ix2 0 (gJ t j) : S1x2048.Idx) from Shape.idx_ext₂
    (by show win0_3.index t 0 * 1 + 1 * 0 = 0; rw [(idx3 _).1])
    (by show win0_3.index t 1 * 1024 + 1 * j.val = 1024 * (t.val % 32 / 16) + j.val; rw [(idx3 _).2]; omega)]
  exact cast_row _ _

theorem V_main_v5 (c : Dev nD) : V m c main_v5 = broadcastInDim S1x2048 ![1] bcast_S2048_S1x2048_1 (shapeCast S2048 (m ((c.tc : Thread nD τ).loc main_arg7)) shapeCasts_S1x2048_S2048) := by
  unfold V
  after_results
  rfl

theorem idx5 : ∀ t : Fin cfg0.N, win0_5.index t 0 = 0 ∧ win0_5.index t 1 = t.val % 32 / 16 :=
  (by decide +kernel : ∀ t : Fin grid0.N, _)

theorem iblk5_apply (j : Fin 1024) :
    iblk m c 5 t (ix2 0 j) = (args m c).ba (ix2 0 (gJ t j)) := by
  show V m c main_v5 (((cfg0.win 5).blk t).view.emb (ix2 0 j)) = _
  rw [V_main_v5, show ((cfg0.win 5).blk t).view.emb (ix2 0 j) = (ix2 0 (gJ t j) : S1x2048.Idx) from Shape.idx_ext₂
    (by show win0_5.index t 0 * 1 + 1 * 0 = 0; rw [(idx5 _).1])
    (by show win0_5.index t 1 * 1024 + 1 * j.val = 1024 * (t.val % 32 / 16) + j.val; rw [(idx5 _).2]; omega)]
  exact cast_row _ _

theorem V_main_v8 (c : Dev nD) : V m c main_v8 = broadcastInDim S1x2048 ![1] bcast_S2048_S1x2048_1 (shapeCast S2048 (m ((c.tc : Thread nD τ).loc main_arg9)) shapeCasts_S1x2048_S2048) := by
  unfold V
  after_results
  rfl

theorem idx7 : ∀ t : Fin cfg0.N, win0_7.index t 0 = 0 ∧ win0_7.index t 1 = t.val % 32 / 16 :=
  (by decide +kernel : ∀ t : Fin grid0.N, _)

theorem iblk7_apply (j : Fin 1024) :
    iblk m c 7 t (ix2 0 j) = (args m c).bx (ix2 0 (gJ t j)) := by
  show V m c main_v8 (((cfg0.win 7).blk t).view.emb (ix2 0 j)) = _
  rw [V_main_v8, show ((cfg0.win 7).blk t).view.emb (ix2 0 j) = (ix2 0 (gJ t j) : S1x2048.Idx) from Shape.idx_ext₂
    (by show win0_7.index t 0 * 1 + 1 * 0 = 0; rw [(idx7 _).1])
    (by show win0_7.index t 1 * 1024 + 1 * j.val = 1024 * (t.val % 32 / 16) + j.val; rw [(idx7 _).2]; omega)]
  exact cast_row _ _

theorem V_main_v10 (c : Dev nD) : V m c main_v10 = broadcastInDim S1x2048 ![1] bcast_S2048_S1x2048_1 (shapeCast S2048 (m ((c.tc : Thread nD τ).loc main_arg10)) shapeCasts_S1x2048_S2048) := by
  unfold V
  after_results
  rfl

theorem idx8 : ∀ t : Fin cfg0.N, win0_8.index t 0 = 0 ∧ win0_8.index t 1 = t.val % 32 / 16 :=
  (by decide +kernel : ∀ t : Fin grid0.N, _)

theorem iblk8_apply (j : Fin 1024) :
    iblk m c 8 t (ix2 0 j) = (args m c).lam (ix2 0 (gJ t j)) := by
  show V m c main_v10 (((cfg0.win 8).blk t).view.emb (ix2 0 j)) = _
  rw [V_main_v10, show ((cfg0.win 8).blk t).view.emb (ix2 0 j) = (ix2 0 (gJ t j) : S1x2048.Idx) from Shape.idx_ext₂
    (by show win0_8.index t 0 * 1 + 1 * 0 = 0; rw [(idx8 _).1])
    (by show win0_8.index t 1 * 1024 + 1 * j.val = 1024 * (t.val % 32 / 16) + j.val; rw [(idx8 _).2]; omega)]
  exact cast_row _ _

theorem V_main_v3 (c : Dev nD) : V m c main_v3 = shapeCast S16x128x128 (m ((c.tc : Thread nD τ).loc main_arg6)) shapeCasts_S1x16x128x128_S16x128x128 := by
  unfold V
  after_results
  rfl

theorem idx4 : ∀ t : Fin cfg0.N, win0_4.index t 0 = t.val % 32 / 16 ∧ win0_4.index t 1 = 0 ∧ win0_4.index t 2 = 0 :=
  (by decide +kernel : ∀ t : Fin grid0.N, _)

theorem iblk4_apply (n : Fin 8) (k l : Fin 128) :
    iblk m c 4 t (ix3 n k l) = (args m c).wa (ix4 0 (gN t n) k l) := by
  show V m c main_v3 (((cfg0.win 4).blk t).view.emb (ix3 n k l)) = _
  rw [V_main_v3, show ((cfg0.win 4).blk t).view.emb (ix3 n k l) = (ix3 (gN t n) k l : S16x128x128.Idx) from idx_ext3
    (by show win0_4.index t 0 * 8 + 1 * n.val = 8 * (t.val % 32 / 16) + n.val; rw [(idx4 _).1]; omega)
    (by show win0_4.index t 1 * 128 + 1 * k.val = k.val; rw [(idx4 _).2.1]; omega)
    (by show win0_4.index t 2 * 128 + 1 * l.val = l.val; rw [(idx4 _).2.2]; omega)]
  exact cast_w _ _ k l

theorem V_main_v6 (c : Dev nD) : V m c main_v6 = shapeCast S16x128x128 (m ((c.tc : Thread nD τ).loc main_arg8)) shapeCasts_S1x16x128x128_S16x128x128 := by
  unfold V
  after_results
  rfl

theorem idx6 : ∀ t : Fin cfg0.N, win0_6.index t 0 = t.val % 32 / 16 ∧ win0_6.index t 1 = 0 ∧ win0_6.index t 2 = 0 :=
  (by decide +kernel : ∀ t : Fin grid0.N, _)

theorem iblk6_apply (n : Fin 8) (k l : Fin 128) :
    iblk m c 6 t (ix3 n k l) = (args m c).wx (ix4 0 (gN t n) k l) := by
  show V m c main_v6 (((cfg0.win 6).blk t).view.emb (ix3 n k l)) = _
  rw [V_main_v6, show ((cfg0.win 6).blk t).view.emb (ix3 n k l) = (ix3 (gN t n) k l : S16x128x128.Idx) from idx_ext3
    (by show win0_6.index t 0 * 8 + 1 * n.val = 8 * (t.val % 32 / 16) + n.val; rw [(idx6 _).1]; omega)
    (by show win0_6.index t 1 * 128 + 1 * k.val = k.val; rw [(idx6 _).2.1]; omega)
    (by show win0_6.index t 2 * 128 + 1 * l.val = l.val; rw [(idx6 _).2.2]; omega)]
  exact cast_w _ _ k l

theorem V_main_v12 (c : Dev nD) : V m c main_v12 = broadcastInDim S2x8x2048 ![] bcast_S_S2x8x2048 (constant (F := Ideal) S_ .f32 0#32) := by
  unfold V
  after_results

theorem idx9 : ∀ t : Fin cfg0.N, win0_9.index t 0 = t.val / 32 ∧ win0_9.index t 1 = 0 ∧ win0_9.index t 2 = t.val % 32 / 16 :=
  (by decide +kernel : ∀ t : Fin grid0.N, _)

theorem iblk9_apply (s : Fin 8) (j : Fin 1024) :
    iblk m c 9 t (ix3 0 s j) = (0 : EReal) := by
  show V m c main_v12 (((cfg0.win 9).blk t).view.emb (ix3 0 s j)) = _
  rw [V_main_v12, show ((cfg0.win 9).blk t).view.emb (ix3 0 s j) = (ix3 (bt t) s (gJ t j) : S2x8x2048.Idx) from idx_ext3
    (by show win0_9.index t 0 * 1 + 1 * 0 = t.val / 32; rw [(idx9 _).1]; omega)
    (by show win0_9.index t 1 * 8 + 1 * s.val = s.val; rw [(idx9 _).2.1]; omega)
    (by show win0_9.index t 2 * 1024 + 1 * j.val = 1024 * (t.val % 32 / 16) + j.val; rw [(idx9 _).2.2]; omega)]
  exact zero_ci _ s _

theorem V_main_v13 (c : Dev nD) : V m c main_v13 = broadcastInDim S2x1x2048 ![] bcast_S_S2x1x2048 (constant (F := Ideal) S_ .f32 0#32) := by
  unfold V
  after_results

theorem idx10 : ∀ t : Fin cfg0.N, win0_10.index t 0 = t.val / 32 ∧ win0_10.index t 1 = 0 ∧ win0_10.index t 2 = t.val % 32 / 16 :=
  (by decide +kernel : ∀ t : Fin grid0.N, _)

theorem iblk10_apply (j : Fin 1024) :
    iblk m c 10 t (ix3 0 0 j) = (0 : EReal) := by
  show V m c main_v13 (((cfg0.win 10).blk t).view.emb (ix3 0 0 j)) = _
  rw [V_main_v13, show ((cfg0.win 10).blk t).view.emb (ix3 0 0 j) = (ix3 (bt t) 0 (gJ t j) : S2x1x2048.Idx) from idx_ext3
    (by show win0_10.index t 0 * 1 + 1 * 0 = t.val / 32; rw [(idx10 _).1]; omega)
    (by show win0_10.index t 1 * 1 + 1 * 0 = 0; rw [(idx10 _).2.1])
    (by show win0_10.index t 2 * 1024 + 1 * j.val = 1024 * (t.val % 32 / 16) + j.val; rw [(idx10 _).2.2]; omega)]
  exact zero_h0 _ _

theorem idx11 : ∀ t : Fin cfg0.N, win0_11.index t 0 = t.val % 16 ∧ win0_11.index t 1 = 0 :=
  (by decide +kernel : ∀ t : Fin grid0.N, _)

theorem iblk11_apply (r : Fin 512) (k : Fin 2048) :
    iblk m c 11 t (ix2 r k) = (args m c).hp (ix2 ⟨512 * (tl t).val + r.val, by omega⟩ k) := by
  show V m c main_arg1 (((cfg0.win 11).blk t).view.emb (ix2 r k)) = _
  rw [V_main_arg1, show ((cfg0.win 11).blk t).view.emb (ix2 r k) = (ix2 ⟨512 * (tl t).val + r.val, by omega⟩ k : S8192x2048.Idx) from Shape.idx_ext₂
    (by show win0_11.index t 0 * 512 + 1 * r.val = 512 * (t.val % 16) + r.val; rw [(idx11 _).1]; omega)
    (by show win0_11.index t 1 * 2048 + 1 * k.val = k.val; rw [(idx11 _).2]; omega)]
  rfl

theorem idx12 : ∀ t : Fin cfg0.N, win0_12.index t 0 = 0 ∧ win0_12.index t 1 = 0 :=
  (by decide +kernel : ∀ t : Fin grid0.N, _)

theorem iblk12_apply (r : Fin 128) (k : Fin 2048) :
    iblk m c 12 t (ix2 r k) = (args m c).hs (ix2 r k) := by
  show V m c main_arg2 (((cfg0.win 12).blk t).view.emb (ix2 r k)) = _
  rw [V_main_arg2, show ((cfg0.win 12).blk t).view.emb (ix2 r k) = (ix2 r k : S128x2048.Idx) from Shape.idx_ext₂
    (by show win0_12.index t 0 * 128 + 1 * r.val = r.val; rw [(idx12 _).1]; omega)
    (by show win0_12.index t 1 * 2048 + 1 * k.val = k.val; rw [(idx12 _).2]; omega)]
  rfl

theorem V_main_v11 (c : Dev nD) : V m c main_v11 = shapeCast S2048x14336 (m ((c.tc : Thread nD τ).loc main_arg3)) shapeCasts_S1x2048x14336_S2048x14336 := by
  unfold V
  after_results
  rfl

theorem idx13 : ∀ t : Fin cfg0.N, win0_13.index t 0 = 0 ∧ win0_13.index t 1 = t.val / 16 :=
  (by decide +kernel : ∀ t : Fin grid0.N, _)

theorem iblk13_apply (k : Fin 2048) (j : Fin 512) :
    iblk m c 13 t (ix2 k j) = (args m c).w (ix3 0 k ⟨0 + (gQ t j).val, by omega⟩) := by
  show V m c main_v11 (((cfg0.win 13).blk t).view.emb (ix2 k j)) = _
  rw [V_main_v11, show ((cfg0.win 13).blk t).view.emb (ix2 k j) = (ix2 k ⟨0 + (gQ t j).val, by omega⟩ : S2048x14336.Idx) from Shape.idx_ext₂
    (by show win0_13.index t 0 * 2048 + 1 * k.val = k.val; rw [(idx13 _).1]; omega)
    (by show win0_13.index t 1 * 512 + 1 * j.val = 0 + (512 * (t.val / 16) + j.val); rw [(idx13 _).2]; omega)]
  exact cast_in _ k _

theorem idx14 : ∀ t : Fin cfg0.N, win0_14.index t 0 = 0 ∧ win0_14.index t 1 = 24 + t.val / 16 :=
  (by decide +kernel : ∀ t : Fin grid0.N, _)

theorem iblk14_apply (k : Fin 2048) (j : Fin 512) :
    iblk m c 14 t (ix2 k j) = (args m c).w (ix3 0 k ⟨12288 + (gQ t j).val, by omega⟩) := by
  show V m c main_v11 (((cfg0.win 14).blk t).view.emb (ix2 k j)) = _
  rw [V_main_v11, show ((cfg0.win 14).blk t).view.emb (ix2 k j) = (ix2 k ⟨12288 + (gQ t j).val, by omega⟩ : S2048x14336.Idx) from Shape.idx_ext₂
    (by show win0_14.index t 0 * 2048 + 1 * k.val = k.val; rw [(idx14 _).1]; omega)
    (by show win0_14.index t 1 * 512 + 1 * j.val = 12288 + (512 * (t.val / 16) + j.val); rw [(idx14 _).2]; omega)]
  exact cast_in _ k _

end Cert.Kernel8Ideal.Hand

end
-- ==== Proof.RglruPrompt.Tile.lean ====
/- The values of a tile of the recurrence kernel on the prompt rows, over the extended reals: a chunk's decays and inputs, the scans of each group of
   rows as steps of the recurrence, and the tile's rows. -/
module

public import proofs.«01_k».proof.Proof.RglruPrompt.Pieces
public import proofs.«01_k».proof.Proof.Recur
public import Idealize.ShloMosaic.Lib.Pointwise

@[expose] public section

set_option maxRecDepth 65536

noncomputable section

namespace Cert.Kernel8Ideal.Hand

open Idealize.ShloMosaic Idealize.ShloMosaic.TcCoe
open Cert.Kernel8Ideal.Gen Cert.Recur

/-! ## A round of the scans -/

/-- One round of a scan over the rows of each group: the products, -/
def rndA (k : BitVec 32) (A : FVec Ideal S32x8x128 .f32) : FVec Ideal S32x8x128 .f32 :=
  select (cmpi .sge (iota .tc S32x8x128 32 [1] iota_S32x8x128_d1_w32) (broadcast S32x8x128 k)) (mulf A (dynamicRotate 1 k none A rotates_S32x8x128_d1)) A
/-- and the sums. -/
def rndB (k : BitVec 32) (A B : FVec Ideal S32x8x128 .f32) : FVec Ideal S32x8x128 .f32 :=
  select (cmpi .sge (iota .tc S32x8x128 32 [1] iota_S32x8x128_d1_w32) (broadcast S32x8x128 k)) (addf (mulf A (dynamicRotate 1 k none B rotates_S32x8x128_d1)) B) B

/-- The rows of a group, by number. -/
def rowN (A : FVec Ideal S32x8x128 .f32) (g : Fin 32) (l : Fin 128) (s : ℕ) : EReal := A (ix3 g ⟨s % 8, Nat.mod_lt _ (by decide)⟩ l)

theorem rowN_eq (A : FVec Ideal S32x8x128 .f32) (g : Fin 32) (l : Fin 128) (s : Fin 8) : A (ix3 g s l) = rowN A g l s.val := by
  unfold rowN
  congr 1
  exact congrArg (fun s => ix3 g s l) (Fin.ext (Nat.mod_eq_of_lt s.isLt).symm)

theorem rndA_row1 (A : FVec Ideal S32x8x128 .f32) (g : Fin 32) (l : Fin 128) (s : ℕ) (hs : s < 8) :
    rowN (rndA 1#32 A) g l s = if 1 ≤ s then rowN A g l s * rowN A g l (s - 1) else rowN A g l s := by
  have h : ∀ s : Fin 8, rndA 1#32 A (ix3 g s l) = if 1 ≤ s.val then A (ix3 g s l) * A (ix3 g ⟨(s.val + 8 - 1) % 8, Nat.mod_lt _ (by decide)⟩ l) else A (ix3 g s l) := by
    intro s
    rw [← sel_sge s.val 1 s.isLt (by decide)]
    pointwise [rndA]
  rw [← rowN_eq _ g l ⟨s, hs⟩, h ⟨s, hs⟩]
  show (if 1 ≤ s then A (ix3 g ⟨s, hs⟩ l) * A (ix3 g ⟨(s + 8 - 1) % 8, Nat.mod_lt _ (by decide)⟩ l) else A (ix3 g ⟨s, hs⟩ l)) = _
  rw [rowN_eq A g l ⟨s, hs⟩, rowN_eq A g l ⟨(s + 8 - 1) % 8, Nat.mod_lt _ (by decide)⟩]
  show (if 1 ≤ s then rowN A g l s * rowN A g l ((s + 8 - 1) % 8) else rowN A g l s) = _
  by_cases hk : 1 ≤ s
  · rw [if_pos hk, if_pos hk, show (s + 8 - 1) % 8 = s - 1 by omega]
  · rw [if_neg hk, if_neg hk]

theorem rndB_row1 (A B : FVec Ideal S32x8x128 .f32) (g : Fin 32) (l : Fin 128) (s : ℕ) (hs : s < 8) :
    rowN (rndB 1#32 A B) g l s = if 1 ≤ s then rowN A g l s * rowN B g l (s - 1) + rowN B g l s else rowN B g l s := by
  have h : ∀ s : Fin 8, rndB 1#32 A B (ix3 g s l) = if 1 ≤ s.val then A (ix3 g s l) * B (ix3 g ⟨(s.val + 8 - 1) % 8, Nat.mod_lt _ (by decide)⟩ l) + B (ix3 g s l) else B (ix3 g s l) := by
    intro s
    rw [← sel_sge s.val 1 s.isLt (by decide)]
    pointwise [rndB]
  rw [← rowN_eq _ g l ⟨s, hs⟩, h ⟨s, hs⟩]
  show (if 1 ≤ s then A (ix3 g ⟨s, hs⟩ l) * B (ix3 g ⟨(s + 8 - 1) % 8, Nat.mod_lt _ (by decide)⟩ l) + B (ix3 g ⟨s, hs⟩ l) else B (ix3 g ⟨s, hs⟩ l)) = _
  rw [rowN_eq A g l ⟨s, hs⟩, rowN_eq B g l ⟨s, hs⟩, rowN_eq B g l ⟨(s + 8 - 1) % 8, Nat.mod_lt _ (by decide)⟩]
  show (if 1 ≤ s then rowN A g l s * rowN B g l ((s + 8 - 1) % 8) + rowN B g l s else rowN B g l s) = _
  by_cases hk : 1 ≤ s
  · rw [if_pos hk, if_pos hk, show (s + 8 - 1) % 8 = s - 1 by omega]
  · rw [if_neg hk, if_neg hk]

theorem rndA_row2 (A : FVec Ideal S32x8x128 .f32) (g : Fin 32) (l : Fin 128) (s : ℕ) (hs : s < 8) :
    rowN (rndA 2#32 A) g l s = if 2 ≤ s then rowN A g l s * rowN A g l (s - 2) else rowN A g l s := by
  have h : ∀ s : Fin 8, rndA 2#32 A (ix3 g s l) = if 2 ≤ s.val then A (ix3 g s l) * A (ix3 g ⟨(s.val + 8 - 2) % 8, Nat.mod_lt _ (by decide)⟩ l) else A (ix3 g s l) := by
    intro s
    rw [← sel_sge s.val 2 s.isLt (by decide)]
    pointwise [rndA]
  rw [← rowN_eq _ g l ⟨s, hs⟩, h ⟨s, hs⟩]
  show (if 2 ≤ s then A (ix3 g ⟨s, hs⟩ l) * A (ix3 g ⟨(s + 8 - 2) % 8, Nat.mod_lt _ (by decide)⟩ l) else A (ix3 g ⟨s, hs⟩ l)) = _
  rw [rowN_eq A g l ⟨s, hs⟩, rowN_eq A g l ⟨(s + 8 - 2) % 8, Nat.mod_lt _ (by decide)⟩]
  show (if 2 ≤ s then rowN A g l s * rowN A g l ((s + 8 - 2) % 8) else rowN A g l s) = _
  by_cases hk : 2 ≤ s
  · rw [if_pos hk, if_pos hk, show (s + 8 - 2) % 8 = s - 2 by omega]
  · rw [if_neg hk, if_neg hk]

theorem rndB_row2 (A B : FVec Ideal S32x8x128 .f32) (g : Fin 32) (l : Fin 128) (s : ℕ) (hs : s < 8) :
    rowN (rndB 2#32 A B) g l s = if 2 ≤ s then rowN A g l s * rowN B g l (s - 2) + rowN B g l s else rowN B g l s := by
  have h : ∀ s : Fin 8, rndB 2#32 A B (ix3 g s l) = if 2 ≤ s.val then A (ix3 g s l) * B (ix3 g ⟨(s.val + 8 - 2) % 8, Nat.mod_lt _ (by decide)⟩ l) + B (ix3 g s l) else B (ix3 g s l) := by
    intro s
    rw [← sel_sge s.val 2 s.isLt (by decide)]
    pointwise [rndB]
  rw [← rowN_eq _ g l ⟨s, hs⟩, h ⟨s, hs⟩]
  show (if 2 ≤ s then A (ix3 g ⟨s, hs⟩ l) * B (ix3 g ⟨(s + 8 - 2) % 8, Nat.mod_lt _ (by decide)⟩ l) + B (ix3 g ⟨s, hs⟩ l) else B (ix3 g ⟨s, hs⟩ l)) = _
  rw [rowN_eq A g l ⟨s, hs⟩, rowN_eq B g l ⟨s, hs⟩, rowN_eq B g l ⟨(s + 8 - 2) % 8, Nat.mod_lt _ (by decide)⟩]
  show (if 2 ≤ s then rowN A g l s * rowN B g l ((s + 8 - 2) % 8) + rowN B g l s else rowN B g l s) = _
  by_cases hk : 2 ≤ s
  · rw [if_pos hk, if_pos hk, show (s + 8 - 2) % 8 = s - 2 by omega]
  · rw [if_neg hk, if_neg hk]

theorem rndA_row4 (A : FVec Ideal S32x8x128 .f32) (g : Fin 32) (l : Fin 128) (s : ℕ) (hs : s < 8) :
    rowN (rndA 4#32 A) g l s = if 4 ≤ s then rowN A g l s * rowN A g l (s - 4) else rowN A g l s := by
  have h : ∀ s : Fin 8, rndA 4#32 A (ix3 g s l) = if 4 ≤ s.val then A (ix3 g s l) * A (ix3 g ⟨(s.val + 8 - 4) % 8, Nat.mod_lt _ (by decide)⟩ l) else A (ix3 g s l) := by
    intro s
    rw [← sel_sge s.val 4 s.isLt (by decide)]
    pointwise [rndA]
  rw [← rowN_eq _ g l ⟨s, hs⟩, h ⟨s, hs⟩]
  show (if 4 ≤ s then A (ix3 g ⟨s, hs⟩ l) * A (ix3 g ⟨(s + 8 - 4) % 8, Nat.mod_lt _ (by decide)⟩ l) else A (ix3 g ⟨s, hs⟩ l)) = _
  rw [rowN_eq A g l ⟨s, hs⟩, rowN_eq A g l ⟨(s + 8 - 4) % 8, Nat.mod_lt _ (by decide)⟩]
  show (if 4 ≤ s then rowN A g l s * rowN A g l ((s + 8 - 4) % 8) else rowN A g l s) = _
  by_cases hk : 4 ≤ s
  · rw [if_pos hk, if_pos hk, show (s + 8 - 4) % 8 = s - 4 by omega]
  · rw [if_neg hk, if_neg hk]

theorem rndB_row4 (A B : FVec Ideal S32x8x128 .f32) (g : Fin 32) (l : Fin 128) (s : ℕ) (hs : s < 8) :
    rowN (rndB 4#32 A B) g l s = if 4 ≤ s then rowN A g l s * rowN B g l (s - 4) + rowN B g l s else rowN B g l s := by
  have h : ∀ s : Fin 8, rndB 4#32 A B (ix3 g s l) = if 4 ≤ s.val then A (ix3 g s l) * B (ix3 g ⟨(s.val + 8 - 4) % 8, Nat.mod_lt _ (by decide)⟩ l) + B (ix3 g s l) else B (ix3 g s l) := by
    intro s
    rw [← sel_sge s.val 4 s.isLt (by decide)]
    pointwise [rndB]
  rw [← rowN_eq _ g l ⟨s, hs⟩, h ⟨s, hs⟩]
  show (if 4 ≤ s then A (ix3 g ⟨s, hs⟩ l) * B (ix3 g ⟨(s + 8 - 4) % 8, Nat.mod_lt _ (by decide)⟩ l) + B (ix3 g ⟨s, hs⟩ l) else B (ix3 g ⟨s, hs⟩ l)) = _
  rw [rowN_eq A g l ⟨s, hs⟩, rowN_eq B g l ⟨s, hs⟩, rowN_eq B g l ⟨(s + 8 - 4) % 8, Nat.mod_lt _ (by decide)⟩]
  show (if 4 ≤ s then rowN A g l s * rowN B g l ((s + 8 - 4) % 8) + rowN B g l s else rowN B g l s) = _
  by_cases hk : 4 ≤ s
  · rw [if_pos hk, if_pos hk, show (s + 8 - 4) % 8 = s - 4 by omega]
  · rw [if_neg hk, if_neg hk]

/-- The three rounds leave the block's products and sums. -/
theorem scan_inv (a b : FVec Ideal S256x128 .f32) (α β : ℕ → EReal) (g : Fin 32) (l : Fin 128)
    (ha : ∀ t : Fin 256, a (ix2 t l) = α t.val) (hb : ∀ t : Fin 256, b (ix2 t l) = β t.val) (hf : ∀ t, Fin0 (α t)) :
    Inv α β (8 * g.val) 8 (rowN (cScanA a b) g l) (rowN (cScanB a b) g l) := by
  have eA : cScanA a b = rndA 4#32 (rndA 2#32 (rndA 1#32 (shapeCast S32x8x128 a shapeCasts_S256x128_S32x8x128))) := by
    show shapeCast S32x8x128 (rndA 4#32 (rndA 2#32 (rndA 1#32 (shapeCast S32x8x128 a shapeCasts_S256x128_S32x8x128)))) _ = _
    exact shapeCast_self _ _
  have eB : cScanB a b = rndB 4#32 (rndA 2#32 (rndA 1#32 (shapeCast S32x8x128 a shapeCasts_S256x128_S32x8x128)))
      (rndB 2#32 (rndA 1#32 (shapeCast S32x8x128 a shapeCasts_S256x128_S32x8x128)) (rndB 1#32 (shapeCast S32x8x128 a shapeCasts_S256x128_S32x8x128) (shapeCast S32x8x128 b shapeCasts_S256x128_S32x8x128))) := by
    show shapeCast S32x8x128 (rndB 4#32 (rndA 2#32 (rndA 1#32 (shapeCast S32x8x128 a shapeCasts_S256x128_S32x8x128)))
      (rndB 2#32 (rndA 1#32 (shapeCast S32x8x128 a shapeCasts_S256x128_S32x8x128)) (rndB 1#32 (shapeCast S32x8x128 a shapeCasts_S256x128_S32x8x128) (shapeCast S32x8x128 b shapeCasts_S256x128_S32x8x128)))) _ = _
    exact shapeCast_self _ _
  have e : ∀ (x : FVec Ideal S256x128 .f32) (f : ℕ → EReal), (∀ t : Fin 256, x (ix2 t l) = f t.val) → ∀ s < 8, rowN (shapeCast S32x8x128 x shapeCasts_S256x128_S32x8x128) g l s = f (8 * g.val + s) := by
    intro x f hx s hs
    have h : ∀ s : Fin 8, shapeCast S32x8x128 x shapeCasts_S256x128_S32x8x128 (ix3 g s l) = x (ix2 ⟨g.val * 8 + s.val, by omega⟩ l) := by
      intro s; pointwise []
    rw [← rowN_eq _ g l ⟨s, hs⟩, h, hx]
    show f (g.val * 8 + s) = _
    rw [mul_comm]
  rw [eA, eB]
  have i1 : Inv α β (8 * g.val) 1 _ _ := inv_one (e a α ha) (e b β hb) (fun s hs => by rw [e a α ha s hs]; exact hf _)
  have i2 : Inv α β (8 * g.val) 2 _ _ := inv_step i1 (rndA_row1 _ g l) (rndB_row1 _ _ g l)
  have i4 : Inv α β (8 * g.val) 4 _ _ := inv_step i2 (rndA_row2 _ g l) (rndB_row2 _ _ g l)
  exact inv_step i4 (rndA_row4 _ g l) (rndB_row4 _ _ g l)

/-! ## A chunk's decays and inputs -/

theorem winU_apply (n : Fin 8) (x : Vec Ideal S256x1024 .f32) (t : Fin 256) (l : Fin 128) : winU n x (ix2 t l) = x (ix2 t ⟨128 * n.val + l.val, by omega⟩) := by
  unfold winU VecWindow.window
  exact congrArg x (Shape.idx_ext₂ (by show 0 + 1 * t.val = t.val; omega) (by show 128 * n.val + 1 * l.val = 128 * n.val + l.val; omega))

theorem winE_apply (n : Fin 8) (x : Vec Ideal S8x1024 .f32) (t : Fin 8) (l : Fin 128) : winE n x (ix2 t l) = x (ix2 t ⟨128 * n.val + l.val, by omega⟩) := by
  unfold winE VecWindow.window
  exact congrArg x (Shape.idx_ext₂ (by show 0 + 1 * t.val = t.val; omega) (by show 128 * n.val + 1 * l.val = 128 * n.val + l.val; omega))

theorem winC_apply (n : Fin 8) (x : Vec Ideal S4x1024 .f32) (t : Fin 4) (l : Fin 128) : winC n x (ix2 t l) = x (ix2 t ⟨128 * n.val + l.val, by omega⟩) := by
  unfold winC VecWindow.window
  exact congrArg x (Shape.idx_ext₂ (by show 0 + 1 * t.val = t.val; omega) (by show 128 * n.val + 1 * l.val = 128 * n.val + l.val; omega))

theorem winV_apply (n : Fin 8) (x : Vec Ideal S1x1024 .f32) (t : Fin 1) (l : Fin 128) : winV n x (ix2 t l) = x (ix2 t ⟨128 * n.val + l.val, by omega⟩) := by
  unfold winV VecWindow.window
  exact congrArg x (Shape.idx_ext₂ (by show 0 + 1 * t.val = t.val; omega) (by show 128 * n.val + 1 * l.val = 128 * n.val + l.val; omega))

theorem winW_apply (n : Fin 8) (x : Vec Ideal S8x128x128 .f32) (k l : Fin 128) : winW n x (ix3 0 k l) = x (ix3 n k l) := by
  unfold winW VecWindow.window
  exact congrArg x (idx_ext3 (by show n.val + 1 * 0 = n.val; omega) (by show 0 + 1 * k.val = k.val; omega) (by show 0 + 1 * l.val = l.val; omega))

theorem winG_apply (g : Fin 32) (x : Vec Ideal S32x8x1024 .f32) (s : Fin 8) (j : Fin 1024) : winG g x (ix3 0 s j) = x (ix3 g s j) := by
  unfold winG VecWindow.window
  exact congrArg x (idx_ext3 (by show g.val + 1 * 0 = g.val; omega) (by show 0 + 1 * s.val = s.val; omega) (by show 0 + 1 * j.val = j.val; omega))

variable (n : Fin 8)
  (cw : Vec Ideal S4x1024 .f32) (u : Vec Ideal S256x1024 .f32) (ex : Vec Ideal S8x1024 .f32) (cb : Vec Ideal S1x1024 .f32) (wa wx : Vec Ideal S8x128x128 .f32) (ba bx lam : Vec Ideal S1x1024 .f32)

/-- The layer's values at chunk `n` of a tile: row `s` is among the rows kept from before the tile up to `s = 2`. -/
def parT : Par where
  cw := fun k l => cw (ix2 k ⟨128 * n.val + l.val, by omega⟩)
  cb := fun l => cb (ix2 0 ⟨128 * n.val + l.val, by omega⟩)
  wa := fun k l => wa (ix3 n k l)
  ba := fun l => ba (ix2 0 ⟨128 * n.val + l.val, by omega⟩)
  wx := fun k l => wx (ix3 n k l)
  bx := fun l => bx (ix2 0 ⟨128 * n.val + l.val, by omega⟩)
  lam := fun l => lam (ix2 0 ⟨128 * n.val + l.val, by omega⟩)
  x := fun s l => if h : s < 3 then ex (ix2 ⟨s + 5, by omega⟩ ⟨128 * n.val + l.val, by omega⟩)
    else if h : s - 3 < 256 then u (ix2 ⟨s - 3, h⟩ ⟨128 * n.val + l.val, by omega⟩) else 0

set_option maxHeartbeats 1000000 in
theorem xrow (u : Vec Ideal S256x128 .f32) (prev : Vec Ideal S8x128 .f32) (t : Fin 256) (l : Fin 128) (k : ℕ) (hk0 : 0 < k) (hk : k < 4) :
    Scalar.select (IntOp.cmpi .sge (BitVec.ofNat 32 (t.val % 8)) (BitVec.ofNat 32 k))
        (u (ix2 ⟨t.val / 8 * 8 + (t.val % 8 + 8 - k) % 8, by omega⟩ l))
        (if h : t.val / 8 < 1 then prev (ix2 ⟨(t.val % 8 + 8 - k) % 8, by omega⟩ l)
          else u (ix2 ⟨(t.val / 8 - 1) * 8 + (t.val % 8 + 8 - k) % 8, by omega⟩ l))
      = if h : t.val + 3 - k < 3 then prev (ix2 ⟨t.val + 3 - k + 5, by omega⟩ l) else if h : t.val + 3 - k - 3 < 256 then u (ix2 ⟨t.val + 3 - k - 3, h⟩ l) else 0 := by
  rw [sel_sge _ _ (by omega) (by omega)]
  by_cases h1 : k ≤ t.val % 8
  · rw [if_pos h1, dif_neg (by omega), dif_pos (by omega)]
    exact congrArg (fun s => u (ix2 s l)) (Fin.ext (by show t.val / 8 * 8 + (t.val % 8 + 8 - k) % 8 = t.val + 3 - k - 3; omega))
  · rw [if_neg h1]
    by_cases h2 : t.val / 8 < 1
    · rw [dif_pos h2, dif_pos (by omega)]
      exact congrArg (fun s => prev (ix2 s l)) (Fin.ext (by show (t.val % 8 + 8 - k) % 8 = t.val + 3 - k + 5; omega))
    · rw [dif_neg h2, dif_neg (by omega), dif_pos (by omega)]
      exact congrArg (fun s => u (ix2 s l)) (Fin.ext (by show (t.val / 8 - 1) * 8 + (t.val % 8 + 8 - k) % 8 = t.val + 3 - k - 3; omega))

set_option maxHeartbeats 1000000 in
theorem cConv_apply (cw : Vec Ideal S4x128 .f32) (u : Vec Ideal S256x128 .f32) (prev : Vec Ideal S8x128 .f32) (cb : Vec Ideal S1x128 .f32) (t : Fin 256) (l : Fin 128)
    (x : ℕ → EReal) (hx : ∀ s, x s = if h : s < 3 then prev (ix2 ⟨s + 5, by omega⟩ l) else if h : s - 3 < 256 then u (ix2 ⟨s - 3, h⟩ l) else 0) :
    cConv cw u prev cb (ix2 t l) = half * (cb (ix2 0 l) + (x t.val * cw (ix2 0 l) + x (t.val + 1) * cw (ix2 1 l) + x (t.val + 2) * cw (ix2 2 l) + x (t.val + 3) * cw (ix2 3 l))) := by
  have e3 : u (ix2 t l) = x (t.val + 3) := by
    rw [hx, dif_neg (by omega), dif_pos (by omega)]
    exact congrArg (fun s => u (ix2 s l)) (Fin.ext (by show t.val = t.val + 3 - 3; omega))
  have e0 := (xrow u prev t l 3 (by decide) (by decide)).trans (hx (t.val + 3 - 3)).symm
  have e1 := (xrow u prev t l 2 (by decide) (by decide)).trans (hx (t.val + 3 - 2)).symm
  have e2 := (xrow u prev t l 1 (by decide) (by decide)).trans (hx (t.val + 3 - 1)).symm
  rw [show t.val + 3 - 3 = t.val by omega] at e0
  rw [show t.val + 3 - 2 = t.val + 1 by omega] at e1
  rw [show t.val + 3 - 1 = t.val + 2 by omega] at e2
  have hh : Ideal.ofBits .f32 0x3F000000#32 = half := Cert.Sigmoid.half_eq
  rw [← conv_half, ← hh, ← e3, ← e0, ← e1, ← e2]
  pointwise [cConv]

/-- A gate's hyperbolic tangent, of a halved convolution. -/
theorem cTanh_apply (xh : FVec Ideal S256x128 .f32) (w : Vec Ideal S1x128x128 .f32) (b : Vec Ideal S1x128 .f32) (t : Fin 256) (l : Fin 128)
    (f : Fin 128 → EReal) (hf : ∀ k, xh (ix2 t k) = half * f k) :
    cTanh xh w b (ix2 t l) = Ideal.tanh (half * (∑ k, w (ix3 0 k l) * f k + b (ix2 0 l))) := by
  have e : cTanh xh w b (ix2 t l) = Ideal.tanh (∑ k, xh (ix2 t k) * w (ix3 0 k l) + Ideal.ofBits .f32 1056964608#32 * b (ix2 0 l)) := by
    pointwise [cTanh]
  have hh : Ideal.ofBits .f32 1056964608#32 = half := Cert.Sigmoid.half_eq
  rw [e, ← gate_half, hh]
  congr 2
  exact Finset.sum_congr rfl fun k _ => by rw [hf]

theorem cLog_apply (tr : FVec Ideal S256x128 .f32) (lam : Vec Ideal S1x128 .f32) (t : Fin 256) (l : Fin 128) (z : EReal)
    (hz : tr (ix2 t l) = Ideal.tanh (half * z)) : cLog tr lam (ix2 t l) = gLog z (lam (ix2 0 l)) := by
  have e : cLog tr lam (ix2 t l) = (1 + tr (ix2 t l)) * (Ideal.ofBits .f32 3229614080#32
      * (max (0 - lam (ix2 0 l)) 0 + Ideal.log1p (Ideal.exp (0 - FloatOps.absf (F := Ideal) (φ := .f32) (0 - lam (ix2 0 l)))))) := by
    pointwise [cLog]
  rw [e, hz, neg4_eq, zero_sub, zero_sub]
  exact log_form z (sp (-lam (ix2 0 l)))

theorem cB_apply (la ti xh : FVec Ideal S256x128 .f32) (t : Fin 256) (l : Fin 128) (z zi x lam : EReal)
    (hl : la (ix2 t l) = gLog z lam) (hz : ti (ix2 t l) = Ideal.tanh (half * zi)) (hx : xh (ix2 t l) = half * x) :
    cB la ti xh (ix2 t l) = gB z zi x lam := by
  have e : ∀ v, v = Ideal.tanh (la (ix2 t l)) * (Ideal.ofBits .f32 3212836864#32 - Ideal.exp (la (ix2 t l)) * Ideal.exp (la (ix2 t l))) →
      cB la ti xh (ix2 t l) = (if 0 < v then v * Ideal.rsqrt v else 0) * ((1 + ti (ix2 t l)) * xh (ix2 t l)) := by
    rintro v rfl
    pointwise [cB]
  rw [e _ rfl, hz, hx, input_form, root_form _ (hl ▸ gLog_nonpos z lam) _ (by rw [neg1_eq]), hl]
  rfl

/-- The convolved rows and the gates' arguments of chunk `n`. -/
theorem conv_chunk (t : Fin 256) (l : Fin 128) :
    cConv (winC n cw) (winU n u) (winE n ex) (winV n cb) (ix2 t l) = half * (parT n cw u ex cb wa wx ba bx lam).xc t.val l := by
  rw [cConv_apply _ _ _ _ t l (fun s => (parT n cw u ex cb wa wx ba bx lam).x s l) (fun s => ?_)]
  · rw [winV_apply, winC_apply, winC_apply, winC_apply, winC_apply]; rfl
  · by_cases h : s < 3
    · rw [dif_pos h, winE_apply]; exact dif_pos h
    · rw [dif_neg h]
      refine (dif_neg h).trans ?_
      by_cases h' : s - 3 < 256
      · rw [dif_pos h', dif_pos h', winU_apply]
      · rw [dif_neg h', dif_neg h']

theorem headA_apply (t : Fin 256) (l : Fin 128) :
    (headOf n cw u ex cb wa wx ba bx lam).1 (ix2 t l) = (parT n cw u ex cb wa wx ba bx lam).a l t.val := by
  show Ideal.exp (cLog (cTanh (cConv (winC n cw) (winU n u) (winE n ex) (winV n cb)) (winW n wa) (winV n ba)) (winV n lam) (ix2 t l)) = _
  rw [cLog_apply _ _ t l ((parT n cw u ex cb wa wx ba bx lam).za t.val l) ?_, winV_apply]
  · rfl
  · rw [cTanh_apply _ _ _ t l _ (fun k => conv_chunk n cw u ex cb wa wx ba bx lam t k), winV_apply]
    simp only [winW_apply]; rfl

theorem headB_apply (t : Fin 256) (l : Fin 128) :
    (headOf n cw u ex cb wa wx ba bx lam).2 (ix2 t l) = (parT n cw u ex cb wa wx ba bx lam).b l t.val := by
  show cB (cLog (cTanh (cConv (winC n cw) (winU n u) (winE n ex) (winV n cb)) (winW n wa) (winV n ba)) (winV n lam))
    (cTanh (cConv (winC n cw) (winU n u) (winE n ex) (winV n cb)) (winW n wx) (winV n bx)) (cConv (winC n cw) (winU n u) (winE n ex) (winV n cb)) (ix2 t l) = _
  rw [cB_apply _ _ _ t l ((parT n cw u ex cb wa wx ba bx lam).za t.val l) ((parT n cw u ex cb wa wx ba bx lam).zx t.val l) ((parT n cw u ex cb wa wx ba bx lam).xc t.val l) ((parT n cw u ex cb wa wx ba bx lam).lam l)
    ?_ ?_ (conv_chunk n cw u ex cb wa wx ba bx lam t l)]
  · rfl
  · rw [cLog_apply _ _ t l ((parT n cw u ex cb wa wx ba bx lam).za t.val l) ?_, winV_apply]
    · rfl
    · rw [cTanh_apply _ _ _ t l _ (fun k => conv_chunk n cw u ex cb wa wx ba bx lam t k), winV_apply]
      simp only [winW_apply]; rfl
  · rw [cTanh_apply _ _ _ t l _ (fun k => conv_chunk n cw u ex cb wa wx ba bx lam t k), winV_apply]
    simp only [winW_apply]; rfl

/-! ## The rows of a tile -/

/-- The chunk of a channel and its place in it. -/
def chN (j : Fin 1024) : Fin 8 := ⟨j.val / 128, by omega⟩
def chL (j : Fin 1024) : Fin 128 := ⟨j.val % 128, Nat.mod_lt _ (by decide)⟩

/-- Within a group of rows the scans are steps of the recurrence. -/
theorem full_step (g : Fin 32) (s : Fin 8) (j : Fin 1024) (h : EReal) :
    fullA cw u ex cb wa wx ba bx lam (ix3 g s j) * h + fullB cw u ex cb wa wx ba bx lam (ix3 g s j)
      = R ((parT (chN j) cw u ex cb wa wx ba bx lam).a (chL j)) ((parT (chN j) cw u ex cb wa wx ba bx lam).b (chL j)) (8 * g.val) (s.val + 1) h := by
  have e : at3 g s (chL j) = ix3 g s (chL j) := idx_ext3 rfl rfl rfl
  have eA : fullA cw u ex cb wa wx ba bx lam (ix3 g s j) = rowN (cScanA (headOf (chN j) cw u ex cb wa wx ba bx lam).1 (headOf (chN j) cw u ex cb wa wx ba bx lam).2) g (chL j) s.val := by
    rw [← rowN_eq, ← e]; rfl
  have eB : fullB cw u ex cb wa wx ba bx lam (ix3 g s j) = rowN (cScanB (headOf (chN j) cw u ex cb wa wx ba bx lam).1 (headOf (chN j) cw u ex cb wa wx ba bx lam).2) g (chL j) s.val := by
    rw [← rowN_eq, ← e]; rfl
  rw [eA, eB]
  exact inv_end (scan_inv _ _ _ _ g (chL j) (fun t => headA_apply (chN j) cw u ex cb wa wx ba bx lam t (chL j)) (fun t => headB_apply (chN j) cw u ex cb wa wx ba bx lam t (chL j))
    (fun t => gA_fin _ _)) s.isLt h

theorem rowsOf_apply (A B : Vec Ideal S32x8x1024 .f32) (g : Fin 32) (h : FVec Ideal S1x1024 .f32) (s : Fin 8) (j : Fin 1024) :
    rowsOf A B g h (ix2 s j) = A (ix3 g s j) * h (ix2 0 j) + B (ix3 g s j) := by
  have e : ∀ a b : Vec Ideal S1x8x1024 .f32, gRow a b h (ix2 s j) = a (ix3 0 s j) * h (ix2 0 j) + b (ix3 0 s j) := by
    intro a b; pointwise [gRow]
  unfold rowsOf
  rw [e, winG_apply, winG_apply]

theorem gLast_apply (x : FVec Ideal S8x1024 .f32) (t : Fin 1) (l : Fin 1024) : gLast x (ix2 t l) = x (ix2 7 l) := by
  pointwise [gLast]

/-- The last row before group `g`: the recurrence's first `8 g` steps. -/
theorem lastRow_apply (h0 : FVec Ideal S1x1024 .f32) (j : Fin 1024) : ∀ g : ℕ, g ≤ 32 →
    lastRow (fullA cw u ex cb wa wx ba bx lam) (fullB cw u ex cb wa wx ba bx lam) h0 g (ix2 0 j)
      = R ((parT (chN j) cw u ex cb wa wx ba bx lam).a (chL j)) ((parT (chN j) cw u ex cb wa wx ba bx lam).b (chL j)) 0 (8 * g) (h0 (ix2 0 j))
  | 0, _ => rfl
  | g + 1, hg => by
    have hm : g % 32 = g := Nat.mod_eq_of_lt (by omega)
    show gLast (rowsOf _ _ ⟨g % 32, _⟩ (lastRow _ _ h0 g)) (ix2 0 j) = _
    rw [gLast_apply, rowsOf_apply, full_step, lastRow_apply h0 j g (by omega)]
    show R _ _ (8 * (g % 32)) (7 + 1) _ = _
    rw [hm, show 8 * (g + 1) = 8 * g + (7 + 1) by omega, R_add _ _ 0 (8 * g), Nat.zero_add]

/-- Every row of the tile. -/
theorem fullH_apply (h0 : FVec Ideal S1x1024 .f32) (g : Fin 32) (s : Fin 8) (j : Fin 1024) :
    fullH (fullA cw u ex cb wa wx ba bx lam) (fullB cw u ex cb wa wx ba bx lam) h0 (ix3 g s j)
      = R ((parT (chN j) cw u ex cb wa wx ba bx lam).a (chL j)) ((parT (chN j) cw u ex cb wa wx ba bx lam).b (chL j)) 0 (8 * g.val + s.val + 1) (h0 (ix2 0 j)) := by
  have e : ∀ x : FVec Ideal S8x1024 .f32, shapeCast S1x8x1024 x shapeCasts_S8x1024_S1x8x1024 (at3 0 s j) = x (ix2 s j) := by
    intro x
    rw [show at3 (0 : Fin 1) s j = ix3 0 s j from idx_ext3 rfl rfl rfl]
    pointwise []
  show shapeCast S1x8x1024 (rowsOf _ _ g (lastRow _ _ h0 g.val)) shapeCasts_S8x1024_S1x8x1024 (at3 0 s j) = _
  rw [e, rowsOf_apply, full_step, lastRow_apply cw u ex cb wa wx ba bx lam h0 j g.val (by omega), Nat.add_assoc, R_add _ _ 0 (8 * g.val), Nat.zero_add]

end Cert.Kernel8Ideal.Hand
-- ==== Proof.RglruPrompt.Value.lean ====
/- The values of the recurrence kernel on the prompt rows, over the extended reals: each tile's steps are steps of the recurrence of its
   batch, the state carried from tile to tile is the recurrence's, the side products in parts are whole products, and the seven arrays end
   as the recurrence's results. -/
module

public import proofs.«01_k».proof.Proof.RglruPrompt.Blocks
public import proofs.«01_k».proof.Proof.RglruPrompt.Tile

@[expose] public section

set_option maxRecDepth 16384

noncomputable section

namespace Cert.Kernel8Ideal.Hand

open Idealize.ShloMosaic Idealize.ShloMosaic.TcCoe Idealize.ShloMosaic.Tactic
open Idealize.SL.Sem
open Idealize.ShloMosaic.Pipeline (Dat Cfg Window)
open Cert.Kernel8Ideal.Gen Cert.Recur
open Cert.RecurPrompt (Args side)

variable (m : (ℓ : Loc nD τ sig) → Buf (Elt Ideal) ℓ) (ρ : Dev nD → PrngReg) (c : Dev nD) (t : Fin cfg0.N)

/-! ## A tile's values among its batch's -/

theorem chJ_gN (t : Fin cfg0.N) (n : Fin 8) (l : Fin 128) : gJ t ⟨128 * n.val + l.val, by omega⟩ = chJ (gN t n) l :=
  Fin.ext (by show 1024 * (hf t).val + (128 * n.val + l.val) = 128 * (8 * (hf t).val + n.val) + l.val; omega)
theorem chN_gJ (t : Fin cfg0.N) (j : Fin 1024) : Cert.Recur.chN (gJ t j) = gN t (chN j) :=
  Fin.ext (by show (1024 * (hf t).val + j.val) / 128 = 8 * (hf t).val + j.val / 128; omega)
theorem chL_gJ (t : Fin cfg0.N) (j : Fin 1024) : Cert.Recur.chL (gJ t j) = chL j :=
  Fin.ext (by show (1024 * (hf t).val + j.val) % 128 = j.val % 128; omega)

theorem cast_ci (x : Vec Ideal S1x8x1024 .f32) (s : Fin 8) (j : Fin 1024) :
    (shapeCast S8x1024 x shapeCasts_S1x8x1024_S8x1024 : Vec Ideal S8x1024 .f32) (ix2 s j) = x (ix3 0 s j) := by
  pointwise
theorem cast_state (x : Vec Ideal S1x1x1024 .f32) (j : Fin 1024) :
    (shapeCast S1x1024 x shapeCasts_S1x1x1024_S1x1024 : Vec Ideal S1x1024 .f32) (ix2 0 j) = x (ix3 0 0 j) := by
  pointwise
theorem cast_last (x : Vec Ideal S1x1024 .f32) (j : Fin 1024) :
    (shapeCast S1x1x1024 x shapeCasts_S1x1024_S1x1x1024 : Vec Ideal S1x1x1024 .f32) (ix3 0 0 j) = x (ix2 0 j) := by
  pointwise
theorem cast_conv (x : Vec Ideal S8x1024 .f32) (s : Fin 8) (j : Fin 1024) :
    (shapeCast S1x8x1024 x shapeCasts_S8x1024_S1x8x1024 : Vec Ideal S1x8x1024 .f32) (ix3 0 s j) = x (ix2 s j) := by
  pointwise
theorem lastU_apply (u : Vec Ideal S256x1024 .f32) (s : Fin 8) (j : Fin 1024) : lastU u (ix2 s j) = u (ix2 ⟨248 + s.val, by omega⟩ j) := by
  unfold lastU VecWindow.window
  exact congrArg u (Shape.idx_ext₂ (by show 248 + 1 * s.val = 248 + s.val; omega) (by show 0 + 1 * j.val = j.val; omega))

/-- The layer's values at chunk `n` of the tile of a grid point. -/
abbrev tPar (n : Fin 8) : Par :=
  parT n (iblk m c 2 t) (iblk m c 0 t) (exIn m c t) (iblk m c 3 t) (iblk m c 4 t) (iblk m c 6 t) (iblk m c 5 t) (iblk m c 7 t) (iblk m c 8 t)
/-- The layer's values of its batch at that chunk. -/
abbrev gPar (n : Fin 8) : Par := (args m c).par (bt t) (gN t n)

/-- The three rows before a tile. -/
theorem exIn_apply (n : Fin 8) (s : ℕ) (hs : s < 3) (l : Fin 128) :
    exIn m c t (ix2 ⟨s + 5, by omega⟩ ⟨128 * n.val + l.val, by omega⟩) = (gPar m c t n).x (256 * (tl t).val + s) l := by
  have e : (tl t).val = t.val % 16 := rfl
  unfold exIn
  show _ = if 256 * (tl t).val + s < 3 then (0 : EReal) else if h : 256 * (tl t).val + s - 3 < 4096 then _ else _
  by_cases h : t.val % 16 = 0
  · rw [if_pos h, cast_ci, iblk9_apply, if_pos (show 256 * (tl t).val + s < 3 by rw [e]; omega)]
  · have ht := val_lt t
    rw [if_neg h, lastU_apply, iblk0_apply, if_neg (show ¬ 256 * (tl t).val + s < 3 by rw [e]; omega), dif_pos (show 256 * (tl t).val + s - 3 < 4096 by omega)]
    exact congrArg (args m c).z (Shape.idx_ext₂
      (by show 4096 * ((t.val - 1) / 32) + 256 * ((t.val - 1) % 16) + (248 + (s + 5)) = 4096 * (t.val / 32) + (256 * (t.val % 16) + s - 3); omega)
      (by show 4096 + (1024 * ((t.val - 1) % 32 / 16) + (128 * n.val + l.val)) = 4096 + (128 * (8 * (t.val % 32 / 16) + n.val) + l.val); omega))

theorem tPar_x (n : Fin 8) (s : ℕ) (hs : s < 259) (l : Fin 128) :
    (tPar m c t n).x s l = (gPar m c t n).x (256 * (tl t).val + s) l := by
  by_cases h : s < 3
  · rw [← exIn_apply m c t n s h l]
    exact dif_pos h
  · refine (dif_neg h).trans ((dif_pos (show s - 3 < 256 by omega)).trans ?_)
    rw [iblk0_apply]
    show _ = if 256 * (tl t).val + s < 3 then (0 : EReal) else if h : 256 * (tl t).val + s - 3 < 4096 then _ else _
    rw [if_neg (by omega), dif_pos (show 256 * (tl t).val + s - 3 < 4096 by omega)]
    exact congrArg (args m c).z (Shape.idx_ext₂
      (by show 4096 * (bt t).val + 256 * (tl t).val + (s - 3) = 4096 * (bt t).val + (256 * (tl t).val + s - 3); omega)
      (by show 4096 + (gJ t ⟨128 * n.val + l.val, _⟩).val = 4096 + (chJ (gN t n) l).val; rw [chJ_gN]))

theorem tPar_xc (n : Fin 8) (s : ℕ) (hs : s < 256) (l : Fin 128) :
    (tPar m c t n).xc s l = (gPar m c t n).xc (256 * (tl t).val + s) l := by
  have hw : ∀ k : Fin 4, (tPar m c t n).cw k l = (gPar m c t n).cw k l := fun k =>
    (iblk2_apply m c t k _).trans (by rw [chJ_gN]; rfl)
  have hb : (tPar m c t n).cb l = (gPar m c t n).cb l := (iblk3_apply m c t _).trans (by rw [chJ_gN]; rfl)
  unfold Par.xc
  rw [tPar_x m c t n s (by omega), tPar_x m c t n (s + 1) (by omega), tPar_x m c t n (s + 2) (by omega), tPar_x m c t n (s + 3) (by omega),
    hw, hw, hw, hw, hb]
  rfl

theorem tPar_za (n : Fin 8) (s : ℕ) (hs : s < 256) (l : Fin 128) :
    (tPar m c t n).za s l = (gPar m c t n).za (256 * (tl t).val + s) l := by
  unfold Par.za
  refine congrArg₂ (fun u v : EReal => u + v) (Finset.sum_congr rfl fun k _ => ?_) ((iblk5_apply m c t _).trans (by rw [chJ_gN]; rfl))
  rw [tPar_xc m c t n s hs]
  exact congrArg (fun u : EReal => u * _) (iblk4_apply m c t n k l)

theorem tPar_zx (n : Fin 8) (s : ℕ) (hs : s < 256) (l : Fin 128) :
    (tPar m c t n).zx s l = (gPar m c t n).zx (256 * (tl t).val + s) l := by
  unfold Par.zx
  refine congrArg₂ (fun u v : EReal => u + v) (Finset.sum_congr rfl fun k _ => ?_) ((iblk7_apply m c t _).trans (by rw [chJ_gN]; rfl))
  rw [tPar_xc m c t n s hs]
  exact congrArg (fun u : EReal => u * _) (iblk6_apply m c t n k l)

theorem tPar_lam (n : Fin 8) (l : Fin 128) : (tPar m c t n).lam l = (gPar m c t n).lam l :=
  (iblk8_apply m c t _).trans (by rw [chJ_gN]; rfl)

theorem R_congr {a b a' b' : ℕ → EReal} {lo lo' : ℕ} (h : EReal) : ∀ n, (∀ i < n, a (lo + i) = a' (lo' + i) ∧ b (lo + i) = b' (lo' + i)) →
    R a b lo n h = R a' b' lo' n h
  | 0, _ => rfl
  | n + 1, e => by
    show a (lo + n) * R a b lo n h + b (lo + n) = a' (lo' + n) * R a' b' lo' n h + b' (lo' + n)
    rw [(e n (Nat.lt_succ_self n)).1, (e n (Nat.lt_succ_self n)).2, R_congr h n fun i hi => e i (Nat.lt_succ_of_lt hi)]

/-- The steps of a tile from the state before it are steps of its batch's recurrence. -/
theorem tile_steps (j : Fin 1024) (n : ℕ) (hn : n ≤ 256) :
    R ((tPar m c t (chN j)).a (chL j)) ((tPar m c t (chN j)).b (chL j)) 0 n ((args m c).state (bt t) (gJ t j) (256 * (tl t).val))
      = (args m c).state (bt t) (gJ t j) (256 * (tl t).val + n) := by
  unfold Args.state
  rw [R_add, chN_gJ, chL_gJ]
  refine R_congr _ n fun i hi => ?_
  rw [Nat.zero_add, Nat.zero_add]
  have hz := tPar_za m c t (chN j) i (by omega) (chL j)
  have hx := tPar_zx m c t (chN j) i (by omega) (chL j)
  have hc := tPar_xc m c t (chN j) i (by omega) (chL j)
  unfold Par.a Par.b
  rw [hz, hx, hc, tPar_lam]
  exact ⟨rfl, rfl⟩

/-! ## The state carried from tile to tile -/

theorem hIn_of (j : Fin 1024)
    (h : t.val % 16 ≠ 0 → carry m c (prev t).val (prev t).isLt (ix2 0 j) = (args m c).state (bt (prev t)) (gJ (prev t) j) (256 * ((tl (prev t)).val + 1))) :
    hIn m c t (ix2 0 j) = (args m c).state (bt t) (gJ t j) (256 * (tl t).val) := by
  unfold hIn
  by_cases h0 : t.val % 16 = 0
  · rw [if_pos h0, cast_state, iblk10_apply, show (tl t).val = 0 from h0]
    rfl
  · have ht := val_lt t
    rw [if_neg h0, h h0, show bt (prev t) = bt t from Fin.ext (by show (t.val - 1) / 32 = t.val / 32; omega),
      show gJ (prev t) j = gJ t j from Fin.ext (by show 1024 * ((t.val - 1) % 32 / 16) + j.val = 1024 * (t.val % 32 / 16) + j.val; omega),
      show (tl (prev t)).val + 1 = (tl t).val from (by show (t.val - 1) % 16 + 1 = t.val % 16; omega)]

theorem carry_apply (c : Dev nD) (j : Fin 1024) : ∀ (n : ℕ) (t : Fin cfg0.N), t.val = n →
    carry m c t.val t.isLt (ix2 0 j) = (args m c).state (bt t) (gJ t j) (256 * ((tl t).val + 1)) := by
  intro n
  induction n with
  | zero =>
    intro t ht
    rw [carry_eq, tA, tB, lastRow_apply _ _ _ _ _ _ _ _ _ _ j 32 (Nat.le_refl _), hIn_of m c t j (fun h => absurd (by omega) h), tile_steps m c t j _ (by decide)]
    rw [Nat.mul_add]
  | succ n ih =>
    intro t ht
    rw [carry_eq, tA, tB, lastRow_apply _ _ _ _ _ _ _ _ _ _ j 32 (Nat.le_refl _),
      hIn_of m c t j (fun h => ih (prev t) (by show t.val - 1 = n; omega)), tile_steps m c t j _ (by decide)]
    rw [Nat.mul_add]

theorem hIn_apply (j : Fin 1024) : hIn m c t (ix2 0 j) = (args m c).state (bt t) (gJ t j) (256 * (tl t).val) :=
  hIn_of m c t j fun _ => carry_apply m c j _ (prev t) rfl

/-! ## A point's results -/

theorem yOut_apply (h : Vec Ideal S32x8x1024 .f32) (g : Vec Ideal S256x1024 .f32) (t : Fin 256) (l : Fin 1024) :
    yOut h g (ix2 t l) = h (ix3 ⟨t.val / 8, by omega⟩ ⟨t.val % 8, by omega⟩ l) * gel (g (ix2 t l)) := by
  unfold gel
  rw [show half = Ideal.ofBits .f32 1056964608#32 from Cert.Sigmoid.half_eq.symm]
  pointwise [yOut]

theorem o15_apply (s : Fin 256) (j : Fin 1024) : o15 m c t (ix2 s j)
    = (args m c).state (bt t) (gJ t j) (256 * (tl t).val + (s.val + 1)) * gel ((args m c).z (ix2 (gR t s) ⟨6144 + (gJ t j).val, by omega⟩)) := by
  unfold o15 tA tB
  rw [yOut_apply, iblk1_apply, fullH_apply, hIn_apply]
  show R _ _ 0 (8 * (s.val / 8) + s.val % 8 + 1) _ * _ = _
  rw [Nat.div_add_mod, tile_steps m c t j _ (by omega)]

theorem o16_apply (j : Fin 1024) :
    o16 m c t (ix3 0 0 j) = (args m c).state (bt t) (gJ t j) (256 * ((tl t).val + 1)) := by
  unfold o16
  rw [cast_last, carry_apply m c j _ t rfl]

theorem o17_apply (s : Fin 8) (j : Fin 1024) :
    o17 m c t (ix3 0 s j) = (args m c).z (ix2 (gR t ⟨248 + s.val, by omega⟩) ⟨4096 + (gJ t j).val, by omega⟩) := by
  unfold o17
  rw [cast_conv, lastU_apply, iblk0_apply]

theorem part_apply (x : Vec Ideal S512x256 .bf16) (w : Vec Ideal S256x512 .bf16) (r j : Fin 512) :
    part x w (ix2 r j) = (∑ k : Fin 256, x (ix2 r k) * w (ix2 k j) : EReal) := by
  pointwise [part]
theorem winS_apply (n : Fin 8) (x : Vec Ideal S512x2048 .bf16) (r : Fin 512) (k : Fin 256) : winS n x (ix2 r k) = x (ix2 r ⟨256 * n.val + k.val, by omega⟩) := by
  unfold winS VecWindow.window
  exact congrArg x (Shape.idx_ext₂ (by show 0 + 1 * r.val = r.val; omega) (by show 256 * n.val + 1 * k.val = 256 * n.val + k.val; omega))
theorem winT_apply (n : Fin 8) (w : Vec Ideal S2048x512 .bf16) (k : Fin 256) (j : Fin 512) : winT n w (ix2 k j) = w (ix2 ⟨256 * n.val + k.val, by omega⟩ j) := by
  unfold winT VecWindow.window
  exact congrArg w (Shape.idx_ext₂ (by show 256 * n.val + 1 * k.val = 256 * n.val + k.val; omega) (by show 0 + 1 * j.val = j.val; omega))

/-- A term of the whole product. -/
def term (x : Vec Ideal S512x2048 .bf16) (w : Vec Ideal S2048x512 .bf16) (r j : Fin 512) (k : ℕ) : EReal :=
  if h : k < 2048 then x (ix2 r ⟨k, h⟩) * w (ix2 ⟨k, h⟩ j) else 0

theorem part_term (x : Vec Ideal S512x2048 .bf16) (w : Vec Ideal S2048x512 .bf16) (r j : Fin 512) (n : Fin 8) :
    part (winS n x) (winT n w) (ix2 r j) = ∑ k ∈ Finset.range 256, term x w r j (256 * n.val + k) := by
  rw [part_apply, Finset.sum_range]
  refine Finset.sum_congr rfl fun k _ => ?_
  rw [winS_apply, winT_apply]
  unfold term
  rw [dif_pos (show 256 * n.val + k.val < 2048 by omega)]

theorem acc_term (x : Vec Ideal S512x2048 .bf16) (w : Vec Ideal S2048x512 .bf16) (r j : Fin 512) : ∀ n : ℕ, n < 8 →
    acc x w n (ix2 r j) = ∑ k ∈ Finset.range (256 * (n + 1)), term x w r j k
  | 0, _ => by
    refine (part_term x w r j 0).trans (Finset.sum_congr rfl fun k _ => ?_)
    exact congrArg (term x w r j) (Nat.zero_add k)
  | n + 1, h => by
    show acc x w n (ix2 r j) + part (winS ⟨(n + 1) % 8, _⟩ x) (winT ⟨(n + 1) % 8, _⟩ w) (ix2 r j) = _
    rw [acc_term x w r j n (by omega), part_term, show 256 * (n + 1 + 1) = 256 * (n + 1) + 256 by omega, Finset.sum_range_add]
    show _ + ∑ k ∈ Finset.range 256, term x w r j (256 * ((n + 1) % 8) + k) = _
    rw [Nat.mod_eq_of_lt h]

/-- The parts make the whole product. -/
theorem acc_apply (x : Vec Ideal S512x2048 .bf16) (w : Vec Ideal S2048x512 .bf16) (r j : Fin 512) :
    acc x w 7 (ix2 r j) = (∑ k : Fin 2048, x (ix2 r k) * w (ix2 k j) : EReal) := by
  rw [acc_term x w r j 7 (by decide), Finset.sum_range]
  exact Finset.sum_congr rfl fun k _ => dif_pos k.isLt

theorem soxOf_apply (x : Vec Ideal S128x2048 .bf16) (w : Vec Ideal S2048x512 .f32) (r : Fin 128) (j : Fin 512) :
    soxOf x w (ix2 r j) = (∑ k : Fin 2048, x (ix2 r k) * w (ix2 k j) : EReal) := by
  pointwise [soxOf]

theorem o18_apply (r : Fin 512) (j : Fin 512) :
    o18 m c t (ix2 r j) = side (args m c).hp (args m c).w 0 (by decide) (ix2 ⟨512 * (tl t).val + r.val, by omega⟩ (gQ t j)) := by
  refine (acc_apply _ _ r j).trans (Finset.sum_congr rfl fun k _ => ?_)
  exact congrArg₂ (fun u v : EReal => u * v) (iblk11_apply m c t r k) (iblk13_apply m c t k j)

theorem o19_apply (r : Fin 128) (j : Fin 512) :
    o19 m c t (ix2 r j) = side (args m c).hs (args m c).w 0 (by decide) (ix2 r (gQ t j)) := by
  refine (soxOf_apply _ _ r j).trans (Finset.sum_congr rfl fun k _ => ?_)
  exact congrArg₂ (fun u v : EReal => u * v) (iblk12_apply m c t r k) (iblk13_apply m c t k j)

theorem o20_apply (r : Fin 512) (j : Fin 512) :
    o20 m c t (ix2 r j) = side (args m c).hp (args m c).w 12288 (by decide) (ix2 ⟨512 * (tl t).val + r.val, by omega⟩ (gQ t j)) := by
  refine (acc_apply _ _ r j).trans (Finset.sum_congr rfl fun k _ => ?_)
  exact congrArg₂ (fun u v : EReal => u * v) (iblk11_apply m c t r k) (iblk14_apply m c t k j)

theorem o21_apply (r : Fin 128) (j : Fin 512) :
    o21 m c t (ix2 r j) = side (args m c).hs (args m c).w 12288 (by decide) (ix2 r (gQ t j)) := by
  refine (soxOf_apply _ _ r j).trans (Finset.sum_congr rfl fun k _ => ?_)
  exact congrArg₂ (fun u v : EReal => u * v) (iblk12_apply m c t r k) (iblk14_apply m c t k j)

/-! ## The results -/

theorem idx15 : ∀ t : Fin cfg0.N, win0_15.index t 0 = 16 * (t.val / 32) + t.val % 16 ∧ win0_15.index t 1 = t.val % 32 / 16 :=
  (by decide +kernel : ∀ t : Fin grid0.N, _)

theorem flushed15 : (dats m 0 c).flushed 15 t = ((cfg0.win 15).blk t).view.read (Elt Ideal) ((args m c).y) := by
  show (cfg0.win 15).cut (grid0.coords t) ((dats m 0 c).after 15 t) = _
  rw [after15]
  funext y
  show o15 m c t (y : S256x1024.Idx) = ((args m c).y) (((cfg0.win 15).blk t).view.emb y)
  obtain ⟨s, j, rfl⟩ : ∃ (s : Fin 256) (j : Fin 1024), y = ix2 s j := ⟨y 0, y 1, Shape.idx_ext₂ rfl rfl⟩
  rw [o15_apply, show ((cfg0.win 15).blk t).view.emb (ix2 s j) = (ix2 (gR t s) (gJ t j) : S8192x2048.Idx) from Shape.idx_ext₂
    (by show win0_15.index t 0 * 256 + 1 * s.val = 4096 * (t.val / 32) + 256 * (t.val % 16) + s.val; rw [(idx15 _).1]; omega)
    (by show win0_15.index t 1 * 1024 + 1 * j.val = 1024 * (t.val % 32 / 16) + j.val; rw [(idx15 _).2]; omega)]
  unfold Args.y
  have h1 : (⟨(gR t s).val / 4096, by omega⟩ : Fin 2) = bt t :=
    Fin.ext (by show (4096 * (bt t).val + 256 * (tl t).val + s.val) / 4096 = (bt t).val; omega)
  have h2 : (gR t s).val % 4096 + 1 = 256 * (tl t).val + (s.val + 1) := by
    show (4096 * (bt t).val + 256 * (tl t).val + s.val) % 4096 + 1 = _
    omega
  show _ = (args m c).state ⟨(gR t s).val / 4096, _⟩ (gJ t j) ((gR t s).val % 4096 + 1) * _
  rw [h1, h2]
  rfl

theorem mem_blk15 (t : Fin cfg0.N) (i : S8192x2048.Idx) : i ∈ ((cfg0.win 15).blk t).view.set ↔
    ∀ a : Fin 2, win0_15.index t a * S256x1024.size a ≤ (i a).val ∧ (i a).val < win0_15.index t a * S256x1024.size a + S256x1024.size a := by
  show i ∈ ((View.whole main_v14_0).slice (win0_15.rect t)).set ↔ _
  rw [View.set_slice_whole, Rect.mem_set_unit]
  exact Iff.rfl

theorem final15 (c : Dev nD) : (dats m 0 c).arrAt 15 cfg0.N = (args m c).y :=
  (dats m 0 c).arrAt_eq_of_cover 15 _ (fun t _ => flushed15 m c t) (fun i => by
    have hi0 : ((i : S8192x2048.Idx) 0).val < 8192 := ((i : S8192x2048.Idx) 0).isLt
    have hi1 : ((i : S8192x2048.Idx) 1).val < 2048 := ((i : S8192x2048.Idx) 1).isLt
    have hN : cfg0.N = 64 := N_0
    refine ⟨⟨32 * (((i : S8192x2048.Idx) 0).val / 4096) + 16 * (((i : S8192x2048.Idx) 1).val / 1024) + ((i : S8192x2048.Idx) 0).val % 4096 / 256, by omega⟩, flush0_15 _, (mem_blk15 _ i).mpr ?_⟩
    intro a
    match a with
    | ⟨0, _⟩ =>
      show win0_15.index _ 0 * 256 ≤ (i 0).val ∧ (i 0).val < win0_15.index _ 0 * 256 + 256
      rw [(idx15 _).1]; dsimp only; omega
    | ⟨1, _⟩ =>
      show win0_15.index _ 1 * 1024 ≤ (i 1).val ∧ (i 1).val < win0_15.index _ 1 * 1024 + 1024
      rw [(idx15 _).2]; dsimp only; omega)

theorem idx16 : ∀ t : Fin cfg0.N, win0_16.index t 0 = t.val / 32 ∧ win0_16.index t 1 = 0 ∧ win0_16.index t 2 = t.val % 32 / 16 :=
  (by decide +kernel : ∀ t : Fin grid0.N, _)

theorem flushed16 (ht : t.val % 16 = 15) : (dats m 0 c).flushed 16 t = ((cfg0.win 16).blk t).view.read (Elt Ideal) ((args m c).last) := by
  show (cfg0.win 16).cut (grid0.coords t) ((dats m 0 c).after 16 t) = _
  rw [after16]
  funext y
  show o16 m c t (y : S1x1x1024.Idx) = ((args m c).last) (((cfg0.win 16).blk t).view.emb y)
  obtain ⟨j, rfl⟩ : ∃ (j : Fin 1024), y = ix3 0 0 j := ⟨y 2, idx_ext3 (Nat.lt_one_iff.1 (y 0).isLt) (Nat.lt_one_iff.1 (y 1).isLt) rfl⟩
  rw [o16_apply, show ((cfg0.win 16).blk t).view.emb (ix3 0 0 j) = (ix3 (bt t) 0 (gJ t j) : S2x1x2048.Idx) from idx_ext3
    (by show win0_16.index t 0 * 1 + 1 * 0 = t.val / 32; rw [(idx16 _).1]; omega)
    (by show win0_16.index t 1 * 1 + 1 * 0 = 0; rw [(idx16 _).2.1])
    (by show win0_16.index t 2 * 1024 + 1 * j.val = 1024 * (t.val % 32 / 16) + j.val; rw [(idx16 _).2.2]; omega)]
  show (args m c).state (bt t) (gJ t j) (256 * (t.val % 16 + 1)) = (args m c).state (bt t) (gJ t j) 4096
  rw [ht]

theorem mem_blk16 (t : Fin cfg0.N) (i : S2x1x2048.Idx) : i ∈ ((cfg0.win 16).blk t).view.set ↔
    ∀ a : Fin 3, win0_16.index t a * S1x1x1024.size a ≤ (i a).val ∧ (i a).val < win0_16.index t a * S1x1x1024.size a + S1x1x1024.size a := by
  show i ∈ ((View.whole main_v14_1).slice (win0_16.rect t)).set ↔ _
  rw [View.set_slice_whole, Rect.mem_set_unit]
  exact Iff.rfl

theorem final16 (c : Dev nD) : (dats m 0 c).arrAt 16 cfg0.N = (args m c).last :=
  (dats m 0 c).arrAt_eq_of_cover 16 _ (fun t ht => flushed16 m c t ((flush0_16 t).1 ht)) (fun i => by
    have hi0 : ((i : S2x1x2048.Idx) 0).val < 2 := ((i : S2x1x2048.Idx) 0).isLt
    have hi1 : ((i : S2x1x2048.Idx) 1).val < 1 := ((i : S2x1x2048.Idx) 1).isLt
    have hi2 : ((i : S2x1x2048.Idx) 2).val < 2048 := ((i : S2x1x2048.Idx) 2).isLt
    have hN : cfg0.N = 64 := N_0
    refine ⟨⟨32 * ((i : S2x1x2048.Idx) 0).val + 16 * (((i : S2x1x2048.Idx) 2).val / 1024) + 15, by omega⟩, (flush0_16 _).2 (by dsimp only; omega), (mem_blk16 _ i).mpr ?_⟩
    intro a
    match a with
    | ⟨0, _⟩ =>
      show win0_16.index _ 0 * 1 ≤ (i 0).val ∧ (i 0).val < win0_16.index _ 0 * 1 + 1
      rw [(idx16 _).1]; dsimp only; omega
    | ⟨1, _⟩ =>
      show win0_16.index _ 1 * 1 ≤ (i 1).val ∧ (i 1).val < win0_16.index _ 1 * 1 + 1
      rw [(idx16 _).2.1]; dsimp only; omega
    | ⟨2, _⟩ =>
      show win0_16.index _ 2 * 1024 ≤ (i 2).val ∧ (i 2).val < win0_16.index _ 2 * 1024 + 1024
      rw [(idx16 _).2.2]; dsimp only; omega)

theorem idx17 : ∀ t : Fin cfg0.N, win0_17.index t 0 = t.val / 32 ∧ win0_17.index t 1 = 0 ∧ win0_17.index t 2 = t.val % 32 / 16 :=
  (by decide +kernel : ∀ t : Fin grid0.N, _)

theorem flushed17 (ht : t.val % 16 = 15) : (dats m 0 c).flushed 17 t = ((cfg0.win 17).blk t).view.read (Elt Ideal) ((args m c).conv) := by
  show (cfg0.win 17).cut (grid0.coords t) ((dats m 0 c).after 17 t) = _
  rw [after17]
  funext y
  show o17 m c t (y : S1x8x1024.Idx) = ((args m c).conv) (((cfg0.win 17).blk t).view.emb y)
  obtain ⟨s, j, rfl⟩ : ∃ (s : Fin 8) (j : Fin 1024), y = ix3 0 s j := ⟨y 1, y 2, idx_ext3 (Nat.lt_one_iff.1 (y 0).isLt) rfl rfl⟩
  rw [o17_apply, show ((cfg0.win 17).blk t).view.emb (ix3 0 s j) = (ix3 (bt t) s (gJ t j) : S2x8x2048.Idx) from idx_ext3
    (by show win0_17.index t 0 * 1 + 1 * 0 = t.val / 32; rw [(idx17 _).1]; omega)
    (by show win0_17.index t 1 * 8 + 1 * s.val = s.val; rw [(idx17 _).2.1]; omega)
    (by show win0_17.index t 2 * 1024 + 1 * j.val = 1024 * (t.val % 32 / 16) + j.val; rw [(idx17 _).2.2]; omega)]
  exact congrArg (args m c).z (Shape.idx_ext₂ (by
    show 4096 * (bt t).val + 256 * (t.val % 16) + (248 + s.val) = 4096 * (bt t).val + 4088 + s.val
    omega) rfl)

theorem mem_blk17 (t : Fin cfg0.N) (i : S2x8x2048.Idx) : i ∈ ((cfg0.win 17).blk t).view.set ↔
    ∀ a : Fin 3, win0_17.index t a * S1x8x1024.size a ≤ (i a).val ∧ (i a).val < win0_17.index t a * S1x8x1024.size a + S1x8x1024.size a := by
  show i ∈ ((View.whole main_v14_2).slice (win0_17.rect t)).set ↔ _
  rw [View.set_slice_whole, Rect.mem_set_unit]
  exact Iff.rfl

theorem final17 (c : Dev nD) : (dats m 0 c).arrAt 17 cfg0.N = (args m c).conv :=
  (dats m 0 c).arrAt_eq_of_cover 17 _ (fun t ht => flushed17 m c t ((flush0_17 t).1 ht)) (fun i => by
    have hi0 : ((i : S2x8x2048.Idx) 0).val < 2 := ((i : S2x8x2048.Idx) 0).isLt
    have hi1 : ((i : S2x8x2048.Idx) 1).val < 8 := ((i : S2x8x2048.Idx) 1).isLt
    have hi2 : ((i : S2x8x2048.Idx) 2).val < 2048 := ((i : S2x8x2048.Idx) 2).isLt
    have hN : cfg0.N = 64 := N_0
    refine ⟨⟨32 * ((i : S2x8x2048.Idx) 0).val + 16 * (((i : S2x8x2048.Idx) 2).val / 1024) + 15, by omega⟩, (flush0_17 _).2 (by dsimp only; omega), (mem_blk17 _ i).mpr ?_⟩
    intro a
    match a with
    | ⟨0, _⟩ =>
      show win0_17.index _ 0 * 1 ≤ (i 0).val ∧ (i 0).val < win0_17.index _ 0 * 1 + 1
      rw [(idx17 _).1]; dsimp only; omega
    | ⟨1, _⟩ =>
      show win0_17.index _ 1 * 8 ≤ (i 1).val ∧ (i 1).val < win0_17.index _ 1 * 8 + 8
      rw [(idx17 _).2.1]; dsimp only; omega
    | ⟨2, _⟩ =>
      show win0_17.index _ 2 * 1024 ≤ (i 2).val ∧ (i 2).val < win0_17.index _ 2 * 1024 + 1024
      rw [(idx17 _).2.2]; dsimp only; omega)

theorem idx18 : ∀ t : Fin cfg0.N, win0_18.index t 0 = t.val % 16 ∧ win0_18.index t 1 = t.val / 16 :=
  (by decide +kernel : ∀ t : Fin grid0.N, _)

theorem flushed18 : (dats m 0 c).flushed 18 t = ((cfg0.win 18).blk t).view.read (Elt Ideal) (side (args m c).hp (args m c).w 0 (by decide)) := by
  show (cfg0.win 18).cut (grid0.coords t) ((dats m 0 c).after 18 t) = _
  rw [after18]
  funext y
  show o18 m c t (y : S512x512.Idx) = (side (args m c).hp (args m c).w 0 (by decide)) (((cfg0.win 18).blk t).view.emb y)
  obtain ⟨r, j, rfl⟩ : ∃ (r : Fin 512) (j : Fin 512), y = ix2 r j := ⟨y 0, y 1, Shape.idx_ext₂ rfl rfl⟩
  rw [o18_apply, show ((cfg0.win 18).blk t).view.emb (ix2 r j) = (ix2 ⟨512 * (tl t).val + r.val, by omega⟩ (gQ t j) : S8192x2048.Idx) from Shape.idx_ext₂
    (by show win0_18.index t 0 * 512 + 1 * r.val = 512 * (t.val % 16) + r.val; rw [(idx18 _).1]; omega)
    (by show win0_18.index t 1 * 512 + 1 * j.val = 512 * (t.val / 16) + j.val; rw [(idx18 _).2]; omega)]

theorem mem_blk18 (t : Fin cfg0.N) (i : S8192x2048.Idx) : i ∈ ((cfg0.win 18).blk t).view.set ↔
    ∀ a : Fin 2, win0_18.index t a * S512x512.size a ≤ (i a).val ∧ (i a).val < win0_18.index t a * S512x512.size a + S512x512.size a := by
  show i ∈ ((View.whole main_v14_3).slice (win0_18.rect t)).set ↔ _
  rw [View.set_slice_whole, Rect.mem_set_unit]
  exact Iff.rfl

theorem final18 (c : Dev nD) : (dats m 0 c).arrAt 18 cfg0.N = side (args m c).hp (args m c).w 0 (by decide) :=
  (dats m 0 c).arrAt_eq_of_cover 18 _ (fun t _ => flushed18 m c t) (fun i => by
    have hi0 : ((i : S8192x2048.Idx) 0).val < 8192 := ((i : S8192x2048.Idx) 0).isLt
    have hi1 : ((i : S8192x2048.Idx) 1).val < 2048 := ((i : S8192x2048.Idx) 1).isLt
    have hN : cfg0.N = 64 := N_0
    refine ⟨⟨16 * (((i : S8192x2048.Idx) 1).val / 512) + ((i : S8192x2048.Idx) 0).val / 512, by omega⟩, flush0_18 _, (mem_blk18 _ i).mpr ?_⟩
    intro a
    match a with
    | ⟨0, _⟩ =>
      show win0_18.index _ 0 * 512 ≤ (i 0).val ∧ (i 0).val < win0_18.index _ 0 * 512 + 512
      rw [(idx18 _).1]; dsimp only; omega
    | ⟨1, _⟩ =>
      show win0_18.index _ 1 * 512 ≤ (i 1).val ∧ (i 1).val < win0_18.index _ 1 * 512 + 512
      rw [(idx18 _).2]; dsimp only; omega)

theorem idx19 : ∀ t : Fin cfg0.N, win0_19.index t 0 = 0 ∧ win0_19.index t 1 = t.val / 16 :=
  (by decide +kernel : ∀ t : Fin grid0.N, _)

theorem flushed19 : (dats m 0 c).flushed 19 t = ((cfg0.win 19).blk t).view.read (Elt Ideal) (side (args m c).hs (args m c).w 0 (by decide)) := by
  show (cfg0.win 19).cut (grid0.coords t) ((dats m 0 c).after 19 t) = _
  rw [after19]
  funext y
  show o19 m c t (y : S128x512.Idx) = (side (args m c).hs (args m c).w 0 (by decide)) (((cfg0.win 19).blk t).view.emb y)
  obtain ⟨r, j, rfl⟩ : ∃ (r : Fin 128) (j : Fin 512), y = ix2 r j := ⟨y 0, y 1, Shape.idx_ext₂ rfl rfl⟩
  rw [o19_apply, show ((cfg0.win 19).blk t).view.emb (ix2 r j) = (ix2 r (gQ t j) : S128x2048.Idx) from Shape.idx_ext₂
    (by show win0_19.index t 0 * 128 + 1 * r.val = r.val; rw [(idx19 _).1]; omega)
    (by show win0_19.index t 1 * 512 + 1 * j.val = 512 * (t.val / 16) + j.val; rw [(idx19 _).2]; omega)]

theorem mem_blk19 (t : Fin cfg0.N) (i : S128x2048.Idx) : i ∈ ((cfg0.win 19).blk t).view.set ↔
    ∀ a : Fin 2, win0_19.index t a * S128x512.size a ≤ (i a).val ∧ (i a).val < win0_19.index t a * S128x512.size a + S128x512.size a := by
  show i ∈ ((View.whole main_v14_4).slice (win0_19.rect t)).set ↔ _
  rw [View.set_slice_whole, Rect.mem_set_unit]
  exact Iff.rfl

theorem final19 (c : Dev nD) : (dats m 0 c).arrAt 19 cfg0.N = side (args m c).hs (args m c).w 0 (by decide) :=
  (dats m 0 c).arrAt_eq_of_cover 19 _ (fun t _ => flushed19 m c t) (fun i => by
    have hi0 : ((i : S128x2048.Idx) 0).val < 128 := ((i : S128x2048.Idx) 0).isLt
    have hi1 : ((i : S128x2048.Idx) 1).val < 2048 := ((i : S128x2048.Idx) 1).isLt
    have hN : cfg0.N = 64 := N_0
    refine ⟨⟨16 * (((i : S128x2048.Idx) 1).val / 512) + 15, by omega⟩, (flush0_19 _).2 (by dsimp only; omega), (mem_blk19 _ i).mpr ?_⟩
    intro a
    match a with
    | ⟨0, _⟩ =>
      show win0_19.index _ 0 * 128 ≤ (i 0).val ∧ (i 0).val < win0_19.index _ 0 * 128 + 128
      rw [(idx19 _).1]; dsimp only; omega
    | ⟨1, _⟩ =>
      show win0_19.index _ 1 * 512 ≤ (i 1).val ∧ (i 1).val < win0_19.index _ 1 * 512 + 512
      rw [(idx19 _).2]; dsimp only; omega)

theorem idx20 : ∀ t : Fin cfg0.N, win0_20.index t 0 = t.val % 16 ∧ win0_20.index t 1 = t.val / 16 :=
  (by decide +kernel : ∀ t : Fin grid0.N, _)

theorem flushed20 : (dats m 0 c).flushed 20 t = ((cfg0.win 20).blk t).view.read (Elt Ideal) (side (args m c).hp (args m c).w 12288 (by decide)) := by
  show (cfg0.win 20).cut (grid0.coords t) ((dats m 0 c).after 20 t) = _
  rw [after20]
  funext y
  show o20 m c t (y : S512x512.Idx) = (side (args m c).hp (args m c).w 12288 (by decide)) (((cfg0.win 20).blk t).view.emb y)
  obtain ⟨r, j, rfl⟩ : ∃ (r : Fin 512) (j : Fin 512), y = ix2 r j := ⟨y 0, y 1, Shape.idx_ext₂ rfl rfl⟩
  rw [o20_apply, show ((cfg0.win 20).blk t).view.emb (ix2 r j) = (ix2 ⟨512 * (tl t).val + r.val, by omega⟩ (gQ t j) : S8192x2048.Idx) from Shape.idx_ext₂
    (by show win0_20.index t 0 * 512 + 1 * r.val = 512 * (t.val % 16) + r.val; rw [(idx20 _).1]; omega)
    (by show win0_20.index t 1 * 512 + 1 * j.val = 512 * (t.val / 16) + j.val; rw [(idx20 _).2]; omega)]

theorem mem_blk20 (t : Fin cfg0.N) (i : S8192x2048.Idx) : i ∈ ((cfg0.win 20).blk t).view.set ↔
    ∀ a : Fin 2, win0_20.index t a * S512x512.size a ≤ (i a).val ∧ (i a).val < win0_20.index t a * S512x512.size a + S512x512.size a := by
  show i ∈ ((View.whole main_v14_5).slice (win0_20.rect t)).set ↔ _
  rw [View.set_slice_whole, Rect.mem_set_unit]
  exact Iff.rfl

theorem final20 (c : Dev nD) : (dats m 0 c).arrAt 20 cfg0.N = side (args m c).hp (args m c).w 12288 (by decide) :=
  (dats m 0 c).arrAt_eq_of_cover 20 _ (fun t _ => flushed20 m c t) (fun i => by
    have hi0 : ((i : S8192x2048.Idx) 0).val < 8192 := ((i : S8192x2048.Idx) 0).isLt
    have hi1 : ((i : S8192x2048.Idx) 1).val < 2048 := ((i : S8192x2048.Idx) 1).isLt
    have hN : cfg0.N = 64 := N_0
    refine ⟨⟨16 * (((i : S8192x2048.Idx) 1).val / 512) + ((i : S8192x2048.Idx) 0).val / 512, by omega⟩, flush0_20 _, (mem_blk20 _ i).mpr ?_⟩
    intro a
    match a with
    | ⟨0, _⟩ =>
      show win0_20.index _ 0 * 512 ≤ (i 0).val ∧ (i 0).val < win0_20.index _ 0 * 512 + 512
      rw [(idx20 _).1]; dsimp only; omega
    | ⟨1, _⟩ =>
      show win0_20.index _ 1 * 512 ≤ (i 1).val ∧ (i 1).val < win0_20.index _ 1 * 512 + 512
      rw [(idx20 _).2]; dsimp only; omega)

theorem idx21 : ∀ t : Fin cfg0.N, win0_21.index t 0 = 0 ∧ win0_21.index t 1 = t.val / 16 :=
  (by decide +kernel : ∀ t : Fin grid0.N, _)

theorem flushed21 : (dats m 0 c).flushed 21 t = ((cfg0.win 21).blk t).view.read (Elt Ideal) (side (args m c).hs (args m c).w 12288 (by decide)) := by
  show (cfg0.win 21).cut (grid0.coords t) ((dats m 0 c).after 21 t) = _
  rw [after21]
  funext y
  show o21 m c t (y : S128x512.Idx) = (side (args m c).hs (args m c).w 12288 (by decide)) (((cfg0.win 21).blk t).view.emb y)
  obtain ⟨r, j, rfl⟩ : ∃ (r : Fin 128) (j : Fin 512), y = ix2 r j := ⟨y 0, y 1, Shape.idx_ext₂ rfl rfl⟩
  rw [o21_apply, show ((cfg0.win 21).blk t).view.emb (ix2 r j) = (ix2 r (gQ t j) : S128x2048.Idx) from Shape.idx_ext₂
    (by show win0_21.index t 0 * 128 + 1 * r.val = r.val; rw [(idx21 _).1]; omega)
    (by show win0_21.index t 1 * 512 + 1 * j.val = 512 * (t.val / 16) + j.val; rw [(idx21 _).2]; omega)]

theorem mem_blk21 (t : Fin cfg0.N) (i : S128x2048.Idx) : i ∈ ((cfg0.win 21).blk t).view.set ↔
    ∀ a : Fin 2, win0_21.index t a * S128x512.size a ≤ (i a).val ∧ (i a).val < win0_21.index t a * S128x512.size a + S128x512.size a := by
  show i ∈ ((View.whole main_v14_6).slice (win0_21.rect t)).set ↔ _
  rw [View.set_slice_whole, Rect.mem_set_unit]
  exact Iff.rfl

theorem final21 (c : Dev nD) : (dats m 0 c).arrAt 21 cfg0.N = side (args m c).hs (args m c).w 12288 (by decide) :=
  (dats m 0 c).arrAt_eq_of_cover 21 _ (fun t _ => flushed21 m c t) (fun i => by
    have hi0 : ((i : S128x2048.Idx) 0).val < 128 := ((i : S128x2048.Idx) 0).isLt
    have hi1 : ((i : S128x2048.Idx) 1).val < 2048 := ((i : S128x2048.Idx) 1).isLt
    have hN : cfg0.N = 64 := N_0
    refine ⟨⟨16 * (((i : S128x2048.Idx) 1).val / 512) + 15, by omega⟩, (flush0_21 _).2 (by dsimp only; omega), (mem_blk21 _ i).mpr ?_⟩
    intro a
    match a with
    | ⟨0, _⟩ =>
      show win0_21.index _ 0 * 128 ≤ (i 0).val ∧ (i 0).val < win0_21.index _ 0 * 128 + 128
      rw [(idx21 _).1]; dsimp only; omega
    | ⟨1, _⟩ =>
      show win0_21.index _ 1 * 512 ≤ (i 1).val ∧ (i 1).val < win0_21.index _ 1 * 512 + 512
      rw [(idx21 _).2]; dsimp only; omega)

/-- The kernel's run with its seven results named. -/
theorem run_values : θ_run defs (onTc (τ := τ) (main (F := Ideal))) ⟨m, fun _ => 0, ρ⟩ fun r => ∀ c : Dev nD,
      r.2.mem ((c.tc : Thread nD τ).loc main_v14_0) = (args m c).y
      ∧ r.2.mem ((c.tc : Thread nD τ).loc main_v14_1) = (args m c).last
      ∧ r.2.mem ((c.tc : Thread nD τ).loc main_v14_2) = (args m c).conv
      ∧ r.2.mem ((c.tc : Thread nD τ).loc main_v14_3) = side (args m c).hp (args m c).w 0 (by decide)
      ∧ r.2.mem ((c.tc : Thread nD τ).loc main_v14_4) = side (args m c).hs (args m c).w 0 (by decide)
      ∧ r.2.mem ((c.tc : Thread nD τ).loc main_v14_5) = side (args m c).hp (args m c).w 12288 (by decide)
      ∧ r.2.mem ((c.tc : Thread nD τ).loc main_v14_6) = side (args m c).hs (args m c).w 12288 (by decide)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨((h.1 c).1 15).trans (final15 m c), ((h.1 c).1 16).trans (final16 m c), ((h.1 c).1 17).trans (final17 m c), ((h.1 c).1 18).trans (final18 m c), ((h.1 c).1 19).trans (final19 m c), ((h.1 c).1 20).trans (final20 m c), ((h.1 c).1 21).trans (final21 m c), h.2.1 c⟩)
    (θ_run_and (run_main m ρ) (frame m ρ))

end Cert.Kernel8Ideal.Hand

end
-- ==== Proof.RglruPrompt.Ref.lean ====
/- The reference of the recurrence on the prompt rows, over the extended reals: its values before the loop, the loop's steps as steps of
   the recurrence, and its results. -/
module

public import proofs.«01_k».proof.Proof.RglruPrompt.Spec
public import proofs.«01_k».proof.Proof.Gen.Reference8Ideal.Run
public import Idealize.ShloMosaic.Lib.Pointwise
public import Idealize.ShloMosaic.Lib.DynamicIndex

@[expose] public section

set_option maxRecDepth 65536

noncomputable section

namespace Cert.Reference8Ideal.Hand

open Idealize.ShloMosaic Idealize.ShloMosaic.TcCoe Idealize.ShloMosaic.StableHlo
open Cert.Reference8Ideal Cert.Reference8Ideal.Gen Cert.Reference8Ideal.Value Cert.Recur Cert.RecurPrompt

/-! ## The values before the loop -/

/-- The rows with three rows of zeros before them. -/
def refExt (a0 : FVec Ideal S8192x10240 .f32) : FVec Ideal S2x4099x2048 .f32 :=
  (concatenate S2x4099x2048 1 [⟨S2x3x2048, (broadcastInDim S2x3x2048 ![] bcast_S_S2x3x2048 (constant S_ .f32 0x00000000#32))⟩, ⟨S2x4096x2048, (shapeCast _ (extractStridedSlice S8192x2048 ![0, 4096] a0 slices_S8192x10240_S8192x2048_0_4096) shapeCasts_S8192x2048_S2x4096x2048)⟩] concatenates_S2x3x2048_S2x4096x2048_S2x4099x2048_d1)

/-- The convolution. -/
def refConv (e : FVec Ideal S2x4099x2048 .f32) (a4 : FVec Ideal S1x4x2048 .f32) (a5 : FVec Ideal S1x2048 .f32) : FVec Ideal S2x4096x2048 .f32 :=
  (addf (broadcastInDim S2x4096x2048 ![0, 1, 2] bcast_S1x1x2048_S2x4096x2048_0_1_2 (broadcastInDim S1x1x2048 ![2] bcast_S2048_S1x1x2048_2 (shapeCast _ a5 shapeCasts_S1x2048_S2048))) (addf (addf (addf (addf (broadcastInDim S2x4096x2048 ![] bcast_S_S2x4096x2048 (constant S_ .f32 0x00000000#32)) (mulf (extractStridedSlice S2x4096x2048 ![0, 0, 0] e slices_S2x4099x2048_S2x4096x2048_0_0_0) (broadcastInDim S2x4096x2048 ![0, 1, 2] bcast_S1x1x2048_S2x4096x2048_0_1_2 (broadcastInDim S1x1x2048 ![2] bcast_S2048_S1x1x2048_2 (shapeCast _ (extractStridedSlice S1x1x2048 ![0, 0, 0] a4 slices_S1x4x2048_S1x1x2048_0_0_0) shapeCasts_S1x1x2048_S2048))))) (mulf (extractStridedSlice S2x4096x2048 ![0, 1, 0] e slices_S2x4099x2048_S2x4096x2048_0_1_0) (broadcastInDim S2x4096x2048 ![0, 1, 2] bcast_S1x1x2048_S2x4096x2048_0_1_2 (broadcastInDim S1x1x2048 ![2] bcast_S2048_S1x1x2048_2 (shapeCast _ (extractStridedSlice S1x1x2048 ![0, 1, 0] a4 slices_S1x4x2048_S1x1x2048_0_1_0) shapeCasts_S1x1x2048_S2048))))) (mulf (extractStridedSlice S2x4096x2048 ![0, 2, 0] e slices_S2x4099x2048_S2x4096x2048_0_2_0) (broadcastInDim S2x4096x2048 ![0, 1, 2] bcast_S1x1x2048_S2x4096x2048_0_1_2 (broadcastInDim S1x1x2048 ![2] bcast_S2048_S1x1x2048_2 (shapeCast _ (extractStridedSlice S1x1x2048 ![0, 2, 0] a4 slices_S1x4x2048_S1x1x2048_0_2_0) shapeCasts_S1x1x2048_S2048))))) (mulf (extractStridedSlice S2x4096x2048 ![0, 3, 0] e slices_S2x4099x2048_S2x4096x2048_0_3_0) (broadcastInDim S2x4096x2048 ![0, 1, 2] bcast_S1x1x2048_S2x4096x2048_0_1_2 (broadcastInDim S1x1x2048 ![2] bcast_S2048_S1x1x2048_2 (shapeCast _ (extractStridedSlice S1x1x2048 ![0, 3, 0] a4 slices_S1x4x2048_S1x1x2048_0_3_0) shapeCasts_S1x1x2048_S2048))))))

/-- A gate's argument. -/
def refGate (x : FVec Ideal S2x4096x2048 .f32) (a6 : FVec Ideal S1x16x128x128 .f32) (a7 : FVec Ideal S1x2048 .f32) : FVec Ideal S2x4096x2048 .f32 :=
  (addf (shapeCast _ (transpose S2x4096x16x128 [2, 3, 0, 1] (Host.dotGeneral dot_S16x128x128_S2x4096x16x128_S16x128x2x4096_1_3_2_01_0_2 none (shapeCast _ a6 shapeCasts_S1x16x128x128_S16x128x128) (shapeCast _ x shapeCasts_S2x4096x2048_S2x4096x16x128)) transposes_S16x128x2x4096_S2x4096x16x128_2_3_0_1) shapeCasts_S2x4096x16x128_S2x4096x2048) (broadcastInDim S2x4096x2048 ![0, 1, 2] bcast_S1x1x2048_S2x4096x2048_0_1_2 (broadcastInDim S1x1x2048 ![2] bcast_S2048_S1x1x2048_2 (shapeCast _ a7 shapeCasts_S1x2048_S2048))))

/-- A gate. -/
def refSig (z : FVec Ideal S2x4096x2048 .f32) : FVec Ideal S2x4096x2048 .f32 :=
  (Host.divf (broadcastInDim S2x4096x2048 ![] bcast_S_S2x4096x2048 (constant S_ .f32 0x3F800000#32)) (addf (broadcastInDim S2x4096x2048 ![] bcast_S_S2x4096x2048 (constant S_ .f32 0x3F800000#32)) (Host.exp (Host.negf z))))

/-- The softplus of the negated parameter. -/
def refSp (a10 : FVec Ideal S1x2048 .f32) : FVec Ideal S2048 .f32 :=
  (select (cmpf .une (subf (Host.negf (shapeCast _ a10 shapeCasts_S1x2048_S2048)) (broadcastInDim S2048 ![] bcast_S_S2048 (constant S_ .f32 0x00000000#32))) (subf (Host.negf (shapeCast _ a10 shapeCasts_S1x2048_S2048)) (broadcastInDim S2048 ![] bcast_S_S2048 (constant S_ .f32 0x00000000#32)))) (addf (Host.negf (shapeCast _ a10 shapeCasts_S1x2048_S2048)) (broadcastInDim S2048 ![] bcast_S_S2048 (constant S_ .f32 0x00000000#32))) (addf (maximumf (Host.negf (shapeCast _ a10 shapeCasts_S1x2048_S2048)) (broadcastInDim S2048 ![] bcast_S_S2048 (constant S_ .f32 0x00000000#32))) (Host.log1p (Host.exp (Host.negf (Host.absf (subf (Host.negf (shapeCast _ a10 shapeCasts_S1x2048_S2048)) (broadcastInDim S2048 ![] bcast_S_S2048 (constant S_ .f32 0x00000000#32)))))))))

/-- The decay's logarithm. -/
def refLog (r : FVec Ideal S2x4096x2048 .f32) (s : FVec Ideal S2048 .f32) : FVec Ideal S2x4096x2048 .f32 :=
  (mulf (mulf (broadcastInDim S2x4096x2048 ![] bcast_S_S2x4096x2048 (constant S_ .f32 0xC1000000#32)) r) (broadcastInDim S2x4096x2048 ![0, 1, 2] bcast_S1x1x2048_S2x4096x2048_0_1_2 (broadcastInDim S1x1x2048 ![2] bcast_S2048_S1x1x2048_2 s)))

/-- The decays, time first. -/
def refA (l : FVec Ideal S2x4096x2048 .f32) : FVec Ideal S4096x2x2048 .f32 :=
  (transpose S4096x2x2048 [1, 0, 2] (Host.exp l) transposes_S2x4096x2048_S4096x2x2048_1_0_2)

/-- The recurrence's inputs, time first. -/
def refB (l i x : FVec Ideal S2x4096x2048 .f32) : FVec Ideal S4096x2x2048 .f32 :=
  (transpose S4096x2x2048 [1, 0, 2] (mulf (Host.sqrt (Host.negf (Host.expm1 (mulf (broadcastInDim S2x4096x2048 ![] bcast_S_S2x4096x2048 (constant S_ .f32 0x40000000#32)) l)))) (mulf i x)) transposes_S2x4096x2048_S4096x2x2048_1_0_2)

/-- The decays and -/
def valA (a0 : FVec Ideal S8192x10240 .f32) (a4 : FVec Ideal S1x4x2048 .f32) (a5 : FVec Ideal S1x2048 .f32) (a6 : FVec Ideal S1x16x128x128 .f32) (a7 : FVec Ideal S1x2048 .f32) (a8 : FVec Ideal S1x16x128x128 .f32) (a9 a10 : FVec Ideal S1x2048 .f32) : FVec Ideal S4096x2x2048 .f32 :=
  refA (refLog (refSig (refGate (refConv (refExt a0) a4 a5) a6 a7)) (refSp a10))

/-- the inputs of the arguments. -/
def valB (a0 : FVec Ideal S8192x10240 .f32) (a4 : FVec Ideal S1x4x2048 .f32) (a5 : FVec Ideal S1x2048 .f32) (a6 : FVec Ideal S1x16x128x128 .f32) (a7 : FVec Ideal S1x2048 .f32) (a8 : FVec Ideal S1x16x128x128 .f32) (a9 a10 : FVec Ideal S1x2048 .f32) : FVec Ideal S4096x2x2048 .f32 :=
  refB (refLog (refSig (refGate (refConv (refExt a0) a4 a5) a6 a7)) (refSp a10)) (refSig (refGate (refConv (refExt a0) a4 a5) a8 a9)) (refConv (refExt a0) a4 a5)

variable (m : (ℓ : Loc nD τ sig) → Buf (Elt Ideal) ℓ)

set_option maxHeartbeats 4000000 in
theorem entry_a (c : Dev nD) : entryContents preI m c (Proc.devRef .tc main_v86_0) = valA (m ((c.tc : Thread nD τ).loc main_arg0)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  simp only [preI, entryContents, afterL_cons, afterL_nil, hostOps0, hostOps0_1, hostOps0_2]
  unfold valA refA refLog refSig refGate refSp refConv refExt
  after_results_entrywise []

set_option maxHeartbeats 4000000 in
theorem entry_b (c : Dev nD) : entryContents preI m c (Proc.devRef .tc main_v86_1) = valB (m ((c.tc : Thread nD τ).loc main_arg0)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  simp only [preI, entryContents, afterL_cons, afterL_nil, hostOps0, hostOps0_1, hostOps0_2]
  unfold valB refB refLog refSig refGate refSp refConv refExt
  after_results_entrywise []

set_option maxHeartbeats 4000000 in
theorem entry_h (c : Dev nD) : entryContents preI m c (Proc.devRef .tc main_v86_3) = (broadcastInDim S2x2048 ![] bcast_S_S2x2048 (constant (F := Ideal) S_ .f32 0#32) : FVec Ideal S2x2048 .f32) := by
  simp only [preI, entryContents, afterL_cons, afterL_nil, hostOps0, hostOps0_1, hostOps0_2]
  after_results_entrywise []

/-! ## The values before the loop at an index -/

theorem refExt_apply (a0 : FVec Ideal S8192x10240 .f32) (b : Fin 2) (s : Fin 4099) (j : Fin 2048) :
    refExt a0 (ix3 b s j) = if h : s.val < 3 then 0
      else a0 (ix2 ⟨b.val * 4096 + (s.val - 3), by omega⟩ ⟨4096 + j.val, by omega⟩) := by
  pointwise [refExt]

theorem refConv_apply (e : FVec Ideal S2x4099x2048 .f32) (a3 : FVec Ideal S1x4x2048 .f32) (a4 : FVec Ideal S1x2048 .f32) (b : Fin 2) (s : Fin 4096) (j : Fin 2048) :
    refConv e a3 a4 (ix3 b s j) = a4 (ix2 0 j) + (e (ix3 b ⟨s.val, by omega⟩ j) * a3 (ix3 0 0 j) + e (ix3 b ⟨1 + s.val, by omega⟩ j) * a3 (ix3 0 1 j)
      + e (ix3 b ⟨2 + s.val, by omega⟩ j) * a3 (ix3 0 2 j) + e (ix3 b ⟨3 + s.val, by omega⟩ j) * a3 (ix3 0 3 j)) := by
  pointwise [refConv]

theorem refGate_apply (x : FVec Ideal S2x4096x2048 .f32) (a5 : FVec Ideal S1x16x128x128 .f32) (a6 : FVec Ideal S1x2048 .f32) (b : Fin 2) (s : Fin 4096) (j : Fin 2048) :
    refGate x a5 a6 (ix3 b s j) = ∑ k : Fin 128, a5 (ix4 0 ⟨j.val / 128, by omega⟩ k ⟨j.val % 128, by omega⟩) * x (ix3 b s ⟨j.val / 128 * 128 + k.val, by omega⟩)
      + a6 (ix2 0 j) := by
  pointwise [refGate]

theorem refSig_apply (z : FVec Ideal S2x4096x2048 .f32) (b : Fin 2) (s : Fin 4096) (j : Fin 2048) :
    refSig z (ix3 b s j) = Ideal.logistic (z (ix3 b s j)) := by
  unfold Ideal.logistic
  pointwise [refSig]

theorem refSp_apply (x : FVec Ideal S1x2048 .f32) (j : Fin 2048) : refSp x (ix1 j) = sp (-x (ix2 0 j)) := by
  have h : refSp x (ix1 j) = if -x (ix2 0 j) ≠ -x (ix2 0 j) then -x (ix2 0 j)
      else max (-x (ix2 0 j)) 0 + Ideal.log1p (Ideal.exp (-FloatOps.absf (F := Ideal) (-x (ix2 0 j)))) := by
    pointwise [refSp]
  rw [h, if_neg (fun hn => hn rfl)]
  rfl

theorem refLog_apply (r : FVec Ideal S2x4096x2048 .f32) (s : FVec Ideal S2048 .f32) (b : Fin 2) (t : Fin 4096) (j : Fin 2048) :
    refLog r s (ix3 b t j) = ((-8 : ℝ) : EReal) * r (ix3 b t j) * s (ix1 j) := by
  rw [← neg8_eq]
  pointwise [refLog]

theorem refA_apply (l : FVec Ideal S2x4096x2048 .f32) (b : Fin 2) (t : Fin 4096) (j : Fin 2048) :
    refA l (ix3 t b j) = Ideal.exp (l (ix3 b t j)) := by
  pointwise [refA]

theorem refB_apply (l i x : FVec Ideal S2x4096x2048 .f32) (b : Fin 2) (t : Fin 4096) (j : Fin 2048) :
    refB l i x (ix3 t b j) = Ideal.sqrt (-(Ideal.expm1 (((2 : ℝ) : EReal) * l (ix3 b t j)))) * (i (ix3 b t j) * x (ix3 b t j)) := by
  rw [← two_eq]
  unfold Ideal.expm1
  pointwise [refB]

/-- The arguments of a device. -/
def args (m : (ℓ : Loc nD τ sig) → Buf (Elt Ideal) ℓ) (c : Dev nD) : Args where
  z := m ((c.tc : Thread nD τ).loc main_arg0)
  hp := m ((c.tc : Thread nD τ).loc main_arg1)
  hs := m ((c.tc : Thread nD τ).loc main_arg2)
  w := m ((c.tc : Thread nD τ).loc main_arg3)
  cw := m ((c.tc : Thread nD τ).loc main_arg4)
  cb := m ((c.tc : Thread nD τ).loc main_arg5)
  wa := m ((c.tc : Thread nD τ).loc main_arg6)
  ba := m ((c.tc : Thread nD τ).loc main_arg7)
  wx := m ((c.tc : Thread nD τ).loc main_arg8)
  bx := m ((c.tc : Thread nD τ).loc main_arg9)
  lam := m ((c.tc : Thread nD τ).loc main_arg10)

/-- A row of the convolution's input. -/
theorem ext_row (p : Args) (b : Fin 2) (s : Fin 4099) (n : Fin 16) (l : Fin 128) :
    refExt p.z (ix3 b s (chJ n l)) = (p.par b n).x s.val l := by
  rw [refExt_apply]
  show _ = if s.val < 3 then (0 : EReal) else if h : s.val - 3 < 4096 then _ else _
  by_cases h : s.val < 3
  · rw [dif_pos h, if_pos h]
  · rw [dif_neg h, if_neg h, dif_pos (show s.val - 3 < 4096 by omega)]
    exact congrArg p.z (Shape.idx_ext₂ (by show b.val * 4096 + (s.val - 3) = 4096 * b.val + (s.val - 3); omega) rfl)

theorem conv_row (p : Args) (b : Fin 2) (t : Fin 4096) (n : Fin 16) (l : Fin 128) :
    refConv (refExt p.z) p.cw p.cb (ix3 b t (chJ n l)) = (p.par b n).xc t.val l := by
  rw [refConv_apply, ext_row, ext_row, ext_row, ext_row]
  show _ + ((p.par b n).x t.val l * _ + (p.par b n).x (1 + t.val) l * _ + (p.par b n).x (2 + t.val) l * _ + (p.par b n).x (3 + t.val) l * _) = _
  rw [Nat.add_comm 1, Nat.add_comm 2, Nat.add_comm 3]
  rfl

theorem gate_row (p : Args) (w : (⟨4, ![1, 16, 128, 128]⟩ : Shape).Idx → EReal) (d : (⟨2, ![1, 2048]⟩ : Shape).Idx → EReal)
    (b : Fin 2) (t : Fin 4096) (j : Fin 2048) :
    refGate (refConv (refExt p.z) p.cw p.cb) w d (ix3 b t j)
      = ∑ k : Fin 128, w (ix4 0 (chN j) k (chL j)) * (p.par b (chN j)).xc t.val k + d (ix2 0 j) := by
  rw [refGate_apply]
  refine congrArg (· + _) (Finset.sum_congr rfl fun k _ => ?_)
  have e : (⟨j.val / 128 * 128 + k.val, by omega⟩ : Fin 2048) = chJ (chN j) k := Fin.ext (by show j.val / 128 * 128 + k.val = 128 * (j.val / 128) + k.val; omega)
  rw [e, conv_row]
  rfl

theorem log_row (p : Args) (b : Fin 2) (t : Fin 4096) (j : Fin 2048) :
    refLog (refSig (refGate (refConv (refExt p.z) p.cw p.cb) p.wa p.ba)) (refSp p.lam) (ix3 b t j)
      = gLog ((p.par b (chN j)).za t.val (chL j)) ((p.par b (chN j)).lam (chL j)) := by
  rw [refLog_apply, refSig_apply, refSp_apply, gate_row]
  unfold gLog Par.za
  show _ = _ * Ideal.logistic (_ + p.ba (ix2 0 (chJ (chN j) (chL j)))) * sp (-p.lam (ix2 0 (chJ (chN j) (chL j))))
  rw [chJ_eq]
  rfl

theorem valA_apply (p : Args) (b : Fin 2) (t : Fin 4096) (j : Fin 2048) :
    valA p.z p.cw p.cb p.wa p.ba p.wx p.bx p.lam (ix3 t b j) = (p.par b (chN j)).a (chL j) t.val := by
  unfold valA
  rw [refA_apply, log_row]
  rfl

theorem valB_apply (p : Args) (b : Fin 2) (t : Fin 4096) (j : Fin 2048) :
    valB p.z p.cw p.cb p.wa p.ba p.wx p.bx p.lam (ix3 t b j) = (p.par b (chN j)).b (chL j) t.val := by
  have hc := conv_row p b t (chN j) (chL j)
  rw [chJ_eq] at hc
  unfold valB
  rw [refB_apply, log_row, refSig_apply, gate_row, hc]
  unfold Par.b gB Par.zx
  show _ = _ * (Ideal.logistic (_ + p.bx (ix2 0 (chJ (chN j) (chL j)))) * _)
  rw [chJ_eq]
  rfl

/-! ## One step of the loop -/

theorem start_val (w : (⟨S_, .i32⟩ : BufTy).Contents (Elt Ideal)) (k : ℕ) (hk : k < 4096) (hw : w = fun _ => BitVec.ofNat 32 k) (a : Fin 3) :
    (((![w, constantI S_ 32 0#32, constantI S_ 32 0#32] : Fin 3 → (⟨S_, .i32⟩ : BufTy).Contents (Elt Ideal))) a (Shape.Idx.first h_S_)).toInt
      = ((![k, 0, 0] : Fin 3 → ℕ) a : Int) := by
  subst hw
  fin_cases a
  · exact toInt_ofNat_of_lt (by omega)
  · rfl
  · rfl

theorem fits (k : ℕ) (hk : k < 4096) : S4096x2x2048.Slices (![k, 0, 0] : Fin 3 → ℕ) S1x2x2048 :=
  ⟨rfl, fun a => by fin_cases a <;> [(show k + 1 ≤ 4096; omega); exact Nat.le_refl _; exact Nat.le_refl _]⟩

theorem slice_at (x : FVec Ideal S4096x2x2048 .f32) (w : (⟨S_, .i32⟩ : BufTy).Contents (Elt Ideal)) (k : ℕ) (hk : k < 4096) (hw : w = fun _ => BitVec.ofNat 32 k)
    (b : Fin 2) (j : Fin 2048) :
    (shapeCast S2x2048 (Host.dynamicSlice S1x2x2048 x (fun a => (((![w, constantI S_ 32 0#32, constantI S_ 32 0#32] : Fin 3 → (⟨S_, .i32⟩ : BufTy).Contents (Elt Ideal))) a (Shape.Idx.first h_S_)).toInt) sliceFits_S4096x2x2048_S1x2x2048) shapeCasts_S1x2x2048_S2x2048 : FVec Ideal S2x2048 .f32) (ix2 b j)
      = x (ix3 ⟨k, hk⟩ b j) := by
  rw [Host.dynamicSlice_eq_extractStridedSlice S1x2x2048 x _ ![k, 0, 0] _ (fits k hk) (start_val w k hk hw)]
  pointwise []

theorem update_at (x : FVec Ideal S4096x2x2048 .f32) (u : FVec Ideal S2x2048 .f32) (w : (⟨S_, .i32⟩ : BufTy).Contents (Elt Ideal)) (k : ℕ) (hk : k < 4096)
    (hw : w = fun _ => BitVec.ofNat 32 k) (t : Fin 4096) (b : Fin 2) (j : Fin 2048) :
    (Host.dynamicUpdateSlice x (broadcastInDim S1x2x2048 ![1, 2] bcast_S2x2048_S1x2x2048_1_2 u) (fun a => (((![w, constantI S_ 32 0#32, constantI S_ 32 0#32] : Fin 3 → (⟨S_, .i32⟩ : BufTy).Contents (Elt Ideal))) a (Shape.Idx.first h_S_)).toInt) updateFits_S4096x2x2048_S1x2x2048 : FVec Ideal S4096x2x2048 .f32) (ix3 t b j)
      = if t.val = k then u (ix2 b j) else x (ix3 t b j) := by
  rw [Host.dynamicUpdateSlice_eq_updateSlice x _ _ _ ![k, 0, 0] (fun a => by
    have h := start_val w k hk hw a
    have hb := (fits k hk).2 a
    rw [h]
    omega) (fits k hk)]
  by_cases he : t.val = k
  · rw [if_pos he]
    pointwise []
    rw [dif_pos ⟨by omega, by omega⟩]
  · rw [if_neg he]
    pointwise []
    rw [dif_neg (by omega)]

/-! ## The loop -/

theorem count (c : Dev nD) : ∀ k, (STEP^[k] (entryContents preI m c)) (Proc.devRef .tc main_v86_2) = fun _ => BitVec.ofNat 32 k
  | 0 => ctr_entry m c
  | k + 1 => by
    rw [Function.iterate_succ_apply', STEP_main_v86_2]
    unfold step_main_v86_2
    rw [count c k, BitVec.ofNat_add]
    rfl

theorem keep_a (c : Dev nD) : ∀ k, (STEP^[k] (entryContents preI m c)) (Proc.devRef .tc main_v86_0)
    = valA (args m c).z (args m c).cw (args m c).cb (args m c).wa (args m c).ba (args m c).wx (args m c).bx (args m c).lam
  | 0 => entry_a m c
  | k + 1 => by rw [Function.iterate_succ_apply', STEP_main_v86_0, keep_a c k]

theorem keep_b (c : Dev nD) : ∀ k, (STEP^[k] (entryContents preI m c)) (Proc.devRef .tc main_v86_1)
    = valB (args m c).z (args m c).cw (args m c).cb (args m c).wa (args m c).ba (args m c).wx (args m c).bx (args m c).lam
  | 0 => entry_b m c
  | k + 1 => by rw [Function.iterate_succ_apply', STEP_main_v86_1, keep_b c k]

/-- The state a step computes. -/
theorem step_value (c : Dev nD) (k : ℕ) (hk : k < 4096) (b : Fin 2) (j : Fin 2048)
    (h : (STEP^[k] (entryContents preI m c)) (Proc.devRef .tc main_v86_3) (ix2 b j) = (args m c).state b j k) :
    res_main_while0b_v127 (STEP^[k] (entryContents preI m c)) (ix2 b j) = (args m c).state b j (k + 1) := by
  unfold res_main_while0b_v127
  unfold Args.state R
  rw [Nat.zero_add, ← valA_apply (args m c) b ⟨k, hk⟩, ← valB_apply (args m c) b ⟨k, hk⟩, ← keep_a m c k, ← keep_b m c k]
  exact congrArg₂ (fun u v : EReal => u + v) (congrArg₂ (fun u v : EReal => u * v) (slice_at _ _ k hk (count m c k) b j) h)
    (slice_at _ _ k hk (count m c k) b j)

/-- The state after `k` steps. -/
theorem state_at (c : Dev nD) (b : Fin 2) (j : Fin 2048) : ∀ k, k ≤ 4096 →
    (STEP^[k] (entryContents preI m c)) (Proc.devRef .tc main_v86_3) (ix2 b j) = (args m c).state b j k
  | 0, _ => by
    rw [Function.iterate_zero, id_eq, entry_h]
    show (broadcastInDim S2x2048 ![] bcast_S_S2x2048 (constant (F := Ideal) S_ .f32 0#32) : FVec Ideal S2x2048 .f32) (ix2 b j) = 0
    pointwise []
  | k + 1, hk => by
    rw [Function.iterate_succ_apply', STEP_main_v86_3]
    exact step_value m c k (by omega) b j (state_at c b j k (by omega))

/-- The rows written after `k` steps. -/
theorem rows_at (c : Dev nD) (t : Fin 4096) (b : Fin 2) (j : Fin 2048) : ∀ k, k ≤ 4096 → t.val < k →
    (STEP^[k] (entryContents preI m c)) (Proc.devRef .tc main_v86_4) (ix3 t b j) = (args m c).state b j (t.val + 1)
  | 0, _, h => absurd h (Nat.not_lt_zero _)
  | k + 1, hk, ht => by
    rw [Function.iterate_succ_apply', STEP_main_v86_4]
    refine (update_at _ _ _ k (by omega) (count m c k) t b j).trans ?_
    split
    · next he => rw [he]; exact step_value m c k (by omega) b j (state_at m c b j k (by omega))
    · next he => exact rows_at c t b j k (by omega) (by omega)

/-! ## The results -/

theorem out_last (c : Dev nD) : out_main_v121 (STEP^[4096] (entryContents preI m c)) = (args m c).last := by
  funext i
  obtain ⟨b, s, j, rfl⟩ : ∃ (b : Fin 2) (s : Fin 1) (j : Fin 2048), i = ix3 b s j := ⟨i 0, i 1, i 2, idx_ext3 rfl rfl rfl⟩
  have h : ∀ V0 : Valuation τ sig (Elt Ideal), out_main_v121 V0 (ix3 b s j) = V0 (Proc.devRef .tc main_v86_3) (ix2 b j) := fun V0 => by
    pointwise [out_main_v121]
  rw [h, state_at m c b j 4096 (Nat.le_refl _)]
  rfl

theorem out_conv (c : Dev nD) : out_main_v106 (STEP^[4096] (entryContents preI m c)) = (args m c).conv := by
  funext i
  obtain ⟨b, s, j, rfl⟩ : ∃ (b : Fin 2) (s : Fin 8) (j : Fin 2048), i = ix3 b s j := ⟨i 0, i 1, i 2, idx_ext3 rfl rfl rfl⟩
  have h : ∀ V0 : Valuation τ sig (Elt Ideal), out_main_v106 V0 (ix3 b s j)
      = V0 (Proc.devRef .tc main_arg0) (ix2 ⟨b.val * 4096 + (4088 + s.val), by omega⟩ ⟨4096 + j.val, by omega⟩) := fun V0 => by
    pointwise [out_main_v106]
  rw [h, iter_main_arg0]
  exact congrArg (args m c).z (Shape.idx_ext₂ (by show b.val * 4096 + (4088 + s.val) = 4096 * b.val + 4088 + s.val; omega) rfl)

theorem out_rows_apply (V0 : Valuation τ sig (Elt Ideal)) (r : Fin 8192) (j : Fin 2048) : out_main_v120 V0 (ix2 r j)
    = @HMul.hMul EReal EReal EReal _ (V0 (Proc.devRef .tc main_v86_4) (ix3 ⟨r.val % 4096, by omega⟩ ⟨r.val / 4096, by omega⟩ j))
        (refGel (V0 (Proc.devRef .tc main_arg0) (ix2 r ⟨6144 + j.val, by omega⟩))) := by
  unfold refGel
  pointwise [out_main_v120]

theorem out_rows (c : Dev nD) : out_main_v120 (STEP^[4096] (entryContents preI m c)) = (args m c).y := by
  funext i
  obtain ⟨r, j, rfl⟩ : ∃ (r : Fin 8192) (j : Fin 2048), i = ix2 r j := ⟨i 0, i 1, Shape.idx_ext₂ rfl rfl⟩
  rw [out_rows_apply, iter_main_arg0, rows_at m c _ _ j 4096 (Nat.le_refl _) (Nat.mod_lt _ (by decide)), refGel_eq]
  rfl

theorem out_qp (c : Dev nD) : out_main_v122 (STEP^[4096] (entryContents preI m c)) = side (args m c).hp (args m c).w 0 (by decide) := by
  funext i
  obtain ⟨r, j, rfl⟩ : ∃ (r : Fin 8192) (j : Fin 2048), i = ix2 r j := ⟨i 0, i 1, Shape.idx_ext₂ rfl rfl⟩
  have h : ∀ V0 : Valuation τ sig (Elt Ideal), out_main_v122 V0 (ix2 r j) = (∑ k : Fin 2048,
      @HMul.hMul EReal EReal EReal _ (V0 (Proc.devRef .tc main_arg1) (ix2 r k)) (V0 (Proc.devRef .tc main_arg3) (ix3 0 k ⟨j.val, by omega⟩)) : EReal) := fun V0 => by
    pointwise [out_main_v122]
  rw [h, iter_main_arg1, iter_main_arg3]
  exact (side_zero _ _ _ r j).symm

theorem out_qs (c : Dev nD) : out_main_v123 (STEP^[4096] (entryContents preI m c)) = side (args m c).hs (args m c).w 0 (by decide) := by
  funext i
  obtain ⟨r, j, rfl⟩ : ∃ (r : Fin 128) (j : Fin 2048), i = ix2 r j := ⟨i 0, i 1, Shape.idx_ext₂ rfl rfl⟩
  have h : ∀ V0 : Valuation τ sig (Elt Ideal), out_main_v123 V0 (ix2 r j) = (∑ k : Fin 2048,
      @HMul.hMul EReal EReal EReal _ (V0 (Proc.devRef .tc main_arg2) (ix2 r k)) (V0 (Proc.devRef .tc main_arg3) (ix3 0 k ⟨j.val, by omega⟩)) : EReal) := fun V0 => by
    pointwise [out_main_v123]
  rw [h, iter_main_arg2, iter_main_arg3]
  exact (side_zero _ _ _ r j).symm

theorem out_gp (c : Dev nD) : out_main_v116 (STEP^[4096] (entryContents preI m c)) = side (args m c).hp (args m c).w 12288 (by decide) := by
  funext i
  obtain ⟨r, j, rfl⟩ : ∃ (r : Fin 8192) (j : Fin 2048), i = ix2 r j := ⟨i 0, i 1, Shape.idx_ext₂ rfl rfl⟩
  have h : ∀ V0 : Valuation τ sig (Elt Ideal), out_main_v116 V0 (ix2 r j) = (∑ k : Fin 2048,
      @HMul.hMul EReal EReal EReal _ (V0 (Proc.devRef .tc main_arg1) (ix2 r k)) (V0 (Proc.devRef .tc main_arg3) (ix3 0 k ⟨12288 + j.val, by omega⟩)) : EReal) := fun V0 => by
    pointwise [out_main_v116]
  rw [h, iter_main_arg1, iter_main_arg3]
  rfl

theorem out_gs (c : Dev nD) : out_main_v118 (STEP^[4096] (entryContents preI m c)) = side (args m c).hs (args m c).w 12288 (by decide) := by
  funext i
  obtain ⟨r, j, rfl⟩ : ∃ (r : Fin 128) (j : Fin 2048), i = ix2 r j := ⟨i 0, i 1, Shape.idx_ext₂ rfl rfl⟩
  have h : ∀ V0 : Valuation τ sig (Elt Ideal), out_main_v118 V0 (ix2 r j) = (∑ k : Fin 2048,
      @HMul.hMul EReal EReal EReal _ (V0 (Proc.devRef .tc main_arg2) (ix2 r k)) (V0 (Proc.devRef .tc main_arg3) (ix3 0 k ⟨12288 + j.val, by omega⟩)) : EReal) := fun V0 => by
    pointwise [out_main_v118]
  rw [h, iter_main_arg2, iter_main_arg3]
  rfl

end Cert.Reference8Ideal.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.InProj.Value
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Reference7Ideal
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Reference8Ideal
public import proofs.«01_k».proof.Proof.Gen.Reference8Ideal.Run
public import proofs.«01_k».proof.Proof.Gen.Pre_finite_gate_input
public import proofs.«01_k».proof.Proof.FfnUp.Value
public import proofs.«01_k».proof.Proof.FfnDown.Value
public import proofs.«01_k».proof.Proof.Merge.Value
public import proofs.«01_k».proof.Proof.Norm.Value
public import proofs.«01_k».proof.Proof.NormSample.Value
public import proofs.«01_k».proof.Proof.RglruSample.Value
public import proofs.«01_k».proof.Proof.RglruSample.Ref
public import proofs.«01_k».proof.Proof.RglruPrompt.Value
public import proofs.«01_k».proof.Proof.RglruPrompt.Ref
public import Idealize.ShloMosaic.Adequacy
public import Idealize.ShloMosaic.Init

@[expose] public section

noncomputable section

namespace Cert.Proof

open Idealize.ShloMosaic Idealize.SL.Sem

/-! ## The projection -/

/-- The two programs have one text: their body tables are equal. -/
theorem table_eq : Cert.Kernel.defs (F := Bits) = Cert.KernelIdeal.defs (F := Bits) := by
  refine congrArg (Pipeline.defs Cert.Kernel.pcfgs) ?_
  unfold Cert.Kernel.defs₀ Cert.KernelIdeal.defs₀
  refine congrArg Defs.onTc ?_
  funext l a
  match l, a with
  | 0, (t, s) => rfl
  | ⟨_ + 1, h⟩, _ => exact absurd h (Nat.not_lt.2 (Nat.le_add_left _ _))

/-- The kernel's run, which is the idealized program's at any number system, read at the machine's own numbers. -/
theorem frame_kernel : Cert.quiescent_Kernel := fun m ρ _ => by
  rw [table_eq]
  exact Cert.KernelIdeal.Hand.frame (F := Bits) m ρ

/-- The reference is host operations alone and has no semaphore. -/
theorem frame_reference : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run m ρ)

/-- The kernel's two results are the reference's. -/
theorem algebraic : Cert.algebraic_KernelIdeal_ReferenceIdeal := by
  intro m g m' g' _ hargs
  refine ⟨_, _, Cert.KernelIdeal.Hand.run_values m g, ?_⟩
  refine (θ_run Cert.ReferenceIdeal.defs _ _).mono (fun r h c => ?_) (Cert.ReferenceIdeal.Value.run m' g')
  obtain ⟨e0, e1, e2⟩ := hargs c
  obtain ⟨hp, hs, h⟩ := h c
  refine ⟨hp.trans ?_, hs.trans ?_, h⟩
  · rw [e0, e2]; rfl
  · rw [e1, e2]; rfl

/-! ## The two feed-forward products -/

/-- The two programs have one text: their body tables are equal. -/
theorem table_eq2 : Cert.Kernel2.defs (F := Bits) = Cert.Kernel2Ideal.defs (F := Bits) := by
  refine congrArg (Pipeline.defs Cert.Kernel2.pcfgs) ?_
  unfold Cert.Kernel2.defs₀ Cert.Kernel2Ideal.defs₀
  refine congrArg Defs.onTc ?_
  funext l a
  match l, a with
  | 0, (t, s) => rfl
  | ⟨_ + 1, h⟩, _ => exact absurd h (Nat.not_lt.2 (Nat.le_add_left _ _))

/-- The kernel's run, which is the idealized program's at any number system, read at the machine's own numbers. -/
theorem frame_kernel2 : Cert.quiescent_Kernel2 := fun m ρ _ => by
  rw [table_eq2]
  exact Cert.Kernel2Ideal.Hand.frame (F := Bits) m ρ

/-- The reference is host operations alone and has no semaphore. -/
theorem frame_reference2 : Cert.quiescent_Reference2Ideal := fun m ρ _ =>
  (θ_run Cert.Reference2Ideal.defs _ _).mono (fun r h => ⟨fun c => (h c).2.2, sem_eq_zero_of_no_sems (by decide) r.2⟩)
    (Cert.Reference2Ideal.Value.run m ρ)

/-- The kernel's two results are the reference's. -/
theorem algebraic2 : Cert.algebraic_Kernel2Ideal_Reference2Ideal_pre_finite_gate_input := by
  intro m g m' g' hpre hargs
  refine ⟨_, _, Cert.Kernel2Ideal.Hand.run_values m g fun c => Cert.Kernel2Ideal.Hand.finite_of_pre _ _ _ _ (hpre c), ?_⟩
  refine (θ_run Cert.Reference2Ideal.defs _ _).mono (fun r h c => ?_) (Cert.Reference2Ideal.Value.run m' g')
  obtain ⟨e0, e1, e2, e3⟩ := hargs c
  obtain ⟨hp, hs, h⟩ := h c
  refine ⟨hp.trans ?_, hs.trans ?_, h⟩
  · rw [e0, e2, e3]; rfl
  · rw [e1, e2, e3]; rfl

/-! ## The closing feed-forward product -/

/-- The two programs have one text: their body tables are equal. -/
theorem table_eq3 : Cert.Kernel3.defs (F := Bits) = Cert.Kernel3Ideal.defs (F := Bits) := by
  refine congrArg (Pipeline.defs Cert.Kernel3.pcfgs) ?_
  unfold Cert.Kernel3.defs₀ Cert.Kernel3Ideal.defs₀
  refine congrArg Defs.onTc ?_
  funext l a
  match l, a with
  | 0, (t, s) => rfl
  | ⟨_ + 1, h⟩, _ => exact absurd h (Nat.not_lt.2 (Nat.le_add_left _ _))

/-- The kernel's run, which is the idealized program's at any number system, read at the machine's own numbers. -/
theorem frame_kernel3 : Cert.quiescent_Kernel3 := fun m ρ _ => by
  rw [table_eq3]
  exact Cert.Kernel3Ideal.Hand.frame (F := Bits) m ρ

/-- The reference is host operations alone and has no semaphore. -/
theorem frame_reference3 : Cert.quiescent_Reference3Ideal := fun m ρ _ =>
  (θ_run Cert.Reference3Ideal.defs _ _).mono (fun r h => ⟨fun c => (h c).2.2, sem_eq_zero_of_no_sems (by decide) r.2⟩)
    (Cert.Reference3Ideal.Value.run m ρ)

/-- The kernel's two results are the reference's. -/
theorem algebraic3 : Cert.algebraic_Kernel3Ideal_Reference3Ideal := by
  intro m g m' g' _ hargs
  refine ⟨_, _, Cert.Kernel3Ideal.Hand.run_values m g, ?_⟩
  refine (θ_run Cert.Reference3Ideal.defs _ _).mono (fun r h c => ?_) (Cert.Reference3Ideal.Value.run m' g')
  obtain ⟨e0, e1, e2, e3, e4, e5⟩ := hargs c
  obtain ⟨hp, hs, h⟩ := h c
  refine ⟨hp.trans ?_, hs.trans ?_, h⟩
  · rw [e0, e2, e4, e5]; rfl
  · rw [e1, e3, e4, e5]; rfl

/-! ## The two branch products -/

/-- The two programs have one text: their body tables are equal. -/
theorem table_eq4 : Cert.Kernel4.defs (F := Bits) = Cert.Kernel4Ideal.defs (F := Bits) := by
  refine congrArg (Pipeline.defs Cert.Kernel4.pcfgs) ?_
  unfold Cert.Kernel4.defs₀ Cert.Kernel4Ideal.defs₀
  refine congrArg Defs.onTc ?_
  funext l a
  match l, a with
  | 0, (t, s) => rfl
  | ⟨_ + 1, h⟩, _ => exact absurd h (Nat.not_lt.2 (Nat.le_add_left _ _))

/-- The kernel's run, which is the idealized program's at any number system, read at the machine's own numbers. -/
theorem frame_kernel4 : Cert.quiescent_Kernel4 := fun m ρ _ => by
  rw [table_eq4]
  exact Cert.Kernel4Ideal.Hand.frame (F := Bits) m ρ

/-- The reference is host operations alone and has no semaphore. -/
theorem frame_reference4 : Cert.quiescent_Reference4Ideal := fun m ρ _ =>
  (θ_run Cert.Reference4Ideal.defs _ _).mono (fun r h => ⟨fun c => (h c).2.2, sem_eq_zero_of_no_sems (by decide) r.2⟩)
    (Cert.Reference4Ideal.Value.run m ρ)

/-- The kernel's two results are the reference's. -/
theorem algebraic4 : Cert.algebraic_Kernel4Ideal_Reference4Ideal := by
  intro m g m' g' _ hargs
  refine ⟨_, _, Cert.Kernel4Ideal.Hand.run_values m g, ?_⟩
  refine (θ_run Cert.Reference4Ideal.defs _ _).mono (fun r h c => ?_) (Cert.Reference4Ideal.Value.run m' g')
  obtain ⟨e0, e1, e2, e3, e4, e5, e6, e7, e8, e9⟩ := hargs c
  obtain ⟨hp, hs, h⟩ := h c
  refine ⟨hp.trans ?_, hs.trans ?_, h⟩
  · rw [e0, e2, e4, e6, e8, e9]; rfl
  · rw [e1, e3, e5, e7, e8, e9]; rfl

/-! ## The last normalization of the prompt rows -/

/-- The two programs have one text: their body tables are equal. -/
theorem table_eq5 : Cert.Kernel5.defs (F := Bits) = Cert.Kernel5Ideal.defs (F := Bits) := by
  refine congrArg (Pipeline.defs Cert.Kernel5.pcfgs) ?_
  unfold Cert.Kernel5.defs₀ Cert.Kernel5Ideal.defs₀
  refine congrArg Defs.onTc ?_
  funext l a
  match l, a with
  | 0, (t, s) => rfl
  | ⟨_ + 1, h⟩, _ => exact absurd h (Nat.not_lt.2 (Nat.le_add_left _ _))

/-- The kernel's run, which is the idealized program's at any number system, read at the machine's own numbers. -/
theorem frame_kernel5 : Cert.quiescent_Kernel5 := fun m ρ _ => by
  rw [table_eq5]
  exact Cert.Kernel5Ideal.Gen.frame (F := Bits) m ρ

/-- The reference is host operations alone and has no semaphore. -/
theorem frame_reference5 : Cert.quiescent_Reference5Ideal := fun m ρ _ =>
  (θ_run Cert.Reference5Ideal.defs _ _).mono (fun r h => ⟨fun c => (h c).2, sem_eq_zero_of_no_sems (by decide) r.2⟩)
    (Cert.Reference5Ideal.Value.run m ρ)

/-- The kernel's result is the reference's. -/
theorem algebraic5 : Cert.algebraic_Kernel5Ideal_Reference5Ideal := by
  intro m g m' g' _ hargs
  refine ⟨_, Cert.Kernel5Ideal.Hand.run_values m g, ?_⟩
  refine (θ_run Cert.Reference5Ideal.defs _ _).mono (fun r h c => ?_) (Cert.Reference5Ideal.Value.run m' g')
  obtain ⟨e0, e1⟩ := hargs c
  obtain ⟨hp, h⟩ := h c
  refine ⟨hp.trans ?_, h⟩
  · rw [e0, e1]; rfl

/-! ## The last normalization of the sample rows -/

/-- The two programs have one text: their body tables are equal. -/
theorem table_eq6 : Cert.Kernel6.defs (F := Bits) = Cert.Kernel6Ideal.defs (F := Bits) := by
  refine congrArg (Pipeline.defs Cert.Kernel6.pcfgs) ?_
  unfold Cert.Kernel6.defs₀ Cert.Kernel6Ideal.defs₀
  refine congrArg Defs.onTc ?_
  funext l a
  match l, a with
  | 0, (t, s) => rfl
  | ⟨_ + 1, h⟩, _ => exact absurd h (Nat.not_lt.2 (Nat.le_add_left _ _))

/-- The kernel's run, which is the idealized program's at any number system, read at the machine's own numbers. -/
theorem frame_kernel6 : Cert.quiescent_Kernel6 := fun m ρ _ => by
  rw [table_eq6]
  exact Cert.Kernel6Ideal.Gen.frame (F := Bits) m ρ

/-- The reference is host operations alone and has no semaphore. -/
theorem frame_reference6 : Cert.quiescent_Reference6Ideal := fun m ρ _ =>
  (θ_run Cert.Reference6Ideal.defs _ _).mono (fun r h => ⟨fun c => (h c).2, sem_eq_zero_of_no_sems (by decide) r.2⟩)
    (Cert.Reference6Ideal.Value.run m ρ)

/-- The kernel's result is the reference's. -/
theorem algebraic6 : Cert.algebraic_Kernel6Ideal_Reference6Ideal := by
  intro m g m' g' _ hargs
  refine ⟨_, Cert.Kernel6Ideal.Hand.run_values m g, ?_⟩
  refine (θ_run Cert.Reference6Ideal.defs _ _).mono (fun r h c => ?_) (Cert.Reference6Ideal.Value.run m' g')
  obtain ⟨e0, e1⟩ := hargs c
  obtain ⟨hp, h⟩ := h c
  refine ⟨hp.trans ?_, h⟩
  · rw [e0, e1]; rfl

/-! ## The recurrence on the sample rows -/

set_option maxHeartbeats 4000000 in
/-- The two programs have one text: their body tables are equal. -/
theorem table_eq7 : Cert.Kernel7.defs (F := Bits) = Cert.Kernel7Ideal.defs (F := Bits) := by
  refine congrArg (Pipeline.defs Cert.Kernel7.pcfgs) ?_
  unfold Cert.Kernel7.defs₀ Cert.Kernel7Ideal.defs₀
  refine congrArg Defs.onTc ?_
  funext l a
  match l, a with
  | 0, (t, s) => rfl
  | ⟨_ + 1, h⟩, _ => exact absurd h (Nat.not_lt.2 (Nat.le_add_left _ _))

/-- The kernel's run, which is the idealized program's at any number system, read at the machine's own numbers. -/
theorem frame_kernel7 : Cert.quiescent_Kernel7 := fun m ρ _ => by
  rw [table_eq7]
  exact Cert.Kernel7Ideal.Hand.frame (F := Bits) m ρ

/-- The reference is host operations and one loop of them, and has no semaphore. -/
theorem frame_reference7 : Cert.quiescent_Reference7Ideal := fun m ρ _ =>
  (θ_run Cert.Reference7Ideal.defs _ _).mono (fun r h => ⟨fun c => (h c).2.2.2, sem_eq_zero_of_no_sems (by decide) r.2⟩)
    (Cert.Reference7Ideal.Value.run m ρ)

/-- The kernel's three results are the reference's. -/
theorem algebraic7 : Cert.algebraic_Kernel7Ideal_Reference7Ideal := by
  intro m g m' g' _ hargs
  refine ⟨_, _, _, Cert.Kernel7Ideal.Hand.run_values m g, ?_⟩
  refine (θ_run Cert.Reference7Ideal.defs _ _).mono (fun r h c => ?_) (Cert.Reference7Ideal.Value.run m' g')
  obtain ⟨e0, e1, e2, e3, e4, e5, e6, e7, e8, e9⟩ := hargs c
  have e : Cert.Reference7Ideal.Hand.args m' c = Cert.Kernel7Ideal.Hand.args m c := by
    unfold Cert.Reference7Ideal.Hand.args
    rw [e0, e1, e2, e3, e4, e5, e6, e7, e8, e9]
    rfl
  obtain ⟨hy, hl, hc, h⟩ := h c
  exact ⟨(hy.trans (Cert.Reference7Ideal.Hand.out_rows m' c)).trans (congrArg _ e),
    (hl.trans (Cert.Reference7Ideal.Hand.out_last m' c)).trans (congrArg _ e),
    (hc.trans (Cert.Reference7Ideal.Hand.out_conv m' c)).trans (congrArg _ e), h⟩

/-! ## The recurrence on the prompt rows -/

set_option maxHeartbeats 4000000 in
/-- The two programs have one text: their body tables are equal. -/
theorem table_eq8 : Cert.Kernel8.defs (F := Bits) = Cert.Kernel8Ideal.defs (F := Bits) := by
  refine congrArg (Pipeline.defs Cert.Kernel8.pcfgs) ?_
  unfold Cert.Kernel8.defs₀ Cert.Kernel8Ideal.defs₀
  refine congrArg Defs.onTc ?_
  funext l a
  match l, a with
  | 0, (t, s) => rfl
  | ⟨_ + 1, h⟩, _ => exact absurd h (Nat.not_lt.2 (Nat.le_add_left _ _))

set_option maxHeartbeats 4000000 in
/-- The kernel's run, which is the idealized program's at any number system, read at the machine's own numbers. -/
theorem frame_kernel8 : Cert.quiescent_Kernel8 := fun m ρ _ => by
  rw [table_eq8]
  exact Cert.Kernel8Ideal.Hand.frame (F := Bits) m ρ

/-- The reference is host operations and one loop of them, and has no semaphore. -/
theorem frame_reference8 : Cert.quiescent_Reference8Ideal := fun m ρ _ =>
  (θ_run Cert.Reference8Ideal.defs _ _).mono (fun r h => ⟨fun c => (h c).2.2.2.2.2.2.2, sem_eq_zero_of_no_sems (by decide) r.2⟩)
    (Cert.Reference8Ideal.Value.run m ρ)

/-- The kernel's seven results are the reference's. -/
theorem algebraic8 : Cert.algebraic_Kernel8Ideal_Reference8Ideal := by
  intro m g m' g' _ hargs
  refine ⟨fun c => (Cert.Kernel8Ideal.Hand.args m c).y, fun c => (Cert.Kernel8Ideal.Hand.args m c).last,
    fun c => (Cert.Kernel8Ideal.Hand.args m c).conv, fun c => Cert.RecurPrompt.side (Cert.Kernel8Ideal.Hand.args m c).hp (Cert.Kernel8Ideal.Hand.args m c).w 0 (by decide),
    fun c => Cert.RecurPrompt.side (Cert.Kernel8Ideal.Hand.args m c).hs (Cert.Kernel8Ideal.Hand.args m c).w 0 (by decide),
    fun c => Cert.RecurPrompt.side (Cert.Kernel8Ideal.Hand.args m c).hp (Cert.Kernel8Ideal.Hand.args m c).w 12288 (by decide),
    fun c => Cert.RecurPrompt.side (Cert.Kernel8Ideal.Hand.args m c).hs (Cert.Kernel8Ideal.Hand.args m c).w 12288 (by decide),
    Cert.Kernel8Ideal.Hand.run_values m g, ?_⟩
  refine (θ_run Cert.Reference8Ideal.defs _ _).mono (fun r h c => ?_) (Cert.Reference8Ideal.Value.run m' g')
  obtain ⟨e0, e1, e2, e3, e4, e5, e6, e7, e8, e9, e10⟩ := hargs c
  have e : Cert.Reference8Ideal.Hand.args m' c = Cert.Kernel8Ideal.Hand.args m c := by
    unfold Cert.Reference8Ideal.Hand.args
    rw [e0, e1, e2, e3, e4, e5, e6, e7, e8, e9, e10]
    rfl
  obtain ⟨hy, hl, hc, hqp, hqs, hgp, hgs, h⟩ := h c
  exact ⟨(hy.trans (Cert.Reference8Ideal.Hand.out_rows m' c)).trans (congrArg Cert.RecurPrompt.Args.y e),
    (hl.trans (Cert.Reference8Ideal.Hand.out_last m' c)).trans (congrArg Cert.RecurPrompt.Args.last e),
    (hc.trans (Cert.Reference8Ideal.Hand.out_conv m' c)).trans (congrArg Cert.RecurPrompt.Args.conv e),
    (hqp.trans (Cert.Reference8Ideal.Hand.out_qp m' c)).trans (congrArg (fun p => Cert.RecurPrompt.side p.hp p.w 0 (by decide)) e),
    (hqs.trans (Cert.Reference8Ideal.Hand.out_qs m' c)).trans (congrArg (fun p => Cert.RecurPrompt.side p.hs p.w 0 (by decide)) e),
    (hgp.trans (Cert.Reference8Ideal.Hand.out_gp m' c)).trans (congrArg (fun p => Cert.RecurPrompt.side p.hp p.w 12288 (by decide)) e),
    (hgs.trans (Cert.Reference8Ideal.Hand.out_gs m' c)).trans (congrArg (fun p => Cert.RecurPrompt.side p.hs p.w 12288 (by decide)) e), h⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Pre_finite_gate_input.Gen.facts,
  frame_kernel,
  fun m ρ _ => Cert.KernelIdeal.Hand.frame m ρ,
  frame_reference,
  frame_kernel2,
  fun m ρ _ => Cert.Kernel2Ideal.Hand.frame m ρ,
  fun m ρ _ => Cert.Kernel2Ideal.Hand.frame m ρ,
  frame_reference2,
  fun m ρ _ => frame_reference2 m ρ trivial,
  frame_kernel3,
  fun m ρ _ => Cert.Kernel3Ideal.Hand.frame m ρ,
  frame_reference3,
  frame_kernel4,
  fun m ρ _ => Cert.Kernel4Ideal.Hand.frame m ρ,
  frame_reference4,
  frame_kernel5,
  fun m ρ _ => Cert.Kernel5Ideal.Gen.frame m ρ,
  frame_reference5,
  frame_kernel6,
  fun m ρ _ => Cert.Kernel6Ideal.Gen.frame m ρ,
  frame_reference6,
  frame_kernel7,
  fun m ρ _ => Cert.Kernel7Ideal.Hand.frame m ρ,
  frame_reference7,
  frame_kernel8,
  fun m ρ _ => Cert.Kernel8Ideal.Hand.frame m ρ,
  frame_reference8,
  trivial, algebraic, trivial, algebraic2, trivial, algebraic3, trivial, algebraic4, trivial, algebraic5, trivial, algebraic6,
  trivial, algebraic7, trivial, algebraic8⟩

end Cert.Proof

end
